-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_finite_loss [hPre_finite_loss : Cert.Pre_finite_loss.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss [hPre_finite_loss : Cert.Pre_finite_loss.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_attn [hPre_finite_attn : Cert.Pre_finite_attn.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))).1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))).2.1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))).2.2.1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))).2.2.2.1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))).2.2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).2.2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).2.2.2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).2.2.2.2 = (fun _ => 1#1)

def Pre_BqKernel (m : (ℓ : Loc Cert.BqKernel.nD Cert.BqKernel.τ Cert.BqKernel.sig) → Buf (Elt Bits) ℓ) : Prop :=
  True

def Pre_BqKernelIdeal (m : (ℓ : Loc Cert.BqKernelIdeal.nD Cert.BqKernelIdeal.τ Cert.BqKernelIdeal.sig) → Buf (Elt Ideal) ℓ) : Prop :=
  True

def Pre_BqKernelIdeal_finite_bq [hPre_finite_bq : Cert.Pre_finite_bq.Facts] (m : (ℓ : Loc Cert.BqKernelIdeal.nD Cert.BqKernelIdeal.τ Cert.BqKernelIdeal.sig) → Buf (Elt Ideal) ℓ) : Prop :=
  ∀ c : Dev Cert.BqKernelIdeal.nD,
    (Cert.Pre_finite_bq.fn (F := Ideal) (m ((c.tc : Thread Cert.BqKernelIdeal.nD Cert.BqKernelIdeal.τ).loc Cert.BqKernelIdeal.main_arg0)) (m ((c.tc : Thread Cert.BqKernelIdeal.nD Cert.BqKernelIdeal.τ).loc Cert.BqKernelIdeal.main_arg1)) (m ((c.tc : Thread Cert.BqKernelIdeal.nD Cert.BqKernelIdeal.τ).loc Cert.BqKernelIdeal.main_arg2)) (m ((c.tc : Thread Cert.BqKernelIdeal.nD Cert.BqKernelIdeal.τ).loc Cert.BqKernelIdeal.main_arg3)) (m ((c.tc : Thread Cert.BqKernelIdeal.nD Cert.BqKernelIdeal.τ).loc Cert.BqKernelIdeal.main_arg4))).1 = (fun _ => 1#1)
    ∧ (Cert.Pre_finite_bq.fn (F := Ideal) (m ((c.tc : Thread Cert.BqKernelIdeal.nD Cert.BqKernelIdeal.τ).loc Cert.BqKernelIdeal.main_arg0)) (m ((c.tc : Thread Cert.BqKernelIdeal.nD Cert.BqKernelIdeal.τ).loc Cert.BqKernelIdeal.main_arg1)) (m ((c.tc : Thread Cert.BqKernelIdeal.nD Cert.BqKernelIdeal.τ).loc Cert.BqKernelIdeal.main_arg2)) (m ((c.tc : Thread Cert.BqKernelIdeal.nD Cert.BqKernelIdeal.τ).loc Cert.BqKernelIdeal.main_arg3)) (m ((c.tc : Thread Cert.BqKernelIdeal.nD Cert.BqKernelIdeal.τ).loc Cert.BqKernelIdeal.main_arg4))).2.1 = (fun _ => 1#1)
    ∧ (Cert.Pre_finite_bq.fn (F := Ideal) (m ((c.tc : Thread Cert.BqKernelIdeal.nD Cert.BqKernelIdeal.τ).loc Cert.BqKernelIdeal.main_arg0)) (m ((c.tc : Thread Cert.BqKernelIdeal.nD Cert.BqKernelIdeal.τ).loc Cert.BqKernelIdeal.main_arg1)) (m ((c.tc : Thread Cert.BqKernelIdeal.nD Cert.BqKernelIdeal.τ).loc Cert.BqKernelIdeal.main_arg2)) (m ((c.tc : Thread Cert.BqKernelIdeal.nD Cert.BqKernelIdeal.τ).loc Cert.BqKernelIdeal.main_arg3)) (m ((c.tc : Thread Cert.BqKernelIdeal.nD Cert.BqKernelIdeal.τ).loc Cert.BqKernelIdeal.main_arg4))).2.2.1 = (fun _ => 1#1)
    ∧ (Cert.Pre_finite_bq.fn (F := Ideal) (m ((c.tc : Thread Cert.BqKernelIdeal.nD Cert.BqKernelIdeal.τ).loc Cert.BqKernelIdeal.main_arg0)) (m ((c.tc : Thread Cert.BqKernelIdeal.nD Cert.BqKernelIdeal.τ).loc Cert.BqKernelIdeal.main_arg1)) (m ((c.tc : Thread Cert.BqKernelIdeal.nD Cert.BqKernelIdeal.τ).loc Cert.BqKernelIdeal.main_arg2)) (m ((c.tc : Thread Cert.BqKernelIdeal.nD Cert.BqKernelIdeal.τ).loc Cert.BqKernelIdeal.main_arg3)) (m ((c.tc : Thread Cert.BqKernelIdeal.nD Cert.BqKernelIdeal.τ).loc Cert.BqKernelIdeal.main_arg4))).2.2.2 = (fun _ => 1#1)

def Pre_BqReferenceIdeal (m : (ℓ : Loc Cert.BqReferenceIdeal.nD Cert.BqReferenceIdeal.τ Cert.BqReferenceIdeal.sig) → Buf (Elt Ideal) ℓ) : Prop :=
  True

def Pre_BqReferenceIdeal_finite_bq [hPre_finite_bq : Cert.Pre_finite_bq.Facts] (m : (ℓ : Loc Cert.BqReferenceIdeal.nD Cert.BqReferenceIdeal.τ Cert.BqReferenceIdeal.sig) → Buf (Elt Ideal) ℓ) : Prop :=
  ∀ c : Dev Cert.BqReferenceIdeal.nD,
    (Cert.Pre_finite_bq.fn (F := Ideal) (m ((c.tc : Thread Cert.BqReferenceIdeal.nD Cert.BqReferenceIdeal.τ).loc Cert.BqReferenceIdeal.main_arg0)) (m ((c.tc : Thread Cert.BqReferenceIdeal.nD Cert.BqReferenceIdeal.τ).loc Cert.BqReferenceIdeal.main_arg1)) (m ((c.tc : Thread Cert.BqReferenceIdeal.nD Cert.BqReferenceIdeal.τ).loc Cert.BqReferenceIdeal.main_arg2)) (m ((c.tc : Thread Cert.BqReferenceIdeal.nD Cert.BqReferenceIdeal.τ).loc Cert.BqReferenceIdeal.main_arg3)) (m ((c.tc : Thread Cert.BqReferenceIdeal.nD Cert.BqReferenceIdeal.τ).loc Cert.BqReferenceIdeal.main_arg4))).1 = (fun _ => 1#1)
    ∧ (Cert.Pre_finite_bq.fn (F := Ideal) (m ((c.tc : Thread Cert.BqReferenceIdeal.nD Cert.BqReferenceIdeal.τ).loc Cert.BqReferenceIdeal.main_arg0)) (m ((c.tc : Thread Cert.BqReferenceIdeal.nD Cert.BqReferenceIdeal.τ).loc Cert.BqReferenceIdeal.main_arg1)) (m ((c.tc : Thread Cert.BqReferenceIdeal.nD Cert.BqReferenceIdeal.τ).loc Cert.BqReferenceIdeal.main_arg2)) (m ((c.tc : Thread Cert.BqReferenceIdeal.nD Cert.BqReferenceIdeal.τ).loc Cert.BqReferenceIdeal.main_arg3)) (m ((c.tc : Thread Cert.BqReferenceIdeal.nD Cert.BqReferenceIdeal.τ).loc Cert.BqReferenceIdeal.main_arg4))).2.1 = (fun _ => 1#1)
    ∧ (Cert.Pre_finite_bq.fn (F := Ideal) (m ((c.tc : Thread Cert.BqReferenceIdeal.nD Cert.BqReferenceIdeal.τ).loc Cert.BqReferenceIdeal.main_arg0)) (m ((c.tc : Thread Cert.BqReferenceIdeal.nD Cert.BqReferenceIdeal.τ).loc Cert.BqReferenceIdeal.main_arg1)) (m ((c.tc : Thread Cert.BqReferenceIdeal.nD Cert.BqReferenceIdeal.τ).loc Cert.BqReferenceIdeal.main_arg2)) (m ((c.tc : Thread Cert.BqReferenceIdeal.nD Cert.BqReferenceIdeal.τ).loc Cert.BqReferenceIdeal.main_arg3)) (m ((c.tc : Thread Cert.BqReferenceIdeal.nD Cert.BqReferenceIdeal.τ).loc Cert.BqReferenceIdeal.main_arg4))).2.2.1 = (fun _ => 1#1)
    ∧ (Cert.Pre_finite_bq.fn (F := Ideal) (m ((c.tc : Thread Cert.BqReferenceIdeal.nD Cert.BqReferenceIdeal.τ).loc Cert.BqReferenceIdeal.main_arg0)) (m ((c.tc : Thread Cert.BqReferenceIdeal.nD Cert.BqReferenceIdeal.τ).loc Cert.BqReferenceIdeal.main_arg1)) (m ((c.tc : Thread Cert.BqReferenceIdeal.nD Cert.BqReferenceIdeal.τ).loc Cert.BqReferenceIdeal.main_arg2)) (m ((c.tc : Thread Cert.BqReferenceIdeal.nD Cert.BqReferenceIdeal.τ).loc Cert.BqReferenceIdeal.main_arg3)) (m ((c.tc : Thread Cert.BqReferenceIdeal.nD Cert.BqReferenceIdeal.τ).loc Cert.BqReferenceIdeal.main_arg4))).2.2.2 = (fun _ => 1#1)

def Pre_GuKernel (m : (ℓ : Loc Cert.GuKernel.nD Cert.GuKernel.τ Cert.GuKernel.sig) → Buf (Elt Bits) ℓ) : Prop :=
  True

def Pre_GuKernelIdeal (m : (ℓ : Loc Cert.GuKernelIdeal.nD Cert.GuKernelIdeal.τ Cert.GuKernelIdeal.sig) → Buf (Elt Ideal) ℓ) : Prop :=
  True

def Pre_GuKernelIdeal_finite_gu [hPre_finite_gu : Cert.Pre_finite_gu.Facts] (m : (ℓ : Loc Cert.GuKernelIdeal.nD Cert.GuKernelIdeal.τ Cert.GuKernelIdeal.sig) → Buf (Elt Ideal) ℓ) : Prop :=
  ∀ c : Dev Cert.GuKernelIdeal.nD,
    (Cert.Pre_finite_gu.fn (F := Ideal) (m ((c.tc : Thread Cert.GuKernelIdeal.nD Cert.GuKernelIdeal.τ).loc Cert.GuKernelIdeal.main_arg0)) (m ((c.tc : Thread Cert.GuKernelIdeal.nD Cert.GuKernelIdeal.τ).loc Cert.GuKernelIdeal.main_arg1)) (m ((c.tc : Thread Cert.GuKernelIdeal.nD Cert.GuKernelIdeal.τ).loc Cert.GuKernelIdeal.main_arg2)) (m ((c.tc : Thread Cert.GuKernelIdeal.nD Cert.GuKernelIdeal.τ).loc Cert.GuKernelIdeal.main_arg3)) (m ((c.tc : Thread Cert.GuKernelIdeal.nD Cert.GuKernelIdeal.τ).loc Cert.GuKernelIdeal.main_arg4))).1 = (fun _ => 1#1)
    ∧ (Cert.Pre_finite_gu.fn (F := Ideal) (m ((c.tc : Thread Cert.GuKernelIdeal.nD Cert.GuKernelIdeal.τ).loc Cert.GuKernelIdeal.main_arg0)) (m ((c.tc : Thread Cert.GuKernelIdeal.nD Cert.GuKernelIdeal.τ).loc Cert.GuKernelIdeal.main_arg1)) (m ((c.tc : Thread Cert.GuKernelIdeal.nD Cert.GuKernelIdeal.τ).loc Cert.GuKernelIdeal.main_arg2)) (m ((c.tc : Thread Cert.GuKernelIdeal.nD Cert.GuKernelIdeal.τ).loc Cert.GuKernelIdeal.main_arg3)) (m ((c.tc : Thread Cert.GuKernelIdeal.nD Cert.GuKernelIdeal.τ).loc Cert.GuKernelIdeal.main_arg4))).2.1 = (fun _ => 1#1)
    ∧ (Cert.Pre_finite_gu.fn (F := Ideal) (m ((c.tc : Thread Cert.GuKernelIdeal.nD Cert.GuKernelIdeal.τ).loc Cert.GuKernelIdeal.main_arg0)) (m ((c.tc : Thread Cert.GuKernelIdeal.nD Cert.GuKernelIdeal.τ).loc Cert.GuKernelIdeal.main_arg1)) (m ((c.tc : Thread Cert.GuKernelIdeal.nD Cert.GuKernelIdeal.τ).loc Cert.GuKernelIdeal.main_arg2)) (m ((c.tc : Thread Cert.GuKernelIdeal.nD Cert.GuKernelIdeal.τ).loc Cert.GuKernelIdeal.main_arg3)) (m ((c.tc : Thread Cert.GuKernelIdeal.nD Cert.GuKernelIdeal.τ).loc Cert.GuKernelIdeal.main_arg4))).2.2.1 = (fun _ => 1#1)
    ∧ (Cert.Pre_finite_gu.fn (F := Ideal) (m ((c.tc : Thread Cert.GuKernelIdeal.nD Cert.GuKernelIdeal.τ).loc Cert.GuKernelIdeal.main_arg0)) (m ((c.tc : Thread Cert.GuKernelIdeal.nD Cert.GuKernelIdeal.τ).loc Cert.GuKernelIdeal.main_arg1)) (m ((c.tc : Thread Cert.GuKernelIdeal.nD Cert.GuKernelIdeal.τ).loc Cert.GuKernelIdeal.main_arg2)) (m ((c.tc : Thread Cert.GuKernelIdeal.nD Cert.GuKernelIdeal.τ).loc Cert.GuKernelIdeal.main_arg3)) (m ((c.tc : Thread Cert.GuKernelIdeal.nD Cert.GuKernelIdeal.τ).loc Cert.GuKernelIdeal.main_arg4))).2.2.2 = (fun _ => 1#1)

def Pre_GuReferenceIdeal (m : (ℓ : Loc Cert.GuReferenceIdeal.nD Cert.GuReferenceIdeal.τ Cert.GuReferenceIdeal.sig) → Buf (Elt Ideal) ℓ) : Prop :=
  True

def Pre_GuReferenceIdeal_finite_gu [hPre_finite_gu : Cert.Pre_finite_gu.Facts] (m : (ℓ : Loc Cert.GuReferenceIdeal.nD Cert.GuReferenceIdeal.τ Cert.GuReferenceIdeal.sig) → Buf (Elt Ideal) ℓ) : Prop :=
  ∀ c : Dev Cert.GuReferenceIdeal.nD,
    (Cert.Pre_finite_gu.fn (F := Ideal) (m ((c.tc : Thread Cert.GuReferenceIdeal.nD Cert.GuReferenceIdeal.τ).loc Cert.GuReferenceIdeal.main_arg0)) (m ((c.tc : Thread Cert.GuReferenceIdeal.nD Cert.GuReferenceIdeal.τ).loc Cert.GuReferenceIdeal.main_arg1)) (m ((c.tc : Thread Cert.GuReferenceIdeal.nD Cert.GuReferenceIdeal.τ).loc Cert.GuReferenceIdeal.main_arg2)) (m ((c.tc : Thread Cert.GuReferenceIdeal.nD Cert.GuReferenceIdeal.τ).loc Cert.GuReferenceIdeal.main_arg3)) (m ((c.tc : Thread Cert.GuReferenceIdeal.nD Cert.GuReferenceIdeal.τ).loc Cert.GuReferenceIdeal.main_arg4))).1 = (fun _ => 1#1)
    ∧ (Cert.Pre_finite_gu.fn (F := Ideal) (m ((c.tc : Thread Cert.GuReferenceIdeal.nD Cert.GuReferenceIdeal.τ).loc Cert.GuReferenceIdeal.main_arg0)) (m ((c.tc : Thread Cert.GuReferenceIdeal.nD Cert.GuReferenceIdeal.τ).loc Cert.GuReferenceIdeal.main_arg1)) (m ((c.tc : Thread Cert.GuReferenceIdeal.nD Cert.GuReferenceIdeal.τ).loc Cert.GuReferenceIdeal.main_arg2)) (m ((c.tc : Thread Cert.GuReferenceIdeal.nD Cert.GuReferenceIdeal.τ).loc Cert.GuReferenceIdeal.main_arg3)) (m ((c.tc : Thread Cert.GuReferenceIdeal.nD Cert.GuReferenceIdeal.τ).loc Cert.GuReferenceIdeal.main_arg4))).2.1 = (fun _ => 1#1)
    ∧ (Cert.Pre_finite_gu.fn (F := Ideal) (m ((c.tc : Thread Cert.GuReferenceIdeal.nD Cert.GuReferenceIdeal.τ).loc Cert.GuReferenceIdeal.main_arg0)) (m ((c.tc : Thread Cert.GuReferenceIdeal.nD Cert.GuReferenceIdeal.τ).loc Cert.GuReferenceIdeal.main_arg1)) (m ((c.tc : Thread Cert.GuReferenceIdeal.nD Cert.GuReferenceIdeal.τ).loc Cert.GuReferenceIdeal.main_arg2)) (m ((c.tc : Thread Cert.GuReferenceIdeal.nD Cert.GuReferenceIdeal.τ).loc Cert.GuReferenceIdeal.main_arg3)) (m ((c.tc : Thread Cert.GuReferenceIdeal.nD Cert.GuReferenceIdeal.τ).loc Cert.GuReferenceIdeal.main_arg4))).2.2.1 = (fun _ => 1#1)
    ∧ (Cert.Pre_finite_gu.fn (F := Ideal) (m ((c.tc : Thread Cert.GuReferenceIdeal.nD Cert.GuReferenceIdeal.τ).loc Cert.GuReferenceIdeal.main_arg0)) (m ((c.tc : Thread Cert.GuReferenceIdeal.nD Cert.GuReferenceIdeal.τ).loc Cert.GuReferenceIdeal.main_arg1)) (m ((c.tc : Thread Cert.GuReferenceIdeal.nD Cert.GuReferenceIdeal.τ).loc Cert.GuReferenceIdeal.main_arg2)) (m ((c.tc : Thread Cert.GuReferenceIdeal.nD Cert.GuReferenceIdeal.τ).loc Cert.GuReferenceIdeal.main_arg3)) (m ((c.tc : Thread Cert.GuReferenceIdeal.nD Cert.GuReferenceIdeal.τ).loc Cert.GuReferenceIdeal.main_arg4))).2.2.2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).2.2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).2.2.2 = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdKernelIdeal_finite_fwd [hPre_finite_fwd : Cert.Pre_finite_fwd.Facts] (m : (ℓ : Loc Cert.FwdKernelIdeal.nD Cert.FwdKernelIdeal.τ Cert.FwdKernelIdeal.sig) → Buf (Elt Ideal) ℓ) : Prop :=
  ∀ c : Dev Cert.FwdKernelIdeal.nD,
    (Cert.Pre_finite_fwd.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3))).1 = (fun _ => 1#1)
    ∧ (Cert.Pre_finite_fwd.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3))).2.1 = (fun _ => 1#1)
    ∧ (Cert.Pre_finite_fwd.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3))).2.2 = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite_fwd [hPre_finite_fwd : Cert.Pre_finite_fwd.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3))).1 = (fun _ => 1#1)
    ∧ (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3))).2.1 = (fun _ => 1#1)
    ∧ (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3))).2.2 = (fun _ => 1#1)

def Pre_BiasKernel (m : (ℓ : Loc Cert.BiasKernel.nD Cert.BiasKernel.τ Cert.BiasKernel.sig) → Buf (Elt Bits) ℓ) : Prop :=
  True

def Pre_BiasKernelIdeal (m : (ℓ : Loc Cert.BiasKernelIdeal.nD Cert.BiasKernelIdeal.τ Cert.BiasKernelIdeal.sig) → Buf (Elt Ideal) ℓ) : Prop :=
  True

def Pre_BiasKernelIdeal_finite_bias [hPre_finite_bias : Cert.Pre_finite_bias.Facts] (m : (ℓ : Loc Cert.BiasKernelIdeal.nD Cert.BiasKernelIdeal.τ Cert.BiasKernelIdeal.sig) → Buf (Elt Ideal) ℓ) : Prop :=
  ∀ c : Dev Cert.BiasKernelIdeal.nD,
    (Cert.Pre_finite_bias.fn (F := Ideal) (m ((c.tc : Thread Cert.BiasKernelIdeal.nD Cert.BiasKernelIdeal.τ).loc Cert.BiasKernelIdeal.main_arg0)) (m ((c.tc : Thread Cert.BiasKernelIdeal.nD Cert.BiasKernelIdeal.τ).loc Cert.BiasKernelIdeal.main_arg1))) = (fun _ => 1#1)

def Pre_BiasReferenceIdeal (m : (ℓ : Loc Cert.BiasReferenceIdeal.nD Cert.BiasReferenceIdeal.τ Cert.BiasReferenceIdeal.sig) → Buf (Elt Ideal) ℓ) : Prop :=
  True

def Pre_BiasReferenceIdeal_finite_bias [hPre_finite_bias : Cert.Pre_finite_bias.Facts] (m : (ℓ : Loc Cert.BiasReferenceIdeal.nD Cert.BiasReferenceIdeal.τ Cert.BiasReferenceIdeal.sig) → Buf (Elt Ideal) ℓ) : Prop :=
  ∀ c : Dev Cert.BiasReferenceIdeal.nD,
    (Cert.Pre_finite_bias.fn (F := Ideal) (m ((c.tc : Thread Cert.BiasReferenceIdeal.nD Cert.BiasReferenceIdeal.τ).loc Cert.BiasReferenceIdeal.main_arg0)) (m ((c.tc : Thread Cert.BiasReferenceIdeal.nD Cert.BiasReferenceIdeal.τ).loc Cert.BiasReferenceIdeal.main_arg1))) = (fun _ => 1#1)

def Pre_SguKernel (m : (ℓ : Loc Cert.SguKernel.nD Cert.SguKernel.τ Cert.SguKernel.sig) → Buf (Elt Bits) ℓ) : Prop :=
  True

def Pre_SguKernelIdeal (m : (ℓ : Loc Cert.SguKernelIdeal.nD Cert.SguKernelIdeal.τ Cert.SguKernelIdeal.sig) → Buf (Elt Ideal) ℓ) : Prop :=
  True

def Pre_SguKernelIdeal_finite_sgu [hPre_finite_sgu : Cert.Pre_finite_sgu.Facts] (m : (ℓ : Loc Cert.SguKernelIdeal.nD Cert.SguKernelIdeal.τ Cert.SguKernelIdeal.sig) → Buf (Elt Ideal) ℓ) : Prop :=
  ∀ c : Dev Cert.SguKernelIdeal.nD,
    (Cert.Pre_finite_sgu.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4))).1 = (fun _ => 1#1)
    ∧ (Cert.Pre_finite_sgu.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4))).2.1 = (fun _ => 1#1)
    ∧ (Cert.Pre_finite_sgu.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4))).2.2.1 = (fun _ => 1#1)
    ∧ (Cert.Pre_finite_sgu.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4))).2.2.2.1 = (fun _ => 1#1)
    ∧ (Cert.Pre_finite_sgu.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4))).2.2.2.2 = (fun _ => 1#1)

def Pre_SguReferenceIdeal (m : (ℓ : Loc Cert.SguReferenceIdeal.nD Cert.SguReferenceIdeal.τ Cert.SguReferenceIdeal.sig) → Buf (Elt Ideal) ℓ) : Prop :=
  True

def Pre_SguReferenceIdeal_finite_sgu [hPre_finite_sgu : Cert.Pre_finite_sgu.Facts] (m : (ℓ : Loc Cert.SguReferenceIdeal.nD Cert.SguReferenceIdeal.τ Cert.SguReferenceIdeal.sig) → Buf (Elt Ideal) ℓ) : Prop :=
  ∀ c : Dev Cert.SguReferenceIdeal.nD,
    (Cert.Pre_finite_sgu.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4))).1 = (fun _ => 1#1)
    ∧ (Cert.Pre_finite_sgu.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4))).2.1 = (fun _ => 1#1)
    ∧ (Cert.Pre_finite_sgu.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4))).2.2.1 = (fun _ => 1#1)
    ∧ (Cert.Pre_finite_sgu.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4))).2.2.2.1 = (fun _ => 1#1)
    ∧ (Cert.Pre_finite_sgu.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4))).2.2.2.2 = (fun _ => 1#1)

def Pre_RmsKernel (m : (ℓ : Loc Cert.RmsKernel.nD Cert.RmsKernel.τ Cert.RmsKernel.sig) → Buf (Elt Bits) ℓ) : Prop :=
  True

def Pre_RmsKernelIdeal (m : (ℓ : Loc Cert.RmsKernelIdeal.nD Cert.RmsKernelIdeal.τ Cert.RmsKernelIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def Pre_BuildKernel (m : (ℓ : Loc Cert.BuildKernel.nD Cert.BuildKernel.τ Cert.BuildKernel.sig) → Buf (Elt Bits) ℓ) : Prop :=
  True

def Pre_BuildKernelIdeal (m : (ℓ : Loc Cert.BuildKernelIdeal.nD Cert.BuildKernelIdeal.τ Cert.BuildKernelIdeal.sig) → Buf (Elt Ideal) ℓ) : Prop :=
  True

def Pre_BuildKernelIdeal_finite_build [hPre_finite_build : Cert.Pre_finite_build.Facts] (m : (ℓ : Loc Cert.BuildKernelIdeal.nD Cert.BuildKernelIdeal.τ Cert.BuildKernelIdeal.sig) → Buf (Elt Ideal) ℓ) : Prop :=
  ∀ c : Dev Cert.BuildKernelIdeal.nD,
    (Cert.Pre_finite_build.fn (F := Ideal) (m ((c.tc : Thread Cert.BuildKernelIdeal.nD Cert.BuildKernelIdeal.τ).loc Cert.BuildKernelIdeal.main_arg0))) = (fun _ => 1#1)

def Pre_BuildReferenceIdeal (m : (ℓ : Loc Cert.BuildReferenceIdeal.nD Cert.BuildReferenceIdeal.τ Cert.BuildReferenceIdeal.sig) → Buf (Elt Ideal) ℓ) : Prop :=
  True

def Pre_BuildReferenceIdeal_finite_build [hPre_finite_build : Cert.Pre_finite_build.Facts] (m : (ℓ : Loc Cert.BuildReferenceIdeal.nD Cert.BuildReferenceIdeal.τ Cert.BuildReferenceIdeal.sig) → Buf (Elt Ideal) ℓ) : Prop :=
  ∀ c : Dev Cert.BuildReferenceIdeal.nD,
    (Cert.Pre_finite_build.fn (F := Ideal) (m ((c.tc : Thread Cert.BuildReferenceIdeal.nD Cert.BuildReferenceIdeal.τ).loc Cert.BuildReferenceIdeal.main_arg0))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_ColKernel (m : (ℓ : Loc Cert.ColKernel.nD Cert.ColKernel.τ Cert.ColKernel.sig) → Buf (Elt Bits) ℓ) : Prop :=
  True

def Pre_ColKernelIdeal (m : (ℓ : Loc Cert.ColKernelIdeal.nD Cert.ColKernelIdeal.τ Cert.ColKernelIdeal.sig) → Buf (Elt Ideal) ℓ) : Prop :=
  True

def Pre_ColReferenceIdeal (m : (ℓ : Loc Cert.ColReferenceIdeal.nD Cert.ColReferenceIdeal.τ Cert.ColReferenceIdeal.sig) → Buf (Elt Ideal) ℓ) : Prop :=
  True

def Pre_TnatKernel (m : (ℓ : Loc Cert.TnatKernel.nD Cert.TnatKernel.τ Cert.TnatKernel.sig) → Buf (Elt Bits) ℓ) : Prop :=
  True

def Pre_TnatKernelIdeal (m : (ℓ : Loc Cert.TnatKernelIdeal.nD Cert.TnatKernelIdeal.τ Cert.TnatKernelIdeal.sig) → Buf (Elt Ideal) ℓ) : Prop :=
  True

def Pre_TnatReferenceIdeal (m : (ℓ : Loc Cert.TnatReferenceIdeal.nD Cert.TnatReferenceIdeal.τ Cert.TnatReferenceIdeal.sig) → Buf (Elt Ideal) ℓ) : Prop :=
  True

def Pre_DwcolKernel (m : (ℓ : Loc Cert.DwcolKernel.nD Cert.DwcolKernel.τ Cert.DwcolKernel.sig) → Buf (Elt Bits) ℓ) : Prop :=
  True

def Pre_DwcolKernelIdeal (m : (ℓ : Loc Cert.DwcolKernelIdeal.nD Cert.DwcolKernelIdeal.τ Cert.DwcolKernelIdeal.sig) → Buf (Elt Ideal) ℓ) : Prop :=
  True

def Pre_DwcolReferenceIdeal (m : (ℓ : Loc Cert.DwcolReferenceIdeal.nD Cert.DwcolReferenceIdeal.τ Cert.DwcolReferenceIdeal.sig) → Buf (Elt Ideal) ℓ) : Prop :=
  True

def Pre_OsumKernel (m : (ℓ : Loc Cert.OsumKernel.nD Cert.OsumKernel.τ Cert.OsumKernel.sig) → Buf (Elt Bits) ℓ) : Prop :=
  True

def Pre_OsumKernelIdeal (m : (ℓ : Loc Cert.OsumKernelIdeal.nD Cert.OsumKernelIdeal.τ Cert.OsumKernelIdeal.sig) → Buf (Elt Ideal) ℓ) : Prop :=
  True

def Pre_OsumReferenceIdeal (m : (ℓ : Loc Cert.OsumReferenceIdeal.nD Cert.OsumReferenceIdeal.τ Cert.OsumReferenceIdeal.sig) → Buf (Elt Ideal) ℓ) : Prop :=
  True

def Pre_DwnatKernel (m : (ℓ : Loc Cert.DwnatKernel.nD Cert.DwnatKernel.τ Cert.DwnatKernel.sig) → Buf (Elt Bits) ℓ) : Prop :=
  True

def Pre_DwnatKernelIdeal (m : (ℓ : Loc Cert.DwnatKernelIdeal.nD Cert.DwnatKernelIdeal.τ Cert.DwnatKernelIdeal.sig) → Buf (Elt Ideal) ℓ) : Prop :=
  True

def Pre_DwnatReferenceIdeal (m : (ℓ : Loc Cert.DwnatReferenceIdeal.nD Cert.DwnatReferenceIdeal.τ Cert.DwnatReferenceIdeal.sig) → Buf (Elt Ideal) ℓ) : Prop :=
  True

def Pre_DwdownKernel (m : (ℓ : Loc Cert.DwdownKernel.nD Cert.DwdownKernel.τ Cert.DwdownKernel.sig) → Buf (Elt Bits) ℓ) : Prop :=
  True

def Pre_DwdownKernelIdeal (m : (ℓ : Loc Cert.DwdownKernelIdeal.nD Cert.DwdownKernelIdeal.τ Cert.DwdownKernelIdeal.sig) → Buf (Elt Ideal) ℓ) : Prop :=
  True

def Pre_DwdownReferenceIdeal (m : (ℓ : Loc Cert.DwdownReferenceIdeal.nD Cert.DwdownReferenceIdeal.τ Cert.DwdownReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_finite_loss [hLossKernelIdeal : Cert.LossKernelIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_finite_loss m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_finite_loss [hLossReferenceIdeal : Cert.LossReferenceIdeal.Facts] [hPre_finite_loss : Cert.Pre_finite_loss.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnKernelIdeal_pre_finite_attn [hAttnKernelIdeal : Cert.AttnKernelIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_attn m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_BqKernel [hBqKernel : Cert.BqKernel.Facts] : Prop :=
  ∀ (m : (ℓ : Loc Cert.BqKernel.nD Cert.BqKernel.τ Cert.BqKernel.sig) → Buf (Elt Bits) ℓ) (g : Dev Cert.BqKernel.nD → PrngReg), Pre_BqKernel m →
    θ_run (Cert.BqKernel.defs (F := Bits)) (onTc (τ := Cert.BqKernel.τ) (Cert.BqKernel.main (F := Bits))) ⟨m, fun _ => 0, g⟩ (fun r => (∀ c : Dev Cert.BqKernel.nD,
      r.2.mem ((c.tc : Thread Cert.BqKernel.nD Cert.BqKernel.τ).loc Cert.BqKernel.main_arg0) = m ((c.tc : Thread Cert.BqKernel.nD Cert.BqKernel.τ).loc Cert.BqKernel.main_arg0)
      ∧ r.2.mem ((c.tc : Thread Cert.BqKernel.nD Cert.BqKernel.τ).loc Cert.BqKernel.main_arg1) = m ((c.tc : Thread Cert.BqKernel.nD Cert.BqKernel.τ).loc Cert.BqKernel.main_arg1)
      ∧ r.2.mem ((c.tc : Thread Cert.BqKernel.nD Cert.BqKernel.τ).loc Cert.BqKernel.main_arg2) = m ((c.tc : Thread Cert.BqKernel.nD Cert.BqKernel.τ).loc Cert.BqKernel.main_arg2)
      ∧ r.2.mem ((c.tc : Thread Cert.BqKernel.nD Cert.BqKernel.τ).loc Cert.BqKernel.main_arg3) = m ((c.tc : Thread Cert.BqKernel.nD Cert.BqKernel.τ).loc Cert.BqKernel.main_arg3)
      ∧ r.2.mem ((c.tc : Thread Cert.BqKernel.nD Cert.BqKernel.τ).loc Cert.BqKernel.main_arg4) = m ((c.tc : Thread Cert.BqKernel.nD Cert.BqKernel.τ).loc Cert.BqKernel.main_arg4))
      ∧ r.2.sem = fun _ => 0)

def quiescent_BqKernelIdeal [hBqKernelIdeal : Cert.BqKernelIdeal.Facts] : Prop :=
  ∀ (m : (ℓ : Loc Cert.BqKernelIdeal.nD Cert.BqKernelIdeal.τ Cert.BqKernelIdeal.sig) → Buf (Elt Ideal) ℓ) (g : Dev Cert.BqKernelIdeal.nD → PrngReg), Pre_BqKernelIdeal m →
    θ_run (Cert.BqKernelIdeal.defs (F := Ideal)) (onTc (τ := Cert.BqKernelIdeal.τ) (Cert.BqKernelIdeal.main (F := Ideal))) ⟨m, fun _ => 0, g⟩ (fun r => (∀ c : Dev Cert.BqKernelIdeal.nD,
      r.2.mem ((c.tc : Thread Cert.BqKernelIdeal.nD Cert.BqKernelIdeal.τ).loc Cert.BqKernelIdeal.main_arg0) = m ((c.tc : Thread Cert.BqKernelIdeal.nD Cert.BqKernelIdeal.τ).loc Cert.BqKernelIdeal.main_arg0)
      ∧ r.2.mem ((c.tc : Thread Cert.BqKernelIdeal.nD Cert.BqKernelIdeal.τ).loc Cert.BqKernelIdeal.main_arg1) = m ((c.tc : Thread Cert.BqKernelIdeal.nD Cert.BqKernelIdeal.τ).loc Cert.BqKernelIdeal.main_arg1)
      ∧ r.2.mem ((c.tc : Thread Cert.BqKernelIdeal.nD Cert.BqKernelIdeal.τ).loc Cert.BqKernelIdeal.main_arg2) = m ((c.tc : Thread Cert.BqKernelIdeal.nD Cert.BqKernelIdeal.τ).loc Cert.BqKernelIdeal.main_arg2)
      ∧ r.2.mem ((c.tc : Thread Cert.BqKernelIdeal.nD Cert.BqKernelIdeal.τ).loc Cert.BqKernelIdeal.main_arg3) = m ((c.tc : Thread Cert.BqKernelIdeal.nD Cert.BqKernelIdeal.τ).loc Cert.BqKernelIdeal.main_arg3)
      ∧ r.2.mem ((c.tc : Thread Cert.BqKernelIdeal.nD Cert.BqKernelIdeal.τ).loc Cert.BqKernelIdeal.main_arg4) = m ((c.tc : Thread Cert.BqKernelIdeal.nD Cert.BqKernelIdeal.τ).loc Cert.BqKernelIdeal.main_arg4))
      ∧ r.2.sem = fun _ => 0)

def quiescent_BqKernelIdeal_pre_finite_bq [hBqKernelIdeal : Cert.BqKernelIdeal.Facts] [hPre_finite_bq : Cert.Pre_finite_bq.Facts] : Prop :=
  ∀ (m : (ℓ : Loc Cert.BqKernelIdeal.nD Cert.BqKernelIdeal.τ Cert.BqKernelIdeal.sig) → Buf (Elt Ideal) ℓ) (g : Dev Cert.BqKernelIdeal.nD → PrngReg), Pre_BqKernelIdeal_finite_bq m →
    θ_run (Cert.BqKernelIdeal.defs (F := Ideal)) (onTc (τ := Cert.BqKernelIdeal.τ) (Cert.BqKernelIdeal.main (F := Ideal))) ⟨m, fun _ => 0, g⟩ (fun r => (∀ c : Dev Cert.BqKernelIdeal.nD,
      r.2.mem ((c.tc : Thread Cert.BqKernelIdeal.nD Cert.BqKernelIdeal.τ).loc Cert.BqKernelIdeal.main_arg0) = m ((c.tc : Thread Cert.BqKernelIdeal.nD Cert.BqKernelIdeal.τ).loc Cert.BqKernelIdeal.main_arg0)
      ∧ r.2.mem ((c.tc : Thread Cert.BqKernelIdeal.nD Cert.BqKernelIdeal.τ).loc Cert.BqKernelIdeal.main_arg1) = m ((c.tc : Thread Cert.BqKernelIdeal.nD Cert.BqKernelIdeal.τ).loc Cert.BqKernelIdeal.main_arg1)
      ∧ r.2.mem ((c.tc : Thread Cert.BqKernelIdeal.nD Cert.BqKernelIdeal.τ).loc Cert.BqKernelIdeal.main_arg2) = m ((c.tc : Thread Cert.BqKernelIdeal.nD Cert.BqKernelIdeal.τ).loc Cert.BqKernelIdeal.main_arg2)
      ∧ r.2.mem ((c.tc : Thread Cert.BqKernelIdeal.nD Cert.BqKernelIdeal.τ).loc Cert.BqKernelIdeal.main_arg3) = m ((c.tc : Thread Cert.BqKernelIdeal.nD Cert.BqKernelIdeal.τ).loc Cert.BqKernelIdeal.main_arg3)
      ∧ r.2.mem ((c.tc : Thread Cert.BqKernelIdeal.nD Cert.BqKernelIdeal.τ).loc Cert.BqKernelIdeal.main_arg4) = m ((c.tc : Thread Cert.BqKernelIdeal.nD Cert.BqKernelIdeal.τ).loc Cert.BqKernelIdeal.main_arg4))
      ∧ r.2.sem = fun _ => 0)

def quiescent_BqReferenceIdeal [hBqReferenceIdeal : Cert.BqReferenceIdeal.Facts] : Prop :=
  ∀ (m : (ℓ : Loc Cert.BqReferenceIdeal.nD Cert.BqReferenceIdeal.τ Cert.BqReferenceIdeal.sig) → Buf (Elt Ideal) ℓ) (g : Dev Cert.BqReferenceIdeal.nD → PrngReg), Pre_BqReferenceIdeal m →
    θ_run (Cert.BqReferenceIdeal.defs (F := Ideal)) (onTc (τ := Cert.BqReferenceIdeal.τ) (Cert.BqReferenceIdeal.main (F := Ideal))) ⟨m, fun _ => 0, g⟩ (fun r => (∀ c : Dev Cert.BqReferenceIdeal.nD,
      r.2.mem ((c.tc : Thread Cert.BqReferenceIdeal.nD Cert.BqReferenceIdeal.τ).loc Cert.BqReferenceIdeal.main_arg0) = m ((c.tc : Thread Cert.BqReferenceIdeal.nD Cert.BqReferenceIdeal.τ).loc Cert.BqReferenceIdeal.main_arg0)
      ∧ r.2.mem ((c.tc : Thread Cert.BqReferenceIdeal.nD Cert.BqReferenceIdeal.τ).loc Cert.BqReferenceIdeal.main_arg1) = m ((c.tc : Thread Cert.BqReferenceIdeal.nD Cert.BqReferenceIdeal.τ).loc Cert.BqReferenceIdeal.main_arg1)
      ∧ r.2.mem ((c.tc : Thread Cert.BqReferenceIdeal.nD Cert.BqReferenceIdeal.τ).loc Cert.BqReferenceIdeal.main_arg2) = m ((c.tc : Thread Cert.BqReferenceIdeal.nD Cert.BqReferenceIdeal.τ).loc Cert.BqReferenceIdeal.main_arg2)
      ∧ r.2.mem ((c.tc : Thread Cert.BqReferenceIdeal.nD Cert.BqReferenceIdeal.τ).loc Cert.BqReferenceIdeal.main_arg3) = m ((c.tc : Thread Cert.BqReferenceIdeal.nD Cert.BqReferenceIdeal.τ).loc Cert.BqReferenceIdeal.main_arg3)
      ∧ r.2.mem ((c.tc : Thread Cert.BqReferenceIdeal.nD Cert.BqReferenceIdeal.τ).loc Cert.BqReferenceIdeal.main_arg4) = m ((c.tc : Thread Cert.BqReferenceIdeal.nD Cert.BqReferenceIdeal.τ).loc Cert.BqReferenceIdeal.main_arg4))
      ∧ r.2.sem = fun _ => 0)

def quiescent_BqReferenceIdeal_pre_finite_bq [hBqReferenceIdeal : Cert.BqReferenceIdeal.Facts] [hPre_finite_bq : Cert.Pre_finite_bq.Facts] : Prop :=
  ∀ (m : (ℓ : Loc Cert.BqReferenceIdeal.nD Cert.BqReferenceIdeal.τ Cert.BqReferenceIdeal.sig) → Buf (Elt Ideal) ℓ) (g : Dev Cert.BqReferenceIdeal.nD → PrngReg), Pre_BqReferenceIdeal_finite_bq m →
    θ_run (Cert.BqReferenceIdeal.defs (F := Ideal)) (onTc (τ := Cert.BqReferenceIdeal.τ) (Cert.BqReferenceIdeal.main (F := Ideal))) ⟨m, fun _ => 0, g⟩ (fun r => (∀ c : Dev Cert.BqReferenceIdeal.nD,
      r.2.mem ((c.tc : Thread Cert.BqReferenceIdeal.nD Cert.BqReferenceIdeal.τ).loc Cert.BqReferenceIdeal.main_arg0) = m ((c.tc : Thread Cert.BqReferenceIdeal.nD Cert.BqReferenceIdeal.τ).loc Cert.BqReferenceIdeal.main_arg0)
      ∧ r.2.mem ((c.tc : Thread Cert.BqReferenceIdeal.nD Cert.BqReferenceIdeal.τ).loc Cert.BqReferenceIdeal.main_arg1) = m ((c.tc : Thread Cert.BqReferenceIdeal.nD Cert.BqReferenceIdeal.τ).loc Cert.BqReferenceIdeal.main_arg1)
      ∧ r.2.mem ((c.tc : Thread Cert.BqReferenceIdeal.nD Cert.BqReferenceIdeal.τ).loc Cert.BqReferenceIdeal.main_arg2) = m ((c.tc : Thread Cert.BqReferenceIdeal.nD Cert.BqReferenceIdeal.τ).loc Cert.BqReferenceIdeal.main_arg2)
      ∧ r.2.mem ((c.tc : Thread Cert.BqReferenceIdeal.nD Cert.BqReferenceIdeal.τ).loc Cert.BqReferenceIdeal.main_arg3) = m ((c.tc : Thread Cert.BqReferenceIdeal.nD Cert.BqReferenceIdeal.τ).loc Cert.BqReferenceIdeal.main_arg3)
      ∧ r.2.mem ((c.tc : Thread Cert.BqReferenceIdeal.nD Cert.BqReferenceIdeal.τ).loc Cert.BqReferenceIdeal.main_arg4) = m ((c.tc : Thread Cert.BqReferenceIdeal.nD Cert.BqReferenceIdeal.τ).loc Cert.BqReferenceIdeal.main_arg4))
      ∧ r.2.sem = fun _ => 0)

def quiescent_GuKernel [hGuKernel : Cert.GuKernel.Facts] : Prop :=
  ∀ (m : (ℓ : Loc Cert.GuKernel.nD Cert.GuKernel.τ Cert.GuKernel.sig) → Buf (Elt Bits) ℓ) (g : Dev Cert.GuKernel.nD → PrngReg), Pre_GuKernel m →
    θ_run (Cert.GuKernel.defs (F := Bits)) (onTc (τ := Cert.GuKernel.τ) (Cert.GuKernel.main (F := Bits))) ⟨m, fun _ => 0, g⟩ (fun r => (∀ c : Dev Cert.GuKernel.nD,
      r.2.mem ((c.tc : Thread Cert.GuKernel.nD Cert.GuKernel.τ).loc Cert.GuKernel.main_arg0) = m ((c.tc : Thread Cert.GuKernel.nD Cert.GuKernel.τ).loc Cert.GuKernel.main_arg0)
      ∧ r.2.mem ((c.tc : Thread Cert.GuKernel.nD Cert.GuKernel.τ).loc Cert.GuKernel.main_arg1) = m ((c.tc : Thread Cert.GuKernel.nD Cert.GuKernel.τ).loc Cert.GuKernel.main_arg1)
      ∧ r.2.mem ((c.tc : Thread Cert.GuKernel.nD Cert.GuKernel.τ).loc Cert.GuKernel.main_arg2) = m ((c.tc : Thread Cert.GuKernel.nD Cert.GuKernel.τ).loc Cert.GuKernel.main_arg2)
      ∧ r.2.mem ((c.tc : Thread Cert.GuKernel.nD Cert.GuKernel.τ).loc Cert.GuKernel.main_arg3) = m ((c.tc : Thread Cert.GuKernel.nD Cert.GuKernel.τ).loc Cert.GuKernel.main_arg3)
      ∧ r.2.mem ((c.tc : Thread Cert.GuKernel.nD Cert.GuKernel.τ).loc Cert.GuKernel.main_arg4) = m ((c.tc : Thread Cert.GuKernel.nD Cert.GuKernel.τ).loc Cert.GuKernel.main_arg4))
      ∧ r.2.sem = fun _ => 0)

def quiescent_GuKernelIdeal [hGuKernelIdeal : Cert.GuKernelIdeal.Facts] : Prop :=
  ∀ (m : (ℓ : Loc Cert.GuKernelIdeal.nD Cert.GuKernelIdeal.τ Cert.GuKernelIdeal.sig) → Buf (Elt Ideal) ℓ) (g : Dev Cert.GuKernelIdeal.nD → PrngReg), Pre_GuKernelIdeal m →
    θ_run (Cert.GuKernelIdeal.defs (F := Ideal)) (onTc (τ := Cert.GuKernelIdeal.τ) (Cert.GuKernelIdeal.main (F := Ideal))) ⟨m, fun _ => 0, g⟩ (fun r => (∀ c : Dev Cert.GuKernelIdeal.nD,
      r.2.mem ((c.tc : Thread Cert.GuKernelIdeal.nD Cert.GuKernelIdeal.τ).loc Cert.GuKernelIdeal.main_arg0) = m ((c.tc : Thread Cert.GuKernelIdeal.nD Cert.GuKernelIdeal.τ).loc Cert.GuKernelIdeal.main_arg0)
      ∧ r.2.mem ((c.tc : Thread Cert.GuKernelIdeal.nD Cert.GuKernelIdeal.τ).loc Cert.GuKernelIdeal.main_arg1) = m ((c.tc : Thread Cert.GuKernelIdeal.nD Cert.GuKernelIdeal.τ).loc Cert.GuKernelIdeal.main_arg1)
      ∧ r.2.mem ((c.tc : Thread Cert.GuKernelIdeal.nD Cert.GuKernelIdeal.τ).loc Cert.GuKernelIdeal.main_arg2) = m ((c.tc : Thread Cert.GuKernelIdeal.nD Cert.GuKernelIdeal.τ).loc Cert.GuKernelIdeal.main_arg2)
      ∧ r.2.mem ((c.tc : Thread Cert.GuKernelIdeal.nD Cert.GuKernelIdeal.τ).loc Cert.GuKernelIdeal.main_arg3) = m ((c.tc : Thread Cert.GuKernelIdeal.nD Cert.GuKernelIdeal.τ).loc Cert.GuKernelIdeal.main_arg3)
      ∧ r.2.mem ((c.tc : Thread Cert.GuKernelIdeal.nD Cert.GuKernelIdeal.τ).loc Cert.GuKernelIdeal.main_arg4) = m ((c.tc : Thread Cert.GuKernelIdeal.nD Cert.GuKernelIdeal.τ).loc Cert.GuKernelIdeal.main_arg4))
      ∧ r.2.sem = fun _ => 0)

def quiescent_GuKernelIdeal_pre_finite_gu [hGuKernelIdeal : Cert.GuKernelIdeal.Facts] [hPre_finite_gu : Cert.Pre_finite_gu.Facts] : Prop :=
  ∀ (m : (ℓ : Loc Cert.GuKernelIdeal.nD Cert.GuKernelIdeal.τ Cert.GuKernelIdeal.sig) → Buf (Elt Ideal) ℓ) (g : Dev Cert.GuKernelIdeal.nD → PrngReg), Pre_GuKernelIdeal_finite_gu m →
    θ_run (Cert.GuKernelIdeal.defs (F := Ideal)) (onTc (τ := Cert.GuKernelIdeal.τ) (Cert.GuKernelIdeal.main (F := Ideal))) ⟨m, fun _ => 0, g⟩ (fun r => (∀ c : Dev Cert.GuKernelIdeal.nD,
      r.2.mem ((c.tc : Thread Cert.GuKernelIdeal.nD Cert.GuKernelIdeal.τ).loc Cert.GuKernelIdeal.main_arg0) = m ((c.tc : Thread Cert.GuKernelIdeal.nD Cert.GuKernelIdeal.τ).loc Cert.GuKernelIdeal.main_arg0)
      ∧ r.2.mem ((c.tc : Thread Cert.GuKernelIdeal.nD Cert.GuKernelIdeal.τ).loc Cert.GuKernelIdeal.main_arg1) = m ((c.tc : Thread Cert.GuKernelIdeal.nD Cert.GuKernelIdeal.τ).loc Cert.GuKernelIdeal.main_arg1)
      ∧ r.2.mem ((c.tc : Thread Cert.GuKernelIdeal.nD Cert.GuKernelIdeal.τ).loc Cert.GuKernelIdeal.main_arg2) = m ((c.tc : Thread Cert.GuKernelIdeal.nD Cert.GuKernelIdeal.τ).loc Cert.GuKernelIdeal.main_arg2)
      ∧ r.2.mem ((c.tc : Thread Cert.GuKernelIdeal.nD Cert.GuKernelIdeal.τ).loc Cert.GuKernelIdeal.main_arg3) = m ((c.tc : Thread Cert.GuKernelIdeal.nD Cert.GuKernelIdeal.τ).loc Cert.GuKernelIdeal.main_arg3)
      ∧ r.2.mem ((c.tc : Thread Cert.GuKernelIdeal.nD Cert.GuKernelIdeal.τ).loc Cert.GuKernelIdeal.main_arg4) = m ((c.tc : Thread Cert.GuKernelIdeal.nD Cert.GuKernelIdeal.τ).loc Cert.GuKernelIdeal.main_arg4))
      ∧ r.2.sem = fun _ => 0)

def quiescent_GuReferenceIdeal [hGuReferenceIdeal : Cert.GuReferenceIdeal.Facts] : Prop :=
  ∀ (m : (ℓ : Loc Cert.GuReferenceIdeal.nD Cert.GuReferenceIdeal.τ Cert.GuReferenceIdeal.sig) → Buf (Elt Ideal) ℓ) (g : Dev Cert.GuReferenceIdeal.nD → PrngReg), Pre_GuReferenceIdeal m →
    θ_run (Cert.GuReferenceIdeal.defs (F := Ideal)) (onTc (τ := Cert.GuReferenceIdeal.τ) (Cert.GuReferenceIdeal.main (F := Ideal))) ⟨m, fun _ => 0, g⟩ (fun r => (∀ c : Dev Cert.GuReferenceIdeal.nD,
      r.2.mem ((c.tc : Thread Cert.GuReferenceIdeal.nD Cert.GuReferenceIdeal.τ).loc Cert.GuReferenceIdeal.main_arg0) = m ((c.tc : Thread Cert.GuReferenceIdeal.nD Cert.GuReferenceIdeal.τ).loc Cert.GuReferenceIdeal.main_arg0)
      ∧ r.2.mem ((c.tc : Thread Cert.GuReferenceIdeal.nD Cert.GuReferenceIdeal.τ).loc Cert.GuReferenceIdeal.main_arg1) = m ((c.tc : Thread Cert.GuReferenceIdeal.nD Cert.GuReferenceIdeal.τ).loc Cert.GuReferenceIdeal.main_arg1)
      ∧ r.2.mem ((c.tc : Thread Cert.GuReferenceIdeal.nD Cert.GuReferenceIdeal.τ).loc Cert.GuReferenceIdeal.main_arg2) = m ((c.tc : Thread Cert.GuReferenceIdeal.nD Cert.GuReferenceIdeal.τ).loc Cert.GuReferenceIdeal.main_arg2)
      ∧ r.2.mem ((c.tc : Thread Cert.GuReferenceIdeal.nD Cert.GuReferenceIdeal.τ).loc Cert.GuReferenceIdeal.main_arg3) = m ((c.tc : Thread Cert.GuReferenceIdeal.nD Cert.GuReferenceIdeal.τ).loc Cert.GuReferenceIdeal.main_arg3)
      ∧ r.2.mem ((c.tc : Thread Cert.GuReferenceIdeal.nD Cert.GuReferenceIdeal.τ).loc Cert.GuReferenceIdeal.main_arg4) = m ((c.tc : Thread Cert.GuReferenceIdeal.nD Cert.GuReferenceIdeal.τ).loc Cert.GuReferenceIdeal.main_arg4))
      ∧ r.2.sem = fun _ => 0)

def quiescent_GuReferenceIdeal_pre_finite_gu [hGuReferenceIdeal : Cert.GuReferenceIdeal.Facts] [hPre_finite_gu : Cert.Pre_finite_gu.Facts] : Prop :=
  ∀ (m : (ℓ : Loc Cert.GuReferenceIdeal.nD Cert.GuReferenceIdeal.τ Cert.GuReferenceIdeal.sig) → Buf (Elt Ideal) ℓ) (g : Dev Cert.GuReferenceIdeal.nD → PrngReg), Pre_GuReferenceIdeal_finite_gu m →
    θ_run (Cert.GuReferenceIdeal.defs (F := Ideal)) (onTc (τ := Cert.GuReferenceIdeal.τ) (Cert.GuReferenceIdeal.main (F := Ideal))) ⟨m, fun _ => 0, g⟩ (fun r => (∀ c : Dev Cert.GuReferenceIdeal.nD,
      r.2.mem ((c.tc : Thread Cert.GuReferenceIdeal.nD Cert.GuReferenceIdeal.τ).loc Cert.GuReferenceIdeal.main_arg0) = m ((c.tc : Thread Cert.GuReferenceIdeal.nD Cert.GuReferenceIdeal.τ).loc Cert.GuReferenceIdeal.main_arg0)
      ∧ r.2.mem ((c.tc : Thread Cert.GuReferenceIdeal.nD Cert.GuReferenceIdeal.τ).loc Cert.GuReferenceIdeal.main_arg1) = m ((c.tc : Thread Cert.GuReferenceIdeal.nD Cert.GuReferenceIdeal.τ).loc Cert.GuReferenceIdeal.main_arg1)
      ∧ r.2.mem ((c.tc : Thread Cert.GuReferenceIdeal.nD Cert.GuReferenceIdeal.τ).loc Cert.GuReferenceIdeal.main_arg2) = m ((c.tc : Thread Cert.GuReferenceIdeal.nD Cert.GuReferenceIdeal.τ).loc Cert.GuReferenceIdeal.main_arg2)
      ∧ r.2.mem ((c.tc : Thread Cert.GuReferenceIdeal.nD Cert.GuReferenceIdeal.τ).loc Cert.GuReferenceIdeal.main_arg3) = m ((c.tc : Thread Cert.GuReferenceIdeal.nD Cert.GuReferenceIdeal.τ).loc Cert.GuReferenceIdeal.main_arg3)
      ∧ r.2.mem ((c.tc : Thread Cert.GuReferenceIdeal.nD Cert.GuReferenceIdeal.τ).loc Cert.GuReferenceIdeal.main_arg4) = m ((c.tc : Thread Cert.GuReferenceIdeal.nD Cert.GuReferenceIdeal.τ).loc Cert.GuReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3))
      ∧ r.2.sem = fun _ => 0)

def quiescent_FwdKernelIdeal_pre_finite_fwd [hFwdKernelIdeal : Cert.FwdKernelIdeal.Facts] [hPre_finite_fwd : Cert.Pre_finite_fwd.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal_finite_fwd m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3))
      ∧ r.2.sem = fun _ => 0)

def quiescent_FwdReferenceIdeal_pre_finite_fwd [hFwdReferenceIdeal : Cert.FwdReferenceIdeal.Facts] [hPre_finite_fwd : Cert.Pre_finite_fwd.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite_fwd m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3))
      ∧ r.2.sem = fun _ => 0)

def quiescent_BiasKernel [hBiasKernel : Cert.BiasKernel.Facts] : Prop :=
  ∀ (m : (ℓ : Loc Cert.BiasKernel.nD Cert.BiasKernel.τ Cert.BiasKernel.sig) → Buf (Elt Bits) ℓ) (g : Dev Cert.BiasKernel.nD → PrngReg), Pre_BiasKernel m →
    θ_run (Cert.BiasKernel.defs (F := Bits)) (onTc (τ := Cert.BiasKernel.τ) (Cert.BiasKernel.main (F := Bits))) ⟨m, fun _ => 0, g⟩ (fun r => (∀ c : Dev Cert.BiasKernel.nD,
      r.2.mem ((c.tc : Thread Cert.BiasKernel.nD Cert.BiasKernel.τ).loc Cert.BiasKernel.main_arg0) = m ((c.tc : Thread Cert.BiasKernel.nD Cert.BiasKernel.τ).loc Cert.BiasKernel.main_arg0)
      ∧ r.2.mem ((c.tc : Thread Cert.BiasKernel.nD Cert.BiasKernel.τ).loc Cert.BiasKernel.main_arg1) = m ((c.tc : Thread Cert.BiasKernel.nD Cert.BiasKernel.τ).loc Cert.BiasKernel.main_arg1))
      ∧ r.2.sem = fun _ => 0)

def quiescent_BiasKernelIdeal [hBiasKernelIdeal : Cert.BiasKernelIdeal.Facts] : Prop :=
  ∀ (m : (ℓ : Loc Cert.BiasKernelIdeal.nD Cert.BiasKernelIdeal.τ Cert.BiasKernelIdeal.sig) → Buf (Elt Ideal) ℓ) (g : Dev Cert.BiasKernelIdeal.nD → PrngReg), Pre_BiasKernelIdeal m →
    θ_run (Cert.BiasKernelIdeal.defs (F := Ideal)) (onTc (τ := Cert.BiasKernelIdeal.τ) (Cert.BiasKernelIdeal.main (F := Ideal))) ⟨m, fun _ => 0, g⟩ (fun r => (∀ c : Dev Cert.BiasKernelIdeal.nD,
      r.2.mem ((c.tc : Thread Cert.BiasKernelIdeal.nD Cert.BiasKernelIdeal.τ).loc Cert.BiasKernelIdeal.main_arg0) = m ((c.tc : Thread Cert.BiasKernelIdeal.nD Cert.BiasKernelIdeal.τ).loc Cert.BiasKernelIdeal.main_arg0)
      ∧ r.2.mem ((c.tc : Thread Cert.BiasKernelIdeal.nD Cert.BiasKernelIdeal.τ).loc Cert.BiasKernelIdeal.main_arg1) = m ((c.tc : Thread Cert.BiasKernelIdeal.nD Cert.BiasKernelIdeal.τ).loc Cert.BiasKernelIdeal.main_arg1))
      ∧ r.2.sem = fun _ => 0)

def quiescent_BiasKernelIdeal_pre_finite_bias [hBiasKernelIdeal : Cert.BiasKernelIdeal.Facts] [hPre_finite_bias : Cert.Pre_finite_bias.Facts] : Prop :=
  ∀ (m : (ℓ : Loc Cert.BiasKernelIdeal.nD Cert.BiasKernelIdeal.τ Cert.BiasKernelIdeal.sig) → Buf (Elt Ideal) ℓ) (g : Dev Cert.BiasKernelIdeal.nD → PrngReg), Pre_BiasKernelIdeal_finite_bias m →
    θ_run (Cert.BiasKernelIdeal.defs (F := Ideal)) (onTc (τ := Cert.BiasKernelIdeal.τ) (Cert.BiasKernelIdeal.main (F := Ideal))) ⟨m, fun _ => 0, g⟩ (fun r => (∀ c : Dev Cert.BiasKernelIdeal.nD,
      r.2.mem ((c.tc : Thread Cert.BiasKernelIdeal.nD Cert.BiasKernelIdeal.τ).loc Cert.BiasKernelIdeal.main_arg0) = m ((c.tc : Thread Cert.BiasKernelIdeal.nD Cert.BiasKernelIdeal.τ).loc Cert.BiasKernelIdeal.main_arg0)
      ∧ r.2.mem ((c.tc : Thread Cert.BiasKernelIdeal.nD Cert.BiasKernelIdeal.τ).loc Cert.BiasKernelIdeal.main_arg1) = m ((c.tc : Thread Cert.BiasKernelIdeal.nD Cert.BiasKernelIdeal.τ).loc Cert.BiasKernelIdeal.main_arg1))
      ∧ r.2.sem = fun _ => 0)

def quiescent_BiasReferenceIdeal [hBiasReferenceIdeal : Cert.BiasReferenceIdeal.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0)
      ∧ r.2.mem ((c.tc : Thread Cert.BiasReferenceIdeal.nD Cert.BiasReferenceIdeal.τ).loc Cert.BiasReferenceIdeal.main_arg1) = m ((c.tc : Thread Cert.BiasReferenceIdeal.nD Cert.BiasReferenceIdeal.τ).loc Cert.BiasReferenceIdeal.main_arg1))
      ∧ r.2.sem = fun _ => 0)

def quiescent_BiasReferenceIdeal_pre_finite_bias [hBiasReferenceIdeal : Cert.BiasReferenceIdeal.Facts] [hPre_finite_bias : Cert.Pre_finite_bias.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal_finite_bias m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0)
      ∧ r.2.mem ((c.tc : Thread Cert.BiasReferenceIdeal.nD Cert.BiasReferenceIdeal.τ).loc Cert.BiasReferenceIdeal.main_arg1) = m ((c.tc : Thread Cert.BiasReferenceIdeal.nD Cert.BiasReferenceIdeal.τ).loc Cert.BiasReferenceIdeal.main_arg1))
      ∧ r.2.sem = fun _ => 0)

def quiescent_SguKernel [hSguKernel : Cert.SguKernel.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3)
      ∧ r.2.mem ((c.tc : Thread Cert.SguKernel.nD Cert.SguKernel.τ).loc Cert.SguKernel.main_arg4) = m ((c.tc : Thread Cert.SguKernel.nD Cert.SguKernel.τ).loc Cert.SguKernel.main_arg4))
      ∧ r.2.sem = fun _ => 0)

def quiescent_SguKernelIdeal [hSguKernelIdeal : Cert.SguKernelIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4))
      ∧ r.2.sem = fun _ => 0)

def quiescent_SguKernelIdeal_pre_finite_sgu [hSguKernelIdeal : Cert.SguKernelIdeal.Facts] [hPre_finite_sgu : Cert.Pre_finite_sgu.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal_finite_sgu m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4))
      ∧ r.2.sem = fun _ => 0)

def quiescent_SguReferenceIdeal_pre_finite_sgu [hSguReferenceIdeal : Cert.SguReferenceIdeal.Facts] [hPre_finite_sgu : Cert.Pre_finite_sgu.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal_finite_sgu m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4))
      ∧ r.2.sem = fun _ => 0)

def quiescent_RmsKernel [hRmsKernel : Cert.RmsKernel.Facts] : Prop :=
  ∀ (m : (ℓ : Loc Cert.RmsKernel.nD Cert.RmsKernel.τ Cert.RmsKernel.sig) → Buf (Elt Bits) ℓ) (g : Dev Cert.RmsKernel.nD → PrngReg), Pre_RmsKernel m →
    θ_run (Cert.RmsKernel.defs (F := Bits)) (onTc (τ := Cert.RmsKernel.τ) (Cert.RmsKernel.main (F := Bits))) ⟨m, fun _ => 0, g⟩ (fun r => (∀ c : Dev Cert.RmsKernel.nD,
      r.2.mem ((c.tc : Thread Cert.RmsKernel.nD Cert.RmsKernel.τ).loc Cert.RmsKernel.main_arg0) = m ((c.tc : Thread Cert.RmsKernel.nD Cert.RmsKernel.τ).loc Cert.RmsKernel.main_arg0)
      ∧ r.2.mem ((c.tc : Thread Cert.RmsKernel.nD Cert.RmsKernel.τ).loc Cert.RmsKernel.main_arg1) = m ((c.tc : Thread Cert.RmsKernel.nD Cert.RmsKernel.τ).loc Cert.RmsKernel.main_arg1))
      ∧ r.2.sem = fun _ => 0)

def quiescent_RmsKernelIdeal [hRmsKernelIdeal : Cert.RmsKernelIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1))
      ∧ r.2.sem = fun _ => 0)

def quiescent_BuildKernel [hBuildKernel : Cert.BuildKernel.Facts] : Prop :=
  ∀ (m : (ℓ : Loc Cert.BuildKernel.nD Cert.BuildKernel.τ Cert.BuildKernel.sig) → Buf (Elt Bits) ℓ) (g : Dev Cert.BuildKernel.nD → PrngReg), Pre_BuildKernel m →
    θ_run (Cert.BuildKernel.defs (F := Bits)) (onTc (τ := Cert.BuildKernel.τ) (Cert.BuildKernel.main (F := Bits))) ⟨m, fun _ => 0, g⟩ (fun r => (∀ c : Dev Cert.BuildKernel.nD,
      r.2.mem ((c.tc : Thread Cert.BuildKernel.nD Cert.BuildKernel.τ).loc Cert.BuildKernel.main_arg0) = m ((c.tc : Thread Cert.BuildKernel.nD Cert.BuildKernel.τ).loc Cert.BuildKernel.main_arg0))
      ∧ r.2.sem = fun _ => 0)

def quiescent_BuildKernelIdeal [hBuildKernelIdeal : Cert.BuildKernelIdeal.Facts] : Prop :=
  ∀ (m : (ℓ : Loc Cert.BuildKernelIdeal.nD Cert.BuildKernelIdeal.τ Cert.BuildKernelIdeal.sig) → Buf (Elt Ideal) ℓ) (g : Dev Cert.BuildKernelIdeal.nD → PrngReg), Pre_BuildKernelIdeal m →
    θ_run (Cert.BuildKernelIdeal.defs (F := Ideal)) (onTc (τ := Cert.BuildKernelIdeal.τ) (Cert.BuildKernelIdeal.main (F := Ideal))) ⟨m, fun _ => 0, g⟩ (fun r => (∀ c : Dev Cert.BuildKernelIdeal.nD,
      r.2.mem ((c.tc : Thread Cert.BuildKernelIdeal.nD Cert.BuildKernelIdeal.τ).loc Cert.BuildKernelIdeal.main_arg0) = m ((c.tc : Thread Cert.BuildKernelIdeal.nD Cert.BuildKernelIdeal.τ).loc Cert.BuildKernelIdeal.main_arg0))
      ∧ r.2.sem = fun _ => 0)

def quiescent_BuildKernelIdeal_pre_finite_build [hBuildKernelIdeal : Cert.BuildKernelIdeal.Facts] [hPre_finite_build : Cert.Pre_finite_build.Facts] : Prop :=
  ∀ (m : (ℓ : Loc Cert.BuildKernelIdeal.nD Cert.BuildKernelIdeal.τ Cert.BuildKernelIdeal.sig) → Buf (Elt Ideal) ℓ) (g : Dev Cert.BuildKernelIdeal.nD → PrngReg), Pre_BuildKernelIdeal_finite_build m →
    θ_run (Cert.BuildKernelIdeal.defs (F := Ideal)) (onTc (τ := Cert.BuildKernelIdeal.τ) (Cert.BuildKernelIdeal.main (F := Ideal))) ⟨m, fun _ => 0, g⟩ (fun r => (∀ c : Dev Cert.BuildKernelIdeal.nD,
      r.2.mem ((c.tc : Thread Cert.BuildKernelIdeal.nD Cert.BuildKernelIdeal.τ).loc Cert.BuildKernelIdeal.main_arg0) = m ((c.tc : Thread Cert.BuildKernelIdeal.nD Cert.BuildKernelIdeal.τ).loc Cert.BuildKernelIdeal.main_arg0))
      ∧ r.2.sem = fun _ => 0)

def quiescent_BuildReferenceIdeal [hBuildReferenceIdeal : Cert.BuildReferenceIdeal.Facts] : Prop :=
  ∀ (m : (ℓ : Loc Cert.BuildReferenceIdeal.nD Cert.BuildReferenceIdeal.τ Cert.BuildReferenceIdeal.sig) → Buf (Elt Ideal) ℓ) (g : Dev Cert.BuildReferenceIdeal.nD → PrngReg), Pre_BuildReferenceIdeal m →
    θ_run (Cert.BuildReferenceIdeal.defs (F := Ideal)) (onTc (τ := Cert.BuildReferenceIdeal.τ) (Cert.BuildReferenceIdeal.main (F := Ideal))) ⟨m, fun _ => 0, g⟩ (fun r => (∀ c : Dev Cert.BuildReferenceIdeal.nD,
      r.2.mem ((c.tc : Thread Cert.BuildReferenceIdeal.nD Cert.BuildReferenceIdeal.τ).loc Cert.BuildReferenceIdeal.main_arg0) = m ((c.tc : Thread Cert.BuildReferenceIdeal.nD Cert.BuildReferenceIdeal.τ).loc Cert.BuildReferenceIdeal.main_arg0))
      ∧ r.2.sem = fun _ => 0)

def quiescent_BuildReferenceIdeal_pre_finite_build [hBuildReferenceIdeal : Cert.BuildReferenceIdeal.Facts] [hPre_finite_build : Cert.Pre_finite_build.Facts] : Prop :=
  ∀ (m : (ℓ : Loc Cert.BuildReferenceIdeal.nD Cert.BuildReferenceIdeal.τ Cert.BuildReferenceIdeal.sig) → Buf (Elt Ideal) ℓ) (g : Dev Cert.BuildReferenceIdeal.nD → PrngReg), Pre_BuildReferenceIdeal_finite_build m →
    θ_run (Cert.BuildReferenceIdeal.defs (F := Ideal)) (onTc (τ := Cert.BuildReferenceIdeal.τ) (Cert.BuildReferenceIdeal.main (F := Ideal))) ⟨m, fun _ => 0, g⟩ (fun r => (∀ c : Dev Cert.BuildReferenceIdeal.nD,
      r.2.mem ((c.tc : Thread Cert.BuildReferenceIdeal.nD Cert.BuildReferenceIdeal.τ).loc Cert.BuildReferenceIdeal.main_arg0) = m ((c.tc : Thread Cert.BuildReferenceIdeal.nD Cert.BuildReferenceIdeal.τ).loc Cert.BuildReferenceIdeal.main_arg0))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_ColKernel [hColKernel : Cert.ColKernel.Facts] : Prop :=
  ∀ (m : (ℓ : Loc Cert.ColKernel.nD Cert.ColKernel.τ Cert.ColKernel.sig) → Buf (Elt Bits) ℓ) (g : Dev Cert.ColKernel.nD → PrngReg), Pre_ColKernel m →
    θ_run (Cert.ColKernel.defs (F := Bits)) (onTc (τ := Cert.ColKernel.τ) (Cert.ColKernel.main (F := Bits))) ⟨m, fun _ => 0, g⟩ (fun r => (∀ c : Dev Cert.ColKernel.nD,
      r.2.mem ((c.tc : Thread Cert.ColKernel.nD Cert.ColKernel.τ).loc Cert.ColKernel.main_arg0) = m ((c.tc : Thread Cert.ColKernel.nD Cert.ColKernel.τ).loc Cert.ColKernel.main_arg0)
      ∧ r.2.mem ((c.tc : Thread Cert.ColKernel.nD Cert.ColKernel.τ).loc Cert.ColKernel.main_arg1) = m ((c.tc : Thread Cert.ColKernel.nD Cert.ColKernel.τ).loc Cert.ColKernel.main_arg1))
      ∧ r.2.sem = fun _ => 0)

def quiescent_ColKernelIdeal [hColKernelIdeal : Cert.ColKernelIdeal.Facts] : Prop :=
  ∀ (m : (ℓ : Loc Cert.ColKernelIdeal.nD Cert.ColKernelIdeal.τ Cert.ColKernelIdeal.sig) → Buf (Elt Ideal) ℓ) (g : Dev Cert.ColKernelIdeal.nD → PrngReg), Pre_ColKernelIdeal m →
    θ_run (Cert.ColKernelIdeal.defs (F := Ideal)) (onTc (τ := Cert.ColKernelIdeal.τ) (Cert.ColKernelIdeal.main (F := Ideal))) ⟨m, fun _ => 0, g⟩ (fun r => (∀ c : Dev Cert.ColKernelIdeal.nD,
      r.2.mem ((c.tc : Thread Cert.ColKernelIdeal.nD Cert.ColKernelIdeal.τ).loc Cert.ColKernelIdeal.main_arg0) = m ((c.tc : Thread Cert.ColKernelIdeal.nD Cert.ColKernelIdeal.τ).loc Cert.ColKernelIdeal.main_arg0)
      ∧ r.2.mem ((c.tc : Thread Cert.ColKernelIdeal.nD Cert.ColKernelIdeal.τ).loc Cert.ColKernelIdeal.main_arg1) = m ((c.tc : Thread Cert.ColKernelIdeal.nD Cert.ColKernelIdeal.τ).loc Cert.ColKernelIdeal.main_arg1))
      ∧ r.2.sem = fun _ => 0)

def quiescent_ColReferenceIdeal [hColReferenceIdeal : Cert.ColReferenceIdeal.Facts] : Prop :=
  ∀ (m : (ℓ : Loc Cert.ColReferenceIdeal.nD Cert.ColReferenceIdeal.τ Cert.ColReferenceIdeal.sig) → Buf (Elt Ideal) ℓ) (g : Dev Cert.ColReferenceIdeal.nD → PrngReg), Pre_ColReferenceIdeal m →
    θ_run (Cert.ColReferenceIdeal.defs (F := Ideal)) (onTc (τ := Cert.ColReferenceIdeal.τ) (Cert.ColReferenceIdeal.main (F := Ideal))) ⟨m, fun _ => 0, g⟩ (fun r => (∀ c : Dev Cert.ColReferenceIdeal.nD,
      r.2.mem ((c.tc : Thread Cert.ColReferenceIdeal.nD Cert.ColReferenceIdeal.τ).loc Cert.ColReferenceIdeal.main_arg0) = m ((c.tc : Thread Cert.ColReferenceIdeal.nD Cert.ColReferenceIdeal.τ).loc Cert.ColReferenceIdeal.main_arg0)
      ∧ r.2.mem ((c.tc : Thread Cert.ColReferenceIdeal.nD Cert.ColReferenceIdeal.τ).loc Cert.ColReferenceIdeal.main_arg1) = m ((c.tc : Thread Cert.ColReferenceIdeal.nD Cert.ColReferenceIdeal.τ).loc Cert.ColReferenceIdeal.main_arg1))
      ∧ r.2.sem = fun _ => 0)

def quiescent_TnatKernel [hTnatKernel : Cert.TnatKernel.Facts] : Prop :=
  ∀ (m : (ℓ : Loc Cert.TnatKernel.nD Cert.TnatKernel.τ Cert.TnatKernel.sig) → Buf (Elt Bits) ℓ) (g : Dev Cert.TnatKernel.nD → PrngReg), Pre_TnatKernel m →
    θ_run (Cert.TnatKernel.defs (F := Bits)) (onTc (τ := Cert.TnatKernel.τ) (Cert.TnatKernel.main (F := Bits))) ⟨m, fun _ => 0, g⟩ (fun r => (∀ c : Dev Cert.TnatKernel.nD,
      r.2.mem ((c.tc : Thread Cert.TnatKernel.nD Cert.TnatKernel.τ).loc Cert.TnatKernel.main_arg0) = m ((c.tc : Thread Cert.TnatKernel.nD Cert.TnatKernel.τ).loc Cert.TnatKernel.main_arg0)
      ∧ r.2.mem ((c.tc : Thread Cert.TnatKernel.nD Cert.TnatKernel.τ).loc Cert.TnatKernel.main_arg1) = m ((c.tc : Thread Cert.TnatKernel.nD Cert.TnatKernel.τ).loc Cert.TnatKernel.main_arg1))
      ∧ r.2.sem = fun _ => 0)

def quiescent_TnatKernelIdeal [hTnatKernelIdeal : Cert.TnatKernelIdeal.Facts] : Prop :=
  ∀ (m : (ℓ : Loc Cert.TnatKernelIdeal.nD Cert.TnatKernelIdeal.τ Cert.TnatKernelIdeal.sig) → Buf (Elt Ideal) ℓ) (g : Dev Cert.TnatKernelIdeal.nD → PrngReg), Pre_TnatKernelIdeal m →
    θ_run (Cert.TnatKernelIdeal.defs (F := Ideal)) (onTc (τ := Cert.TnatKernelIdeal.τ) (Cert.TnatKernelIdeal.main (F := Ideal))) ⟨m, fun _ => 0, g⟩ (fun r => (∀ c : Dev Cert.TnatKernelIdeal.nD,
      r.2.mem ((c.tc : Thread Cert.TnatKernelIdeal.nD Cert.TnatKernelIdeal.τ).loc Cert.TnatKernelIdeal.main_arg0) = m ((c.tc : Thread Cert.TnatKernelIdeal.nD Cert.TnatKernelIdeal.τ).loc Cert.TnatKernelIdeal.main_arg0)
      ∧ r.2.mem ((c.tc : Thread Cert.TnatKernelIdeal.nD Cert.TnatKernelIdeal.τ).loc Cert.TnatKernelIdeal.main_arg1) = m ((c.tc : Thread Cert.TnatKernelIdeal.nD Cert.TnatKernelIdeal.τ).loc Cert.TnatKernelIdeal.main_arg1))
      ∧ r.2.sem = fun _ => 0)

def quiescent_TnatReferenceIdeal [hTnatReferenceIdeal : Cert.TnatReferenceIdeal.Facts] : Prop :=
  ∀ (m : (ℓ : Loc Cert.TnatReferenceIdeal.nD Cert.TnatReferenceIdeal.τ Cert.TnatReferenceIdeal.sig) → Buf (Elt Ideal) ℓ) (g : Dev Cert.TnatReferenceIdeal.nD → PrngReg), Pre_TnatReferenceIdeal m →
    θ_run (Cert.TnatReferenceIdeal.defs (F := Ideal)) (onTc (τ := Cert.TnatReferenceIdeal.τ) (Cert.TnatReferenceIdeal.main (F := Ideal))) ⟨m, fun _ => 0, g⟩ (fun r => (∀ c : Dev Cert.TnatReferenceIdeal.nD,
      r.2.mem ((c.tc : Thread Cert.TnatReferenceIdeal.nD Cert.TnatReferenceIdeal.τ).loc Cert.TnatReferenceIdeal.main_arg0) = m ((c.tc : Thread Cert.TnatReferenceIdeal.nD Cert.TnatReferenceIdeal.τ).loc Cert.TnatReferenceIdeal.main_arg0)
      ∧ r.2.mem ((c.tc : Thread Cert.TnatReferenceIdeal.nD Cert.TnatReferenceIdeal.τ).loc Cert.TnatReferenceIdeal.main_arg1) = m ((c.tc : Thread Cert.TnatReferenceIdeal.nD Cert.TnatReferenceIdeal.τ).loc Cert.TnatReferenceIdeal.main_arg1))
      ∧ r.2.sem = fun _ => 0)

def quiescent_DwcolKernel [hDwcolKernel : Cert.DwcolKernel.Facts] : Prop :=
  ∀ (m : (ℓ : Loc Cert.DwcolKernel.nD Cert.DwcolKernel.τ Cert.DwcolKernel.sig) → Buf (Elt Bits) ℓ) (g : Dev Cert.DwcolKernel.nD → PrngReg), Pre_DwcolKernel m →
    θ_run (Cert.DwcolKernel.defs (F := Bits)) (onTc (τ := Cert.DwcolKernel.τ) (Cert.DwcolKernel.main (F := Bits))) ⟨m, fun _ => 0, g⟩ (fun r => (∀ c : Dev Cert.DwcolKernel.nD,
      r.2.mem ((c.tc : Thread Cert.DwcolKernel.nD Cert.DwcolKernel.τ).loc Cert.DwcolKernel.main_arg0) = m ((c.tc : Thread Cert.DwcolKernel.nD Cert.DwcolKernel.τ).loc Cert.DwcolKernel.main_arg0)
      ∧ r.2.mem ((c.tc : Thread Cert.DwcolKernel.nD Cert.DwcolKernel.τ).loc Cert.DwcolKernel.main_arg1) = m ((c.tc : Thread Cert.DwcolKernel.nD Cert.DwcolKernel.τ).loc Cert.DwcolKernel.main_arg1))
      ∧ r.2.sem = fun _ => 0)

def quiescent_DwcolKernelIdeal [hDwcolKernelIdeal : Cert.DwcolKernelIdeal.Facts] : Prop :=
  ∀ (m : (ℓ : Loc Cert.DwcolKernelIdeal.nD Cert.DwcolKernelIdeal.τ Cert.DwcolKernelIdeal.sig) → Buf (Elt Ideal) ℓ) (g : Dev Cert.DwcolKernelIdeal.nD → PrngReg), Pre_DwcolKernelIdeal m →
    θ_run (Cert.DwcolKernelIdeal.defs (F := Ideal)) (onTc (τ := Cert.DwcolKernelIdeal.τ) (Cert.DwcolKernelIdeal.main (F := Ideal))) ⟨m, fun _ => 0, g⟩ (fun r => (∀ c : Dev Cert.DwcolKernelIdeal.nD,
      r.2.mem ((c.tc : Thread Cert.DwcolKernelIdeal.nD Cert.DwcolKernelIdeal.τ).loc Cert.DwcolKernelIdeal.main_arg0) = m ((c.tc : Thread Cert.DwcolKernelIdeal.nD Cert.DwcolKernelIdeal.τ).loc Cert.DwcolKernelIdeal.main_arg0)
      ∧ r.2.mem ((c.tc : Thread Cert.DwcolKernelIdeal.nD Cert.DwcolKernelIdeal.τ).loc Cert.DwcolKernelIdeal.main_arg1) = m ((c.tc : Thread Cert.DwcolKernelIdeal.nD Cert.DwcolKernelIdeal.τ).loc Cert.DwcolKernelIdeal.main_arg1))
      ∧ r.2.sem = fun _ => 0)

def quiescent_DwcolReferenceIdeal [hDwcolReferenceIdeal : Cert.DwcolReferenceIdeal.Facts] : Prop :=
  ∀ (m : (ℓ : Loc Cert.DwcolReferenceIdeal.nD Cert.DwcolReferenceIdeal.τ Cert.DwcolReferenceIdeal.sig) → Buf (Elt Ideal) ℓ) (g : Dev Cert.DwcolReferenceIdeal.nD → PrngReg), Pre_DwcolReferenceIdeal m →
    θ_run (Cert.DwcolReferenceIdeal.defs (F := Ideal)) (onTc (τ := Cert.DwcolReferenceIdeal.τ) (Cert.DwcolReferenceIdeal.main (F := Ideal))) ⟨m, fun _ => 0, g⟩ (fun r => (∀ c : Dev Cert.DwcolReferenceIdeal.nD,
      r.2.mem ((c.tc : Thread Cert.DwcolReferenceIdeal.nD Cert.DwcolReferenceIdeal.τ).loc Cert.DwcolReferenceIdeal.main_arg0) = m ((c.tc : Thread Cert.DwcolReferenceIdeal.nD Cert.DwcolReferenceIdeal.τ).loc Cert.DwcolReferenceIdeal.main_arg0)
      ∧ r.2.mem ((c.tc : Thread Cert.DwcolReferenceIdeal.nD Cert.DwcolReferenceIdeal.τ).loc Cert.DwcolReferenceIdeal.main_arg1) = m ((c.tc : Thread Cert.DwcolReferenceIdeal.nD Cert.DwcolReferenceIdeal.τ).loc Cert.DwcolReferenceIdeal.main_arg1))
      ∧ r.2.sem = fun _ => 0)

def quiescent_OsumKernel [hOsumKernel : Cert.OsumKernel.Facts] : Prop :=
  ∀ (m : (ℓ : Loc Cert.OsumKernel.nD Cert.OsumKernel.τ Cert.OsumKernel.sig) → Buf (Elt Bits) ℓ) (g : Dev Cert.OsumKernel.nD → PrngReg), Pre_OsumKernel m →
    θ_run (Cert.OsumKernel.defs (F := Bits)) (onTc (τ := Cert.OsumKernel.τ) (Cert.OsumKernel.main (F := Bits))) ⟨m, fun _ => 0, g⟩ (fun r => (∀ c : Dev Cert.OsumKernel.nD,
      r.2.mem ((c.tc : Thread Cert.OsumKernel.nD Cert.OsumKernel.τ).loc Cert.OsumKernel.main_arg0) = m ((c.tc : Thread Cert.OsumKernel.nD Cert.OsumKernel.τ).loc Cert.OsumKernel.main_arg0))
      ∧ r.2.sem = fun _ => 0)

def quiescent_OsumKernelIdeal [hOsumKernelIdeal : Cert.OsumKernelIdeal.Facts] : Prop :=
  ∀ (m : (ℓ : Loc Cert.OsumKernelIdeal.nD Cert.OsumKernelIdeal.τ Cert.OsumKernelIdeal.sig) → Buf (Elt Ideal) ℓ) (g : Dev Cert.OsumKernelIdeal.nD → PrngReg), Pre_OsumKernelIdeal m →
    θ_run (Cert.OsumKernelIdeal.defs (F := Ideal)) (onTc (τ := Cert.OsumKernelIdeal.τ) (Cert.OsumKernelIdeal.main (F := Ideal))) ⟨m, fun _ => 0, g⟩ (fun r => (∀ c : Dev Cert.OsumKernelIdeal.nD,
      r.2.mem ((c.tc : Thread Cert.OsumKernelIdeal.nD Cert.OsumKernelIdeal.τ).loc Cert.OsumKernelIdeal.main_arg0) = m ((c.tc : Thread Cert.OsumKernelIdeal.nD Cert.OsumKernelIdeal.τ).loc Cert.OsumKernelIdeal.main_arg0))
      ∧ r.2.sem = fun _ => 0)

def quiescent_OsumReferenceIdeal [hOsumReferenceIdeal : Cert.OsumReferenceIdeal.Facts] : Prop :=
  ∀ (m : (ℓ : Loc Cert.OsumReferenceIdeal.nD Cert.OsumReferenceIdeal.τ Cert.OsumReferenceIdeal.sig) → Buf (Elt Ideal) ℓ) (g : Dev Cert.OsumReferenceIdeal.nD → PrngReg), Pre_OsumReferenceIdeal m →
    θ_run (Cert.OsumReferenceIdeal.defs (F := Ideal)) (onTc (τ := Cert.OsumReferenceIdeal.τ) (Cert.OsumReferenceIdeal.main (F := Ideal))) ⟨m, fun _ => 0, g⟩ (fun r => (∀ c : Dev Cert.OsumReferenceIdeal.nD,
      r.2.mem ((c.tc : Thread Cert.OsumReferenceIdeal.nD Cert.OsumReferenceIdeal.τ).loc Cert.OsumReferenceIdeal.main_arg0) = m ((c.tc : Thread Cert.OsumReferenceIdeal.nD Cert.OsumReferenceIdeal.τ).loc Cert.OsumReferenceIdeal.main_arg0))
      ∧ r.2.sem = fun _ => 0)

def quiescent_DwnatKernel [hDwnatKernel : Cert.DwnatKernel.Facts] : Prop :=
  ∀ (m : (ℓ : Loc Cert.DwnatKernel.nD Cert.DwnatKernel.τ Cert.DwnatKernel.sig) → Buf (Elt Bits) ℓ) (g : Dev Cert.DwnatKernel.nD → PrngReg), Pre_DwnatKernel m →
    θ_run (Cert.DwnatKernel.defs (F := Bits)) (onTc (τ := Cert.DwnatKernel.τ) (Cert.DwnatKernel.main (F := Bits))) ⟨m, fun _ => 0, g⟩ (fun r => (∀ c : Dev Cert.DwnatKernel.nD,
      r.2.mem ((c.tc : Thread Cert.DwnatKernel.nD Cert.DwnatKernel.τ).loc Cert.DwnatKernel.main_arg0) = m ((c.tc : Thread Cert.DwnatKernel.nD Cert.DwnatKernel.τ).loc Cert.DwnatKernel.main_arg0)
      ∧ r.2.mem ((c.tc : Thread Cert.DwnatKernel.nD Cert.DwnatKernel.τ).loc Cert.DwnatKernel.main_arg1) = m ((c.tc : Thread Cert.DwnatKernel.nD Cert.DwnatKernel.τ).loc Cert.DwnatKernel.main_arg1))
      ∧ r.2.sem = fun _ => 0)

def quiescent_DwnatKernelIdeal [hDwnatKernelIdeal : Cert.DwnatKernelIdeal.Facts] : Prop :=
  ∀ (m : (ℓ : Loc Cert.DwnatKernelIdeal.nD Cert.DwnatKernelIdeal.τ Cert.DwnatKernelIdeal.sig) → Buf (Elt Ideal) ℓ) (g : Dev Cert.DwnatKernelIdeal.nD → PrngReg), Pre_DwnatKernelIdeal m →
    θ_run (Cert.DwnatKernelIdeal.defs (F := Ideal)) (onTc (τ := Cert.DwnatKernelIdeal.τ) (Cert.DwnatKernelIdeal.main (F := Ideal))) ⟨m, fun _ => 0, g⟩ (fun r => (∀ c : Dev Cert.DwnatKernelIdeal.nD,
      r.2.mem ((c.tc : Thread Cert.DwnatKernelIdeal.nD Cert.DwnatKernelIdeal.τ).loc Cert.DwnatKernelIdeal.main_arg0) = m ((c.tc : Thread Cert.DwnatKernelIdeal.nD Cert.DwnatKernelIdeal.τ).loc Cert.DwnatKernelIdeal.main_arg0)
      ∧ r.2.mem ((c.tc : Thread Cert.DwnatKernelIdeal.nD Cert.DwnatKernelIdeal.τ).loc Cert.DwnatKernelIdeal.main_arg1) = m ((c.tc : Thread Cert.DwnatKernelIdeal.nD Cert.DwnatKernelIdeal.τ).loc Cert.DwnatKernelIdeal.main_arg1))
      ∧ r.2.sem = fun _ => 0)

def quiescent_DwnatReferenceIdeal [hDwnatReferenceIdeal : Cert.DwnatReferenceIdeal.Facts] : Prop :=
  ∀ (m : (ℓ : Loc Cert.DwnatReferenceIdeal.nD Cert.DwnatReferenceIdeal.τ Cert.DwnatReferenceIdeal.sig) → Buf (Elt Ideal) ℓ) (g : Dev Cert.DwnatReferenceIdeal.nD → PrngReg), Pre_DwnatReferenceIdeal m →
    θ_run (Cert.DwnatReferenceIdeal.defs (F := Ideal)) (onTc (τ := Cert.DwnatReferenceIdeal.τ) (Cert.DwnatReferenceIdeal.main (F := Ideal))) ⟨m, fun _ => 0, g⟩ (fun r => (∀ c : Dev Cert.DwnatReferenceIdeal.nD,
      r.2.mem ((c.tc : Thread Cert.DwnatReferenceIdeal.nD Cert.DwnatReferenceIdeal.τ).loc Cert.DwnatReferenceIdeal.main_arg0) = m ((c.tc : Thread Cert.DwnatReferenceIdeal.nD Cert.DwnatReferenceIdeal.τ).loc Cert.DwnatReferenceIdeal.main_arg0)
      ∧ r.2.mem ((c.tc : Thread Cert.DwnatReferenceIdeal.nD Cert.DwnatReferenceIdeal.τ).loc Cert.DwnatReferenceIdeal.main_arg1) = m ((c.tc : Thread Cert.DwnatReferenceIdeal.nD Cert.DwnatReferenceIdeal.τ).loc Cert.DwnatReferenceIdeal.main_arg1))
      ∧ r.2.sem = fun _ => 0)

def quiescent_DwdownKernel [hDwdownKernel : Cert.DwdownKernel.Facts] : Prop :=
  ∀ (m : (ℓ : Loc Cert.DwdownKernel.nD Cert.DwdownKernel.τ Cert.DwdownKernel.sig) → Buf (Elt Bits) ℓ) (g : Dev Cert.DwdownKernel.nD → PrngReg), Pre_DwdownKernel m →
    θ_run (Cert.DwdownKernel.defs (F := Bits)) (onTc (τ := Cert.DwdownKernel.τ) (Cert.DwdownKernel.main (F := Bits))) ⟨m, fun _ => 0, g⟩ (fun r => (∀ c : Dev Cert.DwdownKernel.nD,
      r.2.mem ((c.tc : Thread Cert.DwdownKernel.nD Cert.DwdownKernel.τ).loc Cert.DwdownKernel.main_arg0) = m ((c.tc : Thread Cert.DwdownKernel.nD Cert.DwdownKernel.τ).loc Cert.DwdownKernel.main_arg0)
      ∧ r.2.mem ((c.tc : Thread Cert.DwdownKernel.nD Cert.DwdownKernel.τ).loc Cert.DwdownKernel.main_arg1) = m ((c.tc : Thread Cert.DwdownKernel.nD Cert.DwdownKernel.τ).loc Cert.DwdownKernel.main_arg1))
      ∧ r.2.sem = fun _ => 0)

def quiescent_DwdownKernelIdeal [hDwdownKernelIdeal : Cert.DwdownKernelIdeal.Facts] : Prop :=
  ∀ (m : (ℓ : Loc Cert.DwdownKernelIdeal.nD Cert.DwdownKernelIdeal.τ Cert.DwdownKernelIdeal.sig) → Buf (Elt Ideal) ℓ) (g : Dev Cert.DwdownKernelIdeal.nD → PrngReg), Pre_DwdownKernelIdeal m →
    θ_run (Cert.DwdownKernelIdeal.defs (F := Ideal)) (onTc (τ := Cert.DwdownKernelIdeal.τ) (Cert.DwdownKernelIdeal.main (F := Ideal))) ⟨m, fun _ => 0, g⟩ (fun r => (∀ c : Dev Cert.DwdownKernelIdeal.nD,
      r.2.mem ((c.tc : Thread Cert.DwdownKernelIdeal.nD Cert.DwdownKernelIdeal.τ).loc Cert.DwdownKernelIdeal.main_arg0) = m ((c.tc : Thread Cert.DwdownKernelIdeal.nD Cert.DwdownKernelIdeal.τ).loc Cert.DwdownKernelIdeal.main_arg0)
      ∧ r.2.mem ((c.tc : Thread Cert.DwdownKernelIdeal.nD Cert.DwdownKernelIdeal.τ).loc Cert.DwdownKernelIdeal.main_arg1) = m ((c.tc : Thread Cert.DwdownKernelIdeal.nD Cert.DwdownKernelIdeal.τ).loc Cert.DwdownKernelIdeal.main_arg1))
      ∧ r.2.sem = fun _ => 0)

def quiescent_DwdownReferenceIdeal [hDwdownReferenceIdeal : Cert.DwdownReferenceIdeal.Facts] : Prop :=
  ∀ (m : (ℓ : Loc Cert.DwdownReferenceIdeal.nD Cert.DwdownReferenceIdeal.τ Cert.DwdownReferenceIdeal.sig) → Buf (Elt Ideal) ℓ) (g : Dev Cert.DwdownReferenceIdeal.nD → PrngReg), Pre_DwdownReferenceIdeal m →
    θ_run (Cert.DwdownReferenceIdeal.defs (F := Ideal)) (onTc (τ := Cert.DwdownReferenceIdeal.τ) (Cert.DwdownReferenceIdeal.main (F := Ideal))) ⟨m, fun _ => 0, g⟩ (fun r => (∀ c : Dev Cert.DwdownReferenceIdeal.nD,
      r.2.mem ((c.tc : Thread Cert.DwdownReferenceIdeal.nD Cert.DwdownReferenceIdeal.τ).loc Cert.DwdownReferenceIdeal.main_arg0) = m ((c.tc : Thread Cert.DwdownReferenceIdeal.nD Cert.DwdownReferenceIdeal.τ).loc Cert.DwdownReferenceIdeal.main_arg0)
      ∧ r.2.mem ((c.tc : Thread Cert.DwdownReferenceIdeal.nD Cert.DwdownReferenceIdeal.τ).loc Cert.DwdownReferenceIdeal.main_arg1) = m ((c.tc : Thread Cert.DwdownReferenceIdeal.nD Cert.DwdownReferenceIdeal.τ).loc Cert.DwdownReferenceIdeal.main_arg1))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def preserves_LossKernel_LossKernelIdeal : Prop :=
  True

def algebraic_LossKernelIdeal_LossReferenceIdeal_pre_finite_loss [hLossKernelIdeal : Cert.LossKernelIdeal.Facts] [hLossReferenceIdeal : Cert.LossReferenceIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_finite_loss m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v50) = v0 c
          ∧ r.2.mem ((c.tc : Thread Cert.LossReferenceIdeal.nD Cert.LossReferenceIdeal.τ).loc Cert.LossReferenceIdeal.main_v51) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_AttnKernel_AttnKernelIdeal : Prop :=
  IdealRules.named_const.Statement Cert.AttnKernelIdeal.κ "mask" .f32 0xF149F2CA#32 ⊥

def algebraic_AttnKernelIdeal_AttnReferenceIdeal_pre_finite_attn [hAttnKernelIdeal : Cert.AttnKernelIdeal.Facts] [hAttnReferenceIdeal : Cert.AttnReferenceIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_attn m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)) →
    ∃ (v0 : (c : Dev Cert.AttnKernelIdeal.nD) → Buf (Elt Ideal) ((c.tc : Thread Cert.AttnKernelIdeal.nD Cert.AttnKernelIdeal.τ).loc Cert.AttnKernelIdeal.main_v87_0)) (v1 : (c : Dev Cert.AttnKernelIdeal.nD) → Buf (Elt Ideal) ((c.tc : Thread Cert.AttnKernelIdeal.nD Cert.AttnKernelIdeal.τ).loc Cert.AttnKernelIdeal.main_v87_1)) (v2 : (c : Dev Cert.AttnKernelIdeal.nD) → Buf (Elt Ideal) ((c.tc : Thread Cert.AttnKernelIdeal.nD Cert.AttnKernelIdeal.τ).loc Cert.AttnKernelIdeal.main_v87_2)) (v3 : (c : Dev Cert.AttnKernelIdeal.nD) → Buf (Elt Ideal) ((c.tc : Thread Cert.AttnKernelIdeal.nD Cert.AttnKernelIdeal.τ).loc Cert.AttnKernelIdeal.main_v109)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v87_0) = v0 c
          ∧ r.2.mem ((c.tc : Thread Cert.AttnKernelIdeal.nD Cert.AttnKernelIdeal.τ).loc Cert.AttnKernelIdeal.main_v87_1) = v1 c
          ∧ r.2.mem ((c.tc : Thread Cert.AttnKernelIdeal.nD Cert.AttnKernelIdeal.τ).loc Cert.AttnKernelIdeal.main_v87_2) = v2 c
          ∧ r.2.mem ((c.tc : Thread Cert.AttnKernelIdeal.nD Cert.AttnKernelIdeal.τ).loc Cert.AttnKernelIdeal.main_v109) = v3 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v102) = v0 c
          ∧ r.2.mem ((c.tc : Thread Cert.AttnReferenceIdeal.nD Cert.AttnReferenceIdeal.τ).loc Cert.AttnReferenceIdeal.main_v100) = v1 c
          ∧ r.2.mem ((c.tc : Thread Cert.AttnReferenceIdeal.nD Cert.AttnReferenceIdeal.τ).loc Cert.AttnReferenceIdeal.main_v99) = v2 c
          ∧ r.2.mem ((c.tc : Thread Cert.AttnReferenceIdeal.nD Cert.AttnReferenceIdeal.τ).loc Cert.AttnReferenceIdeal.main_v98) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4))

def preserves_BqKernel_BqKernelIdeal : Prop :=
  True

def algebraic_BqKernelIdeal_BqReferenceIdeal_pre_finite_bq [hBqKernelIdeal : Cert.BqKernelIdeal.Facts] [hBqReferenceIdeal : Cert.BqReferenceIdeal.Facts] [hPre_finite_bq : Cert.Pre_finite_bq.Facts] : Prop :=
  ∀ (m : (ℓ : Loc Cert.BqKernelIdeal.nD Cert.BqKernelIdeal.τ Cert.BqKernelIdeal.sig) → Buf (Elt Ideal) ℓ) (g : Dev Cert.BqKernelIdeal.nD → PrngReg)
    (m' : (ℓ : Loc Cert.BqReferenceIdeal.nD Cert.BqReferenceIdeal.τ Cert.BqReferenceIdeal.sig) → Buf (Elt Ideal) ℓ) (g' : Dev Cert.BqReferenceIdeal.nD → PrngReg), Pre_BqKernelIdeal_finite_bq m →
    (∀ c : Dev Cert.BqKernelIdeal.nD,
      m' ((c.tc : Thread Cert.BqReferenceIdeal.nD Cert.BqReferenceIdeal.τ).loc Cert.BqReferenceIdeal.main_arg0) = m ((c.tc : Thread Cert.BqKernelIdeal.nD Cert.BqKernelIdeal.τ).loc Cert.BqKernelIdeal.main_arg0)
      ∧ m' ((c.tc : Thread Cert.BqReferenceIdeal.nD Cert.BqReferenceIdeal.τ).loc Cert.BqReferenceIdeal.main_arg1) = m ((c.tc : Thread Cert.BqKernelIdeal.nD Cert.BqKernelIdeal.τ).loc Cert.BqKernelIdeal.main_arg1)
      ∧ m' ((c.tc : Thread Cert.BqReferenceIdeal.nD Cert.BqReferenceIdeal.τ).loc Cert.BqReferenceIdeal.main_arg2) = m ((c.tc : Thread Cert.BqKernelIdeal.nD Cert.BqKernelIdeal.τ).loc Cert.BqKernelIdeal.main_arg2)
      ∧ m' ((c.tc : Thread Cert.BqReferenceIdeal.nD Cert.BqReferenceIdeal.τ).loc Cert.BqReferenceIdeal.main_arg3) = m ((c.tc : Thread Cert.BqKernelIdeal.nD Cert.BqKernelIdeal.τ).loc Cert.BqKernelIdeal.main_arg3)
      ∧ m' ((c.tc : Thread Cert.BqReferenceIdeal.nD Cert.BqReferenceIdeal.τ).loc Cert.BqReferenceIdeal.main_arg4) = m ((c.tc : Thread Cert.BqKernelIdeal.nD Cert.BqKernelIdeal.τ).loc Cert.BqKernelIdeal.main_arg4)) →
    ∃ (v0 : (c : Dev Cert.BqKernelIdeal.nD) → Buf (Elt Ideal) ((c.tc : Thread Cert.BqKernelIdeal.nD Cert.BqKernelIdeal.τ).loc Cert.BqKernelIdeal.main_v4_0)) (v1 : (c : Dev Cert.BqKernelIdeal.nD) → Buf (Elt Ideal) ((c.tc : Thread Cert.BqKernelIdeal.nD Cert.BqKernelIdeal.τ).loc Cert.BqKernelIdeal.main_v4_1)),
      θ_run (Cert.BqKernelIdeal.defs (F := Ideal)) (onTc (τ := Cert.BqKernelIdeal.τ) (Cert.BqKernelIdeal.main (F := Ideal))) ⟨m, fun _ => 0, g⟩ (fun r => ∀ c : Dev Cert.BqKernelIdeal.nD,
          r.2.mem ((c.tc : Thread Cert.BqKernelIdeal.nD Cert.BqKernelIdeal.τ).loc Cert.BqKernelIdeal.main_v4_0) = v0 c
          ∧ r.2.mem ((c.tc : Thread Cert.BqKernelIdeal.nD Cert.BqKernelIdeal.τ).loc Cert.BqKernelIdeal.main_v4_1) = v1 c
          ∧ r.2.mem ((c.tc : Thread Cert.BqKernelIdeal.nD Cert.BqKernelIdeal.τ).loc Cert.BqKernelIdeal.main_arg0) = m ((c.tc : Thread Cert.BqKernelIdeal.nD Cert.BqKernelIdeal.τ).loc Cert.BqKernelIdeal.main_arg0)
          ∧ r.2.mem ((c.tc : Thread Cert.BqKernelIdeal.nD Cert.BqKernelIdeal.τ).loc Cert.BqKernelIdeal.main_arg1) = m ((c.tc : Thread Cert.BqKernelIdeal.nD Cert.BqKernelIdeal.τ).loc Cert.BqKernelIdeal.main_arg1)
          ∧ r.2.mem ((c.tc : Thread Cert.BqKernelIdeal.nD Cert.BqKernelIdeal.τ).loc Cert.BqKernelIdeal.main_arg2) = m ((c.tc : Thread Cert.BqKernelIdeal.nD Cert.BqKernelIdeal.τ).loc Cert.BqKernelIdeal.main_arg2)
          ∧ r.2.mem ((c.tc : Thread Cert.BqKernelIdeal.nD Cert.BqKernelIdeal.τ).loc Cert.BqKernelIdeal.main_arg3) = m ((c.tc : Thread Cert.BqKernelIdeal.nD Cert.BqKernelIdeal.τ).loc Cert.BqKernelIdeal.main_arg3)
          ∧ r.2.mem ((c.tc : Thread Cert.BqKernelIdeal.nD Cert.BqKernelIdeal.τ).loc Cert.BqKernelIdeal.main_arg4) = m ((c.tc : Thread Cert.BqKernelIdeal.nD Cert.BqKernelIdeal.τ).loc Cert.BqKernelIdeal.main_arg4))
      ∧ θ_run (Cert.BqReferenceIdeal.defs (F := Ideal)) (onTc (τ := Cert.BqReferenceIdeal.τ) (Cert.BqReferenceIdeal.main (F := Ideal))) ⟨m', fun _ => 0, g'⟩ (fun r => ∀ c : Dev Cert.BqReferenceIdeal.nD,
          r.2.mem ((c.tc : Thread Cert.BqReferenceIdeal.nD Cert.BqReferenceIdeal.τ).loc Cert.BqReferenceIdeal.main_v38) = v0 c
          ∧ r.2.mem ((c.tc : Thread Cert.BqReferenceIdeal.nD Cert.BqReferenceIdeal.τ).loc Cert.BqReferenceIdeal.main_v39) = v1 c
          ∧ r.2.mem ((c.tc : Thread Cert.BqReferenceIdeal.nD Cert.BqReferenceIdeal.τ).loc Cert.BqReferenceIdeal.main_arg0) = m' ((c.tc : Thread Cert.BqReferenceIdeal.nD Cert.BqReferenceIdeal.τ).loc Cert.BqReferenceIdeal.main_arg0)
          ∧ r.2.mem ((c.tc : Thread Cert.BqReferenceIdeal.nD Cert.BqReferenceIdeal.τ).loc Cert.BqReferenceIdeal.main_arg1) = m' ((c.tc : Thread Cert.BqReferenceIdeal.nD Cert.BqReferenceIdeal.τ).loc Cert.BqReferenceIdeal.main_arg1)
          ∧ r.2.mem ((c.tc : Thread Cert.BqReferenceIdeal.nD Cert.BqReferenceIdeal.τ).loc Cert.BqReferenceIdeal.main_arg2) = m' ((c.tc : Thread Cert.BqReferenceIdeal.nD Cert.BqReferenceIdeal.τ).loc Cert.BqReferenceIdeal.main_arg2)
          ∧ r.2.mem ((c.tc : Thread Cert.BqReferenceIdeal.nD Cert.BqReferenceIdeal.τ).loc Cert.BqReferenceIdeal.main_arg3) = m' ((c.tc : Thread Cert.BqReferenceIdeal.nD Cert.BqReferenceIdeal.τ).loc Cert.BqReferenceIdeal.main_arg3)
          ∧ r.2.mem ((c.tc : Thread Cert.BqReferenceIdeal.nD Cert.BqReferenceIdeal.τ).loc Cert.BqReferenceIdeal.main_arg4) = m' ((c.tc : Thread Cert.BqReferenceIdeal.nD Cert.BqReferenceIdeal.τ).loc Cert.BqReferenceIdeal.main_arg4))

def preserves_GuKernel_GuKernelIdeal : Prop :=
  True

def algebraic_GuKernelIdeal_GuReferenceIdeal_pre_finite_gu [hGuKernelIdeal : Cert.GuKernelIdeal.Facts] [hGuReferenceIdeal : Cert.GuReferenceIdeal.Facts] [hPre_finite_gu : Cert.Pre_finite_gu.Facts] : Prop :=
  ∀ (m : (ℓ : Loc Cert.GuKernelIdeal.nD Cert.GuKernelIdeal.τ Cert.GuKernelIdeal.sig) → Buf (Elt Ideal) ℓ) (g : Dev Cert.GuKernelIdeal.nD → PrngReg)
    (m' : (ℓ : Loc Cert.GuReferenceIdeal.nD Cert.GuReferenceIdeal.τ Cert.GuReferenceIdeal.sig) → Buf (Elt Ideal) ℓ) (g' : Dev Cert.GuReferenceIdeal.nD → PrngReg), Pre_GuKernelIdeal_finite_gu m →
    (∀ c : Dev Cert.GuKernelIdeal.nD,
      m' ((c.tc : Thread Cert.GuReferenceIdeal.nD Cert.GuReferenceIdeal.τ).loc Cert.GuReferenceIdeal.main_arg0) = m ((c.tc : Thread Cert.GuKernelIdeal.nD Cert.GuKernelIdeal.τ).loc Cert.GuKernelIdeal.main_arg0)
      ∧ m' ((c.tc : Thread Cert.GuReferenceIdeal.nD Cert.GuReferenceIdeal.τ).loc Cert.GuReferenceIdeal.main_arg1) = m ((c.tc : Thread Cert.GuKernelIdeal.nD Cert.GuKernelIdeal.τ).loc Cert.GuKernelIdeal.main_arg1)
      ∧ m' ((c.tc : Thread Cert.GuReferenceIdeal.nD Cert.GuReferenceIdeal.τ).loc Cert.GuReferenceIdeal.main_arg2) = m ((c.tc : Thread Cert.GuKernelIdeal.nD Cert.GuKernelIdeal.τ).loc Cert.GuKernelIdeal.main_arg2)
      ∧ m' ((c.tc : Thread Cert.GuReferenceIdeal.nD Cert.GuReferenceIdeal.τ).loc Cert.GuReferenceIdeal.main_arg3) = m ((c.tc : Thread Cert.GuKernelIdeal.nD Cert.GuKernelIdeal.τ).loc Cert.GuKernelIdeal.main_arg3)
      ∧ m' ((c.tc : Thread Cert.GuReferenceIdeal.nD Cert.GuReferenceIdeal.τ).loc Cert.GuReferenceIdeal.main_arg4) = m ((c.tc : Thread Cert.GuKernelIdeal.nD Cert.GuKernelIdeal.τ).loc Cert.GuKernelIdeal.main_arg4)) →
    ∃ (v0 : (c : Dev Cert.GuKernelIdeal.nD) → Buf (Elt Ideal) ((c.tc : Thread Cert.GuKernelIdeal.nD Cert.GuKernelIdeal.τ).loc Cert.GuKernelIdeal.main_v8_0)) (v1 : (c : Dev Cert.GuKernelIdeal.nD) → Buf (Elt Ideal) ((c.tc : Thread Cert.GuKernelIdeal.nD Cert.GuKernelIdeal.τ).loc Cert.GuKernelIdeal.main_v8_1)),
      θ_run (Cert.GuKernelIdeal.defs (F := Ideal)) (onTc (τ := Cert.GuKernelIdeal.τ) (Cert.GuKernelIdeal.main (F := Ideal))) ⟨m, fun _ => 0, g⟩ (fun r => ∀ c : Dev Cert.GuKernelIdeal.nD,
          r.2.mem ((c.tc : Thread Cert.GuKernelIdeal.nD Cert.GuKernelIdeal.τ).loc Cert.GuKernelIdeal.main_v8_0) = v0 c
          ∧ r.2.mem ((c.tc : Thread Cert.GuKernelIdeal.nD Cert.GuKernelIdeal.τ).loc Cert.GuKernelIdeal.main_v8_1) = v1 c
          ∧ r.2.mem ((c.tc : Thread Cert.GuKernelIdeal.nD Cert.GuKernelIdeal.τ).loc Cert.GuKernelIdeal.main_arg0) = m ((c.tc : Thread Cert.GuKernelIdeal.nD Cert.GuKernelIdeal.τ).loc Cert.GuKernelIdeal.main_arg0)
          ∧ r.2.mem ((c.tc : Thread Cert.GuKernelIdeal.nD Cert.GuKernelIdeal.τ).loc Cert.GuKernelIdeal.main_arg1) = m ((c.tc : Thread Cert.GuKernelIdeal.nD Cert.GuKernelIdeal.τ).loc Cert.GuKernelIdeal.main_arg1)
          ∧ r.2.mem ((c.tc : Thread Cert.GuKernelIdeal.nD Cert.GuKernelIdeal.τ).loc Cert.GuKernelIdeal.main_arg2) = m ((c.tc : Thread Cert.GuKernelIdeal.nD Cert.GuKernelIdeal.τ).loc Cert.GuKernelIdeal.main_arg2)
          ∧ r.2.mem ((c.tc : Thread Cert.GuKernelIdeal.nD Cert.GuKernelIdeal.τ).loc Cert.GuKernelIdeal.main_arg3) = m ((c.tc : Thread Cert.GuKernelIdeal.nD Cert.GuKernelIdeal.τ).loc Cert.GuKernelIdeal.main_arg3)
          ∧ r.2.mem ((c.tc : Thread Cert.GuKernelIdeal.nD Cert.GuKernelIdeal.τ).loc Cert.GuKernelIdeal.main_arg4) = m ((c.tc : Thread Cert.GuKernelIdeal.nD Cert.GuKernelIdeal.τ).loc Cert.GuKernelIdeal.main_arg4))
      ∧ θ_run (Cert.GuReferenceIdeal.defs (F := Ideal)) (onTc (τ := Cert.GuReferenceIdeal.τ) (Cert.GuReferenceIdeal.main (F := Ideal))) ⟨m', fun _ => 0, g'⟩ (fun r => ∀ c : Dev Cert.GuReferenceIdeal.nD,
          r.2.mem ((c.tc : Thread Cert.GuReferenceIdeal.nD Cert.GuReferenceIdeal.τ).loc Cert.GuReferenceIdeal.main_v38) = v0 c
          ∧ r.2.mem ((c.tc : Thread Cert.GuReferenceIdeal.nD Cert.GuReferenceIdeal.τ).loc Cert.GuReferenceIdeal.main_v39) = v1 c
          ∧ r.2.mem ((c.tc : Thread Cert.GuReferenceIdeal.nD Cert.GuReferenceIdeal.τ).loc Cert.GuReferenceIdeal.main_arg0) = m' ((c.tc : Thread Cert.GuReferenceIdeal.nD Cert.GuReferenceIdeal.τ).loc Cert.GuReferenceIdeal.main_arg0)
          ∧ r.2.mem ((c.tc : Thread Cert.GuReferenceIdeal.nD Cert.GuReferenceIdeal.τ).loc Cert.GuReferenceIdeal.main_arg1) = m' ((c.tc : Thread Cert.GuReferenceIdeal.nD Cert.GuReferenceIdeal.τ).loc Cert.GuReferenceIdeal.main_arg1)
          ∧ r.2.mem ((c.tc : Thread Cert.GuReferenceIdeal.nD Cert.GuReferenceIdeal.τ).loc Cert.GuReferenceIdeal.main_arg2) = m' ((c.tc : Thread Cert.GuReferenceIdeal.nD Cert.GuReferenceIdeal.τ).loc Cert.GuReferenceIdeal.main_arg2)
          ∧ r.2.mem ((c.tc : Thread Cert.GuReferenceIdeal.nD Cert.GuReferenceIdeal.τ).loc Cert.GuReferenceIdeal.main_arg3) = m' ((c.tc : Thread Cert.GuReferenceIdeal.nD Cert.GuReferenceIdeal.τ).loc Cert.GuReferenceIdeal.main_arg3)
          ∧ r.2.mem ((c.tc : Thread Cert.GuReferenceIdeal.nD Cert.GuReferenceIdeal.τ).loc Cert.GuReferenceIdeal.main_arg4) = m' ((c.tc : Thread Cert.GuReferenceIdeal.nD Cert.GuReferenceIdeal.τ).loc Cert.GuReferenceIdeal.main_arg4))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v10)) (v1 : (c : Dev Cert.FfnKernelIdeal.nD) → Buf (Elt Ideal) ((c.tc : Thread Cert.FfnKernelIdeal.nD Cert.FfnKernelIdeal.τ).loc Cert.FfnKernelIdeal.main_v13)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v10) = v0 c
          ∧ r.2.mem ((c.tc : Thread Cert.FfnKernelIdeal.nD Cert.FfnKernelIdeal.τ).loc Cert.FfnKernelIdeal.main_v13) = v1 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v15) = v0 c
          ∧ r.2.mem ((c.tc : Thread Cert.FfnReferenceIdeal.nD Cert.FfnReferenceIdeal.τ).loc Cert.FfnReferenceIdeal.main_v16) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_FwdKernel_FwdKernelIdeal : Prop :=
  IdealRules.named_const.Statement Cert.FwdKernelIdeal.κ "mask" .f32 0xF149F2CA#32 ⊥

def algebraic_FwdKernelIdeal_FwdReferenceIdeal_pre_finite_fwd [hFwdKernelIdeal : Cert.FwdKernelIdeal.Facts] [hFwdReferenceIdeal : Cert.FwdReferenceIdeal.Facts] [hPre_finite_fwd : Cert.Pre_finite_fwd.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal_finite_fwd m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)) →
    ∃ (v0 : (c : Dev Cert.FwdKernelIdeal.nD) → Buf (Elt Ideal) ((c.tc : Thread Cert.FwdKernelIdeal.nD Cert.FwdKernelIdeal.τ).loc Cert.FwdKernelIdeal.main_v29)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v29) = v0 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v56) = v0 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3))

def preserves_BiasKernel_BiasKernelIdeal : Prop :=
  True

def algebraic_BiasKernelIdeal_BiasReferenceIdeal_pre_finite_bias [hBiasKernelIdeal : Cert.BiasKernelIdeal.Facts] [hBiasReferenceIdeal : Cert.BiasReferenceIdeal.Facts] [hPre_finite_bias : Cert.Pre_finite_bias.Facts] : Prop :=
  ∀ (m : (ℓ : Loc Cert.BiasKernelIdeal.nD Cert.BiasKernelIdeal.τ Cert.BiasKernelIdeal.sig) → Buf (Elt Ideal) ℓ) (g : Dev Cert.BiasKernelIdeal.nD → PrngReg)
    (m' : (ℓ : Loc Cert.BiasReferenceIdeal.nD Cert.BiasReferenceIdeal.τ Cert.BiasReferenceIdeal.sig) → Buf (Elt Ideal) ℓ) (g' : Dev Cert.BiasReferenceIdeal.nD → PrngReg), Pre_BiasKernelIdeal_finite_bias m →
    (∀ c : Dev Cert.BiasKernelIdeal.nD,
      m' ((c.tc : Thread Cert.BiasReferenceIdeal.nD Cert.BiasReferenceIdeal.τ).loc Cert.BiasReferenceIdeal.main_arg0) = m ((c.tc : Thread Cert.BiasKernelIdeal.nD Cert.BiasKernelIdeal.τ).loc Cert.BiasKernelIdeal.main_arg0)
      ∧ m' ((c.tc : Thread Cert.BiasReferenceIdeal.nD Cert.BiasReferenceIdeal.τ).loc Cert.BiasReferenceIdeal.main_arg1) = m ((c.tc : Thread Cert.BiasKernelIdeal.nD Cert.BiasKernelIdeal.τ).loc Cert.BiasKernelIdeal.main_arg1)) →
    ∃ (v0 : (c : Dev Cert.BiasKernelIdeal.nD) → Buf (Elt Ideal) ((c.tc : Thread Cert.BiasKernelIdeal.nD Cert.BiasKernelIdeal.τ).loc Cert.BiasKernelIdeal.main_v3)),
      θ_run (Cert.BiasKernelIdeal.defs (F := Ideal)) (onTc (τ := Cert.BiasKernelIdeal.τ) (Cert.BiasKernelIdeal.main (F := Ideal))) ⟨m, fun _ => 0, g⟩ (fun r => ∀ c : Dev Cert.BiasKernelIdeal.nD,
          r.2.mem ((c.tc : Thread Cert.BiasKernelIdeal.nD Cert.BiasKernelIdeal.τ).loc Cert.BiasKernelIdeal.main_v3) = v0 c
          ∧ r.2.mem ((c.tc : Thread Cert.BiasKernelIdeal.nD Cert.BiasKernelIdeal.τ).loc Cert.BiasKernelIdeal.main_arg0) = m ((c.tc : Thread Cert.BiasKernelIdeal.nD Cert.BiasKernelIdeal.τ).loc Cert.BiasKernelIdeal.main_arg0)
          ∧ r.2.mem ((c.tc : Thread Cert.BiasKernelIdeal.nD Cert.BiasKernelIdeal.τ).loc Cert.BiasKernelIdeal.main_arg1) = m ((c.tc : Thread Cert.BiasKernelIdeal.nD Cert.BiasKernelIdeal.τ).loc Cert.BiasKernelIdeal.main_arg1))
      ∧ θ_run (Cert.BiasReferenceIdeal.defs (F := Ideal)) (onTc (τ := Cert.BiasReferenceIdeal.τ) (Cert.BiasReferenceIdeal.main (F := Ideal))) ⟨m', fun _ => 0, g'⟩ (fun r => ∀ c : Dev Cert.BiasReferenceIdeal.nD,
          r.2.mem ((c.tc : Thread Cert.BiasReferenceIdeal.nD Cert.BiasReferenceIdeal.τ).loc Cert.BiasReferenceIdeal.main_v20) = v0 c
          ∧ r.2.mem ((c.tc : Thread Cert.BiasReferenceIdeal.nD Cert.BiasReferenceIdeal.τ).loc Cert.BiasReferenceIdeal.main_arg0) = m' ((c.tc : Thread Cert.BiasReferenceIdeal.nD Cert.BiasReferenceIdeal.τ).loc Cert.BiasReferenceIdeal.main_arg0)
          ∧ r.2.mem ((c.tc : Thread Cert.BiasReferenceIdeal.nD Cert.BiasReferenceIdeal.τ).loc Cert.BiasReferenceIdeal.main_arg1) = m' ((c.tc : Thread Cert.BiasReferenceIdeal.nD Cert.BiasReferenceIdeal.τ).loc Cert.BiasReferenceIdeal.main_arg1))

def preserves_SguKernel_SguKernelIdeal : Prop :=
  True

def algebraic_SguKernelIdeal_SguReferenceIdeal_pre_finite_sgu [hSguKernelIdeal : Cert.SguKernelIdeal.Facts] [hSguReferenceIdeal : Cert.SguReferenceIdeal.Facts] [hPre_finite_sgu : Cert.Pre_finite_sgu.Facts] : Prop :=
  ∀ (m : (ℓ : Loc Cert.SguKernelIdeal.nD Cert.SguKernelIdeal.τ Cert.SguKernelIdeal.sig) → Buf (Elt Ideal) ℓ) (g : Dev Cert.SguKernelIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguKernelIdeal_finite_sgu m →
    (∀ c : Dev Cert.SguKernelIdeal.nD,
      m' ((c.tc : Thread Cert.SguReferenceIdeal.nD Cert.SguReferenceIdeal.τ).loc Cert.SguReferenceIdeal.main_arg0) = m ((c.tc : Thread Cert.SguKernelIdeal.nD Cert.SguKernelIdeal.τ).loc Cert.SguKernelIdeal.main_arg0)
      ∧ m' ((c.tc : Thread Cert.SguReferenceIdeal.nD Cert.SguReferenceIdeal.τ).loc Cert.SguReferenceIdeal.main_arg1) = m ((c.tc : Thread Cert.SguKernelIdeal.nD Cert.SguKernelIdeal.τ).loc Cert.SguKernelIdeal.main_arg1)
      ∧ m' ((c.tc : Thread Cert.SguReferenceIdeal.nD Cert.SguReferenceIdeal.τ).loc Cert.SguReferenceIdeal.main_arg2) = m ((c.tc : Thread Cert.SguKernelIdeal.nD Cert.SguKernelIdeal.τ).loc Cert.SguKernelIdeal.main_arg2)
      ∧ m' ((c.tc : Thread Cert.SguReferenceIdeal.nD Cert.SguReferenceIdeal.τ).loc Cert.SguReferenceIdeal.main_arg3) = m ((c.tc : Thread Cert.SguKernelIdeal.nD Cert.SguKernelIdeal.τ).loc Cert.SguKernelIdeal.main_arg3)
      ∧ m' ((c.tc : Thread Cert.SguReferenceIdeal.nD Cert.SguReferenceIdeal.τ).loc Cert.SguReferenceIdeal.main_arg4) = m ((c.tc : Thread Cert.SguKernelIdeal.nD Cert.SguKernelIdeal.τ).loc Cert.SguKernelIdeal.main_arg4)) →
    ∃ (v0 : (c : Dev Cert.SguKernelIdeal.nD) → Buf (Elt Ideal) ((c.tc : Thread Cert.SguKernelIdeal.nD Cert.SguKernelIdeal.τ).loc Cert.SguKernelIdeal.main_v31_0)) (v1 : (c : Dev Cert.SguKernelIdeal.nD) → Buf (Elt Ideal) ((c.tc : Thread Cert.SguKernelIdeal.nD Cert.SguKernelIdeal.τ).loc Cert.SguKernelIdeal.main_v31_1)) (v2 : (c : Dev Cert.SguKernelIdeal.nD) → Buf (Elt Ideal) ((c.tc : Thread Cert.SguKernelIdeal.nD Cert.SguKernelIdeal.τ).loc Cert.SguKernelIdeal.main_v32)) (v3 : (c : Dev Cert.SguKernelIdeal.nD) → Buf (Elt Ideal) ((c.tc : Thread Cert.SguKernelIdeal.nD Cert.SguKernelIdeal.τ).loc Cert.SguKernelIdeal.main_v33)),
      θ_run (Cert.SguKernelIdeal.defs (F := Ideal)) (onTc (τ := Cert.SguKernelIdeal.τ) (Cert.SguKernelIdeal.main (F := Ideal))) ⟨m, fun _ => 0, g⟩ (fun r => ∀ c : Dev Cert.SguKernelIdeal.nD,
          r.2.mem ((c.tc : Thread Cert.SguKernelIdeal.nD Cert.SguKernelIdeal.τ).loc Cert.SguKernelIdeal.main_v31_0) = v0 c
          ∧ r.2.mem ((c.tc : Thread Cert.SguKernelIdeal.nD Cert.SguKernelIdeal.τ).loc Cert.SguKernelIdeal.main_v31_1) = v1 c
          ∧ r.2.mem ((c.tc : Thread Cert.SguKernelIdeal.nD Cert.SguKernelIdeal.τ).loc Cert.SguKernelIdeal.main_v32) = v2 c
          ∧ r.2.mem ((c.tc : Thread Cert.SguKernelIdeal.nD Cert.SguKernelIdeal.τ).loc Cert.SguKernelIdeal.main_v33) = v3 c
          ∧ r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
          ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
          ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
          ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
          ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v94) = v0 c
          ∧ r.2.mem ((c.tc : Thread Cert.SguReferenceIdeal.nD Cert.SguReferenceIdeal.τ).loc Cert.SguReferenceIdeal.main_v60) = v1 c
          ∧ r.2.mem ((c.tc : Thread Cert.SguReferenceIdeal.nD Cert.SguReferenceIdeal.τ).loc Cert.SguReferenceIdeal.main_v54) = v2 c
          ∧ r.2.mem ((c.tc : Thread Cert.SguReferenceIdeal.nD Cert.SguReferenceIdeal.τ).loc Cert.SguReferenceIdeal.main_v67) = v3 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4))

def preserves_RmsKernel_RmsKernelIdeal : Prop :=
  True

def algebraic_RmsKernelIdeal_RmsReferenceIdeal [hRmsKernelIdeal : Cert.RmsKernelIdeal.Facts] [hRmsReferenceIdeal : Cert.RmsReferenceIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsKernelIdeal m →
    (∀ c : Dev Cert.RmsKernelIdeal.nD,
      m' ((c.tc : Thread Cert.RmsReferenceIdeal.nD Cert.RmsReferenceIdeal.τ).loc Cert.RmsReferenceIdeal.main_arg0) = m ((c.tc : Thread Cert.RmsKernelIdeal.nD Cert.RmsKernelIdeal.τ).loc Cert.RmsKernelIdeal.main_arg0)
      ∧ m' ((c.tc : Thread Cert.RmsReferenceIdeal.nD Cert.RmsReferenceIdeal.τ).loc Cert.RmsReferenceIdeal.main_arg1) = m ((c.tc : Thread Cert.RmsKernelIdeal.nD Cert.RmsKernelIdeal.τ).loc Cert.RmsKernelIdeal.main_arg1)) →
    ∃ (v0 : (c : Dev Cert.RmsKernelIdeal.nD) → Buf (Elt Ideal) ((c.tc : Thread Cert.RmsKernelIdeal.nD Cert.RmsKernelIdeal.τ).loc Cert.RmsKernelIdeal.main_v1)),
      θ_run (Cert.RmsKernelIdeal.defs (F := Ideal)) (onTc (τ := Cert.RmsKernelIdeal.τ) (Cert.RmsKernelIdeal.main (F := Ideal))) ⟨m, fun _ => 0, g⟩ (fun r => ∀ c : Dev Cert.RmsKernelIdeal.nD,
          r.2.mem ((c.tc : Thread Cert.RmsKernelIdeal.nD Cert.RmsKernelIdeal.τ).loc Cert.RmsKernelIdeal.main_v1) = v0 c
          ∧ r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
          ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v13) = v0 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1))

def preserves_BuildKernel_BuildKernelIdeal : Prop :=
  True

def algebraic_BuildKernelIdeal_BuildReferenceIdeal_pre_finite_build [hBuildKernelIdeal : Cert.BuildKernelIdeal.Facts] [hBuildReferenceIdeal : Cert.BuildReferenceIdeal.Facts] [hPre_finite_build : Cert.Pre_finite_build.Facts] : Prop :=
  ∀ (m : (ℓ : Loc Cert.BuildKernelIdeal.nD Cert.BuildKernelIdeal.τ Cert.BuildKernelIdeal.sig) → Buf (Elt Ideal) ℓ) (g : Dev Cert.BuildKernelIdeal.nD → PrngReg)
    (m' : (ℓ : Loc Cert.BuildReferenceIdeal.nD Cert.BuildReferenceIdeal.τ Cert.BuildReferenceIdeal.sig) → Buf (Elt Ideal) ℓ) (g' : Dev Cert.BuildReferenceIdeal.nD → PrngReg), Pre_BuildKernelIdeal_finite_build m →
    (∀ c : Dev Cert.BuildKernelIdeal.nD,
      m' ((c.tc : Thread Cert.BuildReferenceIdeal.nD Cert.BuildReferenceIdeal.τ).loc Cert.BuildReferenceIdeal.main_arg0) = m ((c.tc : Thread Cert.BuildKernelIdeal.nD Cert.BuildKernelIdeal.τ).loc Cert.BuildKernelIdeal.main_arg0)) →
    ∃ (v0 : (c : Dev Cert.BuildKernelIdeal.nD) → Buf (Elt Ideal) ((c.tc : Thread Cert.BuildKernelIdeal.nD Cert.BuildKernelIdeal.τ).loc Cert.BuildKernelIdeal.main_v2)),
      θ_run (Cert.BuildKernelIdeal.defs (F := Ideal)) (onTc (τ := Cert.BuildKernelIdeal.τ) (Cert.BuildKernelIdeal.main (F := Ideal))) ⟨m, fun _ => 0, g⟩ (fun r => ∀ c : Dev Cert.BuildKernelIdeal.nD,
          r.2.mem ((c.tc : Thread Cert.BuildKernelIdeal.nD Cert.BuildKernelIdeal.τ).loc Cert.BuildKernelIdeal.main_v2) = v0 c
          ∧ r.2.mem ((c.tc : Thread Cert.BuildKernelIdeal.nD Cert.BuildKernelIdeal.τ).loc Cert.BuildKernelIdeal.main_arg0) = m ((c.tc : Thread Cert.BuildKernelIdeal.nD Cert.BuildKernelIdeal.τ).loc Cert.BuildKernelIdeal.main_arg0))
      ∧ θ_run (Cert.BuildReferenceIdeal.defs (F := Ideal)) (onTc (τ := Cert.BuildReferenceIdeal.τ) (Cert.BuildReferenceIdeal.main (F := Ideal))) ⟨m', fun _ => 0, g'⟩ (fun r => ∀ c : Dev Cert.BuildReferenceIdeal.nD,
          r.2.mem ((c.tc : Thread Cert.BuildReferenceIdeal.nD Cert.BuildReferenceIdeal.τ).loc Cert.BuildReferenceIdeal.main_v34) = v0 c
          ∧ r.2.mem ((c.tc : Thread Cert.BuildReferenceIdeal.nD Cert.BuildReferenceIdeal.τ).loc Cert.BuildReferenceIdeal.main_arg0) = m' ((c.tc : Thread Cert.BuildReferenceIdeal.nD Cert.BuildReferenceIdeal.τ).loc Cert.BuildReferenceIdeal.main_arg0))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v5)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v5) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_ColKernel_ColKernelIdeal : Prop :=
  True

def algebraic_ColKernelIdeal_ColReferenceIdeal [hColKernelIdeal : Cert.ColKernelIdeal.Facts] [hColReferenceIdeal : Cert.ColReferenceIdeal.Facts] : Prop :=
  ∀ (m : (ℓ : Loc Cert.ColKernelIdeal.nD Cert.ColKernelIdeal.τ Cert.ColKernelIdeal.sig) → Buf (Elt Ideal) ℓ) (g : Dev Cert.ColKernelIdeal.nD → PrngReg)
    (m' : (ℓ : Loc Cert.ColReferenceIdeal.nD Cert.ColReferenceIdeal.τ Cert.ColReferenceIdeal.sig) → Buf (Elt Ideal) ℓ) (g' : Dev Cert.ColReferenceIdeal.nD → PrngReg), Pre_ColKernelIdeal m →
    (∀ c : Dev Cert.ColKernelIdeal.nD,
      m' ((c.tc : Thread Cert.ColReferenceIdeal.nD Cert.ColReferenceIdeal.τ).loc Cert.ColReferenceIdeal.main_arg0) = m ((c.tc : Thread Cert.ColKernelIdeal.nD Cert.ColKernelIdeal.τ).loc Cert.ColKernelIdeal.main_arg0)
      ∧ m' ((c.tc : Thread Cert.ColReferenceIdeal.nD Cert.ColReferenceIdeal.τ).loc Cert.ColReferenceIdeal.main_arg1) = m ((c.tc : Thread Cert.ColKernelIdeal.nD Cert.ColKernelIdeal.τ).loc Cert.ColKernelIdeal.main_arg1)) →
    ∃ (v0 : (c : Dev Cert.ColKernelIdeal.nD) → Buf (Elt Ideal) ((c.tc : Thread Cert.ColKernelIdeal.nD Cert.ColKernelIdeal.τ).loc Cert.ColKernelIdeal.main_v5)),
      θ_run (Cert.ColKernelIdeal.defs (F := Ideal)) (onTc (τ := Cert.ColKernelIdeal.τ) (Cert.ColKernelIdeal.main (F := Ideal))) ⟨m, fun _ => 0, g⟩ (fun r => ∀ c : Dev Cert.ColKernelIdeal.nD,
          r.2.mem ((c.tc : Thread Cert.ColKernelIdeal.nD Cert.ColKernelIdeal.τ).loc Cert.ColKernelIdeal.main_v5) = v0 c
          ∧ r.2.mem ((c.tc : Thread Cert.ColKernelIdeal.nD Cert.ColKernelIdeal.τ).loc Cert.ColKernelIdeal.main_arg0) = m ((c.tc : Thread Cert.ColKernelIdeal.nD Cert.ColKernelIdeal.τ).loc Cert.ColKernelIdeal.main_arg0)
          ∧ r.2.mem ((c.tc : Thread Cert.ColKernelIdeal.nD Cert.ColKernelIdeal.τ).loc Cert.ColKernelIdeal.main_arg1) = m ((c.tc : Thread Cert.ColKernelIdeal.nD Cert.ColKernelIdeal.τ).loc Cert.ColKernelIdeal.main_arg1))
      ∧ θ_run (Cert.ColReferenceIdeal.defs (F := Ideal)) (onTc (τ := Cert.ColReferenceIdeal.τ) (Cert.ColReferenceIdeal.main (F := Ideal))) ⟨m', fun _ => 0, g'⟩ (fun r => ∀ c : Dev Cert.ColReferenceIdeal.nD,
          r.2.mem ((c.tc : Thread Cert.ColReferenceIdeal.nD Cert.ColReferenceIdeal.τ).loc Cert.ColReferenceIdeal.main_v1) = v0 c
          ∧ r.2.mem ((c.tc : Thread Cert.ColReferenceIdeal.nD Cert.ColReferenceIdeal.τ).loc Cert.ColReferenceIdeal.main_arg0) = m' ((c.tc : Thread Cert.ColReferenceIdeal.nD Cert.ColReferenceIdeal.τ).loc Cert.ColReferenceIdeal.main_arg0)
          ∧ r.2.mem ((c.tc : Thread Cert.ColReferenceIdeal.nD Cert.ColReferenceIdeal.τ).loc Cert.ColReferenceIdeal.main_arg1) = m' ((c.tc : Thread Cert.ColReferenceIdeal.nD Cert.ColReferenceIdeal.τ).loc Cert.ColReferenceIdeal.main_arg1))

def preserves_TnatKernel_TnatKernelIdeal : Prop :=
  True

def algebraic_TnatKernelIdeal_TnatReferenceIdeal [hTnatKernelIdeal : Cert.TnatKernelIdeal.Facts] [hTnatReferenceIdeal : Cert.TnatReferenceIdeal.Facts] : Prop :=
  ∀ (m : (ℓ : Loc Cert.TnatKernelIdeal.nD Cert.TnatKernelIdeal.τ Cert.TnatKernelIdeal.sig) → Buf (Elt Ideal) ℓ) (g : Dev Cert.TnatKernelIdeal.nD → PrngReg)
    (m' : (ℓ : Loc Cert.TnatReferenceIdeal.nD Cert.TnatReferenceIdeal.τ Cert.TnatReferenceIdeal.sig) → Buf (Elt Ideal) ℓ) (g' : Dev Cert.TnatReferenceIdeal.nD → PrngReg), Pre_TnatKernelIdeal m →
    (∀ c : Dev Cert.TnatKernelIdeal.nD,
      m' ((c.tc : Thread Cert.TnatReferenceIdeal.nD Cert.TnatReferenceIdeal.τ).loc Cert.TnatReferenceIdeal.main_arg0) = m ((c.tc : Thread Cert.TnatKernelIdeal.nD Cert.TnatKernelIdeal.τ).loc Cert.TnatKernelIdeal.main_arg0)
      ∧ m' ((c.tc : Thread Cert.TnatReferenceIdeal.nD Cert.TnatReferenceIdeal.τ).loc Cert.TnatReferenceIdeal.main_arg1) = m ((c.tc : Thread Cert.TnatKernelIdeal.nD Cert.TnatKernelIdeal.τ).loc Cert.TnatKernelIdeal.main_arg1)) →
    ∃ (v0 : (c : Dev Cert.TnatKernelIdeal.nD) → Buf (Elt Ideal) ((c.tc : Thread Cert.TnatKernelIdeal.nD Cert.TnatKernelIdeal.τ).loc Cert.TnatKernelIdeal.main_v2)),
      θ_run (Cert.TnatKernelIdeal.defs (F := Ideal)) (onTc (τ := Cert.TnatKernelIdeal.τ) (Cert.TnatKernelIdeal.main (F := Ideal))) ⟨m, fun _ => 0, g⟩ (fun r => ∀ c : Dev Cert.TnatKernelIdeal.nD,
          r.2.mem ((c.tc : Thread Cert.TnatKernelIdeal.nD Cert.TnatKernelIdeal.τ).loc Cert.TnatKernelIdeal.main_v2) = v0 c
          ∧ r.2.mem ((c.tc : Thread Cert.TnatKernelIdeal.nD Cert.TnatKernelIdeal.τ).loc Cert.TnatKernelIdeal.main_arg0) = m ((c.tc : Thread Cert.TnatKernelIdeal.nD Cert.TnatKernelIdeal.τ).loc Cert.TnatKernelIdeal.main_arg0)
          ∧ r.2.mem ((c.tc : Thread Cert.TnatKernelIdeal.nD Cert.TnatKernelIdeal.τ).loc Cert.TnatKernelIdeal.main_arg1) = m ((c.tc : Thread Cert.TnatKernelIdeal.nD Cert.TnatKernelIdeal.τ).loc Cert.TnatKernelIdeal.main_arg1))
      ∧ θ_run (Cert.TnatReferenceIdeal.defs (F := Ideal)) (onTc (τ := Cert.TnatReferenceIdeal.τ) (Cert.TnatReferenceIdeal.main (F := Ideal))) ⟨m', fun _ => 0, g'⟩ (fun r => ∀ c : Dev Cert.TnatReferenceIdeal.nD,
          r.2.mem ((c.tc : Thread Cert.TnatReferenceIdeal.nD Cert.TnatReferenceIdeal.τ).loc Cert.TnatReferenceIdeal.main_v2) = v0 c
          ∧ r.2.mem ((c.tc : Thread Cert.TnatReferenceIdeal.nD Cert.TnatReferenceIdeal.τ).loc Cert.TnatReferenceIdeal.main_arg0) = m' ((c.tc : Thread Cert.TnatReferenceIdeal.nD Cert.TnatReferenceIdeal.τ).loc Cert.TnatReferenceIdeal.main_arg0)
          ∧ r.2.mem ((c.tc : Thread Cert.TnatReferenceIdeal.nD Cert.TnatReferenceIdeal.τ).loc Cert.TnatReferenceIdeal.main_arg1) = m' ((c.tc : Thread Cert.TnatReferenceIdeal.nD Cert.TnatReferenceIdeal.τ).loc Cert.TnatReferenceIdeal.main_arg1))

def preserves_DwcolKernel_DwcolKernelIdeal : Prop :=
  True

def algebraic_DwcolKernelIdeal_DwcolReferenceIdeal [hDwcolKernelIdeal : Cert.DwcolKernelIdeal.Facts] [hDwcolReferenceIdeal : Cert.DwcolReferenceIdeal.Facts] : Prop :=
  ∀ (m : (ℓ : Loc Cert.DwcolKernelIdeal.nD Cert.DwcolKernelIdeal.τ Cert.DwcolKernelIdeal.sig) → Buf (Elt Ideal) ℓ) (g : Dev Cert.DwcolKernelIdeal.nD → PrngReg)
    (m' : (ℓ : Loc Cert.DwcolReferenceIdeal.nD Cert.DwcolReferenceIdeal.τ Cert.DwcolReferenceIdeal.sig) → Buf (Elt Ideal) ℓ) (g' : Dev Cert.DwcolReferenceIdeal.nD → PrngReg), Pre_DwcolKernelIdeal m →
    (∀ c : Dev Cert.DwcolKernelIdeal.nD,
      m' ((c.tc : Thread Cert.DwcolReferenceIdeal.nD Cert.DwcolReferenceIdeal.τ).loc Cert.DwcolReferenceIdeal.main_arg0) = m ((c.tc : Thread Cert.DwcolKernelIdeal.nD Cert.DwcolKernelIdeal.τ).loc Cert.DwcolKernelIdeal.main_arg0)
      ∧ m' ((c.tc : Thread Cert.DwcolReferenceIdeal.nD Cert.DwcolReferenceIdeal.τ).loc Cert.DwcolReferenceIdeal.main_arg1) = m ((c.tc : Thread Cert.DwcolKernelIdeal.nD Cert.DwcolKernelIdeal.τ).loc Cert.DwcolKernelIdeal.main_arg1)) →
    ∃ (v0 : (c : Dev Cert.DwcolKernelIdeal.nD) → Buf (Elt Ideal) ((c.tc : Thread Cert.DwcolKernelIdeal.nD Cert.DwcolKernelIdeal.τ).loc Cert.DwcolKernelIdeal.main_v4)),
      θ_run (Cert.DwcolKernelIdeal.defs (F := Ideal)) (onTc (τ := Cert.DwcolKernelIdeal.τ) (Cert.DwcolKernelIdeal.main (F := Ideal))) ⟨m, fun _ => 0, g⟩ (fun r => ∀ c : Dev Cert.DwcolKernelIdeal.nD,
          r.2.mem ((c.tc : Thread Cert.DwcolKernelIdeal.nD Cert.DwcolKernelIdeal.τ).loc Cert.DwcolKernelIdeal.main_v4) = v0 c
          ∧ r.2.mem ((c.tc : Thread Cert.DwcolKernelIdeal.nD Cert.DwcolKernelIdeal.τ).loc Cert.DwcolKernelIdeal.main_arg0) = m ((c.tc : Thread Cert.DwcolKernelIdeal.nD Cert.DwcolKernelIdeal.τ).loc Cert.DwcolKernelIdeal.main_arg0)
          ∧ r.2.mem ((c.tc : Thread Cert.DwcolKernelIdeal.nD Cert.DwcolKernelIdeal.τ).loc Cert.DwcolKernelIdeal.main_arg1) = m ((c.tc : Thread Cert.DwcolKernelIdeal.nD Cert.DwcolKernelIdeal.τ).loc Cert.DwcolKernelIdeal.main_arg1))
      ∧ θ_run (Cert.DwcolReferenceIdeal.defs (F := Ideal)) (onTc (τ := Cert.DwcolReferenceIdeal.τ) (Cert.DwcolReferenceIdeal.main (F := Ideal))) ⟨m', fun _ => 0, g'⟩ (fun r => ∀ c : Dev Cert.DwcolReferenceIdeal.nD,
          r.2.mem ((c.tc : Thread Cert.DwcolReferenceIdeal.nD Cert.DwcolReferenceIdeal.τ).loc Cert.DwcolReferenceIdeal.main_v3) = v0 c
          ∧ r.2.mem ((c.tc : Thread Cert.DwcolReferenceIdeal.nD Cert.DwcolReferenceIdeal.τ).loc Cert.DwcolReferenceIdeal.main_arg0) = m' ((c.tc : Thread Cert.DwcolReferenceIdeal.nD Cert.DwcolReferenceIdeal.τ).loc Cert.DwcolReferenceIdeal.main_arg0)
          ∧ r.2.mem ((c.tc : Thread Cert.DwcolReferenceIdeal.nD Cert.DwcolReferenceIdeal.τ).loc Cert.DwcolReferenceIdeal.main_arg1) = m' ((c.tc : Thread Cert.DwcolReferenceIdeal.nD Cert.DwcolReferenceIdeal.τ).loc Cert.DwcolReferenceIdeal.main_arg1))

def preserves_OsumKernel_OsumKernelIdeal : Prop :=
  True

def algebraic_OsumKernelIdeal_OsumReferenceIdeal [hOsumKernelIdeal : Cert.OsumKernelIdeal.Facts] [hOsumReferenceIdeal : Cert.OsumReferenceIdeal.Facts] : Prop :=
  ∀ (m : (ℓ : Loc Cert.OsumKernelIdeal.nD Cert.OsumKernelIdeal.τ Cert.OsumKernelIdeal.sig) → Buf (Elt Ideal) ℓ) (g : Dev Cert.OsumKernelIdeal.nD → PrngReg)
    (m' : (ℓ : Loc Cert.OsumReferenceIdeal.nD Cert.OsumReferenceIdeal.τ Cert.OsumReferenceIdeal.sig) → Buf (Elt Ideal) ℓ) (g' : Dev Cert.OsumReferenceIdeal.nD → PrngReg), Pre_OsumKernelIdeal m →
    (∀ c : Dev Cert.OsumKernelIdeal.nD,
      m' ((c.tc : Thread Cert.OsumReferenceIdeal.nD Cert.OsumReferenceIdeal.τ).loc Cert.OsumReferenceIdeal.main_arg0) = m ((c.tc : Thread Cert.OsumKernelIdeal.nD Cert.OsumKernelIdeal.τ).loc Cert.OsumKernelIdeal.main_arg0)) →
    ∃ (v0 : (c : Dev Cert.OsumKernelIdeal.nD) → Buf (Elt Ideal) ((c.tc : Thread Cert.OsumKernelIdeal.nD Cert.OsumKernelIdeal.τ).loc Cert.OsumKernelIdeal.main_v0)),
      θ_run (Cert.OsumKernelIdeal.defs (F := Ideal)) (onTc (τ := Cert.OsumKernelIdeal.τ) (Cert.OsumKernelIdeal.main (F := Ideal))) ⟨m, fun _ => 0, g⟩ (fun r => ∀ c : Dev Cert.OsumKernelIdeal.nD,
          r.2.mem ((c.tc : Thread Cert.OsumKernelIdeal.nD Cert.OsumKernelIdeal.τ).loc Cert.OsumKernelIdeal.main_v0) = v0 c
          ∧ r.2.mem ((c.tc : Thread Cert.OsumKernelIdeal.nD Cert.OsumKernelIdeal.τ).loc Cert.OsumKernelIdeal.main_arg0) = m ((c.tc : Thread Cert.OsumKernelIdeal.nD Cert.OsumKernelIdeal.τ).loc Cert.OsumKernelIdeal.main_arg0))
      ∧ θ_run (Cert.OsumReferenceIdeal.defs (F := Ideal)) (onTc (τ := Cert.OsumReferenceIdeal.τ) (Cert.OsumReferenceIdeal.main (F := Ideal))) ⟨m', fun _ => 0, g'⟩ (fun r => ∀ c : Dev Cert.OsumReferenceIdeal.nD,
          r.2.mem ((c.tc : Thread Cert.OsumReferenceIdeal.nD Cert.OsumReferenceIdeal.τ).loc Cert.OsumReferenceIdeal.main_v0) = v0 c
          ∧ r.2.mem ((c.tc : Thread Cert.OsumReferenceIdeal.nD Cert.OsumReferenceIdeal.τ).loc Cert.OsumReferenceIdeal.main_arg0) = m' ((c.tc : Thread Cert.OsumReferenceIdeal.nD Cert.OsumReferenceIdeal.τ).loc Cert.OsumReferenceIdeal.main_arg0))

def preserves_DwnatKernel_DwnatKernelIdeal : Prop :=
  True

def algebraic_DwnatKernelIdeal_DwnatReferenceIdeal [hDwnatKernelIdeal : Cert.DwnatKernelIdeal.Facts] [hDwnatReferenceIdeal : Cert.DwnatReferenceIdeal.Facts] : Prop :=
  ∀ (m : (ℓ : Loc Cert.DwnatKernelIdeal.nD Cert.DwnatKernelIdeal.τ Cert.DwnatKernelIdeal.sig) → Buf (Elt Ideal) ℓ) (g : Dev Cert.DwnatKernelIdeal.nD → PrngReg)
    (m' : (ℓ : Loc Cert.DwnatReferenceIdeal.nD Cert.DwnatReferenceIdeal.τ Cert.DwnatReferenceIdeal.sig) → Buf (Elt Ideal) ℓ) (g' : Dev Cert.DwnatReferenceIdeal.nD → PrngReg), Pre_DwnatKernelIdeal m →
    (∀ c : Dev Cert.DwnatKernelIdeal.nD,
      m' ((c.tc : Thread Cert.DwnatReferenceIdeal.nD Cert.DwnatReferenceIdeal.τ).loc Cert.DwnatReferenceIdeal.main_arg0) = m ((c.tc : Thread Cert.DwnatKernelIdeal.nD Cert.DwnatKernelIdeal.τ).loc Cert.DwnatKernelIdeal.main_arg0)
      ∧ m' ((c.tc : Thread Cert.DwnatReferenceIdeal.nD Cert.DwnatReferenceIdeal.τ).loc Cert.DwnatReferenceIdeal.main_arg1) = m ((c.tc : Thread Cert.DwnatKernelIdeal.nD Cert.DwnatKernelIdeal.τ).loc Cert.DwnatKernelIdeal.main_arg1)) →
    ∃ (v0 : (c : Dev Cert.DwnatKernelIdeal.nD) → Buf (Elt Ideal) ((c.tc : Thread Cert.DwnatKernelIdeal.nD Cert.DwnatKernelIdeal.τ).loc Cert.DwnatKernelIdeal.main_v1)),
      θ_run (Cert.DwnatKernelIdeal.defs (F := Ideal)) (onTc (τ := Cert.DwnatKernelIdeal.τ) (Cert.DwnatKernelIdeal.main (F := Ideal))) ⟨m, fun _ => 0, g⟩ (fun r => ∀ c : Dev Cert.DwnatKernelIdeal.nD,
          r.2.mem ((c.tc : Thread Cert.DwnatKernelIdeal.nD Cert.DwnatKernelIdeal.τ).loc Cert.DwnatKernelIdeal.main_v1) = v0 c
          ∧ r.2.mem ((c.tc : Thread Cert.DwnatKernelIdeal.nD Cert.DwnatKernelIdeal.τ).loc Cert.DwnatKernelIdeal.main_arg0) = m ((c.tc : Thread Cert.DwnatKernelIdeal.nD Cert.DwnatKernelIdeal.τ).loc Cert.DwnatKernelIdeal.main_arg0)
          ∧ r.2.mem ((c.tc : Thread Cert.DwnatKernelIdeal.nD Cert.DwnatKernelIdeal.τ).loc Cert.DwnatKernelIdeal.main_arg1) = m ((c.tc : Thread Cert.DwnatKernelIdeal.nD Cert.DwnatKernelIdeal.τ).loc Cert.DwnatKernelIdeal.main_arg1))
      ∧ θ_run (Cert.DwnatReferenceIdeal.defs (F := Ideal)) (onTc (τ := Cert.DwnatReferenceIdeal.τ) (Cert.DwnatReferenceIdeal.main (F := Ideal))) ⟨m', fun _ => 0, g'⟩ (fun r => ∀ c : Dev Cert.DwnatReferenceIdeal.nD,
          r.2.mem ((c.tc : Thread Cert.DwnatReferenceIdeal.nD Cert.DwnatReferenceIdeal.τ).loc Cert.DwnatReferenceIdeal.main_v2) = v0 c
          ∧ r.2.mem ((c.tc : Thread Cert.DwnatReferenceIdeal.nD Cert.DwnatReferenceIdeal.τ).loc Cert.DwnatReferenceIdeal.main_arg0) = m' ((c.tc : Thread Cert.DwnatReferenceIdeal.nD Cert.DwnatReferenceIdeal.τ).loc Cert.DwnatReferenceIdeal.main_arg0)
          ∧ r.2.mem ((c.tc : Thread Cert.DwnatReferenceIdeal.nD Cert.DwnatReferenceIdeal.τ).loc Cert.DwnatReferenceIdeal.main_arg1) = m' ((c.tc : Thread Cert.DwnatReferenceIdeal.nD Cert.DwnatReferenceIdeal.τ).loc Cert.DwnatReferenceIdeal.main_arg1))

def preserves_DwdownKernel_DwdownKernelIdeal : Prop :=
  True

def algebraic_DwdownKernelIdeal_DwdownReferenceIdeal [hDwdownKernelIdeal : Cert.DwdownKernelIdeal.Facts] [hDwdownReferenceIdeal : Cert.DwdownReferenceIdeal.Facts] : Prop :=
  ∀ (m : (ℓ : Loc Cert.DwdownKernelIdeal.nD Cert.DwdownKernelIdeal.τ Cert.DwdownKernelIdeal.sig) → Buf (Elt Ideal) ℓ) (g : Dev Cert.DwdownKernelIdeal.nD → PrngReg)
    (m' : (ℓ : Loc Cert.DwdownReferenceIdeal.nD Cert.DwdownReferenceIdeal.τ Cert.DwdownReferenceIdeal.sig) → Buf (Elt Ideal) ℓ) (g' : Dev Cert.DwdownReferenceIdeal.nD → PrngReg), Pre_DwdownKernelIdeal m →
    (∀ c : Dev Cert.DwdownKernelIdeal.nD,
      m' ((c.tc : Thread Cert.DwdownReferenceIdeal.nD Cert.DwdownReferenceIdeal.τ).loc Cert.DwdownReferenceIdeal.main_arg0) = m ((c.tc : Thread Cert.DwdownKernelIdeal.nD Cert.DwdownKernelIdeal.τ).loc Cert.DwdownKernelIdeal.main_arg0)
      ∧ m' ((c.tc : Thread Cert.DwdownReferenceIdeal.nD Cert.DwdownReferenceIdeal.τ).loc Cert.DwdownReferenceIdeal.main_arg1) = m ((c.tc : Thread Cert.DwdownKernelIdeal.nD Cert.DwdownKernelIdeal.τ).loc Cert.DwdownKernelIdeal.main_arg1)) →
    ∃ (v0 : (c : Dev Cert.DwdownKernelIdeal.nD) → Buf (Elt Ideal) ((c.tc : Thread Cert.DwdownKernelIdeal.nD Cert.DwdownKernelIdeal.τ).loc Cert.DwdownKernelIdeal.main_v3)),
      θ_run (Cert.DwdownKernelIdeal.defs (F := Ideal)) (onTc (τ := Cert.DwdownKernelIdeal.τ) (Cert.DwdownKernelIdeal.main (F := Ideal))) ⟨m, fun _ => 0, g⟩ (fun r => ∀ c : Dev Cert.DwdownKernelIdeal.nD,
          r.2.mem ((c.tc : Thread Cert.DwdownKernelIdeal.nD Cert.DwdownKernelIdeal.τ).loc Cert.DwdownKernelIdeal.main_v3) = v0 c
          ∧ r.2.mem ((c.tc : Thread Cert.DwdownKernelIdeal.nD Cert.DwdownKernelIdeal.τ).loc Cert.DwdownKernelIdeal.main_arg0) = m ((c.tc : Thread Cert.DwdownKernelIdeal.nD Cert.DwdownKernelIdeal.τ).loc Cert.DwdownKernelIdeal.main_arg0)
          ∧ r.2.mem ((c.tc : Thread Cert.DwdownKernelIdeal.nD Cert.DwdownKernelIdeal.τ).loc Cert.DwdownKernelIdeal.main_arg1) = m ((c.tc : Thread Cert.DwdownKernelIdeal.nD Cert.DwdownKernelIdeal.τ).loc Cert.DwdownKernelIdeal.main_arg1))
      ∧ θ_run (Cert.DwdownReferenceIdeal.defs (F := Ideal)) (onTc (τ := Cert.DwdownReferenceIdeal.τ) (Cert.DwdownReferenceIdeal.main (F := Ideal))) ⟨m', fun _ => 0, g'⟩ (fun r => ∀ c : Dev Cert.DwdownReferenceIdeal.nD,
          r.2.mem ((c.tc : Thread Cert.DwdownReferenceIdeal.nD Cert.DwdownReferenceIdeal.τ).loc Cert.DwdownReferenceIdeal.main_v3) = v0 c
          ∧ r.2.mem ((c.tc : Thread Cert.DwdownReferenceIdeal.nD Cert.DwdownReferenceIdeal.τ).loc Cert.DwdownReferenceIdeal.main_arg0) = m' ((c.tc : Thread Cert.DwdownReferenceIdeal.nD Cert.DwdownReferenceIdeal.τ).loc Cert.DwdownReferenceIdeal.main_arg0)
          ∧ r.2.mem ((c.tc : Thread Cert.DwdownReferenceIdeal.nD Cert.DwdownReferenceIdeal.τ).loc Cert.DwdownReferenceIdeal.main_arg1) = m' ((c.tc : Thread Cert.DwdownReferenceIdeal.nD Cert.DwdownReferenceIdeal.τ).loc Cert.DwdownReferenceIdeal.main_arg1))

def preserves_AdamKernel_AdamKernelIdeal : Prop :=
  IdealRules.named_const.Statement Cert.AdamKernelIdeal.κ "c1" .f32 0x3FC48605#32 ((8388608 / 5463681 : ℝ) : EReal)
  ∧ IdealRules.named_const.Statement Cert.AdamKernelIdeal.κ "c2" .f32 0x42C8E6D3#32 ((268435456 / 2672307 : ℝ) : EReal)

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v1_0)) (v1 : (c : Dev Cert.AdamKernelIdeal.nD) → Buf (Elt Ideal) ((c.tc : Thread Cert.AdamKernelIdeal.nD Cert.AdamKernelIdeal.τ).loc Cert.AdamKernelIdeal.main_v1_1)) (v2 : (c : Dev Cert.AdamKernelIdeal.nD) → Buf (Elt Ideal) ((c.tc : Thread Cert.AdamKernelIdeal.nD Cert.AdamKernelIdeal.τ).loc Cert.AdamKernelIdeal.main_v1_2)) (v3 : (c : Dev Cert.AdamKernelIdeal.nD) → Buf (Elt Ideal) ((c.tc : Thread Cert.AdamKernelIdeal.nD Cert.AdamKernelIdeal.τ).loc Cert.AdamKernelIdeal.main_v1_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v1_0) = v0 c
          ∧ r.2.mem ((c.tc : Thread Cert.AdamKernelIdeal.nD Cert.AdamKernelIdeal.τ).loc Cert.AdamKernelIdeal.main_v1_1) = v1 c
          ∧ r.2.mem ((c.tc : Thread Cert.AdamKernelIdeal.nD Cert.AdamKernelIdeal.τ).loc Cert.AdamKernelIdeal.main_v1_2) = v2 c
          ∧ r.2.mem ((c.tc : Thread Cert.AdamKernelIdeal.nD Cert.AdamKernelIdeal.τ).loc Cert.AdamKernelIdeal.main_v1_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_arg1) = v0 c
          ∧ r.2.mem ((c.tc : Thread Cert.AdamReferenceIdeal.nD Cert.AdamReferenceIdeal.τ).loc Cert.AdamReferenceIdeal.main_v23) = v1 c
          ∧ r.2.mem ((c.tc : Thread Cert.AdamReferenceIdeal.nD Cert.AdamReferenceIdeal.τ).loc Cert.AdamReferenceIdeal.main_v4) = v2 c
          ∧ r.2.mem ((c.tc : Thread Cert.AdamReferenceIdeal.nD Cert.AdamReferenceIdeal.τ).loc Cert.AdamReferenceIdeal.main_v10) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def Claim : Prop :=
  ∃ (hLossKernel : Cert.LossKernel.Facts) (hLossKernelIdeal : Cert.LossKernelIdeal.Facts) (hLossReferenceIdeal : Cert.LossReferenceIdeal.Facts) (hAttnKernel : Cert.AttnKernel.Facts) (hAttnKernelIdeal : Cert.AttnKernelIdeal.Facts) (hAttnReferenceIdeal : Cert.AttnReferenceIdeal.Facts) (hBqKernel : Cert.BqKernel.Facts) (hBqKernelIdeal : Cert.BqKernelIdeal.Facts) (hBqReferenceIdeal : Cert.BqReferenceIdeal.Facts) (hGuKernel : Cert.GuKernel.Facts) (hGuKernelIdeal : Cert.GuKernelIdeal.Facts) (hGuReferenceIdeal : Cert.GuReferenceIdeal.Facts) (hFfnKernel : Cert.FfnKernel.Facts) (hFfnKernelIdeal : Cert.FfnKernelIdeal.Facts) (hFfnReferenceIdeal : Cert.FfnReferenceIdeal.Facts) (hFwdKernel : Cert.FwdKernel.Facts) (hFwdKernelIdeal : Cert.FwdKernelIdeal.Facts) (hFwdReferenceIdeal : Cert.FwdReferenceIdeal.Facts) (hBiasKernel : Cert.BiasKernel.Facts) (hBiasKernelIdeal : Cert.BiasKernelIdeal.Facts) (hBiasReferenceIdeal : Cert.BiasReferenceIdeal.Facts) (hSguKernel : Cert.SguKernel.Facts) (hSguKernelIdeal : Cert.SguKernelIdeal.Facts) (hSguReferenceIdeal : Cert.SguReferenceIdeal.Facts) (hRmsKernel : Cert.RmsKernel.Facts) (hRmsKernelIdeal : Cert.RmsKernelIdeal.Facts) (hRmsReferenceIdeal : Cert.RmsReferenceIdeal.Facts) (hBuildKernel : Cert.BuildKernel.Facts) (hBuildKernelIdeal : Cert.BuildKernelIdeal.Facts) (hBuildReferenceIdeal : Cert.BuildReferenceIdeal.Facts) (hOutKernel : Cert.OutKernel.Facts) (hOutKernelIdeal : Cert.OutKernelIdeal.Facts) (hOutReferenceIdeal : Cert.OutReferenceIdeal.Facts) (hDownKernel : Cert.DownKernel.Facts) (hDownKernelIdeal : Cert.DownKernelIdeal.Facts) (hDownReferenceIdeal : Cert.DownReferenceIdeal.Facts) (hColKernel : Cert.ColKernel.Facts) (hColKernelIdeal : Cert.ColKernelIdeal.Facts) (hColReferenceIdeal : Cert.ColReferenceIdeal.Facts) (hTnatKernel : Cert.TnatKernel.Facts) (hTnatKernelIdeal : Cert.TnatKernelIdeal.Facts) (hTnatReferenceIdeal : Cert.TnatReferenceIdeal.Facts) (hDwcolKernel : Cert.DwcolKernel.Facts) (hDwcolKernelIdeal : Cert.DwcolKernelIdeal.Facts) (hDwcolReferenceIdeal : Cert.DwcolReferenceIdeal.Facts) (hOsumKernel : Cert.OsumKernel.Facts) (hOsumKernelIdeal : Cert.OsumKernelIdeal.Facts) (hOsumReferenceIdeal : Cert.OsumReferenceIdeal.Facts) (hDwnatKernel : Cert.DwnatKernel.Facts) (hDwnatKernelIdeal : Cert.DwnatKernelIdeal.Facts) (hDwnatReferenceIdeal : Cert.DwnatReferenceIdeal.Facts) (hDwdownKernel : Cert.DwdownKernel.Facts) (hDwdownKernelIdeal : Cert.DwdownKernelIdeal.Facts) (hDwdownReferenceIdeal : Cert.DwdownReferenceIdeal.Facts) (hAdamKernel : Cert.AdamKernel.Facts) (hAdamKernelIdeal : Cert.AdamKernelIdeal.Facts) (hAdamReferenceIdeal : Cert.AdamReferenceIdeal.Facts) (hPre_finite_loss : Cert.Pre_finite_loss.Facts) (hPre_finite_attn : Cert.Pre_finite_attn.Facts) (hPre_finite_bq : Cert.Pre_finite_bq.Facts) (hPre_finite_gu : Cert.Pre_finite_gu.Facts) (hPre_finite_ffn : Cert.Pre_finite_ffn.Facts) (hPre_finite_fwd : Cert.Pre_finite_fwd.Facts) (hPre_finite_bias : Cert.Pre_finite_bias.Facts) (hPre_finite_sgu : Cert.Pre_finite_sgu.Facts) (hPre_finite_build : Cert.Pre_finite_build.Facts),
    quiescent_LossKernel (hLossKernel := hLossKernel)
    ∧ quiescent_LossKernelIdeal (hLossKernelIdeal := hLossKernelIdeal)
    ∧ quiescent_LossKernelIdeal_pre_finite_loss (hLossKernelIdeal := hLossKernelIdeal) (hPre_finite_loss := hPre_finite_loss)
    ∧ quiescent_LossReferenceIdeal (hLossReferenceIdeal := hLossReferenceIdeal)
    ∧ quiescent_LossReferenceIdeal_pre_finite_loss (hLossReferenceIdeal := hLossReferenceIdeal) (hPre_finite_loss := hPre_finite_loss)
    ∧ quiescent_AttnKernel (hAttnKernel := hAttnKernel)
    ∧ quiescent_AttnKernelIdeal (hAttnKernelIdeal := hAttnKernelIdeal)
    ∧ quiescent_AttnKernelIdeal_pre_finite_attn (hAttnKernelIdeal := hAttnKernelIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_BqKernel (hBqKernel := hBqKernel)
    ∧ quiescent_BqKernelIdeal (hBqKernelIdeal := hBqKernelIdeal)
    ∧ quiescent_BqKernelIdeal_pre_finite_bq (hBqKernelIdeal := hBqKernelIdeal) (hPre_finite_bq := hPre_finite_bq)
    ∧ quiescent_BqReferenceIdeal (hBqReferenceIdeal := hBqReferenceIdeal)
    ∧ quiescent_BqReferenceIdeal_pre_finite_bq (hBqReferenceIdeal := hBqReferenceIdeal) (hPre_finite_bq := hPre_finite_bq)
    ∧ quiescent_GuKernel (hGuKernel := hGuKernel)
    ∧ quiescent_GuKernelIdeal (hGuKernelIdeal := hGuKernelIdeal)
    ∧ quiescent_GuKernelIdeal_pre_finite_gu (hGuKernelIdeal := hGuKernelIdeal) (hPre_finite_gu := hPre_finite_gu)
    ∧ quiescent_GuReferenceIdeal (hGuReferenceIdeal := hGuReferenceIdeal)
    ∧ quiescent_GuReferenceIdeal_pre_finite_gu (hGuReferenceIdeal := hGuReferenceIdeal) (hPre_finite_gu := hPre_finite_gu)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_FwdKernel (hFwdKernel := hFwdKernel)
    ∧ quiescent_FwdKernelIdeal (hFwdKernelIdeal := hFwdKernelIdeal)
    ∧ quiescent_FwdKernelIdeal_pre_finite_fwd (hFwdKernelIdeal := hFwdKernelIdeal) (hPre_finite_fwd := hPre_finite_fwd)
    ∧ quiescent_FwdReferenceIdeal (hFwdReferenceIdeal := hFwdReferenceIdeal)
    ∧ quiescent_FwdReferenceIdeal_pre_finite_fwd (hFwdReferenceIdeal := hFwdReferenceIdeal) (hPre_finite_fwd := hPre_finite_fwd)
    ∧ quiescent_BiasKernel (hBiasKernel := hBiasKernel)
    ∧ quiescent_BiasKernelIdeal (hBiasKernelIdeal := hBiasKernelIdeal)
    ∧ quiescent_BiasKernelIdeal_pre_finite_bias (hBiasKernelIdeal := hBiasKernelIdeal) (hPre_finite_bias := hPre_finite_bias)
    ∧ quiescent_BiasReferenceIdeal (hBiasReferenceIdeal := hBiasReferenceIdeal)
    ∧ quiescent_BiasReferenceIdeal_pre_finite_bias (hBiasReferenceIdeal := hBiasReferenceIdeal) (hPre_finite_bias := hPre_finite_bias)
    ∧ quiescent_SguKernel (hSguKernel := hSguKernel)
    ∧ quiescent_SguKernelIdeal (hSguKernelIdeal := hSguKernelIdeal)
    ∧ quiescent_SguKernelIdeal_pre_finite_sgu (hSguKernelIdeal := hSguKernelIdeal) (hPre_finite_sgu := hPre_finite_sgu)
    ∧ quiescent_SguReferenceIdeal (hSguReferenceIdeal := hSguReferenceIdeal)
    ∧ quiescent_SguReferenceIdeal_pre_finite_sgu (hSguReferenceIdeal := hSguReferenceIdeal) (hPre_finite_sgu := hPre_finite_sgu)
    ∧ quiescent_RmsKernel (hRmsKernel := hRmsKernel)
    ∧ quiescent_RmsKernelIdeal (hRmsKernelIdeal := hRmsKernelIdeal)
    ∧ quiescent_RmsReferenceIdeal (hRmsReferenceIdeal := hRmsReferenceIdeal)
    ∧ quiescent_BuildKernel (hBuildKernel := hBuildKernel)
    ∧ quiescent_BuildKernelIdeal (hBuildKernelIdeal := hBuildKernelIdeal)
    ∧ quiescent_BuildKernelIdeal_pre_finite_build (hBuildKernelIdeal := hBuildKernelIdeal) (hPre_finite_build := hPre_finite_build)
    ∧ quiescent_BuildReferenceIdeal (hBuildReferenceIdeal := hBuildReferenceIdeal)
    ∧ quiescent_BuildReferenceIdeal_pre_finite_build (hBuildReferenceIdeal := hBuildReferenceIdeal) (hPre_finite_build := hPre_finite_build)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_ColKernel (hColKernel := hColKernel)
    ∧ quiescent_ColKernelIdeal (hColKernelIdeal := hColKernelIdeal)
    ∧ quiescent_ColReferenceIdeal (hColReferenceIdeal := hColReferenceIdeal)
    ∧ quiescent_TnatKernel (hTnatKernel := hTnatKernel)
    ∧ quiescent_TnatKernelIdeal (hTnatKernelIdeal := hTnatKernelIdeal)
    ∧ quiescent_TnatReferenceIdeal (hTnatReferenceIdeal := hTnatReferenceIdeal)
    ∧ quiescent_DwcolKernel (hDwcolKernel := hDwcolKernel)
    ∧ quiescent_DwcolKernelIdeal (hDwcolKernelIdeal := hDwcolKernelIdeal)
    ∧ quiescent_DwcolReferenceIdeal (hDwcolReferenceIdeal := hDwcolReferenceIdeal)
    ∧ quiescent_OsumKernel (hOsumKernel := hOsumKernel)
    ∧ quiescent_OsumKernelIdeal (hOsumKernelIdeal := hOsumKernelIdeal)
    ∧ quiescent_OsumReferenceIdeal (hOsumReferenceIdeal := hOsumReferenceIdeal)
    ∧ quiescent_DwnatKernel (hDwnatKernel := hDwnatKernel)
    ∧ quiescent_DwnatKernelIdeal (hDwnatKernelIdeal := hDwnatKernelIdeal)
    ∧ quiescent_DwnatReferenceIdeal (hDwnatReferenceIdeal := hDwnatReferenceIdeal)
    ∧ quiescent_DwdownKernel (hDwdownKernel := hDwdownKernel)
    ∧ quiescent_DwdownKernelIdeal (hDwdownKernelIdeal := hDwdownKernelIdeal)
    ∧ quiescent_DwdownReferenceIdeal (hDwdownReferenceIdeal := hDwdownReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ preserves_LossKernel_LossKernelIdeal
    ∧ algebraic_LossKernelIdeal_LossReferenceIdeal_pre_finite_loss (hLossKernelIdeal := hLossKernelIdeal) (hLossReferenceIdeal := hLossReferenceIdeal) (hPre_finite_loss := hPre_finite_loss)
    ∧ preserves_AttnKernel_AttnKernelIdeal
    ∧ algebraic_AttnKernelIdeal_AttnReferenceIdeal_pre_finite_attn (hAttnKernelIdeal := hAttnKernelIdeal) (hAttnReferenceIdeal := hAttnReferenceIdeal) (hPre_finite_attn := hPre_finite_attn)
    ∧ preserves_BqKernel_BqKernelIdeal
    ∧ algebraic_BqKernelIdeal_BqReferenceIdeal_pre_finite_bq (hBqKernelIdeal := hBqKernelIdeal) (hBqReferenceIdeal := hBqReferenceIdeal) (hPre_finite_bq := hPre_finite_bq)
    ∧ preserves_GuKernel_GuKernelIdeal
    ∧ algebraic_GuKernelIdeal_GuReferenceIdeal_pre_finite_gu (hGuKernelIdeal := hGuKernelIdeal) (hGuReferenceIdeal := hGuReferenceIdeal) (hPre_finite_gu := hPre_finite_gu)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_FwdKernel_FwdKernelIdeal
    ∧ algebraic_FwdKernelIdeal_FwdReferenceIdeal_pre_finite_fwd (hFwdKernelIdeal := hFwdKernelIdeal) (hFwdReferenceIdeal := hFwdReferenceIdeal) (hPre_finite_fwd := hPre_finite_fwd)
    ∧ preserves_BiasKernel_BiasKernelIdeal
    ∧ algebraic_BiasKernelIdeal_BiasReferenceIdeal_pre_finite_bias (hBiasKernelIdeal := hBiasKernelIdeal) (hBiasReferenceIdeal := hBiasReferenceIdeal) (hPre_finite_bias := hPre_finite_bias)
    ∧ preserves_SguKernel_SguKernelIdeal
    ∧ algebraic_SguKernelIdeal_SguReferenceIdeal_pre_finite_sgu (hSguKernelIdeal := hSguKernelIdeal) (hSguReferenceIdeal := hSguReferenceIdeal) (hPre_finite_sgu := hPre_finite_sgu)
    ∧ preserves_RmsKernel_RmsKernelIdeal
    ∧ algebraic_RmsKernelIdeal_RmsReferenceIdeal (hRmsKernelIdeal := hRmsKernelIdeal) (hRmsReferenceIdeal := hRmsReferenceIdeal)
    ∧ preserves_BuildKernel_BuildKernelIdeal
    ∧ algebraic_BuildKernelIdeal_BuildReferenceIdeal_pre_finite_build (hBuildKernelIdeal := hBuildKernelIdeal) (hBuildReferenceIdeal := hBuildReferenceIdeal) (hPre_finite_build := hPre_finite_build)
    ∧ preserves_OutKernel_OutKernelIdeal
    ∧ algebraic_OutKernelIdeal_OutReferenceIdeal (hOutKernelIdeal := hOutKernelIdeal) (hOutReferenceIdeal := hOutReferenceIdeal)
    ∧ preserves_DownKernel_DownKernelIdeal
    ∧ algebraic_DownKernelIdeal_DownReferenceIdeal (hDownKernelIdeal := hDownKernelIdeal) (hDownReferenceIdeal := hDownReferenceIdeal)
    ∧ preserves_ColKernel_ColKernelIdeal
    ∧ algebraic_ColKernelIdeal_ColReferenceIdeal (hColKernelIdeal := hColKernelIdeal) (hColReferenceIdeal := hColReferenceIdeal)
    ∧ preserves_TnatKernel_TnatKernelIdeal
    ∧ algebraic_TnatKernelIdeal_TnatReferenceIdeal (hTnatKernelIdeal := hTnatKernelIdeal) (hTnatReferenceIdeal := hTnatReferenceIdeal)
    ∧ preserves_DwcolKernel_DwcolKernelIdeal
    ∧ algebraic_DwcolKernelIdeal_DwcolReferenceIdeal (hDwcolKernelIdeal := hDwcolKernelIdeal) (hDwcolReferenceIdeal := hDwcolReferenceIdeal)
    ∧ preserves_OsumKernel_OsumKernelIdeal
    ∧ algebraic_OsumKernelIdeal_OsumReferenceIdeal (hOsumKernelIdeal := hOsumKernelIdeal) (hOsumReferenceIdeal := hOsumReferenceIdeal)
    ∧ preserves_DwnatKernel_DwnatKernelIdeal
    ∧ algebraic_DwnatKernelIdeal_DwnatReferenceIdeal (hDwnatKernelIdeal := hDwnatKernelIdeal) (hDwnatReferenceIdeal := hDwnatReferenceIdeal)
    ∧ preserves_DwdownKernel_DwdownKernelIdeal
    ∧ algebraic_DwdownKernelIdeal_DwdownReferenceIdeal (hDwdownKernelIdeal := hDwdownKernelIdeal) (hDwdownReferenceIdeal := hDwdownReferenceIdeal)
    ∧ preserves_AdamKernel_AdamKernelIdeal
    ∧ algebraic_AdamKernelIdeal_AdamReferenceIdeal (hAdamKernelIdeal := hAdamKernelIdeal) (hAdamReferenceIdeal := hAdamReferenceIdeal)
-- ==== Pre_finite_attn.lean ====
abbrev S4096x1024 : Shape := ⟨2, ![4096, 1024]⟩
abbrev S4608x1024 : Shape := ⟨2, ![4608, 1024]⟩
abbrev S16x513 : Shape := ⟨2, ![16, 513]⟩
abbrev S_ : Shape := ⟨0, ![]⟩

class Facts : Prop where
  bcast_S_S4096x1024 : S_.BroadcastsInDim S4096x1024 (![] : Fin 0 → Fin S4096x1024.rank)
  bcast_S_S4608x1024 : S_.BroadcastsInDim S4608x1024 (![] : Fin 0 → Fin S4608x1024.rank)
  bcast_S_S16x513 : S_.BroadcastsInDim S16x513 (![] : Fin 0 → Fin S16x513.rank)

variable [Facts]

def fn {F : FTy → Type} [FloatOps F] (main_arg0 : FVec F S4096x1024 .f32) (main_arg1 : FVec F S4608x1024 .f32) (main_arg2 : FVec F S4608x1024 .f32) (main_arg3 : FVec F S16x513 .f32) (main_arg4 : FVec F S4096x1024 .f32) : IVec S4096x1024 1 × IVec S4608x1024 1 × IVec S4608x1024 1 × IVec S16x513 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4608x1024 .f32 := Host.absf main_arg1
  let main_cst_0 : FVec F S_ .f32 := constant S_ .f32 0x7F800000#32
  let main_v4 : FVec F S4608x1024 .f32 := broadcastInDim S4608x1024 ![] bcast_S_S4608x1024 main_cst_0
  let main_v5 : IVec S4608x1024 1 := cmpf .olt main_v3 main_v4
  let main_v6 : FVec F S4608x1024 .f32 := Host.absf main_arg2
  let main_cst_1 : FVec F S_ .f32 := constant S_ .f32 0x7F800000#32
  let main_v7 : FVec F S4608x1024 .f32 := broadcastInDim S4608x1024 ![] bcast_S_S4608x1024 main_cst_1
  let main_v8 : IVec S4608x1024 1 := cmpf .olt main_v6 main_v7
  let main_v9 : FVec F S16x513 .f32 := Host.absf main_arg3
  let main_cst_2 : FVec F S_ .f32 := constant S_ .f32 0x7F800000#32
  let main_v10 : FVec F S16x513 .f32 := broadcastInDim S16x513 ![] bcast_S_S16x513 main_cst_2
  let main_v11 : IVec S16x513 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite_bias.lean ====
abbrev S16x513 : Shape := ⟨2, ![16, 513]⟩
abbrev S16x128x640 : Shape := ⟨3, ![16, 128, 640]⟩
abbrev S_ : Shape := ⟨0, ![]⟩

class Facts : Prop where
  bcast_S_S16x128x640 : S_.BroadcastsInDim S16x128x640 (![] : Fin 0 → Fin S16x128x640.rank)

variable [Facts]

def fn {F : FTy → Type} [FloatOps F] (main_arg0 : FVec F S16x513 .f32) (main_arg1 : FVec F S16x128x640 .f32) : IVec S16x128x640 1 :=
  let main_v0 : FVec F S16x128x640 .f32 := Host.absf main_arg1
  let main_cst : FVec F S_ .f32 := constant S_ .f32 0x7F800000#32
  let main_v1 : FVec F S16x128x640 .f32 := broadcastInDim S16x128x640 ![] bcast_S_S16x128x640 main_cst
  let main_v2 : IVec S16x128x640 1 := cmpf .olt main_v0 main_v1
  main_v2
-- ==== Pre_finite_bq.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024x1024 .f32) (main_arg2 : FVec F S4096x1024 .f32) (main_arg3 : FVec F S1024 .f32) (main_arg4 : FVec F S4096x1024 .f32) : IVec S4096x1024 1 × IVec S1024x1024 1 × IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_build.lean ====
abbrev S16x513 : Shape := ⟨2, ![16, 513]⟩
abbrev S_ : Shape := ⟨0, ![]⟩

class Facts : Prop where
  bcast_S_S16x513 : S_.BroadcastsInDim S16x513 (![] : Fin 0 → Fin S16x513.rank)

variable [Facts]

def fn {F : FTy → Type} [FloatOps F] (main_arg0 : FVec F S16x513 .f32) : IVec S16x513 1 :=
  let main_v0 : FVec F S16x513 .f32 := Host.absf main_arg0
  let main_cst : FVec F S_ .f32 := constant S_ .f32 0x7F800000#32
  let main_v1 : FVec F S16x513 .f32 := broadcastInDim S16x513 ![] bcast_S_S16x513 main_cst
  let main_v2 : IVec S16x513 1 := cmpf .olt main_v0 main_v1
  main_v2
-- ==== Pre_finite_ffn.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x5632 .f32) (main_arg2 : FVec F S2816x1024 .f32) (main_arg3 : FVec F S4096x1024 .f32) : IVec S4096x1024 1 × IVec S1024x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_fwd.lean ====
abbrev S4096x1024 : Shape := ⟨2, ![4096, 1024]⟩
abbrev S4608x1024 : Shape := ⟨2, ![4608, 1024]⟩
abbrev S16x513 : Shape := ⟨2, ![16, 513]⟩
abbrev S_ : Shape := ⟨0, ![]⟩

class Facts : Prop where
  bcast_S_S4096x1024 : S_.BroadcastsInDim S4096x1024 (![] : Fin 0 → Fin S4096x1024.rank)
  bcast_S_S4608x1024 : S_.BroadcastsInDim S4608x1024 (![] : Fin 0 → Fin S4608x1024.rank)
  bcast_S_S16x513 : S_.BroadcastsInDim S16x513 (![] : Fin 0 → Fin S16x513.rank)

variable [Facts]

def fn {F : FTy → Type} [FloatOps F] (main_arg0 : FVec F S4096x1024 .f32) (main_arg1 : FVec F S4608x1024 .f32) (main_arg2 : FVec F S4608x1024 .f32) (main_arg3 : FVec F S16x513 .f32) : IVec S4096x1024 1 × IVec S4608x1024 1 × IVec S16x513 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4608x1024 .f32 := Host.absf main_arg1
  let main_cst_0 : FVec F S_ .f32 := constant S_ .f32 0x7F800000#32
  let main_v4 : FVec F S4608x1024 .f32 := broadcastInDim S4608x1024 ![] bcast_S_S4608x1024 main_cst_0
  let main_v5 : IVec S4608x1024 1 := cmpf .olt main_v3 main_v4
  let main_v6 : FVec F S16x513 .f32 := Host.absf main_arg3
  let main_cst_1 : FVec F S_ .f32 := constant S_ .f32 0x7F800000#32
  let main_v7 : FVec F S16x513 .f32 := broadcastInDim S16x513 ![] bcast_S_S16x513 main_cst_1
  let main_v8 : IVec S16x513 1 := cmpf .olt main_v6 main_v7
  (main_v2, main_v5, main_v8)
-- ==== Pre_finite_gu.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩

class Facts : Prop where
  bcast_S_S4096x5632 : S_.BroadcastsInDim S4096x5632 (![] : Fin 0 → Fin S4096x5632.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x5632 .f32) (main_arg1 : FVec F S1024x5632 .f32) (main_arg2 : FVec F S4096x1024 .f32) (main_arg3 : FVec F S1024 .f32) (main_arg4 : FVec F S4096x1024 .f32) : IVec S4096x5632 1 × IVec S1024x5632 1 × IVec S4096x1024 1 × IVec S1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_loss.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S4096x1024 .f32) : IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_sgu.lean ====
abbrev S4096x4096 : Shape := ⟨2, ![4096, 4096]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  bcast_S_S2048 : S_.BroadcastsInDim S2048 (![] : Fin 0 → Fin S2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S4096x2048 : S_.BroadcastsInDim S4096x2048 (![] : Fin 0 → Fin S4096x2048.rank)

variable [Facts]

def fn {F : FTy → Type} [FloatOps F] (main_arg0 : FVec F S4096x4096 .f32) (main_arg1 : FVec F S2048 .f32) (main_arg2 : FVec F S8x128x128 .f32) (main_arg3 : FVec F S8x128 .f32) (main_arg4 : FVec F S4096x2048 .f32) : IVec S4096x4096 1 × IVec S2048 1 × IVec S8x128x128 1 × IVec S8x128 1 × IVec S4096x2048 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S8x128x128 .f32 := Host.absf main_arg2
  let main_cst_1 : FVec F S_ .f32 := constant S_ .f32 0x7F800000#32
  let main_v7 : FVec F S8x128x128 .f32 := broadcastInDim S8x128x128 ![] bcast_S_S8x128x128 main_cst_1
  let main_v8 : IVec S8x128x128 1 := cmpf .olt main_v6 main_v7
  let main_v9 : FVec F S8x128 .f32 := Host.absf main_arg3
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_v12 : FVec F S4096x2048 .f32 := Host.absf main_arg4
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  (main_v2, main_v5, main_v8, main_v11, main_v14)
-- ==== LossKernel.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== AttnKernel.lean ====
abbrev S4096x1024 : Shape := ⟨2, ![4096, 1024]⟩
abbrev S4608x1024 : Shape := ⟨2, ![4608, 1024]⟩
abbrev S16x513 : Shape := ⟨2, ![16, 513]⟩
abbrev S4096x16x64 : Shape := ⟨3, ![4096, 16, 64]⟩
abbrev S4608x16x64 : Shape := ⟨3, ![4608, 16, 64]⟩
abbrev S4096 : Shape := ⟨1, ![4096]⟩
abbrev S4096x1 : Shape := ⟨2, ![4096, 1]⟩
abbrev S4608 : Shape := ⟨1, ![4608]⟩
abbrev S1x4608 : Shape := ⟨2, ![1, 4608]⟩
abbrev S_ : Shape := ⟨0, ![]⟩
abbrev S4096x4608 : Shape := ⟨2, ![4096, 4608]⟩
abbrev S4096x4608x1 : Shape := ⟨3, ![4096, 4608, 1]⟩
abbrev S16x4096x4608 : Shape := ⟨3, ![16, 4096, 4608]⟩
abbrev S16x4096 : Shape := ⟨2, ![16, 4096]⟩
abbrev S16x4096x1 : Shape := ⟨3, ![16, 4096, 1]⟩
abbrev S16x64x4096 : Shape := ⟨3, ![16, 64, 4096]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S16x64x768 : Shape := ⟨3, ![16, 64, 768]⟩
abbrev S16x256x768 : Shape := ⟨3, ![16, 256, 768]⟩
abbrev S4608x2048 : Shape := ⟨2, ![4608, 2048]⟩
abbrev S16x128x768 : Shape := ⟨3, ![16, 128, 768]⟩
abbrev S4096x128 : Shape := ⟨2, ![4096, 128]⟩
abbrev S4608x128 : Shape := ⟨2, ![4608, 128]⟩
abbrev S2x256x768 : Shape := ⟨3, ![2, 256, 768]⟩
abbrev S2x128x768 : Shape := ⟨3, ![2, 128, 768]⟩
abbrev S256x128 : Shape := ⟨2, ![256, 128]⟩
abbrev S256x768 : Shape := ⟨2, ![256, 768]⟩
abbrev S768x128 : Shape := ⟨2, ![768, 128]⟩
abbrev S1x256x768 : Shape := ⟨3, ![1, 256, 768]⟩
abbrev S256 : Shape := ⟨1, ![256]⟩
abbrev S256x1 : Shape := ⟨2, ![256, 1]⟩
abbrev S1x128x640 : Shape := ⟨3, ![1, 128, 640]⟩
abbrev S128x640 : Shape := ⟨2, ![128, 640]⟩
abbrev S128 : Shape := ⟨1, ![128]⟩
abbrev S128x1 : Shape := ⟨2, ![128, 1]⟩
abbrev S640 : Shape := ⟨1, ![640]⟩
abbrev S1x640 : Shape := ⟨2, ![1, 640]⟩
abbrev S128x640x1 : Shape := ⟨3, ![128, 640, 1]⟩
abbrev S16x128x640 : Shape := ⟨3, ![16, 128, 640]⟩

abbrev nBuf : Space → Nat
  | .hbm => 205
  | .vmem => 20
  | .smem => 0
  | _ => 0

abbrev hbmTy0_0 (i : Nat) : BufTy := match i % 128 with
  | 0 => ⟨S4096x1024, .f32⟩
  | 1 => ⟨S4608x1024, .f32⟩
  | 2 => ⟨S4608x1024, .f32⟩
  | 3 => ⟨S16x513, .f32⟩
  | 4 => ⟨S4096x1024, .f32⟩
  | 5 => ⟨S4096x16x64, .f32⟩
  | 6 => ⟨S4608x16x64, .f32⟩
  | 7 => ⟨S4608x16x64, .f32⟩
  | 8 => ⟨S4096, .i32⟩
  | 9 => ⟨S4096x1, .i32⟩
  | 10 => ⟨S4608, .i32⟩
  | 11 => ⟨S1x4608, .i32⟩
  | 12 => ⟨S_, .i32⟩
  | 13 => ⟨S4096x1, .i32⟩
  | 14 => ⟨S4096x1, .i32⟩
  | 15 => ⟨S4096x4608, .i32⟩
  | 16 => ⟨S4096x4608, .i32⟩
  | 17 => ⟨S4096x4608, .i32⟩
  | 18 => ⟨S_, .i32⟩
  | 19 => ⟨S_, .i32⟩
  | 20 => ⟨S_, .i32⟩
  | 21 => ⟨S4096x4608, .i32⟩
  | 22 => ⟨S4096x4608, .i32⟩
  | 23 => ⟨S_, .i32⟩
  | 24 => ⟨S4096x4608, .i32⟩
  | 25 => ⟨S4096x4608, .i32⟩
  | 26 => ⟨S_, .i32⟩
  | 27 => ⟨S4096x4608, .i32⟩
  | 28 => ⟨S4096x4608, .i32⟩
  | 29 => ⟨S_, .i32⟩
  | 30 => ⟨S4096x4608, .i32⟩
  | 31 => ⟨S4096x4608, .i1⟩
  | 32 => ⟨S_, .i32⟩
  | 33 => ⟨S4096x4608, .i32⟩
  | 34 => ⟨S4096x4608, .i32⟩
  | 35 => ⟨S4096x4608, .i32⟩
  | 36 => ⟨S4096x4608x1, .i32⟩
  | 37 => ⟨S16x4096x4608, .f32⟩
  | 38 => ⟨S16x4096x4608, .f32⟩
  | 39 => ⟨S_, .f32⟩
  | 40 => ⟨S16x4096x4608, .f32⟩
  | 41 => ⟨S16x4096x4608, .f32⟩
  | 42 => ⟨S16x4096x4608, .f32⟩
  | 43 => ⟨S_, .i32⟩
  | 44 => ⟨S_, .i32⟩
  | 45 => ⟨S4096x1, .i32⟩
  | 46 => ⟨S4096x1, .i32⟩
  | 47 => ⟨S4096x1, .i32⟩
  | 48 => ⟨S_, .i32⟩
  | 49 => ⟨S4096x1, .i32⟩
  | 50 => ⟨S4096x1, .i1⟩
  | 51 => ⟨S4096x1, .i32⟩
  | 52 => ⟨S4096x1, .i32⟩
  | 53 => ⟨S_, .i32⟩
  | 54 => ⟨S4096x1, .i32⟩
  | 55 => ⟨S4096x1, .i1⟩
  | 56 => ⟨S4096x1, .i1⟩
  | 57 => ⟨S_, .i32⟩
  | 58 => ⟨S4096x1, .i32⟩
  | 59 => ⟨S4096x1, .i32⟩
  | 60 => ⟨S4096x1, .i32⟩
  | 61 => ⟨S_, .i32⟩
  | 62 => ⟨S_, .i32⟩
  | 63 => ⟨S1x4608, .i32⟩
  | 64 => ⟨S1x4608, .i32⟩
  | 65 => ⟨S1x4608, .i32⟩
  | 66 => ⟨S_, .i32⟩
  | 67 => ⟨S1x4608, .i32⟩
  | 68 => ⟨S1x4608, .i1⟩
  | 69 => ⟨S1x4608, .i32⟩
  | 70 => ⟨S1x4608, .i32⟩
  | 71 => ⟨S_, .i32⟩
  | 72 => ⟨S1x4608, .i32⟩
  | 73 => ⟨S1x4608, .i1⟩
  | 74 => ⟨S1x4608, .i1⟩
  | 75 => ⟨S_, .i32⟩
  | 76 => ⟨S1x4608, .i32⟩
  | 77 => ⟨S1x4608, .i32⟩
  | 78 => ⟨S1x4608, .i32⟩
  | 79 => ⟨S4096x4608, .i32⟩
  | 80 => ⟨S4096x4608, .i32⟩
  | 81 => ⟨S4096x4608, .i1⟩
  | 82 => ⟨S_, .i32⟩
  | 83 => ⟨S4096x1, .i32⟩
  | 84 => ⟨S4096x1, .i32⟩
  | 85 => ⟨S4096x4608, .i32⟩
  | 86 => ⟨S4096x4608, .i32⟩
  | 87 => ⟨S4096x4608, .i1⟩
  | 88 => ⟨S4096x4608, .i1⟩
  | 89 => ⟨S_, .i32⟩
  | 90 => ⟨S1x4608, .i32⟩
  | 91 => ⟨S1x4608, .i1⟩
  | 92 => ⟨S4096x4608, .i1⟩
  | 93 => ⟨S4096x4608, .i1⟩
  | 94 => ⟨S_, .f32⟩
  | 95 => ⟨S_, .f32⟩
  | 96 => ⟨S16x4096x4608, .i1⟩
  | 97 => ⟨S16x4096x4608, .f32⟩
  | 98 => ⟨S16x4096x4608, .f32⟩
  | 99 => ⟨S_, .f32⟩
  | 100 => ⟨S16x4096, .f32⟩
  | 101 => ⟨S_, .f32⟩
  | 102 => ⟨S16x4096, .f32⟩
  | 103 => ⟨S16x4096, .f32⟩
  | 104 => ⟨S16x4096x1, .f32⟩
  | 105 => ⟨S16x4096x4608, .f32⟩
  | 106 => ⟨S16x4096x4608, .f32⟩
  | 107 => ⟨S16x4096x4608, .f32⟩
  | 108 => ⟨S_, .f32⟩
  | 109 => ⟨S16x4096, .f32⟩
  | 110 => ⟨S16x4096x1, .f32⟩
  | 111 => ⟨S16x4096x4608, .f32⟩
  | 112 => ⟨S16x4096x4608, .f32⟩
  | 113 => ⟨S16x64x4096, .f32⟩
  | 114 => ⟨S4096x16x64, .f32⟩
  | 115 => ⟨S4096x1024, .f32⟩
  | 116 => ⟨S64, .i32⟩
  | 117 => ⟨S64x1, .i32⟩
  | 118 => ⟨S576, .i32⟩
  | 119 => ⟨S1x576, .i32⟩
  | 120 => ⟨S_, .i32⟩
  | 121 => ⟨S1x576, .i32⟩
  | 122 => ⟨S1x576, .i32⟩
  | 123 => ⟨S64x576, .i32⟩
  | 124 => ⟨S64x576, .i32⟩
  | 125 => ⟨S64x576, .i32⟩
  | 126 => ⟨S_, .i32⟩
  | 127 => ⟨S_, .i32⟩
  | _ => ⟨S4096x1024, .f32⟩

abbrev hbmTy0_1 (i : Nat) : BufTy := match i % 128 with
  | 0 => ⟨S_, .i32⟩
  | 1 => ⟨S64x576, .i32⟩
  | 2 => ⟨S64x576, .i32⟩
  | 3 => ⟨S_, .i32⟩
  | 4 => ⟨S64x576, .i32⟩
  | 5 => ⟨S64x576, .i32⟩
  | 6 => ⟨S_, .i32⟩
  | 7 => ⟨S64x576, .i32⟩
  | 8 => ⟨S64x576, .i32⟩
  | 9 => ⟨S_, .i32⟩
  | 10 => ⟨S64x576, .i32⟩
  | 11 => ⟨S64x576, .i1⟩
  | 12 => ⟨S_, .i32⟩
  | 13 => ⟨S64x576, .i32⟩
  | 14 => ⟨S64x576, .i32⟩
  | 15 => ⟨S64x576, .i32⟩
  | 16 => ⟨S64x576x1, .i32⟩
  | 17 => ⟨S16x64x576, .f32⟩
  | 18 => ⟨S_, .f32⟩
  | 19 => ⟨S_, .f32⟩
  | 20 => ⟨S16x64x768, .f32⟩
  | 21 => ⟨S_, .f32⟩
  | 22 => ⟨S_, .f32⟩
  | 23 => ⟨S16x64x768, .f32⟩
  | 24 => ⟨S_, .f32⟩
  | 25 => ⟨S_, .f32⟩
  | 26 => ⟨S16x64x768, .f32⟩
  | 27 => ⟨S_, .f32⟩
  | 28 => ⟨S_, .f32⟩
  | 29 => ⟨S16x64x768, .f32⟩
  | 30 => ⟨S16x256x768, .f32⟩
  | 31 => ⟨S_, .f32⟩
  | 32 => ⟨S4096x1024, .f32⟩
  | 33 => ⟨S4096x1024, .f32⟩
  | 34 => ⟨S4096x1024, .bf16⟩
  | 35 => ⟨S4608x2048, .f32⟩
  | 36 => ⟨S4608x2048, .bf16⟩
  | 37 => ⟨S4096x1024, .bf16⟩
  | 38 => ⟨S4096x1024, .bf16⟩
  | 39 => ⟨S4096x1024, .bf16⟩
  | 40 => ⟨S4608x1024, .f32⟩
  | 41 => ⟨S4608x1024, .f32⟩
  | 42 => ⟨S16x128x768, .f32⟩
  | 43 => ⟨S128, .i32⟩
  | 44 => ⟨S128x1, .i32⟩
  | 45 => ⟨S640, .i32⟩
  | 46 => ⟨S1x640, .i32⟩
  | 47 => ⟨S_, .i32⟩
  | 48 => ⟨S128x1, .i32⟩
  | 49 => ⟨S128x1, .i32⟩
  | 50 => ⟨S128x640, .i32⟩
  | 51 => ⟨S128x640, .i32⟩
  | 52 => ⟨S128x640, .i32⟩
  | 53 => ⟨S_, .i32⟩
  | 54 => ⟨S_, .i32⟩
  | 55 => ⟨S_, .i32⟩
  | 56 => ⟨S128x640, .i32⟩
  | 57 => ⟨S128x640, .i32⟩
  | 58 => ⟨S_, .i32⟩
  | 59 => ⟨S128x640, .i32⟩
  | 60 => ⟨S128x640, .i32⟩
  | 61 => ⟨S_, .i32⟩
  | 62 => ⟨S128x640, .i32⟩
  | 63 => ⟨S128x640, .i32⟩
  | 64 => ⟨S_, .i32⟩
  | 65 => ⟨S128x640, .i32⟩
  | 66 => ⟨S128x640, .i1⟩
  | 67 => ⟨S_, .i32⟩
  | 68 => ⟨S128x640, .i32⟩
  | 69 => ⟨S128x640, .i32⟩
  | 70 => ⟨S128x640, .i32⟩
  | 71 => ⟨S128x640x1, .i32⟩
  | 72 => ⟨S16x128x640, .f32⟩
  | 73 => ⟨S16x128x640, .f32⟩
  | 74 => ⟨S_, .f32⟩
  | 75 => ⟨S16x513, .f32⟩
  | 76 => ⟨S16x513, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S4608x128, .bf16⟩
  | .local _ .vmem, ⟨3, _⟩ => ⟨S4608x128, .bf16⟩
  | .local _ .vmem, ⟨4, _⟩ => ⟨S4608x128, .bf16⟩
  | .local _ .vmem, ⟨5, _⟩ => ⟨S4608x128, .bf16⟩
  | .local _ .vmem, ⟨6, _⟩ => ⟨S2x256x768, .f32⟩
  | .local _ .vmem, ⟨7, _⟩ => ⟨S2x256x768, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4608x128, .f32⟩
  | .local _ .vmem, ⟨15, _⟩ => ⟨S4608x128, .f32⟩
  | .local _ .vmem, ⟨16, _⟩ => ⟨S4608x128, .f32⟩
  | .local _ .vmem, ⟨17, _⟩ => ⟨S4608x128, .f32⟩
  | .local _ .vmem, ⟨18, _⟩ => ⟨S2x128x768, .f32⟩
  | .local _ .vmem, ⟨19, _⟩ => ⟨S2x128x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v26 : Ref sig .tc := ⟨.hbm, 60, rfl⟩
abbrev main_c_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_c_7 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_c_8 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_cst_9 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v41 : Ref sig .tc := ⟨.hbm, 98, rfl⟩
abbrev main_cst_10 : Ref sig .tc := ⟨.hbm, 99, rfl⟩
abbrev main_v42 : Ref sig .tc := ⟨.hbm, 100, rfl⟩
abbrev main_cst_11 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_cst_12 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_c_13 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_c_14 : Ref sig .tc := ⟨.hbm, 126, rfl⟩
abbrev main_c_15 : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_v65 : Ref sig .tc := ⟨.hbm, 133, rfl⟩
abbrev main_c_16 : Ref sig .tc := ⟨.hbm, 134, rfl⟩
abbrev main_v66 : Ref sig .tc := ⟨.hbm, 135, rfl⟩
abbrev main_v67 : Ref sig .tc := ⟨.hbm, 136, rfl⟩
abbrev main_c_17 : Ref sig .tc := ⟨.hbm, 137, rfl⟩
abbrev main_v68 : Ref sig .tc := ⟨.hbm, 138, rfl⟩
abbrev main_v69 : Ref sig .tc := ⟨.hbm, 139, rfl⟩
abbrev main_c_18 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_cst_19 : Ref sig .tc := ⟨.hbm, 146, rfl⟩
abbrev main_call5_v0 : Ref sig .tc := ⟨.hbm, 147, rfl⟩
abbrev main_v75 : Ref sig .tc := ⟨.hbm, 148, rfl⟩
abbrev main_cst_20 : Ref sig .tc := ⟨.hbm, 149, rfl⟩
abbrev main_call6_v0 : Ref sig .tc := ⟨.hbm, 150, rfl⟩
abbrev main_v76 : Ref sig .tc := ⟨.hbm, 151, rfl⟩
abbrev main_cst_21 : Ref sig .tc := ⟨.hbm, 152, rfl⟩
abbrev main_call7_v0 : Ref sig .tc := ⟨.hbm, 153, rfl⟩
abbrev main_v77 : Ref sig .tc := ⟨.hbm, 154, rfl⟩
abbrev main_cst_22 : Ref sig .tc := ⟨.hbm, 155, rfl⟩
abbrev main_call8_v0 : Ref sig .tc := ⟨.hbm, 156, rfl⟩
abbrev main_v78 : Ref sig .tc := ⟨.hbm, 157, rfl⟩
abbrev main_v79 : Ref sig .tc := ⟨.hbm, 158, rfl⟩
abbrev main_cst_23 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87_0 : Ref sig .tc := ⟨.hbm, 167, rfl⟩
abbrev main_v87_1 : Ref sig .tc := ⟨.hbm, 168, rfl⟩
abbrev main_v87_2 : Ref sig .tc := ⟨.hbm, 169, rfl⟩
abbrev main_v87_3 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_c_24 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_c_25 : Ref sig .tc := ⟨.hbm, 181, rfl⟩
abbrev main_c_26 : Ref sig .tc := ⟨.hbm, 182, rfl⟩
abbrev main_call9_v0 : Ref sig .tc := ⟨.hbm, 183, rfl⟩
abbrev main_call9_v1 : Ref sig .tc := ⟨.hbm, 184, rfl⟩
abbrev main_call9_v2 : Ref sig .tc := ⟨.hbm, 185, rfl⟩
abbrev main_call9_v3 : Ref sig .tc := ⟨.hbm, 186, rfl⟩
abbrev main_call9_v4 : Ref sig .tc := ⟨.hbm, 187, rfl⟩
abbrev main_v97 : Ref sig .tc := ⟨.hbm, 188, rfl⟩
abbrev main_c_27 : Ref sig .tc := ⟨.hbm, 189, rfl⟩
abbrev main_v98 : Ref sig .tc := ⟨.hbm, 190, rfl⟩
abbrev main_v99 : Ref sig .tc := ⟨.hbm, 191, rfl⟩
abbrev main_c_28 : Ref sig .tc := ⟨.hbm, 192, rfl⟩
abbrev main_v100 : Ref sig .tc := ⟨.hbm, 193, rfl⟩
abbrev main_v101 : Ref sig .tc := ⟨.hbm, 194, rfl⟩
abbrev main_c_29 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_cst_30 : Ref sig .tc := ⟨.hbm, 202, rfl⟩
abbrev main_v108 : Ref sig .tc := ⟨.hbm, 203, rfl⟩
abbrev main_v109 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c256_i32 : BitVec 32 := 256#32
  let v12 : BitVec 32 := Scalar.muli c0_i32 c256_i32
  v12
def k0_off1 (c0_i32 : BitVec 32) : Fin 2 → Nat :=
  let c256_i32 : BitVec 32 := 256#32
  let v12 : BitVec 32 := Scalar.muli c0_i32 c256_i32
  let v13 : BitVec 32 := v12
  let v14 : Index := Scalar.indexCast v13
  let c0_9 : Index := 0#32
  ![v14.toNat, 0]
def k0_off2 (c0_i32 : BitVec 32) : Fin 2 → Nat :=
  let c256_i32 : BitVec 32 := 256#32
  let v12 : BitVec 32 := Scalar.muli c0_i32 c256_i32
  let v13 : BitVec 32 := v12
  let v27 : Index := Scalar.indexCast v13
  let c0_12 : Index := 0#32
  ![v27.toNat, 0]
def k0_mult2 : BitVec 32 :=
  let c1_i32 : BitVec 32 := 1#32
  let c256_i32_78 : BitVec 32 := 256#32
  let v161 : BitVec 32 := Scalar.muli c1_i32 c256_i32_78
  v161
@[reducible] def k0_t1_loop : Scf.Loop 32 :=
  let c2_i32_150 : BitVec 32 := 2#32
  let c14_i32 : BitVec 32 := 14#32
  let v310 : BitVec 32 := Scalar.addi c2_i32_150 c14_i32
  let c1_i32_151 : BitVec 32 := 1#32
  ⟨c2_i32_150, v310, c1_i32_151⟩
def k0_mult3 (k0_t1 : Fin k0_t1_loop.trips) : BitVec 32 :=
  let c2_i32_150 : BitVec 32 := 2#32
  let c1_i32_151 : BitVec 32 := 1#32
  let arg11 : BitVec 32 := Scf.iv c2_i32_150 c1_i32_151 k0_t1
  let c256_i32_153 : BitVec 32 := 256#32
  let v311 : BitVec 32 := Scalar.muli arg11 c256_i32_153
  v311
def k0_off3 (k0_t1 : Fin k0_t1_loop.trips) : Fin 2 → Nat :=
  let c2_i32_150 : BitVec 32 := 2#32
  let c1_i32_151 : BitVec 32 := 1#32
  let arg11 : BitVec 32 := Scf.iv c2_i32_150 c1_i32_151 k0_t1
  let c256_i32_153 : BitVec 32 := 256#32
  let v311 : BitVec 32 := Scalar.muli arg11 c256_i32_153
  let v312 : BitVec 32 := v311
  let v313 : Index := Scalar.indexCast v312
  let c0_154 : Index := 0#32
  ![v313.toNat, 0]
def k0_off4 (k0_t1 : Fin k0_t1_loop.trips) : Fin 2 → Nat :=
  let c2_i32_150 : BitVec 32 := 2#32
  let c1_i32_151 : BitVec 32 := 1#32
  let arg11 : BitVec 32 := Scf.iv c2_i32_150 c1_i32_151 k0_t1
  let c256_i32_153 : BitVec 32 := 256#32
  let v311 : BitVec 32 := Scalar.muli arg11 c256_i32_153
  let v312 : BitVec 32 := v311
  let v326 : Index := Scalar.indexCast v312
  let c0_157 : Index := 0#32
  ![v326.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4608x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4608x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4608x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4608x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x128x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnKernelIdeal.lean ====
variable {F : FTy → Type} [FloatOps F] [Named F]
def κ : String → Option EReal := fun
  | "mask" => some ⊥
  | _ => none
-- ==== AttnReferenceIdeal.lean ====
abbrev S4096x1024 : Shape := ⟨2, ![4096, 1024]⟩
abbrev S4608x1024 : Shape := ⟨2, ![4608, 1024]⟩
abbrev S16x513 : Shape := ⟨2, ![16, 513]⟩
abbrev S4096x16x64 : Shape := ⟨3, ![4096, 16, 64]⟩
abbrev S4608x16x64 : Shape := ⟨3, ![4608, 16, 64]⟩
abbrev S4096 : Shape := ⟨1, ![4096]⟩
abbrev S4096x1 : Shape := ⟨2, ![4096, 1]⟩
abbrev S4608 : Shape := ⟨1, ![4608]⟩
abbrev S1x4608 : Shape := ⟨2, ![1, 4608]⟩
abbrev S_ : Shape := ⟨0, ![]⟩
abbrev S4096x4608 : Shape := ⟨2, ![4096, 4608]⟩
abbrev S4096x4608x1 : Shape := ⟨3, ![4096, 4608, 1]⟩
abbrev S16x4096x4608 : Shape := ⟨3, ![16, 4096, 4608]⟩
abbrev S16x4096 : Shape := ⟨2, ![16, 4096]⟩
abbrev S16x4096x1 : Shape := ⟨3, ![16, 4096, 1]⟩
abbrev S16x64x4096 : Shape := ⟨3, ![16, 64, 4096]⟩
abbrev S16x64x4608 : Shape := ⟨3, ![16, 64, 4608]⟩
abbrev S16x4608x64 : Shape := ⟨3, ![16, 4608, 64]⟩
abbrev S16x4096x64 : Shape := ⟨3, ![16, 4096, 64]⟩

abbrev nBuf : Space → Nat
  | .hbm => 178
  | .vmem => 0
  | .smem => 0
  | _ => 0

abbrev hbmTy0_0 (i : Nat) : BufTy := match i % 128 with
  | 0 => ⟨S4096x1024, .f32⟩
  | 1 => ⟨S4608x1024, .f32⟩
  | 2 => ⟨S4608x1024, .f32⟩
  | 3 => ⟨S16x513, .f32⟩
  | 4 => ⟨S4096x1024, .f32⟩
  | 5 => ⟨S4096x16x64, .f32⟩
  | 6 => ⟨S4608x16x64, .f32⟩
  | 7 => ⟨S4608x16x64, .f32⟩
  | 8 => ⟨S4096, .i32⟩
  | 9 => ⟨S4096x1, .i32⟩
  | 10 => ⟨S4608, .i32⟩
  | 11 => ⟨S1x4608, .i32⟩
  | 12 => ⟨S_, .i32⟩
  | 13 => ⟨S4096x1, .i32⟩
  | 14 => ⟨S4096x1, .i32⟩
  | 15 => ⟨S4096x4608, .i32⟩
  | 16 => ⟨S4096x4608, .i32⟩
  | 17 => ⟨S4096x4608, .i32⟩
  | 18 => ⟨S_, .i32⟩
  | 19 => ⟨S_, .i32⟩
  | 20 => ⟨S_, .i32⟩
  | 21 => ⟨S4096x4608, .i32⟩
  | 22 => ⟨S4096x4608, .i32⟩
  | 23 => ⟨S_, .i32⟩
  | 24 => ⟨S4096x4608, .i32⟩
  | 25 => ⟨S4096x4608, .i32⟩
  | 26 => ⟨S_, .i32⟩
  | 27 => ⟨S4096x4608, .i32⟩
  | 28 => ⟨S4096x4608, .i32⟩
  | 29 => ⟨S_, .i32⟩
  | 30 => ⟨S4096x4608, .i32⟩
  | 31 => ⟨S4096x4608, .i1⟩
  | 32 => ⟨S_, .i32⟩
  | 33 => ⟨S4096x4608, .i32⟩
  | 34 => ⟨S4096x4608, .i32⟩
  | 35 => ⟨S4096x4608, .i32⟩
  | 36 => ⟨S4096x4608x1, .i32⟩
  | 37 => ⟨S16x4096x4608, .f32⟩
  | 38 => ⟨S16x4096x4608, .f32⟩
  | 39 => ⟨S_, .f32⟩
  | 40 => ⟨S16x4096x4608, .f32⟩
  | 41 => ⟨S16x4096x4608, .f32⟩
  | 42 => ⟨S16x4096x4608, .f32⟩
  | 43 => ⟨S_, .i32⟩
  | 44 => ⟨S_, .i32⟩
  | 45 => ⟨S4096x1, .i32⟩
  | 46 => ⟨S4096x1, .i32⟩
  | 47 => ⟨S4096x1, .i32⟩
  | 48 => ⟨S_, .i32⟩
  | 49 => ⟨S4096x1, .i32⟩
  | 50 => ⟨S4096x1, .i1⟩
  | 51 => ⟨S4096x1, .i32⟩
  | 52 => ⟨S4096x1, .i32⟩
  | 53 => ⟨S_, .i32⟩
  | 54 => ⟨S4096x1, .i32⟩
  | 55 => ⟨S4096x1, .i1⟩
  | 56 => ⟨S4096x1, .i1⟩
  | 57 => ⟨S_, .i32⟩
  | 58 => ⟨S4096x1, .i32⟩
  | 59 => ⟨S4096x1, .i32⟩
  | 60 => ⟨S4096x1, .i32⟩
  | 61 => ⟨S_, .i32⟩
  | 62 => ⟨S_, .i32⟩
  | 63 => ⟨S1x4608, .i32⟩
  | 64 => ⟨S1x4608, .i32⟩
  | 65 => ⟨S1x4608, .i32⟩
  | 66 => ⟨S_, .i32⟩
  | 67 => ⟨S1x4608, .i32⟩
  | 68 => ⟨S1x4608, .i1⟩
  | 69 => ⟨S1x4608, .i32⟩
  | 70 => ⟨S1x4608, .i32⟩
  | 71 => ⟨S_, .i32⟩
  | 72 => ⟨S1x4608, .i32⟩
  | 73 => ⟨S1x4608, .i1⟩
  | 74 => ⟨S1x4608, .i1⟩
  | 75 => ⟨S_, .i32⟩
  | 76 => ⟨S1x4608, .i32⟩
  | 77 => ⟨S1x4608, .i32⟩
  | 78 => ⟨S1x4608, .i32⟩
  | 79 => ⟨S4096x4608, .i32⟩
  | 80 => ⟨S4096x4608, .i32⟩
  | 81 => ⟨S4096x4608, .i1⟩
  | 82 => ⟨S_, .i32⟩
  | 83 => ⟨S4096x1, .i32⟩
  | 84 => ⟨S4096x1, .i32⟩
  | 85 => ⟨S4096x4608, .i32⟩
  | 86 => ⟨S4096x4608, .i32⟩
  | 87 => ⟨S4096x4608, .i1⟩
  | 88 => ⟨S4096x4608, .i1⟩
  | 89 => ⟨S_, .i32⟩
  | 90 => ⟨S1x4608, .i32⟩
  | 91 => ⟨S1x4608, .i1⟩
  | 92 => ⟨S4096x4608, .i1⟩
  | 93 => ⟨S4096x4608, .i1⟩
  | 94 => ⟨S_, .f32⟩
  | 95 => ⟨S_, .f32⟩
  | 96 => ⟨S16x4096x4608, .i1⟩
  | 97 => ⟨S16x4096x4608, .f32⟩
  | 98 => ⟨S16x4096x4608, .f32⟩
  | 99 => ⟨S_, .f32⟩
  | 100 => ⟨S16x4096x4608, .f32⟩
  | 101 => ⟨S_, .f32⟩
  | 102 => ⟨S16x4096, .f32⟩
  | 103 => ⟨S16x4096x1, .f32⟩
  | 104 => ⟨S16x4096x4608, .f32⟩
  | 105 => ⟨S16x4096x4608, .i1⟩
  | 106 => ⟨S16x4096x4608, .f32⟩
  | 107 => ⟨S_, .f32⟩
  | 108 => ⟨S16x4096, .f32⟩
  | 109 => ⟨S_, .f32⟩
  | 110 => ⟨S16x4096, .f32⟩
  | 111 => ⟨S16x4096, .f32⟩
  | 112 => ⟨S_, .f32⟩
  | 113 => ⟨S16x4096, .f32⟩
  | 114 => ⟨S16x4096, .i1⟩
  | 115 => ⟨S_, .f32⟩
  | 116 => ⟨S16x4096, .f32⟩
  | 117 => ⟨S16x4096, .i1⟩
  | 118 => ⟨S_, .f32⟩
  | 119 => ⟨S16x4096, .f32⟩
  | 120 => ⟨S_, .f32⟩
  | 121 => ⟨S16x4096, .f32⟩
  | 122 => ⟨S_, .f32⟩
  | 123 => ⟨S16x4096, .f32⟩
  | 124 => ⟨S16x4096, .f32⟩
  | 125 => ⟨S16x4096, .f32⟩
  | 126 => ⟨S16x4096x1, .f32⟩
  | 127 => ⟨S16x4096x4608, .f32⟩
  | _ => ⟨S4096x1024, .f32⟩

abbrev hbmTy0_1 (i : Nat) : BufTy := match i % 128 with
  | 0 => ⟨S16x4096x4608, .f32⟩
  | 1 => ⟨S16x4096x4608, .f32⟩
  | 2 => ⟨S_, .f32⟩
  | 3 => ⟨S16x4096, .f32⟩
  | 4 => ⟨S16x4096x1, .f32⟩
  | 5 => ⟨S16x4096x4608, .f32⟩
  | 6 => ⟨S16x4096x4608, .f32⟩
  | 7 => ⟨S16x4096x1, .f32⟩
  | 8 => ⟨S_, .f32⟩
  | 9 => ⟨S16x4096x1, .f32⟩
  | 10 => ⟨S16x4096x1, .f32⟩
  | 11 => ⟨S16x64x4096, .f32⟩
  | 12 => ⟨S4096x16x64, .f32⟩
  | 13 => ⟨S4096x1024, .f32⟩
  | 14 => ⟨S4096x16x64, .f32⟩
  | 15 => ⟨S16x64x4096, .f32⟩
  | 16 => ⟨S16x4096x4608, .f32⟩
  | 17 => ⟨S16x64x4608, .f32⟩
  | 18 => ⟨S4608x16x64, .f32⟩
  | 19 => ⟨S16x4096x4608, .f32⟩
  | 20 => ⟨S16x4096x4608, .f32⟩
  | 21 => ⟨S16x4096x4608, .f32⟩
  | 22 => ⟨S_, .f32⟩
  | 23 => ⟨S16x4096, .f32⟩
  | 24 => ⟨S16x4096x1, .f32⟩
  | 25 => ⟨S16x4096x1, .f32⟩
  | 26 => ⟨S16x4096x4608, .f32⟩
  | 27 => ⟨S16x4096x4608, .f32⟩
  | 28 => ⟨S_, .f32⟩
  | 29 => ⟨S16x4096, .f32⟩
  | 30 => ⟨S16x4096x4608, .f32⟩
  | 31 => ⟨S16x4096x4608, .f32⟩
  | 32 => ⟨S16x4096x4608, .f32⟩
  | 33 => ⟨S_, .f32⟩
  | 34 => ⟨S16x4096x4608, .f32⟩
  | 35 => ⟨S16x4096x4608, .f32⟩
  | 36 => ⟨S_, .f32⟩
  | 37 => ⟨S16x4096x4608, .f32⟩
  | 38 => ⟨S16x4096x4608, .f32⟩
  | 39 => ⟨S16x4608x64, .f32⟩
  | 40 => ⟨S4608x16x64, .f32⟩
  | 41 => ⟨S16x4096x64, .f32⟩
  | 42 => ⟨S4096x16x64, .f32⟩
  | 43 => ⟨S_, .f32⟩
  | 44 => ⟨S16x513, .f32⟩
  | 45 => ⟨S16x513, .f32⟩
  | 46 => ⟨S4608x1024, .f32⟩
  | 47 => ⟨S4608x1024, .f32⟩
  | 48 => ⟨S4096x1024, .f32⟩
  | 49 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v26 : Ref sig .tc := ⟨.hbm, 60, rfl⟩
abbrev main_c_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_c_7 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_c_8 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_cst_9 : Ref sig .tc := ⟨.hbm, 94, rfl⟩
abbrev main_call3_v0 : Ref sig .tc := ⟨.hbm, 95, rfl⟩
abbrev main_v41_1 : Ref sig .tc := ⟨.hbm, 96, rfl⟩
abbrev main_call3_v2 : Ref sig .tc := ⟨.hbm, 97, rfl⟩
abbrev main_v41_0 : Ref sig .tc := ⟨.hbm, 98, rfl⟩
abbrev main_call3_cst : Ref sig .tc := ⟨.hbm, 99, rfl⟩
abbrev main_v41_2 : Ref sig .tc := ⟨.hbm, 100, rfl⟩
abbrev main_cst_10 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_cst_11 : Ref sig .tc := ⟨.hbm, 107, rfl⟩
abbrev main_v47 : Ref sig .tc := ⟨.hbm, 108, rfl⟩
abbrev main_cst_12 : Ref sig .tc := ⟨.hbm, 109, rfl⟩
abbrev main_v48 : Ref sig .tc := ⟨.hbm, 110, rfl⟩
abbrev main_v49 : Ref sig .tc := ⟨.hbm, 111, rfl⟩
abbrev main_cst_13 : Ref sig .tc := ⟨.hbm, 112, rfl⟩
abbrev main_v50 : Ref sig .tc := ⟨.hbm, 113, rfl⟩
abbrev main_v51 : Ref sig .tc := ⟨.hbm, 114, rfl⟩
abbrev main_cst_14 : Ref sig .tc := ⟨.hbm, 115, rfl⟩
abbrev main_v52 : Ref sig .tc := ⟨.hbm, 116, rfl⟩
abbrev main_v53 : Ref sig .tc := ⟨.hbm, 117, rfl⟩
abbrev main_cst_15 : Ref sig .tc := ⟨.hbm, 118, rfl⟩
abbrev main_v54 : Ref sig .tc := ⟨.hbm, 119, rfl⟩
abbrev main_cst_16 : Ref sig .tc := ⟨.hbm, 120, rfl⟩
abbrev main_v55 : Ref sig .tc := ⟨.hbm, 121, rfl⟩
abbrev main_cst_17 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_cst_18 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_cst_19 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_cst_20 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_cst_21 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_call4_cst : Ref sig .tc := ⟨.hbm, 161, rfl⟩
abbrev main_call4_v0 : Ref sig .tc := ⟨.hbm, 162, rfl⟩
abbrev main_v90 : Ref sig .tc := ⟨.hbm, 163, rfl⟩
abbrev main_cst_22 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_cst_23 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩

abbrev nD : Nat := 1
abbrev τ : Topo := Topo.v7x

variable {F : FTy → Type} [FloatOps F]
-- ==== BqKernel.lean ====
abbrev S4096x1024 : Shape := ⟨2, ![4096, 1024]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S1x1024x1024, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BqReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== GuKernel.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S1024x8x704 : Shape := ⟨3, ![1024, 8, 704]⟩
abbrev S8x1024x704 : Shape := ⟨3, ![8, 1024, 704]⟩
abbrev S1x8x1024x704 : Shape := ⟨4, ![1, 8, 1024, 704]⟩
abbrev S4096x8x704 : Shape := ⟨3, ![4096, 8, 704]⟩
abbrev S8x4096x704 : Shape := ⟨3, ![8, 4096, 704]⟩
abbrev S1x1024 : Shape := ⟨2, ![1, 1024]⟩
abbrev S8x512x704 : Shape := ⟨3, ![8, 512, 704]⟩
abbrev S512x1024 : Shape := ⟨2, ![512, 1024]⟩
abbrev S1x512x704 : Shape := ⟨3, ![1, 512, 704]⟩
abbrev S512x704 : Shape := ⟨2, ![512, 704]⟩
abbrev S1x1x1024x704 : Shape := ⟨4, ![1, 1, 1024, 704]⟩
abbrev S1024x704 : Shape := ⟨2, ![1024, 704]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x5632, .bf16⟩
  | .hbm, ⟨6, _⟩ => ⟨S1024x8x704, .bf16⟩
  | .hbm, ⟨7, _⟩ => ⟨S8x1024x704, .bf16⟩
  | .hbm, ⟨8, _⟩ => ⟨S1x8x1024x704, .bf16⟩
  | .hbm, ⟨9, _⟩ => ⟨S4096x5632, .bf16⟩
  | .hbm, ⟨10, _⟩ => ⟨S4096x8x704, .bf16⟩
  | .hbm, ⟨11, _⟩ => ⟨S8x4096x704, .bf16⟩
  | .hbm, ⟨12, _⟩ => ⟨S1x1024, .f32⟩
  | .hbm, ⟨13, _⟩ => ⟨S4096x1024, .f32⟩
  | .hbm, ⟨14, _⟩ => ⟨S1x1024, .f32⟩
  | .local _ .vmem, ⟨0, _⟩ => ⟨S8x512x704, .bf16⟩
  | .local _ .vmem, ⟨1, _⟩ => ⟨S8x512x704, .bf16⟩
  | .local _ .vmem, ⟨2, _⟩ => ⟨S1x8x1024x704, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GuReferenceIdeal.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== FfnKernel.lean ====
abbrev S4096x1024 : Shape := ⟨2, ![4096, 1024]⟩
abbrev S1024x5632 : Shape := ⟨2, ![1024, 5632]⟩
abbrev S2816x1024 : Shape := ⟨2, ![2816, 1024]⟩
abbrev S1024x8x704 : Shape := ⟨3, ![1024, 8, 704]⟩
abbrev S8x1024x704 : Shape := ⟨3, ![8, 1024, 704]⟩
abbrev S1x8x1024x704 : Shape := ⟨4, ![1, 8, 1024, 704]⟩
abbrev S1x4x704x1024 : Shape := ⟨4, ![1, 4, 704, 1024]⟩
abbrev S2x4x4096x704 : Shape := ⟨4, ![2, 4, 4096, 704]⟩
abbrev S4x4096x704 : Shape := ⟨3, ![4, 4096, 704]⟩
abbrev S1024x1024 : Shape := ⟨2, ![1024, 1024]⟩
abbrev S1x1x1024x704 : Shape := ⟨4, ![1, 1, 1024, 704]⟩
abbrev S2x1x1024x704 : Shape := ⟨4, ![2, 1, 1024, 704]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩
abbrev S4096x4x704 : Shape := ⟨3, ![4096, 4, 704]⟩
abbrev S4096x2816 : Shape := ⟨2, ![4096, 2816]⟩
abbrev S8x4096x704 : Shape := ⟨3, ![8, 4096, 704]⟩
abbrev S4096x8x704 : Shape := ⟨3, ![4096, 8, 704]⟩
abbrev S4096x5632 : Shape := ⟨2, ![4096, 5632]⟩

abbrev nBuf : Space → Nat
  | .hbm => 19
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S1024x5632, .bf16⟩
  | .hbm, ⟨5, _⟩ => ⟨S1024x8x704, .bf16⟩
  | .hbm, ⟨6, _⟩ => ⟨S8x1024x704, .bf16⟩
  | .hbm, ⟨7, _⟩ => ⟨S1x8x1024x704, .bf16⟩
  | .hbm, ⟨8, _⟩ => ⟨S2816x1024, .bf16⟩
  | .hbm, ⟨9, _⟩ => ⟨S1x4x704x1024, .bf16⟩
  | .hbm, ⟨10, _⟩ => ⟨S4096x1024, .bf16⟩
  | .hbm, ⟨11, _⟩ => ⟨S2x4x4096x704, .bf16⟩
  | .hbm, ⟨12, _⟩ => ⟨S4x4096x704, .bf16⟩
  | .hbm, ⟨13, _⟩ => ⟨S2x4x4096x704, .bf16⟩
  | .hbm, ⟨14, _⟩ => ⟨S4096x4x704, .bf16⟩
  | .hbm, ⟨15, _⟩ => ⟨S4096x2816, .bf16⟩
  | .hbm, ⟨16, _⟩ => ⟨S8x4096x704, .bf16⟩
  | .hbm, ⟨17, _⟩ => ⟨S4096x8x704, .bf16⟩
  | .hbm, ⟨18, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S2x1x1024x704, .bf16⟩
  | .local _ .vmem, ⟨7, _⟩ => ⟨S2x1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1024x1024, .f32⟩
  | .local _ .vmem, ⟨11, _⟩ => ⟨S1024x1024, .f32⟩
  | .local _ .vmem, ⟨12, _⟩ => ⟨S1x1x704x1024, .bf16⟩
  | .local _ .vmem, ⟨13, _⟩ => ⟨S1x1x704x1024, .bf16⟩
  | .local _ .vmem, ⟨14, _⟩ => ⟨S2x1x1024x704, .bf16⟩
  | .local _ .vmem, ⟨15, _⟩ => ⟨S2x1x1024x704, .bf16⟩
  | .local _ .vmem, ⟨16, _⟩ => ⟨S2x1x1024x704, .bf16⟩
  | .local _ .vmem, ⟨17, _⟩ => ⟨S2x1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== FfnReferenceIdeal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x5632, .f32⟩
  | .hbm, ⟨42, _⟩ => ⟨S4096x2816, .bf16⟩
  | .hbm, ⟨43, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_v7_2 : Ref sig .tc := ⟨.hbm, 26, rfl⟩
abbrev main_call1_cst_1 : Ref sig .tc := ⟨.hbm, 27, rfl⟩
abbrev main_call1_v6 : Ref sig .tc := ⟨.hbm, 28, rfl⟩
abbrev main_call1_v7 : Ref sig .tc := ⟨.hbm, 29, rfl⟩
abbrev main_v7_1 : Ref sig .tc := ⟨.hbm, 30, rfl⟩
abbrev main_v7_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩

abbrev nD : Nat := 1
abbrev τ : Topo := Topo.v7x

variable {F : FTy → Type} [FloatOps F]
-- ==== FwdKernel.lean ====
abbrev S4096x1024 : Shape := ⟨2, ![4096, 1024]⟩
abbrev S4608x1024 : Shape := ⟨2, ![4608, 1024]⟩
abbrev S16x513 : Shape := ⟨2, ![16, 513]⟩
abbrev S4608x2048 : Shape := ⟨2, ![4608, 2048]⟩
abbrev S_ : Shape := ⟨0, ![]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S16x64x768 : Shape := ⟨3, ![16, 64, 768]⟩
abbrev S16x256x768 : Shape := ⟨3, ![16, 256, 768]⟩
abbrev S4096x128 : Shape := ⟨2, ![4096, 128]⟩
abbrev S4608x128 : Shape := ⟨2, ![4608, 128]⟩
abbrev S2x256x768 : Shape := ⟨3, ![2, 256, 768]⟩
abbrev S256x128 : Shape := ⟨2, ![256, 128]⟩
abbrev S256x768 : Shape := ⟨2, ![256, 768]⟩
abbrev S768x128 : Shape := ⟨2, ![768, 128]⟩
abbrev S1x256x768 : Shape := ⟨3, ![1, 256, 768]⟩
abbrev S256 : Shape := ⟨1, ![256]⟩
abbrev S256x1 : Shape := ⟨2, ![256, 1]⟩

abbrev nBuf : Space → Nat
  | .hbm => 54
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4608x1024, .f32⟩
  | .hbm, ⟨2, _⟩ => ⟨S4608x1024, .f32⟩
  | .hbm, ⟨3, _⟩ => ⟨S16x513, .f32⟩
  | .hbm, ⟨4, _⟩ => ⟨S4608x2048, .f32⟩
  | .hbm, ⟨5, _⟩ => ⟨S4608x2048, .bf16⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S64, .i32⟩
  | .hbm, ⟨11, _⟩ => ⟨S64x1, .i32⟩
  | .hbm, ⟨12, _⟩ => ⟨S576, .i32⟩
  | .hbm, ⟨13, _⟩ => ⟨S1x576, .i32⟩
  | .hbm, ⟨14, _⟩ => ⟨S_, .i32⟩
  | .hbm, ⟨15, _⟩ => ⟨S1x576, .i32⟩
  | .hbm, ⟨16, _⟩ => ⟨S1x576, .i32⟩
  | .hbm, ⟨17, _⟩ => ⟨S64x576, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S_, .i32⟩
  | .hbm, ⟨32, _⟩ => ⟨S64x576, .i32⟩
  | .hbm, ⟨33, _⟩ => ⟨S64x576, .i1⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S64x576, .i32⟩
  | .hbm, ⟨38, _⟩ => ⟨S64x576x1, .i32⟩
  | .hbm, ⟨39, _⟩ => ⟨S16x64x576, .f32⟩
  | .hbm, ⟨40, _⟩ => ⟨S_, .f32⟩
  | .hbm, ⟨41, _⟩ => ⟨S_, .f32⟩
  | .hbm, ⟨42, _⟩ => ⟨S16x64x768, .f32⟩
  | .hbm, ⟨43, _⟩ => ⟨S_, .f32⟩
  | .hbm, ⟨44, _⟩ => ⟨S_, .f32⟩
  | .hbm, ⟨45, _⟩ => ⟨S16x64x768, .f32⟩
  | .hbm, ⟨46, _⟩ => ⟨S_, .f32⟩
  | .hbm, ⟨47, _⟩ => ⟨S_, .f32⟩
  | .hbm, ⟨48, _⟩ => ⟨S16x64x768, .f32⟩
  | .hbm, ⟨49, _⟩ => ⟨S_, .f32⟩
  | .hbm, ⟨50, _⟩ => ⟨S_, .f32⟩
  | .hbm, ⟨51, _⟩ => ⟨S16x64x768, .f32⟩
  | .hbm, ⟨52, _⟩ => ⟨S16x256x768, .f32⟩
  | .hbm, ⟨53, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S4608x128, .bf16⟩
  | .local _ .vmem, ⟨3, _⟩ => ⟨S4608x128, .bf16⟩
  | .local _ .vmem, ⟨4, _⟩ => ⟨S4608x128, .bf16⟩
  | .local _ .vmem, ⟨5, _⟩ => ⟨S4608x128, .bf16⟩
  | .local _ .vmem, ⟨6, _⟩ => ⟨S2x256x768, .f32⟩
  | .local _ .vmem, ⟨7, _⟩ => ⟨S2x256x768, .f32⟩
  | .local _ .vmem, ⟨8, _⟩ => ⟨S4096x128, .bf16⟩
  | .local _ .vmem, ⟨9, _⟩ => ⟨S4096x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_call1_v0 : Ref sig .tc := ⟨.hbm, 41, rfl⟩
abbrev main_v24 : Ref sig .tc := ⟨.hbm, 42, rfl⟩
abbrev main_cst_6 : Ref sig .tc := ⟨.hbm, 43, rfl⟩
abbrev main_call2_v0 : Ref sig .tc := ⟨.hbm, 44, rfl⟩
abbrev main_v25 : Ref sig .tc := ⟨.hbm, 45, rfl⟩
abbrev main_cst_7 : Ref sig .tc := ⟨.hbm, 46, rfl⟩
abbrev main_call3_v0 : Ref sig .tc := ⟨.hbm, 47, rfl⟩
abbrev main_v26 : Ref sig .tc := ⟨.hbm, 48, rfl⟩
abbrev main_cst_8 : Ref sig .tc := ⟨.hbm, 49, rfl⟩
abbrev main_call4_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c256_i32 : BitVec 32 := 256#32
  let v6 : BitVec 32 := Scalar.muli c0_i32 c256_i32
  v6
def k0_off1 (c0_i32 : BitVec 32) : Fin 2 → Nat :=
  let c256_i32 : BitVec 32 := 256#32
  let v6 : BitVec 32 := Scalar.muli c0_i32 c256_i32
  let v7 : BitVec 32 := v6
  let v8 : Index := Scalar.indexCast v7
  let c0 : Index := 0#32
  ![v8.toNat, 0]
def k0_off2 (c0_i32 : BitVec 32) : Fin 2 → Nat :=
  let c256_i32 : BitVec 32 := 256#32
  let v6 : BitVec 32 := Scalar.muli c0_i32 c256_i32
  let v7 : BitVec 32 := v6
  let v12 : Index := Scalar.indexCast v7
  let c0_1 : Index := 0#32
  ![v12.toNat, 0]
def k0_mult2 : BitVec 32 :=
  let c1_i32 : BitVec 32 := 1#32
  let c256_i32_23 : BitVec 32 := 256#32
  let v70 : BitVec 32 := Scalar.muli c1_i32 c256_i32_23
  v70
@[reducible] def k0_t1_loop : Scf.Loop 32 :=
  let c2_i32_50 : BitVec 32 := 2#32
  let c14_i32 : BitVec 32 := 14#32
  let v134 : BitVec 32 := Scalar.addi c2_i32_50 c14_i32
  let c1_i32_51 : BitVec 32 := 1#32
  ⟨c2_i32_50, v134, c1_i32_51⟩
def k0_mult3 (k0_t1 : Fin k0_t1_loop.trips) : BitVec 32 :=
  let c2_i32_50 : BitVec 32 := 2#32
  let c1_i32_51 : BitVec 32 := 1#32
  let arg6 : BitVec 32 := Scf.iv c2_i32_50 c1_i32_51 k0_t1
  let c256_i32_53 : BitVec 32 := 256#32
  let v135 : BitVec 32 := Scalar.muli arg6 c256_i32_53
  v135
def k0_off3 (k0_t1 : Fin k0_t1_loop.trips) : Fin 2 → Nat :=
  let c2_i32_50 : BitVec 32 := 2#32
  let c1_i32_51 : BitVec 32 := 1#32
  let arg6 : BitVec 32 := Scf.iv c2_i32_50 c1_i32_51 k0_t1
  let c256_i32_53 : BitVec 32 := 256#32
  let v135 : BitVec 32 := Scalar.muli arg6 c256_i32_53
  let v136 : BitVec 32 := v135
  let v137 : Index := Scalar.indexCast v136
  let c0_54 : Index := 0#32
  ![v137.toNat, 0]
def k0_off4 (k0_t1 : Fin k0_t1_loop.trips) : Fin 2 → Nat :=
  let c2_i32_50 : BitVec 32 := 2#32
  let c1_i32_51 : BitVec 32 := 1#32
  let arg6 : BitVec 32 := Scf.iv c2_i32_50 c1_i32_51 k0_t1
  let c256_i32_53 : BitVec 32 := 256#32
  let v135 : BitVec 32 := Scalar.muli arg6 c256_i32_53
  let v136 : BitVec 32 := v135
  let v141 : Index := Scalar.indexCast v136
  let c0_55 : Index := 0#32
  ![v141.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4608x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4608x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdKernelIdeal.lean ====
variable {F : FTy → Type} [FloatOps F] [Named F]
def κ : String → Option EReal := fun
  | "mask" => some ⊥
  | _ => none
-- ==== FwdReferenceIdeal.lean ====
abbrev S4096x1024 : Shape := ⟨2, ![4096, 1024]⟩
abbrev S4608x1024 : Shape := ⟨2, ![4608, 1024]⟩
abbrev S16x513 : Shape := ⟨2, ![16, 513]⟩
abbrev S4096x16x64 : Shape := ⟨3, ![4096, 16, 64]⟩
abbrev S4608x16x64 : Shape := ⟨3, ![4608, 16, 64]⟩
abbrev S4096 : Shape := ⟨1, ![4096]⟩
abbrev S4096x1 : Shape := ⟨2, ![4096, 1]⟩
abbrev S4608 : Shape := ⟨1, ![4608]⟩
abbrev S1x4608 : Shape := ⟨2, ![1, 4608]⟩
abbrev S_ : Shape := ⟨0, ![]⟩
abbrev S4096x4608 : Shape := ⟨2, ![4096, 4608]⟩
abbrev S4096x4608x1 : Shape := ⟨3, ![4096, 4608, 1]⟩
abbrev S16x4096x4608 : Shape := ⟨3, ![16, 4096, 4608]⟩
abbrev S16x4096 : Shape := ⟨2, ![16, 4096]⟩
abbrev S16x4096x1 : Shape := ⟨3, ![16, 4096, 1]⟩
abbrev S16x64x4096 : Shape := ⟨3, ![16, 64, 4096]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4608x1024, .f32⟩
  | .hbm, ⟨2, _⟩ => ⟨S4608x1024, .f32⟩
  | .hbm, ⟨3, _⟩ => ⟨S16x513, .f32⟩
  | .hbm, ⟨4, _⟩ => ⟨S4096x16x64, .f32⟩
  | .hbm, ⟨5, _⟩ => ⟨S4608x16x64, .f32⟩
  | .hbm, ⟨6, _⟩ => ⟨S4608x16x64, .f32⟩
  | .hbm, ⟨7, _⟩ => ⟨S4096, .i32⟩
  | .hbm, ⟨8, _⟩ => ⟨S4096x1, .i32⟩
  | .hbm, ⟨9, _⟩ => ⟨S4608, .i32⟩
  | .hbm, ⟨10, _⟩ => ⟨S1x4608, .i32⟩
  | .hbm, ⟨11, _⟩ => ⟨S_, .i32⟩
  | .hbm, ⟨12, _⟩ => ⟨S4096x1, .i32⟩
  | .hbm, ⟨13, _⟩ => ⟨S4096x1, .i32⟩
  | .hbm, ⟨14, _⟩ => ⟨S4096x4608, .i32⟩
  | .hbm, ⟨15, _⟩ => ⟨S4096x4608, .i32⟩
  | .hbm, ⟨16, _⟩ => ⟨S4096x4608, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S4096x4608, .i32⟩
  | .hbm, ⟨21, _⟩ => ⟨S4096x4608, .i32⟩
  | .hbm, ⟨22, _⟩ => ⟨S_, .i32⟩
  | .hbm, ⟨23, _⟩ => ⟨S4096x4608, .i32⟩
  | .hbm, ⟨24, _⟩ => ⟨S4096x4608, .i32⟩
  | .hbm, ⟨25, _⟩ => ⟨S_, .i32⟩
  | .hbm, ⟨26, _⟩ => ⟨S4096x4608, .i32⟩
  | .hbm, ⟨27, _⟩ => ⟨S4096x4608, .i32⟩
  | .hbm, ⟨28, _⟩ => ⟨S_, .i32⟩
  | .hbm, ⟨29, _⟩ => ⟨S4096x4608, .i32⟩
  | .hbm, ⟨30, _⟩ => ⟨S4096x4608, .i1⟩
  | .hbm, ⟨31, _⟩ => ⟨S_, .i32⟩
  | .hbm, ⟨32, _⟩ => ⟨S4096x4608, .i32⟩
  | .hbm, ⟨33, _⟩ => ⟨S4096x4608, .i32⟩
  | .hbm, ⟨34, _⟩ => ⟨S4096x4608, .i32⟩
  | .hbm, ⟨35, _⟩ => ⟨S4096x4608x1, .i32⟩
  | .hbm, ⟨36, _⟩ => ⟨S16x4096x4608, .f32⟩
  | .hbm, ⟨37, _⟩ => ⟨S16x4096x4608, .f32⟩
  | .hbm, ⟨38, _⟩ => ⟨S_, .f32⟩
  | .hbm, ⟨39, _⟩ => ⟨S16x4096x4608, .f32⟩
  | .hbm, ⟨40, _⟩ => ⟨S16x4096x4608, .f32⟩
  | .hbm, ⟨41, _⟩ => ⟨S16x4096x4608, .f32⟩
  | .hbm, ⟨42, _⟩ => ⟨S_, .i32⟩
  | .hbm, ⟨43, _⟩ => ⟨S_, .i32⟩
  | .hbm, ⟨44, _⟩ => ⟨S4096x1, .i32⟩
  | .hbm, ⟨45, _⟩ => ⟨S4096x1, .i32⟩
  | .hbm, ⟨46, _⟩ => ⟨S4096x1, .i32⟩
  | .hbm, ⟨47, _⟩ => ⟨S_, .i32⟩
  | .hbm, ⟨48, _⟩ => ⟨S4096x1, .i32⟩
  | .hbm, ⟨49, _⟩ => ⟨S4096x1, .i1⟩
  | .hbm, ⟨50, _⟩ => ⟨S4096x1, .i32⟩
  | .hbm, ⟨51, _⟩ => ⟨S4096x1, .i32⟩
  | .hbm, ⟨52, _⟩ => ⟨S_, .i32⟩
  | .hbm, ⟨53, _⟩ => ⟨S4096x1, .i32⟩
  | .hbm, ⟨54, _⟩ => ⟨S4096x1, .i1⟩
  | .hbm, ⟨55, _⟩ => ⟨S4096x1, .i1⟩
  | .hbm, ⟨56, _⟩ => ⟨S_, .i32⟩
  | .hbm, ⟨57, _⟩ => ⟨S4096x1, .i32⟩
  | .hbm, ⟨58, _⟩ => ⟨S4096x1, .i32⟩
  | .hbm, ⟨59, _⟩ => ⟨S4096x1, .i32⟩
  | .hbm, ⟨60, _⟩ => ⟨S_, .i32⟩
  | .hbm, ⟨61, _⟩ => ⟨S_, .i32⟩
  | .hbm, ⟨62, _⟩ => ⟨S1x4608, .i32⟩
  | .hbm, ⟨63, _⟩ => ⟨S1x4608, .i32⟩
  | .hbm, ⟨64, _⟩ => ⟨S1x4608, .i32⟩
  | .hbm, ⟨65, _⟩ => ⟨S_, .i32⟩
  | .hbm, ⟨66, _⟩ => ⟨S1x4608, .i32⟩
  | .hbm, ⟨67, _⟩ => ⟨S1x4608, .i1⟩
  | .hbm, ⟨68, _⟩ => ⟨S1x4608, .i32⟩
  | .hbm, ⟨69, _⟩ => ⟨S1x4608, .i32⟩
  | .hbm, ⟨70, _⟩ => ⟨S_, .i32⟩
  | .hbm, ⟨71, _⟩ => ⟨S1x4608, .i32⟩
  | .hbm, ⟨72, _⟩ => ⟨S1x4608, .i1⟩
  | .hbm, ⟨73, _⟩ => ⟨S1x4608, .i1⟩
  | .hbm, ⟨74, _⟩ => ⟨S_, .i32⟩
  | .hbm, ⟨75, _⟩ => ⟨S1x4608, .i32⟩
  | .hbm, ⟨76, _⟩ => ⟨S1x4608, .i32⟩
  | .hbm, ⟨77, _⟩ => ⟨S1x4608, .i32⟩
  | .hbm, ⟨78, _⟩ => ⟨S4096x4608, .i32⟩
  | .hbm, ⟨79, _⟩ => ⟨S4096x4608, .i32⟩
  | .hbm, ⟨80, _⟩ => ⟨S4096x4608, .i1⟩
  | .hbm, ⟨81, _⟩ => ⟨S_, .i32⟩
  | .hbm, ⟨82, _⟩ => ⟨S4096x1, .i32⟩
  | .hbm, ⟨83, _⟩ => ⟨S4096x1, .i32⟩
  | .hbm, ⟨84, _⟩ => ⟨S4096x4608, .i32⟩
  | .hbm, ⟨85, _⟩ => ⟨S4096x4608, .i32⟩
  | .hbm, ⟨86, _⟩ => ⟨S4096x4608, .i1⟩
  | .hbm, ⟨87, _⟩ => ⟨S4096x4608, .i1⟩
  | .hbm, ⟨88, _⟩ => ⟨S_, .i32⟩
  | .hbm, ⟨89, _⟩ => ⟨S1x4608, .i32⟩
  | .hbm, ⟨90, _⟩ => ⟨S1x4608, .i1⟩
  | .hbm, ⟨91, _⟩ => ⟨S4096x4608, .i1⟩
  | .hbm, ⟨92, _⟩ => ⟨S4096x4608, .i1⟩
  | .hbm, ⟨93, _⟩ => ⟨S_, .f32⟩
  | .hbm, ⟨94, _⟩ => ⟨S_, .f32⟩
  | .hbm, ⟨95, _⟩ => ⟨S16x4096x4608, .i1⟩
  | .hbm, ⟨96, _⟩ => ⟨S16x4096x4608, .f32⟩
  | .hbm, ⟨97, _⟩ => ⟨S16x4096x4608, .f32⟩
  | .hbm, ⟨98, _⟩ => ⟨S_, .f32⟩
  | .hbm, ⟨99, _⟩ => ⟨S16x4096, .f32⟩
  | .hbm, ⟨100, _⟩ => ⟨S_, .f32⟩
  | .hbm, ⟨101, _⟩ => ⟨S16x4096, .f32⟩
  | .hbm, ⟨102, _⟩ => ⟨S16x4096, .f32⟩
  | .hbm, ⟨103, _⟩ => ⟨S16x4096x1, .f32⟩
  | .hbm, ⟨104, _⟩ => ⟨S16x4096x4608, .f32⟩
  | .hbm, ⟨105, _⟩ => ⟨S16x4096x4608, .f32⟩
  | .hbm, ⟨106, _⟩ => ⟨S16x4096x4608, .f32⟩
  | .hbm, ⟨107, _⟩ => ⟨S_, .f32⟩
  | .hbm, ⟨108, _⟩ => ⟨S16x4096, .f32⟩
  | .hbm, ⟨109, _⟩ => ⟨S16x4096x1, .f32⟩
  | .hbm, ⟨110, _⟩ => ⟨S16x4096x4608, .f32⟩
  | .hbm, ⟨111, _⟩ => ⟨S16x4096x4608, .f32⟩
  | .hbm, ⟨112, _⟩ => ⟨S16x64x4096, .f32⟩
  | .hbm, ⟨113, _⟩ => ⟨S4096x16x64, .f32⟩
  | .hbm, ⟨114, _⟩ => ⟨S4096x1024, .f32⟩
  | .hbm, ⟨115, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v26 : Ref sig .tc := ⟨.hbm, 59, rfl⟩
abbrev main_c_6 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_c_7 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_c_8 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_9 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v41 : Ref sig .tc := ⟨.hbm, 97, rfl⟩
abbrev main_cst_10 : Ref sig .tc := ⟨.hbm, 98, rfl⟩
abbrev main_v42 : Ref sig .tc := ⟨.hbm, 99, rfl⟩
abbrev main_cst_11 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_cst_12 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩

abbrev nD : Nat := 1
abbrev τ : Topo := Topo.v7x

variable {F : FTy → Type} [FloatOps F]
-- ==== BiasKernel.lean ====
abbrev S16x513 : Shape := ⟨2, ![16, 513]⟩
abbrev S16x128x640 : Shape := ⟨3, ![16, 128, 640]⟩
abbrev S_ : Shape := ⟨0, ![]⟩
abbrev S16x128x768 : Shape := ⟨3, ![16, 128, 768]⟩
abbrev S128x16x768 : Shape := ⟨3, ![128, 16, 768]⟩
abbrev S16x640 : Shape := ⟨2, ![16, 640]⟩
abbrev S16x768 : Shape := ⟨2, ![16, 768]⟩
abbrev S1x16x768 : Shape := ⟨3, ![1, 16, 768]⟩
abbrev S640x768 : Shape := ⟨2, ![640, 768]⟩

abbrev nBuf : Space → Nat
  | .hbm => 8
  | .vmem => 2
  | .smem => 0
  | _ => 0

abbrev bufTy : (tb : Table) → Fin (tcTables nBuf tb) → BufTy
  | .hbm, ⟨0, _⟩ => ⟨S16x513, .f32⟩
  | .hbm, ⟨1, _⟩ => ⟨S16x128x640, .f32⟩
  | .hbm, ⟨2, _⟩ => ⟨S_, .i32⟩
  | .hbm, ⟨3, _⟩ => ⟨S_, .f32⟩
  | .hbm, ⟨4, _⟩ => ⟨S16x128x768, .f32⟩
  | .hbm, ⟨5, _⟩ => ⟨S128x16x768, .f32⟩
  | .hbm, ⟨6, _⟩ => ⟨S16x640, .f32⟩
  | .hbm, ⟨7, _⟩ => ⟨S16x513, .f32⟩
  | .local _ .vmem, ⟨0, _⟩ => ⟨S128x16x768, .f32⟩
  | .local _ .vmem, ⟨1, _⟩ => ⟨S16x640, .f32⟩
  | _, _ => ⟨S16x513, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== BiasReferenceIdeal.lean ====
abbrev S16x513 : Shape := ⟨2, ![16, 513]⟩
abbrev S16x128x640 : Shape := ⟨3, ![16, 128, 640]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S128x640x1 : Shape := ⟨3, ![128, 640, 1]⟩

abbrev nBuf : Space → Nat
  | .hbm => 35
  | .vmem => 0
  | .smem => 0
  | _ => 0

abbrev bufTy : (tb : Table) → Fin (tcTables nBuf tb) → BufTy
  | .hbm, ⟨0, _⟩ => ⟨S16x513, .f32⟩
  | .hbm, ⟨1, _⟩ => ⟨S16x128x640, .f32⟩
  | .hbm, ⟨2, _⟩ => ⟨S128, .i32⟩
  | .hbm, ⟨3, _⟩ => ⟨S128x1, .i32⟩
  | .hbm, ⟨4, _⟩ => ⟨S640, .i32⟩
  | .hbm, ⟨5, _⟩ => ⟨S1x640, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S128x640, .i32⟩
  | .hbm, ⟨10, _⟩ => ⟨S128x640, .i32⟩
  | .hbm, ⟨11, _⟩ => ⟨S128x640, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S128x640, .i32⟩
  | .hbm, ⟨16, _⟩ => ⟨S128x640, .i32⟩
  | .hbm, ⟨17, _⟩ => ⟨S_, .i32⟩
  | .hbm, ⟨18, _⟩ => ⟨S128x640, .i32⟩
  | .hbm, ⟨19, _⟩ => ⟨S128x640, .i32⟩
  | .hbm, ⟨20, _⟩ => ⟨S_, .i32⟩
  | .hbm, ⟨21, _⟩ => ⟨S128x640, .i32⟩
  | .hbm, ⟨22, _⟩ => ⟨S128x640, .i32⟩
  | .hbm, ⟨23, _⟩ => ⟨S_, .i32⟩
  | .hbm, ⟨24, _⟩ => ⟨S128x640, .i32⟩
  | .hbm, ⟨25, _⟩ => ⟨S128x640, .i1⟩
  | .hbm, ⟨26, _⟩ => ⟨S_, .i32⟩
  | .hbm, ⟨27, _⟩ => ⟨S128x640, .i32⟩
  | .hbm, ⟨28, _⟩ => ⟨S128x640, .i32⟩
  | .hbm, ⟨29, _⟩ => ⟨S128x640, .i32⟩
  | .hbm, ⟨30, _⟩ => ⟨S128x640x1, .i32⟩
  | .hbm, ⟨31, _⟩ => ⟨S16x128x640, .f32⟩
  | .hbm, ⟨32, _⟩ => ⟨S_, .f32⟩
  | .hbm, ⟨33, _⟩ => ⟨S16x513, .f32⟩
  | .hbm, ⟨34, _⟩ => ⟨S16x513, .f32⟩
  | _, _ => ⟨S16x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== SguKernel.lean ====
abbrev S4096x4096 : Shape := ⟨2, ![4096, 4096]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩
abbrev S128x8 : Shape := ⟨2, ![128, 8]⟩
abbrev S128x8x1 : Shape := ⟨3, ![128, 8, 1]⟩
abbrev S128x8x256 : Shape := ⟨3, ![128, 8, 256]⟩
abbrev S128x2048 : Shape := ⟨2, ![128, 2048]⟩
abbrev S1x2048 : Shape := ⟨2, ![1, 2048]⟩
abbrev S8x128x1 : Shape := ⟨3, ![8, 128, 1]⟩
abbrev S512x4096 : Shape := ⟨2, ![512, 4096]⟩
abbrev S512x2048 : Shape := ⟨2, ![512, 2048]⟩
abbrev S128x128 : Shape := ⟨2, ![128, 128]⟩
abbrev S1x128x128 : Shape := ⟨3, ![1, 128, 128]⟩
abbrev S128x4096 : Shape := ⟨2, ![128, 4096]⟩
abbrev S128 : Shape := ⟨1, ![128]⟩
abbrev S128x1 : Shape := ⟨2, ![128, 1]⟩
abbrev S128x256 : Shape := ⟨2, ![128, 256]⟩
abbrev S1x128x1 : Shape := ⟨3, ![1, 128, 1]⟩

abbrev nBuf : Space → Nat
  | .hbm => 48
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S2048, .f32⟩
  | .hbm, ⟨2, _⟩ => ⟨S8x128x128, .f32⟩
  | .hbm, ⟨3, _⟩ => ⟨S8x128, .f32⟩
  | .hbm, ⟨4, _⟩ => ⟨S4096x2048, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S8x128x128, .f32⟩
  | .hbm, ⟨34, _⟩ => ⟨S128x8, .f32⟩
  | .hbm, ⟨35, _⟩ => ⟨S128x8x1, .f32⟩
  | .hbm, ⟨36, _⟩ => ⟨S128x8x256, .f32⟩
  | .hbm, ⟨37, _⟩ => ⟨S128x2048, .f32⟩
  | .hbm, ⟨38, _⟩ => ⟨S4096x4096, .bf16⟩
  | .hbm, ⟨39, _⟩ => ⟨S4096x4096, .bf16⟩
  | .hbm, ⟨40, _⟩ => ⟨S4096x2048, .bf16⟩
  | .hbm, ⟨41, _⟩ => ⟨S1x2048, .f32⟩
  | .hbm, ⟨42, _⟩ => ⟨S4096x4096, .bf16⟩
  | .hbm, ⟨43, _⟩ => ⟨S8x128x128, .f32⟩
  | .hbm, ⟨44, _⟩ => ⟨S8x128x1, .f32⟩
  | .hbm, ⟨45, _⟩ => ⟨S1x2048, .f32⟩
  | .hbm, ⟨46, _⟩ => ⟨S8x128, .f32⟩
  | .hbm, ⟨47, _⟩ => ⟨S2048, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S8x128x128, .f32⟩
  | .local _ .vmem, ⟨8, _⟩ => ⟨S8x128x128, .f32⟩
  | .local _ .vmem, ⟨9, _⟩ => ⟨S128x2048, .f32⟩
  | .local _ .vmem, ⟨10, _⟩ => ⟨S512x4096, .bf16⟩
  | .local _ .vmem, ⟨11, _⟩ => ⟨S512x4096, .bf16⟩
  | .local _ .vmem, ⟨12, _⟩ => ⟨S8x128x128, .f32⟩
  | .local _ .vmem, ⟨13, _⟩ => ⟨S8x128x1, .f32⟩
  | .local _ .vmem, ⟨14, _⟩ => ⟨S1x2048, .f32⟩
  | .local _ .vmem, ⟨15, _⟩ => ⟨S128x2048, .f32⟩
  | .local _ .vmem, ⟨16, _⟩ => ⟨S128x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev main_v31_2 : Ref sig .tc := ⟨.hbm, 44, rfl⟩
abbrev main_v31_3 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v1403 : BitVec 1 := Scalar.cmpi .eq arg0 c7_i32
  let v1404 : BitVec 32 := Scalar.extui v1403
  let c0_i32_794 : BitVec 32 := 0#32
  let v1405 : BitVec 1 := Scalar.cmpi .ne v1404 c0_i32_794
  v1405

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguReferenceIdeal.lean ====
abbrev S4096x4096 : Shape := ⟨2, ![4096, 4096]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S32x128x8x256 : Shape := ⟨4, ![32, 128, 8, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x32x256x128 : Shape := ⟨4, ![8, 32, 256, 128]⟩
abbrev S128x8 : Shape := ⟨2, ![128, 8]⟩
abbrev S1x128x8x1 : Shape := ⟨4, ![1, 128, 8, 1]⟩

abbrev nBuf : Space → Nat
  | .hbm => 133
  | .vmem => 0
  | .smem => 0
  | _ => 0

abbrev hbmTy0_0 (i : Nat) : BufTy := match i % 128 with
  | 0 => ⟨S4096x4096, .f32⟩
  | 1 => ⟨S2048, .f32⟩
  | 2 => ⟨S8x128x128, .f32⟩
  | 3 => ⟨S8x128, .f32⟩
  | 4 => ⟨S4096x2048, .f32⟩
  | 5 => ⟨S_, .f32⟩
  | 6 => ⟨S4096x4096, .f32⟩
  | 7 => ⟨S4096x4096, .f32⟩
  | 8 => ⟨S4096x4096, .f32⟩
  | 9 => ⟨S_, .f32⟩
  | 10 => ⟨S4096x4096, .f32⟩
  | 11 => ⟨S4096x4096, .f32⟩
  | 12 => ⟨S4096x4096, .f32⟩
  | 13 => ⟨S4096x4096, .f32⟩
  | 14 => ⟨S4096x4096, .f32⟩
  | 15 => ⟨S4096x4096, .f32⟩
  | 16 => ⟨S4096x4096, .f32⟩
  | 17 => ⟨S4096x2048, .f32⟩
  | 18 => ⟨S4096x2048, .f32⟩
  | 19 => ⟨S4096x2048, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1, .f32⟩
  | 30 => ⟨S4096x1, .f32⟩
  | 31 => ⟨S_, .f32⟩
  | 32 => ⟨S4096x1, .f32⟩
  | 33 => ⟨S4096x1, .f32⟩
  | 34 => ⟨S4096x2048, .f32⟩
  | 35 => ⟨S4096x2048, .f32⟩
  | 36 => ⟨S1x2048, .f32⟩
  | 37 => ⟨S4096x2048, .f32⟩
  | 38 => ⟨S4096x2048, .f32⟩
  | 39 => ⟨S32x128x8x256, .f32⟩
  | 40 => ⟨S128, .i32⟩
  | 41 => ⟨S_, .i32⟩
  | 42 => ⟨S_, .i32⟩
  | 43 => ⟨S128, .i32⟩
  | 44 => ⟨S128, .i32⟩
  | 45 => ⟨S128, .i32⟩
  | 46 => ⟨S_, .i32⟩
  | 47 => ⟨S128, .i32⟩
  | 48 => ⟨S128, .i1⟩
  | 49 => ⟨S128, .i32⟩
  | 50 => ⟨S128, .i32⟩
  | 51 => ⟨S_, .i32⟩
  | 52 => ⟨S128, .i32⟩
  | 53 => ⟨S128, .i1⟩
  | 54 => ⟨S128, .i1⟩
  | 55 => ⟨S_, .i32⟩
  | 56 => ⟨S128, .i32⟩
  | 57 => ⟨S128, .i32⟩
  | 58 => ⟨S128, .i32⟩
  | 59 => ⟨S128x1, .i32⟩
  | 60 => ⟨S1x128, .i32⟩
  | 61 => ⟨S128x128, .i32⟩
  | 62 => ⟨S128x128, .i32⟩
  | 63 => ⟨S128x128, .i1⟩
  | 64 => ⟨S128x128, .f32⟩
  | 65 => ⟨S1x128x128, .f32⟩
  | 66 => ⟨S8x128x128, .f32⟩
  | 67 => ⟨S8x128x128, .f32⟩
  | 68 => ⟨S8x32x256x128, .f32⟩
  | 69 => ⟨S32x128x8x256, .f32⟩
  | 70 => ⟨S128x8, .f32⟩
  | 71 => ⟨S1x128x8x1, .f32⟩
  | 72 => ⟨S32x128x8x256, .f32⟩
  | 73 => ⟨S32x128x8x256, .f32⟩
  | 74 => ⟨S4096x2048, .f32⟩
  | 75 => ⟨S4096x2048, .f32⟩
  | 76 => ⟨S4096x2048, .f32⟩
  | 77 => ⟨S4096x2048, .f32⟩
  | 78 => ⟨S32x128x8x256, .f32⟩
  | 79 => ⟨S_, .f32⟩
  | 80 => ⟨S128x8, .f32⟩
  | 81 => ⟨S1x128x8x1, .f32⟩
  | 82 => ⟨S_, .f32⟩
  | 83 => ⟨S128x8, .f32⟩
  | 84 => ⟨S8x128, .f32⟩
  | 85 => ⟨S8x32x256x128, .f32⟩
  | 86 => ⟨S8x128x128, .f32⟩
  | 87 => ⟨S8x32x256x128, .f32⟩
  | 88 => ⟨S32x128x8x256, .f32⟩
  | 89 => ⟨S8x128x128, .f32⟩
  | 90 => ⟨S8x128x128, .f32⟩
  | 91 => ⟨S4096x2048, .f32⟩
  | 92 => ⟨S4096x2048, .f32⟩
  | 93 => ⟨S_, .f32⟩
  | 94 => ⟨S2048, .f32⟩
  | 95 => ⟨S1x2048, .f32⟩
  | 96 => ⟨S4096x2048, .f32⟩
  | 97 => ⟨S4096x2048, .f32⟩
  | 98 => ⟨S_, .f32⟩
  | 99 => ⟨S2048, .f32⟩
  | 100 => ⟨S4096x2048, .f32⟩
  | 101 => ⟨S_, .f32⟩
  | 102 => ⟨S4096, .f32⟩
  | 103 => ⟨S4096x1, .f32⟩
  | 104 => ⟨S4096x2048, .f32⟩
  | 105 => ⟨S4096x2048, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x2048, .f32⟩
  | 113 => ⟨S4096x2048, .f32⟩
  | 114 => ⟨S4096x2048, .f32⟩
  | 115 => ⟨S4096x2048, .f32⟩
  | 116 => ⟨S4096x2048, .f32⟩
  | 117 => ⟨S4096x4096, .f32⟩
  | 118 => ⟨S4096x4096, .f32⟩
  | 119 => ⟨S4096x4096, .f32⟩
  | 120 => ⟨S_, .f32⟩
  | 121 => ⟨S4096x4096, .f32⟩
  | 122 => ⟨S4096x4096, .f32⟩
  | 123 => ⟨S4096x4096, .f32⟩
  | 124 => ⟨S_, .f32⟩
  | 125 => ⟨S4096x4096, .f32⟩
  | 126 => ⟨S4096x4096, .f32⟩
  | 127 => ⟨S4096x4096, .f32⟩
  | _ => ⟨S4096x4096, .f32⟩

abbrev hbmTy0_1 (i : Nat) : BufTy := match i % 128 with
  | 0 => ⟨S_, .f32⟩
  | 1 => ⟨S4096x4096, .f32⟩
  | 2 => ⟨S4096x4096, .f32⟩
  | 3 => ⟨S4096x4096, .f32⟩
  | 4 => ⟨S4096x4096, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_5 : Ref sig .tc := ⟨.hbm, 79, rfl⟩
abbrev main_v51 : Ref sig .tc := ⟨.hbm, 80, rfl⟩
abbrev main_v52 : Ref sig .tc := ⟨.hbm, 81, rfl⟩
abbrev main_cst_6 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_7 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_v68 : Ref sig .tc := ⟨.hbm, 100, rfl⟩
abbrev main_cst_9 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_10 : Ref sig .tc := ⟨.hbm, 107, rfl⟩
abbrev main_v74 : Ref sig .tc := ⟨.hbm, 108, rfl⟩
abbrev main_v75 : Ref sig .tc := ⟨.hbm, 109, rfl⟩
abbrev main_cst_11 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_12 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_13 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_14 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]
-- ==== RmsKernel.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== BuildKernel.lean ====
abbrev S16x513 : Shape := ⟨2, ![16, 513]⟩
abbrev S_ : Shape := ⟨0, ![]⟩
abbrev S16x640 : Shape := ⟨2, ![16, 640]⟩
abbrev S128x16x640 : Shape := ⟨3, ![128, 16, 640]⟩
abbrev S640x768 : Shape := ⟨2, ![640, 768]⟩
abbrev S16x768 : Shape := ⟨2, ![16, 768]⟩
abbrev S1x16x640 : Shape := ⟨3, ![1, 16, 640]⟩
abbrev S16x128x640 : Shape := ⟨3, ![16, 128, 640]⟩

abbrev nBuf : Space → Nat
  | .hbm => 6
  | .vmem => 2
  | .smem => 0
  | _ => 0

abbrev bufTy : (tb : Table) → Fin (tcTables nBuf tb) → BufTy
  | .hbm, ⟨0, _⟩ => ⟨S16x513, .f32⟩
  | .hbm, ⟨1, _⟩ => ⟨S_, .i32⟩
  | .hbm, ⟨2, _⟩ => ⟨S_, .f32⟩
  | .hbm, ⟨3, _⟩ => ⟨S16x640, .f32⟩
  | .hbm, ⟨4, _⟩ => ⟨S128x16x640, .f32⟩
  | .hbm, ⟨5, _⟩ => ⟨S16x128x640, .f32⟩
  | .local _ .vmem, ⟨0, _⟩ => ⟨S16x640, .f32⟩
  | .local _ .vmem, ⟨1, _⟩ => ⟨S128x16x640, .f32⟩
  | _, _ => ⟨S16x513, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S16x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== BuildReferenceIdeal.lean ====
abbrev S16x513 : Shape := ⟨2, ![16, 513]⟩
abbrev S128 : Shape := ⟨1, ![128]⟩
abbrev S128x1 : Shape := ⟨2, ![128, 1]⟩
abbrev S_ : Shape := ⟨0, ![]⟩
abbrev S640 : Shape := ⟨1, ![640]⟩
abbrev S1x640 : Shape := ⟨2, ![1, 640]⟩
abbrev S128x640 : Shape := ⟨2, ![128, 640]⟩
abbrev S128x640x1 : Shape := ⟨3, ![128, 640, 1]⟩
abbrev S16x128x640 : Shape := ⟨3, ![16, 128, 640]⟩

abbrev nBuf : Space → Nat
  | .hbm => 86
  | .vmem => 0
  | .smem => 0
  | _ => 0

abbrev bufTy : (tb : Table) → Fin (tcTables nBuf tb) → BufTy
  | .hbm, ⟨0, _⟩ => ⟨S16x513, .f32⟩
  | .hbm, ⟨1, _⟩ => ⟨S128, .i32⟩
  | .hbm, ⟨2, _⟩ => ⟨S128x1, .i32⟩
  | .hbm, ⟨3, _⟩ => ⟨S_, .i32⟩
  | .hbm, ⟨4, _⟩ => ⟨S_, .i32⟩
  | .hbm, ⟨5, _⟩ => ⟨S128x1, .i32⟩
  | .hbm, ⟨6, _⟩ => ⟨S128x1, .i32⟩
  | .hbm, ⟨7, _⟩ => ⟨S128x1, .i32⟩
  | .hbm, ⟨8, _⟩ => ⟨S_, .i32⟩
  | .hbm, ⟨9, _⟩ => ⟨S128x1, .i32⟩
  | .hbm, ⟨10, _⟩ => ⟨S128x1, .i1⟩
  | .hbm, ⟨11, _⟩ => ⟨S128x1, .i32⟩
  | .hbm, ⟨12, _⟩ => ⟨S128x1, .i32⟩
  | .hbm, ⟨13, _⟩ => ⟨S_, .i32⟩
  | .hbm, ⟨14, _⟩ => ⟨S128x1, .i32⟩
  | .hbm, ⟨15, _⟩ => ⟨S128x1, .i1⟩
  | .hbm, ⟨16, _⟩ => ⟨S128x1, .i1⟩
  | .hbm, ⟨17, _⟩ => ⟨S_, .i32⟩
  | .hbm, ⟨18, _⟩ => ⟨S128x1, .i32⟩
  | .hbm, ⟨19, _⟩ => ⟨S128x1, .i32⟩
  | .hbm, ⟨20, _⟩ => ⟨S128x1, .i32⟩
  | .hbm, ⟨21, _⟩ => ⟨S640, .i32⟩
  | .hbm, ⟨22, _⟩ => ⟨S1x640, .i32⟩
  | .hbm, ⟨23, _⟩ => ⟨S_, .i32⟩
  | .hbm, ⟨24, _⟩ => ⟨S_, .i32⟩
  | .hbm, ⟨25, _⟩ => ⟨S1x640, .i32⟩
  | .hbm, ⟨26, _⟩ => ⟨S1x640, .i32⟩
  | .hbm, ⟨27, _⟩ => ⟨S1x640, .i32⟩
  | .hbm, ⟨28, _⟩ => ⟨S_, .i32⟩
  | .hbm, ⟨29, _⟩ => ⟨S1x640, .i32⟩
  | .hbm, ⟨30, _⟩ => ⟨S1x640, .i1⟩
  | .hbm, ⟨31, _⟩ => ⟨S1x640, .i32⟩
  | .hbm, ⟨32, _⟩ => ⟨S1x640, .i32⟩
  | .hbm, ⟨33, _⟩ => ⟨S_, .i32⟩
  | .hbm, ⟨34, _⟩ => ⟨S1x640, .i32⟩
  | .hbm, ⟨35, _⟩ => ⟨S1x640, .i1⟩
  | .hbm, ⟨36, _⟩ => ⟨S1x640, .i1⟩
  | .hbm, ⟨37, _⟩ => ⟨S_, .i32⟩
  | .hbm, ⟨38, _⟩ => ⟨S1x640, .i32⟩
  | .hbm, ⟨39, _⟩ => ⟨S1x640, .i32⟩
  | .hbm, ⟨40, _⟩ => ⟨S1x640, .i32⟩
  | .hbm, ⟨41, _⟩ => ⟨S128x640, .i32⟩
  | .hbm, ⟨42, _⟩ => ⟨S128x640, .i32⟩
  | .hbm, ⟨43, _⟩ => ⟨S128x640, .i1⟩
  | .hbm, ⟨44, _⟩ => ⟨S_, .i32⟩
  | .hbm, ⟨45, _⟩ => ⟨S128x1, .i32⟩
  | .hbm, ⟨46, _⟩ => ⟨S128x1, .i32⟩
  | .hbm, ⟨47, _⟩ => ⟨S128x640, .i32⟩
  | .hbm, ⟨48, _⟩ => ⟨S128x640, .i32⟩
  | .hbm, ⟨49, _⟩ => ⟨S128x640, .i1⟩
  | .hbm, ⟨50, _⟩ => ⟨S128x640, .i1⟩
  | .hbm, ⟨51, _⟩ => ⟨S128, .i32⟩
  | .hbm, ⟨52, _⟩ => ⟨S128x1, .i32⟩
  | .hbm, ⟨53, _⟩ => ⟨S640, .i32⟩
  | .hbm, ⟨54, _⟩ => ⟨S1x640, .i32⟩
  | .hbm, ⟨55, _⟩ => ⟨S_, .i32⟩
  | .hbm, ⟨56, _⟩ => ⟨S128x1, .i32⟩
  | .hbm, ⟨57, _⟩ => ⟨S128x1, .i32⟩
  | .hbm, ⟨58, _⟩ => ⟨S128x640, .i32⟩
  | .hbm, ⟨59, _⟩ => ⟨S128x640, .i32⟩
  | .hbm, ⟨60, _⟩ => ⟨S128x640, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S128x640, .i32⟩
  | .hbm, ⟨65, _⟩ => ⟨S128x640, .i32⟩
  | .hbm, ⟨66, _⟩ => ⟨S_, .i32⟩
  | .hbm, ⟨67, _⟩ => ⟨S128x640, .i32⟩
  | .hbm, ⟨68, _⟩ => ⟨S128x640, .i32⟩
  | .hbm, ⟨69, _⟩ => ⟨S_, .i32⟩
  | .hbm, ⟨70, _⟩ => ⟨S128x640, .i32⟩
  | .hbm, ⟨71, _⟩ => ⟨S128x640, .i32⟩
  | .hbm, ⟨72, _⟩ => ⟨S_, .i32⟩
  | .hbm, ⟨73, _⟩ => ⟨S128x640, .i32⟩
  | .hbm, ⟨74, _⟩ => ⟨S128x640, .i1⟩
  | .hbm, ⟨75, _⟩ => ⟨S_, .i32⟩
  | .hbm, ⟨76, _⟩ => ⟨S128x640, .i32⟩
  | .hbm, ⟨77, _⟩ => ⟨S128x640, .i32⟩
  | .hbm, ⟨78, _⟩ => ⟨S128x640, .i32⟩
  | .hbm, ⟨79, _⟩ => ⟨S128x640x1, .i32⟩
  | .hbm, ⟨80, _⟩ => ⟨S16x128x640, .f32⟩
  | .hbm, ⟨81, _⟩ => ⟨S_, .f32⟩
  | .hbm, ⟨82, _⟩ => ⟨S_, .f32⟩
  | .hbm, ⟨83, _⟩ => ⟨S16x128x640, .i1⟩
  | .hbm, ⟨84, _⟩ => ⟨S16x128x640, .f32⟩
  | .hbm, ⟨85, _⟩ => ⟨S16x128x640, .f32⟩
  | _, _ => ⟨S16x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_c_1 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_c_2 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_c_3 : Ref sig .tc := ⟨.hbm, 61, rfl⟩
abbrev main_c_4 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v24 : Ref sig .tc := ⟨.hbm, 68, rfl⟩
abbrev main_c_5 : Ref sig .tc := ⟨.hbm, 69, rfl⟩
abbrev main_v25 : Ref sig .tc := ⟨.hbm, 70, rfl⟩
abbrev main_v26 : Ref sig .tc := ⟨.hbm, 71, rfl⟩
abbrev main_c_6 : Ref sig .tc := ⟨.hbm, 72, rfl⟩
abbrev main_v27 : Ref sig .tc := ⟨.hbm, 73, rfl⟩
abbrev main_v28 : Ref sig .tc := ⟨.hbm, 74, rfl⟩
abbrev main_c_7 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v34 : Ref sig .tc := ⟨.hbm, 85, rfl⟩

abbrev nD : Nat := 1
abbrev τ : Topo := Topo.v7x

variable {F : FTy → Type} [FloatOps F]
-- ==== OutKernel.lean ====
abbrev S4096x2048 : Shape := ⟨2, ![4096, 2048]⟩
abbrev S2048x1024 : Shape := ⟨2, ![2048, 1024]⟩
abbrev S4096x1024 : Shape := ⟨2, ![4096, 1024]⟩
abbrev S1x2048x1024 : Shape := ⟨3, ![1, 2048, 1024]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x2048, .bf16⟩
  | .hbm, ⟨4, _⟩ => ⟨S2048x1024, .bf16⟩
  | .hbm, ⟨5, _⟩ => ⟨S1x2048x1024, .bf16⟩
  | .hbm, ⟨6, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DownKernel.lean ====
abbrev S4096x2816 : Shape := ⟨2, ![4096, 2816]⟩
abbrev S2816x1024 : Shape := ⟨2, ![2816, 1024]⟩
abbrev S4096x1024 : Shape := ⟨2, ![4096, 1024]⟩
abbrev S4096x4x704 : Shape := ⟨3, ![4096, 4, 704]⟩
abbrev S4x4096x704 : Shape := ⟨3, ![4, 4096, 704]⟩
abbrev S1x4x704x1024 : Shape := ⟨4, ![1, 4, 704, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S4096x4x704, .bf16⟩
  | .hbm, ⟨5, _⟩ => ⟨S4x4096x704, .bf16⟩
  | .hbm, ⟨6, _⟩ => ⟨S2816x1024, .bf16⟩
  | .hbm, ⟨7, _⟩ => ⟨S1x4x704x1024, .bf16⟩
  | .hbm, ⟨8, _⟩ => ⟨S4096x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S1x4x704x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ColKernel.lean ====
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S1x8x1024x512 : Shape := ⟨4, ![1, 8, 1024, 512]⟩
abbrev S4096x4096 : Shape := ⟨2, ![4096, 4096]⟩
abbrev S2048x1024 : Shape := ⟨2, ![2048, 1024]⟩
abbrev S1x1x1024x512 : Shape := ⟨4, ![1, 1, 1024, 512]⟩
abbrev S2048x512 : Shape := ⟨2, ![2048, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4096, .bf16⟩
  | .hbm, ⟨3, _⟩ => ⟨S1024x8x512, .bf16⟩
  | .hbm, ⟨4, _⟩ => ⟨S8x1024x512, .bf16⟩
  | .hbm, ⟨5, _⟩ => ⟨S4096x1024, .bf16⟩
  | .hbm, ⟨6, _⟩ => ⟨S1x8x1024x512, .bf16⟩
  | .hbm, ⟨7, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S2048x512, .bf16⟩
  | .local _ .vmem, ⟨5, _⟩ => ⟨S2048x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ColReferenceIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== TnatKernel.lean ====
abbrev S4096x1024 : Shape := ⟨2, ![4096, 1024]⟩
abbrev S2048x1024 : Shape := ⟨2, ![2048, 1024]⟩
abbrev S1x2048x1024 : Shape := ⟨3, ![1, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S2048x1024, .bf16⟩
  | .hbm, ⟨3, _⟩ => ⟨S1x2048x1024, .bf16⟩
  | .hbm, ⟨4, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnatReferenceIdeal.lean ====
abbrev S4096x1024 : Shape := ⟨2, ![4096, 1024]⟩
abbrev S2048x1024 : Shape := ⟨2, ![2048, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S1024x2048, .f32⟩
  | .hbm, ⟨3, _⟩ => ⟨S4096x2048, .f32⟩
  | .hbm, ⟨4, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwcolKernel.lean ====
abbrev S4096x1024 : Shape := ⟨2, ![4096, 1024]⟩
abbrev S4096x5632 : Shape := ⟨2, ![4096, 5632]⟩
abbrev S4096x8x704 : Shape := ⟨3, ![4096, 8, 704]⟩
abbrev S8x4096x704 : Shape := ⟨3, ![8, 4096, 704]⟩
abbrev S8x704x1024 : Shape := ⟨3, ![8, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x5632, .bf16⟩
  | .hbm, ⟨3, _⟩ => ⟨S4096x8x704, .bf16⟩
  | .hbm, ⟨4, _⟩ => ⟨S8x4096x704, .bf16⟩
  | .hbm, ⟨5, _⟩ => ⟨S4096x1024, .bf16⟩
  | .hbm, ⟨6, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwcolReferenceIdeal.lean ====
abbrev S4096x1024 : Shape := ⟨2, ![4096, 1024]⟩
abbrev S4096x5632 : Shape := ⟨2, ![4096, 5632]⟩
abbrev S5632x4096 : Shape := ⟨2, ![5632, 4096]⟩
abbrev S5632x1024 : Shape := ⟨2, ![5632, 1024]⟩
abbrev S8x704x1024 : Shape := ⟨3, ![8, 704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S5632x4096, .f32⟩
  | .hbm, ⟨3, _⟩ => ⟨S5632x1024, .f32⟩
  | .hbm, ⟨4, _⟩ => ⟨S5632x1024, .bf16⟩
  | .hbm, ⟨5, _⟩ => ⟨S8x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OsumKernel.lean ====
abbrev S8x40x1024 : Shape := ⟨3, ![8, 40, 1024]⟩
abbrev S40x1024 : Shape := ⟨2, ![40, 1024]⟩
abbrev S1x40x1024 : Shape := ⟨3, ![1, 40, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .local _ .vmem, ⟨0, _⟩ => ⟨S8x40x1024, .f32⟩
  | .local _ .vmem, ⟨1, _⟩ => ⟨S40x1024, .f32⟩
  | _, _ => ⟨S8x40x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== OsumReferenceIdeal.lean ====
abbrev S8x40x1024 : Shape := ⟨3, ![8, 40, 1024]⟩
abbrev S_ : Shape := ⟨0, ![]⟩
abbrev S40x1024 : Shape := ⟨2, ![40, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x40x1024, .f32⟩
  | .hbm, ⟨1, _⟩ => ⟨S_, .f32⟩
  | .hbm, ⟨2, _⟩ => ⟨S40x1024, .f32⟩
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DwnatKernel.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwnatReferenceIdeal.lean ====
abbrev S4096x2048 : Shape := ⟨2, ![4096, 2048]⟩
abbrev S4096x1024 : Shape := ⟨2, ![4096, 1024]⟩
abbrev S2048x4096 : Shape := ⟨2, ![2048, 4096]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S2048x4096, .f32⟩
  | .hbm, ⟨3, _⟩ => ⟨S2048x1024, .f32⟩
  | .hbm, ⟨4, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwdownKernel.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x4x704, .bf16⟩
  | .hbm, ⟨4, _⟩ => ⟨S4x4096x704, .bf16⟩
  | .hbm, ⟨5, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwdownReferenceIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩
abbrev S4x704x1024 : Shape := ⟨3, ![4, 704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2816x4096, .f32⟩
  | .hbm, ⟨3, _⟩ => ⟨S2816x1024, .f32⟩
  | .hbm, ⟨4, _⟩ => ⟨S2816x1024, .bf16⟩
  | .hbm, ⟨5, _⟩ => ⟨S4x704x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdamKernel.lean ====
abbrev S1x288x1024 : Shape := ⟨3, ![1, 288, 1024]⟩
abbrev S1x1x288x1024 : Shape := ⟨4, ![1, 1, 288, 1024]⟩
abbrev S1x1x144x1024 : Shape := ⟨4, ![1, 1, 144, 1024]⟩
abbrev S1x144x1024 : Shape := ⟨3, ![1, 144, 1024]⟩
abbrev S144x1024 : Shape := ⟨2, ![144, 1024]⟩

abbrev nBuf : Space → Nat
  | .hbm => 9
  | .vmem => 16
  | .smem => 0
  | _ => 0

abbrev bufTy : (tb : Table) → Fin (tcTables nBuf tb) → BufTy
  | .hbm, ⟨0, _⟩ => ⟨S1x288x1024, .f32⟩
  | .hbm, ⟨1, _⟩ => ⟨S1x288x1024, .f32⟩
  | .hbm, ⟨2, _⟩ => ⟨S1x288x1024, .f32⟩
  | .hbm, ⟨3, _⟩ => ⟨S1x288x1024, .f32⟩
  | .hbm, ⟨4, _⟩ => ⟨S1x1x288x1024, .f32⟩
  | .hbm, ⟨5, _⟩ => ⟨S1x288x1024, .f32⟩
  | .hbm, ⟨6, _⟩ => ⟨S1x288x1024, .f32⟩
  | .hbm, ⟨7, _⟩ => ⟨S1x288x1024, .f32⟩
  | .hbm, ⟨8, _⟩ => ⟨S1x288x1024, .f32⟩
  | .local _ .vmem, ⟨0, _⟩ => ⟨S1x1x144x1024, .f32⟩
  | .local _ .vmem, ⟨1, _⟩ => ⟨S1x1x144x1024, .f32⟩
  | .local _ .vmem, ⟨2, _⟩ => ⟨S1x144x1024, .f32⟩
  | .local _ .vmem, ⟨3, _⟩ => ⟨S1x144x1024, .f32⟩
  | .local _ .vmem, ⟨4, _⟩ => ⟨S1x144x1024, .f32⟩
  | .local _ .vmem, ⟨5, _⟩ => ⟨S1x144x1024, .f32⟩
  | .local _ .vmem, ⟨6, _⟩ => ⟨S1x144x1024, .f32⟩
  | .local _ .vmem, ⟨7, _⟩ => ⟨S1x144x1024, .f32⟩
  | .local _ .vmem, ⟨8, _⟩ => ⟨S1x144x1024, .f32⟩
  | .local _ .vmem, ⟨9, _⟩ => ⟨S1x144x1024, .f32⟩
  | .local _ .vmem, ⟨10, _⟩ => ⟨S1x144x1024, .f32⟩
  | .local _ .vmem, ⟨11, _⟩ => ⟨S1x144x1024, .f32⟩
  | .local _ .vmem, ⟨12, _⟩ => ⟨S1x144x1024, .f32⟩
  | .local _ .vmem, ⟨13, _⟩ => ⟨S1x144x1024, .f32⟩
  | .local _ .vmem, ⟨14, _⟩ => ⟨S1x144x1024, .f32⟩
  | .local _ .vmem, ⟨15, _⟩ => ⟨S1x144x1024, .f32⟩
  | _, _ => ⟨S1x288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x144x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x144x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamKernelIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamReferenceIdeal.lean ====
abbrev S1x288x1024 : Shape := ⟨3, ![1, 288, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x288x1024, .f32⟩
  | .hbm, ⟨1, _⟩ => ⟨S1x288x1024, .f32⟩
  | .hbm, ⟨2, _⟩ => ⟨S1x288x1024, .f32⟩
  | .hbm, ⟨3, _⟩ => ⟨S1x288x1024, .f32⟩
  | .hbm, ⟨4, _⟩ => ⟨S_, .f32⟩
  | .hbm, ⟨5, _⟩ => ⟨S1x288x1024, .f32⟩
  | .hbm, ⟨6, _⟩ => ⟨S1x288x1024, .f32⟩
  | .hbm, ⟨7, _⟩ => ⟨S_, .f32⟩
  | .hbm, ⟨8, _⟩ => ⟨S1x288x1024, .f32⟩
  | .hbm, ⟨9, _⟩ => ⟨S1x288x1024, .f32⟩
  | .hbm, ⟨10, _⟩ => ⟨S1x288x1024, .f32⟩
  | .hbm, ⟨11, _⟩ => ⟨S_, .f32⟩
  | .hbm, ⟨12, _⟩ => ⟨S1x288x1024, .f32⟩
  | .hbm, ⟨13, _⟩ => ⟨S1x288x1024, .f32⟩
  | .hbm, ⟨14, _⟩ => ⟨S1x288x1024, .f32⟩
  | .hbm, ⟨15, _⟩ => ⟨S_, .f32⟩
  | .hbm, ⟨16, _⟩ => ⟨S1x288x1024, .f32⟩
  | .hbm, ⟨17, _⟩ => ⟨S1x288x1024, .f32⟩
  | .hbm, ⟨18, _⟩ => ⟨S1x288x1024, .f32⟩
  | .hbm, ⟨19, _⟩ => ⟨S_, .f32⟩
  | .hbm, ⟨20, _⟩ => ⟨S1x288x1024, .f32⟩
  | .hbm, ⟨21, _⟩ => ⟨S1x288x1024, .f32⟩
  | .hbm, ⟨22, _⟩ => ⟨S_, .f32⟩
  | .hbm, ⟨23, _⟩ => ⟨S1x288x1024, .f32⟩
  | .hbm, ⟨24, _⟩ => ⟨S1x288x1024, .f32⟩
  | .hbm, ⟨25, _⟩ => ⟨S1x288x1024, .f32⟩
  | .hbm, ⟨26, _⟩ => ⟨S_, .f32⟩
  | .hbm, ⟨27, _⟩ => ⟨S1x288x1024, .f32⟩
  | .hbm, ⟨28, _⟩ => ⟨S1x288x1024, .f32⟩
  | .hbm, ⟨29, _⟩ => ⟨S1x288x1024, .f32⟩
  | .hbm, ⟨30, _⟩ => ⟨S_, .f32⟩
  | .hbm, ⟨31, _⟩ => ⟨S1x288x1024, .f32⟩
  | .hbm, ⟨32, _⟩ => ⟨S1x288x1024, .f32⟩
  | .hbm, ⟨33, _⟩ => ⟨S1x288x1024, .f32⟩
  | .hbm, ⟨34, _⟩ => ⟨S_, .f32⟩
  | .hbm, ⟨35, _⟩ => ⟨S1x288x1024, .f32⟩
  | .hbm, ⟨36, _⟩ => ⟨S1x288x1024, .f32⟩
  | _, _ => ⟨S1x288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.LossArray.lean ====
/-
  The three result arrays of the loss kernel. Each of the eight grid points leaves one gradient block and adds its
  share to the loss and to the weight's gradient, which the first point resets; so the gradient array is the blocks
  side by side and the two accumulators end at the sum over the points.
-/
module

public import proofs.«01_k».proof.Proof.Gen.LossKernelIdeal.Value
public import Idealize.ShloMosaic.Lib.Tactic
public import Idealize.ShloMosaic.Lib.PointwiseCore

@[expose] public section

set_option maxRecDepth 16384

noncomputable section

namespace Cert.LossArray

open Idealize.ShloMosaic Idealize.ShloMosaic.TcCoe Idealize.SL.Sem
open Idealize.ShloMosaic.Pipeline (Dat)
open Cert.LossKernelIdeal Cert.LossKernelIdeal.Gen

variable {F : FTy → Type} [FloatOps F]
variable (m : (ℓ : Loc nD τ sig) → Buf (Elt F) ℓ)

theorem zeros2 : (![0, 0] : Fin 2 → Nat) = fun _ => 0 := funext fun a => by fin_cases a <;> rfl

/-- What a point leaves over what the two accumulators held: gradient block, loss, weight's gradient. -/
def step (x : Vec F S512x1024 .f32) (g : Vec F S1x1024 .f32) (y : Vec F S512x1024 .f32)
    (o : Vec F S1x1 .f32 × Vec F S1x1024 .f32) : Vec F S512x1024 .f32 × Vec F S1x1 .f32 × Vec F S1x1024 .f32 :=
  (k0_pay2 (k0_pay5 x) (k0_pay6 x) (k0_pay9 x g y) g, k0_pay8 x g y o.1, k0_pay1 (k0_pay6 x) (k0_pay9 x g y) o.2)

section Cases

variable (c : Dev nD) (i : grid0.Coords)
  (a1 : Memref sig .tc .vmem S512x1024 .f32) (h1 : a1.IsWhole) (a2 : Memref sig .tc .vmem S1x1024 .f32) (h2 : a2.IsWhole)
  (a3 : Memref sig .tc .vmem S512x1024 .f32) (h3 : a3.IsWhole) (a4 : Memref sig .tc .vmem S512x1024 .f32) (h4 : a4.IsWhole)
  (a5 : Memref sig .tc .vmem S1x1 .f32) (h5 : a5.IsWhole) (a6 : Memref sig .tc .vmem S1x1024 .f32) (h6 : a6.IsWhole)
  (x : Vec F S512x1024 .f32) (g : Vec F S1x1024 .f32) (y : Vec F S512x1024 .f32)
  (o4 : Vec F S1x1 .f32) (o5 : Vec F S1x1024 .f32)

theorem later_dx (hc : ¬cond0_0 i) :
    out0_B_3 c i a1 h1 a2 h2 a3 h3 a4 h4 a5 h5 a6 h6 hc x g y o4 o5 = (step x g y (o4, o5)).1 := by
  unfold out0_B_3
  rw [View.read_writes_eq_canon _ _ _ (cover0_B_3 c i a1 h1 a2 h2 a3 h3 a4 h4 a5 h5 a6 h6 hc x g y o4 o5)]
  unfold kernelRun0_B
  dsimp only
  sl_unfold_words
  rw [View.canon_unit_zero zeros2]
  simp only [View.readAt_eq_ld, h1.read_unread, h2.read_unread, h3.read_unread, View.ld_unit_zero (S := S512x1024) zeros2,
    View.ld_unit_zero (S := S1x1024) zeros2]
  rfl

theorem later_loss (hc : ¬cond0_0 i) :
    out0_B_4 c i a1 h1 a2 h2 a3 h3 a4 h4 a5 h5 a6 h6 hc x g y o4 o5 = (step x g y (o4, o5)).2.1 := by
  unfold out0_B_4
  rw [View.read_writes_eq_canon _ _ _ (cover0_B_4 c i a1 h1 a2 h2 a3 h3 a4 h4 a5 h5 a6 h6 hc x g y o4 o5)]
  unfold kernelRun0_B
  dsimp only
  sl_unfold_words
  rw [View.canon_unit_zero zeros2]
  simp only [View.readAt_eq_ld, h1.read_unread, h2.read_unread, h3.read_unread, h5.read_unread,
    View.ld_unit_zero (S := S512x1024) zeros2, View.ld_unit_zero (S := S1x1024) zeros2, View.ld_unit_zero (S := S1x1) zeros2]
  rfl

theorem later_dg (hc : ¬cond0_0 i) :
    out0_B_5 c i a1 h1 a2 h2 a3 h3 a4 h4 a5 h5 a6 h6 hc x g y o4 o5 = (step x g y (o4, o5)).2.2 := by
  unfold out0_B_5
  rw [View.read_writes_eq_canon _ _ _ (cover0_B_5 c i a1 h1 a2 h2 a3 h3 a4 h4 a5 h5 a6 h6 hc x g y o4 o5)]
  unfold kernelRun0_B
  dsimp only
  sl_unfold_words
  rw [View.canon_unit_zero zeros2]
  simp only [View.readAt_eq_ld, h1.read_unread, h2.read_unread, h3.read_unread, h6.read_unread,
    View.ld_unit_zero (S := S512x1024) zeros2, View.ld_unit_zero (S := S1x1024) zeros2]
  rfl

theorem first_dx (hc : cond0_0 i) :
    out0_A_3 c i a1 h1 a2 h2 a3 h3 a4 h4 a5 h5 a6 h6 hc x g y = (step x g y (k0_pay3, k0_pay4)).1 := by
  unfold out0_A_3
  rw [View.read_writes_eq_canon _ _ _ (cover0_A_3 c i a1 h1 a2 h2 a3 h3 a4 h4 a5 h5 a6 h6 hc x g y)]
  unfold kernelRun0_A
  dsimp only
  sl_unfold_words
  rw [View.canon_unit_zero zeros2]
  simp only [View.readAt_eq_ld, h1.read_unread, h2.read_unread, h3.read_unread, View.ld_unit_zero (S := S512x1024) zeros2,
    View.ld_unit_zero (S := S1x1024) zeros2]
  rfl

theorem first_loss (hc : cond0_0 i) :
    out0_A_4 c i a1 h1 a2 h2 a3 h3 a4 h4 a5 h5 a6 h6 hc x g y = (step x g y (k0_pay3, k0_pay4)).2.1 := by
  unfold out0_A_4
  rw [View.read_writes_eq_canon _ _ _ (cover0_A_4 c i a1 h1 a2 h2 a3 h3 a4 h4 a5 h5 a6 h6 hc x g y)]
  unfold kernelRun0_A
  dsimp only
  sl_unfold_words
  rw [View.canon_cons_unit_zero (S := S1x1) zeros2, View.readCov_unit_zero (S := S1x1) _ zeros2]
  simp only [View.readAt_eq_ld, h1.read_unread, h2.read_unread, h3.read_unread,
    View.ld_unit_zero (S := S512x1024) zeros2, View.ld_unit_zero (S := S1x1024) zeros2]
  rfl

theorem first_dg (hc : cond0_0 i) :
    out0_A_5 c i a1 h1 a2 h2 a3 h3 a4 h4 a5 h5 a6 h6 hc x g y = (step x g y (k0_pay3, k0_pay4)).2.2 := by
  unfold out0_A_5
  rw [View.read_writes_eq_canon _ _ _ (cover0_A_5 c i a1 h1 a2 h2 a3 h3 a4 h4 a5 h5 a6 h6 hc x g y)]
  unfold kernelRun0_A
  dsimp only
  sl_unfold_words
  rw [View.canon_cons_unit_zero (S := S1x1024) zeros2, View.readCov_unit_zero (S := S1x1024) _ zeros2]
  simp only [View.readAt_eq_ld, h1.read_unread, h2.read_unread, h3.read_unread,
    View.ld_unit_zero (S := S512x1024) zeros2, View.ld_unit_zero (S := S1x1024) zeros2]
  rfl

end Cases

/-- What the two accumulators hold before point `n`. -/
def held (c : Dev nD) : (n : ℕ) → n ≤ cfg0.N → Vec F S1x1 .f32 × Vec F S1x1024 .f32
  | 0, _ => (k0_pay3, k0_pay4)
  | n + 1, h => (step (iblk m c 0 ⟨n, h⟩) (iblk m c 1 ⟨n, h⟩) (iblk m c 2 ⟨n, h⟩) (held c n (Nat.le_of_lt h))).2

/-- What the run leaves at point `n` is one step over what was held. -/
theorem outs_eq (c : Dev nD) : ∀ (n : ℕ) (h : n < cfg0.N), outsAt0 m c n h
    = step (iblk m c 0 ⟨n, h⟩) (iblk m c 1 ⟨n, h⟩) (iblk m c 2 ⟨n, h⟩) (held m c n (Nat.le_of_lt h))
  | 0, h => by
    rw [outsAt0_A m c ⟨0, h⟩ rfl, first_dx, first_loss, first_dg]
    rfl
  | n + 1, h => by
    have hN : cfg0.N = 8 := N_0
    have hB : ¬(⟨n + 1, h⟩ : Fin cfg0.N).val % 8 = 0 := by dsimp only; omega
    rw [outsAt0_B m c ⟨n + 1, h⟩ hB, later_dx, later_loss, later_dg]
    show _ = step _ _ _ (step (iblk m c 0 ⟨n, _⟩) (iblk m c 1 ⟨n, _⟩) (iblk m c 2 ⟨n, _⟩) (held m c n _)).2
    rw [← outs_eq c n (Nat.lt_of_succ_lt h)]
    rfl

/-! ### The blocks a point reads -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

/-- Row `r` of block `t` is row `512 t + r` of the array. -/
def row (t : Fin cfg0.N) (r : Fin 512) : Fin 4096 :=
  ⟨512 * t.val + r.val, by have := t.isLt; have h : cfg0.N = 8 := N_0; have := r.isLt; omega⟩

theorem block_x (c : Dev nD) (t : Fin cfg0.N) (r : Fin 512) (k : Fin 1024) :
    iblk m c 0 t (ix2 r k) = m ((c.tc : Thread nD τ).loc main_arg0) (ix2 (row t r) k) := by
  unfold iblk
  rw [View.read_apply, ← V_main_arg0 m c]
  refine congrArg (V m c main_arg0) (funext fun a => Fin.ext ?_)
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

theorem block_y (c : Dev nD) (t : Fin cfg0.N) (r : Fin 512) (k : Fin 1024) :
    iblk m c 2 t (ix2 r k) = m ((c.tc : Thread nD τ).loc main_arg2) (ix2 (row t r) k) := by
  unfold iblk
  rw [View.read_apply, ← V_main_arg2 m c]
  refine congrArg (V m c main_arg2) (funext fun a => Fin.ext ?_)
  match a with
  | ⟨0, _⟩ => show win0_2.index t 0 * 512 + 1 * r.val = 512 * t.val + r.val; rw [(idx2 t).1]; omega
  | ⟨1, _⟩ => show win0_2.index t 1 * 1024 + 1 * k.val = k.val; rw [(idx2 t).2]; omega

theorem block_g (c : Dev nD) (t : Fin cfg0.N) (k : Fin 1024) :
    iblk m c 1 t (ix2 0 k) = m ((c.tc : Thread nD τ).loc main_arg1) (ix1 k) := by
  unfold iblk
  rw [View.read_apply]
  show V m c main_v0 (((cfg0.win 1).blk t).view.emb (ix2 0 k)) = _
  rw [show ((cfg0.win 1).blk t).view.emb (ix2 0 k) = ix2 (0 : Fin 1) k from funext fun a => Fin.ext (by
    match a with
    | ⟨0, _⟩ => show win0_1.index t 0 * 1 + 1 * 0 = 0; rw [(idx1 t).1]
    | ⟨1, _⟩ => show win0_1.index t 1 * 1024 + 1 * k.val = k.val; rw [(idx1 t).2]; omega)]
  show StableHlo.after hostOps0 (fun b => m (c, b)) main_v0 (ix2 0 k) = _
  rw [show StableHlo.after hostOps0 (fun b => m (c, b)) main_v0
      = shapeCast S1x1024 (m ((c.tc : Thread nD τ).loc main_arg1)) shapeCasts_S1024_S1x1024 from by after_results_simp <;> rfl]
  pointwise

/-! ### The arrays after the run -/

/-- Row `r` of block `t` of the gradient array is what point `t` computed for its row `r`. -/
theorem dx_array (c : Dev nD) (t : Fin cfg0.N) (r : Fin 512) (k : Fin 1024) :
    (dats m 0 c).arrAt 3 cfg0.N (ix2 (row t r) k)
      = (step (iblk m c 0 t) (iblk m c 1 t) (iblk m c 2 t) (held m c t.val (Nat.le_of_lt t.isLt))).1 (ix2 r k) := by
  have hb := congrFun (Cert.LossKernelIdeal.Value.blocks3 m c t (flush0_3 t)) (ix2 r k)
  rw [Cert.LossKernelIdeal.Value.flushed3 m c t, outs_eq m c t.val t.isLt] at hb
  rw [View.read_apply] at hb
  rw [show ((cfg0.win 3).blk t).view.emb (ix2 r k) = ix2 (row t r) k from funext fun a => Fin.ext (by
    match a with
    | ⟨0, _⟩ => show win0_3.index t 0 * 512 + 1 * r.val = 512 * t.val + r.val; rw [(idx3 t).1]; omega
    | ⟨1, _⟩ => show win0_3.index t 1 * 1024 + 1 * k.val = k.val; rw [(idx3 t).2]; omega)] at hb
  exact hb

/-- What the accumulators hold after the last point. -/
def final (c : Dev nD) : Vec F S1x1 .f32 × Vec F S1x1024 .f32 := held m c 8 (by rw [show cfg0.N = 8 from N_0])

theorem final_eq (c : Dev nD) : (outsAt0 m c t0_7.val t0_7.isLt).2 = final m c := by
  rw [outs_eq]; rfl

theorem last_point (t : Fin cfg0.N) (h : t.val % 8 = 7) : t = t0_7 := by
  have hN : cfg0.N = 8 := N_0
  exact Fin.ext (by have := t.isLt; show t.val = 7; omega)

theorem loss_flushed (c : Dev nD) (t : Fin cfg0.N) (hf : (cfg0.win 4).flush t = true) :
    (dats m 0 c).flushed 4 t = ((cfg0.win 4).blk t).view.read (Elt F) ((final m c).1) := by
  obtain rfl : t = t0_7 := last_point t ((flush0_4 t).mp hf)
  rw [Cert.LossKernelIdeal.Value.flushed4 m c t0_7, final_eq]
  have hz' : (fun a => win0_4.index t0_7 a * main_v1_1.ty.shape.size a) = fun _ => 0 := funext fun a => by fin_cases a <;> decide
  exact (Memref.read_access_unit_zero (Elt F) main_v1_1 hz' (fun a => by rw [congrFun hz' a]; simp) ((final m c).1)).symm

theorem dg_flushed (c : Dev nD) (t : Fin cfg0.N) (hf : (cfg0.win 5).flush t = true) :
    (dats m 0 c).flushed 5 t = ((cfg0.win 5).blk t).view.read (Elt F) ((final m c).2) := by
  obtain rfl : t = t0_7 := last_point t ((flush0_5 t).mp hf)
  rw [Cert.LossKernelIdeal.Value.flushed5 m c t0_7, final_eq]
  have hz' : (fun a => win0_5.index t0_7 a * main_v1_2.ty.shape.size a) = fun _ => 0 := funext fun a => by fin_cases a <;> decide
  exact (Memref.read_access_unit_zero (Elt F) main_v1_2 hz' (fun a => by rw [congrFun hz' a]; simp) ((final m c).2)).symm

/-- The loss array is the loss accumulator after the last point. -/
theorem loss_array (c : Dev nD) : (dats m 0 c).arrAt 4 cfg0.N = (final m c).1 :=
  (dats m 0 c).arrAt_eq_of_cover 4 ((final m c).1) (loss_flushed m c) fun i =>
    ⟨t0_7, (flush0_4 t0_7).mpr rfl, by
      show i ∈ ((View.whole main_v1_1).slice (win0_4.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 0 from by decide +kernel, show win0_4.xsize (grid0.coords t0_7) 0 = 1 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 1 from by decide +kernel]; omega⟩

/-- The weight's gradient array is its accumulator after the last point. -/
theorem dg_array (c : Dev nD) : (dats m 0 c).arrAt 5 cfg0.N = (final m c).2 :=
  (dats m 0 c).arrAt_eq_of_cover 5 ((final m c).2) (dg_flushed m c) fun i =>
    ⟨t0_7, (flush0_5 t0_7).mpr rfl, by
      show i ∈ ((View.whole main_v1_2).slice (win0_5.rect t0_7)).set
      rw [View.set_slice_whole, Rect.mem_set_unit]
      intro a
      have h0 : (i 0 : Nat) < 1 := (i 0).isLt
      have h1 : (i 1 : Nat) < 1024 := (i 1).isLt
      match a with
      | ⟨0, _⟩ => show win0_5.index t0_7 0 * win0_5.size 0 ≤ (i 0 : Nat) ∧ (i 0 : Nat) < win0_5.index t0_7 0 * win0_5.size 0 + win0_5.xsize (grid0.coords t0_7) 0
                  rw [show win0_5.index t0_7 0 * win0_5.size 0 = 0 from by decide +kernel, show win0_5.xsize (grid0.coords t0_7) 0 = 1 from by decide +kernel]; omega
      | ⟨1, _⟩ => show win0_5.index t0_7 1 * win0_5.size 1 ≤ (i 1 : Nat) ∧ (i 1 : Nat) < win0_5.index t0_7 1 * win0_5.size 1 + win0_5.xsize (grid0.coords t0_7) 1
                  rw [show win0_5.index t0_7 1 * win0_5.size 1 = 0 from by decide +kernel, show win0_5.xsize (grid0.coords t0_7) 1 = 1024 from by decide +kernel]; omega⟩

end Cert.LossArray

end
-- ==== Proof.Finite.lean ====
/-
  Arithmetic on finite values at the ideal instance: an operation on extended reals that are real numbers is the
  operation on the real numbers. Every value proof of this directory reads a program's result down to a scalar term,
  puts real numbers for the arguments, and moves the coercion outwards with the lemmas here.
-/
module

public import Idealize.ShloMosaic.Lib.Pointwise
public import Idealize.ShloMosaic.PureOps.Ideal.Laws

@[expose] public section

namespace Cert.Finite

open Idealize.ShloMosaic

/-! ### The float words the programs write -/

/-- The real number the word of 1e-6 denotes. -/
noncomputable abbrev eps : ℝ := 8796093 / 2 ^ 43

theorem eps_pos : 0 < eps := by norm_num

theorem word_eps : Ideal.ofBits .f32 0x358637BD#32 = ((eps : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_inv_1024 : Ideal.ofBits .f32 0x3A800000#32 = ((1 / 1024 : ℝ) : EReal) := by
  simp [Ideal.ofBits, Ideal.ieee, -EReal.coe_mul]; norm_num

/-! ### Moving the coercion outwards -/

theorem mul_real (a b : ℝ) : (a : EReal) * (b : EReal) = ((a * b : ℝ) : EReal) := (EReal.coe_mul a b).symm
theorem add_real (a b : ℝ) : (a : EReal) + (b : EReal) = ((a + b : ℝ) : EReal) := (EReal.coe_add a b).symm
theorem sub_real (a b : ℝ) : (a : EReal) - (b : EReal) = ((a - b : ℝ) : EReal) := (EReal.coe_sub a b).symm

theorem sum_real {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, add_real]

theorem div_real (a : ℝ) {b : ℝ} (h : b ≠ 0) : Ideal.div (a : EReal) (b : EReal) = ((a / b : ℝ) : EReal) := by
  rw [Ideal.div_coe h, mul_real]; congr 1; ring

theorem div_1024 (a : ℝ) : Ideal.div (a : EReal) ((1024 : ℝ) : EReal) = ((a / 1024 : ℝ) : EReal) := div_real a (by norm_num)

theorem rsqrt_real {a : ℝ} (h : 0 < a) : Ideal.rsqrt (a : EReal) = (((Real.sqrt a)⁻¹ : ℝ) : EReal) := by
  rw [Ideal.rsqrt_coe, if_neg (not_lt.mpr h.le), if_neg h.ne']

/-- A number that passes the test `|x| < +∞` is a real number. -/
theorem real_of_test (x : EReal) (h : Ideal.cmp .olt (max x (-x)) ⊤ = 1#1) : ∃ r : ℝ, x = ((r : ℝ) : EReal) := by
  induction x with
  | bot => simp [Ideal.cmp] at h
  | top => simp [Ideal.cmp] at h
  | coe r => exact ⟨r, rfl⟩

theorem word_inf : Ideal.ofBits .f32 0x7F800000#32 = (⊤ : EReal) := by
  simp [Ideal.ofBits, Ideal.ieee]

/-- The finiteness test of a precondition, `|v| < +∞` at every index, gives `v` as an array of real numbers. -/
theorem array_of_test {s z : Shape} (v : FVec Ideal s .f32) (d : Fin z.rank → Fin s.rank) (hb : z.BroadcastsInDim s d)
    (h : cmpf .olt (Host.absf v) (broadcastInDim s d hb (constant (F := Ideal) z .f32 0x7F800000#32)) = fun _ => 1#1) :
    ∃ w : s.Idx → ℝ, ∀ i, v i = ((w i : ℝ) : EReal) := by
  have key : ∀ i, ∃ r : ℝ, v i = ((r : ℝ) : EReal) := fun i => by
    have hi := congrFun h i
    refine real_of_test (v i) ?_
    rw [← word_inf]
    exact hi
  choose w hw using key
  exact ⟨w, hw⟩

end Cert.Finite
-- ==== Proof.Norm.lean ====
/-
  The root-mean-square norm over the real numbers: a row's factor, and the row's gradient in the two forms the
  programs of this directory write. `x ↦ x · (mean (x²) + ε)^(-1/2)`; the divisor of the mean is a parameter.
-/
module

public import proofs.«01_k».proof.Proof.Finite

@[expose] public section

noncomputable section

namespace Cert.Norm

open Cert.Finite

variable {n : ℕ}

/-- The mean square of a row, plus ε. -/
def meanSq (c : ℝ) (x : Fin n → ℝ) : ℝ := (∑ k, x k * x k) / c + eps

/-- The factor the norm multiplies a row by. -/
def scale (c : ℝ) (x : Fin n → ℝ) : ℝ := (Real.sqrt (meanSq c x))⁻¹

theorem meanSq_pos {c : ℝ} (hc : 0 < c) (x : Fin n → ℝ) : 0 < meanSq c x :=
  add_pos_of_nonneg_of_pos (div_nonneg (Finset.sum_nonneg fun k _ => mul_self_nonneg (x k)) hc.le) eps_pos

theorem scale_sq {c : ℝ} (hc : 0 < c) (x : Fin n → ℝ) : scale c x * scale c x = 1 / meanSq c x := by
  have h := Real.mul_self_sqrt (meanSq_pos hc x).le
  unfold scale
  rw [← mul_inv, h, one_div]

/-- The gradient of a row's norm against the row, where `d` is what arrives at the normed row: the form with the
    normed row's mean product taken out. -/
def back (c : ℝ) (x d : Fin n → ℝ) (k : Fin n) : ℝ :=
  scale c x * (d k - x k * scale c x * ((∑ j, d j * (x j * scale c x)) / c))

/-- The derivative of the row's factor, spread over the mean square: what each of the two factors of `x · x` takes. -/
def spread (c : ℝ) (x d : Fin n → ℝ) : ℝ := (∑ j, x j * d j) * (-(1 / 2) * (scale c x / meanSq c x)) / c

/-- The gradient as differentiation of the norm's lines writes it, is `back`. -/
theorem back_eq {c : ℝ} (hc : 0 < c) (x d : Fin n → ℝ) (k : Fin n) :
    d k * scale c x + x k * spread c x d + spread c x d * x k = back c x d k := by
  have h3 : scale c x / meanSq c x = scale c x * (scale c x * scale c x) := by rw [scale_sq hc]; ring
  have hs : ∑ j, d j * (x j * scale c x) = (∑ j, x j * d j) * scale c x := by
    rw [Finset.sum_mul]; exact Finset.sum_congr rfl fun j _ => by ring
  unfold back spread
  rw [h3, hs]
  ring

end Cert.Norm

end
-- ==== Proof.LossBlock.lean ====
/-
  What one grid point of the loss kernel computes, over the real numbers: the gradient block, the block's share of the
  loss, and the block's share of the norm weight's gradient.
-/
module

public import proofs.«01_k».proof.Proof.Norm
public import proofs.«01_k».proof.Proof.Gen.LossKernelIdeal.Skeleton

@[expose] public section

set_option maxRecDepth 16384

noncomputable section

namespace Cert.LossBlock

open Idealize.ShloMosaic Cert.LossKernelIdeal Cert.LossKernelIdeal.Gen Cert.Finite Cert.Norm

/-- A row's normed entry less its target. -/
def diff (x g t : Fin 1024 → ℝ) (k : Fin 1024) : ℝ := x k * scale 1024 x * g k - t k

/-- What arrives at a row's normed, weighted entry. -/
def arrive (x g t : Fin 1024 → ℝ) (k : Fin 1024) : ℝ := diff x g t k * (1 / 1024)

/-- A row's squared error, averaged. -/
def rowLoss (x g t : Fin 1024 → ℝ) : ℝ := (∑ k, diff x g t k * diff x g t k) / 1024

/-- A row's share of the weight's gradient. -/
def rowDg (x g t : Fin 1024 → ℝ) (k : Fin 1024) : ℝ := arrive x g t k * (x k * scale 1024 x)

/-- A row's gradient. -/
def rowDx (x g t : Fin 1024 → ℝ) (k : Fin 1024) : ℝ := back 1024 x (fun j => arrive x g t j * g j) k

variable (x t : FVec Ideal S512x1024 .f32) (g : FVec Ideal S1x1024 .f32)
  (X T : Fin 512 → Fin 1024 → ℝ) (G : Fin 1024 → ℝ)

theorem pay5_real (hx : ∀ r k, x (ix2 r k) = ((X r k : ℝ) : EReal)) (r : Fin 512) (z : Fin 1) :
    k0_pay5 (F := Ideal) x (ix2 r z) = ((scale 1024 (X r) : ℝ) : EReal) := by
  pointwise [k0_pay5]
  simp only [hx, mul_real, sum_real, word_1024, div_1024, word_eps, add_real]
  exact rsqrt_real (meanSq_pos (c := 1024) (by norm_num) (X r))

theorem pay6_real (hx : ∀ r k, x (ix2 r k) = ((X r k : ℝ) : EReal)) (r : Fin 512) (k : Fin 1024) :
    k0_pay6 (F := Ideal) x (ix2 r k) = ((X r k * scale 1024 (X r) : ℝ) : EReal) := by
  pointwise [k0_pay6]
  rw [pay5_real x X hx, hx, mul_real]

theorem pay7_real (hx : ∀ r k, x (ix2 r k) = ((X r k : ℝ) : EReal)) (hg : ∀ k, g (ix2 0 k) = ((G k : ℝ) : EReal))
    (ht : ∀ r k, t (ix2 r k) = ((T r k : ℝ) : EReal)) (r : Fin 512) (k : Fin 1024) :
    k0_pay7 (F := Ideal) x g t (ix2 r k) = ((diff (X r) G (T r) k : ℝ) : EReal) := by
  pointwise [k0_pay7]
  rw [pay6_real x X hx, hg, ht, mul_real, sub_real]
  rfl

theorem pay9_real (hx : ∀ r k, x (ix2 r k) = ((X r k : ℝ) : EReal)) (hg : ∀ k, g (ix2 0 k) = ((G k : ℝ) : EReal))
    (ht : ∀ r k, t (ix2 r k) = ((T r k : ℝ) : EReal)) (r : Fin 512) (k : Fin 1024) :
    k0_pay9 (F := Ideal) x g t (ix2 r k) = ((arrive (X r) G (T r) k : ℝ) : EReal) := by
  pointwise [k0_pay9]
  rw [pay7_real x t g X T G hx hg ht, word_inv_1024, mul_real]
  rfl

/-- The block's loss is added to what the accumulator held. -/
theorem pay8_real (hx : ∀ r k, x (ix2 r k) = ((X r k : ℝ) : EReal)) (hg : ∀ k, g (ix2 0 k) = ((G k : ℝ) : EReal))
    (ht : ∀ r k, t (ix2 r k) = ((T r k : ℝ) : EReal)) (a : FVec Ideal S1x1 .f32) (A : ℝ)
    (ha : a (ix2 0 0) = ((A : ℝ) : EReal)) :
    k0_pay8 (F := Ideal) x g t a (ix2 0 0) = ((A + 1 / 2 * ∑ r, rowLoss (X r) G (T r) : ℝ) : EReal) := by
  pointwise [k0_pay8]
  simp only [pay7_real x t g X T G hx hg ht, mul_real, sum_real, word_1024, div_1024, word_half, ha, add_real]
  rfl

/-- The block's share of the weight's gradient is added to what the accumulator held. -/
theorem pay1_real (u d : FVec Ideal S512x1024 .f32) (U D : Fin 512 → Fin 1024 → ℝ)
    (hu : ∀ r k, u (ix2 r k) = ((U r k : ℝ) : EReal)) (hd : ∀ r k, d (ix2 r k) = ((D r k : ℝ) : EReal))
    (a : FVec Ideal S1x1024 .f32) (A : Fin 1024 → ℝ) (ha : ∀ k, a (ix2 0 k) = ((A k : ℝ) : EReal)) (k : Fin 1024) :
    k0_pay1 (F := Ideal) u d a (ix2 0 k) = ((A k + ∑ r, D r k * U r k : ℝ) : EReal) := by
  pointwise [k0_pay1]
  simp only [hu, hd, mul_real, sum_real, ha, add_real]

/-- The gradient block. -/
theorem pay2_real (hx : ∀ r k, x (ix2 r k) = ((X r k : ℝ) : EReal)) (hg : ∀ k, g (ix2 0 k) = ((G k : ℝ) : EReal))
    (ht : ∀ r k, t (ix2 r k) = ((T r k : ℝ) : EReal)) (r : Fin 512) (k : Fin 1024) :
    k0_pay2 (F := Ideal) (k0_pay5 x) (k0_pay6 x) (k0_pay9 x g t) g (ix2 r k) = ((rowDx (X r) G (T r) k : ℝ) : EReal) := by
  pointwise [k0_pay2]
  simp only [pay5_real x X hx, pay6_real x X hx, pay9_real x t g X T G hx hg ht, hg, mul_real, sum_real, word_1024,
    div_1024, sub_real]
  rfl

end Cert.LossBlock

end
-- ==== Proof.LossReference.lean ====
/-
  The loss reference read over the real numbers: the gradient, the loss and the weight's gradient of reference.py's
  lines are the rows' quantities of the block module, summed over all rows.
-/
module

public import proofs.«01_k».proof.Proof.LossBlock
public import proofs.«01_k».proof.Proof.Gen.LossReferenceIdeal.Read

@[expose] public section

set_option maxRecDepth 16384

noncomputable section

namespace Cert.LossReference

open Idealize.ShloMosaic Cert.LossReferenceIdeal Cert.LossReferenceIdeal.Read Cert.Finite Cert.Norm Cert.LossBlock

variable (x t : FVec Ideal S4096x1024 .f32) (g : FVec Ideal S1024 .f32)
  (X T : Fin 4096 → Fin 1024 → ℝ) (G : Fin 1024 → ℝ)

theorem meanSq_real (hx : ∀ r k, x (ix2 r k) = ((X r k : ℝ) : EReal)) (r : Fin 4096) (z : Fin 1) :
    val_main_v6 (F := Ideal) x (ix2 r z) = ((meanSq 1024 (X r) : ℝ) : EReal) := by
  pointwise [val_main_v6, val_main_v5, val_main_v4, val_main_v3, val_main_v2, val_main_v1, val_main_v0, val_main_cst, val_main_cst_0, val_main_cst_1]
  simp only [hx, mul_real, sum_real, word_1024, div_1024, word_eps, add_real]
  rfl

theorem scale_real (hx : ∀ r k, x (ix2 r k) = ((X r k : ℝ) : EReal)) (r : Fin 4096) (z : Fin 1) :
    val_main_v7 (F := Ideal) x (ix2 r z) = ((scale 1024 (X r) : ℝ) : EReal) := by
  pointwise [val_main_v7]
  rw [meanSq_real x X hx]
  exact rsqrt_real (meanSq_pos (c := 1024) (by norm_num) (X r))

theorem slope_real (hx : ∀ r k, x (ix2 r k) = ((X r k : ℝ) : EReal)) (r : Fin 4096) (z : Fin 1) :
    val_main_v10 (F := Ideal) x (ix2 r z) = ((-(1 / 2) * (scale 1024 (X r) / meanSq 1024 (X r)) : ℝ) : EReal) := by
  pointwise [val_main_v10, val_main_v9, val_main_v8, val_main_cst_2]
  rw [meanSq_real x X hx, scale_real x X hx, div_real _ (meanSq_pos (c := 1024) (by norm_num) (X r)).ne', word_neg_half, mul_real]

theorem normed_real (hx : ∀ r k, x (ix2 r k) = ((X r k : ℝ) : EReal)) (r : Fin 4096) (k : Fin 1024) :
    val_main_v12 (F := Ideal) x (ix2 r k) = ((X r k * scale 1024 (X r) : ℝ) : EReal) := by
  pointwise [val_main_v12, val_main_v11]
  rw [scale_real x X hx, hx, mul_real]

variable (hx : ∀ r k, x (ix2 r k) = ((X r k : ℝ) : EReal)) (hg : ∀ k, g (ix1 k) = ((G k : ℝ) : EReal))
  (ht : ∀ r k, t (ix2 r k) = ((T r k : ℝ) : EReal))
include hx hg ht

theorem diff_real (r : Fin 4096) (k : Fin 1024) :
    val_main_v16 (F := Ideal) x g t (ix2 r k) = ((diff (X r) G (T r) k : ℝ) : EReal) := by
  pointwise [val_main_v16, val_main_v15, val_main_v14, val_main_v13]
  rw [normed_real x X hx, hg, ht, mul_real, sub_real]
  rfl

theorem arrive_real (r : Fin 4096) (k : Fin 1024) :
    val_main_v30 (F := Ideal) x g t (ix2 r k) = ((arrive (X r) G (T r) k : ℝ) : EReal) := by
  pointwise [val_main_v30, val_main_v29, val_main_v28, val_main_v27, val_main_v26, val_main_v25, val_main_v19, val_main_v18, val_main_cst_3, val_main_cst_8, val_main_cst_9, val_main_cst_10]
  rw [diff_real x t g X T G hx hg ht, word_1024, word_half, word_two, div_1024, mul_real, mul_real]
  unfold arrive
  congr 1
  ring

theorem dx_real (r : Fin 4096) (k : Fin 1024) :
    val_main_v50 (F := Ideal) x g t (ix2 r k) = ((rowDx (X r) G (T r) k : ℝ) : EReal) := by
  pointwise [val_main_v50, val_main_v49, val_main_v48, val_main_v47, val_main_v46, val_main_v45, val_main_v44, val_main_v43, val_main_v42, val_main_v41, val_main_v40, val_main_v39, val_main_v38, val_main_v37, val_main_v35, val_main_v34, val_main_v13, val_main_cst_13, val_main_cst_14, val_main_cst_15]
  simp only [arrive_real x t g X T G hx hg ht, scale_real x X hx, slope_real x X hx, hx, hg, mul_real, sum_real, word_1024, div_1024,
    add_real, Finset.univ_unique, Finset.sum_singleton, Fin.default_eq_zero]
  exact congrArg _ (back_eq (c := 1024) (by norm_num) (X r) (fun j => arrive (X r) G (T r) j * G j) k)

theorem loss_real :
    val_main_v51 (F := Ideal) x g t (ix2 0 0) = ((1 / 2 * ∑ r, rowLoss (X r) G (T r) : ℝ) : EReal) := by
  pointwise [val_main_v51, val_main_v24, val_main_v23, val_main_v22, val_main_v21, val_main_v20, val_main_v17, val_main_cst_4, val_main_cst_5, val_main_cst_6, val_main_cst_7]
  simp only [diff_real x t g X T G hx hg ht, mul_real, sum_real, word_1024, div_1024, word_half]
  rfl

theorem dg_real (k : Fin 1024) :
    val_main_v52 (F := Ideal) x g t (ix2 0 k) = ((∑ r, rowDg (X r) G (T r) k : ℝ) : EReal) := by
  pointwise [val_main_v52, val_main_v36, val_main_v33, val_main_v32, val_main_v31, val_main_cst_11, val_main_cst_12]
  simp only [arrive_real x t g X T G hx hg ht, normed_real x X hx, mul_real, sum_real, Finset.univ_unique, Finset.sum_singleton, Fin.default_eq_zero]
  exact congrArg _ (Finset.sum_congr rfl fun r _ => mul_comm _ _)

end Cert.LossReference

end
-- ==== Proof.LossClaim.lean ====
/-
  The loss claim: from finite arguments the kernel's three arrays and the reference's three results are the same real
  numbers.
-/
module

public import proofs.«01_k».proof.Defs
public import proofs.«01_k».proof.Proof.LossArray
public import proofs.«01_k».proof.Proof.LossReference
public import proofs.«01_k».proof.Proof.Gen.Pre_finite_loss

@[expose] public section

set_option maxRecDepth 16384

noncomputable section

namespace Cert.LossClaim

open Idealize.ShloMosaic Idealize.ShloMosaic.TcCoe Idealize.SL.Sem
open Cert.LossKernelIdeal Cert.LossKernelIdeal.Gen Cert.Finite Cert.Norm Cert.LossBlock Cert.LossArray

variable (m : (ℓ : Loc nD τ sig) → Buf (Elt Ideal) ℓ) (c : Dev nD)
  (X T : Fin 4096 → Fin 1024 → ℝ) (G : Fin 1024 → ℝ)
  (hx : ∀ r k, m ((c.tc : Thread nD τ).loc main_arg0) (ix2 r k) = ((X r k : ℝ) : EReal))
  (hg : ∀ k, m ((c.tc : Thread nD τ).loc main_arg1) (ix1 k) = ((G k : ℝ) : EReal))
  (ht : ∀ r k, m ((c.tc : Thread nD τ).loc main_arg2) (ix2 r k) = ((T r k : ℝ) : EReal))

/-- The rows of the first `n` blocks. -/
def sumBlocks (f : Fin 4096 → ℝ) : (n : ℕ) → n ≤ cfg0.N → ℝ
  | 0, _ => 0
  | n + 1, h => sumBlocks f n (Nat.le_of_lt h) + ∑ r, f (row ⟨n, h⟩ r)

/-- Every row lies in exactly one of the eight blocks. -/
theorem sumBlocks_all (f : Fin 4096 → ℝ) : sumBlocks f 8 (by rw [show cfg0.N = 8 from N_0]) = ∑ r, f r := by
  have e : ∑ r, f r = ∑ p : Fin 8 × Fin 512, f (finProdFinEquiv p) := (Equiv.sum_comp (finProdFinEquiv (m := 8) (n := 512)) f).symm
  rw [e, Fintype.sum_prod_type, Fin.sum_univ_eight]
  simp only [sumBlocks, zero_add]
  have key : ∀ t : Fin 8, ∑ r, f (row ⟨t.val, by rw [show cfg0.N = 8 from N_0]; exact t.isLt⟩ r) = ∑ r : Fin 512, f (finProdFinEquiv (t, r)) := fun t =>
    Finset.sum_congr rfl fun r _ => congrArg f (Fin.ext (Nat.add_comm _ _))
  rw [← key 0, ← key 1, ← key 2, ← key 3, ← key 4, ← key 5, ← key 6, ← key 7]
  rfl

include hx hg ht

theorem held_real : ∀ (n : ℕ) (h : n ≤ cfg0.N),
    (held m c n h).1 (ix2 0 0) = ((1 / 2 * sumBlocks (fun r => rowLoss (X r) G (T r)) n h : ℝ) : EReal)
    ∧ ∀ k, (held m c n h).2 (ix2 0 k) = ((sumBlocks (fun r => rowDg (X r) G (T r) k) n h : ℝ) : EReal)
  | 0, _ => by
    constructor
    · show k0_pay3 (F := Ideal) (ix2 0 0) = _
      pointwise [k0_pay3]
      simp [sumBlocks]
    · intro k
      show k0_pay4 (F := Ideal) (ix2 0 k) = _
      pointwise [k0_pay4]
      simp [sumBlocks]
  | n + 1, h => by
    have bx : ∀ r k, iblk m c 0 ⟨n, h⟩ (ix2 r k) = ((X (row ⟨n, h⟩ r) k : ℝ) : EReal) := fun r k => (block_x m c ⟨n, h⟩ r k).trans (hx _ k)
    have bg : ∀ k, iblk m c 1 ⟨n, h⟩ (ix2 0 k) = ((G k : ℝ) : EReal) := fun k => (block_g m c ⟨n, h⟩ k).trans (hg k)
    have bt : ∀ r k, iblk m c 2 ⟨n, h⟩ (ix2 r k) = ((T (row ⟨n, h⟩ r) k : ℝ) : EReal) := fun r k => (block_y m c ⟨n, h⟩ r k).trans (ht _ k)
    obtain ⟨h1, h2⟩ := held_real n (Nat.le_of_lt h)
    constructor
    · refine (pay8_real _ _ _ _ _ G bx bg bt _ _ h1).trans (congrArg _ ?_)
      show _ = 1 / 2 * (sumBlocks _ n _ + _)
      rw [mul_add]
    · intro k
      exact pay1_real _ _ _ _ (pay6_real _ _ bx) (pay9_real _ _ _ _ _ G bx bg bt) _ _ h2 k

theorem kernel_dx (r : Fin 4096) (k : Fin 1024) :
    (dats m 0 c).arrAt 3 cfg0.N (ix2 r k) = ((rowDx (X r) G (T r) k : ℝ) : EReal) := by
  have hN : cfg0.N = 8 := N_0
  have hr := r.isLt
  obtain ⟨t, q, rfl⟩ : ∃ (t : Fin cfg0.N) (q : Fin 512), r = row t q :=
    ⟨⟨r.val / 512, by omega⟩, ⟨r.val % 512, Nat.mod_lt _ (by decide)⟩, Fin.ext (by show r.val = 512 * (r.val / 512) + r.val % 512; omega)⟩
  rw [dx_array]
  exact pay2_real _ _ _ (fun q => X (row t q)) (fun q => T (row t q)) G (fun r k => (block_x m c t r k).trans (hx _ k))
    (fun k => (block_g m c t k).trans (hg k)) (fun r k => (block_y m c t r k).trans (ht _ k)) q k

theorem kernel_loss : (dats m 0 c).arrAt 4 cfg0.N (ix2 0 0) = ((1 / 2 * ∑ r, rowLoss (X r) G (T r) : ℝ) : EReal) := by
  rw [loss_array, ← sumBlocks_all]
  exact (held_real m c X T G hx hg ht 8 _).1

theorem kernel_dg (k : Fin 1024) : (dats m 0 c).arrAt 5 cfg0.N (ix2 0 k) = ((∑ r, rowDg (X r) G (T r) k : ℝ) : EReal) := by
  rw [dg_array, ← sumBlocks_all]
  exact (held_real m c X T G hx hg ht 8 _).2 k

omit hx hg ht

theorem claim : Cert.algebraic_LossKernelIdeal_LossReferenceIdeal_pre_finite_loss := by
  intro m ρ m' ρ' hpre hag
  refine ⟨_, _, _, (θ_run defs _ _).mono (fun r h c => h c) (Cert.LossKernelIdeal.Value.run_blocks m ρ),
    (θ_run Cert.LossReferenceIdeal.defs _ _).mono (fun r h c => ?_) (Cert.LossReferenceIdeal.Value.run m' ρ')⟩
  obtain ⟨h0, h1, h2, k0, k1, k2⟩ := h c
  obtain ⟨p0, p1, p2⟩ := hpre c
  obtain ⟨a0, a1, a2⟩ := hag c
  obtain ⟨X, hX⟩ := array_of_test _ _ _ p0
  obtain ⟨G, hG⟩ := array_of_test _ _ _ p1
  obtain ⟨T, hT⟩ := array_of_test _ _ _ p2
  have hx := fun r k => hX (ix2 r k)
  have hg := fun k => hG (ix1 k)
  have ht := fun r k => hT (ix2 r k)
  have hx' := fun r k => (congrFun a0 (ix2 r k)).trans (hx r k)
  have hg' := fun k => (congrFun a1 (ix1 k)).trans (hg k)
  have ht' := fun r k => (congrFun a2 (ix2 r k)).trans (ht r k)
  refine ⟨h0.trans ?_, h1.trans ?_, h2.trans ?_, k0, k1, k2⟩
  · rw [Cert.LossReferenceIdeal.Read.val_main_v50_eq]
    funext i
    rw [eq_ix2 i]
    exact (Cert.LossReference.dx_real _ _ _ _ _ _ hx' hg' ht' _ _).trans (kernel_dx m c _ _ _ hx hg ht _ _).symm
  · rw [Cert.LossReferenceIdeal.Read.val_main_v51_eq]
    funext i
    have hi : i = ix2 0 0 := by rw [eq_ix2 i]; exact congrArg₂ ix2 (Subsingleton.elim (α := Fin 1) _ _) (Subsingleton.elim (α := Fin 1) _ _)
    rw [hi]
    exact (Cert.LossReference.loss_real _ _ _ _ _ _ hx' hg' ht').trans (kernel_loss m c _ _ _ hx hg ht).symm
  · rw [Cert.LossReferenceIdeal.Read.val_main_v52_eq]
    funext i
    have hi : i = ix2 0 (i 1) := (eq_ix2 i).trans (congrArg (fun a => ix2 a (i 1)) (Subsingleton.elim (α := Fin 1) _ _))
    rw [hi]
    exact (Cert.LossReference.dg_real _ _ _ _ _ _ hx' hg' ht' _).trans (kernel_dg m c _ _ _ hx hg ht _).symm

end Cert.LossClaim

end
-- ==== Proof.Rows.lean ====
/-
  Whole rows of a rank-2 array: reading a run of them, and storing one after changing it.
-/
module

public import Idealize.ShloMosaic.Lib.WritesUnit
public import Idealize.ShloMosaic.Lib.WholeRead
public import Idealize.ShloMosaic.Lib.PointwiseCore

@[expose] public section

noncomputable section

namespace Cert.Rows

open Idealize.ShloMosaic

variable {α : Type} {N W K : ℕ}

/-- `W` rows of an array, from row `o` on. -/
def rowsFrom (o W : ℕ) (ho : o + W ≤ N) (x : (⟨2, ![N, K]⟩ : Shape).Idx → α) : (⟨2, ![W, K]⟩ : Shape).Idx → α :=
  fun z => x (ix2 ⟨o + (z 0).val, by have := (z 0).isLt; exact Nat.lt_of_lt_of_le (Nat.add_lt_add_left this o) ho⟩ (z 1))

/-- The array after its `W` rows from row `o` on became `P` of what they were. -/
def change (o W : ℕ) (ho : o + W ≤ N)
    (P : ((⟨2, ![W, K]⟩ : Shape).Idx → α) → (⟨2, ![W, K]⟩ : Shape).Idx → α)
    (x : (⟨2, ![N, K]⟩ : Shape).Idx → α) : (⟨2, ![N, K]⟩ : Shape).Idx → α :=
  fun y => if h : o ≤ (y 0).val ∧ (y 0).val < o + W then
    P (rowsFrom o W ho x) (ix2 ⟨(y 0).val - o, by omega⟩ (y 1)) else x y

variable {sig : RefSig} {Val : EltTy → Type} {κ : Kind} {sp : Space} {e : EltTy}
  (v : View sig κ sp ⟨2, ![N, K]⟩ e)

theorem readAt_rows {off : Fin 2 → ℕ} {o : ℕ} (ho : o + W ≤ N) (hoff : off = ![o, 0])
    (inb : ∀ a : Fin 2, off a + (![W, K] : Fin 2 → ℕ) a ≤ (![N, K] : Fin 2 → ℕ) a) (f : v.ty.Contents Val) :
    v.readAt Val (Rect.unit (s := ⟨2, ![N, K]⟩) off ![W, K] inb).toLoadRect f = rowsFrom o W ho (v.read Val f) := by
  subst hoff
  funext z
  rw [View.readAt_apply]
  refine congrArg (v.read Val f) (funext fun a => ?_)
  match a with
  | 0 => exact Fin.ext (by simp [LoadRect.idx, Rect.toLoadRect, Rect.unit, ix2]; rfl)
  | 1 => exact Fin.ext (by simp [LoadRect.idx, Rect.toLoadRect, Rect.unit, ix2]; rfl)

theorem read_change {off : Fin 2 → ℕ} {o : ℕ} (ho : o + W ≤ N) (hoff : off = ![o, 0])
    (inb : ∀ a : Fin 2, off a + (![W, K] : Fin 2 → ℕ) a ≤ (![N, K] : Fin 2 → ℕ) a)
    (P : ((⟨2, ![W, K]⟩ : Shape).Idx → Val e) → (⟨2, ![W, K]⟩ : Shape).Idx → Val e)
    (f : v.ty.Contents Val) (L : List (View.Piece Val ⟨2, ![N, K]⟩ e)) :
    v.read Val (v.writes Val f (⟨Rect.unit (s := ⟨2, ![N, K]⟩) off ![W, K] inb,
        P (v.readAt Val (Rect.unit (s := ⟨2, ![N, K]⟩) off ![W, K] inb).toLoadRect (v.writes Val f L))⟩ :: L))
      = change o W ho P (v.read Val (v.writes Val f L)) := by
  funext y
  rw [readAt_rows v ho hoff inb, View.read_writes_cons_rows v f inb _ L y hoff (W := W) rfl rfl]
  unfold change
  by_cases h : o ≤ (y 0).val ∧ (y 0).val < o + W
  · rw [dif_pos h, dif_pos h]
    refine congrArg (P _) (funext fun a => ?_)
    match a with
    | 0 => exact Fin.ext (by simp [Rect.unitLocal, ix2]; rfl)
    | 1 => exact Fin.ext (by simp [Rect.unitLocal, ix2]; rfl)
  · rw [dif_neg h, dif_neg h]

end Cert.Rows
-- ==== Proof.AttnBlock.lean ====
/-
  One query block of the attention's two passes, as a function of what it reads: 256 query rows of two heads side by
  side, the 768 key rows those queries may see, and a bias tile per head.
-/
module

public import proofs.«01_k».proof.Proof.Gen.AttnKernelIdeal.Skeleton

@[expose] public section

set_option maxRecDepth 16384

noncomputable section

namespace Cert.AttnBlock

open Idealize.ShloMosaic Cert.AttnKernelIdeal Cert.AttnKernelIdeal.Gen

variable {F : FTy → Type} [FloatOps F] [Named F]

/-- Query rows in the wide format. -/
def wide (x : Vec F S256x128 .bf16) : FVec F S256x128 .f32 :=
  extf .f32 (shapeCast S256x128 x shapeCasts_S256x128_S256x128) bitsLt_bf16_f32

/-- A head's lanes, the other head's at zero. -/
def lanes (h : IVec S256x128 1) (x : FVec F S256x128 .f32) : FVec F S256x128 .f32 :=
  select h x (broadcast S256x128 (Scalar.ofBits .f32 0x00000000#32))

/-- A head's query rows as the products take them. -/
def head (h : IVec S256x128 1) (x : Vec F S256x128 .bf16) : FVec F S256x128 .bf16 :=
  truncf .bf16 (lanes h (wide x)) bitsLt_bf16_f32

/-- Key rows as the products take them. -/
def keys (x : Vec F S768x128 .bf16) : FVec F S768x128 .bf16 := shapeCast S768x128 x shapeCasts_S768x128_S768x128

/-- Query rows against key rows. -/
def against (h : IVec S256x128 1) (x : Vec F S256x128 .bf16) (y : Vec F S768x128 .bf16) : FVec F S256x768 .f32 :=
  matmul dot_S256x128_S768x128_S256x768_1_1_0_0_n_n none (head h x) (keys y) (constant S256x768 .f32 0x00000000#32)

/-- The scores with the bias. -/
def score (h : IVec S256x128 1) (q : Vec F S256x128 .bf16) (k : Vec F S768x128 .bf16) (b : Vec F S1x256x768 .f32) :
    FVec F S256x768 .f32 :=
  addf (against h q k) (shapeCast S256x768 b shapeCasts_S1x256x768_S256x768)

/-- The scores of one of the first two blocks: its first keys lie before the sequence's start and are masked. -/
def hide (first : BitVec 32) (s : FVec F S256x768 .f32) : FVec F S256x768 .f32 :=
  select (cmpi .sge (iota .tc S256x768 32 [1] iota_S256x768_d1_w32) (broadcast S256x768 first)) s
    (broadcast S256x768 (Named.named κ "mask" 0xF149F2CA#32))

/-- A column of row values spread over a row's keys. -/
def overKeys (x : FVec F S256x1 .f32) : FVec F S256x768 .f32 := broadcastTo S256x768 x broadcasts_S256x1_S256x768

/-- The scores' exponentials, each row's largest taken off first. -/
def expo (s : FVec F S256x768 .f32) : FVec F S256x768 .f32 :=
  exp (subf s (overKeys (shapeCast S256x1
    (multiReduction .maximumf [1] S256 s 0xFF800000#32 reduces_S256x768_S256 (.inl rfl) rfl) shapeCasts_S256_S256x1)))

/-- The softmax of the scores. -/
def prob (s : FVec F S256x768 .f32) : FVec F S256x768 .f32 :=
  mulf (expo s) (overKeys (divf (broadcast S256x1 (Scalar.ofBits .f32 0x3F800000#32)) (shapeCast S256x1
    (multiReduction .add [1] S256 (expo s) 0x00000000#32 reduces_S256x768_S256 (.inl rfl) rfl) shapeCasts_S256_S256x1)))

/-- A row's sum of the cotangent times the output, over a head's lanes. -/
def rowDot (h : IVec S256x128 1) (d o : Vec F S256x128 .bf16) : FVec F S256x1 .f32 :=
  shapeCast S256x1 (multiReduction .add [1] S256 (lanes h (mulf (wide d) (wide o))) 0x00000000#32 reduces_S256x128_S256
    (.inl rfl) rfl) shapeCasts_S256_S256x1

/-- The scores' gradient. -/
def dscore (h : IVec S256x128 1) (s : FVec F S256x768 .f32) (v : Vec F S768x128 .bf16) (d o : Vec F S256x128 .bf16) :
    FVec F S256x768 .f32 :=
  mulf (prob s) (subf (against h d v) (overKeys (rowDot h d o)))

/-- A head's share of the query gradient, before the scale. -/
def toQuery (k : Vec F S768x128 .bf16) (w : FVec F S256x768 .f32) : FVec F S256x128 .f32 :=
  matmul dot_S256x768_S768x128_S256x128_1_0_0_1_n_n none (truncf .bf16 w bitsLt_bf16_f32) (keys k)
    (constant S256x128 .f32 0x00000000#32)

/-- The query gradient of a block from its two heads' score gradients. -/
def dqTile (h : IVec S256x128 1) (k : Vec F S768x128 .bf16) (w0 w1 : FVec F S256x768 .f32) : FVec F S256x128 .bf16 :=
  truncf .bf16 (mulf (select h (toQuery k w0) (toQuery k w1))
    (broadcast S256x128 (Scalar.ofBits .f32 0x3E000000#32))) bitsLt_bf16_f32

/-- A block's output from its two heads' scores: the softmaxes against the value rows. -/
def outTile (h : IVec S256x128 1) (v : Vec F S768x128 .bf16) (s0 s1 : FVec F S256x768 .f32) : FVec F S256x128 .bf16 :=
  truncf .bf16 (select h (toQuery v (prob s0)) (toQuery v (prob s1))) bitsLt_bf16_f32

/-- A head's contribution to the key rows: weights transposed against query rows. -/
def toKey (h : IVec S256x128 1) (x : Vec F S256x128 .bf16) (w : FVec F S256x768 .f32) : FVec F S768x128 .f32 :=
  matmul dot_S256x768_S256x128_S768x128_0_0_1_1_n_n none (truncf .bf16 w bitsLt_bf16_f32) (head h x)
    (constant S768x128 .f32 0x00000000#32)

/-- Key rows with a block's two heads' contributions added. -/
def onto (h0 h1 : IVec S256x128 1) (x : Vec F S256x128 .bf16) (w0 w1 : FVec F S256x768 .f32) (acc : Vec F S768x128 .f32) :
    Vec F S768x128 .f32 :=
  addf (shapeCast S768x128 acc shapeCasts_S768x128_S768x128)
    (addf (addf (broadcast S768x128 (Scalar.ofBits .f32 0x00000000#32)) (toKey h0 x w0)) (toKey h1 x w1))

end Cert.AttnBlock
-- ==== Proof.AttnState.lean ====
/-
  What the attention kernel leaves in a head pair's query, key and value gradients, written block by block from the
  whole arrays it reads.
-/
module

public import proofs.«01_k».proof.Proof.Rows
public import proofs.«01_k».proof.Proof.AttnBlock

@[expose] public section

set_option maxRecDepth 16384

noncomputable section

namespace Cert.AttnState

open Idealize.ShloMosaic Cert.AttnKernelIdeal Cert.AttnKernelIdeal.Gen Cert.AttnBlock Cert.Rows

variable {F : FTy → Type} [FloatOps F] [Named F]

/-- The first head's lanes. -/
def h0 : IVec S256x128 1 := cmpi .slt (iota .tc S256x128 32 [1] iota_S256x128_d1_w32) (broadcast S256x128 64#32)

/-- The second head's lanes. -/
def h1 : IVec S256x128 1 := cmpi .sge (iota .tc S256x128 32 [1] iota_S256x128_d1_w32) (broadcast S256x128 64#32)

/-- A block's query rows. -/
def qrows {α : Type} (n : Fin 16) (x : S4096x128.Idx → α) : S256x128.Idx → α := rowsFrom (256 * n.val) 256 (by omega) x

/-- The key rows a block's queries may see. -/
def krows {α : Type} (n : Fin 16) (x : S4608x128.Idx → α) : S768x128.Idx → α := rowsFrom (256 * n.val) 768 (by omega) x

/-- A head's bias tile. -/
def bias (a : Fin 2) (b : Vec F S2x256x768 .f32) : Vec F S1x256x768 .f32 := fun z => b (ix3 a (z 1) (z 2))

/-- The masked scores: only the first two blocks reach before the sequence's start. -/
def masked (n : Fin 16) (s : FVec F S256x768 .f32) : FVec F S256x768 .f32 :=
  if n.val = 0 then hide 512#32 s else if n.val = 1 then hide 256#32 s else s

/-- Query rows put together from the blocks'. -/
def byBlock {α : Type} (P : Fin 16 → S256x128.Idx → α) : S4096x128.Idx → α := fun y =>
  have hy : (y 0).val < 4096 := (y 0).isLt
  P ⟨(y 0).val / 256, by omega⟩ (ix2 ⟨(y 0).val % 256, by omega⟩ (y 1))

variable (q : Vec F S4096x128 .bf16) (k v : Vec F S4608x128 .bf16) (b : Vec F S2x256x768 .f32)
  (o d : Vec F S4096x128 .bf16)

/-- A head's scores in a block. -/
def sc (h : IVec S256x128 1) (a : Fin 2) (n : Fin 16) : FVec F S256x768 .f32 :=
  masked n (score h (qrows n q) (krows n k) (bias a b))

/-- A head's score gradient in a block. -/
def ds (h : IVec S256x128 1) (a : Fin 2) (n : Fin 16) : FVec F S256x768 .f32 :=
  dscore h (sc q k b h a n) (krows n v) (qrows n d) (qrows n o)

/-- A block of the query gradient. -/
def dqBlock (n : Fin 16) : FVec F S256x128 .bf16 :=
  dqTile h0 (krows n k) (ds q k v b o d h0 0 n) (ds q k v b o d h1 1 n)

/-- The query gradient: each row from its block. -/
def dq : Vec F S4096x128 .bf16 := byBlock (dqBlock q k v b o d)

/-- A head pair's output in a block: each head's lanes from its own softmax. -/
def outBlock (n : Fin 16) : FVec F S256x128 .bf16 :=
  outTile h0 (krows n v) (sc q k b h0 0 n) (sc q k b h1 1 n)

/-- A head pair's output: each row from its block. -/
def out : Vec F S4096x128 .bf16 := byBlock (outBlock q k v b)

/-- Key rows after the blocks before `n`, each adding to the rows it sees. -/
def after (P : Fin 16 → Vec F S768x128 .f32 → Vec F S768x128 .f32) : ℕ → Vec F S4608x128 .f32
  | 0 => broadcast S4608x128 (Scalar.ofBits .f32 0x00000000#32)
  | n + 1 => if h : n < 16 then change (256 * n) 768 (by omega) (P ⟨n, h⟩) (after P n) else after P n

/-- What a block adds to the key gradient. -/
def addDk (n : Fin 16) : Vec F S768x128 .f32 → Vec F S768x128 .f32 :=
  onto h0 h1 (qrows n q) (ds q k v b o d h0 0 n) (ds q k v b o d h1 1 n)

/-- What a block adds to the value gradient. -/
def addDv (n : Fin 16) : Vec F S768x128 .f32 → Vec F S768x128 .f32 :=
  onto h0 h1 (qrows n d) (prob (sc q k b h0 0 n)) (prob (sc q k b h1 1 n))

/-- The key gradient. -/
def dk : Vec F S4608x128 .f32 := after (addDk q k v b o d) 16

/-- The value gradient. -/
def dv : Vec F S4608x128 .f32 := after (addDv q k b d) 16

end Cert.AttnState
-- ==== Proof.AttnBand.lean ====
/-
  The leading columns of one member of a stack of arrays: storing them after changing them. And the bias gradient of the
  attention kernel in these terms: each block adds its score gradients' two shifted bands to both heads.
-/
module

public import proofs.«01_k».proof.Proof.AttnState

@[expose] public section

set_option maxRecDepth 16384

noncomputable section

namespace Cert.AttnBand

open Idealize.ShloMosaic

section Stack

variable {α : Type} {A R W C : ℕ}

/-- The first `C` columns of member `a`. -/
def bandOf (hC : C ≤ W) (a : Fin A) (x : (⟨3, ![A, R, W]⟩ : Shape).Idx → α) : (⟨3, ![1, R, C]⟩ : Shape).Idx → α :=
  fun z => x (ix3 a (z 1) ⟨(z 2).val, Nat.lt_of_lt_of_le (z 2).isLt hC⟩)

/-- The stack after those columns became `P` of what they were. -/
def changeBand (hC : C ≤ W) (a : Fin A) (P : ((⟨3, ![1, R, C]⟩ : Shape).Idx → α) → (⟨3, ![1, R, C]⟩ : Shape).Idx → α)
    (x : (⟨3, ![A, R, W]⟩ : Shape).Idx → α) : (⟨3, ![A, R, W]⟩ : Shape).Idx → α :=
  fun y => if h : (y 0).val = a.val ∧ (y 2).val < C then P (bandOf hC a x) (ix3 0 (y 1) ⟨(y 2).val, h.2⟩) else x y

variable {sig : RefSig} {Val : EltTy → Type} {κ : Kind} {sp : Space} {e : EltTy}
  (v : View sig κ sp ⟨3, ![A, R, W]⟩ e)

theorem readAt_band (hC : C ≤ W) (a : Fin A) {off : Fin 3 → ℕ} (hoff : off = ![a.val, 0, 0])
    (inb : ∀ z : Fin 3, off z + (![1, R, C] : Fin 3 → ℕ) z ≤ (![A, R, W] : Fin 3 → ℕ) z) (f : v.ty.Contents Val) :
    v.readAt Val (Rect.unit (s := ⟨3, ![A, R, W]⟩) off ![1, R, C] inb).toLoadRect f = bandOf hC a (v.read Val f) := by
  subst hoff
  funext z
  rw [View.readAt_apply]
  refine congrArg (v.read Val f) (funext fun t => ?_)
  have h : (z 0).val < 1 := (z 0).isLt
  match t with
  | 0 => exact Fin.ext (by show a.val + 1 * (z 0).val = a.val; omega)
  | 1 => exact Fin.ext (by simp [LoadRect.idx, Rect.toLoadRect, Rect.unit, ix3]; rfl)
  | 2 => exact Fin.ext (by simp [LoadRect.idx, Rect.toLoadRect, Rect.unit, ix3]; rfl)

/-- Storing columns of a member leaves the rest. -/
theorem read_hidden (a : Fin A) {off : Fin 3 → ℕ} (hoff : off = ![a.val, 0, 0])
    (inb : ∀ z : Fin 3, off z + (![1, R, C] : Fin 3 → ℕ) z ≤ (![A, R, W] : Fin 3 → ℕ) z)
    (f : v.ty.Contents Val) (L : List (View.Piece Val ⟨3, ![A, R, W]⟩ e)) (x : (⟨3, ![1, R, C]⟩ : Shape).Idx → Val e)
    (y : (⟨3, ![A, R, W]⟩ : Shape).Idx) (h : ¬((y 0).val = a.val ∧ (y 2).val < C)) :
    v.read Val (v.writes Val f (⟨Rect.unit (s := ⟨3, ![A, R, W]⟩) off ![1, R, C] inb, x⟩ :: L)) y = v.read Val (v.writes Val f L) y := by
  by_cases h0 : (y 0).val = a.val
  · exact View.read_writes_cons_unit_of_not_mem v f inb _ L y hoff 2 (.inr (by
      show 0 + C ≤ (y 2).val
      have : ¬ (y 2).val < C := fun h2 => h ⟨h0, h2⟩
      omega))
  · exact View.read_writes_cons_unit_of_not_mem v f inb _ L y hoff 0 (by
      show (y 0).val < a.val ∨ a.val + 1 ≤ (y 0).val
      omega)

/-- Storing columns of a member whose payload is `P` of what the stack held. -/
theorem read_changeBand (hC : C ≤ W) (a : Fin A) {off : Fin 3 → ℕ} (hoff : off = ![a.val, 0, 0])
    (inb : ∀ z : Fin 3, off z + (![1, R, C] : Fin 3 → ℕ) z ≤ (![A, R, W] : Fin 3 → ℕ) z)
    (P : ((⟨3, ![1, R, C]⟩ : Shape).Idx → Val e) → (⟨3, ![1, R, C]⟩ : Shape).Idx → Val e)
    (f : v.ty.Contents Val) (L : List (View.Piece Val ⟨3, ![A, R, W]⟩ e)) {X : (⟨3, ![A, R, W]⟩ : Shape).Idx → Val e}
    (hL : ∀ y : (⟨3, ![A, R, W]⟩ : Shape).Idx, ¬((y 0).val = a.val ∧ (y 2).val < C) → v.read Val (v.writes Val f L) y = X y)
    {x : (⟨3, ![1, R, C]⟩ : Shape).Idx → Val e} (hx : x = bandOf hC a X) :
    v.read Val (v.writes Val f (⟨Rect.unit (s := ⟨3, ![A, R, W]⟩) off ![1, R, C] inb, P x⟩ :: L)) = changeBand hC a P X := by
  subst hx
  funext y
  unfold changeBand
  by_cases h : (y 0).val = a.val ∧ (y 2).val < C
  · rw [dif_pos h]
    exact View.read_writes_cons_unit_of_mem v f inb _ L y (ix3 0 (y 1) ⟨(y 2).val, h.2⟩) hoff fun t => by
      match t with
      | 0 => show (y 0).val = a.val + 0; omega
      | 1 => show (y 1).val = 0 + (y 1).val; omega
      | 2 => show (y 2).val = 0 + (y 2).val; omega
  · rw [dif_neg h]
    exact (read_hidden v a hoff inb f L _ y h).trans (hL y h)

theorem bandOf_same (hC : C ≤ W) (a : Fin A) (P : ((⟨3, ![1, R, C]⟩ : Shape).Idx → α) → (⟨3, ![1, R, C]⟩ : Shape).Idx → α)
    (X : (⟨3, ![A, R, W]⟩ : Shape).Idx → α) : bandOf hC a (changeBand hC a P X) = P (bandOf hC a X) := by
  funext z
  unfold bandOf changeBand
  refine (dif_pos ⟨rfl, (z 2).isLt⟩).trans (congrArg (P _) (funext fun t => ?_))
  have h : (z 0).val < 1 := (z 0).isLt
  match t with
  | 0 => exact Fin.ext (by show 0 = (z 0).val; omega)
  | 1 => rfl
  | 2 => rfl

theorem bandOf_other (hC : C ≤ W) (a a' : Fin A) (h : a ≠ a') (P : ((⟨3, ![1, R, C]⟩ : Shape).Idx → α) → (⟨3, ![1, R, C]⟩ : Shape).Idx → α)
    (X : (⟨3, ![A, R, W]⟩ : Shape).Idx → α) : bandOf hC a (changeBand hC a' P X) = bandOf hC a X := by
  funext z
  unfold bandOf changeBand
  exact dif_neg fun e => h (Fin.ext e.1)

end Stack

open Cert.AttnKernelIdeal Cert.AttnKernelIdeal.Gen Cert.AttnState

variable {F : FTy → Type} [FloatOps F] [Named F]

/-- The score gradients of a block's first 128 queries over the 640 keys they may see. -/
def upper (w : FVec F S256x768 .f32) : FVec F S128x640 .f32 :=
  extractStridedSlice S128x640 ![0, 0] w slices_S256x768_o0_0_S128x640

/-- The score gradients of a block's last 128 queries over the 640 keys they may see. -/
def lower (w : FVec F S256x768 .f32) : FVec F S128x640 .f32 :=
  extractStridedSlice S128x640 ![128, 128] w slices_S256x768_o128_128_S128x640

/-- A band of score gradients added to what a head holds. -/
def addTo (x : FVec F S128x640 .f32) (acc : Vec F S1x128x640 .f32) : Vec F S1x128x640 .f32 :=
  shapeCast S1x128x640 (addf (shapeCast S128x640 acc shapeCasts_S1x128x640_S128x640) x) shapeCasts_S128x640_S1x128x640

/-- A head's bias gradient with a block's two bands added. -/
def bandOnto (a : Fin 2) (w : FVec F S256x768 .f32) : Vec F S2x128x768 .f32 → Vec F S2x128x768 .f32 :=
  changeBand (A := 2) (R := 128) (W := 768) (C := 640) (by omega) a (fun acc => addTo (lower w) (addTo (upper w) acc))

/-- Both heads' bias gradients with a block's bands added. -/
def bandsOnto (w0 w1 : FVec F S256x768 .f32) (acc : Vec F S2x128x768 .f32) : Vec F S2x128x768 .f32 :=
  bandOnto 1 w1 (bandOnto 0 w0 acc)

/-- What a head's bands hold. -/
def held (a : Fin 2) (X : Vec F S2x128x768 .f32) : Vec F S1x128x640 .f32 :=
  bandOf (A := 2) (R := 128) (W := 768) (C := 640) (by omega) a X

theorem held0 (w0 w1 : FVec F S256x768 .f32) (X : Vec F S2x128x768 .f32) :
    held 0 (bandsOnto w0 w1 X) = addTo (lower w0) (addTo (upper w0) (held 0 X)) := by
  unfold held bandsOnto bandOnto
  rw [bandOf_other _ _ _ (by decide), bandOf_same]

theorem held1 (w0 w1 : FVec F S256x768 .f32) (X : Vec F S2x128x768 .f32) :
    held 1 (bandsOnto w0 w1 X) = addTo (lower w1) (addTo (upper w1) (held 1 X)) := by
  unfold held bandsOnto bandOnto
  rw [bandOf_same, bandOf_other _ _ _ (by decide)]

/-- The bias gradient after the blocks before `n`. -/
def bandsAfter (P : Fin 16 → Vec F S2x128x768 .f32 → Vec F S2x128x768 .f32) : ℕ → Vec F S2x128x768 .f32
  | 0 => broadcast S2x128x768 (Scalar.ofBits .f32 0x00000000#32)
  | n + 1 => if h : n < 16 then P ⟨n, h⟩ (bandsAfter P n) else bandsAfter P n

variable (q : Vec F S4096x128 .bf16) (k v : Vec F S4608x128 .bf16) (b : Vec F S2x256x768 .f32)
  (o d : Vec F S4096x128 .bf16)

/-- What a block adds to the bias gradient. -/
def addDb (n : Fin 16) : Vec F S2x128x768 .f32 → Vec F S2x128x768 .f32 :=
  bandsOnto (ds q k v b o d h0 0 n) (ds q k v b o d h1 1 n)

/-- A head pair's bias gradient. -/
def db : Vec F S2x128x768 .f32 := bandsAfter (addDb q k v b o d) 16

section Pieces

variable {sig : RefSig} (a : Memref sig .tc .vmem S2x128x768 .f32) (w0 w1 : FVec F S256x768 .f32)

/-- Where a head's bands lie. -/
abbrev rect0 : Rect S2x128x768 := Rect.unit (s := S2x128x768) ![0, 0, 0] S1x128x640.size inb_S2x128x768_S1x128x640_0_0_0
abbrev rect1 : Rect S2x128x768 := Rect.unit (s := S2x128x768) ![1, 0, 0] S1x128x640.size inb_S2x128x768_S1x128x640_1_0_0

/-- A block's stores to the bias gradient over earlier ones, from what the heads' bands held. -/
def pieces (x0 x1 : Vec F S1x128x640 .f32) (L : List (View.Piece (Elt F) S2x128x768 .f32)) :
    List (View.Piece (Elt F) S2x128x768 .f32) :=
  ⟨rect1, addTo (lower w1) (addTo (upper w1) x1)⟩ :: ⟨rect1, addTo (upper w1) x1⟩
    :: ⟨rect0, addTo (lower w0) (addTo (upper w0) x0)⟩ :: ⟨rect0, addTo (upper w0) x0⟩ :: L

theorem read_pieces (f : BufTy.Contents (Elt F) a.view.ty) (L : List (View.Piece (Elt F) S2x128x768 .f32))
    {X : Vec F S2x128x768 .f32} (hL : a.view.read (Elt F) (a.view.writes (Elt F) f L) = X)
    {x0 x1 : Vec F S1x128x640 .f32} (h0 : x0 = held 0 X) (h1 : x1 = held 1 X) :
    a.view.read (Elt F) (a.view.writes (Elt F) f (pieces w0 w1 x0 x1 L)) = bandsOnto w0 w1 X := by
  have e0 : a.view.read (Elt F) (a.view.writes (Elt F) f (⟨rect0, addTo (lower w0) (addTo (upper w0) x0)⟩ :: ⟨rect0, addTo (upper w0) x0⟩ :: L))
      = bandOnto 0 w0 X :=
    read_changeBand (A := 2) (R := 128) (W := 768) (C := 640) a.view (by omega) 0 rfl inb_S2x128x768_S1x128x640_0_0_0
      (fun acc => addTo (lower w0) (addTo (upper w0) acc)) f _
      (fun y hy => (read_hidden (A := 2) (R := 128) (W := 768) (C := 640) a.view 0 rfl inb_S2x128x768_S1x128x640_0_0_0 f L _ y hy).trans
        (congrFun hL y)) h0
  exact read_changeBand (A := 2) (R := 128) (W := 768) (C := 640) a.view (by omega) 1 rfl inb_S2x128x768_S1x128x640_1_0_0
    (fun acc => addTo (lower w1) (addTo (upper w1) acc)) f _
    (fun y hy => (read_hidden (A := 2) (R := 128) (W := 768) (C := 640) a.view 1 rfl inb_S2x128x768_S1x128x640_1_0_0 f _ _ y hy).trans
      (congrFun e0 y)) (h1.trans (bandOf_other _ 1 0 (by decide) _ _).symm)

/-- The same stores, a head's second band added to what a load of the first gives. -/
def stored (x0 x1 : Vec F S1x128x640 .f32) (L : List (View.Piece (Elt F) S2x128x768 .f32)) :
    List (View.Piece (Elt F) S2x128x768 .f32) :=
  let once := ⟨rect0, addTo (upper w0) x0⟩ :: L
  let twice := ⟨rect0, addTo (lower w0) (a.view.readCov once rect0.toLoadRect)⟩ :: once
  let thrice := ⟨rect1, addTo (upper w1) x1⟩ :: twice
  ⟨rect1, addTo (lower w1) (a.view.readCov thrice rect1.toLoadRect)⟩ :: thrice

theorem stored_eq (x0 x1 : Vec F S1x128x640 .f32) (L : List (View.Piece (Elt F) S2x128x768 .f32)) :
    stored a w0 w1 x0 x1 L = pieces w0 w1 x0 x1 L := by
  unfold stored pieces
  have e0 := View.readCov_cons_toLoadRect a.view rect0 (addTo (upper w0) x0) L
  have e1 := fun L' => View.readCov_cons_toLoadRect a.view rect1 (addTo (upper w1) x1) L'
  simp only [e0, e1]

theorem read_held0 (f : BufTy.Contents (Elt F) a.view.ty) : a.view.readAt (Elt F) rect0.toLoadRect f = held 0 (a.view.read (Elt F) f) :=
  readAt_band (A := 2) (R := 128) (W := 768) (C := 640) a.view (by omega) 0 rfl _ f

theorem read_held1 (f : BufTy.Contents (Elt F) a.view.ty) : a.view.readAt (Elt F) rect1.toLoadRect f = held 1 (a.view.read (Elt F) f) :=
  readAt_band (A := 2) (R := 128) (W := 768) (C := 640) a.view (by omega) 1 rfl _ f

/-- The same stores, every load one of the earlier stores. -/
def covered (L : List (View.Piece (Elt F) S2x128x768 .f32)) : List (View.Piece (Elt F) S2x128x768 .f32) :=
  let once := ⟨rect0, addTo (upper w0) (a.view.readCov L rect0.toLoadRect)⟩ :: L
  let twice := ⟨rect0, addTo (lower w0) (a.view.readCov once rect0.toLoadRect)⟩ :: once
  let thrice := ⟨rect1, addTo (upper w1) (a.view.readCov twice rect1.toLoadRect)⟩ :: twice
  ⟨rect1, addTo (lower w1) (a.view.readCov thrice rect1.toLoadRect)⟩ :: thrice

theorem read_covered (L : List (View.Piece (Elt F) S2x128x768 .f32))
    {X : Vec F S2x128x768 .f32} (hL : a.view.read (Elt F) (a.view.writes (Elt F) a.view.junk L) = X) :
    a.view.read (Elt F) (a.view.writes (Elt F) a.view.junk (covered a w0 w1 L)) = bandsOnto w0 w1 X := by
  have c0 : a.view.readCov L rect0.toLoadRect = held 0 X := (read_held0 a _).trans (congrArg (held 0) hL)
  have e0 := read_changeBand (A := 2) (R := 128) (W := 768) (C := 640) a.view (by omega) 0 rfl inb_S2x128x768_S1x128x640_0_0_0
    (fun acc => addTo (lower w0) (addTo (upper w0) acc)) a.view.junk
    (⟨rect0, addTo (upper w0) (a.view.readCov L rect0.toLoadRect)⟩ :: L)
    (fun y hy => (read_hidden (A := 2) (R := 128) (W := 768) (C := 640) a.view 0 rfl inb_S2x128x768_S1x128x640_0_0_0 a.view.junk L _ y hy).trans
      (congrFun hL y)) c0
  have c1 : a.view.readCov (⟨rect0, addTo (lower w0) (addTo (upper w0) (a.view.readCov L rect0.toLoadRect))⟩
      :: ⟨rect0, addTo (upper w0) (a.view.readCov L rect0.toLoadRect)⟩ :: L) rect1.toLoadRect = held 1 X :=
    ((read_held1 a _).trans (congrArg (held 1) e0)).trans (bandOf_other _ 1 0 (by decide) _ _)
  refine Eq.trans (congrArg (fun L' => a.view.read (Elt F) (a.view.writes (Elt F) a.view.junk L')) ?_)
    (read_pieces a w0 w1 a.view.junk L hL c0 c1)
  unfold covered pieces
  have h0 := View.readCov_cons_toLoadRect a.view rect0 (addTo (upper w0) (a.view.readCov L rect0.toLoadRect)) L
  have h1 := fun x L' => View.readCov_cons_toLoadRect a.view rect1 (addTo (upper w1) x) L'
  simp only [h0, h1]

end Pieces

end Cert.AttnBand
-- ==== Proof.AttnTrip.lean ====
/-
  What one trip of the attention kernel's loop stores in the query, key, value and bias gradients, in the block's own terms.
-/
module

public import proofs.«01_k».proof.Proof.AttnBand
public import proofs.«01_k».proof.Proof.Gen.AttnKernelIdeal.Loops

@[expose] public section

set_option maxRecDepth 16384

noncomputable section

namespace Cert.AttnTrip

open Idealize.ShloMosaic Idealize.ShloMosaic.TcCoe Idealize.SL.Sem
open Cert.AttnKernelIdeal Cert.AttnKernelIdeal.Gen Cert.AttnBlock

variable {F : FTy → Type} [FloatOps F] [Named F]

/-- What a load of whole rows reads. -/
abbrev rowsAt {sig : RefSig} {sp : Space} {s : Shape} {e : EltTy} (a : Memref sig .tc sp s e) (off size : Fin s.rank → ℕ)
    (inb : ∀ x, off x + size x ≤ s.size x) (X : BufTy.Contents (Elt F) a.view.ty) :
    (Rect.unit (s := s) off size inb).shape.Idx → Elt F e :=
  View.readAt (Elt F) a.view (Rect.unit (s := s) off size inb).toLoadRect X

section

variable (𝒱 : Variants) (c : Dev nD) (bd : Option 𝒱.V) (i : grid0.Coords)
  (arg1 : Memref sig .tc .vmem S4096x128 .bf16) (harg1 : arg1.IsWhole)
  (arg2 : Memref sig .tc .vmem S4608x128 .bf16) (harg2 : arg2.IsWhole)
  (arg3 : Memref sig .tc .vmem S4608x128 .bf16) (harg3 : arg3.IsWhole)
  (arg4 : Memref sig .tc .vmem S2x256x768 .f32) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S4608x128 .f32) (harg8 : arg8.IsWhole)
  (arg9 : Memref sig .tc .vmem S4608x128 .f32) (harg9 : arg9.IsWhole)
  (arg10 : Memref sig .tc .vmem S2x128x768 .f32) (harg10 : arg10.IsWhole)
  (h0 h1 : IVec S256x128 1)
  (X1 : BufTy.Contents (Elt F) arg1.view.ty) (X2 : BufTy.Contents (Elt F) arg2.view.ty)
  (X3 : BufTy.Contents (Elt F) arg3.view.ty) (X4 : BufTy.Contents (Elt F) arg4.view.ty)
  (X5 : BufTy.Contents (Elt F) arg5.view.ty) (X6 : BufTy.Contents (Elt F) arg6.view.ty)
  (k : Fin k0_t1_loop.trips)
  (f7 : BufTy.Contents (Elt F) arg7.view.ty) (f8 : BufTy.Contents (Elt F) arg8.view.ty)
  (f9 : BufTy.Contents (Elt F) arg9.view.ty) (f10 : BufTy.Contents (Elt F) arg10.view.ty)

/-- The rows a trip reads of a query-shaped array. -/
abbrev qrows (a : Memref sig .tc .vmem S4096x128 .bf16) (X : BufTy.Contents (Elt F) a.view.ty) : Vec F S256x128 .bf16 :=
  rowsAt a (k0_off3 k) S256x128.size (k0_off3_inb k) X

/-- The rows a trip reads of a key-shaped array. -/
abbrev krows {e : EltTy} (a : Memref sig .tc .vmem S4608x128 e) (X : BufTy.Contents (Elt F) a.view.ty) :
    Vec F S768x128 e :=
  rowsAt a (k0_off4 k) S768x128.size (k0_off4_inb k) X

/-- A head's bias tile. -/
abbrev bias0 : Vec F S1x256x768 .f32 :=
  rowsAt arg4 ![0, 0, 0] S1x256x768.size inb_S2x256x768_S1x256x768_0_0_0 X4

abbrev bias1 : Vec F S1x256x768 .f32 :=
  rowsAt arg4 ![1, 0, 0] S1x256x768.size inb_S2x256x768_S1x256x768_1_0_0 X4

abbrev s0 : FVec F S256x768 .f32 := score h0 (qrows k arg1 X1) (krows k arg2 X2) (bias0 arg4 X4)

abbrev s1 : FVec F S256x768 .f32 := score h1 (qrows k arg1 X1) (krows k arg2 X2) (bias1 arg4 X4)

abbrev w0 : FVec F S256x768 .f32 :=
  dscore h0 (s0 arg1 arg2 arg4 h0 X1 X2 X4 k) (krows k arg3 X3) (qrows k arg6 X6) (qrows k arg5 X5)

abbrev w1 : FVec F S256x768 .f32 :=
  dscore h1 (s1 arg1 arg2 arg4 h1 X1 X2 X4 k) (krows k arg3 X3) (qrows k arg6 X6) (qrows k arg5 X5)

theorem trip7 :
    (trip_k0_t1 (F := F) 𝒱 c bd i arg1 harg1 arg2 harg2 arg3 harg3 arg4 harg4 arg5 harg5 arg6 harg6 arg7 harg7 arg8 harg8 arg9 harg9 arg10 harg10 h0 h1 X1 X2 X3 X4 X5 X6 k).1 f7 f8 f9 f10
      = [⟨Rect.unit (s := S4096x128) (k0_off3 k) S256x128.size (k0_off3_inb k),
          dqTile h0 (krows k arg2 X2) (w0 arg1 arg2 arg3 arg4 arg5 arg6 h0 X1 X2 X3 X4 X5 X6 k)
            (w1 arg1 arg2 arg3 arg4 arg5 arg6 h1 X1 X2 X3 X4 X5 X6 k)⟩] := by
  unfold trip_k0_t1
  rfl

theorem trip8 :
    (trip_k0_t1 (F := F) 𝒱 c bd i arg1 harg1 arg2 harg2 arg3 harg3 arg4 harg4 arg5 harg5 arg6 harg6 arg7 harg7 arg8 harg8 arg9 harg9 arg10 harg10 h0 h1 X1 X2 X3 X4 X5 X6 k).2.1 f7 f8 f9 f10
      = [⟨Rect.unit (s := S4608x128) (k0_off4 k) S768x128.size (k0_off4_inb k),
          onto h0 h1 (qrows k arg1 X1) (w0 arg1 arg2 arg3 arg4 arg5 arg6 h0 X1 X2 X3 X4 X5 X6 k)
            (w1 arg1 arg2 arg3 arg4 arg5 arg6 h1 X1 X2 X3 X4 X5 X6 k) (krows k arg8 f8)⟩] := by
  unfold trip_k0_t1
  rfl

theorem trip9 :
    (trip_k0_t1 (F := F) 𝒱 c bd i arg1 harg1 arg2 harg2 arg3 harg3 arg4 harg4 arg5 harg5 arg6 harg6 arg7 harg7 arg8 harg8 arg9 harg9 arg10 harg10 h0 h1 X1 X2 X3 X4 X5 X6 k).2.2.1 f7 f8 f9 f10
      = [⟨Rect.unit (s := S4608x128) (k0_off4 k) S768x128.size (k0_off4_inb k),
          onto h0 h1 (qrows k arg6 X6) (prob (s0 arg1 arg2 arg4 h0 X1 X2 X4 k)) (prob (s1 arg1 arg2 arg4 h1 X1 X2 X4 k))
            (krows k arg9 f9)⟩] := by
  unfold trip_k0_t1
  rfl

theorem trip10 :
    (trip_k0_t1 (F := F) 𝒱 c bd i arg1 harg1 arg2 harg2 arg3 harg3 arg4 harg4 arg5 harg5 arg6 harg6 arg7 harg7 arg8 harg8 arg9 harg9 arg10 harg10 h0 h1 X1 X2 X3 X4 X5 X6 k).2.2.2.1 f7 f8 f9 f10
      = AttnBand.stored arg10 (w0 arg1 arg2 arg3 arg4 arg5 arg6 h0 X1 X2 X3 X4 X5 X6 k)
          (w1 arg1 arg2 arg3 arg4 arg5 arg6 h1 X1 X2 X3 X4 X5 X6 k)
          (arg10.view.readAt (Elt F) AttnBand.rect0.toLoadRect f10) (arg10.view.readAt (Elt F) AttnBand.rect1.toLoadRect f10) [] := by
  unfold trip_k0_t1
  rfl

end

end Cert.AttnTrip
-- ==== Proof.AttnLoop.lean ====
/-
  The attention kernel's blocks in the arrays' own terms: what the loads read of the whole inputs, what the two blocks
  before the loop and each trip of it store, and so what the loop leaves.
-/
module

public import proofs.«01_k».proof.Proof.AttnState
public import proofs.«01_k».proof.Proof.AttnTrip

@[expose] public section

set_option maxRecDepth 16384

noncomputable section

namespace Cert.AttnLoop

open Idealize.ShloMosaic Idealize.ShloMosaic.TcCoe Idealize.SL.Sem
open Cert.AttnKernelIdeal Cert.AttnKernelIdeal.Gen Cert.AttnBlock Cert.AttnState Cert.AttnTrip Cert.Rows

variable {F : FTy → Type} [FloatOps F] [Named F]

section Tiles

variable (m : FVec F S256x768 .f32 → FVec F S256x768 .f32) (q d o : Vec F S256x128 .bf16) (k v : Vec F S768x128 .bf16)
  (b0 b1 : Vec F S1x256x768 .f32)

/-- A block's query gradient from the tiles it reads. -/
def dqOf : FVec F S256x128 .bf16 :=
  dqTile h0 k (dscore h0 (m (score h0 q k b0)) v d o) (dscore h1 (m (score h1 q k b1)) v d o)

/-- A block's addition to the key gradient from the tiles it reads. -/
def dkOf : Vec F S768x128 .f32 → Vec F S768x128 .f32 :=
  onto h0 h1 q (dscore h0 (m (score h0 q k b0)) v d o) (dscore h1 (m (score h1 q k b1)) v d o)

/-- A block's addition to the value gradient from the tiles it reads. -/
def dvOf : Vec F S768x128 .f32 → Vec F S768x128 .f32 :=
  onto h0 h1 d (prob (m (score h0 q k b0))) (prob (m (score h1 q k b1)))

/-- A block's addition to the bias gradient from the tiles it reads. -/
def dbOf : Vec F S2x128x768 .f32 → Vec F S2x128x768 .f32 :=
  AttnBand.bandsOnto (dscore h0 (m (score h0 q k b0)) v d o) (dscore h1 (m (score h1 q k b1)) v d o)

/-- Its stores. -/
def dbPieces := AttnBand.pieces (dscore h0 (m (score h0 q k b0)) v d o) (dscore h1 (m (score h1 q k b1)) v d o)

/-- The same, every load one of its own stores. -/
def dbCovered (a : Memref sig .tc .vmem S2x128x768 .f32) :=
  AttnBand.covered a (dscore h0 (m (score h0 q k b0)) v d o) (dscore h1 (m (score h1 q k b1)) v d o)

end Tiles

theorem query_rows {sig : RefSig} {a : Memref sig .tc .vmem S4096x128 .bf16} (ha : a.IsWhole) (x : Vec F S4096x128 .bf16)
    {off : Fin 2 → ℕ} (n : Fin 16) (hoff : off = ![256 * n.val, 0])
    (inb : ∀ z, off z + S256x128.size z ≤ S4096x128.size z) :
    rowsAt a off S256x128.size inb (ha.unread x) = AttnState.qrows n x := by
  refine (readAt_rows (N := 4096) (W := 256) (K := 128) a.view (by omega) hoff inb _).trans ?_
  rw [ha.read_unread]
  rfl

theorem key_rows {sig : RefSig} {a : Memref sig .tc .vmem S4608x128 .bf16} (ha : a.IsWhole) (x : Vec F S4608x128 .bf16)
    {off : Fin 2 → ℕ} (n : Fin 16) (hoff : off = ![256 * n.val, 0])
    (inb : ∀ z, off z + S768x128.size z ≤ S4608x128.size z) :
    rowsAt a off S768x128.size inb (ha.unread x) = AttnState.krows n x := by
  refine (readAt_rows (N := 4608) (W := 768) (K := 128) a.view (by omega) hoff inb _).trans ?_
  rw [ha.read_unread]
  rfl

theorem bias_tile {sig : RefSig} {a : Memref sig .tc .vmem S2x256x768 .f32} (ha : a.IsWhole) (x : Vec F S2x256x768 .f32) (n : Fin 2)
    {off : Fin 3 → ℕ} (hoff : off = ![n.val, 0, 0]) (inb : ∀ z, off z + S1x256x768.size z ≤ S2x256x768.size z) :
    rowsAt a off S1x256x768.size inb (ha.unread x) = bias n x := by
  subst hoff
  funext z
  refine (ha.readAt_unread x _ z).trans (congrArg x (funext fun t => ?_))
  have h : (z 0).val < 1 := (z 0).isLt
  match t with
  | 0 => exact Fin.ext (by simp [LoadRect.idx, Rect.toLoadRect, Rect.unit, ix3]; omega)
  | 1 => exact Fin.ext (by simp [LoadRect.idx, Rect.toLoadRect, Rect.unit, ix3])
  | 2 => exact Fin.ext (by simp [LoadRect.idx, Rect.toLoadRect, Rect.unit, ix3])

theorem bias0_at {a : Memref sig .tc .vmem S2x256x768 .f32} (ha : a.IsWhole) (x : Vec F S2x256x768 .f32) :
    AttnTrip.bias0 a (ha.unread x) = bias 0 x := bias_tile ha x 0 rfl _

theorem bias1_at {a : Memref sig .tc .vmem S2x256x768 .f32} (ha : a.IsWhole) (x : Vec F S2x256x768 .f32) :
    AttnTrip.bias1 a (ha.unread x) = bias 1 x := bias_tile ha x 1 rfl _

/-- Rows put together from blocks, after one more block. -/
theorem one_more {sig : RefSig} (P : Fin 16 → Vec F S256x128 .bf16) (n : Fin 16) {off : Fin 2 → ℕ}
    (hoff : off = ![256 * n.val, 0]) (inb : ∀ z, off z + S256x128.size z ≤ S4096x128.size z)
    {a : Memref sig .tc .vmem S4096x128 .bf16} (f : BufTy.Contents (Elt F) a.view.ty)
    (L : List (View.Piece (Elt F) S4096x128 .bf16))
    (hL : ∀ y : S4096x128.Idx, (y 0).val < 256 * n.val → a.view.read (Elt F) (a.view.writes (Elt F) f L) y = byBlock P y)
    (y : S4096x128.Idx) (hy : (y 0).val < 256 * (n.val + 1)) :
    a.view.read (Elt F) (a.view.writes (Elt F) f (⟨Rect.unit (s := S4096x128) off S256x128.size inb, P n⟩ :: L)) y
      = byBlock P y := by
  refine (congrFun (read_change (N := 4096) (W := 256) (K := 128) a.view (by omega) hoff inb
    (fun _ => P n) f L) y).trans ?_
  unfold change
  by_cases h : 256 * n.val ≤ (y 0).val ∧ (y 0).val < 256 * n.val + 256
  · rw [dif_pos h]
    have hn : n = ⟨(y 0).val / 256, by have := (y 0).isLt; omega⟩ := Fin.ext (by show n.val = (y 0).val / 256; omega)
    have hr : (y 0).val - 256 * n.val = (y 0).val % 256 := by omega
    unfold byBlock
    simp only [hr, ← hn]
  · rw [dif_neg h]
    exact hL y (by omega)

variable {arg1 : Memref sig .tc .vmem S4096x128 .bf16} (harg1 : arg1.IsWhole)
  {arg2 : Memref sig .tc .vmem S4608x128 .bf16} (harg2 : arg2.IsWhole)
  {arg3 : Memref sig .tc .vmem S4608x128 .bf16} (harg3 : arg3.IsWhole)
  {arg4 : Memref sig .tc .vmem S2x256x768 .f32} (harg4 : arg4.IsWhole)
  {arg5 : Memref sig .tc .vmem S4096x128 .bf16} (harg5 : arg5.IsWhole)
  {arg6 : Memref sig .tc .vmem S4096x128 .bf16} (harg6 : arg6.IsWhole)
  (x0 : Vec F S4096x128 .bf16) (x1 x2 : Vec F S4608x128 .bf16) (x3 : Vec F S2x256x768 .f32)
  (x4 x5 : Vec F S4096x128 .bf16)

section Offsets

variable (n : Fin 16) {offq offk : Fin 2 → ℕ} (hq : offq = ![256 * n.val, 0]) (hk : offk = ![256 * n.val, 0])
  (inbq : ∀ z, offq z + S256x128.size z ≤ S4096x128.size z) (inbk : ∀ z, offk z + S768x128.size z ≤ S4608x128.size z)

include hq hk

theorem dqOf_at :
    dqOf (masked n) (rowsAt arg1 offq S256x128.size inbq (harg1.unread x0))
        (rowsAt arg6 offq S256x128.size inbq (harg6.unread x5)) (rowsAt arg5 offq S256x128.size inbq (harg5.unread x4))
        (rowsAt arg2 offk S768x128.size inbk (harg2.unread x1)) (rowsAt arg3 offk S768x128.size inbk (harg3.unread x2))
        (AttnTrip.bias0 arg4 (harg4.unread x3)) (AttnTrip.bias1 arg4 (harg4.unread x3))
      = dqBlock x0 x1 x2 x3 x4 x5 n := by
  rw [query_rows harg1 x0 n hq, query_rows harg6 x5 n hq, query_rows harg5 x4 n hq, key_rows harg2 x1 n hk,
    key_rows harg3 x2 n hk, bias0_at harg4 x3, bias1_at harg4 x3]
  rfl

theorem dkOf_at :
    dkOf (masked n) (rowsAt arg1 offq S256x128.size inbq (harg1.unread x0))
        (rowsAt arg6 offq S256x128.size inbq (harg6.unread x5)) (rowsAt arg5 offq S256x128.size inbq (harg5.unread x4))
        (rowsAt arg2 offk S768x128.size inbk (harg2.unread x1)) (rowsAt arg3 offk S768x128.size inbk (harg3.unread x2))
        (AttnTrip.bias0 arg4 (harg4.unread x3)) (AttnTrip.bias1 arg4 (harg4.unread x3))
      = addDk x0 x1 x2 x3 x4 x5 n := by
  rw [query_rows harg1 x0 n hq, query_rows harg6 x5 n hq, query_rows harg5 x4 n hq, key_rows harg2 x1 n hk,
    key_rows harg3 x2 n hk, bias0_at harg4 x3, bias1_at harg4 x3]
  rfl

theorem dvOf_at :
    dvOf (masked n) (rowsAt arg1 offq S256x128.size inbq (harg1.unread x0))
        (rowsAt arg6 offq S256x128.size inbq (harg6.unread x5)) (rowsAt arg2 offk S768x128.size inbk (harg2.unread x1))
        (AttnTrip.bias0 arg4 (harg4.unread x3)) (AttnTrip.bias1 arg4 (harg4.unread x3))
      = addDv x0 x1 x3 x5 n := by
  rw [query_rows harg1 x0 n hq, query_rows harg6 x5 n hq, key_rows harg2 x1 n hk, bias0_at harg4 x3,
    bias1_at harg4 x3]
  rfl

/-- Rows of the query gradient after one more block. -/
theorem block7 {a : Memref sig .tc .vmem S4096x128 .bf16} (f : BufTy.Contents (Elt F) a.view.ty)
    (L : List (View.Piece (Elt F) S4096x128 .bf16))
    (hL : ∀ y : S4096x128.Idx, (y 0).val < 256 * n.val → a.view.read (Elt F) (a.view.writes (Elt F) f L) y
      = dq x0 x1 x2 x3 x4 x5 y) (y : S4096x128.Idx) (hy : (y 0).val < 256 * (n.val + 1)) :
    a.view.read (Elt F) (a.view.writes (Elt F) f (⟨Rect.unit (s := S4096x128) offq S256x128.size inbq,
      dqOf (masked n) (rowsAt arg1 offq S256x128.size inbq (harg1.unread x0))
        (rowsAt arg6 offq S256x128.size inbq (harg6.unread x5)) (rowsAt arg5 offq S256x128.size inbq (harg5.unread x4))
        (rowsAt arg2 offk S768x128.size inbk (harg2.unread x1)) (rowsAt arg3 offk S768x128.size inbk (harg3.unread x2))
        (AttnTrip.bias0 arg4 (harg4.unread x3)) (AttnTrip.bias1 arg4 (harg4.unread x3))⟩ :: L)) y
      = dq x0 x1 x2 x3 x4 x5 y := by
  rw [dqOf_at harg1 harg2 harg3 harg4 harg5 harg6 x0 x1 x2 x3 x4 x5 n hq hk inbq inbk]
  exact one_more (dqBlock x0 x1 x2 x3 x4 x5) n hq inbq f L hL y hy

/-- The key gradient's rows after one more block. -/
theorem block8 {a : Memref sig .tc .vmem S4608x128 .f32} (f : BufTy.Contents (Elt F) a.view.ty)
    (L : List (View.Piece (Elt F) S4608x128 .f32))
    (hL : a.view.read (Elt F) (a.view.writes (Elt F) f L) = after (addDk x0 x1 x2 x3 x4 x5) n.val) :
    a.view.read (Elt F) (a.view.writes (Elt F) f (⟨Rect.unit (s := S4608x128) offk S768x128.size inbk,
      dkOf (masked n) (rowsAt arg1 offq S256x128.size inbq (harg1.unread x0))
        (rowsAt arg6 offq S256x128.size inbq (harg6.unread x5)) (rowsAt arg5 offq S256x128.size inbq (harg5.unread x4))
        (rowsAt arg2 offk S768x128.size inbk (harg2.unread x1)) (rowsAt arg3 offk S768x128.size inbk (harg3.unread x2))
        (AttnTrip.bias0 arg4 (harg4.unread x3)) (AttnTrip.bias1 arg4 (harg4.unread x3))
        (rowsAt a offk S768x128.size inbk (a.view.writes (Elt F) f L))⟩ :: L))
      = after (addDk x0 x1 x2 x3 x4 x5) (n.val + 1) := by
  rw [dkOf_at harg1 harg2 harg3 harg4 harg5 harg6 x0 x1 x2 x3 x4 x5 n hq hk inbq inbk]
  refine (read_change (N := 4608) (W := 768) (K := 128) a.view (by omega) hk inbk
    (addDk x0 x1 x2 x3 x4 x5 n) f L).trans ?_
  rw [hL]
  rw [after, dif_pos n.isLt]

/-- The value gradient's rows after one more block. -/
theorem block9 {a : Memref sig .tc .vmem S4608x128 .f32} (f : BufTy.Contents (Elt F) a.view.ty)
    (L : List (View.Piece (Elt F) S4608x128 .f32))
    (hL : a.view.read (Elt F) (a.view.writes (Elt F) f L) = after (addDv x0 x1 x3 x5) n.val) :
    a.view.read (Elt F) (a.view.writes (Elt F) f (⟨Rect.unit (s := S4608x128) offk S768x128.size inbk,
      dvOf (masked n) (rowsAt arg1 offq S256x128.size inbq (harg1.unread x0))
        (rowsAt arg6 offq S256x128.size inbq (harg6.unread x5)) (rowsAt arg2 offk S768x128.size inbk (harg2.unread x1))
        (AttnTrip.bias0 arg4 (harg4.unread x3)) (AttnTrip.bias1 arg4 (harg4.unread x3))
        (rowsAt a offk S768x128.size inbk (a.view.writes (Elt F) f L))⟩ :: L))
      = after (addDv x0 x1 x3 x5) (n.val + 1) := by
  rw [dvOf_at harg1 harg2 harg4 harg6 x0 x1 x3 x5 n hq hk inbq inbk]
  refine (read_change (N := 4608) (W := 768) (K := 128) a.view (by omega) hk inbk
    (addDv x0 x1 x3 x5 n) f L).trans ?_
  rw [hL]
  rw [after, dif_pos n.isLt]

theorem dbOf_at :
    dbOf (masked n) (rowsAt arg1 offq S256x128.size inbq (harg1.unread x0))
        (rowsAt arg6 offq S256x128.size inbq (harg6.unread x5)) (rowsAt arg5 offq S256x128.size inbq (harg5.unread x4))
        (rowsAt arg2 offk S768x128.size inbk (harg2.unread x1)) (rowsAt arg3 offk S768x128.size inbk (harg3.unread x2))
        (AttnTrip.bias0 arg4 (harg4.unread x3)) (AttnTrip.bias1 arg4 (harg4.unread x3))
      = AttnBand.addDb x0 x1 x2 x3 x4 x5 n := by
  rw [query_rows harg1 x0 n hq, query_rows harg6 x5 n hq, query_rows harg5 x4 n hq, key_rows harg2 x1 n hk,
    key_rows harg3 x2 n hk, bias0_at harg4 x3, bias1_at harg4 x3]
  rfl

/-- The bias gradient after one more block. -/
theorem block10 {a : Memref sig .tc .vmem S2x128x768 .f32} (f : BufTy.Contents (Elt F) a.view.ty)
    (L : List (View.Piece (Elt F) S2x128x768 .f32))
    (hL : a.view.read (Elt F) (a.view.writes (Elt F) f L) = AttnBand.bandsAfter (AttnBand.addDb x0 x1 x2 x3 x4 x5) n.val)
    {y0 y1 : Vec F S1x128x640 .f32} (h0 : y0 = AttnBand.held 0 (AttnBand.bandsAfter (AttnBand.addDb x0 x1 x2 x3 x4 x5) n.val))
    (h1 : y1 = AttnBand.held 1 (AttnBand.bandsAfter (AttnBand.addDb x0 x1 x2 x3 x4 x5) n.val)) :
    a.view.read (Elt F) (a.view.writes (Elt F) f (dbPieces (masked n) (rowsAt arg1 offq S256x128.size inbq (harg1.unread x0))
        (rowsAt arg6 offq S256x128.size inbq (harg6.unread x5)) (rowsAt arg5 offq S256x128.size inbq (harg5.unread x4))
        (rowsAt arg2 offk S768x128.size inbk (harg2.unread x1)) (rowsAt arg3 offk S768x128.size inbk (harg3.unread x2))
        (AttnTrip.bias0 arg4 (harg4.unread x3)) (AttnTrip.bias1 arg4 (harg4.unread x3)) y0 y1 L))
      = AttnBand.bandsAfter (AttnBand.addDb x0 x1 x2 x3 x4 x5) (n.val + 1) := by
  refine (AttnBand.read_pieces a _ _ f L hL h0 h1).trans ?_
  rw [AttnBand.bandsAfter, dif_pos n.isLt]
  exact congrFun (dbOf_at harg1 harg2 harg3 harg4 harg5 harg6 x0 x1 x2 x3 x4 x5 n hq hk inbq inbk) _

/-- The same where the block's loads are of its own stores. -/
theorem covered10 {a : Memref sig .tc .vmem S2x128x768 .f32} (L : List (View.Piece (Elt F) S2x128x768 .f32))
    (hL : a.view.read (Elt F) (a.view.writes (Elt F) a.view.junk L) = AttnBand.bandsAfter (AttnBand.addDb x0 x1 x2 x3 x4 x5) n.val) :
    a.view.read (Elt F) (a.view.writes (Elt F) a.view.junk (dbCovered (masked n) (rowsAt arg1 offq S256x128.size inbq (harg1.unread x0))
        (rowsAt arg6 offq S256x128.size inbq (harg6.unread x5)) (rowsAt arg5 offq S256x128.size inbq (harg5.unread x4))
        (rowsAt arg2 offk S768x128.size inbk (harg2.unread x1)) (rowsAt arg3 offk S768x128.size inbk (harg3.unread x2))
        (AttnTrip.bias0 arg4 (harg4.unread x3)) (AttnTrip.bias1 arg4 (harg4.unread x3)) a L))
      = AttnBand.bandsAfter (AttnBand.addDb x0 x1 x2 x3 x4 x5) (n.val + 1) := by
  refine (AttnBand.read_covered a _ _ L hL).trans ?_
  rw [AttnBand.bandsAfter, dif_pos n.isLt]
  exact congrFun (dbOf_at harg1 harg2 harg3 harg4 harg5 harg6 x0 x1 x2 x3 x4 x5 n hq hk inbq inbk) _

end Offsets

/-- Key rows cleared read as before the first block. -/
theorem cleared {a : Memref sig .tc .vmem S4608x128 .f32} (f : BufTy.Contents (Elt F) a.view.ty)
    (P : Fin 16 → Vec F S768x128 .f32 → Vec F S768x128 .f32)
    (inb : ∀ z : Fin 2, (![0, 0] : Fin 2 → ℕ) z + S4608x128.size z ≤ S4608x128.size z) :
    a.view.read (Elt F) (a.view.writes (Elt F) f [⟨Rect.unit (s := S4608x128) ![0, 0] S4608x128.size inb, k0_pay34⟩])
      = after P 0 := by
  funext y
  exact View.read_writes_cons_rows_of_mem a.view f (o := 0) inb _ [] y y rfl (Nat.zero_add _).symm rfl

/-- The bias gradient cleared reads as before the first block. -/
theorem cleared_bands {a : Memref sig .tc .vmem S2x128x768 .f32} (f : BufTy.Contents (Elt F) a.view.ty)
    (P : Fin 16 → Vec F S2x128x768 .f32 → Vec F S2x128x768 .f32)
    (inb : ∀ z : Fin 3, (![0, 0, 0] : Fin 3 → ℕ) z + S2x128x768.size z ≤ S2x128x768.size z) :
    a.view.read (Elt F) (a.view.writes (Elt F) f [⟨Rect.unit (s := S2x128x768) ![0, 0, 0] S2x128x768.size inb, k0_pay36⟩])
      = AttnBand.bandsAfter P 0 := by
  funext y
  exact View.read_writes_cons_unit_of_mem a.view f inb _ [] y y rfl fun t => by
    match t with
    | 0 => exact (Nat.zero_add _).symm
    | 1 => exact (Nat.zero_add _).symm
    | 2 => exact (Nat.zero_add _).symm

section Loop

variable (c : Dev nD) (i : grid0.Coords)
  {arg7 : Memref sig .tc .vmem S4096x128 .bf16} (harg7 : arg7.IsWhole)
  {arg8 : Memref sig .tc .vmem S4608x128 .f32} (harg8 : arg8.IsWhole)
  {arg9 : Memref sig .tc .vmem S4608x128 .f32} (harg9 : arg9.IsWhole)
  {arg10 : Memref sig .tc .vmem S2x128x768 .f32} (harg10 : arg10.IsWhole)
  (G7 : BufTy.Contents (Elt F) arg7.view.ty) (G8 : BufTy.Contents (Elt F) arg8.view.ty)
  (G9 : BufTy.Contents (Elt F) arg9.view.ty) (G10 : BufTy.Contents (Elt F) arg10.view.ty)

/-- What the loop's trips before `t` store. -/
abbrev stored (t : ℕ) := pb_k0_t1 (F := F) Variants.none c none i arg1 harg1 arg2 harg2 arg3 harg3 arg4 harg4 arg5 harg5 arg6 harg6 arg7 harg7 arg8 harg8 arg9 harg9 arg10 harg10 k0_pay32 k0_pay33 (harg1.unread x0) (harg2.unread x1)
                (harg3.unread x2) (harg4.unread x3) (harg5.unread x4) (harg6.unread x5) G7 G8 G9 G10 t

theorem trips_eq : k0_t1_loop.trips = 14 := by decide +kernel

/-- The block a trip works on. -/
def blockOf (t : Fin k0_t1_loop.trips) : Fin 16 := ⟨t.val + 2, by have := k0_t1_abs.2.1; have := t.isLt; omega⟩

theorem off3 (t : Fin k0_t1_loop.trips) : k0_off3 t = ![256 * (blockOf t).val, 0] := by
  rw [k0_off3_eq]; exact congrArg (fun z => ![z, 0]) (by show 256 * t.val + 512 = 256 * (t.val + 2); omega)

theorem off4 (t : Fin k0_t1_loop.trips) : k0_off4 t = ![256 * (blockOf t).val, 0] := by
  rw [k0_off4_eq]; exact congrArg (fun z => ![z, 0]) (by show 256 * t.val + 512 = 256 * (t.val + 2); omega)

theorem masked_blockOf (t : Fin k0_t1_loop.trips) : (masked (blockOf t) : FVec F S256x768 .f32 → _) = fun s => s := by
  funext s
  unfold masked
  rw [if_neg (by show ¬ t.val + 2 = 0; omega), if_neg (by show ¬ t.val + 2 = 1; omega)]

theorem loop7 (h : ∀ y : S4096x128.Idx, (y 0).val < 256 * 2 → arg7.view.read (Elt F) G7 y = dq x0 x1 x2 x3 x4 x5 y) :
    ∀ t : ℕ, t ≤ k0_t1_loop.trips → ∀ y : S4096x128.Idx, (y 0).val < 256 * (t + 2) →
      arg7.view.read (Elt F) (arg7.view.writes (Elt F) G7
        (stored harg1 harg2 harg3 harg4 harg5 harg6 x0 x1 x2 x3 x4 x5 c i harg7 harg8 harg9 harg10 G7 G8 G9 G10 t).1) y
        = dq x0 x1 x2 x3 x4 x5 y
  | 0, _, y, hy => h y hy
  | t + 1, ht, y, hy => by
    rw [stored, pb_k0_t1_succ _ _ _ _ _ _ _ _ _ _ _ _ _ _ _ _ _ _ _ _ _ _ _ _ _ _ _ _ _ _ _ _ _ _ _ _ ⟨t, ht⟩]
    dsimp only
    rw [trip7]
    have e := block7 harg1 harg2 harg3 harg4 harg5 harg6 x0 x1 x2 x3 x4 x5 (blockOf ⟨t, ht⟩) (off3 _) (off4 _)
      (k0_off3_inb _) (k0_off4_inb _) G7 _ (loop7 h t (Nat.le_of_succ_le ht)) y hy
    rw [masked_blockOf] at e
    exact e

theorem loop8 (h : arg8.view.read (Elt F) G8 = after (addDk x0 x1 x2 x3 x4 x5) 2) :
    ∀ t : ℕ, t ≤ k0_t1_loop.trips → arg8.view.read (Elt F) (arg8.view.writes (Elt F) G8
        (stored harg1 harg2 harg3 harg4 harg5 harg6 x0 x1 x2 x3 x4 x5 c i harg7 harg8 harg9 harg10 G7 G8 G9 G10 t).2.1)
        = after (addDk x0 x1 x2 x3 x4 x5) (t + 2)
  | 0, _ => h
  | t + 1, ht => by
    rw [stored, pb_k0_t1_succ _ _ _ _ _ _ _ _ _ _ _ _ _ _ _ _ _ _ _ _ _ _ _ _ _ _ _ _ _ _ _ _ _ _ _ _ ⟨t, ht⟩]
    dsimp only
    rw [trip8]
    have e := block8 harg1 harg2 harg3 harg4 harg5 harg6 x0 x1 x2 x3 x4 x5 (blockOf ⟨t, ht⟩) (off3 _) (off4 _)
      (k0_off3_inb _) (k0_off4_inb _) G8 _ (loop8 h t (Nat.le_of_succ_le ht))
    rw [masked_blockOf] at e
    exact e

theorem loop9 (h : arg9.view.read (Elt F) G9 = after (addDv x0 x1 x3 x5) 2) :
    ∀ t : ℕ, t ≤ k0_t1_loop.trips → arg9.view.read (Elt F) (arg9.view.writes (Elt F) G9
        (stored harg1 harg2 harg3 harg4 harg5 harg6 x0 x1 x2 x3 x4 x5 c i harg7 harg8 harg9 harg10 G7 G8 G9 G10 t).2.2.1)
        = after (addDv x0 x1 x3 x5) (t + 2)
  | 0, _ => h
  | t + 1, ht => by
    rw [stored, pb_k0_t1_succ _ _ _ _ _ _ _ _ _ _ _ _ _ _ _ _ _ _ _ _ _ _ _ _ _ _ _ _ _ _ _ _ _ _ _ _ ⟨t, ht⟩]
    dsimp only
    rw [trip9]
    have e := block9 harg1 harg2 harg4 harg6 x0 x1 x3 x5 (blockOf ⟨t, ht⟩) (off3 _) (off4 _)
      (k0_off3_inb _) (k0_off4_inb _) G9 _ (loop9 h t (Nat.le_of_succ_le ht))
    rw [masked_blockOf] at e
    exact e

theorem loop10 (h : arg10.view.read (Elt F) G10 = AttnBand.bandsAfter (AttnBand.addDb x0 x1 x2 x3 x4 x5) 2) :
    ∀ t : ℕ, t ≤ k0_t1_loop.trips → arg10.view.read (Elt F) (arg10.view.writes (Elt F) G10
        (stored harg1 harg2 harg3 harg4 harg5 harg6 x0 x1 x2 x3 x4 x5 c i harg7 harg8 harg9 harg10 G7 G8 G9 G10 t).2.2.2)
        = AttnBand.bandsAfter (AttnBand.addDb x0 x1 x2 x3 x4 x5) (t + 2)
  | 0, _ => h
  | t + 1, ht => by
    rw [stored, pb_k0_t1_succ _ _ _ _ _ _ _ _ _ _ _ _ _ _ _ _ _ _ _ _ _ _ _ _ _ _ _ _ _ _ _ _ _ _ _ _ ⟨t, ht⟩]
    dsimp only
    rw [trip10, AttnBand.stored_eq]
    have e := block10 harg1 harg2 harg3 harg4 harg5 harg6 x0 x1 x2 x3 x4 x5 (blockOf ⟨t, ht⟩) (off3 _) (off4 _)
      (k0_off3_inb _) (k0_off4_inb _) G10 _ (loop10 h t (Nat.le_of_succ_le ht))
      ((AttnBand.read_held0 arg10 _).trans (congrArg (AttnBand.held 0) (loop10 h t (Nat.le_of_succ_le ht))))
      ((AttnBand.read_held1 arg10 _).trans (congrArg (AttnBand.held 1) (loop10 h t (Nat.le_of_succ_le ht))))
    rw [masked_blockOf] at e
    exact e

end Loop

end Cert.AttnLoop
-- ==== Proof.AttnRun.lean ====
/-
  The attention kernel's body on one head pair: it leaves the gradients of `AttnState` and the bias gradient of
  `AttnBand`.
-/
module

public import proofs.«01_k».proof.Proof.AttnState
public import proofs.«01_k».proof.Proof.AttnLoop
public import proofs.«01_k».proof.Proof.Gen.AttnKernelIdeal.Frame

@[expose] public section

set_option maxRecDepth 16384

noncomputable section

namespace Cert.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnKernelIdeal Cert.AttnKernelIdeal.Gen Cert.AttnLoop

variable {F : FTy → Type} [FloatOps F] [Named F]

local notation "𝕄" => MT nD τ sig Unit (Elt F) ℕ (UR sig nD τ) ℕ

set_option maxHeartbeats 1000000 in
theorem run (c : Dev nD) (i : grid0.Coords) (arg1 : Memref sig .tc .vmem S4096x128 .bf16) (harg1 : arg1.IsWhole) (arg2 : Memref sig .tc .vmem S4608x128 .bf16) (harg2 : arg2.IsWhole) (arg3 : Memref sig .tc .vmem S4608x128 .bf16) (harg3 : arg3.IsWhole) (arg4 : Memref sig .tc .vmem S2x256x768 .f32) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4608x128 .f32) (harg8 : arg8.IsWhole) (arg9 : Memref sig .tc .vmem S4608x128 .f32) (harg9 : arg9.IsWhole) (arg10 : Memref sig .tc .vmem S2x128x768 .f32) (harg10 : arg10.IsWhole)
    (x0 : Vec F S4096x128 .bf16) (x1 : Vec F S4608x128 .bf16) (x2 : Vec F S4608x128 .bf16) (x3 : Vec F S2x256x768 .f32) (x4 : Vec F S4096x128 .bf16) (x5 : Vec F S4096x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (AttnState.dq x0 x1 x2 x3 x4 x5) ∗ owns (c : Thread nD τ) arg8 fullShare (AttnState.dk x0 x1 x2 x3 x4 x5) ∗ owns (c : Thread nD τ) arg9 fullShare (AttnState.dv x0 x1 x3 x5) ∗ owns (c : Thread nD τ) arg10 fullShare (AttnBand.db x0 x1 x2 x3 x4 x5)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10) K := by
    intro E K
    simp only [cc0_attn_bwd_eq_skeleton]; unfold cc0_attn_bwd_skel
    simp only [k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      rw [View.writes_append]
      funext y
      refine loop7 harg1 harg2 harg3 harg4 harg5 harg6 x0 x1 x2 x3 x4 x5 c i harg7 harg8 harg9 harg10 _ _ _ _
        (fun y hy => ?_) k0_t1_loop.trips le_rfl y (by rw [trips_eq]; exact (y 0).isLt)
      exact block7 harg1 harg2 harg3 harg4 harg5 harg6 x0 x1 x2 x3 x4 x5 1 rfl rfl (k0_off1_inb 1) (k0_off2_inb 1) _ _
        (block7 harg1 harg2 harg3 harg4 harg5 harg6 x0 x1 x2 x3 x4 x5 0 rfl rfl (k0_off1_inb 0) (k0_off2_inb 0) _ _
          (fun y hy => absurd hy (Nat.not_lt_zero _))) y hy
    isplitl [H7]
    · iexists _; isplitr; swap; · iexact H7
      ipureintro
      rw [View.writes_append]
      refine (loop8 harg1 harg2 harg3 harg4 harg5 harg6 x0 x1 x2 x3 x4 x5 c i harg7 harg8 harg9 harg10 _ _ _ _
        ?_ k0_t1_loop.trips le_rfl).trans (by rw [trips_eq]; rfl)
      exact block8 harg1 harg2 harg3 harg4 harg5 harg6 x0 x1 x2 x3 x4 x5 1 rfl rfl (k0_off1_inb 1) (k0_off2_inb 1) _ _
        (block8 harg1 harg2 harg3 harg4 harg5 harg6 x0 x1 x2 x3 x4 x5 0 rfl rfl (k0_off1_inb 0) (k0_off2_inb 0) _ _
          (cleared _ _ _))
    isplitl [H8]
    · iexists _; isplitr; swap; · iexact H8
      ipureintro
      rw [View.writes_append]
      refine (loop9 harg1 harg2 harg3 harg4 harg5 harg6 x0 x1 x2 x3 x4 x5 c i harg7 harg8 harg9 harg10 _ _ _ _
        ?_ k0_t1_loop.trips le_rfl).trans (by rw [trips_eq]; rfl)
      exact block9 harg1 harg2 harg4 harg6 x0 x1 x3 x5 1 rfl rfl (k0_off1_inb 1) (k0_off2_inb 1) _ _
        (block9 harg1 harg2 harg4 harg6 x0 x1 x3 x5 0 rfl rfl (k0_off1_inb 0) (k0_off2_inb 0) _ _ (cleared _ _ _))
    iexists _; isplitr; swap; · iexact H9
    ipureintro
    rw [View.writes_append]
    refine (loop10 harg1 harg2 harg3 harg4 harg5 harg6 x0 x1 x2 x3 x4 x5 c i harg7 harg8 harg9 harg10 _ _ _ _
      ?_ k0_t1_loop.trips le_rfl).trans (by rw [trips_eq]; rfl)
    exact covered10 harg1 harg2 harg3 harg4 harg5 harg6 x0 x1 x2 x3 x4 x5 1 rfl rfl (k0_off1_inb 1) (k0_off2_inb 1) _
      (covered10 harg1 harg2 harg3 harg4 harg5 harg6 x0 x1 x2 x3 x4 x5 0 rfl rfl (k0_off1_inb 0) (k0_off2_inb 0) _
        (cleared_bands _ _ _))

end Cert.AttnRun
-- ==== Proof.AttnFrame.lean ====
/-
  The attention kernel's launch: on every head pair the body's run, so the whole program leaves its arguments alone and
  its gradient arrays hold, head pair by head pair, what `AttnState` and `AttnBand` say.
-/
module

public import proofs.«01_k».proof.Proof.AttnRun

@[expose] public section

set_option maxRecDepth 16384

noncomputable section

namespace Cert.AttnFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnKernelIdeal Cert.AttnKernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A head pair's query gradient. -/
def pairDq (c : Dev nD) (t : Fin cfg0.N) : Vec F S4096x128 .bf16 :=
  AttnState.dq (iblk m c 0 t) (iblk m c 1 t) (iblk m c 2 t) (iblk m c 3 t) (iblk m c 4 t) (iblk m c 5 t)

/-- A head pair's key gradient. -/
def pairDk (c : Dev nD) (t : Fin cfg0.N) : Vec F S4608x128 .f32 :=
  AttnState.dk (iblk m c 0 t) (iblk m c 1 t) (iblk m c 2 t) (iblk m c 3 t) (iblk m c 4 t) (iblk m c 5 t)

/-- A head pair's value gradient. -/
def pairDv (c : Dev nD) (t : Fin cfg0.N) : Vec F S4608x128 .f32 :=
  AttnState.dv (iblk m c 0 t) (iblk m c 1 t) (iblk m c 3 t) (iblk m c 5 t)

/-- A head pair's bias gradient. -/
def pairDb (c : Dev nD) (t : Fin cfg0.N) : Vec F S2x128x768 .f32 :=
  AttnBand.db (iblk m c 0 t) (iblk m c 1 t) (iblk m c 2 t) (iblk m c 3 t) (iblk m c 4 t) (iblk m c 5 t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => pairDq m c t
    | ⟨7, _⟩ => pairDk m c t
    | ⟨8, _⟩ => pairDv m c t
    | ⟨9, _⟩ => pairDb m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = pairDq m c t := by dsimp only [dats]
theorem after7 (c : Dev nD) (t : Fin cfg0.N) : (dats m 0 c).after 7 t = pairDk m c t := by dsimp only [dats]
theorem after8 (c : Dev nD) (t : Fin cfg0.N) : (dats m 0 c).after 8 t = pairDv m c t := by dsimp only [dats]
theorem after9 (c : Dev nD) (t : Fin cfg0.N) : (dats m 0 c).after 9 t = pairDb m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- A window's staging memref at a point. -/
abbrev at0 (t : Fin cfg0.N) : Memref sig .tc .vmem S4096x128 .bf16 := win0_0.stage (cfg0.slots t 0)
abbrev at1 (t : Fin cfg0.N) : Memref sig .tc .vmem S4608x128 .bf16 := win0_1.stage (cfg0.slots t 1)
abbrev at2 (t : Fin cfg0.N) : Memref sig .tc .vmem S4608x128 .bf16 := win0_2.stage (cfg0.slots t 2)
abbrev at3 (t : Fin cfg0.N) : Memref sig .tc .vmem S2x256x768 .f32 := win0_3.stage (cfg0.slots t 3)
abbrev at4 (t : Fin cfg0.N) : Memref sig .tc .vmem S4096x128 .bf16 := win0_4.stage (cfg0.slots t 4)
abbrev at5 (t : Fin cfg0.N) : Memref sig .tc .vmem S4096x128 .bf16 := win0_5.stage (cfg0.slots t 5)
abbrev at6 (t : Fin cfg0.N) : Memref sig .tc .vmem S4096x128 .bf16 := win0_6.stage (cfg0.slots t 6)
abbrev at7 (t : Fin cfg0.N) : Memref sig .tc .vmem S4608x128 .f32 := win0_7.stage (cfg0.slots t 7)
abbrev at8 (t : Fin cfg0.N) : Memref sig .tc .vmem S4608x128 .f32 := win0_8.stage (cfg0.slots t 8)
abbrev at9 (t : Fin cfg0.N) : Memref sig .tc .vmem S2x128x768 .f32 := win0_9.stage (cfg0.slots t 9)

/-- What the body is called with at a point. -/
def pre (c : Dev nD) (t : Fin cfg0.N) : sProp 𝕄 :=
  iprop((dats m 0 c).Φ t.castSucc ∗ (dats m 0 c).owesAt () t.castSucc
    ∗ (∃ d, owns (c : Thread nD τ) (at0 t) fullShare ((dats m 0 c).before 0 t d))
    ∗ (∃ d, owns (c : Thread nD τ) (at1 t) fullShare ((dats m 0 c).before 1 t d))
    ∗ (∃ d, owns (c : Thread nD τ) (at2 t) fullShare ((dats m 0 c).before 2 t d))
    ∗ (∃ d, owns (c : Thread nD τ) (at3 t) fullShare ((dats m 0 c).before 3 t d))
    ∗ (∃ d, owns (c : Thread nD τ) (at4 t) fullShare ((dats m 0 c).before 4 t d))
    ∗ (∃ d, owns (c : Thread nD τ) (at5 t) fullShare ((dats m 0 c).before 5 t d))
    ∗ (∃ d, owns (c : Thread nD τ) (at6 t) fullShare ((dats m 0 c).before 6 t d))
    ∗ (∃ d, owns (c : Thread nD τ) (at7 t) fullShare ((dats m 0 c).before 7 t d))
    ∗ (∃ d, owns (c : Thread nD τ) (at8 t) fullShare ((dats m 0 c).before 8 t d))
    ∗ (∃ d, owns (c : Thread nD τ) (at9 t) fullShare ((dats m 0 c).before 9 t d)))

/-- What the body returns. -/
def post (c : Dev nD) (t : Fin cfg0.N) : sProp 𝕄 :=
  iprop((dats m 0 c).Φ t.succ ∗ (dats m 0 c).owesAt () t.succ
    ∗ owns (c : Thread nD τ) (at0 t) fullShare ((dats m 0 c).after 0 t)
    ∗ owns (c : Thread nD τ) (at1 t) fullShare ((dats m 0 c).after 1 t)
    ∗ owns (c : Thread nD τ) (at2 t) fullShare ((dats m 0 c).after 2 t)
    ∗ owns (c : Thread nD τ) (at3 t) fullShare ((dats m 0 c).after 3 t)
    ∗ owns (c : Thread nD τ) (at4 t) fullShare ((dats m 0 c).after 4 t)
    ∗ owns (c : Thread nD τ) (at5 t) fullShare ((dats m 0 c).after 5 t)
    ∗ owns (c : Thread nD τ) (at6 t) fullShare ((dats m 0 c).after 6 t)
    ∗ owns (c : Thread nD τ) (at7 t) fullShare ((dats m 0 c).after 7 t)
    ∗ owns (c : Thread nD τ) (at8 t) fullShare ((dats m 0 c).after 8 t)
    ∗ owns (c : Thread nD τ) (at9 t) fullShare ((dats m 0 c).after 9 t))

set_option maxHeartbeats 800000 in
/-- The body at any point, from its run. -/
theorem body (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((AttnRun.run c (grid0.coords t) _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row (t : Fin cfg0.N) : defs₀ (F := F) .tc cfg0.body (cfg0.bodyArgs t (cfg0.slots t)) = bodyAt0 t := by
  unfold defs₀; rw [Defs.onTc_tc]

theorem obligation (c : Dev nD) :
    BodyObligation (dats (F := F) m 0 c) (defs₀ (F := F)) Variants.none () Set.univ := fun t => by
  rw [bigSep_W0, bigSep_W0, row]
  exact triple_restated (body m c t) rfl .rfl fun _ => .rfl

set_option backward.isDefEq.respectTransparency.types false in
/-- The whole program's run. -/
theorem launched : θ_run defs (onTc (τ := τ) (main (F := F))) (s₀ m ρ) (fun r =>
    Pipeline.FramePost cfgs (dats m) 0 (Pipeline.afterTail₀ cfgs (dats m) 0 (V0 m) [hostOps1, hostOps1_1, hostOps1_2]) r
      ∧ r.2.sem = fun _ => 0) :=
  Pipeline.θ_run_frame_around_shared cfgs (dats m) (0 : Fin 1) launch₀0 defs₀ Variants.none m ρ main
    (hbody := fun c => (obligation m c).loose) (hq := fun _ _ _ => rfl) (howed := fun _ _ => rfl) (V₀ := V0 m)
    (opss := [hostOps1, hostOps1_1, hostOps1_2]) (hsub := sfx_sub) (hfresh := sfx_fresh) (hkeep := sfx_keeps)
    (hmain := hmain m Variants.none) (hA := A_eq m) (hΦ := fun _ _ => rfl) _

/-- What a run leaves: the arguments as they were, the gradient arrays and the table's gradient named. -/
theorem arrays : θ_run defs (onTc (τ := τ) (main (F := F))) ⟨m, fun _ => 0, ρ⟩ (fun r => (∀ c : Dev nD,
      (r.2.mem ((c.tc : Thread nD τ).loc (Pipeline.arrRef spec0 6)) = (dats m 0 c).arrAt 6 cfg0.N
      ∧ r.2.mem ((c.tc : Thread nD τ).loc (Pipeline.arrRef spec0 7)) = (dats m 0 c).arrAt 7 cfg0.N
      ∧ r.2.mem ((c.tc : Thread nD τ).loc (Pipeline.arrRef spec0 8)) = (dats m 0 c).arrAt 8 cfg0.N
      ∧ r.2.mem ((c.tc : Thread nD τ).loc main_v109)
          = Pipeline.afterTail₀ cfgs (dats m) 0 (V0 m) [hostOps1, hostOps1_1, hostOps1_2] c main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨⟨(h.1 c).1 6, (h.1 c).1 7, (h.1 c).1 8,
      (h.1 c).2 main_v109 (Pipeline.mem_restRefs_of main_v109 (by decide) (by decide))⟩,
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩, h.2⟩)
    (launched m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (arrays m ρ)

end Cert.AttnFrame
-- ==== Proof.AttnHost.lean ====
/-
  What the attention kernel's region finds in the arrays it reads, from the program's arguments: the scaled queries,
  keys and values side by side, the bias tiles, the forward output (the reference's own lines) and the cotangent.
-/
module

public import proofs.«01_k».proof.Proof.Gen.AttnKernelIdeal.Frame
public import proofs.«01_k».proof.Proof.Gen.AttnReferenceIdeal.Read
public import Idealize.ShloMosaic.Lib.StableHlo.RunRead
public import Idealize.ShloMosaic.Lib.Tactic

@[expose] public section

set_option maxRecDepth 65536

noncomputable section

namespace Cert.AttnHost

open Idealize.ShloMosaic Idealize.ShloMosaic.TcCoe
open Cert.AttnKernelIdeal Cert.AttnKernelIdeal.Gen

variable {F : FTy → Type} [FloatOps F] [Named F]
variable (m : (ℓ : Loc nD τ sig) → Buf (Elt F) ℓ) (c : Dev nD)

/-- The program's arguments. -/
abbrev q : (⟨S4096x1024, .f32⟩ : BufTy).Contents (Elt F) := m ((c : Thread nD τ).loc main_arg0)
abbrev k : (⟨S4608x1024, .f32⟩ : BufTy).Contents (Elt F) := m ((c : Thread nD τ).loc main_arg1)
abbrev v : (⟨S4608x1024, .f32⟩ : BufTy).Contents (Elt F) := m ((c : Thread nD τ).loc main_arg2)
abbrev rel : (⟨S16x513, .f32⟩ : BufTy).Contents (Elt F) := m ((c : Thread nD τ).loc main_arg3)
abbrev ct : (⟨S4096x1024, .f32⟩ : BufTy).Contents (Elt F) := m ((c : Thread nD τ).loc main_arg4)

/-- The host lines before the region. -/
abbrev lines : List (HloOp τ sig (Elt F)) := [hostOps0, hostOps0_1, hostOps0_2, hostOps0_3, hostOps0_4, hostOps0_5,
  hostOps0_6, hostOps0_7, hostOps0_8, hostOps0_9, hostOps0_10, hostOps0_11, hostOps0_12, hostOps0_13, hostOps0_14,
  hostOps0_15, hostOps0_16, hostOps0_17, hostOps0_18].flatten

theorem argsAt1 : StableHlo.upto lines (fun b => m (c, b)) 158 (Proc.tc.devRef main_arg1) = k m c := by after_reads_simp
theorem argsAt2 : StableHlo.upto lines (fun b => m (c, b)) 158 (Proc.tc.devRef main_arg2) = v m c := by after_reads_simp

theorem queries : V m c main_v82 = (truncf .bf16 (mulf (q m c) (broadcastInDim S4096x1024 ![] bcast_S_S4096x1024
    (constant S_ .f32 0x3E000000#32))) bitsLt_bf16_f32 : (⟨S4096x1024, .bf16⟩ : BufTy).Contents (Elt F)) := by
  unfold V
  after_reads_simp

theorem keysValues : V m c main_v84 = (truncf .bf16 (concatenate S4608x2048 1 [⟨S4608x1024, k m c⟩, ⟨S4608x1024, v m c⟩]
    concatenates_S4608x1024_S4608x1024_S4608x2048_d1) bitsLt_bf16_f32 : (⟨S4608x2048, .bf16⟩ : BufTy).Contents (Elt F)) := by
  unfold V
  after_reads_simp
  rw [argsAt1, argsAt2]

theorem cotangent : V m c main_v86 = (truncf .bf16 (ct m c) bitsLt_bf16_f32
    : (⟨S4096x1024, .bf16⟩ : BufTy).Contents (Elt F)) := by
  unfold V
  after_reads_simp

theorem output : V m c main_v85 = (truncf .bf16 (AttnReferenceIdeal.Read.val_main_v72 (F := F) (q m c) (k m c) (v m c) (rel m c))
    bitsLt_bf16_f32 : (⟨S4096x1024, .bf16⟩ : BufTy).Contents (Elt F)) := by
  unfold V
  after_reads_simp
  sl_kernel_rfl

/-- A query's position in its chunk less a key's position in its band. -/
def apart : (⟨S64x576, .i32⟩ : BufTy).Contents (Elt F) :=
  subi (broadcastInDim S64x576 ![0, 1] bcast_S64x1_S64x576_0_1 (broadcastInDim S64x1 ![0] bcast_S64_S64x1_0 (iotaInDim S64 32 0)))
    (broadcastInDim S64x576 ![0, 1] bcast_S1x576_S64x576_0_1 (subi (broadcastInDim S1x576 ![1] bcast_S576_S1x576_1 (iotaInDim S576 32 0))
      (broadcastInDim S1x576 ![] bcast_S_S1x576 (constantI S_ 32 512#32))))

/-- The bias table's column for that distance. -/
def column : (⟨S64x576, .i32⟩ : BufTy).Contents (Elt F) :=
  addi (minsi (broadcastInDim S64x576 ![] bcast_S_S64x576 (constantI S_ 32 256#32))
    (maxsi (broadcastInDim S64x576 ![] bcast_S_S64x576 (constantI S_ 32 4294967040#32)) (apart (F := F))))
    (broadcastInDim S64x576 ![] bcast_S_S64x576 (constantI S_ 32 256#32))

/-- A chunk's bias band. -/
def band (x : (⟨S16x513, .f32⟩ : BufTy).Contents (Elt F)) : (⟨S16x64x576, .f32⟩ : BufTy).Contents (Elt F) :=
  Host.gather gather_S16x513_S64x576x1_S16x64x576_0_1_n_n_1_2_161 x (broadcastInDim S64x576x1 ![0, 1] bcast_S64x576_S64x576x1_0_1
    (select (cmpi .slt (column (F := F)) (broadcastInDim S64x576 ![] bcast_S_S64x576 (constantI S_ 32 0#32)))
      (addi (column (F := F)) (broadcastInDim S64x576 ![] bcast_S_S64x576 (constantI S_ 32 513#32))) (column (F := F))))

/-- A chunk's band among a block's keys: chunk `a` of the block sees the keys from `64 a` on. -/
def tile (lo hi : ℕ) (wf : S16x64x576.Pads (![0, 0, lo] : Fin 3 → ℕ) ![0, 0, hi] ![0, 0, 0] S16x64x768) (x : (⟨S16x513, .f32⟩ : BufTy).Contents (Elt F)) :
    (⟨S16x64x768, .f32⟩ : BufTy).Contents (Elt F) :=
  pad S16x64x768 ![0, 0, lo] ![0, 0, hi] ![0, 0, 0] (band x) (constant S_ .f32 0xFF800000#32) wf h_S_

theorem tile0 : StableHlo.upto lines (fun b => m (c, b)) 153 (Proc.tc.devRef main_v75) =
    tile 0 192 pads_S16x64x576_S16x64x768_000_000_01920 (rel m c) := by
  after_reads_simp
  rfl

theorem tile1 : StableHlo.upto lines (fun b => m (c, b)) 153 (Proc.tc.devRef main_v76) =
    tile 64 128 pads_S16x64x576_S16x64x768_000_000_641280 (rel m c) := by
  after_reads_simp
  rfl

theorem tile2 : StableHlo.upto lines (fun b => m (c, b)) 153 (Proc.tc.devRef main_v77) =
    tile 128 64 pads_S16x64x576_S16x64x768_000_000_128640 (rel m c) := by
  after_reads_simp
  rfl

theorem tile3 : StableHlo.upto lines (fun b => m (c, b)) 153 (Proc.tc.devRef main_v78) =
    tile 192 0 pads_S16x64x576_S16x64x768_000_000_19200 (rel m c) := by
  after_reads_simp
  rfl

/-- The bias tiles of all heads. -/
theorem biasTiles : V m c main_v79 = (concatenate S16x256x768 1
    [⟨S16x64x768, tile 0 192 pads_S16x64x576_S16x64x768_000_000_01920 (rel m c)⟩,
     ⟨S16x64x768, tile 64 128 pads_S16x64x576_S16x64x768_000_000_641280 (rel m c)⟩,
     ⟨S16x64x768, tile 128 64 pads_S16x64x576_S16x64x768_000_000_128640 (rel m c)⟩,
     ⟨S16x64x768, tile 192 0 pads_S16x64x576_S16x64x768_000_000_19200 (rel m c)⟩]
    concatenates_S16x64x768_S16x64x768_S16x64x768_S16x64x768_S16x256x768_d1 : (⟨S16x256x768, .f32⟩ : BufTy).Contents (Elt F)) := by
  unfold V
  after_reads_simp
  rw [← tile0, ← tile1, ← tile2, ← tile3]
  rfl

end Cert.AttnHost
-- ==== Proof.AttnSpec.lean ====
/-
  The gradients of one attention head over the real numbers: 4096 queries, 4608 keys of which the first 512 lie before
  the sequence's start, a window of nine chunks of 64 keys, a table of biases by distance. Both programs are shown to
  compute these sums.
-/
module

public import proofs.«01_k».proof.Proof.Finite
public import Idealize.ShloMosaic.Lib.Tactic.WordOmega

@[expose] public section

noncomputable section

namespace Cert.AttnSpec

open Idealize.ShloMosaic Cert.Finite

/-! ### A row's softmax -/

section Row

variable {n : ℕ} (P : Fin n → Prop) [DecidablePred P] (S : Fin n → ℝ)

/-- The unmasked exponentials of a row. -/
def weight (j : Fin n) : ℝ := if P j then Real.exp (S j) else 0

/-- Their sum. -/
def total : ℝ := ∑ j, weight P S j

variable {P}

theorem weight_nonneg (j : Fin n) : 0 ≤ weight P S j := by
  unfold weight; split_ifs
  · exact (Real.exp_pos _).le
  · exact le_rfl

theorem total_pos (h : ∃ j, P j) : 0 < total P S := by
  obtain ⟨j, hj⟩ := h
  refine Finset.sum_pos' (fun j _ => weight_nonneg S j) ⟨j, Finset.mem_univ _, ?_⟩
  rw [weight, if_pos hj]; exact Real.exp_pos _

/-- A masked row as the programs hold it. -/
def Masked (P : Fin n → Prop) (S : Fin n → ℝ) (s : Fin n → EReal) : Prop :=
  ∀ j, (P j → s j = ((S j : ℝ) : EReal)) ∧ (¬P j → s j = ⊥)

variable {S} {s : Fin n → EReal}

/-- The largest score of a row with an unmasked key is a real number. -/
theorem largest (hs : Masked P S s) (h : ∃ j, P j) : ∃ M : ℝ, Finset.univ.fold max (⊥ : EReal) s = ((M : ℝ) : EReal) := by
  have key : ∀ t : Finset (Fin n), t.fold max (⊥ : EReal) s = ⊥ ∨ ∃ M : ℝ, t.fold max (⊥ : EReal) s = ((M : ℝ) : EReal) := by
    intro t
    induction t using Finset.induction_on with
    | empty => left; simp
    | insert a t ha ih =>
      rw [Finset.fold_insert ha]
      have h1 : s a = ⊥ ∨ ∃ r : ℝ, s a = ((r : ℝ) : EReal) := by
        by_cases hp : P a
        · exact .inr ⟨_, (hs a).1 hp⟩
        · exact .inl ((hs a).2 hp)
      rcases h1 with h1 | ⟨r, h1⟩ <;> rcases ih with h2 | ⟨M, h2⟩ <;> rw [h1, h2]
      · left; simp
      · right; exact ⟨M, by simp⟩
      · right; exact ⟨r, by simp⟩
      · right; exact ⟨max r M, (EReal.coe_strictMono.monotone.map_max).symm⟩
  obtain ⟨j, hj⟩ := h
  rcases key Finset.univ with h0 | h0
  · exfalso
    have : s j ≤ Finset.univ.fold max (⊥ : EReal) s := (Finset.le_fold_max _).mpr (.inr ⟨j, Finset.mem_univ _, le_rfl⟩)
    rw [h0, (hs j).1 hj] at this
    exact absurd this (by simp)
  · exact h0

/-- The exponential of a score less a number. -/
theorem expo_real (hs : Masked P S s) (M : ℝ) (j : Fin n) :
    Ideal.exp (s j - ((M : ℝ) : EReal)) = ((Real.exp (-M) * weight P S j : ℝ) : EReal) := by
  by_cases hp : P j
  · rw [(hs j).1 hp, sub_real, Ideal.exp_coe, weight, if_pos hp, ← Real.exp_add]; congr 2; ring
  · rw [(hs j).2 hp, weight, if_neg hp]; simp

theorem total_real (hs : Masked P S s) (M : ℝ) :
    ∑ j, Ideal.exp (s j - ((M : ℝ) : EReal)) = ((Real.exp (-M) * total P S : ℝ) : EReal) := by
  rw [Finset.sum_congr rfl fun j _ => expo_real hs M j, sum_real, total, Finset.mul_sum]

/-- The softmax: the largest score's factor falls out. -/
theorem shifted (M : ℝ) (h : ∃ j, P j) (j : Fin n) :
    Real.exp (-M) * weight P S j / (Real.exp (-M) * total P S) = weight P S j / total P S :=
  mul_div_mul_left _ _ (Real.exp_pos _).ne'

end Row

/-! ### A head -/

/-- The keys a query sees. -/
def near (i : Fin 4096) (j : Fin 4608) : Prop := i.val / 64 ≤ j.val / 64 ∧ j.val / 64 ≤ i.val / 64 + 8 ∧ 512 ≤ j.val

instance (i : Fin 4096) : DecidablePred (near i) := fun _ => by unfold near; infer_instance

/-- Every query sees its own key. -/
theorem near_self (i : Fin 4096) : ∃ j, near i j :=
  ⟨⟨i.val + 512, by omega⟩, by unfold near; dsimp only; omega⟩

/-- The distance from a query back to a key. -/
def back (i : Fin 4096) (j : Fin 4608) : ℤ := (i.val : ℤ) + 512 - j.val

/-- The bias table's column of a distance. -/
def col (z : ℤ) : Fin 513 := ⟨(min 256 (max (-256) z) + 256).toNat, by omega⟩

theorem clip_word (z : BitVec 32) : (IntOp.minsi 256#32 (IntOp.maxsi 4294967040#32 z)).toInt = min 256 (max (-256) z.toInt) := by
  have h1 : (256#32).toInt = 256 := by decide
  have h2 : (4294967040#32).toInt = -256 := by decide
  unfold IntOp.minsi IntOp.maxsi
  simp only [BitVec.slt, h1, h2]
  split_ifs with a b b <;> simp_all <;> omega

/-- The programs' word arithmetic for the column of a distance. -/
theorem column_int (z : BitVec 32) (h1 : -4608 ≤ z.toInt) (h2 : z.toInt ≤ 4608) :
    (Scalar.select (IntOp.cmpi .slt (IntOp.addi (IntOp.minsi 256#32 (IntOp.maxsi 4294967040#32 z)) 256#32) 0#32)
      (IntOp.addi (IntOp.addi (IntOp.minsi 256#32 (IntOp.maxsi 4294967040#32 z)) 256#32) 513#32)
      (IntOp.addi (IntOp.minsi 256#32 (IntOp.maxsi 4294967040#32 z)) 256#32)).toInt = ((col z.toInt).val : ℤ) := by
  have hc := clip_word z
  generalize IntOp.minsi 256#32 (IntOp.maxsi 4294967040#32 z) = y at *
  unfold col
  have hb : -256 ≤ y.toInt ∧ y.toInt ≤ 256 := by rw [hc]; omega
  dsimp only
  rw [← hc]
  clear hc
  have hu : (IntOp.addi y 256#32).toInt = y.toInt + 256 := by
    obtain ⟨h3, h4⟩ := hb
    word_omega
  have hn : IntOp.cmpi .slt (IntOp.addi y 256#32) 0#32 = 0#1 := by
    have : ¬(IntOp.addi y 256#32).toInt < 0 := by omega
    simp [IntOp.cmpi, BitVec.slt, this]
  rw [hn]
  show (IntOp.addi y 256#32).toInt = _
  rw [hu]
  omega

theorem column_word (z : BitVec 32) (h1 : -4608 ≤ z.toInt) (h2 : z.toInt ≤ 4608) :
    (Scalar.select (IntOp.cmpi .slt (IntOp.addi (IntOp.minsi 256#32 (IntOp.maxsi 4294967040#32 z)) 256#32) 0#32)
      (IntOp.addi (IntOp.addi (IntOp.minsi 256#32 (IntOp.maxsi 4294967040#32 z)) 256#32) 513#32)
      (IntOp.addi (IntOp.minsi 256#32 (IntOp.maxsi 4294967040#32 z)) 256#32)).toInt.toNat = (col z.toInt).val := by
  rw [column_int z h1 h2, Int.toNat_natCast]

variable (q d : Fin 4096 → Fin 64 → ℝ) (k v : Fin 4608 → Fin 64 → ℝ) (b : Fin 513 → ℝ)

/-- The scores. -/
def S (i : Fin 4096) (j : Fin 4608) : ℝ := (∑ e, q i e * k j e) * (1 / 8) + b (col (back i j))

/-- The unmasked exponentials and their sum. -/
def w (i : Fin 4096) (j : Fin 4608) : ℝ := weight (near i) (S q k b i) j
def Z (i : Fin 4096) : ℝ := total (near i) (S q k b i)

/-- The softmax. -/
def p (i : Fin 4096) (j : Fin 4608) : ℝ := w q k b i j / Z q k b i

/-- The softmax's gradient, a row's mean of it, and the scores' gradient. -/
def dp (i : Fin 4096) (j : Fin 4608) : ℝ := ∑ e, d i e * v j e
def mean (i : Fin 4096) : ℝ := ∑ j, p q k b i j * dp d v i j
def ds (i : Fin 4096) (j : Fin 4608) : ℝ := p q k b i j * (dp d v i j - mean q d k v b i)

/-- The output. -/
def out (i : Fin 4096) (e : Fin 64) : ℝ := ∑ j, v j e * p q k b i j

/-- The output from values that need not be real numbers. -/
def mix (v : Fin 4608 → Fin 64 → EReal) (i : Fin 4096) (e : Fin 64) : EReal := ∑ j, v j e * ((p q k b i j : ℝ) : EReal)

/-- The gradients. -/
def dq (i : Fin 4096) (e : Fin 64) : ℝ := (∑ j, ds q d k v b i j * k j e) * (1 / 8)
def dk (j : Fin 4608) (e : Fin 64) : ℝ := ∑ i, ds q d k v b i j * (q i e * (1 / 8))
def dv (j : Fin 4608) (e : Fin 64) : ℝ := ∑ i, p q k b i j * d i e

theorem Z_pos (i : Fin 4096) : 0 < Z q k b i := total_pos _ (near_self i)

theorem p_far {i : Fin 4096} {j : Fin 4608} (h : ¬near i j) : p q k b i j = 0 := by
  rw [p, w, weight, if_neg h, zero_div]

theorem ds_far {i : Fin 4096} {j : Fin 4608} (h : ¬near i j) : ds q d k v b i j = 0 := by
  rw [ds, p_far q k b h, zero_mul]

/-- A row's cotangent times its output is the row's mean of the softmax's gradient. -/
theorem mean_eq (i : Fin 4096) : ∑ e, d i e * out q k v b i e = mean q d k v b i := by
  simp only [mean, out, dp, Finset.mul_sum]
  rw [Finset.sum_comm]
  exact Finset.sum_congr rfl fun j _ => Finset.sum_congr rfl fun e _ => by ring

/-! ### Sums over what a block sees -/

/-- Key `j` of block `n`. -/
def bkey (n : Fin 16) (j : Fin 768) : Fin 4608 := ⟨256 * n.val + j.val, by omega⟩

/-- Query `r` of block `n`. -/
def bquery (n : Fin 16) (r : Fin 256) : Fin 4096 := ⟨256 * n.val + r.val, by omega⟩

/-- A block's queries see only the block's keys. -/
theorem near_block {n : Fin 16} {r : Fin 256} {j : Fin 4608} (h : near (bquery n r) j) : ∃ l, j = bkey n l := by
  have := n.isLt; have := r.isLt; have := j.isLt
  unfold near bquery at h; dsimp only at h
  exact ⟨⟨j.val - 256 * n.val, by omega⟩, Fin.ext (by unfold bkey; dsimp only; omega)⟩

theorem bkey_inj (n : Fin 16) : Function.Injective (bkey n) := fun a b h => Fin.ext (by
  have := congrArg Fin.val h; unfold bkey at this; dsimp only at this; omega)

theorem sum_band {M : Type*} [AddCommMonoid M] (n : Fin 16) (r : Fin 256) (f : Fin 4608 → M) (h : ∀ j, ¬near (bquery n r) j → f j = 0) :
    ∑ l, f (bkey n l) = ∑ j, f j := by
  refine (Finset.sum_map Finset.univ ⟨bkey n, bkey_inj n⟩ f).symm.trans ?_
  refine Finset.sum_subset (Finset.subset_univ _) fun j _ hj => h j fun hn => hj ?_
  obtain ⟨l, rfl⟩ := near_block hn
  exact Finset.mem_map_of_mem _ (Finset.mem_univ l)

/-- Every query lies in exactly one of the sixteen blocks. -/
theorem sum_blocks (f : Fin 4096 → ℝ) : ∑ i, f i = ∑ n : Fin 16, ∑ r : Fin 256, f (bquery n r) := by
  rw [← Equiv.sum_comp (finProdFinEquiv (m := 16) (n := 256)) f, Fintype.sum_prod_type]
  exact Finset.sum_congr rfl fun n _ => Finset.sum_congr rfl fun r _ => congrArg f (Fin.ext (Nat.add_comm _ _))

/-- Lane `e` of head `a` of a pair. -/
def lane (a : Fin 2) (e : Fin 64) : Fin 128 := ⟨64 * a.val + e.val, by omega⟩

theorem sum_lanes {M : Type*} [AddCommMonoid M] (f : Fin 128 → M) : ∑ l, f l = ∑ a : Fin 2, ∑ e : Fin 64, f (lane a e) := by
  rw [← Equiv.sum_comp (finProdFinEquiv (m := 2) (n := 64)) f, Fintype.sum_prod_type]
  exact Finset.sum_congr rfl fun n _ => Finset.sum_congr rfl fun r _ => congrArg f (Fin.ext (Nat.add_comm _ _))

/-- A sum over the lanes of one head. -/
theorem sum_head (a : Fin 2) (f : Fin 2 → Fin 64 → ℝ) : ∑ b : Fin 2, ∑ e : Fin 64, (if b = a then f b e else 0) = ∑ e, f a e := by
  rw [Finset.sum_eq_single a]
  · simp
  · intro b _ hb; simp [hb]
  · simp

theorem word_eighth : Ideal.ofBits .f32 0x3E000000#32 = ((1 / 8 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_bot : Ideal.ofBits .f32 0xFF800000#32 = (⊥ : EReal) := by
  simp [Ideal.ofBits, Ideal.ieee]
theorem word_zero : Ideal.ofBits .f32 0x00000000#32 = ((0 : ℝ) : EReal) := by
  simp [Ideal.ofBits, Ideal.ieee]

end Cert.AttnSpec

end
-- ==== Proof.AttnReal.lean ====
/-
  One query block of the attention's backward pass on real numbers: each function of `AttnBlock` at rows that are real
  numbers, head by head.
-/
module

public import proofs.«01_k».proof.Proof.AttnState
public import proofs.«01_k».proof.Proof.AttnSpec
public import Idealize.ShloMosaic.Lib.Tactic.WordOmega

@[expose] public section

set_option maxRecDepth 16384

noncomputable section

namespace Cert.AttnReal

open Idealize.ShloMosaic Cert.AttnKernelIdeal Cert.AttnKernelIdeal.Gen Cert.AttnBlock Cert.AttnState
open Cert.AttnSpec Cert.Finite

/-- A mask holds exactly a head's lanes. -/
def IsHead (h : IVec S256x128 1) (a : Fin 2) : Prop := ∀ r b e, h (ix2 r (lane b e)) = if b = a then 1#1 else 0#1

theorem isHead0 : IsHead h0 0 := by
  intro r b e
  unfold h0
  pointwise
  match b with
  | 0 => rw [if_pos rfl]; unfold lane; word_omega
  | 1 => rw [if_neg (by decide)]; unfold lane; word_omega

theorem isHead1 : IsHead h1 1 := by
  intro r b e
  unfold h1
  pointwise
  match b with
  | 0 => rw [if_neg (by decide)]; unfold lane; word_omega
  | 1 => rw [if_pos rfl]; unfold lane; word_omega

variable {h : IVec S256x128 1} {a : Fin 2} (hh : IsHead h a)
  {x y : Vec Ideal S256x128 .bf16} {X Y : Fin 2 → Fin 256 → Fin 64 → ℝ} (hx : ∀ a r e, x (ix2 r (lane a e)) = ((X a r e : ℝ) : EReal))
  (hy : ∀ a r e, y (ix2 r (lane a e)) = ((Y a r e : ℝ) : EReal))
  {k : Vec Ideal S768x128 .bf16} {K : Fin 2 → Fin 768 → Fin 64 → ℝ} (hk : ∀ a r e, k (ix2 r (lane a e)) = ((K a r e : ℝ) : EReal))
  {s t : FVec Ideal S256x768 .f32}

include hh hx

theorem head_real (r : Fin 256) (b : Fin 2) (e : Fin 64) :
    head h x (ix2 r (lane b e)) = (((if b = a then X b r e else 0) : ℝ) : EReal) := by
  pointwise [head, lanes, wide]
  rw [hh, hx]
  split_ifs <;> simp [Scalar.select]

include hk in
theorem against_real (r : Fin 256) (j : Fin 768) :
    against h x k (ix2 r j) = ((∑ e, X a r e * K a j e : ℝ) : EReal) := by
  pointwise [against, keys]
  rw [sum_lanes]
  simp only [head_real hh hx, hk, mul_real, sum_real, word_zero, add_real]
  congr 1
  simp only [ite_mul, zero_mul]
  exact sum_head a fun b e => X b r e * K b j e

omit hh hx

theorem hide_real (f : ℕ) (hf : f < 1024) (r : Fin 256) (j : Fin 768) :
    hide (BitVec.ofNat 32 f) s (ix2 r j) = if f ≤ j.val then s (ix2 r j) else ⊥ := by
  pointwise [hide]
  by_cases hj : f ≤ j.val
  · rw [if_pos hj, show IntOp.cmpi .sge (BitVec.ofNat 32 j.val) (BitVec.ofNat 32 f) = 1#1 from by word_omega]; rfl
  · rw [if_neg hj, show IntOp.cmpi .sge (BitVec.ofNat 32 j.val) (BitVec.ofNat 32 f) = 0#1 from by word_omega]; rfl

theorem masked_real (n : Fin 16) (r : Fin 256) (j : Fin 768) :
    masked n s (ix2 r j) = if 512 ≤ (bkey n j).val then s (ix2 r j) else ⊥ := by
  unfold masked bkey
  dsimp only
  split_ifs with h1 h2 h3 h4 h5
  · exact (hide_real 512 (by decide) r j).trans (if_pos (by omega))
  · exact (hide_real 512 (by decide) r j).trans (if_neg (by omega))
  · exact (hide_real 256 (by decide) r j).trans (if_pos (by omega))
  · exact (hide_real 256 (by decide) r j).trans (if_neg (by omega))
  · rfl
  · omega

section Softmax

variable {P : Fin 768 → Prop} [DecidablePred P] {S : Fin 768 → ℝ} {r : Fin 256}
  (hs : Masked P S fun j => s (ix2 r j)) (hP : ∃ j, P j)

include hs hP

theorem prob_real (j : Fin 768) : prob s (ix2 r j) = ((weight P S j / total P S : ℝ) : EReal) := by
  obtain ⟨M, hM⟩ := largest hs hP
  have hT := total_pos S hP
  pointwise [prob, expo, overKeys]
  simp only [word_bot, word_one]
  rw [hM, expo_real hs M j, total_real hs M]
  show _ * Ideal.div ((1 : ℝ) : EReal) _ = _
  rw [div_real _ (mul_pos (Real.exp_pos _) hT).ne', mul_real, ← shifted M hP j, mul_one_div]

end Softmax

section Gradients

include hh

theorem rowDot_real {d o : Vec Ideal S256x128 .bf16} {D O : Fin 2 → Fin 256 → Fin 64 → ℝ}
    (hd : ∀ a r e, d (ix2 r (lane a e)) = ((D a r e : ℝ) : EReal)) (ho : ∀ a r e, o (ix2 r (lane a e)) = ((O a r e : ℝ) : EReal))
    (r : Fin 256) : rowDot h d o (ix2 r 0) = ((∑ e, D a r e * O a r e : ℝ) : EReal) := by
  pointwise [rowDot, lanes, wide]
  rw [sum_lanes]
  have key : ∀ b e, Scalar.select (h (ix2 r (lane b e))) (d (ix2 r (lane b e)) * o (ix2 r (lane b e))) 0
      = (((if b = a then D b r e * O b r e else 0) : ℝ) : EReal) := fun b e => by
    rw [hh, hd, ho, mul_real]
    split_ifs <;> simp [Scalar.select]
  simp only [key, sum_real]
  exact congrArg _ (sum_head a fun b e => D b r e * O b r e)

include hx in
theorem toKey_real {w : FVec Ideal S256x768 .f32} {W : Fin 256 → Fin 768 → ℝ} (hw : ∀ r j, w (ix2 r j) = ((W r j : ℝ) : EReal))
    (j : Fin 768) (b : Fin 2) (e : Fin 64) :
    toKey h x w (ix2 j (lane b e)) = (((if b = a then ∑ r, W r j * X b r e else 0) : ℝ) : EReal) := by
  pointwise [toKey]
  simp only [head_real hh hx, hw, mul_real, sum_real]
  split_ifs <;> simp

omit hh

include hk in
theorem toQuery_real {w : FVec Ideal S256x768 .f32} {W : Fin 256 → Fin 768 → ℝ} (hw : ∀ r j, w (ix2 r j) = ((W r j : ℝ) : EReal))
    (r : Fin 256) (b : Fin 2) (e : Fin 64) :
    toQuery k w (ix2 r (lane b e)) = ((∑ j, W r j * K b j e : ℝ) : EReal) := by
  pointwise [toQuery, keys]
  simp only [hk, hw, mul_real, sum_real]

include hk in
/-- A block of the query gradient: each head's lanes from its own score gradient. -/
theorem dqTile_real {w : Fin 2 → FVec Ideal S256x768 .f32} {W : Fin 2 → Fin 256 → Fin 768 → ℝ}
    (hw : ∀ a r j, w a (ix2 r j) = ((W a r j : ℝ) : EReal)) (r : Fin 256) (b : Fin 2) (e : Fin 64) :
    dqTile h0 k (w 0) (w 1) (ix2 r (lane b e)) = (((∑ j, W b r j * K b j e) * (1 / 8) : ℝ) : EReal) := by
  pointwise [dqTile]
  rw [isHead0, toQuery_real hk (hw 0), toQuery_real hk (hw 1), word_eighth]
  match b with
  | 0 => rw [if_pos rfl]; exact mul_real _ _
  | 1 => rw [if_neg (by decide)]; exact mul_real _ _

/-- A block of the output: each head's lanes from its own softmax. -/
theorem outTile_real (v : Vec Ideal S768x128 .bf16) {s : Fin 2 → FVec Ideal S256x768 .f32}
    {W : Fin 2 → Fin 256 → Fin 768 → ℝ} (hw : ∀ a r j, prob (s a) (ix2 r j) = ((W a r j : ℝ) : EReal))
    (r : Fin 256) (b : Fin 2) (e : Fin 64) :
    outTile h0 v (s 0) (s 1) (ix2 r (lane b e)) = ∑ j, ((W b r j : ℝ) : EReal) * v (ix2 j (lane b e)) := by
  pointwise [outTile, toQuery, keys]
  rw [isHead0]
  simp only [hw]
  match b with
  | 0 => rfl
  | 1 => rfl

include hx in
/-- What a block adds to key rows: at each head's lanes its own weights. -/
theorem onto_real {w : Fin 2 → FVec Ideal S256x768 .f32} {W : Fin 2 → Fin 256 → Fin 768 → ℝ}
    (hw : ∀ a r j, w a (ix2 r j) = ((W a r j : ℝ) : EReal)) {acc : Vec Ideal S768x128 .f32} (j : Fin 768) (b : Fin 2) (e : Fin 64)
    {A : ℝ} (hA : acc (ix2 j (lane b e)) = ((A : ℝ) : EReal)) :
    onto h0 h1 x (w 0) (w 1) acc (ix2 j (lane b e)) = ((A + ∑ r, W b r j * X b r e : ℝ) : EReal) := by
  pointwise [onto]
  rw [toKey_real isHead0 hx (hw 0), toKey_real isHead1 hx (hw 1), hA, add_real, add_real]
  congr 2
  match b with
  | 0 => simp
  | 1 => simp

end Gradients

end Cert.AttnReal

end
-- ==== Proof.AttnPair.lean ====
/-
  A head pair's gradients on real numbers: what `AttnState` says the kernel leaves is, head by head, what `AttnSpec` says.
-/
module

public import proofs.«01_k».proof.Proof.AttnReal

@[expose] public section

set_option maxRecDepth 16384

noncomputable section

namespace Cert.AttnPair

open Idealize.ShloMosaic Cert.AttnKernelIdeal Cert.AttnKernelIdeal.Gen Cert.AttnBlock Cert.AttnState Cert.AttnReal
open Cert.AttnSpec Cert.Finite Cert.Rows

theorem qrows_apply {α : Type} (n : Fin 16) (x : S4096x128.Idx → α) (r : Fin 256) (l : Fin 128) :
    qrows n x (ix2 r l) = x (ix2 (bquery n r) l) := rfl

theorem krows_apply {α : Type} (n : Fin 16) (x : S4608x128.Idx → α) (j : Fin 768) (l : Fin 128) :
    krows n x (ix2 j l) = x (ix2 (bkey n j) l) := rfl

theorem byBlock_apply {α : Type} (P : Fin 16 → S256x128.Idx → α) (n : Fin 16) (r : Fin 256) (l : Fin 128) :
    byBlock P (ix2 (bquery n r) l) = P n (ix2 r l) := by
  show P ⟨(bquery n r).val / 256, _⟩ (ix2 ⟨(bquery n r).val % 256, _⟩ l) = _
  congr 1
  · exact Fin.ext (by unfold bquery; dsimp only; omega)
  · exact congrArg (fun r => ix2 r l) (Fin.ext (by unfold bquery; dsimp only; omega))

/-- A head's mask. -/
def hm (a : Fin 2) : IVec S256x128 1 := if a = 0 then h0 else h1

theorem isHead : ∀ a, IsHead (hm a) a
  | 0 => isHead0
  | 1 => isHead1

/-- A key of a block within a query's nine chunks. -/
def inBand (r : Fin 256) (j : Fin 768) : Prop := 64 * (r.val / 64) ≤ j.val ∧ j.val < 64 * (r.val / 64) + 576

instance (r : Fin 256) (j : Fin 768) : Decidable (inBand r j) := by unfold inBand; infer_instance

theorem near_iff (n : Fin 16) (r : Fin 256) (j : Fin 768) :
    near (bquery n r) (bkey n j) ↔ inBand r j ∧ 512 ≤ (bkey n j).val := by
  unfold near inBand bquery bkey; dsimp only; omega

section Sum

variable {P : Fin 16 → Vec Ideal S768x128 .f32 → Vec Ideal S768x128 .f32} (l : Fin 128) (T : Fin 16 → Fin 4608 → ℝ)
  (hP : ∀ n acc j (A : ℝ), acc (ix2 j l) = ((A : ℝ) : EReal) → P n acc (ix2 j l) = ((A + T n (bkey n j) : ℝ) : EReal))
  (hT : ∀ n J, (¬∃ j, J = bkey n j) → T n J = 0)

include hP hT

theorem after_upto (J : Fin 4608) : ∀ N : ℕ, AttnState.after P N (ix2 J l)
    = ((∑ n ∈ Finset.range N, (if h : n < 16 then T ⟨n, h⟩ J else 0) : ℝ) : EReal)
  | 0 => by
    show Ideal.ofBits .f32 0x00000000#32 = _
    rw [word_zero]; simp
  | N + 1 => by
    rw [Finset.sum_range_succ, AttnState.after]
    by_cases h : N < 16
    · rw [dif_pos h, dif_pos h]
      unfold change
      by_cases hJ : 256 * N ≤ J.val ∧ J.val < 256 * N + 768
      · have e : J = bkey ⟨N, h⟩ ⟨J.val - 256 * N, by omega⟩ := Fin.ext (by unfold bkey; dsimp only; omega)
        refine (dif_pos hJ).trans ?_
        refine (hP ⟨N, h⟩ _ ⟨J.val - 256 * N, by omega⟩ (∑ n ∈ Finset.range N, (if h : n < 16 then T ⟨n, h⟩ J else 0)) ?_).trans ?_
        · refine Eq.trans ?_ (after_upto J N)
          show AttnState.after P N (ix2 (bkey ⟨N, h⟩ ⟨J.val - 256 * N, by omega⟩) l) = _
          rw [← e]
        · rw [← e]
      · refine (dif_neg hJ).trans ?_
        rw [after_upto J N, hT ⟨N, h⟩ J (fun ⟨j, hj⟩ => hJ (by rw [hj]; unfold bkey; dsimp only; omega)), add_zero]
    · rw [dif_neg h, dif_neg h, add_zero, after_upto J N]

theorem after_all (J : Fin 4608) : AttnState.after P 16 (ix2 J l) = ((∑ n, T n J : ℝ) : EReal) := by
  rw [after_upto l T hP hT J 16, Finset.sum_range]
  exact congrArg _ (Finset.sum_congr rfl fun n _ => by rw [dif_pos n.isLt])

end Sum

variable {q o d : Vec Ideal S4096x128 .bf16} {k v : Vec Ideal S4608x128 .bf16} {b : Vec Ideal S2x256x768 .f32}
  {Q D : Fin 2 → Fin 4096 → Fin 64 → ℝ} {K V : Fin 2 → Fin 4608 → Fin 64 → ℝ} {B : Fin 2 → Fin 513 → ℝ}
  (hq : ∀ a i e, q (ix2 i (lane a e)) = ((Q a i e * (1 / 8) : ℝ) : EReal))
  (hk : ∀ a j e, k (ix2 j (lane a e)) = ((K a j e : ℝ) : EReal))
  (hv : ∀ a j e, v (ix2 j (lane a e)) = ((V a j e : ℝ) : EReal))
  (hb : ∀ a r j, b (ix3 a r j) = if inBand r j then ((B a (col ((r.val : ℤ) + 512 - j.val)) : ℝ) : EReal) else ⊥)
  (ho : ∀ a i e, o (ix2 i (lane a e)) = ((out (Q a) (K a) (V a) (B a) i e : ℝ) : EReal))
  (hd : ∀ a i e, d (ix2 i (lane a e)) = ((D a i e : ℝ) : EReal))

include hq hk hb

/-- A block's row of masked scores. -/
theorem sc_real (a : Fin 2) (n : Fin 16) (r : Fin 256) :
    Masked (fun j => near (bquery n r) (bkey n j)) (fun j => S (Q a) (K a) (B a) (bquery n r) (bkey n j))
      (fun j => sc q k b (hm a) a n (ix2 r j)) := by
  have hs : ∀ j, sc q k b (hm a) a n (ix2 r j) = if 512 ≤ (bkey n j).val then
      ((∑ e, Q a (bquery n r) e * (1 / 8) * K a (bkey n j) e : ℝ) : EReal) + b (ix3 a r j) else ⊥ := fun j => by
    unfold sc
    rw [masked_real]
    have h1 := against_real (isHead a) (x := qrows n q) (X := fun a r e => Q a (bquery n r) e * (1 / 8)) (fun a r e => hq a (bquery n r) e)
      (k := krows n k) (K := fun a j e => K a (bkey n j) e) (fun a j e => hk a (bkey n j) e) r j
    refine if_congr Iff.rfl ?_ rfl
    pointwise [score]
    rw [h1]
    rfl
  intro j
  dsimp only
  rw [hs, hb, near_iff]
  constructor
  · rintro ⟨h1, h2⟩
    rw [if_pos h1, if_pos h2, add_real]
    refine congrArg _ ?_
    rw [S, Finset.sum_mul]
    refine congrArg₂ (· + ·) (Finset.sum_congr rfl fun e _ => by ring) (congrArg (fun z => B a (col z)) ?_)
    unfold back bquery bkey; dsimp only; push_cast; ring
  · intro h
    by_cases h2 : 512 ≤ (bkey n j).val
    · rw [if_pos h2, if_neg (fun h1 => h ⟨h1, h2⟩)]; simp
    · rw [if_neg h2]

/-- A block's softmax. -/
theorem prob_block (a : Fin 2) (n : Fin 16) (r : Fin 256) (j : Fin 768) :
    prob (sc q k b (hm a) a n) (ix2 r j) = ((p (Q a) (K a) (B a) (bquery n r) (bkey n j) : ℝ) : EReal) := by
  have hn : ∃ j, near (bquery n r) (bkey n j) := by
    obtain ⟨j, hj⟩ := near_self (bquery n r)
    obtain ⟨l, rfl⟩ := near_block hj
    exact ⟨l, hj⟩
  rw [prob_real (sc_real hq hk hb a n r) hn j]
  refine congrArg _ ?_
  rw [p, show total (fun j => near (bquery n r) (bkey n j)) (fun j => S (Q a) (K a) (B a) (bquery n r) (bkey n j)) = Z (Q a) (K a) (B a) (bquery n r) from
    sum_band n r (fun j => weight (near (bquery n r)) (S (Q a) (K a) (B a) (bquery n r)) j) fun j h => if_neg h]
  rfl

/-- A head's output, whatever the values. -/
theorem out_real (a : Fin 2) (i : Fin 4096) (e : Fin 64) :
    AttnState.out q k v b (ix2 i (lane a e)) = mix (Q a) (K a) (B a) (fun j e => v (ix2 j (lane a e))) i e := by
  obtain ⟨n, r, rfl⟩ : ∃ n r, i = bquery n r :=
    ⟨⟨i.val / 256, by omega⟩, ⟨i.val % 256, by omega⟩, Fin.ext (by unfold bquery; dsimp only; omega)⟩
  refine (byBlock_apply _ n r (lane a e)).trans ?_
  refine (outTile_real (krows n v) (s := fun a => sc q k b (hm a) a n) (fun a r j => prob_block hq hk hb a n r j) r a e).trans ?_
  refine (sum_band n r (fun j => ((p (Q a) (K a) (B a) (bquery n r) j : ℝ) : EReal) * v (ix2 j (lane a e))) fun j h => ?_).trans
    (Finset.sum_congr rfl fun j _ => mul_comm _ _)
  rw [p_far _ _ _ h, EReal.coe_zero, zero_mul]

include hv ho hd

/-- A block's score gradient. -/
theorem ds_block (a : Fin 2) (n : Fin 16) (r : Fin 256) (j : Fin 768) :
    ds q k v b o d (hm a) a n (ix2 r j)
      = ((AttnSpec.ds (Q a) (D a) (K a) (V a) (B a) (bquery n r) (bkey n j) : ℝ) : EReal) := by
  have h1 := against_real (isHead a) (x := qrows n d) (X := fun a r e => D a (bquery n r) e) (fun a r e => hd a (bquery n r) e)
    (k := krows n v) (K := fun a j e => V a (bkey n j) e) (fun a j e => hv a (bkey n j) e) r j
  have h2 := rowDot_real (isHead a) (d := qrows n d) (D := fun a r e => D a (bquery n r) e) (fun a r e => hd a (bquery n r) e)
    (o := qrows n o) (O := fun a r e => out (Q a) (K a) (V a) (B a) (bquery n r) e) (fun a r e => ho a (bquery n r) e) r
  unfold AttnState.ds
  pointwise [dscore, overKeys]
  rw [prob_block hq hk hb, h1, h2, mean_eq, sub_real, mul_real]
  rfl

theorem dq_real (a : Fin 2) (i : Fin 4096) (e : Fin 64) :
    dq q k v b o d (ix2 i (lane a e)) = ((AttnSpec.dq (Q a) (D a) (K a) (V a) (B a) i e : ℝ) : EReal) := by
  obtain ⟨n, r, rfl⟩ : ∃ n r, i = bquery n r :=
    ⟨⟨i.val / 256, by omega⟩, ⟨i.val % 256, by omega⟩, Fin.ext (by unfold bquery; dsimp only; omega)⟩
  refine (byBlock_apply _ n r (lane a e)).trans ?_
  refine (dqTile_real (k := krows n k) (K := fun a j e => K a (bkey n j) e) (fun a j e => hk a (bkey n j) e)
    (w := fun a => ds q k v b o d (hm a) a n) (fun a r j => ds_block hq hk hv hb ho hd a n r j) r a e).trans (congrArg _ ?_)
  rw [AttnSpec.dq]
  exact congrArg (· * (1 / 8 : ℝ)) (sum_band n r (fun j => AttnSpec.ds (Q a) (D a) (K a) (V a) (B a) (bquery n r) j * K a j e)
    fun j h => by rw [ds_far _ _ _ _ _ h, zero_mul])

theorem dk_real (a : Fin 2) (j : Fin 4608) (e : Fin 64) :
    dk q k v b o d (ix2 j (lane a e)) = ((AttnSpec.dk (Q a) (D a) (K a) (V a) (B a) j e : ℝ) : EReal) := by
  refine (after_all (P := addDk q k v b o d) (lane a e)
    (fun n J => ∑ r, AttnSpec.ds (Q a) (D a) (K a) (V a) (B a) (bquery n r) J * (Q a (bquery n r) e * (1 / 8))) ?_ ?_ j).trans (congrArg _ ?_)
  · intro n acc j A hA
    exact onto_real (x := qrows n q) (X := fun a r e => Q a (bquery n r) e * (1 / 8)) (fun a r e => hq a (bquery n r) e)
      (w := fun a => ds q k v b o d (hm a) a n) (fun a r j => ds_block hq hk hv hb ho hd a n r j) j a e hA
  · intro n J hJ
    exact Finset.sum_eq_zero fun r _ => by rw [ds_far _ _ _ _ _ fun h => hJ (near_block h), zero_mul]
  · exact (sum_blocks fun i => AttnSpec.ds (Q a) (D a) (K a) (V a) (B a) i j * (Q a i e * (1 / 8))).symm

omit hv ho in
theorem dv_real (a : Fin 2) (j : Fin 4608) (e : Fin 64) :
    dv q k b d (ix2 j (lane a e)) = ((AttnSpec.dv (Q a) (D a) (K a) (B a) j e : ℝ) : EReal) := by
  refine (after_all (P := addDv q k b d) (lane a e)
    (fun n J => ∑ r, p (Q a) (K a) (B a) (bquery n r) J * D a (bquery n r) e) ?_ ?_ j).trans (congrArg _ ?_)
  · intro n acc j A hA
    exact onto_real (x := qrows n d) (X := fun a r e => D a (bquery n r) e) (fun a r e => hd a (bquery n r) e)
      (w := fun a => prob (sc q k b (hm a) a n)) (fun a r j => prob_block hq hk hb a n r j) j a e hA
  · intro n J hJ
    exact Finset.sum_eq_zero fun r _ => by rw [p_far _ _ _ fun h => hJ (near_block h), zero_mul]
  · exact (sum_blocks fun i => p (Q a) (K a) (B a) i j * D a i e).symm

end Cert.AttnPair

end
-- ==== Proof.AttnMask.lean ====
/-
  The attention reference's words: which keys a query sees, and the bias table's column.
-/
module

public import proofs.«01_k».proof.Proof.Gen.AttnReferenceIdeal.Read
public import proofs.«01_k».proof.Proof.AttnSpec
public import Idealize.ShloMosaic.Lib.Tactic.WordOmega

@[expose] public section

set_option maxRecDepth 16384

noncomputable section

namespace Cert.AttnMask

open Idealize.ShloMosaic Cert.AttnReferenceIdeal Cert.AttnReferenceIdeal.Gen Cert.AttnReferenceIdeal.Read
open Cert.AttnSpec Cert.Finite

/-- Lane `e` of head `h` among all heads' lanes. -/
def hlane (h : Fin 16) (e : Fin 64) : Fin 1024 := ⟨64 * h.val + e.val, by omega⟩

/-- Rows split into heads. -/
theorem split_apply {α : Type} {N : ℕ} (hc : (⟨2, ![N, 1024]⟩ : Shape).ShapeCasts ⟨3, ![N, 16, 64]⟩)
    (x : (⟨2, ![N, 1024]⟩ : Shape).Idx → α) (i : Fin N) (h : Fin 16) (e : Fin 64) :
    shapeCast ⟨3, ![N, 16, 64]⟩ x hc (ix3 i h e) = x (ix2 i (hlane h e)) :=
  shapeCast_apply x hc (ix3 i h e) (ix2 i (hlane h e)) (by
    rw [Shape.rowMajor_val_two, Shape.rowMajor_val_three]
    show i.val * 1024 + (64 * h.val + e.val) = (i.val * 16 + h.val) * 64 + e.val
    omega)

/-- Heads put side by side. -/
theorem merge_apply {α : Type} {N : ℕ} (hc : (⟨3, ![N, 16, 64]⟩ : Shape).ShapeCasts ⟨2, ![N, 1024]⟩)
    (x : (⟨3, ![N, 16, 64]⟩ : Shape).Idx → α) (i : Fin N) (h : Fin 16) (e : Fin 64) :
    shapeCast ⟨2, ![N, 1024]⟩ x hc (ix2 i (hlane h e)) = x (ix3 i h e) :=
  shapeCast_apply x hc (ix2 i (hlane h e)) (ix3 i h e) (by
    rw [Shape.rowMajor_val_two, Shape.rowMajor_val_three]
    show (i.val * 16 + h.val) * 64 + e.val = i.val * 1024 + (64 * h.val + e.val)
    omega)

/-! ### The mask and the bias -/

/-- The chunk a query lies in. -/
theorem chunk_query (i : Fin 4096) : val_main_v26 (F := Ideal) (ix2 i 0) = BitVec.ofNat 32 (i.val / 64) := by
  pointwise [val_main_v26, val_main_call1_v13, val_main_call1_v12, val_main_call1_c_0, val_main_call1_v11, val_main_call1_v10,
    val_main_call1_v9, val_main_call1_c, val_main_call1_v8, val_main_call1_v7, val_main_call1_v6, val_main_call1_v5, val_main_call1_v4,
    val_main_call1_v3, val_main_call1_v2, val_main_call1_v1, val_main_call1_v0, val_main_c_5, val_main_v4, val_main_v3]
  revert i
  decide +kernel

/-- The chunk a key lies in. -/
theorem chunk_key (j : Fin 4608) : val_main_v27 (F := Ideal) (ix2 0 j) = BitVec.ofNat 32 (j.val / 64) := by
  pointwise [val_main_v27, val_main_call2_v13, val_main_call2_v12, val_main_call2_c_0, val_main_call2_v11, val_main_call2_v10,
    val_main_call2_v9, val_main_call2_c, val_main_call2_v8, val_main_call2_v7, val_main_call2_v6, val_main_call2_v5, val_main_call2_v4,
    val_main_call2_v3, val_main_call2_v2, val_main_call2_v1, val_main_call2_v0, val_main_c_6, val_main_v6, val_main_v5]
  revert j
  decide +kernel

theorem mask_word (a b j : ℕ) (ha : a < 64) (hb : b < 72) (hj : j < 4608) :
    IntOp.andi (IntOp.andi (IntOp.cmpi .sge (BitVec.ofNat 32 b) (BitVec.ofNat 32 a))
      (IntOp.cmpi .sle (BitVec.ofNat 32 b) (IntOp.addi (BitVec.ofNat 32 a) 8#32))) (IntOp.cmpi .sge (BitVec.ofNat 32 j) 512#32)
      = if a ≤ b ∧ b ≤ a + 8 ∧ 512 ≤ j then 1#1 else 0#1 := by
  have e1 : IntOp.cmpi .sge (BitVec.ofNat 32 b) (BitVec.ofNat 32 a) = if a ≤ b then 1#1 else 0#1 := by
    split_ifs <;> word_omega
  have e2 : IntOp.cmpi .sle (BitVec.ofNat 32 b) (IntOp.addi (BitVec.ofNat 32 a) 8#32) = if b ≤ a + 8 then 1#1 else 0#1 := by
    split_ifs <;> word_omega
  have e3 : IntOp.cmpi .sge (BitVec.ofNat 32 j) 512#32 = if 512 ≤ j then 1#1 else 0#1 := by
    split_ifs <;> word_omega
  rw [e1, e2, e3]
  by_cases h1 : a ≤ b <;> by_cases h2 : b ≤ a + 8 <;> by_cases h3 : 512 ≤ j <;> simp [h1, h2, h3, IntOp.andi]

theorem mask_apply (h : Fin 16) (i : Fin 4096) (j : Fin 4608) :
    val_main_v41_1 (F := Ideal) (ix3 h i j) = if near i j then 1#1 else 0#1 := by
  pointwise [val_main_v41_1, val_main_v40, val_main_v39, val_main_v38, val_main_v37, val_main_c_8, val_main_v36, val_main_v35,
    val_main_v34, val_main_v33, val_main_v32, val_main_v31, val_main_c_7, val_main_v30, val_main_v29, val_main_v28, val_main_v6, val_main_v5]
  rw [chunk_query, chunk_key]
  exact mask_word (i.val / 64) (j.val / 64) j.val (by omega) (by omega) (by omega)

theorem column_at (i : Fin 4096) (j : Fin 4608) :
    (val_main_v20 (F := Ideal) (ix3 i j 0)).toInt = ((col (back i j)).val : ℤ) := by
  pointwise [val_main_v20, val_main_v19, val_main_v18, val_main_v17, val_main_c_4, val_main_v16, val_main_v15, val_main_c_3,
    val_main_v14, val_main_v13, val_main_c_2, val_main_v12, val_main_call0_v4, val_main_call0_v3, val_main_c_1, val_main_call0_v2,
    val_main_call0_v1, val_main_call0_v0, val_main_c_0, val_main_v11, val_main_v10, val_main_v9, val_main_v8, val_main_v7, val_main_c,
    val_main_v6, val_main_v5, val_main_v4, val_main_v3]
  have hz : (IntOp.subi (IntOp.addi (BitVec.ofNat 32 i.val) 512#32) (BitVec.ofNat 32 j.val)).toInt = back i j := by
    unfold back IntOp.subi
    have := i.isLt; have := j.isLt
    word_omega
  rw [← hz]
  exact column_int _ (by rw [hz]; unfold back; omega) (by rw [hz]; unfold back; omega)

theorem column_apply (i : Fin 4096) (j : Fin 4608) :
    (val_main_v20 (F := Ideal) (ix3 i j 0)).toInt.toNat = (col (back i j)).val := by
  rw [column_at, Int.toNat_natCast]

end Cert.AttnMask

end
-- ==== Proof.TableRead.lean ====
/-
  A table's columns taken at computed places: the gather that `table[:, index]` lowers to, read at one place.
-/
module

public import Idealize.ShloMosaic.Lib.ValueIdxCore
public import Idealize.ShloMosaic.Lib.Pointwise

@[expose] public section

namespace Cert.TableRead

open Idealize.ShloMosaic

/-- The dimension numbers of `table[:, index]`. -/
abbrev colsDims (N M R C : Nat)
    (wf : GatherDims.WF ⟨2, ![N, M]⟩ ⟨3, ![R, C, 1]⟩ ⟨3, ![N, R, C]⟩ [0] [1] [] [1] [] 2 ![N, 1]) :
    GatherDims ⟨2, ![N, M]⟩ ⟨3, ![R, C, 1]⟩ ⟨3, ![N, R, C]⟩ where
  offsetDims := [0]
  collapsedSliceDims := [1]
  operandBatchingDims := []
  startIndicesBatchingDims := []
  startIndexMap := [1]
  indexVectorDim := 2
  sliceSizes := ![N, 1]
  wf := wf

/-- The gather at a place: the table at that row, and at the column the index names. -/
theorem gather_cols {α : Type} {N M R C : Nat} (hM : 0 < M)
    (wf : GatherDims.WF ⟨2, ![N, M]⟩ ⟨3, ![R, C, 1]⟩ ⟨3, ![N, R, C]⟩ [0] [1] [] [1] [] 2 ![N, 1])
    (x : (⟨2, ![N, M]⟩ : Shape).Idx → α) (idx : IVec ⟨3, ![R, C, 1]⟩ 32) (h : Fin N) (r : Fin R) (j : Fin C) :
    Host.gather (colsDims N M R C wf) x idx (ix3 h r j)
      = x (ix2 h ⟨min (idx (ix3 r j 0)).toInt.toNat (M - 1), by omega⟩) := by
  unfold Host.gather
  congr 1
  funext a
  refine Fin.ext ?_
  show (colsDims N M R C wf).start (ix3 h r j) idx a + (colsDims N M R C wf).batchCoord (ix3 h r j) a
      + (colsDims N M R C wf).offCoord (ix3 h r j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (show (0 : Fin 2) ∉ (colsDims N M R C wf).startIndexMap from by simp)]
    simp only [Nat.zero_add]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N M R C wf).startIndexMap from List.mem_singleton.mpr rfl)]
    have hsi : (colsDims N M R C wf).siIdx (ix3 h r j) ⟨List.idxOf (1 : Fin 2) (colsDims N M R C wf).startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hsi]
    rfl

end Cert.TableRead
-- ==== Proof.AttnForward.lean ====
/-
  The attention reference's forward pass on real numbers: from finite arguments its scores, softmax and output are, head
  by head, what `AttnSpec` says.
-/
module

public import proofs.«01_k».proof.Proof.AttnMask
public import proofs.«01_k».proof.Proof.TableRead
public import Idealize.ShloMosaic.Lib.KernelVsHost

@[expose] public section

set_option maxRecDepth 16384

noncomputable section

namespace Cert.AttnForward

open Idealize.ShloMosaic Cert.AttnReferenceIdeal Cert.AttnReferenceIdeal.Gen Cert.AttnReferenceIdeal.Read
open Cert.AttnSpec Cert.AttnMask Cert.Finite

/-- A row's largest value. -/
theorem rowMax {n a b : ℕ} (x : FVec Ideal ⟨3, ![a, b, n]⟩ .f32) (wf : (⟨3, ![a, b, n]⟩ : Shape).ReducesTo [2] ⟨2, ![a, b]⟩)
    (hu : 0 < (⟨0, ![]⟩ : Shape).numel) (hr : (⟨3, ![a, b, n]⟩ : Shape).Reduces [2] ⟨2, ![a, b]⟩) (h : Fin a) (i : Fin b) :
    Host.reduce FloatOps.maximumf x (constant (F := Ideal) ⟨0, ![]⟩ .f32 0xFF800000#32) wf hu (ix2 h i)
      = Finset.univ.fold max (⊥ : EReal) (fun j => x (ix3 h i j)) := by
  rw [hostReduce_maximumf_eq_multiReduction (F := Ideal) x 0xFF800000#32 wf hu hr (.inl rfl) rfl]
  pointwise
  rw [word_bot]

/-- The host operations between the scores and the exponentials, at a place. -/
theorem shift_at (y : FVec Ideal S16x4096x4608 .f32) (z : FVec Ideal S16x4096x4608 .f32) (h : Fin 16) (i : Fin 4096) (j : Fin 4608) :
  (Host.exp (subf y z)) (ix3 h i j) = Ideal.exp (y (ix3 h i j) - z (ix3 h i j)) := by
  pointwise

theorem spread_at (z : FVec Ideal S16x4096 .f32) (h : Fin 16) (i : Fin 4096) (j : Fin 4608) :
  (broadcastInDim S16x4096x4608 ![0, 1, 2] bcast_S16x4096x1_S16x4096x4608_0_1_2 (broadcastInDim S16x4096x1 ![0, 1] bcast_S16x4096_S16x4096x1_0_1 z)) (ix3 h i j)
   = z (ix2 h i) := by
  pointwise

theorem floor_at (z : FVec Ideal S16x4096 .f32) (h : Fin 16) (i : Fin 4096) :
  (maximumf (broadcastInDim S16x4096 ![] bcast_S_S16x4096 (constant S_ .f32 0xFF800000#32)) z) (ix2 h i)
   = max (Ideal.ofBits .f32 0xFF800000#32) (z (ix2 h i)) := by
  pointwise

/-! ### The forward pass -/

variable (x0 : FVec Ideal S4096x1024 .f32) (x1 x2 : FVec Ideal S4608x1024 .f32) (x3 : FVec Ideal S16x513 .f32)
  (x4 : FVec Ideal S4096x1024 .f32)
  (Q D : Fin 16 → Fin 4096 → Fin 64 → ℝ) (K V : Fin 16 → Fin 4608 → Fin 64 → ℝ) (B : Fin 16 → Fin 513 → ℝ)

theorem bias_apply (hb : ∀ h z, x3 (ix2 h z) = ((B h z : ℝ) : EReal)) (h : Fin 16) (i : Fin 4096) (j : Fin 4608) :
    val_main_v21 (F := Ideal) x3 (ix3 h i j) = ((B h (col (back i j)) : ℝ) : EReal) := by
  unfold val_main_v21
  refine (Cert.TableRead.gather_cols (N := 16) (M := 513) (R := 4096) (C := 4608) (by decide) _ x3 _ h i j).trans ?_
  rw [← hb]
  refine congrArg (fun z => x3 (ix2 h z)) (Fin.ext ?_)
  show min (val_main_v20 (F := Ideal) (ix3 i j 0)).toInt.toNat (513 - 1) = _
  rw [column_apply]
  have := (col (back i j)).isLt
  omega

variable (hq : ∀ h i e, x0 (ix2 i (hlane h e)) = ((Q h i e : ℝ) : EReal))
  (hk : ∀ h j e, x1 (ix2 j (hlane h e)) = ((K h j e : ℝ) : EReal))
  (hv : ∀ h j e, x2 (ix2 j (hlane h e)) = ((V h j e : ℝ) : EReal))
  (hb : ∀ h z, x3 (ix2 h z) = ((B h z : ℝ) : EReal))
  (hd : ∀ h i e, x4 (ix2 i (hlane h e)) = ((D h i e : ℝ) : EReal))

theorem q_apply (hq : ∀ h i e, x0 (ix2 i (hlane h e)) = ((Q h i e : ℝ) : EReal)) (i : Fin 4096) (h : Fin 16) (e : Fin 64) :
    val_main_v0 (F := Ideal) x0 (ix3 i h e) = ((Q h i e : ℝ) : EReal) := (split_apply _ x0 i h e).trans (hq h i e)
theorem k_apply (hk : ∀ h j e, x1 (ix2 j (hlane h e)) = ((K h j e : ℝ) : EReal)) (j : Fin 4608) (h : Fin 16) (e : Fin 64) :
    val_main_v1 (F := Ideal) x1 (ix3 j h e) = ((K h j e : ℝ) : EReal) := (split_apply _ x1 j h e).trans (hk h j e)
theorem v_apply (hv : ∀ h j e, x2 (ix2 j (hlane h e)) = ((V h j e : ℝ) : EReal)) (j : Fin 4608) (h : Fin 16) (e : Fin 64) :
    val_main_v2 (F := Ideal) x2 (ix3 j h e) = ((V h j e : ℝ) : EReal) := (split_apply _ x2 j h e).trans (hv h j e)
theorem d_apply (hd : ∀ h i e, x4 (ix2 i (hlane h e)) = ((D h i e : ℝ) : EReal)) (h : Fin 16) (e : Fin 64) (i : Fin 4096) :
    val_main_v74 (F := Ideal) x4 (ix3 h e i) = ((D h i e : ℝ) : EReal) := by
  pointwise [val_main_v74]
  exact (split_apply _ x4 i h e).trans (hd h i e)

include hq hk hb

theorem score_apply (h : Fin 16) (i : Fin 4096) (j : Fin 4608) :
    val_main_v25 (F := Ideal) x0 x1 x3 (ix3 h i j) = ((S (Q h) (K h) (B h) i j : ℝ) : EReal) := by
  pointwise [val_main_v25, val_main_v24, val_main_v23, val_main_cst, val_main_v22]
  simp only [bias_apply x3 B hb, q_apply x0 Q hq, k_apply x1 K hk, mul_real, sum_real, word_eighth, add_real]
  rfl

theorem masked_apply (h : Fin 16) (i : Fin 4096) :
    Masked (near i) (S (Q h) (K h) (B h) i) (fun j => val_main_v41_0 (F := Ideal) x0 x1 x3 (ix3 h i j)) := by
  intro j
  dsimp only
  pointwise [val_main_v41_0, val_main_call3_v2, val_main_call3_v0, val_main_cst_9]
  rw [mask_apply, score_apply x0 x1 x3 Q K B hq hk hb]
  constructor
  · intro hn; rw [if_pos hn]; rfl
  · intro hn; rw [if_neg hn]; exact word_bot

omit hq hk hb

theorem reduces : S16x4096x4608.Reduces [2] S16x4096 := by decide

/-- A row's largest score. -/
theorem largest_apply (h : Fin 16) (i : Fin 4096) : val_main_v42 (F := Ideal) x0 x1 x3 (ix2 h i)
    = Finset.univ.fold max (⊥ : EReal) (fun j => val_main_v41_0 (F := Ideal) x0 x1 x3 (ix3 h i j)) := by
  exact rowMax (val_main_v41_0 (F := Ideal) x0 x1 x3) reducesTo_S16x4096x4608_S16x4096_d2 h_S_ reduces h i

/-- The exponentials, from a row's largest score. -/
theorem shifted_apply (h : Fin 16) (i : Fin 4096) (j : Fin 4608) : val_main_v62 (F := Ideal) x0 x1 x3 (ix3 h i j)
    = Ideal.exp (val_main_v41_0 (F := Ideal) x0 x1 x3 (ix3 h i j) - max (⊥ : EReal) (val_main_v42 (F := Ideal) x0 x1 x3 (ix2 h i))) := by
  have e1 := shift_at (val_main_v41_0 (F := Ideal) x0 x1 x3) (val_main_v60 (F := Ideal) x0 x1 x3) h i j
  have e2 : val_main_v60 (F := Ideal) x0 x1 x3 (ix3 h i j) = _ := spread_at (val_main_v49 (F := Ideal) x0 x1 x3) h i j
  have e3 : val_main_v49 (F := Ideal) x0 x1 x3 (ix2 h i) = _ := floor_at (val_main_v42 (F := Ideal) x0 x1 x3) h i
  rw [e2, e3, word_bot] at e1
  exact e1

include hq hk hb

/-- The exponentials: each row's largest score taken off. -/
theorem expo_apply (h : Fin 16) (i : Fin 4096) : ∃ M : ℝ, ∀ j, val_main_v62 (F := Ideal) x0 x1 x3 (ix3 h i j)
    = ((Real.exp (-M) * w (Q h) (K h) (B h) i j : ℝ) : EReal) := by
  have hs := masked_apply x0 x1 x3 Q K B hq hk hb h i
  obtain ⟨M, hM⟩ := largest hs (near_self i)
  refine ⟨M, fun j => ?_⟩
  rw [shifted_apply, largest_apply, hM, show max (⊥ : EReal) ((M : ℝ) : EReal) = ((M : ℝ) : EReal) from max_eq_right bot_le]
  exact expo_real hs M j

/-- The rows' sums of the exponentials. -/
theorem total_apply (h : Fin 16) (i : Fin 4096) (M : ℝ) (hM : ∀ j, val_main_v62 (F := Ideal) x0 x1 x3 (ix3 h i j)
    = ((Real.exp (-M) * w (Q h) (K h) (B h) i j : ℝ) : EReal)) :
    val_main_v64 (F := Ideal) x0 x1 x3 (ix3 h i 0) = ((Real.exp (-M) * Z (Q h) (K h) (B h) i : ℝ) : EReal) := by
  pointwise [val_main_v64, val_main_v63, val_main_cst_18]
  simp only [hM, sum_real]
  rw [← Finset.mul_sum]
  rfl

/-- The softmax. -/
theorem prob_apply (h : Fin 16) (i : Fin 4096) (j : Fin 4608) :
    val_main_v66 (F := Ideal) x0 x1 x3 (ix3 h i j) = ((p (Q h) (K h) (B h) i j : ℝ) : EReal) := by
  obtain ⟨M, hM⟩ := expo_apply x0 x1 x3 Q K B hq hk hb h i
  have hZ := total_apply x0 x1 x3 Q K B hq hk hb h i M hM
  pointwise [val_main_v66, val_main_v65]
  rw [hM, hZ]
  have hp := Z_pos (Q h) (K h) (B h) i
  refine (div_real _ (mul_pos (Real.exp_pos _) hp).ne').trans (congrArg _ ?_)
  exact mul_div_mul_left _ _ (Real.exp_pos _).ne'

/-- The output, whatever the values. -/
theorem out_mix (i : Fin 4096) (h : Fin 16) (e : Fin 64) : val_main_v72 (F := Ideal) x0 x1 x2 x3 (ix2 i (hlane h e))
    = mix (Q h) (K h) (B h) (fun j e => x2 (ix2 j (hlane h e))) i e := by
  unfold val_main_v72
  refine (merge_apply _ _ i h e).trans ?_
  pointwise [val_main_v71, val_main_v70]
  simp only [prob_apply x0 x1 x3 Q K B hq hk hb]
  exact Finset.sum_congr rfl fun j _ => congrArg (· * _) (split_apply _ x2 j h e)

include hv

/-- The output. -/
theorem out_apply (i : Fin 4096) (h : Fin 16) (e : Fin 64) :
    val_main_v72 (F := Ideal) x0 x1 x2 x3 (ix2 i (hlane h e)) = ((out (Q h) (K h) (V h) (B h) i e : ℝ) : EReal) := by
  rw [out_mix x0 x1 x2 x3 Q K B hq hk hb, mix]
  simp only [hv, mul_real, sum_real]
  rfl

end Cert.AttnForward

end
-- ==== Proof.AttnInputs.lean ====
/-
  What a head pair of the attention kernel reads, as real numbers, from finite arguments: scaled queries, keys, values,
  bias tiles, outputs and cotangents of its two heads.
-/
module

public import proofs.«01_k».proof.Proof.AttnHost
public import proofs.«01_k».proof.Proof.AttnPair
public import proofs.«01_k».proof.Proof.AttnForward

@[expose] public section

set_option maxRecDepth 16384

noncomputable section

namespace Cert.AttnInputs

open Idealize.ShloMosaic Idealize.ShloMosaic.TcCoe
open Cert.AttnKernelIdeal Cert.AttnKernelIdeal.Gen Cert.AttnSpec Cert.Finite Cert.AttnPair Cert.AttnHost
open Cert.AttnMask (hlane)

section Bands

/-- A chunk's bias band at a place: the table's column of the distance. -/
theorem band_apply (x : FVec Ideal S16x513 .f32) (h : Fin 16) (r : Fin 64) (j : Fin 576) :
    band (F := Ideal) x (ix3 h r j) = x (ix2 h (col ((r.val : ℤ) + 512 - j.val))) := by
  unfold band
  refine (Cert.TableRead.gather_cols (N := 16) (M := 513) (R := 64) (C := 576) (by decide) _ x _ h r j).trans ?_
  refine congrArg (fun z => x (ix2 h z)) (Fin.ext ?_)
  have hz : (IntOp.subi (BitVec.ofNat 32 r.val) (IntOp.subi (BitVec.ofNat 32 j.val) 512#32)).toInt = (r.val : ℤ) + 512 - j.val := by
    unfold IntOp.subi
    have := r.isLt; have := j.isLt
    word_omega
  have hc := column_word (IntOp.subi (BitVec.ofNat 32 r.val) (IntOp.subi (BitVec.ofNat 32 j.val) 512#32))
    (by rw [hz]; omega) (by rw [hz]; omega)
  rw [hz] at hc
  refine Eq.trans (congrArg (fun z => min z (513 - 1)) (Eq.trans ?_ hc)) (by have := (col ((r.val : ℤ) + 512 - j.val)).isLt; show min _ 512 = _; omega)
  refine congrArg (fun z : BitVec 32 => z.toInt.toNat) ?_
  pointwise [column, apart]

/-- A chunk's band among a block's keys, at a place. -/
theorem tile_apply (lo hi : ℕ) (wf) (x : FVec Ideal S16x513 .f32) (h : Fin 16) (r : Fin 64) (j : Fin 768) :
    tile (F := Ideal) lo hi wf x (ix3 h r j) = if lo ≤ j.val ∧ j.val < lo + 576 then x (ix2 h (col ((r.val : ℤ) + lo + 512 - j.val))) else ⊥ := by
  unfold tile
  pointwise
  by_cases hj : lo ≤ j.val ∧ j.val < lo + 576
  · rw [dif_pos (⟨hj.1, by omega⟩ : lo ≤ j.val ∧ j.val - lo < 576), if_pos hj, band_apply]
    refine congrArg (fun z => x (ix2 h (col z))) ?_
    have := hj.1
    push_cast [Nat.cast_sub hj.1]
    ring
  · rw [dif_neg (fun h => hj ⟨h.1, by omega⟩), if_neg hj, word_bot]

/-- A head's bias tile at a place of a block: the table's column of the distance within the query's nine chunks. -/
theorem biasTiles_apply (x : FVec Ideal S16x513 .f32) (h : Fin 16) (r : Fin 256) (j : Fin 768) :
    (concatenate S16x256x768 1
    [⟨S16x64x768, tile (F := Ideal) 0 192 pads_S16x64x576_S16x64x768_000_000_01920 x⟩,
     ⟨S16x64x768, tile (F := Ideal) 64 128 pads_S16x64x576_S16x64x768_000_000_641280 x⟩,
     ⟨S16x64x768, tile (F := Ideal) 128 64 pads_S16x64x576_S16x64x768_000_000_128640 x⟩,
     ⟨S16x64x768, tile (F := Ideal) 192 0 pads_S16x64x576_S16x64x768_000_000_19200 x⟩]
    concatenates_S16x64x768_S16x64x768_S16x64x768_S16x64x768_S16x256x768_d1 : FVec Ideal S16x256x768 .f32) (ix3 h r j)
      = if inBand r j then x (ix2 h (col ((r.val : ℤ) + 512 - j.val))) else ⊥ := by
  pointwise
  have key : ∀ (a : ℕ) (r' : Fin 64), r.val = 64 * a + r'.val →
      (if 64 * a ≤ j.val ∧ j.val < 64 * a + 576 then x (ix2 h (col ((r'.val : ℤ) + (64 * a : ℕ) + 512 - j.val))) else ⊥)
        = if inBand r j then x (ix2 h (col ((r.val : ℤ) + 512 - j.val))) else ⊥ := fun a r' e => by
    have hr := r'.isLt
    refine if_congr (by unfold inBand; omega) (congrArg (fun z => x (ix2 h (col z))) ?_) rfl
    rw [e]; push_cast; ring
  by_cases h1 : r.val < 64
  · refine (dif_pos h1).trans ?_
    rw [tile_apply]; exact key 0 ⟨r.val, h1⟩ (by dsimp only; omega)
  refine (dif_neg h1).trans ?_
  by_cases h2 : r.val - 64 < 64
  · refine (dif_pos h2).trans ?_
    rw [tile_apply]; exact key 1 ⟨r.val - 64, h2⟩ (by dsimp only; omega)
  refine (dif_neg h2).trans ?_
  by_cases h3 : r.val - 64 - 64 < 64
  · refine (dif_pos h3).trans ?_
    rw [tile_apply]; exact key 2 ⟨r.val - 64 - 64, h3⟩ (by dsimp only; omega)
  refine (dif_neg h3).trans ?_
  rw [tile_apply]; exact key 3 ⟨r.val - 64 - 64 - 64, by omega⟩ (by dsimp only; omega)

end Bands

variable (m : (ℓ : Loc nD τ sig) → Buf (Elt Ideal) ℓ) (c : Dev nD)

/-- The column of a lane of a head pair. -/
def pcol (t : Fin cfg0.N) (l : Fin 128) : Fin 1024 :=
  ⟨128 * t.val + l.val, by have := t.isLt; have h : cfg0.N = 8 := N_0; have := l.isLt; omega⟩

/-- A pair's head. -/
def hd (t : Fin cfg0.N) (a : Fin 2) : Fin 16 := ⟨2 * t.val + a.val, by have := t.isLt; have h : cfg0.N = 8 := N_0; have := a.isLt; omega⟩

theorem pcol_lane (t : Fin cfg0.N) (a : Fin 2) (e : Fin 64) : pcol t (lane a e) = hlane (hd t a) e :=
  Fin.ext (by unfold pcol lane hlane hd; dsimp only; omega)

/-! ### The blocks a head pair reads -/

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = 8 + t.val :=
  (by decide +kernel : ∀ t : Fin grid0.N, win0_2.index t 0 = 0 ∧ win0_2.index t 1 = 8 + t.val)
theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem idx4 : ∀ t : Fin cfg0.N, win0_4.index t 0 = 0 ∧ win0_4.index t 1 = t.val :=
  (by decide +kernel : ∀ t : Fin grid0.N, win0_4.index t 0 = 0 ∧ win0_4.index t 1 = t.val)
theorem idx5 : ∀ t : Fin cfg0.N, win0_5.index t 0 = 0 ∧ win0_5.index t 1 = t.val :=
  (by decide +kernel : ∀ t : Fin grid0.N, win0_5.index t 0 = 0 ∧ win0_5.index t 1 = t.val)

theorem block0 (t : Fin cfg0.N) (i : Fin 4096) (l : Fin 128) : iblk m c 0 t (ix2 i l) = V m c main_v82 (ix2 i (pcol t l)) := by
  unfold iblk
  rw [View.read_apply]
  refine congrArg (V m c main_v82) (funext fun a => Fin.ext ?_)
  match a with
  | ⟨0, _⟩ => show win0_0.index t 0 * 4096 + 1 * i.val = i.val; rw [(idx0 t).1]; omega
  | ⟨1, _⟩ => show win0_0.index t 1 * 128 + 1 * l.val = 128 * t.val + l.val; rw [(idx0 t).2]; omega

theorem block1 (t : Fin cfg0.N) (i : Fin 4608) (l : Fin 128) : iblk m c 1 t (ix2 i l)
    = V m c main_v84 (ix2 i ⟨(pcol t l).val, Nat.lt_trans (pcol t l).isLt (by decide)⟩) := by
  unfold iblk
  rw [View.read_apply]
  refine congrArg (V m c main_v84) (funext fun a => Fin.ext ?_)
  match a with
  | ⟨0, _⟩ => show win0_1.index t 0 * 4608 + 1 * i.val = i.val; rw [(idx1 t).1]; omega
  | ⟨1, _⟩ => show win0_1.index t 1 * 128 + 1 * l.val = 128 * t.val + l.val; rw [(idx1 t).2]; omega

theorem block2 (t : Fin cfg0.N) (i : Fin 4608) (l : Fin 128) : iblk m c 2 t (ix2 i l)
    = V m c main_v84 (ix2 i ⟨1024 + (pcol t l).val, Nat.add_lt_add_left (pcol t l).isLt 1024⟩) := by
  unfold iblk
  rw [View.read_apply]
  refine congrArg (V m c main_v84) (funext fun a => Fin.ext ?_)
  match a with
  | ⟨0, _⟩ => show win0_2.index t 0 * 4608 + 1 * i.val = i.val; rw [(idx2 t).1]; omega
  | ⟨1, _⟩ => show win0_2.index t 1 * 128 + 1 * l.val = 1024 + (128 * t.val + l.val); rw [(idx2 t).2]; omega

theorem block3 (t : Fin cfg0.N) (a : Fin 2) (r : Fin 256) (j : Fin 768) : iblk m c 3 t (ix3 a r j)
    = V m c main_v79 (ix3 (hd t a) r j) := by
  unfold iblk
  rw [View.read_apply]
  refine congrArg (V m c main_v79) (funext fun b => Fin.ext ?_)
  match b with
  | ⟨0, _⟩ => show win0_3.index t 0 * 2 + 1 * a.val = 2 * t.val + a.val; rw [(idx3 t).1]; omega
  | ⟨1, _⟩ => show win0_3.index t 1 * 256 + 1 * r.val = r.val; rw [(idx3 t).2.1]; omega
  | ⟨2, _⟩ => show win0_3.index t 2 * 768 + 1 * j.val = j.val; rw [(idx3 t).2.2]; omega

theorem block4 (t : Fin cfg0.N) (i : Fin 4096) (l : Fin 128) : iblk m c 4 t (ix2 i l) = V m c main_v85 (ix2 i (pcol t l)) := by
  unfold iblk
  rw [View.read_apply]
  refine congrArg (V m c main_v85) (funext fun a => Fin.ext ?_)
  match a with
  | ⟨0, _⟩ => show win0_4.index t 0 * 4096 + 1 * i.val = i.val; rw [(idx4 t).1]; omega
  | ⟨1, _⟩ => show win0_4.index t 1 * 128 + 1 * l.val = 128 * t.val + l.val; rw [(idx4 t).2]; omega

theorem block5 (t : Fin cfg0.N) (i : Fin 4096) (l : Fin 128) : iblk m c 5 t (ix2 i l) = V m c main_v86 (ix2 i (pcol t l)) := by
  unfold iblk
  rw [View.read_apply]
  refine congrArg (V m c main_v86) (funext fun a => Fin.ext ?_)
  match a with
  | ⟨0, _⟩ => show win0_5.index t 0 * 4096 + 1 * i.val = i.val; rw [(idx5 t).1]; omega
  | ⟨1, _⟩ => show win0_5.index t 1 * 128 + 1 * l.val = 128 * t.val + l.val; rw [(idx5 t).2]; omega

/-! ### What they hold -/

variable (Q D : Fin 16 → Fin 4096 → Fin 64 → ℝ) (K W : Fin 16 → Fin 4608 → Fin 64 → ℝ) (B : Fin 16 → Fin 513 → ℝ)
  (hq : ∀ h i e, q m c (ix2 i (hlane h e)) = ((Q h i e : ℝ) : EReal))
  (hk : ∀ h j e, k m c (ix2 j (hlane h e)) = ((K h j e : ℝ) : EReal))
  (hv : ∀ h j e, v m c (ix2 j (hlane h e)) = ((W h j e : ℝ) : EReal))
  (hb : ∀ h z, rel m c (ix2 h z) = ((B h z : ℝ) : EReal))
  (hd' : ∀ h i e, ct m c (ix2 i (hlane h e)) = ((D h i e : ℝ) : EReal))

include hq in
theorem queries_real (t : Fin cfg0.N) (a : Fin 2) (i : Fin 4096) (e : Fin 64) :
    iblk m c 0 t (ix2 i (lane a e)) = ((Q (hd t a) i e * (1 / 8) : ℝ) : EReal) := by
  rw [block0, queries, pcol_lane]
  pointwise
  rw [hq, word_eighth, mul_real]

include hk in
theorem keys_real (t : Fin cfg0.N) (a : Fin 2) (i : Fin 4608) (e : Fin 64) :
    iblk m c 1 t (ix2 i (lane a e)) = ((K (hd t a) i e : ℝ) : EReal) := by
  rw [block1, keysValues, pcol_lane]
  have h := (hlane (hd t a) e).isLt
  pointwise
  exact hk _ _ _

include hv in
theorem values_real (t : Fin cfg0.N) (a : Fin 2) (i : Fin 4608) (e : Fin 64) :
    iblk m c 2 t (ix2 i (lane a e)) = ((W (hd t a) i e : ℝ) : EReal) := by
  rw [block2, keysValues, pcol_lane]
  have h := (hlane (hd t a) e).isLt
  pointwise
  exact hv _ _ _

include hb in
theorem bias_real (t : Fin cfg0.N) (a : Fin 2) (r : Fin 256) (j : Fin 768) : iblk m c 3 t (ix3 a r j)
    = if inBand r j then ((B (hd t a) (col ((r.val : ℤ) + 512 - j.val)) : ℝ) : EReal) else ⊥ := by
  rw [block3, biasTiles, biasTiles_apply, hb]

include hq hk hv hb in
theorem outputs_real (t : Fin cfg0.N) (a : Fin 2) (i : Fin 4096) (e : Fin 64) :
    iblk m c 4 t (ix2 i (lane a e)) = ((out (Q (hd t a)) (K (hd t a)) (W (hd t a)) (B (hd t a)) i e : ℝ) : EReal) := by
  rw [block4, output, pcol_lane]
  exact Cert.AttnForward.out_apply (q m c) (k m c) (v m c) (rel m c) Q K W B hq hk hv hb i (hd t a) e

include hd' in
theorem cotangents_real (t : Fin cfg0.N) (a : Fin 2) (i : Fin 4096) (e : Fin 64) :
    iblk m c 5 t (ix2 i (lane a e)) = ((D (hd t a) i e : ℝ) : EReal) := by
  rw [block5, cotangent, pcol_lane]
  exact hd' _ _ _

end Cert.AttnInputs

end
-- ==== Proof.AttnArray.lean ====
/-
  The attention kernel's three gradient arrays after the run, from finite arguments: head by head the gradients of
  `AttnSpec`.
-/
module

public import proofs.«01_k».proof.Proof.AttnFrame
public import proofs.«01_k».proof.Proof.AttnInputs

@[expose] public section

set_option maxRecDepth 16384

noncomputable section

namespace Cert.AttnArray

open Idealize.ShloMosaic Idealize.ShloMosaic.TcCoe
open Cert.AttnKernelIdeal Cert.AttnKernelIdeal.Gen Cert.AttnSpec Cert.AttnInputs Cert.AttnFrame
open Cert.AttnHost (q k v rel ct)
open Cert.AttnMask (hlane)

section Blocks

variable {F : FTy → Type} [FloatOps F] [Named F] (m : (ℓ : Loc nD τ sig) → Buf (Elt F) ℓ) (c : Dev nD)

theorem idx6 : ∀ t : Fin cfg0.N, win0_6.index t 0 = 0 ∧ win0_6.index t 1 = t.val :=
  (by decide +kernel : ∀ t : Fin grid0.N, win0_6.index t 0 = 0 ∧ win0_6.index t 1 = t.val)
theorem idx7 : ∀ t : Fin cfg0.N, win0_7.index t 0 = 0 ∧ win0_7.index t 1 = t.val :=
  (by decide +kernel : ∀ t : Fin grid0.N, win0_7.index t 0 = 0 ∧ win0_7.index t 1 = t.val)
theorem idx8 : ∀ t : Fin cfg0.N, win0_8.index t 0 = 0 ∧ win0_8.index t 1 = t.val :=
  (by decide +kernel : ∀ t : Fin grid0.N, win0_8.index t 0 = 0 ∧ win0_8.index t 1 = t.val)

/-- A head pair's columns of the query gradient are what the pair computed. -/
theorem dq_array (t : Fin cfg0.N) (i : Fin 4096) (l : Fin 128) :
    (dats m 0 c).arrAt 6 cfg0.N (ix2 i (pcol t l)) = pairDq m c t (ix2 i l) := by
  have hb := congrFun ((dats m 0 c).read_blk_arrAt_eq_flushed 6 (fun t t' _ _ hne => (cfg0.win 6).disjoint_blk fun h =>
    hne (Fin.ext (by rw [← (idx6 t).2, ← (idx6 t').2]; exact congrFun h 1))) cfg0.N t t.isLt (flush0_6 t)) (ix2 i l)
  rw [View.read_apply, show ((cfg0.win 6).blk t).view.emb (ix2 i l) = ix2 i (pcol t l) from funext fun a => Fin.ext (by
    match a with
    | ⟨0, _⟩ => show win0_6.index t 0 * 4096 + 1 * i.val = i.val; rw [(idx6 t).1]; omega
    | ⟨1, _⟩ => show win0_6.index t 1 * 128 + 1 * l.val = 128 * t.val + l.val; rw [(idx6 t).2]; omega)] at hb
  exact hb

/-- … and of the key gradient. -/
theorem dk_array (t : Fin cfg0.N) (i : Fin 4608) (l : Fin 128) :
    (dats m 0 c).arrAt 7 cfg0.N (ix2 i (pcol t l)) = pairDk m c t (ix2 i l) := by
  have hb := congrFun ((dats m 0 c).read_blk_arrAt_eq_flushed 7 (fun t t' _ _ hne => (cfg0.win 7).disjoint_blk fun h =>
    hne (Fin.ext (by rw [← (idx7 t).2, ← (idx7 t').2]; exact congrFun h 1))) cfg0.N t t.isLt (flush0_7 t)) (ix2 i l)
  rw [View.read_apply, show ((cfg0.win 7).blk t).view.emb (ix2 i l) = ix2 i (pcol t l) from funext fun a => Fin.ext (by
    match a with
    | ⟨0, _⟩ => show win0_7.index t 0 * 4608 + 1 * i.val = i.val; rw [(idx7 t).1]; omega
    | ⟨1, _⟩ => show win0_7.index t 1 * 128 + 1 * l.val = 128 * t.val + l.val; rw [(idx7 t).2]; omega)] at hb
  exact hb

/-- … and of the value gradient. -/
theorem dv_array (t : Fin cfg0.N) (i : Fin 4608) (l : Fin 128) :
    (dats m 0 c).arrAt 8 cfg0.N (ix2 i (pcol t l)) = pairDv m c t (ix2 i l) := by
  have hb := congrFun ((dats m 0 c).read_blk_arrAt_eq_flushed 8 (fun t t' _ _ hne => (cfg0.win 8).disjoint_blk fun h =>
    hne (Fin.ext (by rw [← (idx8 t).2, ← (idx8 t').2]; exact congrFun h 1))) cfg0.N t t.isLt (flush0_8 t)) (ix2 i l)
  rw [View.read_apply, show ((cfg0.win 8).blk t).view.emb (ix2 i l) = ix2 i (pcol t l) from funext fun a => Fin.ext (by
    match a with
    | ⟨0, _⟩ => show win0_8.index t 0 * 4608 + 1 * i.val = i.val; rw [(idx8 t).1]; omega
    | ⟨1, _⟩ => show win0_8.index t 1 * 128 + 1 * l.val = 128 * t.val + l.val; rw [(idx8 t).2]; omega)] at hb
  exact hb

end Blocks

/-- Every column is a lane of a head pair's head. -/
theorem column_split (z : Fin 1024) : ∃ (t : Fin cfg0.N) (a : Fin 2) (e : Fin 64), z = pcol t (lane a e) := by
  have hN : cfg0.N = 8 := N_0
  exact ⟨⟨z.val / 128, by omega⟩, ⟨z.val % 128 / 64, by omega⟩, ⟨z.val % 64, by omega⟩,
    Fin.ext (by unfold pcol lane; dsimp only; omega)⟩

variable (m : (ℓ : Loc nD τ sig) → Buf (Elt Ideal) ℓ) (c : Dev nD)
  (Q D : Fin 16 → Fin 4096 → Fin 64 → ℝ) (K W : Fin 16 → Fin 4608 → Fin 64 → ℝ) (B : Fin 16 → Fin 513 → ℝ)
  (hq : ∀ h i e, q m c (ix2 i (hlane h e)) = ((Q h i e : ℝ) : EReal))
  (hk : ∀ h j e, k m c (ix2 j (hlane h e)) = ((K h j e : ℝ) : EReal))
  (hv : ∀ h j e, v m c (ix2 j (hlane h e)) = ((W h j e : ℝ) : EReal))
  (hb : ∀ h z, rel m c (ix2 h z) = ((B h z : ℝ) : EReal))
  (hd' : ∀ h i e, ct m c (ix2 i (hlane h e)) = ((D h i e : ℝ) : EReal))

include hq hk hb hd'

theorem dv_real (t : Fin cfg0.N) (a : Fin 2) (j : Fin 4608) (e : Fin 64) :
    (dats m 0 c).arrAt 8 cfg0.N (ix2 j (hlane (hd t a) e))
      = ((dv (Q (hd t a)) (D (hd t a)) (K (hd t a)) (B (hd t a)) j e : ℝ) : EReal) := by
  rw [← pcol_lane, dv_array]
  exact AttnPair.dv_real (queries_real m c Q hq t) (keys_real m c K hk t) (bias_real m c B hb t) (cotangents_real m c D hd' t) a j e

include hv

theorem dk_real (t : Fin cfg0.N) (a : Fin 2) (j : Fin 4608) (e : Fin 64) :
    (dats m 0 c).arrAt 7 cfg0.N (ix2 j (hlane (hd t a) e))
      = ((dk (Q (hd t a)) (D (hd t a)) (K (hd t a)) (W (hd t a)) (B (hd t a)) j e : ℝ) : EReal) := by
  rw [← pcol_lane, dk_array]
  exact AttnPair.dk_real (queries_real m c Q hq t) (keys_real m c K hk t) (values_real m c W hv t) (bias_real m c B hb t)
    (outputs_real m c Q K W B hq hk hv hb t) (cotangents_real m c D hd' t) a j e

theorem dq_real (t : Fin cfg0.N) (a : Fin 2) (i : Fin 4096) (e : Fin 64) :
    (dats m 0 c).arrAt 6 cfg0.N (ix2 i (hlane (hd t a) e))
      = ((dq (Q (hd t a)) (D (hd t a)) (K (hd t a)) (W (hd t a)) (B (hd t a)) i e : ℝ) : EReal) := by
  rw [← pcol_lane, dq_array]
  exact AttnPair.dq_real (queries_real m c Q hq t) (keys_real m c K hk t) (values_real m c W hv t) (bias_real m c B hb t)
    (outputs_real m c Q K W B hq hk hv hb t) (cotangents_real m c D hd' t) a i e

end Cert.AttnArray

end
-- ==== Proof.AttnBackward.lean ====
/-
  The attention reference's backward pass on real numbers: its three results are, head by head, the gradients of
  `AttnSpec`.
-/
module

public import proofs.«01_k».proof.Proof.AttnForward

@[expose] public section

set_option maxRecDepth 16384

noncomputable section

namespace Cert.AttnBackward

open Idealize.ShloMosaic Cert.AttnReferenceIdeal Cert.AttnReferenceIdeal.Gen Cert.AttnReferenceIdeal.Read
open Cert.AttnSpec Cert.AttnMask Cert.AttnForward Cert.Finite

variable (x0 : FVec Ideal S4096x1024 .f32) (x1 x2 : FVec Ideal S4608x1024 .f32) (x3 : FVec Ideal S16x513 .f32)
  (x4 : FVec Ideal S4096x1024 .f32)
  (Q D : Fin 16 → Fin 4096 → Fin 64 → ℝ) (K V : Fin 16 → Fin 4608 → Fin 64 → ℝ) (B : Fin 16 → Fin 513 → ℝ)

/-- The softmax's gradient as the reference spells it. -/
theorem dscore_eq (c z dp m w : ℝ) (n : ℕ) (g u : Fin n → ℝ) (hc : 0 < c) (hz : 0 < z) (hm : m = ∑ j, u j / z * g j) :
    (dp / (c * z) + -(∑ j, g j * (1 / (c * z * (c * z))) * (c * u j))) * (c * w) = w / z * (dp - m) := by
  have h : ∑ j, g j * (1 / (c * z * (c * z))) * (c * u j) = m / (c * z) := by
    rw [hm, Finset.sum_div]
    exact Finset.sum_congr rfl fun j _ => by field_simp
  rw [h]
  field_simp
  ring

variable (hq : ∀ h i e, x0 (ix2 i (hlane h e)) = ((Q h i e : ℝ) : EReal))
  (hk : ∀ h j e, x1 (ix2 j (hlane h e)) = ((K h j e : ℝ) : EReal))
  (hv : ∀ h j e, x2 (ix2 j (hlane h e)) = ((V h j e : ℝ) : EReal))
  (hb : ∀ h z, x3 (ix2 h z) = ((B h z : ℝ) : EReal))
  (hd : ∀ h i e, x4 (ix2 i (hlane h e)) = ((D h i e : ℝ) : EReal))

include hv hd in
theorem dp_apply (h : Fin 16) (i : Fin 4096) (j : Fin 4608) :
    val_main_v75 (F := Ideal) x2 x4 (ix3 h i j) = ((dp (D h) (V h) i j : ℝ) : EReal) := by
  pointwise [val_main_v75]
  simp only [d_apply x4 D hd, v_apply x2 V hv, mul_real, sum_real]
  rfl

include hq hk hb

include hd in
/-- The value gradient. -/
theorem dv_apply (j : Fin 4608) (h : Fin 16) (e : Fin 64) :
    val_main_v99 (F := Ideal) x0 x1 x3 x4 (ix2 j (hlane h e)) = ((dv (Q h) (D h) (K h) (B h) j e : ℝ) : EReal) := by
  unfold val_main_v99
  refine (merge_apply _ _ j h e).trans ?_
  pointwise [val_main_v77, val_main_v76]
  simp only [d_apply x4 D hd, prob_apply x0 x1 x3 Q K B hq hk hb, mul_real, sum_real]
  exact congrArg _ (Finset.sum_congr rfl fun i _ => mul_comm _ _)

include hv hd

/-- The scores' gradient. -/
theorem ds_apply (h : Fin 16) (i : Fin 4096) (j : Fin 4608) :
    val_main_v90 (F := Ideal) x0 x1 x2 x3 x4 (ix3 h i j) = ((ds (Q h) (D h) (K h) (V h) (B h) i j : ℝ) : EReal) := by
  obtain ⟨M, hM⟩ := expo_apply x0 x1 x3 Q K B hq hk hb h i
  have hZ := total_apply x0 x1 x3 Q K B hq hk hb h i M hM
  have hp := Z_pos (Q h) (K h) (B h) i
  have hc := Real.exp_pos (-M)
  have hdp := fun j => dp_apply x2 x4 D V hv hd h i j
  have h69 : val_main_v69 (F := Ideal) x0 x1 x3 (ix3 h i 0)
      = ((1 / (Real.exp (-M) * Z (Q h) (K h) (B h) i * (Real.exp (-M) * Z (Q h) (K h) (B h) i)) : ℝ) : EReal) := by
    pointwise [val_main_v69, val_main_v68, val_main_cst_19, val_main_v67]
    rw [hZ, mul_real]
    exact div_real _ (mul_pos (mul_pos hc hp) (mul_pos hc hp)).ne'
  have h81 : val_main_v81 (F := Ideal) x0 x1 x2 x3 x4 (ix2 h i) = ((∑ j, dp (D h) (V h) i j
      * (1 / (Real.exp (-M) * Z (Q h) (K h) (B h) i * (Real.exp (-M) * Z (Q h) (K h) (B h) i)))
      * (Real.exp (-M) * w (Q h) (K h) (B h) i j) : ℝ) : EReal) := by
    pointwise [val_main_v81, val_main_cst_20, val_main_v80, val_main_v79, val_main_v78]
    simp only [h69, hM, hdp, mul_real, sum_real]
  by_cases hn : near i j
  · pointwise [val_main_v90, val_main_v89, val_main_v88, val_main_v87, val_main_v86, val_main_cst_21, val_main_v85, val_main_v84,
      val_main_v83, val_main_v82]
    rw [mask_apply, if_pos hn, h81, hM, hZ, hdp, div_real _ (mul_pos hc hp).ne']
    refine Eq.trans ?_ (congrArg _ (dscore_eq (Real.exp (-M)) (Z (Q h) (K h) (B h) i) (dp (D h) (V h) i j) (mean (Q h) (D h) (K h) (V h) (B h) i)
      (w (Q h) (K h) (B h) i j) 4608 (dp (D h) (V h) i) (w (Q h) (K h) (B h) i) hc hp rfl))
    refine (show ∀ a b : EReal, Scalar.select 1#1 a b = a from fun _ _ => rfl) _ _ |>.trans ?_
    rw [Fin.sum_univ_one]
    rw [← EReal.coe_neg, add_real, mul_real]
  · rw [ds_far _ _ _ _ _ hn]
    pointwise [val_main_v90, val_main_call4_v0, val_main_call4_cst]
    rw [mask_apply, if_neg hn]
    rfl

/-- The key gradient. -/
theorem dk_apply (j : Fin 4608) (h : Fin 16) (e : Fin 64) :
    val_main_v100 (F := Ideal) x0 x1 x2 x3 x4 (ix2 j (hlane h e)) = ((dk (Q h) (D h) (K h) (V h) (B h) j e : ℝ) : EReal) := by
  unfold val_main_v100
  refine (merge_apply _ _ j h e).trans ?_
  pointwise [val_main_v94, val_main_v93, val_main_v92, val_main_v91, val_main_cst_22]
  simp only [q_apply x0 Q hq, ds_apply x0 x1 x2 x3 x4 Q D K V B hq hk hv hb hd, word_eighth, mul_real, sum_real]
  exact congrArg _ (Finset.sum_congr rfl fun i _ => by ring)

/-- The query gradient. -/
theorem dq_apply (i : Fin 4096) (h : Fin 16) (e : Fin 64) :
    val_main_v102 (F := Ideal) x0 x1 x2 x3 x4 (ix2 i (hlane h e)) = ((dq (Q h) (D h) (K h) (V h) (B h) i e : ℝ) : EReal) := by
  have h101 : val_main_v101 (F := Ideal) x0 x1 x2 x3 x4 (ix2 i (hlane h e)) = ((dq (Q h) (D h) (K h) (V h) (B h) i e : ℝ) : EReal) := by
    unfold val_main_v101
    refine (merge_apply _ _ i h e).trans ?_
    pointwise [val_main_v96, val_main_v95, val_main_v92, val_main_v91, val_main_cst_22]
    simp only [k_apply x1 K hk, ds_apply x0 x1 x2 x3 x4 Q D K V B hq hk hv hb hd, word_eighth, mul_real, sum_real]
    rw [dq, Finset.sum_mul]
    exact congrArg _ (Finset.sum_congr rfl fun i _ => by ring)
  exact h101

end Cert.AttnBackward

end
-- ==== Proof.AttnDiagonals.lean ====
/-
  A head pair's bias gradient on real numbers. An entry of the tile is the sum of the score gradients of the queries and
  keys that lie so in a pair of chunks; so a sum of the tile by distance is the sum of all score gradients by distance.
-/
module

public import proofs.«01_k».proof.Proof.AttnBand
public import proofs.«01_k».proof.Proof.AttnPair

@[expose] public section

set_option maxRecDepth 16384

noncomputable section

namespace Cert.AttnDiagonals

open Idealize.ShloMosaic Cert.AttnKernelIdeal Cert.AttnKernelIdeal.Gen Cert.AttnState Cert.AttnBand Cert.AttnPair
open Cert.AttnSpec Cert.Finite

/-- The first and the last 128 queries of a block, and the keys they may see. -/
def upQ (r : Fin 128) : Fin 256 := Fin.castAdd 128 r
def loQ (r : Fin 128) : Fin 256 := Fin.natAdd 128 r
def upK (j : Fin 640) : Fin 768 := ⟨j.val, by omega⟩
def loK (j : Fin 640) : Fin 768 := ⟨128 + j.val, by omega⟩

/-! ### Sums by distance -/

section Sums

variable (f : Fin 4096 → Fin 4608 → ℝ) (hf : ∀ i j, ¬near i j → f i j = 0)

/-- An entry of the tile. -/
def entry (r : Fin 128) (j : Fin 640) : ℝ :=
  ∑ n : Fin 16, (f (bquery n (upQ r)) (bkey n (upK j)) + f (bquery n (loQ r)) (bkey n (loK j)))

/-- The sum of the entries at a column's distances. -/
def grad (z : ℕ) : ℝ := ∑ i, ∑ j, if (col (back i j)).val = z then f i j else 0

theorem sum_keys (g : Fin 640 → Fin 4608) (hg : Function.Injective g) (u : Fin 4608 → ℝ) (h : ∀ j, (¬∃ l, j = g l) → u j = 0) :
    ∑ j, u j = ∑ l, u (g l) := by
  refine Eq.symm ((Finset.sum_map Finset.univ ⟨g, hg⟩ u).symm.trans ?_)
  refine Finset.sum_subset (Finset.subset_univ _) fun j _ hj => h j fun ⟨l, e⟩ => hj ?_
  rw [e]
  exact Finset.mem_map_of_mem _ (Finset.mem_univ l)

include hf

theorem sum_upper (n : Fin 16) (r : Fin 128) (z : ℕ) :
    (∑ j, if (col (back (bquery n (upQ r)) j)).val = z then f (bquery n (upQ r)) j else 0)
      = ∑ j : Fin 640, if (col ((r.val : ℤ) + 512 - j.val)).val = z then f (bquery n (upQ r)) (bkey n (upK j)) else 0 := by
  rw [sum_keys (fun j => bkey n (upK j)) (fun a b h => by
    have := congrArg Fin.val h; simp only [bkey, upK] at this; exact Fin.ext (by omega))]
  · refine Finset.sum_congr rfl fun j _ => ?_
    have e : back (bquery n (upQ r)) (bkey n (upK j)) = (r.val : ℤ) + 512 - j.val := by
      simp only [back, bquery, bkey, upQ, upK, Fin.val_castAdd]; push_cast; ring
    rw [e]
  · intro j h
    rw [hf _ _ fun hn => h ⟨⟨j.val - 256 * n.val, by
      simp only [near, bquery, upQ, Fin.val_castAdd] at hn; omega⟩, Fin.ext (by
      simp only [near, bquery, upQ, Fin.val_castAdd] at hn; simp only [bkey, upK]; omega)⟩, ite_self]

theorem sum_lower (n : Fin 16) (r : Fin 128) (z : ℕ) :
    (∑ j, if (col (back (bquery n (loQ r)) j)).val = z then f (bquery n (loQ r)) j else 0)
      = ∑ j : Fin 640, if (col ((r.val : ℤ) + 512 - j.val)).val = z then f (bquery n (loQ r)) (bkey n (loK j)) else 0 := by
  rw [sum_keys (fun j => bkey n (loK j)) (fun a b h => by
    have := congrArg Fin.val h; simp only [bkey, loK] at this; exact Fin.ext (by omega))]
  · refine Finset.sum_congr rfl fun j _ => ?_
    have e : back (bquery n (loQ r)) (bkey n (loK j)) = (r.val : ℤ) + 512 - j.val := by
      simp only [back, bquery, bkey, loQ, loK, Fin.val_natAdd]; push_cast; ring
    rw [e]
  · intro j h
    rw [hf _ _ fun hn => h ⟨⟨j.val - 256 * n.val - 128, by
      simp only [near, bquery, loQ, Fin.val_natAdd] at hn; omega⟩, Fin.ext (by
      simp only [near, bquery, loQ, Fin.val_natAdd] at hn; simp only [bkey, loK]; omega)⟩, ite_self]

/-- The tile's entries summed by distance. -/
theorem by_distance (z : ℕ) :
    (∑ r : Fin 128, ∑ j : Fin 640, if (col ((r.val : ℤ) + 512 - j.val)).val = z then entry f r j else 0) = grad f z := by
  unfold grad
  rw [sum_blocks]
  have hs : ∀ n : Fin 16, ∑ r : Fin 256, (∑ j, if (col (back (bquery n r) j)).val = z then f (bquery n r) j else 0)
      = ∑ r : Fin 128, ∑ j : Fin 640, if (col ((r.val : ℤ) + 512 - j.val)).val = z
          then f (bquery n (upQ r)) (bkey n (upK j)) + f (bquery n (loQ r)) (bkey n (loK j)) else 0 := fun n => by
    refine (Fin.sum_univ_add (fun r : Fin (128 + 128) => ∑ j, if (col (back (bquery n r) j)).val = z then f (bquery n r) j else 0)).trans ?_
    rw [← Finset.sum_add_distrib]
    refine Finset.sum_congr rfl fun r _ => ?_
    refine (congrArg₂ (· + ·) (sum_upper f hf n r z) (sum_lower f hf n r z)).trans ?_
    rw [← Finset.sum_add_distrib]
    exact Finset.sum_congr rfl fun j _ => by split_ifs <;> simp
  rw [Finset.sum_congr rfl fun n _ => hs n]
  refine Eq.trans (Finset.sum_congr rfl fun r _ => ?_) Finset.sum_comm
  refine Eq.trans (Finset.sum_congr rfl fun j _ => ?_) Finset.sum_comm
  unfold entry
  split_ifs <;> simp

end Sums

/-! ### The tile -/

/-- A column of the tile among those the bands fill. -/
def wide (j : Fin 640) : Fin 768 := ⟨j.val, by omega⟩

theorem addTo_apply (x : FVec Ideal S128x640 .f32) (acc : Vec Ideal S1x128x640 .f32) (r : Fin 128) (j : Fin 640) :
    addTo x acc (ix3 0 r j) = (acc (ix3 0 r j) : EReal) + x (ix2 r j) := by
  pointwise [addTo]

theorem upper_apply (w : FVec Ideal S256x768 .f32) (r : Fin 128) (j : Fin 640) : upper w (ix2 r j) = w (ix2 (upQ r) (upK j)) := by
  pointwise [upper]
  exact congrArg w (congrArg₂ ix2 (Fin.ext (by simp [upQ])) (Fin.ext (by simp [upK])))

theorem lower_apply (w : FVec Ideal S256x768 .f32) (r : Fin 128) (j : Fin 640) : lower w (ix2 r j) = w (ix2 (loQ r) (loK j)) := by
  pointwise [lower]
  exact congrArg w (congrArg₂ ix2 (Fin.ext (by simp [loQ]; omega)) (Fin.ext (by simp [loK])))

theorem held_apply (a : Fin 2) (X : Vec Ideal S2x128x768 .f32) (r : Fin 128) (j : Fin 640) :
    X (ix3 a r (wide j)) = held a X (ix3 0 r j) := rfl

theorem bandsOnto_apply (w : Fin 2 → FVec Ideal S256x768 .f32) (X : Vec Ideal S2x128x768 .f32) (a : Fin 2) (r : Fin 128) (j : Fin 640) :
    bandsOnto (w 0) (w 1) X (ix3 a r (wide j))
      = ((X (ix3 a r (wide j)) : EReal) + w a (ix2 (upQ r) (upK j))) + w a (ix2 (loQ r) (loK j)) := by
  rw [held_apply a (bandsOnto (w 0) (w 1) X), held_apply a X]
  match a with
  | 0 => rw [held0, addTo_apply, addTo_apply, upper_apply, lower_apply]
  | 1 => rw [held1, addTo_apply, addTo_apply, upper_apply, lower_apply]

variable {q o d : Vec Ideal S4096x128 .bf16} {k v : Vec Ideal S4608x128 .bf16} {b : Vec Ideal S2x256x768 .f32}
  {Q D : Fin 2 → Fin 4096 → Fin 64 → ℝ} {K V : Fin 2 → Fin 4608 → Fin 64 → ℝ} {B : Fin 2 → Fin 513 → ℝ}
  (hq : ∀ a i e, q (ix2 i (lane a e)) = ((Q a i e * (1 / 8) : ℝ) : EReal))
  (hk : ∀ a j e, k (ix2 j (lane a e)) = ((K a j e : ℝ) : EReal))
  (hv : ∀ a j e, v (ix2 j (lane a e)) = ((V a j e : ℝ) : EReal))
  (hb : ∀ a r j, b (ix3 a r j) = if inBand r j then ((B a (col ((r.val : ℤ) + 512 - j.val)) : ℝ) : EReal) else ⊥)
  (ho : ∀ a i e, o (ix2 i (lane a e)) = ((out (Q a) (K a) (V a) (B a) i e : ℝ) : EReal))
  (hd : ∀ a i e, d (ix2 i (lane a e)) = ((D a i e : ℝ) : EReal))

include hq hk hb hv ho hd

theorem db_upto (a : Fin 2) (r : Fin 128) (j : Fin 640) : ∀ N : ℕ, N ≤ 16 →
    bandsAfter (addDb q k v b o d) N (ix3 a r (wide j))
      = ((∑ n ∈ Finset.range N, (if h : n < 16 then
          AttnSpec.ds (Q a) (D a) (K a) (V a) (B a) (bquery ⟨n, h⟩ (upQ r)) (bkey ⟨n, h⟩ (upK j))
            + AttnSpec.ds (Q a) (D a) (K a) (V a) (B a) (bquery ⟨n, h⟩ (loQ r)) (bkey ⟨n, h⟩ (loK j)) else 0) : ℝ) : EReal)
  | 0, _ => by
    show Ideal.ofBits .f32 0x00000000#32 = _
    rw [AttnSpec.word_zero]; simp
  | N + 1, hN => by
    rw [Finset.sum_range_succ, bandsAfter, dif_pos (show N < 16 by omega), dif_pos (show N < 16 by omega)]
    refine (bandsOnto_apply (fun a => AttnState.ds q k v b o d (hm a) a ⟨N, by omega⟩) (bandsAfter (addDb q k v b o d) N) a r j).trans ?_
    rw [db_upto a r j N (by omega), ds_block hq hk hv hb ho hd, ds_block hq hk hv hb ho hd, add_real, add_real, add_assoc]

/-- An entry of a head's tile. -/
theorem db_real (a : Fin 2) (r : Fin 128) (j : Fin 640) :
    db q k v b o d (ix3 a r (wide j)) = ((entry (AttnSpec.ds (Q a) (D a) (K a) (V a) (B a)) r j : ℝ) : EReal) := by
  rw [db, db_upto hq hk hv hb ho hd a r j 16 le_rfl, Finset.sum_range]
  exact congrArg _ (Finset.sum_congr rfl fun n _ => by rw [dif_pos n.isLt])

end Cert.AttnDiagonals

end
-- ==== Proof.BiasBlock.lean ====
/-
  The body of the bias gradient's call: the 128 rows of a head, each turned so that equal distances meet, are added up,
  and the sums are distributed to the table's columns by a product with zeros and ones.
-/
module

public import proofs.«01_k».proof.Proof.Gen.BiasKernelIdeal.Frame
public import proofs.«01_k».proof.Proof.AttnSpec
public import Idealize.ShloMosaic.Lib.Pointwise

@[expose] public section

set_option maxRecDepth 65536

noncomputable section

namespace Cert.BiasBlock

open Idealize.ShloMosaic Cert.BiasKernelIdeal Cert.BiasKernelIdeal.Gen Cert.Finite Cert.AttnSpec

section Any

variable {F : FTy → Type} [FloatOps F]

/-- A row of every head. -/
def row (x : Vec F S128x16x768 .f32) (n : ℕ) : FVec F S16x768 .f32 :=
  shapeCast S16x768 (View.ld x (Rect.unit (s := S128x16x768) ![n % 128, 0, 0] S1x16x768.size
    (fun a => match a with
      | ⟨0, _⟩ => by show n % 128 + 1 ≤ 128; omega
      | ⟨1, _⟩ => by show 0 + 16 ≤ 16; omega
      | ⟨2, _⟩ => by show 0 + 768 ≤ 768; omega))) shapeCasts_S1x16x768_S16x768

/-- The sum of the first rows, each turned by 127 less its number. -/
def diag (x : Vec F S128x16x768 .f32) (n : ℕ) : FVec F S16x768 .f32 :=
  Nat.rec (motive := fun _ => FVec F S16x768 .f32) (broadcast S16x768 (Scalar.ofBits .f32 0x00000000#32))
    (fun i acc => addf acc (dynamicRotate 1 (BitVec.ofNat 32 (127 - i)) none (row x i) rotates_S16x768_d1)) n

theorem sums (x : Vec F S128x16x768 .f32) : k0_pay27 (k0_pay34 x) (View.ld x r0_127) = diag x 128 := by sl_kernel_rfl

end Any

theorem zeros2 : (![0, 0] : Fin 2 → Nat) = fun _ => 0 := funext fun a => by fin_cases a <;> rfl

/-! ### Over the extended reals -/

/-- The place from which a turned row's entry comes. -/
abbrev turn (i : ℕ) (e : Fin 768) : Fin 768 := ⟨(e.val + 768 - (127 - i) % 768) % 768, Nat.mod_lt _ (by omega)⟩

theorem head_apply (y : Vec Ideal S1x16x768 .f32) (h : Fin 16) (e : Fin 768) :
    shapeCast S16x768 y shapeCasts_S1x16x768_S16x768 (ix2 h e) = y (ix3 0 h e) := by
  pointwise

theorem row_apply (x : Vec Ideal S128x16x768 .f32) (n : ℕ) (h : Fin 16) (e : Fin 768) :
    row (F := Ideal) x n (ix2 h e) = x (ix3 ⟨n % 128, Nat.mod_lt _ (by omega)⟩ h e) := by
  refine (head_apply _ h e).trans ?_
  rw [View.ld_unit]
  refine congrArg x (funext fun a => Fin.ext ?_)
  match a with
  | ⟨0, _⟩ => show n % 128 + 0 = n % 128; omega
  | ⟨1, _⟩ => show 0 + h.val = h.val; omega
  | ⟨2, _⟩ => show 0 + e.val = e.val; omega

theorem diag_apply (x : Vec Ideal S128x16x768 .f32) (n : ℕ) (hn : n ≤ 128) (h : Fin 16) (e : Fin 768) :
    diag (F := Ideal) x n (ix2 h e) = ∑ i ∈ Finset.range n, x (ix3 ⟨i % 128, Nat.mod_lt _ (by omega)⟩ h (turn i e)) := by
  induction n with
  | zero =>
    unfold diag
    pointwise
    rfl
  | succ n ih =>
    rw [Finset.sum_range_succ, ← ih (by omega)]
    show addf (diag (F := Ideal) x n) (dynamicRotate 1 (BitVec.ofNat 32 (127 - n)) none (row x n) rotates_S16x768_d1) (ix2 h e) = _
    pointwise
    refine congrArg (diag (F := Ideal) x n (ix2 h e) + ·) ?_
    refine (row_apply x n h _).trans (congrArg x ?_)
    congr 1
    apply Fin.ext
    have hw : (BitVec.ofNat 32 (127 - n)).toNat = 127 - n := by
      rw [BitVec.toNat_ofNat]
      exact Nat.mod_eq_of_lt (by omega)
    simp [hw]

/-- The word of a table column, beside the word of an entry. -/
theorem column_eq (z : Fin 640) (e : Fin 768) :
    IntOp.cmpi .eq (BitVec.ofNat 32 z.val) (IntOp.addi (IntOp.minsi 256#32 (IntOp.maxsi 4294967040#32
      (IntOp.subi 639#32 (BitVec.ofNat 32 e.val)))) 256#32) = 1#1 ↔ (col (639 - (e.val : ℤ))).val = z.val := by
  have hz := z.isLt
  have he := e.isLt
  have hd : (IntOp.subi 639#32 (BitVec.ofNat 32 e.val)).toInt = 639 - (e.val : ℤ) := by
    have h1 : (639#32).toInt = 639 := by decide
    have h2 : (BitVec.ofNat 32 e.val).toInt = (e.val : ℤ) := by word_omega
    unfold IntOp.subi
    rw [BitVec.toInt_sub, h1, h2]
    simp only [Int.bmod]
    omega
  have hc := clip_word (IntOp.subi 639#32 (BitVec.ofNat 32 e.val))
  rw [hd] at hc
  generalize IntOp.minsi 256#32 (IntOp.maxsi 4294967040#32 (IntOp.subi 639#32 (BitVec.ofNat 32 e.val))) = y at *
  have hu : (IntOp.addi y 256#32).toInt = y.toInt + 256 := by
    have : -256 ≤ y.toInt ∧ y.toInt ≤ 256 := by rw [hc]; omega
    obtain ⟨h3, h4⟩ := this
    word_omega
  have hv : (BitVec.ofNat 32 z.val).toInt = (z.val : ℤ) := by word_omega
  have hi : IntOp.cmpi .eq (BitVec.ofNat 32 z.val) (IntOp.addi y 256#32) = 1#1 ↔ (BitVec.ofNat 32 z.val).toInt = (IntOp.addi y 256#32).toInt := by
    rw [BitVec.toInt_inj]
    unfold IntOp.cmpi
    cases hb : (BitVec.ofNat 32 z.val == IntOp.addi y 256#32) <;> simp_all
  rw [hi, hu, hv, hc]
  unfold col
  dsimp only
  omega

theorem onehot_apply (z : Fin 640) (e : Fin 768) :
    k0_pay28 (F := Ideal) (ix2 z e) = if (col (639 - (e.val : ℤ))).val = z.val then 1 else 0 := by
  pointwise [k0_pay28]
  exact if_congr (column_eq z e) rfl rfl

/-- What the call leaves, from rows of reals. -/
theorem out_apply (x : Vec Ideal S128x16x768 .f32) (u : Fin 128 → Fin 16 → Fin 768 → ℝ) (hx : ∀ i h e, x (ix3 i h e) = (u i h e : EReal))
    (h : Fin 16) (z : Fin 640) : out0_1 (F := Ideal) x (ix2 h z)
      = ((∑ e : Fin 768, if (col (639 - (e.val : ℤ))).val = z.val then ∑ i : Fin 128, u i h (turn i.val e) else 0 : ℝ) : EReal) := by
  have hd : ∀ e, k0_pay27 (k0_pay34 x) (View.ld x r0_127) (ix2 h e) = ((∑ i : Fin 128, u i h (turn i.val e) : ℝ) : EReal) := by
    intro e
    rw [sums, diag_apply x 128 le_rfl, ← Fin.sum_univ_eq_sum_range (fun i => x (ix3 ⟨i % 128, Nat.mod_lt _ (by omega)⟩ h (turn i e)))]
    simp only [hx, sum_real]
    refine congrArg _ (Finset.sum_congr rfl fun i _ => ?_)
    congr 1
    exact Fin.ext (Nat.mod_eq_of_lt i.isLt)
  unfold out0_1
  rw [View.canon_unit_zero zeros2]
  generalize k0_pay34 x = a, View.ld x r0_127 = b at *
  pointwise [k0_pay1, k0_pay33, k0_pay29, k0_pay30, k0_pay31, k0_pay32]
  simp only [hd, sub_real, sub_self, EReal.coe_zero, zero_mul, Finset.sum_const_zero, add_zero, onehot_apply, mul_ite, mul_one, mul_zero, ite_self, sub_zero]
  have hc : ∀ e : Fin 768, (if (col (639 - (e.val : ℤ))).val = z.val then ((∑ i : Fin 128, u i h (turn i.val e) : ℝ) : EReal) else 0)
      = ((if (col (639 - (e.val : ℤ))).val = z.val then ∑ i : Fin 128, u i h (turn i.val e) else 0 : ℝ) : EReal) := by
    intro e
    split
    · rfl
    · exact EReal.coe_zero.symm
  exact (Finset.sum_congr rfl fun e _ => hc e).trans (sum_real _ _)

/-- The turned rows' sums, distance by distance, are the rows' entries, distance by distance. -/
theorem meet (u : Fin 128 → Fin 768 → ℝ) (w : Fin 128 → Fin 640 → ℝ) (hu : ∀ i e, u i e = if he : e.val < 640 then w i ⟨e.val, he⟩ else 0)
    (z : ℕ) : (∑ e : Fin 768, if (col (639 - (e.val : ℤ))).val = z then ∑ i : Fin 128, u i (turn i.val e) else 0)
      = ∑ i : Fin 128, ∑ c : Fin 640, if (col ((i.val : ℤ) + 512 - c.val)).val = z then w i c else 0 := by
  have hs : ∀ e : Fin 768, (if (col (639 - (e.val : ℤ))).val = z then ∑ i : Fin 128, u i (turn i.val e) else 0)
      = ∑ i : Fin 128, if (col (639 - (e.val : ℤ))).val = z then u i (turn i.val e) else 0 := by
    intro e
    split
    · rfl
    · exact Finset.sum_const_zero.symm
  rw [Finset.sum_congr rfl fun e _ => hs e, Finset.sum_comm]
  refine Finset.sum_congr rfl fun i _ => ?_
  symm
  have hi := i.isLt
  refine Finset.sum_of_injOn (fun c : Fin 640 => (⟨c.val + 127 - i.val, by omega⟩ : Fin 768)) ?_ (fun _ _ => Finset.mem_coe.mpr (Finset.mem_univ _)) ?_ ?_
  · intro c _ c' _ h
    have := congrArg Fin.val h
    dsimp only at this
    exact Fin.ext (by omega)
  · intro e _ hne
    have he := e.isLt
    have : u i (turn i.val e) = 0 := by
      rw [hu, dif_neg]
      intro hlt
      refine hne ⟨turn i.val e |>.castLT hlt, Finset.mem_coe.mpr (Finset.mem_univ _), Fin.ext ?_⟩
      dsimp only [turn, Fin.castLT] at hlt ⊢
      omega
    rw [this, ite_self]
  · intro c _
    have hc := c.isLt
    have ht : (turn i.val ⟨c.val + 127 - i.val, by omega⟩).val = c.val := by
      dsimp only [turn]
      omega
    rw [hu, dif_pos (by rw [ht]; exact hc)]
    have e1 : (639 : ℤ) - ((c.val + 127 - i.val : ℕ) : ℤ) = (i.val : ℤ) + 512 - c.val := by omega
    dsimp only
    rw [e1]
    exact if_congr Iff.rfl (congrArg (w i) (Fin.ext ht.symm)) rfl

end Cert.BiasBlock
-- ==== Proof.ScatterRead.lean ====
/-
  Updates added at computed columns of a table: the accumulation that the gradient of `table[:, index]` lowers to, read at
  one place.
-/
module

public import Idealize.ShloMosaic.Lib.ValueIdxCore
public import Idealize.ShloMosaic.Lib.Pointwise

@[expose] public section

namespace Cert.ScatterRead

open Idealize.ShloMosaic

/-- The dimension numbers of adding at `table[:, index]`. -/
abbrev addDims (N M R C : Nat) (wf : ScatterDims.WF ⟨2, ![N, M]⟩ ⟨3, ![R, C, 1]⟩ ⟨3, ![N, R, C]⟩ [0] [1] [1] 2) :
    ScatterDims ⟨2, ![N, M]⟩ ⟨3, ![R, C, 1]⟩ ⟨3, ![N, R, C]⟩ where
  updateWindowDims := [0]
  insertedWindowDims := [1]
  scatterDimsToOperandDims := [1]
  indexVectorDim := 2
  wf := wf

variable {N M R C : Nat} (wf : ScatterDims.WF ⟨2, ![N, M]⟩ ⟨3, ![R, C, 1]⟩ ⟨3, ![N, R, C]⟩ [0] [1] [1] 2)
  (idx : IVec ⟨3, ![R, C, 1]⟩ 32)

theorem row_at (h : Fin N) (r : Fin R) (j : Fin C) :
    (addDims N M R C wf).start (ix3 h r j) idx 0 + (addDims N M R C wf).window (ix3 h r j) 0 = (h.val : ℤ) := by
  unfold ScatterDims.start
  rw [dif_neg (show (0 : Fin 2) ∉ (addDims N M R C wf).scatterDimsToOperandDims from by simp), zero_add]
  rfl

theorem column_at (h : Fin N) (r : Fin R) (j : Fin C) :
    (addDims N M R C wf).start (ix3 h r j) idx 1 + (addDims N M R C wf).window (ix3 h r j) 1 = (idx (ix3 r j 0)).toInt := by
  unfold ScatterDims.start
  rw [dif_pos (show (1 : Fin 2) ∈ (addDims N M R C wf).scatterDimsToOperandDims from List.mem_singleton.mpr rfl)]
  have hw : (addDims N M R C wf).window (ix3 h r j) 1 = 0 := by
    unfold ScatterDims.window
    exact dif_neg (show (1 : Fin 2) ∉ (addDims N M R C wf).sKept from by
      show (1 : Fin 2) ∉ Shape.kept (s := ⟨2, ![N, M]⟩) [1]
      simp [Shape.kept])
  have hsi : (addDims N M R C wf).siIdx (ix3 h r j) ⟨List.idxOf (1 : Fin 2) (addDims N M R C wf).scatterDimsToOperandDims,
      List.idxOf_lt_length_iff.2 (List.mem_singleton.mpr rfl)⟩ = ix3 r j 0 := by
    funext b; refine Fin.ext ?_
    match b with
    | ⟨0, _⟩ => rfl
    | ⟨1, _⟩ => rfl
    | ⟨2, _⟩ => rfl
  rw [hw, hsi]
  simp

/-- Where an update goes. -/
theorem target (h : Fin N) (r : Fin R) (j : Fin C) (z : Fin M) (hz : (idx (ix3 r j 0)).toInt = (z.val : ℤ)) :
    (addDims N M R C wf).resultIdx? (ix3 h r j) idx = some (ix2 h z) := by
  have e0 := row_at wf idx h r j
  have e1 := (column_at wf idx h r j).trans hz
  unfold ScatterDims.resultIdx?
  rw [dif_pos (by
    intro a
    match a with
    | ⟨0, _⟩ => exact ⟨by rw [show (⟨0, _⟩ : Fin 2) = 0 from rfl, e0]; omega, by rw [show (⟨0, _⟩ : Fin 2) = 0 from rfl, e0]; exact_mod_cast h.isLt⟩
    | ⟨1, _⟩ => exact ⟨by rw [show (⟨1, _⟩ : Fin 2) = 1 from rfl, e1]; omega, by rw [show (⟨1, _⟩ : Fin 2) = 1 from rfl, e1]; exact_mod_cast z.isLt⟩)]
  refine congrArg some (funext fun a => Fin.ext ?_)
  match a with
  | ⟨0, _⟩ => exact (congrArg Int.toNat e0).trans (Int.toNat_natCast _)
  | ⟨1, _⟩ => exact (congrArg Int.toNat e1).trans (Int.toNat_natCast _)

/-- The table with the updates added, at a place: the updates of that row whose index names the column. -/
theorem add_cols (x : (⟨2, ![N, M]⟩ : Shape).Idx → EReal) (upd : (⟨3, ![N, R, C]⟩ : Shape).Idx → EReal) (g : Fin R → Fin C → Fin M)
    (hg : ∀ r j, (idx (ix3 r j 0)).toInt = ((g r j).val : ℤ)) (h : Fin N) (z : Fin M) :
    Ideal.hostScatterAdd (addDims N M R C wf) x idx upd (ix2 h z) = x (ix2 h z) + ∑ r, ∑ j, if g r j = z then upd (ix3 h r j) else 0 := by
  unfold Ideal.hostScatterAdd
  rw [Finset.sum_filter, sum_idx3]
  refine congrArg (x (ix2 h z) + ·) ?_
  have key : ∀ a r j, (if (addDims N M R C wf).resultIdx? (ix3 a r j) idx = some (ix2 h z) then upd (ix3 a r j) else 0)
      = if a = h then (if g r j = z then upd (ix3 h r j) else 0) else 0 := by
    intro a r j
    rw [target wf idx a r j (g r j) (hg r j)]
    have inj : some (ix2 a (g r j)) = some (ix2 h z) ↔ a = h ∧ g r j = z := by
      rw [Option.some.injEq]
      exact ⟨fun e => ⟨congrFun e 0, congrFun e 1⟩, fun e => by rw [e.1, e.2]⟩
    by_cases ha : a = h
    · subst ha
      simp only [inj, true_and, if_true]
    · rw [if_neg (fun e => ha (inj.1 e).1), if_neg ha]
  simp only [key]
  rw [Finset.sum_eq_single h]
  · simp only [if_true]
  · intro a _ ha
    simp only [if_neg ha, Finset.sum_const_zero]
  · intro hh; exact absurd (Finset.mem_univ h) hh

end Cert.ScatterRead
-- ==== Proof.BiasClaim.lean ====
/-
  The bias gradient's value claim: from a finite gradient of the bias tile both programs end with the same gradient of the
  table.
-/
module

public import proofs.«01_k».proof.Proof.BiasBlock
public import proofs.«01_k».proof.Proof.ScatterRead
public import proofs.«01_k».proof.Proof.Gen.BiasReferenceIdeal.Read
public import proofs.«01_k».proof.Proof.Gen.Pre_finite_bias
public import proofs.«01_k».proof.Defs
public import Idealize.ShloMosaic.Lib.StableHlo.RunRead
public import Idealize.ShloMosaic.Lib.Tactic
public import Idealize.ShloMosaic.Lib.Tactic.WordOmega

@[expose] public section

set_option maxRecDepth 65536

noncomputable section

namespace Cert.BiasClaim

open Idealize.ShloMosaic Idealize.ShloMosaic.TcCoe
open Cert.BiasKernelIdeal Cert.BiasKernelIdeal.Gen Cert.BiasBlock Cert.Finite Cert.AttnSpec

/-! ### The table's gradient -/

/-- The sum of the entries whose distance has a column. -/
def grad (w : Fin 128 → Fin 640 → ℝ) (z : ℕ) : ℝ :=
  ∑ i : Fin 128, ∑ c : Fin 640, if (col ((i.val : ℤ) + 512 - c.val)).val = z then w i c else 0

/-! ### The kernel's program -/

section Kernel

variable (m : (ℓ : Loc nD τ sig) → Buf (Elt Ideal) ℓ) (c : Dev nD)

abbrev d : (⟨S16x128x640, .f32⟩ : BufTy).Contents (Elt Ideal) := m ((c : Thread nD τ).loc main_arg1)

theorem rows : V m c main_v1 = (transpose S128x16x768 [1, 0, 2] (pad S16x128x768 ![0, 0, 0] ![0, 0, 128] ![0, 0, 0] (d m c)
    (sitofp (F := Ideal) .f32 (constantI S_ 32 0#32)) pads_S16x128x640_S16x128x768_000_000_01280 h_S_) transposes_S16x128x768_S128x16x768_1_0_2
    : (⟨S128x16x768, .f32⟩ : BufTy).Contents (Elt Ideal)) := by
  unfold V
  after_reads_simp
  rfl

theorem rows_apply (w : Fin 16 → Fin 128 → Fin 640 → ℝ) (hw : ∀ h i e, d m c (ix3 h i e) = ((w h i e : ℝ) : EReal)) (i : Fin 128) (h : Fin 16)
    (e : Fin 768) : V m c main_v1 (ix3 i h e) = ((if he : e.val < 640 then w h i ⟨e.val, he⟩ else 0 : ℝ) : EReal) := by
  rw [rows]
  generalize d m c = x at *
  pointwise
  split
  · exact hw _ _ _
  · show ((((0#32).toInt : ℤ) : ℝ) : EReal) = ((0 : ℝ) : EReal)
    simp

theorem grid_one : cfg0.N = 1 := N_0

theorem emb_out (t : Fin cfg0.N) (h : Fin 16) (z : Fin 640) : ((cfg0.win 1).blk t).view.emb (ix2 h z) = ix2 h z := funext fun a => Fin.ext (by
  match a with
  | ⟨0, _⟩ => show 0 * 16 + 1 * h.val = h.val; omega
  | ⟨1, _⟩ => show 0 * 640 + 1 * z.val = z.val; omega)

theorem emb_in (t : Fin cfg0.N) (i : Fin 128) (h : Fin 16) (e : Fin 768) : ((cfg0.win 0).blk t).view.emb (ix3 i h e) = ix3 i h e :=
  funext fun a => Fin.ext (by
    match a with
    | ⟨0, _⟩ => show 0 * 128 + 1 * i.val = i.val; omega
    | ⟨1, _⟩ => show 0 * 16 + 1 * h.val = h.val; omega
    | ⟨2, _⟩ => show 0 * 768 + 1 * e.val = e.val; omega)

theorem out_array (h : Fin 16) (z : Fin 640) :
    (dats m 0 c).arrAt 1 cfg0.N (ix2 h z) = out0_1 (iblk m c 0 ⟨0, by rw [grid_one]; omega⟩) (ix2 h z) := by
  have hb := congrFun ((dats m 0 c).read_blk_arrAt_eq_flushed 1
    (fun t t' _ _ hne => absurd (Fin.ext (by have := t.isLt; have := t'.isLt; have := grid_one; omega)) hne) cfg0.N ⟨0, by rw [grid_one]; omega⟩
    (show 0 < cfg0.N by rw [grid_one]; omega) (flush0_1 _)) (ix2 h z)
  rw [View.read_apply, emb_out] at hb
  refine hb.trans ?_
  show (cfg0.win 1).cut (grid0.coords _) ((dats m 0 c).after 1 _) (ix2 h z) = _
  rw [after0_1]
  rfl

theorem result (z : Fin 513) (h : Fin 16) : Pipeline.afterTail₀ cfgs (dats m) 0 (V0 m) [hostOps1] c main_v3 (ix2 h z)
    = (dats m 0 c).arrAt 1 cfg0.N (ix2 h ⟨z.val, by omega⟩) := by
  have hr : Pipeline.afterTail₀ cfgs (dats m) 0 (V0 m) [hostOps1] c main_v3
      = (extractStridedSlice S16x513 ![0, 0] ((dats m 0 c).arrAt 1 cfg0.N : (⟨S16x640, .f32⟩ : BufTy).Contents (Elt Ideal)) slices_S16x640_S16x513_0_0 : (⟨S16x513, .f32⟩ : BufTy).Contents (Elt Ideal)) := by
    show StableHlo.after hostOps1 _ _ = _
    after_results_simp
    exact congrArg (fun a : (⟨S16x640, .f32⟩ : BufTy).Contents (Elt Ideal) => extractStridedSlice S16x513 ![0, 0] a slices_S16x640_S16x513_0_0)
      (Pipeline.withArrays_arr spec0 (by decide) c (V0 m c) (fun w => (dats m 0 c).arrAt w cfg0.N) 1)
  rw [hr]
  generalize ((dats m 0 c).arrAt 1 cfg0.N : (⟨S16x640, .f32⟩ : BufTy).Contents (Elt Ideal)) = y
  pointwise

theorem kernel_grad (w : Fin 16 → Fin 128 → Fin 640 → ℝ) (hw : ∀ h i e, d m c (ix3 h i e) = ((w h i e : ℝ) : EReal)) (h : Fin 16) (z : Fin 513) :
    Pipeline.afterTail₀ cfgs (dats m) 0 (V0 m) [hostOps1] c main_v3 (ix2 h z) = ((grad (w h) z.val : ℝ) : EReal) := by
  rw [result, out_array]
  refine (out_apply _ (fun i h e => if he : e.val < 640 then w h i ⟨e.val, he⟩ else 0) (fun i h e => ?_) h _).trans ?_
  · unfold iblk
    rw [View.read_apply, emb_in]
    exact rows_apply m c w hw i h e
  · exact congrArg _ (meet (fun i e => if he : e.val < 640 then w h i ⟨e.val, he⟩ else 0) (w h) (fun _ _ => rfl) z.val)

end Kernel

/-! ### The reference's program -/

open Cert.BiasReferenceIdeal.Read in
theorem column_at (r : Fin 128) (j : Fin 640) :
    (val_main_v17 (F := Ideal) (ix3 r j 0)).toInt = ((col ((r.val : ℤ) + 512 - j.val)).val : ℤ) := by
  have hr := r.isLt
  have hj := j.isLt
  pointwise [val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_c, val_main_c_0,
    val_main_c_1, val_main_c_2, val_main_c_3, val_main_c_4, val_main_call0_v0, val_main_call0_v1, val_main_call0_v2, val_main_call0_v3,
    val_main_call0_v4]
  simp only [id, constantI]
  have hz : (IntOp.subi (IntOp.addi (BitVec.ofNat 32 r.val) 512#32) (BitVec.ofNat 32 j.val)).toInt = (r.val : ℤ) + 512 - j.val := by
    have h1 : (IntOp.addi (BitVec.ofNat 32 r.val) 512#32).toInt = (r.val : ℤ) + 512 := by word_omega
    have h2 : (BitVec.ofNat 32 j.val).toInt = (j.val : ℤ) := by word_omega
    unfold IntOp.subi
    rw [BitVec.toInt_sub, h1, h2]
    simp only [Int.bmod]
    omega
  rw [← hz]
  exact column_int _ (by rw [hz]; omega) (by rw [hz]; omega)

open Cert.BiasReferenceIdeal.Read in
theorem reference_grad (x : (⟨S16x128x640, .f32⟩ : BufTy).Contents (Elt Ideal)) (w : Fin 16 → Fin 128 → Fin 640 → ℝ)
    (hw : ∀ h i e, x (ix3 h i e) = ((w h i e : ℝ) : EReal)) (h : Fin 16) (z : Fin 513) :
    val_main_v20 (F := Ideal) x (ix2 h z) = ((grad (w h) z.val : ℝ) : EReal) := by
  refine (Cert.ScatterRead.add_cols _ _ _ x (fun r j => col ((r.val : ℤ) + 512 - j.val)) column_at h z).trans ?_
  have h0 : val_main_v19 (F := Ideal) (ix2 h z) = 0 := by pointwise [val_main_v19, val_main_cst]
  rw [h0, zero_add]
  unfold grad
  rw [← sum_real]
  refine Finset.sum_congr rfl fun r _ => ?_
  rw [← sum_real]
  refine Finset.sum_congr rfl fun j _ => ?_
  rw [hw]
  by_cases hc : col ((r.val : ℤ) + 512 - j.val) = z
  · rw [if_pos hc, if_pos (congrArg Fin.val hc)]
  · rw [if_neg hc, if_neg fun hv => hc (Fin.ext hv)]
    rfl

theorem claim : Cert.algebraic_BiasKernelIdeal_BiasReferenceIdeal_pre_finite_bias := by
  intro m ρ m' ρ' hpre hag
  refine ⟨_, (θ_run defs _ _).mono (fun r h c => ⟨(h c).2 main_v3 (Pipeline.mem_restRefs_of main_v3 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ),
    (θ_run Cert.BiasReferenceIdeal.defs _ _).mono (fun r h c => ?_) (Cert.BiasReferenceIdeal.Value.run m' ρ')⟩
  obtain ⟨h0, k0⟩ := h c
  obtain ⟨a0, a1⟩ := hag c
  obtain ⟨w, hw⟩ := array_of_test _ _ _ (hpre c)
  have hd : ∀ h i e, d m c (ix3 h i e) = _ := fun h i e => hw (ix3 h i e)
  have hd' := fun h i e => (congrFun a1 (ix3 h i e)).trans (hd h i e)
  refine ⟨h0.trans ?_, k0⟩
  rw [Cert.BiasReferenceIdeal.Read.val_main_v20_eq]
  funext i
  rw [eq_ix2 i]
  exact (reference_grad _ (fun h i e => w (ix3 h i e)) hd' _ _).trans (kernel_grad m c (fun h i e => w (ix3 h i e)) hd _ _).symm

end Cert.BiasClaim

end
-- ==== Proof.AttnTable.lean ====
/-
  The gradient of the bias table in the attention block: both programs end with the sum of the score gradients by
  distance.
-/
module

public import proofs.«01_k».proof.Proof.AttnArray
public import proofs.«01_k».proof.Proof.AttnBackward
public import proofs.«01_k».proof.Proof.AttnDiagonals
public import proofs.«01_k».proof.Proof.BiasClaim

@[expose] public section

set_option maxRecDepth 65536

noncomputable section

namespace Cert.AttnTable

open Idealize.ShloMosaic Idealize.ShloMosaic.TcCoe
open Cert.AttnSpec Cert.AttnInputs Cert.AttnFrame Cert.Finite
open Cert.AttnHost (q k v rel ct)
open Cert.AttnMask (hlane)

/-! ### The reference's program -/

section Reference

open Cert.AttnReferenceIdeal Cert.AttnReferenceIdeal.Gen Cert.AttnReferenceIdeal.Read

variable (x0 : FVec Ideal S4096x1024 .f32) (x1 x2 : FVec Ideal S4608x1024 .f32) (x3 : FVec Ideal S16x513 .f32)
  (x4 : FVec Ideal S4096x1024 .f32)
  (Q D : Fin 16 → Fin 4096 → Fin 64 → ℝ) (K V : Fin 16 → Fin 4608 → Fin 64 → ℝ) (B : Fin 16 → Fin 513 → ℝ)
  (hq : ∀ h i e, x0 (ix2 i (hlane h e)) = ((Q h i e : ℝ) : EReal))
  (hk : ∀ h j e, x1 (ix2 j (hlane h e)) = ((K h j e : ℝ) : EReal))
  (hv : ∀ h j e, x2 (ix2 j (hlane h e)) = ((V h j e : ℝ) : EReal))
  (hb : ∀ h z, x3 (ix2 h z) = ((B h z : ℝ) : EReal))
  (hd : ∀ h i e, x4 (ix2 i (hlane h e)) = ((D h i e : ℝ) : EReal))

include hq hk hv hb hd

theorem drel_apply (h : Fin 16) (z : Fin 513) :
    val_main_v98 (F := Ideal) x0 x1 x2 x3 x4 (ix2 h z)
      = ((AttnDiagonals.grad (ds (Q h) (D h) (K h) (V h) (B h)) z.val : ℝ) : EReal) := by
  refine (Cert.ScatterRead.add_cols _ _ _ _ (fun i j => col (back i j)) AttnMask.column_at h z).trans ?_
  have h0 : val_main_v97 (F := Ideal) (ix2 h z) = 0 := by pointwise [val_main_v97, val_main_cst_23]
  rw [h0, zero_add]
  unfold AttnDiagonals.grad
  rw [← sum_real]
  refine Finset.sum_congr rfl fun i _ => ?_
  rw [← sum_real]
  refine Finset.sum_congr rfl fun j _ => ?_
  rw [AttnBackward.ds_apply x0 x1 x2 x3 x4 Q D K V B hq hk hv hb hd]
  by_cases hc : col (back i j) = z
  · rw [if_pos hc, if_pos (congrArg Fin.val hc)]
  · rw [if_neg hc, if_neg fun hv => hc (Fin.ext hv)]
    rfl

end Reference

/-! ### The kernel's program -/

open Cert.AttnKernelIdeal Cert.AttnKernelIdeal.Gen

variable (m : (ℓ : Loc nD τ sig) → Buf (Elt Ideal) ℓ) (c : Dev nD)

/-- The head pairs' tiles side by side. -/
abbrev tiles : (⟨S16x128x768, .f32⟩ : BufTy).Contents (Elt Ideal) := (dats m 0 c).arrAt 9 cfg0.N

theorem tail : Pipeline.afterTail₀ cfgs (dats m) 0 (V0 m) [hostOps1, hostOps1_1, hostOps1_2] c main_v109
    = Cert.BiasReferenceIdeal.Read.val_main_v20 (F := Ideal)
        (extractStridedSlice S16x128x640 ![0, 0, 0] (tiles m c) slices_S16x128x768_S16x128x640_0_0_0) := by
  unfold Pipeline.afterTail₀
  after_reads_simp
  have harr : Pipeline.withArrays spec0 c (V0 m c) (fun w => (dats m 0 c).arrAt w cfg0.N) (Proc.tc.devRef main_v87_3) = tiles m c :=
    Pipeline.withArrays_arr_shared spec0 c (V0 m c) (fun w => (dats m 0 c).arrAt w cfg0.N)
      ((dats m 0 c).arrAt_sharedIn sharedIn0 (V0 m c) (A_eq m c) cfg0.N) 9
  rw [harr]
  generalize tiles m c = y
  sl_kernel_rfl

theorem idx9 : ∀ t : Fin cfg0.N, win0_9.index t 0 = t.val ∧ win0_9.index t 1 = 0 ∧ win0_9.index t 2 = 0 :=
  (by decide +kernel : ∀ t : Fin grid0.N, win0_9.index t 0 = t.val ∧ win0_9.index t 1 = 0 ∧ win0_9.index t 2 = 0)

/-- A head's tile is what its pair computed. -/
theorem db_array (t : Fin cfg0.N) (a : Fin 2) (r : Fin 128) (j : Fin 768) :
    tiles m c (ix3 (hd t a) r j) = pairDb m c t (ix3 a r j) := by
  have hb := congrFun ((dats m 0 c).read_blk_arrAt_eq_flushed 9 (fun t t' _ _ hne => (cfg0.win 9).disjoint_blk fun h =>
    hne (Fin.ext (by rw [← (idx9 t).1, ← (idx9 t').1]; exact congrFun h 0))) cfg0.N t t.isLt (flush0_9 t)) (ix3 a r j)
  rw [View.read_apply, show ((cfg0.win 9).blk t).view.emb (ix3 a r j) = ix3 (hd t a) r j from funext fun z => Fin.ext (by
    match z with
    | ⟨0, _⟩ => show win0_9.index t 0 * 2 + 1 * a.val = 2 * t.val + a.val; rw [(idx9 t).1]; omega
    | ⟨1, _⟩ => show win0_9.index t 1 * 128 + 1 * r.val = r.val; rw [(idx9 t).2.1]; omega
    | ⟨2, _⟩ => show win0_9.index t 2 * 768 + 1 * j.val = j.val; rw [(idx9 t).2.2]; omega)] at hb
  exact hb

theorem head_split (h : Fin 16) : ∃ (t : Fin cfg0.N) (a : Fin 2), h = hd t a := by
  have hN : cfg0.N = 8 := N_0
  exact ⟨⟨h.val / 2, by omega⟩, ⟨h.val % 2, by omega⟩, Fin.ext (by unfold hd; dsimp only; omega)⟩

variable (Q D : Fin 16 → Fin 4096 → Fin 64 → ℝ) (K W : Fin 16 → Fin 4608 → Fin 64 → ℝ) (B : Fin 16 → Fin 513 → ℝ)
  (hq : ∀ h i e, q m c (ix2 i (hlane h e)) = ((Q h i e : ℝ) : EReal))
  (hk : ∀ h j e, k m c (ix2 j (hlane h e)) = ((K h j e : ℝ) : EReal))
  (hv : ∀ h j e, v m c (ix2 j (hlane h e)) = ((W h j e : ℝ) : EReal))
  (hb : ∀ h z, rel m c (ix2 h z) = ((B h z : ℝ) : EReal))
  (hd' : ∀ h i e, ct m c (ix2 i (hlane h e)) = ((D h i e : ℝ) : EReal))

include hq hk hv hb hd'

theorem drel_real (h : Fin 16) (z : Fin 513) :
    Pipeline.afterTail₀ cfgs (dats m) 0 (V0 m) [hostOps1, hostOps1_1, hostOps1_2] c main_v109 (ix2 h z)
      = ((AttnDiagonals.grad (ds (Q h) (D h) (K h) (W h) (B h)) z.val : ℝ) : EReal) := by
  rw [tail]
  refine (BiasClaim.reference_grad _ (fun h => AttnDiagonals.entry (ds (Q h) (D h) (K h) (W h) (B h))) (fun h r j => ?_) h z).trans
    (congrArg _ (AttnDiagonals.by_distance _ (fun i j => ds_far _ _ _ _ _) z.val))
  obtain ⟨t, a, rfl⟩ := head_split h
  have hs : extractStridedSlice S16x128x640 ![0, 0, 0] (tiles m c) slices_S16x128x768_S16x128x640_0_0_0 (ix3 (hd t a) r j)
      = tiles m c (ix3 (hd t a) r (AttnDiagonals.wide j)) := by
    generalize tiles m c = y
    pointwise
    rfl
  rw [hs, db_array]
  exact AttnDiagonals.db_real (queries_real m c Q hq t) (keys_real m c K hk t) (values_real m c W hv t) (bias_real m c B hb t)
    (outputs_real m c Q K W B hq hk hv hb t) (cotangents_real m c D hd' t) a r j

end Cert.AttnTable

end
-- ==== Proof.AttnClaim.lean ====
/-
  The attention claim: from finite arguments the kernel's four gradients and the four results of the reference are the
  same real numbers.
-/
module

public import proofs.«01_k».proof.Defs
public import proofs.«01_k».proof.Proof.AttnTable
public import proofs.«01_k».proof.Proof.Gen.AttnReferenceIdeal.Run
public import proofs.«01_k».proof.Proof.Gen.Pre_finite_attn

@[expose] public section

set_option maxRecDepth 16384

noncomputable section

namespace Cert.AttnClaim

open Idealize.ShloMosaic Idealize.ShloMosaic.TcCoe Idealize.SL.Sem
open Cert.AttnKernelIdeal Cert.AttnKernelIdeal.Gen Cert.Finite Cert.AttnSpec Cert.AttnInputs Cert.AttnFrame
open Cert.AttnMask (hlane)

/-- Two arrays of 1024 columns that agree head by head are equal. -/
theorem ext_heads {N : ℕ} {x y : (⟨2, ![N, 1024]⟩ : Shape).Idx → EReal}
    (h : ∀ (t : Fin cfg0.N) (a : Fin 2) (i : Fin N) (e : Fin 64), x (ix2 i (hlane (hd t a) e)) = y (ix2 i (hlane (hd t a) e))) :
    x = y := by
  funext i
  rw [eq_ix2 i]
  obtain ⟨t, a, e, hz⟩ := AttnArray.column_split (i 1)
  rw [hz, pcol_lane]
  exact h t a _ e

/-- The four gradients of the attention block. -/
theorem claim : Cert.algebraic_AttnKernelIdeal_AttnReferenceIdeal_pre_finite_attn := by
  intro m ρ m' ρ' hpre hag
  refine ⟨_, _, _, _, (θ_run defs _ _).mono (fun r h c => ⟨(h.1 c).1.1, (h.1 c).1.2.1, (h.1 c).1.2.2.1, (h.1 c).1.2.2.2, (h.1 c).2⟩) (arrays m ρ),
    (θ_run Cert.AttnReferenceIdeal.defs _ _).mono (fun r h c => ?_) (Cert.AttnReferenceIdeal.Value.run m' ρ')⟩
  obtain ⟨h0, h1, h2, h3, rest⟩ := h c
  obtain ⟨p0, p1, p2, p3, p4⟩ := hpre c
  obtain ⟨a0, a1, a2, a3, a4⟩ := hag c
  obtain ⟨X0, e0⟩ := array_of_test _ _ _ p0
  obtain ⟨X1, e1⟩ := array_of_test _ _ _ p1
  obtain ⟨X2, e2⟩ := array_of_test _ _ _ p2
  obtain ⟨X3, e3⟩ := array_of_test _ _ _ p3
  obtain ⟨X4, e4⟩ := array_of_test _ _ _ p4
  have f0 := fun (h : Fin 16) (i : Fin 4096) (e : Fin 64) => e0 (ix2 i (hlane h e))
  have f1 := fun (h : Fin 16) (j : Fin 4608) (e : Fin 64) => e1 (ix2 j (hlane h e))
  have f2 := fun (h : Fin 16) (j : Fin 4608) (e : Fin 64) => e2 (ix2 j (hlane h e))
  have f3 := fun (h : Fin 16) (z : Fin 513) => e3 (ix2 h z)
  have f4 := fun (h : Fin 16) (i : Fin 4096) (e : Fin 64) => e4 (ix2 i (hlane h e))
  refine ⟨h0.trans ?_, h1.trans ?_, h2.trans ?_, h3.trans ?_, rest⟩
  · rw [Cert.AttnReferenceIdeal.Read.val_main_v102_eq, a0, a1, a2, a3, a4]
    exact ext_heads fun t a i e => (Cert.AttnBackward.dq_apply _ _ _ _ _ _ _ _ _ _ f0 f1 f2 f3 f4 i (hd t a) e).trans
      (AttnArray.dq_real m c _ _ _ _ _ f0 f1 f2 f3 f4 t a i e).symm
  · rw [Cert.AttnReferenceIdeal.Read.val_main_v100_eq, a0, a1, a2, a3, a4]
    exact ext_heads fun t a i e => (Cert.AttnBackward.dk_apply _ _ _ _ _ _ _ _ _ _ f0 f1 f2 f3 f4 i (hd t a) e).trans
      (AttnArray.dk_real m c _ _ _ _ _ f0 f1 f2 f3 f4 t a i e).symm
  · rw [Cert.AttnReferenceIdeal.Read.val_main_v99_eq, a0, a1, a3, a4]
    exact ext_heads fun t a i e => (Cert.AttnBackward.dv_apply _ _ _ _ _ _ _ _ f0 f1 f3 f4 i (hd t a) e).trans
      (AttnArray.dv_real m c _ _ _ _ f0 f1 f3 f4 t a i e).symm
  · rw [Cert.AttnReferenceIdeal.Read.val_main_v98_eq, a0, a1, a2, a3, a4]
    funext z
    rw [eq_ix2 z]
    exact (AttnTable.drel_apply _ _ _ _ _ _ _ _ _ _ f0 f1 f2 f3 f4 _ _).trans
      (AttnTable.drel_real m c _ _ _ _ _ f0 f1 f2 f3 f4 _ _).symm

end Cert.AttnClaim

end
-- ==== Proof.AttnWords.lean ====
/-
  The frame of the attention kernel at the machine's own words. It is the frame of the idealized program read with the
  mask at its word, for the two programs differ in that constant alone.
-/
module

public import proofs.«01_k».proof.Defs
public import proofs.«01_k».proof.Proof.AttnFrame
public import proofs.«01_k».proof.Proof.Gen.AttnKernel
public import Idealize.ShloMosaic.Lib.Tactic

@[expose] public section

set_option maxRecDepth 65536

noncomputable section

namespace Cert.AttnWords

open Idealize.ShloMosaic Idealize.ShloMosaic.TcCoe Idealize.SL.Sem

/-- A named constant read at its word. -/
local instance atWord : Named Bits := ⟨fun _ _ {φ} w => Scalar.ofBits φ w⟩

/-- The idealized program's frame at words. -/
def Words : Prop :=
  ∀ (m : (ℓ : Loc Cert.AttnKernelIdeal.nD Cert.AttnKernelIdeal.τ Cert.AttnKernelIdeal.sig) → Buf (Elt Bits) ℓ)
    (ρ : Dev Cert.AttnKernelIdeal.nD → PrngReg), True →
    θ_run (Cert.AttnKernelIdeal.defs (F := Bits)) (onTc (τ := Cert.AttnKernelIdeal.τ) (Cert.AttnKernelIdeal.main (F := Bits)))
      ⟨m, fun _ => 0, ρ⟩ (fun r => (∀ c : Dev Cert.AttnKernelIdeal.nD,
        r.2.mem ((c.tc : Thread Cert.AttnKernelIdeal.nD Cert.AttnKernelIdeal.τ).loc Cert.AttnKernelIdeal.main_arg0)
            = m ((c.tc : Thread Cert.AttnKernelIdeal.nD Cert.AttnKernelIdeal.τ).loc Cert.AttnKernelIdeal.main_arg0)
        ∧ r.2.mem ((c.tc : Thread Cert.AttnKernelIdeal.nD Cert.AttnKernelIdeal.τ).loc Cert.AttnKernelIdeal.main_arg1)
            = m ((c.tc : Thread Cert.AttnKernelIdeal.nD Cert.AttnKernelIdeal.τ).loc Cert.AttnKernelIdeal.main_arg1)
        ∧ r.2.mem ((c.tc : Thread Cert.AttnKernelIdeal.nD Cert.AttnKernelIdeal.τ).loc Cert.AttnKernelIdeal.main_arg2)
            = m ((c.tc : Thread Cert.AttnKernelIdeal.nD Cert.AttnKernelIdeal.τ).loc Cert.AttnKernelIdeal.main_arg2)
        ∧ r.2.mem ((c.tc : Thread Cert.AttnKernelIdeal.nD Cert.AttnKernelIdeal.τ).loc Cert.AttnKernelIdeal.main_arg3)
            = m ((c.tc : Thread Cert.AttnKernelIdeal.nD Cert.AttnKernelIdeal.τ).loc Cert.AttnKernelIdeal.main_arg3)
        ∧ r.2.mem ((c.tc : Thread Cert.AttnKernelIdeal.nD Cert.AttnKernelIdeal.τ).loc Cert.AttnKernelIdeal.main_arg4)
            = m ((c.tc : Thread Cert.AttnKernelIdeal.nD Cert.AttnKernelIdeal.τ).loc Cert.AttnKernelIdeal.main_arg4))
        ∧ r.2.sem = fun _ => 0)

theorem words : Words := fun m ρ _ => AttnFrame.frame m ρ

theorem same : Words = Cert.quiescent_AttnKernel (hAttnKernel := Cert.AttnKernel.Gen.facts) := by
  sl_kernel_rfl

theorem frame : Cert.quiescent_AttnKernel (hAttnKernel := Cert.AttnKernel.Gen.facts) := same ▸ words

end Cert.AttnWords
-- ==== Proof.NormBack.lean ====
/-
  The gradient of a product with a normed row, over the real numbers: what the calls that go back through a projection
  and a norm compute for a row, and sums over the blocks of rows.
-/
module

public import proofs.«01_k».proof.Proof.Norm

@[expose] public section

noncomputable section

namespace Cert.NormBack

open Cert.Finite Cert.Norm

/-- What arrives at a normed, weighted row: the products of the cotangent with the rows of the projection. -/
def arrive {n : ℕ} (d : Fin n → ℝ) (w : Fin 1024 → Fin n → ℝ) (k : Fin 1024) : ℝ := ∑ p, d p * w k p

/-- A row's gradient from what arrives at the normed, weighted row. -/
def rowDx (x y g : Fin 1024 → ℝ) (k : Fin 1024) : ℝ := back 1024 x (fun j => y j * g j) k

/-- A row's share of the weight's gradient. -/
def rowDg (x y : Fin 1024 → ℝ) (k : Fin 1024) : ℝ := y k * (x k * scale 1024 x)

/-- An entry with a real number added. -/
def plus (u : EReal) (a : ℝ) : EReal := u + (a : EReal)

/-- A function of the rows, zero past them. -/
def onRows (f : Fin 4096 → ℝ) (n : ℕ) : ℝ := if h : n < 4096 then f ⟨n, h⟩ else 0

theorem onRows_eq (f : Fin 4096 → ℝ) (r : Fin 4096) : onRows f r.val = f r := dif_pos r.isLt

theorem sum_blocks (b : ℕ) (f : ℕ → ℝ) : ∀ N, ∑ t ∈ Finset.range N, ∑ r : Fin b, f (b * t + r.val) = ∑ i ∈ Finset.range (b * N), f i
  | 0 => by simp
  | N + 1 => by
    rw [Finset.sum_range_succ, sum_blocks b f N, Nat.mul_succ, Finset.sum_range_add, Fin.sum_univ_eq_sum_range (fun i => f (b * N + i)) b]

/-- The sum over the blocks of rows is the sum over the rows. -/
theorem sum_all (b N : ℕ) (h : b * N = 4096) (f : Fin 4096 → ℝ) :
    ∑ t ∈ Finset.range N, ∑ r : Fin b, onRows f (b * t + r.val) = ∑ r, f r := by
  rw [sum_blocks b (onRows f) N, h, ← Fin.sum_univ_eq_sum_range]
  exact Finset.sum_congr rfl fun r _ => by unfold onRows; rw [dif_pos r.isLt]

end Cert.NormBack

end
-- ==== Proof.BqArray.lean ====
/-
  The two result arrays of the query projection's backward kernel. Each of the four grid points leaves one block of 1024
  rows of the gradient and adds its share to the norm weight's gradient, which the first point resets.
-/
module

public import proofs.«01_k».proof.Proof.NormBack
public import proofs.«01_k».proof.Proof.Gen.BqKernelIdeal.Value
public import Idealize.ShloMosaic.Lib.Tactic
public import Idealize.ShloMosaic.Lib.Pointwise

@[expose] public section

set_option maxRecDepth 16384

noncomputable section

namespace Cert.BqArray

open Idealize.ShloMosaic Idealize.ShloMosaic.TcCoe Idealize.SL.Sem
open Idealize.ShloMosaic.Pipeline (Dat)
open Cert.BqKernelIdeal Cert.BqKernelIdeal.Gen Cert.Finite Cert.Norm Cert.NormBack

variable {F : FTy → Type} [FloatOps F]
variable (m : (ℓ : Loc nD τ sig) → Buf (Elt F) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- What a point leaves over what the accumulator held: gradient block, weight's gradient. -/
def step (d : Vec F S1024x1024 .bf16) (w : Vec F S1x1024x1024 .bf16) (x : Vec F S1024x1024 .f32) (g : Vec F S1x1024 .f32)
    (u : Vec F S1024x1024 .f32) (o : Vec F S1x1024 .f32) : Vec F S1024x1024 .f32 × Vec F S1x1024 .f32 :=
  (k0_pay1 (k0_pay4 x) (k0_pay5 x) (k0_pay6 d w g) u (k0_pay8 d w x g), k0_pay7 d w x o)

section Cases

variable (c : Dev nD) (i : grid0.Coords)
  (a1 : Memref sig .tc .vmem S1024x1024 .bf16) (h1 : a1.IsWhole) (a2 : Memref sig .tc .vmem S1x1024x1024 .bf16) (h2 : a2.IsWhole)
  (a3 : Memref sig .tc .vmem S1024x1024 .f32) (h3 : a3.IsWhole) (a4 : Memref sig .tc .vmem S1x1024 .f32) (h4 : a4.IsWhole)
  (a5 : Memref sig .tc .vmem S1024x1024 .f32) (h5 : a5.IsWhole) (a6 : Memref sig .tc .vmem S1024x1024 .f32) (h6 : a6.IsWhole)
  (a7 : Memref sig .tc .vmem S1x1024 .f32) (h7 : a7.IsWhole)
  (d : Vec F S1024x1024 .bf16) (w : Vec F S1x1024x1024 .bf16) (x : Vec F S1024x1024 .f32) (g : Vec F S1x1024 .f32)
  (u : Vec F S1024x1024 .f32) (o : Vec F S1x1024 .f32)

theorem later_dx (hc : ¬cond0_0 i) :
    out0_B_5 c i a1 h1 a2 h2 a3 h3 a4 h4 a5 h5 a6 h6 a7 h7 hc d w x g u o = (step d w x g u o).1 := by
  unfold out0_B_5
  rw [View.read_writes_eq_canon _ _ _ (cover0_B_5 c i a1 h1 a2 h2 a3 h3 a4 h4 a5 h5 a6 h6 a7 h7 hc d w x g u o)]
  unfold kernelRun0_B
  dsimp only
  sl_unfold_words
  rw [View.canon_unit_zero zeros2]
  simp only [View.readAt_eq_ld, h1.read_unread, h2.read_unread, h3.read_unread, h4.read_unread, h5.read_unread,
    View.ld_unit_zero (S := S1024x1024) zeros2, View.ld_unit_zero (S := S1x1024) zeros2, View.ld_unit_zero (S := S1x1024x1024) zeros3]
  rfl

theorem later_dg (hc : ¬cond0_0 i) :
    out0_B_6 c i a1 h1 a2 h2 a3 h3 a4 h4 a5 h5 a6 h6 a7 h7 hc d w x g u o = (step d w x g u o).2 := by
  unfold out0_B_6
  rw [View.read_writes_eq_canon _ _ _ (cover0_B_6 c i a1 h1 a2 h2 a3 h3 a4 h4 a5 h5 a6 h6 a7 h7 hc d w x g u o)]
  unfold kernelRun0_B
  dsimp only
  sl_unfold_words
  rw [View.canon_unit_zero zeros2]
  simp only [View.readAt_eq_ld, h1.read_unread, h2.read_unread, h3.read_unread, h7.read_unread,
    View.ld_unit_zero (S := S1024x1024) zeros2, View.ld_unit_zero (S := S1x1024) zeros2, View.ld_unit_zero (S := S1x1024x1024) zeros3]
  rfl

theorem first_dx (hc : cond0_0 i) :
    out0_A_5 c i a1 h1 a2 h2 a3 h3 a4 h4 a5 h5 a6 h6 a7 h7 hc d w x g u = (step d w x g u k0_pay2).1 := by
  unfold out0_A_5
  rw [View.read_writes_eq_canon _ _ _ (cover0_A_5 c i a1 h1 a2 h2 a3 h3 a4 h4 a5 h5 a6 h6 a7 h7 hc d w x g u)]
  unfold kernelRun0_A
  dsimp only
  sl_unfold_words
  rw [View.canon_unit_zero zeros2]
  simp only [View.readAt_eq_ld, h1.read_unread, h2.read_unread, h3.read_unread, h4.read_unread, h5.read_unread,
    View.ld_unit_zero (S := S1024x1024) zeros2, View.ld_unit_zero (S := S1x1024) zeros2, View.ld_unit_zero (S := S1x1024x1024) zeros3]
  rfl

theorem first_dg (hc : cond0_0 i) :
    out0_A_6 c i a1 h1 a2 h2 a3 h3 a4 h4 a5 h5 a6 h6 a7 h7 hc d w x g u = (step d w x g u k0_pay2).2 := by
  unfold out0_A_6
  rw [View.read_writes_eq_canon _ _ _ (cover0_A_6 c i a1 h1 a2 h2 a3 h3 a4 h4 a5 h5 a6 h6 a7 h7 hc d w x g u)]
  unfold kernelRun0_A
  dsimp only
  sl_unfold_words
  rw [View.canon_cons_unit_zero (S := S1x1024) zeros2, View.readCov_unit_zero (S := S1x1024) _ zeros2]
  simp only [View.readAt_eq_ld, h1.read_unread, h2.read_unread, h3.read_unread,
    View.ld_unit_zero (S := S1024x1024) zeros2, View.ld_unit_zero (S := S1x1024x1024) zeros3]
  rfl

end Cases

/-- One step at point `t`. -/
def stepAt (c : Dev nD) (t : Fin cfg0.N) : Vec F S1x1024 .f32 → Vec F S1024x1024 .f32 × Vec F S1x1024 .f32 :=
  step (iblk m c 0 t) (iblk m c 1 t) (iblk m c 2 t) (iblk m c 3 t) (iblk m c 4 t)

/-- What the accumulator holds before point `n`. -/
def held (c : Dev nD) : (n : ℕ) → n ≤ cfg0.N → Vec F S1x1024 .f32
  | 0, _ => k0_pay2
  | n + 1, h => (stepAt m c ⟨n, h⟩ (held c n (Nat.le_of_lt h))).2

/-- What the run leaves at point `n` is one step over what was held. -/
theorem outs_eq (c : Dev nD) : ∀ (n : ℕ) (h : n < cfg0.N), outsAt0 m c n h = stepAt m c ⟨n, h⟩ (held m c n (Nat.le_of_lt h))
  | 0, h => by
    rw [outsAt0_A m c ⟨0, h⟩ rfl, first_dx, first_dg]
    rfl
  | n + 1, h => by
    have hN : cfg0.N = 4 := N_0
    have hB : ¬(⟨n + 1, h⟩ : Fin cfg0.N).val % 4 = 0 := by dsimp only; omega
    rw [outsAt0_B m c ⟨n + 1, h⟩ hB, later_dx, later_dg]
    show _ = stepAt m c ⟨n + 1, h⟩ (stepAt m c ⟨n, _⟩ (held m c n _)).2
    rw [← outs_eq c n (Nat.lt_of_succ_lt h)]
    rfl

/-! ### The blocks a point reads -/

theorem idx_rows : ∀ t : Fin cfg0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0) :=
  (by decide +kernel : ∀ t : Fin grid0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0))
theorem idx_whole : ∀ t : Fin cfg0.N, (win0_1.index t 0 = 0 ∧ win0_1.index t 1 = 0 ∧ win0_1.index t 2 = 0) ∧ (win0_3.index t 0 = 0 ∧ win0_3.index t 1 = 0) :=
  (by decide +kernel : ∀ t : Fin grid0.N, (win0_1.index t 0 = 0 ∧ win0_1.index t 1 = 0 ∧ win0_1.index t 2 = 0) ∧ (win0_3.index t 0 = 0 ∧ win0_3.index t 1 = 0))

/-- Row `r` of block `t` is row `1024 t + r` of the array. -/
def row (t : Fin cfg0.N) (r : Fin 1024) : Fin 4096 :=
  ⟨1024 * t.val + r.val, by have := t.isLt; have h : cfg0.N = 4 := N_0; have := r.isLt; omega⟩

theorem block_x (c : Dev nD) (t : Fin cfg0.N) (r k : Fin 1024) :
    iblk m c 2 t (ix2 r k) = m ((c.tc : Thread nD τ).loc main_arg2) (ix2 (row t r) k) := by
  unfold iblk
  rw [View.read_apply, ← V_main_arg2 m c]
  refine congrArg (V m c main_arg2) (funext fun a => Fin.ext ?_)
  match a with
  | ⟨0, _⟩ => show win0_2.index t 0 * 1024 + 1 * r.val = 1024 * t.val + r.val; rw [(idx_rows t).2.1.1]; omega
  | ⟨1, _⟩ => show win0_2.index t 1 * 1024 + 1 * k.val = k.val; rw [(idx_rows t).2.1.2]; omega

theorem block_u (c : Dev nD) (t : Fin cfg0.N) (r k : Fin 1024) :
    iblk m c 4 t (ix2 r k) = m ((c.tc : Thread nD τ).loc main_arg4) (ix2 (row t r) k) := by
  unfold iblk
  rw [View.read_apply, ← V_main_arg4 m c]
  refine congrArg (V m c main_arg4) (funext fun a => Fin.ext ?_)
  match a with
  | ⟨0, _⟩ => show win0_4.index t 0 * 1024 + 1 * r.val = 1024 * t.val + r.val; rw [(idx_rows t).2.2.1.1]; omega
  | ⟨1, _⟩ => show win0_4.index t 1 * 1024 + 1 * k.val = k.val; rw [(idx_rows t).2.2.1.2]; omega

theorem block_d (c : Dev nD) (t : Fin cfg0.N) (r k : Fin 1024) :
    iblk m c 0 t (ix2 r k) = FloatOps.truncf .bf16 bitsLt_bf16_f32 (m ((c.tc : Thread nD τ).loc main_arg0) (ix2 (row t r) k)) := by
  unfold iblk
  rw [View.read_apply]
  show V m c main_v0 (((cfg0.win 0).blk t).view.emb (ix2 r k)) = _
  rw [show ((cfg0.win 0).blk t).view.emb (ix2 r k) = ix2 (row t r) k from funext fun a => Fin.ext (by
    match a with
    | ⟨0, _⟩ => show win0_0.index t 0 * 1024 + 1 * r.val = 1024 * t.val + r.val; rw [(idx_rows t).1.1]; omega
    | ⟨1, _⟩ => show win0_0.index t 1 * 1024 + 1 * k.val = k.val; rw [(idx_rows t).1.2]; omega)]
  show StableHlo.after hostOps0 (fun b => m (c, b)) main_v0 (ix2 (row t r) k) = _
  rw [show StableHlo.after hostOps0 (fun b => m (c, b)) main_v0
      = truncf .bf16 (m ((c.tc : Thread nD τ).loc main_arg0)) bitsLt_bf16_f32 from by after_results_simp <;> rfl]
  rfl

theorem block_w (c : Dev nD) (t : Fin cfg0.N) (k p : Fin 1024) :
    iblk m c 1 t (ix3 0 k p) = FloatOps.truncf .bf16 bitsLt_bf16_f32 (m ((c.tc : Thread nD τ).loc main_arg1) (ix2 k p)) := by
  unfold iblk
  rw [View.read_apply]
  show V m c main_v2 (((cfg0.win 1).blk t).view.emb (ix3 0 k p)) = _
  rw [show ((cfg0.win 1).blk t).view.emb (ix3 0 k p) = ix3 (0 : Fin 1) k p from funext fun a => Fin.ext (by
    match a with
    | ⟨0, _⟩ => show win0_1.index t 0 * 1 + 1 * 0 = 0; rw [(idx_whole t).1.1]
    | ⟨1, _⟩ => show win0_1.index t 1 * 1024 + 1 * k.val = k.val; rw [(idx_whole t).1.2.1]; omega
    | ⟨2, _⟩ => show win0_1.index t 2 * 1024 + 1 * p.val = p.val; rw [(idx_whole t).1.2.2]; omega)]
  show StableHlo.after hostOps0 (fun b => m (c, b)) main_v2 (ix3 0 k p) = _
  rw [show StableHlo.after hostOps0 (fun b => m (c, b)) main_v2
      = broadcastInDim S1x1024x1024 ![1, 2] bcast_S1024x1024_S1x1024x1024_1_2 (truncf .bf16 (m ((c.tc : Thread nD τ).loc main_arg1)) bitsLt_bf16_f32) from by after_results_simp <;> rfl]
  pointwise

theorem block_g (c : Dev nD) (t : Fin cfg0.N) (k : Fin 1024) :
    iblk m c 3 t (ix2 0 k) = m ((c.tc : Thread nD τ).loc main_arg3) (ix1 k) := by
  unfold iblk
  rw [View.read_apply]
  show V m c main_v3 (((cfg0.win 3).blk t).view.emb (ix2 0 k)) = _
  rw [show ((cfg0.win 3).blk t).view.emb (ix2 0 k) = ix2 (0 : Fin 1) k from funext fun a => Fin.ext (by
    match a with
    | ⟨0, _⟩ => show win0_3.index t 0 * 1 + 1 * 0 = 0; rw [(idx_whole t).2.1]
    | ⟨1, _⟩ => show win0_3.index t 1 * 1024 + 1 * k.val = k.val; rw [(idx_whole t).2.2]; omega)]
  show StableHlo.after hostOps0 (fun b => m (c, b)) main_v3 (ix2 0 k) = _
  rw [show StableHlo.after hostOps0 (fun b => m (c, b)) main_v3
      = shapeCast S1x1024 (m ((c.tc : Thread nD τ).loc main_arg3)) shapeCasts_S1024_S1x1024 from by after_results_simp <;> rfl]
  pointwise

/-! ### The arrays after the run -/

/-- Row `r` of block `t` of the gradient array is what point `t` computed for its row `r`. -/
theorem dx_array (c : Dev nD) (t : Fin cfg0.N) (r k : Fin 1024) :
    (dats m 0 c).arrAt 5 cfg0.N (ix2 (row t r) k) = (stepAt m c t (held m c t.val (Nat.le_of_lt t.isLt))).1 (ix2 r k) := by
  have hb := congrFun (Cert.BqKernelIdeal.Value.blocks5 m c t (flush0_5 t)) (ix2 r k)
  rw [Cert.BqKernelIdeal.Value.flushed5 m c t, outs_eq m c t.val t.isLt] at hb
  rw [View.read_apply] at hb
  rw [show ((cfg0.win 5).blk t).view.emb (ix2 r k) = ix2 (row t r) k from funext fun a => Fin.ext (by
    match a with
    | ⟨0, _⟩ => show win0_5.index t 0 * 1024 + 1 * r.val = 1024 * t.val + r.val; rw [(idx_rows t).2.2.2.1]; omega
    | ⟨1, _⟩ => show win0_5.index t 1 * 1024 + 1 * k.val = k.val; rw [(idx_rows t).2.2.2.2]; omega)] at hb
  exact hb

/-- What the accumulator holds after the last point. -/
def final (c : Dev nD) : Vec F S1x1024 .f32 := held m c 4 (by rw [show cfg0.N = 4 from N_0])

theorem final_eq (c : Dev nD) : (outsAt0 m c t0_3.val t0_3.isLt).2 = final m c := by
  rw [outs_eq]; rfl

theorem last_point (t : Fin cfg0.N) (h : t.val % 4 = 3) : t = t0_3 := by
  have hN : cfg0.N = 4 := N_0
  exact Fin.ext (by have := t.isLt; show t.val = 3; omega)

theorem dg_flushed (c : Dev nD) (t : Fin cfg0.N) (hf : (cfg0.win 6).flush t = true) :
    (dats m 0 c).flushed 6 t = ((cfg0.win 6).blk t).view.read (Elt F) (final m c) := by
  obtain rfl : t = t0_3 := last_point t ((flush0_6 t).mp hf)
  rw [Cert.BqKernelIdeal.Value.flushed6 m c t0_3, final_eq]
  have hz' : (fun a => win0_6.index t0_3 a * main_v4_1.ty.shape.size a) = fun _ => 0 := funext fun a => by fin_cases a <;> decide
  exact (Memref.read_access_unit_zero (Elt F) main_v4_1 hz' (fun a => by rw [congrFun hz' a]; simp) (final m c)).symm

/-- The weight's gradient array is its accumulator after the last point. -/
theorem dg_array (c : Dev nD) : (dats m 0 c).arrAt 6 cfg0.N = final m c :=
  (dats m 0 c).arrAt_eq_of_cover 6 (final m c) (dg_flushed m c) fun i =>
    ⟨t0_3, (flush0_6 t0_3).mpr rfl, by
      show i ∈ ((View.whole main_v4_1).slice (win0_6.rect t0_3)).set
      rw [View.set_slice_whole, Rect.mem_set_unit]
      intro a
      have h0 : (i 0 : Nat) < 1 := (i 0).isLt
      have h1 : (i 1 : Nat) < 1024 := (i 1).isLt
      match a with
      | ⟨0, _⟩ => show win0_6.index t0_3 0 * win0_6.size 0 ≤ (i 0 : Nat) ∧ (i 0 : Nat) < win0_6.index t0_3 0 * win0_6.size 0 + win0_6.xsize (grid0.coords t0_3) 0
                  rw [show win0_6.index t0_3 0 * win0_6.size 0 = 0 from by decide +kernel, show win0_6.xsize (grid0.coords t0_3) 0 = 1 from by decide +kernel]; omega
      | ⟨1, _⟩ => show win0_6.index t0_3 1 * win0_6.size 1 ≤ (i 1 : Nat) ∧ (i 1 : Nat) < win0_6.index t0_3 1 * win0_6.size 1 + win0_6.xsize (grid0.coords t0_3) 1
                  rw [show win0_6.index t0_3 1 * win0_6.size 1 = 0 from by decide +kernel, show win0_6.xsize (grid0.coords t0_3) 1 = 1024 from by decide +kernel]; omega⟩

end Cert.BqArray

end
-- ==== Proof.BqReference.lean ====
/-
  The reference of the query projection and its norm read over the real numbers.
-/
module

public import proofs.«01_k».proof.Proof.NormBack
public import proofs.«01_k».proof.Proof.Gen.BqReferenceIdeal.Read
public import Idealize.ShloMosaic.Lib.Pointwise

@[expose] public section

set_option maxRecDepth 16384

noncomputable section

namespace Cert.BqReference

open Idealize.ShloMosaic Cert.BqReferenceIdeal Cert.BqReferenceIdeal.Read Cert.Finite Cert.Norm Cert.NormBack

variable (d : FVec Ideal S4096x1024 .f32) (w : FVec Ideal S1024x1024 .f32) (x up : FVec Ideal S4096x1024 .f32) (g : FVec Ideal S1024 .f32)
  (D : Fin 4096 → Fin 1024 → ℝ) (W : Fin 1024 → Fin 1024 → ℝ) (X : Fin 4096 → Fin 1024 → ℝ) (G : Fin 1024 → ℝ)
  (hd : ∀ r p, d (ix2 r p) = ((D r p : ℝ) : EReal)) (hw : ∀ k p, w (ix2 k p) = ((W k p : ℝ) : EReal))
  (hx : ∀ r k, x (ix2 r k) = ((X r k : ℝ) : EReal)) (hg : ∀ k, g (ix1 k) = ((G k : ℝ) : EReal))

include hx in
theorem meanSq_real (r : Fin 4096) (z : Fin 1) : val_main_v6 (F := Ideal) x (ix2 r z) = ((meanSq 1024 (X r) : ℝ) : EReal) := by
  pointwise [val_main_v6, val_main_v5, val_main_v4, val_main_v3, val_main_v2, val_main_v1, val_main_v0, val_main_cst, val_main_cst_0, val_main_cst_1]
  simp only [hx, mul_real, sum_real, word_1024, div_1024, word_eps, add_real]
  rfl

include hx in
theorem scale_real (r : Fin 4096) (z : Fin 1) : val_main_v7 (F := Ideal) x (ix2 r z) = ((scale 1024 (X r) : ℝ) : EReal) := by
  pointwise [val_main_v7]
  rw [meanSq_real x X hx]
  exact rsqrt_real (meanSq_pos (c := 1024) (by norm_num) (X r))

include hx in
theorem slope_real (r : Fin 4096) (z : Fin 1) :
    val_main_v10 (F := Ideal) x (ix2 r z) = ((-(1 / 2) * (scale 1024 (X r) / meanSq 1024 (X r)) : ℝ) : EReal) := by
  pointwise [val_main_v10, val_main_v9, val_main_v8, val_main_cst_2]
  rw [meanSq_real x X hx, scale_real x X hx, div_real _ (meanSq_pos (c := 1024) (by norm_num) (X r)).ne', word_neg_half, mul_real]

include hd hw in
theorem arrive_real (r : Fin 4096) (k : Fin 1024) :
    val_main_v17 (F := Ideal) d w (ix2 r k) = ((arrive (D r) W k : ℝ) : EReal) := by
  pointwise [val_main_v17]
  simp only [hd, hw, mul_real, sum_real]
  rfl

include hd hw hx hg

theorem dx_real (r : Fin 4096) (k : Fin 1024) :
    val_main_v38 (F := Ideal) d w x g up (ix2 r k) = plus (up (ix2 r k)) (rowDx (X r) (arrive (D r) W) G k) := by
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v13, val_main_cst_5, val_main_cst_6, val_main_cst_7]
  simp only [arrive_real d w D W hd hw, scale_real x X hx, slope_real x X hx, hx, hg, mul_real, sum_real, word_1024, div_1024,
    add_real, Finset.univ_unique, Finset.sum_singleton, Fin.default_eq_zero]
  exact congrArg (fun a : ℝ => up (ix2 r k) + (a : EReal)) (back_eq (c := 1024) (by norm_num) (X r) (fun j => arrive (D r) W j * G j) k)

omit hg in
theorem dg_real (k : Fin 1024) :
    val_main_v39 (F := Ideal) d w x (ix2 0 k) = ((∑ r, rowDg (X r) (arrive (D r) W) k : ℝ) : EReal) := by
  pointwise [val_main_v39, val_main_v23, val_main_v20, val_main_v19, val_main_v18, val_main_v12, val_main_v11, val_main_cst_3, val_main_cst_4]
  simp only [arrive_real d w D W hd hw, scale_real x X hx, hx, mul_real, sum_real, Finset.univ_unique, Finset.sum_singleton, Fin.default_eq_zero]
  exact congrArg _ (Finset.sum_congr rfl fun r _ => mul_comm _ _)

end Cert.BqReference

end
-- ==== Proof.BqClaim.lean ====
/-
  The query projection's backward claim: from finite arguments the kernel's two arrays and the reference's two results
  are the same.
-/
module

public import proofs.«01_k».proof.Defs
public import proofs.«01_k».proof.Proof.BqArray
public import proofs.«01_k».proof.Proof.BqReference
public import proofs.«01_k».proof.Proof.Gen.Pre_finite_bq

@[expose] public section

set_option maxRecDepth 16384

noncomputable section

namespace Cert.BqClaim

open Idealize.ShloMosaic Idealize.ShloMosaic.TcCoe Idealize.SL.Sem
open Cert.BqKernelIdeal Cert.BqKernelIdeal.Gen Cert.Finite Cert.Norm Cert.NormBack Cert.BqArray

section Step

variable (d : FVec Ideal S1024x1024 .bf16) (w : FVec Ideal S1x1024x1024 .bf16) (x u : FVec Ideal S1024x1024 .f32) (g o : FVec Ideal S1x1024 .f32)
  (D X : Fin 1024 → Fin 1024 → ℝ) (W : Fin 1024 → Fin 1024 → ℝ) (G O : Fin 1024 → ℝ)
  (hd : ∀ r p, d (ix2 r p) = ((D r p : ℝ) : EReal)) (hw : ∀ k p, w (ix3 0 k p) = ((W k p : ℝ) : EReal))
  (hx : ∀ r k, x (ix2 r k) = ((X r k : ℝ) : EReal)) (hg : ∀ k, g (ix2 0 k) = ((G k : ℝ) : EReal)) (ho : ∀ k, o (ix2 0 k) = ((O k : ℝ) : EReal))

include hx in
theorem scale_real (r : Fin 1024) (z : Fin 1) : k0_pay4 (F := Ideal) x (ix2 r z) = ((scale 1024 (X r) : ℝ) : EReal) := by
  pointwise [k0_pay4]
  simp only [hx, mul_real, sum_real, word_1024, div_1024, word_eps, add_real]
  exact rsqrt_real (meanSq_pos (c := 1024) (by norm_num) (X r))

include hd hw in
theorem arrive_real (r k : Fin 1024) : k0_pay3 (F := Ideal) d w (ix2 r k) = ((arrive (D r) W k : ℝ) : EReal) := by
  pointwise [k0_pay3]
  simp only [hd, hw, mul_real, sum_real]
  rfl

include hd hw hx hg in
/-- The gradient block: the earlier gradient and the row's own. -/
theorem step_dx (r k : Fin 1024) :
    (step (F := Ideal) d w x g u o).1 (ix2 r k) = plus (u (ix2 r k)) (rowDx (X r) (arrive (D r) W) G k) := by
  unfold step
  pointwise [k0_pay1, k0_pay5, k0_pay6, k0_pay8]
  simp only [scale_real x X hx, arrive_real d w D W hd hw, hx, hg, mul_real, sum_real, word_1024, div_1024, sub_real]
  rfl

include hd hw hx ho in
/-- The block's share of the weight's gradient is added to what the accumulator held. -/
theorem step_dg (k : Fin 1024) :
    (step (F := Ideal) d w x g u o).2 (ix2 0 k) = ((O k + ∑ r, rowDg (X r) (arrive (D r) W) k : ℝ) : EReal) := by
  unfold step
  pointwise [k0_pay7, k0_pay5]
  simp only [scale_real x X hx, arrive_real d w D W hd hw, hx, ho, mul_real, sum_real, add_real]
  rfl

end Step

variable (m : (ℓ : Loc nD τ sig) → Buf (Elt Ideal) ℓ) (c : Dev nD)
  (D : Fin 4096 → Fin 1024 → ℝ) (W : Fin 1024 → Fin 1024 → ℝ) (X : Fin 4096 → Fin 1024 → ℝ) (G : Fin 1024 → ℝ)
  (hd : ∀ r p, m ((c.tc : Thread nD τ).loc main_arg0) (ix2 r p) = ((D r p : ℝ) : EReal))
  (hw : ∀ k p, m ((c.tc : Thread nD τ).loc main_arg1) (ix2 k p) = ((W k p : ℝ) : EReal))
  (hx : ∀ r k, m ((c.tc : Thread nD τ).loc main_arg2) (ix2 r k) = ((X r k : ℝ) : EReal))
  (hg : ∀ k, m ((c.tc : Thread nD τ).loc main_arg3) (ix1 k) = ((G k : ℝ) : EReal))

include hd hw hx

theorem held_real : ∀ (n : ℕ) (h : n ≤ cfg0.N) (k : Fin 1024), held m c n h (ix2 0 k)
    = ((∑ t ∈ Finset.range n, ∑ r : Fin 1024, onRows (fun r => rowDg (X r) (arrive (D r) W) k) (1024 * t + r.val) : ℝ) : EReal)
  | 0, _, k => by
    show k0_pay2 (F := Ideal) (ix2 0 k) = _
    pointwise [k0_pay2]
    simp
  | n + 1, h, k => by
    refine (step_dg _ _ _ _ _ _ (fun r => D (row ⟨n, h⟩ r)) (fun r => X (row ⟨n, h⟩ r)) W _ (fun r p => (block_d m c ⟨n, h⟩ r p).trans (hd _ p))
      (fun k p => (block_w m c ⟨n, h⟩ k p).trans (hw k p)) (fun r k => (block_x m c ⟨n, h⟩ r k).trans (hx _ k))
      (held_real n (Nat.le_of_lt h)) k).trans (congrArg _ ?_)
    rw [Finset.sum_range_succ]
    refine congrArg _ (Finset.sum_congr rfl fun r _ => ?_)
    exact (onRows_eq (fun r => rowDg (X r) (arrive (D r) W) k) (row ⟨n, h⟩ r)).symm

theorem kernel_dg (k : Fin 1024) :
    (dats m 0 c).arrAt 6 cfg0.N (ix2 0 k) = ((∑ r, rowDg (X r) (arrive (D r) W) k : ℝ) : EReal) := by
  rw [dg_array, ← sum_all 1024 4 rfl]
  exact held_real m c D W X hd hw hx 4 _ k

include hg

theorem kernel_dx (r : Fin 4096) (k : Fin 1024) : (dats m 0 c).arrAt 5 cfg0.N (ix2 r k)
    = plus (m ((c.tc : Thread nD τ).loc main_arg4) (ix2 r k)) (rowDx (X r) (arrive (D r) W) G k) := by
  have hN : cfg0.N = 4 := N_0
  have hr := r.isLt
  obtain ⟨t, q, rfl⟩ : ∃ (t : Fin cfg0.N) (q : Fin 1024), r = row t q :=
    ⟨⟨r.val / 1024, by omega⟩, ⟨r.val % 1024, Nat.mod_lt _ (by decide)⟩, Fin.ext (by show r.val = 1024 * (r.val / 1024) + r.val % 1024; omega)⟩
  rw [dx_array, ← block_u m c t q k]
  exact step_dx _ _ _ _ _ _ (fun q => D (row t q)) (fun q => X (row t q)) W G (fun r p => (block_d m c t r p).trans (hd _ p))
    (fun k p => (block_w m c t k p).trans (hw k p)) (fun r k => (block_x m c t r k).trans (hx _ k)) (fun k => (block_g m c t k).trans (hg k)) q k

omit hd hw hx hg

theorem claim : Cert.algebraic_BqKernelIdeal_BqReferenceIdeal_pre_finite_bq := by
  intro m ρ m' ρ' hpre hag
  refine ⟨_, _, (θ_run defs _ _).mono (fun r h c => h c) (Cert.BqKernelIdeal.Value.run_blocks m ρ),
    (θ_run Cert.BqReferenceIdeal.defs _ _).mono (fun r h c => ?_) (Cert.BqReferenceIdeal.Value.run m' ρ')⟩
  obtain ⟨h0, h1, k0⟩ := h c
  obtain ⟨p0, p1, p2, p3⟩ := hpre c
  obtain ⟨a0, a1, a2, a3, a4⟩ := hag c
  obtain ⟨D, hD⟩ := array_of_test _ _ _ p0
  obtain ⟨W, hW⟩ := array_of_test _ _ _ p1
  obtain ⟨X, hX⟩ := array_of_test _ _ _ p2
  obtain ⟨G, hG⟩ := array_of_test _ _ _ p3
  have hd : ∀ r p, _ := fun r p => hD (ix2 r p)
  have hw : ∀ (k p : Fin 1024), m ((c.tc : Thread nD τ).loc main_arg1) (ix2 k p) = _ := fun k p => hW (ix2 k p)
  have hx := fun r k => hX (ix2 r k)
  have hg := fun k => hG (ix1 k)
  have hd' := fun r k => (congrFun a0 (ix2 r k)).trans (hd r k)
  have hw' := fun r k => (congrFun a1 (ix2 r k)).trans (hw r k)
  have hx' := fun r k => (congrFun a2 (ix2 r k)).trans (hx r k)
  have hg' := fun k => (congrFun a3 (ix1 k)).trans (hg k)
  refine ⟨h0.trans ?_, h1.trans ?_, k0⟩
  · rw [Cert.BqReferenceIdeal.Read.val_main_v38_eq]
    funext i
    rw [eq_ix2 i]
    refine (Cert.BqReference.dx_real _ _ _ _ _ _ _ _ _ hd' hw' hx' hg' _ _).trans (Eq.trans ?_ (kernel_dx m c _ _ _ _ hd hw hx hg _ _).symm)
    exact congrArg (fun a : EReal => plus a _) (congrFun a4 _)
  · rw [Cert.BqReferenceIdeal.Read.val_main_v39_eq]
    funext i
    have hi : i = ix2 0 (i 1) := (eq_ix2 i).trans (congrArg (fun a => ix2 a (i 1)) (Subsingleton.elim (α := Fin 1) _ _))
    rw [hi]
    exact (Cert.BqReference.dg_real _ _ _ _ _ _ hd' hw' hx' _).trans (kernel_dg m c _ _ _ hd hw hx _).symm

end Cert.BqClaim

end
-- ==== Proof.GuArray.lean ====
/-
  The two result arrays of the gate and up projection's backward kernel. Each of the eight grid points leaves one block of
  512 rows of the gradient and adds its share to the norm weight's gradient, which the first point resets.
-/
module

public import proofs.«01_k».proof.Proof.NormBack
public import proofs.«01_k».proof.Proof.Gen.GuKernelIdeal.Value
public import Idealize.ShloMosaic.Lib.Tactic
public import Idealize.ShloMosaic.Lib.Pointwise

@[expose] public section

set_option maxRecDepth 16384

noncomputable section

namespace Cert.GuArray

open Idealize.ShloMosaic Idealize.ShloMosaic.TcCoe Idealize.SL.Sem
open Idealize.ShloMosaic.Pipeline (Dat)
open Cert.GuKernelIdeal Cert.GuKernelIdeal.Gen Cert.Finite Cert.Norm Cert.NormBack

variable {F : FTy → Type} [FloatOps F]
variable (m : (ℓ : Loc nD τ sig) → Buf (Elt F) ℓ)

theorem zeros2 : (![0, 0] : Fin 2 → Nat) = fun _ => 0 := funext fun a => by fin_cases a <;> rfl

/-- The sum of the eight products of a block of 704 columns. -/
def prod (d : Vec F S8x512x704 .bf16) (w : Vec F S1x8x1024x704 .bf16) : FVec F S512x1024 .f32 :=
  k0_pay9 (k0_pay6 (View.ld d (Rect.unit (s := S8x512x704) ![0, 0, 0] S1x512x704.size inb_S8x512x704_S1x512x704_0_0_0))
      (View.ld w (Rect.unit (s := S1x8x1024x704) ![0, 0, 0, 0] S1x1x1024x704.size inb_S1x8x1024x704_S1x1x1024x704_0_0_0_0))
      (View.ld d (Rect.unit (s := S8x512x704) ![1, 0, 0] S1x512x704.size inb_S8x512x704_S1x512x704_1_0_0))
      (View.ld w (Rect.unit (s := S1x8x1024x704) ![0, 1, 0, 0] S1x1x1024x704.size inb_S1x8x1024x704_S1x1x1024x704_0_1_0_0))
      (View.ld d (Rect.unit (s := S8x512x704) ![2, 0, 0] S1x512x704.size inb_S8x512x704_S1x512x704_2_0_0))
      (View.ld w (Rect.unit (s := S1x8x1024x704) ![0, 2, 0, 0] S1x1x1024x704.size inb_S1x8x1024x704_S1x1x1024x704_0_2_0_0)))
    (k0_pay7 (View.ld d (Rect.unit (s := S8x512x704) ![3, 0, 0] S1x512x704.size inb_S8x512x704_S1x512x704_3_0_0)))
    (k0_pay8 (View.ld w (Rect.unit (s := S1x8x1024x704) ![0, 3, 0, 0] S1x1x1024x704.size inb_S1x8x1024x704_S1x1x1024x704_0_3_0_0)))
    (constant S512x1024 .f32 0x00000000#32)
    (View.ld d (Rect.unit (s := S8x512x704) ![4, 0, 0] S1x512x704.size inb_S8x512x704_S1x512x704_4_0_0))
    (View.ld w (Rect.unit (s := S1x8x1024x704) ![0, 4, 0, 0] S1x1x1024x704.size inb_S1x8x1024x704_S1x1x1024x704_0_4_0_0))
    (View.ld d (Rect.unit (s := S8x512x704) ![5, 0, 0] S1x512x704.size inb_S8x512x704_S1x512x704_5_0_0))
    (View.ld w (Rect.unit (s := S1x8x1024x704) ![0, 5, 0, 0] S1x1x1024x704.size inb_S1x8x1024x704_S1x1x1024x704_0_5_0_0))
    (View.ld d (Rect.unit (s := S8x512x704) ![6, 0, 0] S1x512x704.size inb_S8x512x704_S1x512x704_6_0_0))
    (View.ld w (Rect.unit (s := S1x8x1024x704) ![0, 6, 0, 0] S1x1x1024x704.size inb_S1x8x1024x704_S1x1x1024x704_0_6_0_0))
    (View.ld d (Rect.unit (s := S8x512x704) ![7, 0, 0] S1x512x704.size inb_S8x512x704_S1x512x704_7_0_0))
    (View.ld w (Rect.unit (s := S1x8x1024x704) ![0, 7, 0, 0] S1x1x1024x704.size inb_S1x8x1024x704_S1x1x1024x704_0_7_0_0))

/-- What a point leaves over what the accumulator held: gradient block, weight's gradient. -/
def step (d : Vec F S8x512x704 .bf16) (w : Vec F S1x8x1024x704 .bf16) (x : Vec F S512x1024 .f32) (g : Vec F S1x1024 .f32)
    (u : Vec F S512x1024 .f32) (o : Vec F S1x1024 .f32) : Vec F S512x1024 .f32 × Vec F S1x1024 .f32 :=
  (k0_pay4 (prod d w) x g u, k0_pay3 (prod d w) x o)

section Cases

variable (c : Dev nD) (i : grid0.Coords)
  (a1 : Memref sig .tc .vmem S8x512x704 .bf16) (h1 : a1.IsWhole) (a2 : Memref sig .tc .vmem S1x8x1024x704 .bf16) (h2 : a2.IsWhole)
  (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S512x1024 .f32) (h6 : a6.IsWhole)
  (a7 : Memref sig .tc .vmem S1x1024 .f32) (h7 : a7.IsWhole)
  (d : Vec F S8x512x704 .bf16) (w : Vec F S1x8x1024x704 .bf16) (x : Vec F S512x1024 .f32) (g : Vec F S1x1024 .f32)
  (u : Vec F S512x1024 .f32) (o : Vec F S1x1024 .f32)

theorem later_dx (hc : ¬cond0_0 i) :
    out0_B_5 c i a1 h1 a2 h2 a3 h3 a4 h4 a5 h5 a6 h6 a7 h7 hc d w x g u o = (step d w x g u o).1 := by
  unfold out0_B_5
  rw [View.read_writes_eq_canon _ _ _ (cover0_B_5 c i a1 h1 a2 h2 a3 h3 a4 h4 a5 h5 a6 h6 a7 h7 hc d w x g u o)]
  unfold kernelRun0_B
  dsimp only
  sl_unfold_words
  rw [View.canon_unit_zero zeros2]
  simp only [View.readAt_eq_ld, h1.read_unread, h2.read_unread, h3.read_unread, h4.read_unread, h5.read_unread,
    View.ld_unit_zero (S := S512x1024) zeros2, View.ld_unit_zero (S := S1x1024) zeros2]
  rfl

theorem later_dg (hc : ¬cond0_0 i) :
    out0_B_6 c i a1 h1 a2 h2 a3 h3 a4 h4 a5 h5 a6 h6 a7 h7 hc d w x g u o = (step d w x g u o).2 := by
  unfold out0_B_6
  rw [View.read_writes_eq_canon _ _ _ (cover0_B_6 c i a1 h1 a2 h2 a3 h3 a4 h4 a5 h5 a6 h6 a7 h7 hc d w x g u o)]
  unfold kernelRun0_B
  dsimp only
  sl_unfold_words
  rw [View.canon_unit_zero zeros2]
  simp only [View.readAt_eq_ld, h1.read_unread, h2.read_unread, h3.read_unread, h7.read_unread,
    View.ld_unit_zero (S := S512x1024) zeros2, View.ld_unit_zero (S := S1x1024) zeros2]
  rfl

theorem first_dx (hc : cond0_0 i) :
    out0_A_5 c i a1 h1 a2 h2 a3 h3 a4 h4 a5 h5 a6 h6 a7 h7 hc d w x g u = (step d w x g u k0_pay5).1 := by
  unfold out0_A_5
  rw [View.read_writes_eq_canon _ _ _ (cover0_A_5 c i a1 h1 a2 h2 a3 h3 a4 h4 a5 h5 a6 h6 a7 h7 hc d w x g u)]
  unfold kernelRun0_A
  dsimp only
  sl_unfold_words
  rw [View.canon_unit_zero zeros2]
  simp only [View.readAt_eq_ld, h1.read_unread, h2.read_unread, h3.read_unread, h4.read_unread, h5.read_unread,
    View.ld_unit_zero (S := S512x1024) zeros2, View.ld_unit_zero (S := S1x1024) zeros2]
  rfl

theorem first_dg (hc : cond0_0 i) :
    out0_A_6 c i a1 h1 a2 h2 a3 h3 a4 h4 a5 h5 a6 h6 a7 h7 hc d w x g u = (step d w x g u k0_pay5).2 := by
  unfold out0_A_6
  rw [View.read_writes_eq_canon _ _ _ (cover0_A_6 c i a1 h1 a2 h2 a3 h3 a4 h4 a5 h5 a6 h6 a7 h7 hc d w x g u)]
  unfold kernelRun0_A
  dsimp only
  sl_unfold_words
  rw [View.canon_cons_unit_zero (S := S1x1024) zeros2, View.readCov_unit_zero (S := S1x1024) _ zeros2]
  simp only [View.readAt_eq_ld, h1.read_unread, h2.read_unread, h3.read_unread,
    View.ld_unit_zero (S := S512x1024) zeros2]
  rfl

end Cases

/-- One step at point `t`. -/
def stepAt (c : Dev nD) (t : Fin cfg0.N) : Vec F S1x1024 .f32 → Vec F S512x1024 .f32 × Vec F S1x1024 .f32 :=
  step (iblk m c 0 t) (iblk m c 1 t) (iblk m c 2 t) (iblk m c 3 t) (iblk m c 4 t)

/-- What the accumulator holds before point `n`. -/
def held (c : Dev nD) : (n : ℕ) → n ≤ cfg0.N → Vec F S1x1024 .f32
  | 0, _ => k0_pay5
  | n + 1, h => (stepAt m c ⟨n, h⟩ (held c n (Nat.le_of_lt h))).2

/-- What the run leaves at point `n` is one step over what was held. -/
theorem outs_eq (c : Dev nD) : ∀ (n : ℕ) (h : n < cfg0.N), outsAt0 m c n h = stepAt m c ⟨n, h⟩ (held m c n (Nat.le_of_lt h))
  | 0, h => by
    rw [outsAt0_A m c ⟨0, h⟩ rfl, first_dx, first_dg]
    rfl
  | n + 1, h => by
    have hN : cfg0.N = 8 := N_0
    have hB : ¬(⟨n + 1, h⟩ : Fin cfg0.N).val % 8 = 0 := by dsimp only; omega
    rw [outsAt0_B m c ⟨n + 1, h⟩ hB, later_dx, later_dg]
    show _ = stepAt m c ⟨n + 1, h⟩ (stepAt m c ⟨n, _⟩ (held m c n _)).2
    rw [← outs_eq c n (Nat.lt_of_succ_lt h)]
    rfl

/-! ### The blocks a point reads -/

theorem idx_rows : ∀ t : Fin cfg0.N, (win0_0.index t 0 = 0 ∧ win0_0.index t 1 = t.val ∧ win0_0.index t 2 = 0) ∧ (win0_2.index t 0 = t.val ∧ win0_2.index t 1 = 0)
    ∧ (win0_4.index t 0 = t.val ∧ win0_4.index t 1 = 0) ∧ (win0_5.index t 0 = t.val ∧ win0_5.index t 1 = 0) :=
  (by decide +kernel : ∀ t : Fin grid0.N, (win0_0.index t 0 = 0 ∧ win0_0.index t 1 = t.val ∧ win0_0.index t 2 = 0) ∧ (win0_2.index t 0 = t.val ∧ win0_2.index t 1 = 0)
    ∧ (win0_4.index t 0 = t.val ∧ win0_4.index t 1 = 0) ∧ (win0_5.index t 0 = t.val ∧ win0_5.index t 1 = 0))
theorem idx_whole : ∀ t : Fin cfg0.N, (win0_1.index t 0 = 0 ∧ win0_1.index t 1 = 0 ∧ win0_1.index t 2 = 0 ∧ win0_1.index t 3 = 0) ∧ (win0_3.index t 0 = 0 ∧ win0_3.index t 1 = 0) :=
  (by decide +kernel : ∀ t : Fin grid0.N, (win0_1.index t 0 = 0 ∧ win0_1.index t 1 = 0 ∧ win0_1.index t 2 = 0 ∧ win0_1.index t 3 = 0) ∧ (win0_3.index t 0 = 0 ∧ win0_3.index t 1 = 0))

/-- Column `p` of the `j`-th block of 704. -/
def col (j : Fin 8) (p : Fin 704) : Fin 5632 := ⟨704 * j.val + p.val, by have := j.isLt; have := p.isLt; omega⟩

/-- Entry `(j, i, p)` of the array split in blocks of 704 columns is entry `(i, 704 j + p)`. -/
theorem split_apply {N : ℕ} {α : Type} (x : (⟨2, ![N, 5632]⟩ : Shape).Idx → α) (hc : (⟨2, ![N, 5632]⟩ : Shape).ShapeCasts ⟨3, ![N, 8, 704]⟩)
    (ht : (⟨3, ![N, 8, 704]⟩ : Shape).Transposes [1, 0, 2] ⟨3, ![8, N, 704]⟩) (j : Fin 8) (i : Fin N) (p : Fin 704) :
    transpose ⟨3, ![8, N, 704]⟩ [1, 0, 2] (shapeCast ⟨3, ![N, 8, 704]⟩ x hc) ht (ix3 j i p) = x (ix2 i (col j p)) := by
  have e : transpose ⟨3, ![8, N, 704]⟩ [1, 0, 2] (shapeCast ⟨3, ![N, 8, 704]⟩ x hc) ht (ix3 j i p) = shapeCast ⟨3, ![N, 8, 704]⟩ x hc (ix3 i j p) := by
    refine congrArg (shapeCast ⟨3, ![N, 8, 704]⟩ x hc) (funext fun a => Fin.ext ?_)
    match a with
    | ⟨0, _⟩ => rfl
    | ⟨1, _⟩ => rfl
    | ⟨2, _⟩ => rfl
  refine e.trans (shapeCast_apply x hc (ix3 i j p) (ix2 i (col j p)) ?_)
  rw [Shape.rowMajor_val_two, Shape.rowMajor_val_three]
  show i.val * 5632 + (704 * j.val + p.val) = (i.val * 8 + j.val) * 704 + p.val
  omega

theorem lead_apply {α : Type} (x : S8x1024x704.Idx → α) (j : Fin 8) (k : Fin 1024) (p : Fin 704) :
    broadcastInDim S1x8x1024x704 ![1, 2, 3] bcast_S8x1024x704_S1x8x1024x704_1_2_3 x (ix4 0 j k p) = x (ix3 j k p) := by
  refine congrArg x (funext fun a => Fin.ext ?_)
  match a with
  | ⟨0, _⟩ => rfl
  | ⟨1, _⟩ => rfl
  | ⟨2, _⟩ => rfl

/-- Row `r` of block `t` is row `512 t + r` of the array. -/
def row (t : Fin cfg0.N) (r : Fin 512) : Fin 4096 :=
  ⟨512 * t.val + r.val, by have := t.isLt; have h : cfg0.N = 8 := N_0; have := r.isLt; omega⟩

theorem block_x (c : Dev nD) (t : Fin cfg0.N) (r : Fin 512) (k : Fin 1024) :
    iblk m c 2 t (ix2 r k) = m ((c.tc : Thread nD τ).loc main_arg2) (ix2 (row t r) k) := by
  unfold iblk
  rw [View.read_apply, ← V_main_arg2 m c]
  refine congrArg (V m c main_arg2) (funext fun a => Fin.ext ?_)
  match a with
  | ⟨0, _⟩ => show win0_2.index t 0 * 512 + 1 * r.val = 512 * t.val + r.val; rw [(idx_rows t).2.1.1]; omega
  | ⟨1, _⟩ => show win0_2.index t 1 * 1024 + 1 * k.val = k.val; rw [(idx_rows t).2.1.2]; omega

theorem block_u (c : Dev nD) (t : Fin cfg0.N) (r : Fin 512) (k : Fin 1024) :
    iblk m c 4 t (ix2 r k) = m ((c.tc : Thread nD τ).loc main_arg4) (ix2 (row t r) k) := by
  unfold iblk
  rw [View.read_apply, ← V_main_arg4 m c]
  refine congrArg (V m c main_arg4) (funext fun a => Fin.ext ?_)
  match a with
  | ⟨0, _⟩ => show win0_4.index t 0 * 512 + 1 * r.val = 512 * t.val + r.val; rw [(idx_rows t).2.2.1.1]; omega
  | ⟨1, _⟩ => show win0_4.index t 1 * 1024 + 1 * k.val = k.val; rw [(idx_rows t).2.2.1.2]; omega

theorem block_d (c : Dev nD) (t : Fin cfg0.N) (j : Fin 8) (r : Fin 512) (p : Fin 704) :
    iblk m c 0 t (ix3 j r p) = FloatOps.truncf .bf16 bitsLt_bf16_f32 (m ((c.tc : Thread nD τ).loc main_arg0) (ix2 (row t r) (col j p))) := by
  unfold iblk
  rw [View.read_apply]
  show V m c main_v6 (((cfg0.win 0).blk t).view.emb (ix3 j r p)) = _
  rw [show ((cfg0.win 0).blk t).view.emb (ix3 j r p) = ix3 j (row t r) p from funext fun a => Fin.ext (by
    match a with
    | ⟨0, _⟩ => show win0_0.index t 0 * 8 + 1 * j.val = j.val; rw [(idx_rows t).1.1]; omega
    | ⟨1, _⟩ => show win0_0.index t 1 * 512 + 1 * r.val = 512 * t.val + r.val; rw [(idx_rows t).1.2.1]; omega
    | ⟨2, _⟩ => show win0_0.index t 2 * 704 + 1 * p.val = p.val; rw [(idx_rows t).1.2.2]; omega)]
  show StableHlo.after hostOps0 (fun b => m (c, b)) main_v6 (ix3 j (row t r) p) = _
  rw [show StableHlo.after hostOps0 (fun b => m (c, b)) main_v6
      = transpose S8x4096x704 [1, 0, 2] (shapeCast S4096x8x704 (truncf .bf16 (m ((c.tc : Thread nD τ).loc main_arg0)) bitsLt_bf16_f32) shapeCasts_S4096x5632_S4096x8x704) transposes_S4096x8x704_S8x4096x704_1_0_2 from by after_results_simp <;> rfl]
  exact split_apply (N := 4096) _ _ _ j (row t r) p

theorem block_w (c : Dev nD) (t : Fin cfg0.N) (j : Fin 8) (k : Fin 1024) (p : Fin 704) :
    iblk m c 1 t (ix4 0 j k p) = FloatOps.truncf .bf16 bitsLt_bf16_f32 (m ((c.tc : Thread nD τ).loc main_arg1) (ix2 k (col j p))) := by
  unfold iblk
  rw [View.read_apply]
  show V m c main_v3 (((cfg0.win 1).blk t).view.emb (ix4 0 j k p)) = _
  rw [show ((cfg0.win 1).blk t).view.emb (ix4 0 j k p) = ix4 (0 : Fin 1) j k p from funext fun a => Fin.ext (by
    match a with
    | ⟨0, _⟩ => show win0_1.index t 0 * 1 + 1 * 0 = 0; rw [(idx_whole t).1.1]
    | ⟨1, _⟩ => show win0_1.index t 1 * 8 + 1 * j.val = j.val; rw [(idx_whole t).1.2.1]; omega
    | ⟨2, _⟩ => show win0_1.index t 2 * 1024 + 1 * k.val = k.val; rw [(idx_whole t).1.2.2.1]; omega
    | ⟨3, _⟩ => show win0_1.index t 3 * 704 + 1 * p.val = p.val; rw [(idx_whole t).1.2.2.2]; omega)]
  show StableHlo.after hostOps0 (fun b => m (c, b)) main_v3 (ix4 0 j k p) = _
  rw [show StableHlo.after hostOps0 (fun b => m (c, b)) main_v3
      = broadcastInDim S1x8x1024x704 ![1, 2, 3] bcast_S8x1024x704_S1x8x1024x704_1_2_3
          (transpose S8x1024x704 [1, 0, 2] (shapeCast S1024x8x704 (truncf .bf16 (m ((c.tc : Thread nD τ).loc main_arg1)) bitsLt_bf16_f32) shapeCasts_S1024x5632_S1024x8x704) transposes_S1024x8x704_S8x1024x704_1_0_2) from by after_results_simp <;> rfl]
  exact (lead_apply _ j k p).trans (split_apply (N := 1024) _ _ _ j k p)

theorem block_g (c : Dev nD) (t : Fin cfg0.N) (k : Fin 1024) :
    iblk m c 3 t (ix2 0 k) = m ((c.tc : Thread nD τ).loc main_arg3) (ix1 k) := by
  unfold iblk
  rw [View.read_apply]
  show V m c main_v7 (((cfg0.win 3).blk t).view.emb (ix2 0 k)) = _
  rw [show ((cfg0.win 3).blk t).view.emb (ix2 0 k) = ix2 (0 : Fin 1) k from funext fun a => Fin.ext (by
    match a with
    | ⟨0, _⟩ => show win0_3.index t 0 * 1 + 1 * 0 = 0; rw [(idx_whole t).2.1]
    | ⟨1, _⟩ => show win0_3.index t 1 * 1024 + 1 * k.val = k.val; rw [(idx_whole t).2.2]; omega)]
  show StableHlo.after hostOps0 (fun b => m (c, b)) main_v7 (ix2 0 k) = _
  rw [show StableHlo.after hostOps0 (fun b => m (c, b)) main_v7
      = shapeCast S1x1024 (m ((c.tc : Thread nD τ).loc main_arg3)) shapeCasts_S1024_S1x1024 from by after_results_simp <;> rfl]
  pointwise

/-! ### The arrays after the run -/

/-- Row `r` of block `t` of the gradient array is what point `t` computed for its row `r`. -/
theorem dx_array (c : Dev nD) (t : Fin cfg0.N) (r : Fin 512) (k : Fin 1024) :
    (dats m 0 c).arrAt 5 cfg0.N (ix2 (row t r) k) = (stepAt m c t (held m c t.val (Nat.le_of_lt t.isLt))).1 (ix2 r k) := by
  have hb := congrFun (Cert.GuKernelIdeal.Value.blocks5 m c t (flush0_5 t)) (ix2 r k)
  rw [Cert.GuKernelIdeal.Value.flushed5 m c t, outs_eq m c t.val t.isLt] at hb
  rw [View.read_apply] at hb
  rw [show ((cfg0.win 5).blk t).view.emb (ix2 r k) = ix2 (row t r) k from funext fun a => Fin.ext (by
    match a with
    | ⟨0, _⟩ => show win0_5.index t 0 * 512 + 1 * r.val = 512 * t.val + r.val; rw [(idx_rows t).2.2.2.1]; omega
    | ⟨1, _⟩ => show win0_5.index t 1 * 1024 + 1 * k.val = k.val; rw [(idx_rows t).2.2.2.2]; omega)] at hb
  exact hb

/-- What the accumulator holds after the last point. -/
def final (c : Dev nD) : Vec F S1x1024 .f32 := held m c 8 (by rw [show cfg0.N = 8 from N_0])

theorem final_eq (c : Dev nD) : (outsAt0 m c t0_7.val t0_7.isLt).2 = final m c := by
  rw [outs_eq]; rfl

theorem last_point (t : Fin cfg0.N) (h : t.val % 8 = 7) : t = t0_7 := by
  have hN : cfg0.N = 8 := N_0
  exact Fin.ext (by have := t.isLt; show t.val = 7; omega)

theorem dg_flushed (c : Dev nD) (t : Fin cfg0.N) (hf : (cfg0.win 6).flush t = true) :
    (dats m 0 c).flushed 6 t = ((cfg0.win 6).blk t).view.read (Elt F) (final m c) := by
  obtain rfl : t = t0_7 := last_point t ((flush0_6 t).mp hf)
  rw [Cert.GuKernelIdeal.Value.flushed6 m c t0_7, final_eq]
  have hz' : (fun a => win0_6.index t0_7 a * main_v8_1.ty.shape.size a) = fun _ => 0 := funext fun a => by fin_cases a <;> decide
  exact (Memref.read_access_unit_zero (Elt F) main_v8_1 hz' (fun a => by rw [congrFun hz' a]; simp) (final m c)).symm

/-- The weight's gradient array is its accumulator after the last point. -/
theorem dg_array (c : Dev nD) : (dats m 0 c).arrAt 6 cfg0.N = final m c :=
  (dats m 0 c).arrAt_eq_of_cover 6 (final m c) (dg_flushed m c) fun i =>
    ⟨t0_7, (flush0_6 t0_7).mpr rfl, by
      show i ∈ ((View.whole main_v8_1).slice (win0_6.rect t0_7)).set
      rw [View.set_slice_whole, Rect.mem_set_unit]
      intro a
      have h0 : (i 0 : Nat) < 1 := (i 0).isLt
      have h1 : (i 1 : Nat) < 1024 := (i 1).isLt
      match a with
      | ⟨0, _⟩ => show win0_6.index t0_7 0 * win0_6.size 0 ≤ (i 0 : Nat) ∧ (i 0 : Nat) < win0_6.index t0_7 0 * win0_6.size 0 + win0_6.xsize (grid0.coords t0_7) 0
                  rw [show win0_6.index t0_7 0 * win0_6.size 0 = 0 from by decide +kernel, show win0_6.xsize (grid0.coords t0_7) 0 = 1 from by decide +kernel]; omega
      | ⟨1, _⟩ => show win0_6.index t0_7 1 * win0_6.size 1 ≤ (i 1 : Nat) ∧ (i 1 : Nat) < win0_6.index t0_7 1 * win0_6.size 1 + win0_6.xsize (grid0.coords t0_7) 1
                  rw [show win0_6.index t0_7 1 * win0_6.size 1 = 0 from by decide +kernel, show win0_6.xsize (grid0.coords t0_7) 1 = 1024 from by decide +kernel]; omega⟩

end Cert.GuArray

end
-- ==== Proof.GuReference.lean ====
/-
  The reference of the gate and up projection and its norm read over the real numbers.
-/
module

public import proofs.«01_k».proof.Proof.NormBack
public import proofs.«01_k».proof.Proof.Gen.GuReferenceIdeal.Read
public import Idealize.ShloMosaic.Lib.Pointwise

@[expose] public section

set_option maxRecDepth 16384

noncomputable section

namespace Cert.GuReference

open Idealize.ShloMosaic Cert.GuReferenceIdeal Cert.GuReferenceIdeal.Read Cert.Finite Cert.Norm Cert.NormBack

variable (d : FVec Ideal S4096x5632 .f32) (w : FVec Ideal S1024x5632 .f32) (x up : FVec Ideal S4096x1024 .f32) (g : FVec Ideal S1024 .f32)
  (D : Fin 4096 → Fin 5632 → ℝ) (W : Fin 1024 → Fin 5632 → ℝ) (X : Fin 4096 → Fin 1024 → ℝ) (G : Fin 1024 → ℝ)
  (hd : ∀ r p, d (ix2 r p) = ((D r p : ℝ) : EReal)) (hw : ∀ k p, w (ix2 k p) = ((W k p : ℝ) : EReal))
  (hx : ∀ r k, x (ix2 r k) = ((X r k : ℝ) : EReal)) (hg : ∀ k, g (ix1 k) = ((G k : ℝ) : EReal))

include hx in
theorem meanSq_real (r : Fin 4096) (z : Fin 1) : val_main_v6 (F := Ideal) x (ix2 r z) = ((meanSq 1024 (X r) : ℝ) : EReal) := by
  pointwise [val_main_v6, val_main_v5, val_main_v4, val_main_v3, val_main_v2, val_main_v1, val_main_v0, val_main_cst, val_main_cst_0, val_main_cst_1]
  simp only [hx, mul_real, sum_real, word_1024, div_1024, word_eps, add_real]
  rfl

include hx in
theorem scale_real (r : Fin 4096) (z : Fin 1) : val_main_v7 (F := Ideal) x (ix2 r z) = ((scale 1024 (X r) : ℝ) : EReal) := by
  pointwise [val_main_v7]
  rw [meanSq_real x X hx]
  exact rsqrt_real (meanSq_pos (c := 1024) (by norm_num) (X r))

include hx in
theorem slope_real (r : Fin 4096) (z : Fin 1) :
    val_main_v10 (F := Ideal) x (ix2 r z) = ((-(1 / 2) * (scale 1024 (X r) / meanSq 1024 (X r)) : ℝ) : EReal) := by
  pointwise [val_main_v10, val_main_v9, val_main_v8, val_main_cst_2]
  rw [meanSq_real x X hx, scale_real x X hx, div_real _ (meanSq_pos (c := 1024) (by norm_num) (X r)).ne', word_neg_half, mul_real]

include hd hw in
theorem arrive_real (r : Fin 4096) (k : Fin 1024) :
    val_main_v17 (F := Ideal) d w (ix2 r k) = ((arrive (D r) W k : ℝ) : EReal) := by
  pointwise [val_main_v17]
  simp only [hd, hw, mul_real, sum_real]
  rfl

include hd hw hx hg

theorem dx_real (r : Fin 4096) (k : Fin 1024) :
    val_main_v38 (F := Ideal) d w x g up (ix2 r k) = plus (up (ix2 r k)) (rowDx (X r) (arrive (D r) W) G k) := by
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v13, val_main_cst_5, val_main_cst_6, val_main_cst_7]
  simp only [arrive_real d w D W hd hw, scale_real x X hx, slope_real x X hx, hx, hg, mul_real, sum_real, word_1024, div_1024,
    add_real, Finset.univ_unique, Finset.sum_singleton, Fin.default_eq_zero]
  exact congrArg (fun a : ℝ => up (ix2 r k) + (a : EReal)) (back_eq (c := 1024) (by norm_num) (X r) (fun j => arrive (D r) W j * G j) k)

omit hg in
theorem dg_real (k : Fin 1024) :
    val_main_v39 (F := Ideal) d w x (ix2 0 k) = ((∑ r, rowDg (X r) (arrive (D r) W) k : ℝ) : EReal) := by
  pointwise [val_main_v39, val_main_v23, val_main_v20, val_main_v19, val_main_v18, val_main_v12, val_main_v11, val_main_cst_3, val_main_cst_4]
  simp only [arrive_real d w D W hd hw, scale_real x X hx, hx, mul_real, sum_real, Finset.univ_unique, Finset.sum_singleton, Fin.default_eq_zero]
  exact congrArg _ (Finset.sum_congr rfl fun r _ => mul_comm _ _)

end Cert.GuReference

end
-- ==== Proof.GuClaim.lean ====
/-
  The gate and up projection's backward claim: from finite arguments the kernel's two arrays and the reference's two results
  are the same.
-/
module

public import proofs.«01_k».proof.Defs
public import proofs.«01_k».proof.Proof.GuArray
public import proofs.«01_k».proof.Proof.GuReference
public import proofs.«01_k».proof.Proof.Gen.Pre_finite_gu

@[expose] public section

set_option maxRecDepth 16384

noncomputable section

namespace Cert.GuClaim

open Idealize.ShloMosaic Idealize.ShloMosaic.TcCoe Idealize.SL.Sem
open Cert.GuKernelIdeal Cert.GuKernelIdeal.Gen Cert.Finite Cert.Norm Cert.NormBack Cert.GuArray

section Step

variable (d : FVec Ideal S8x512x704 .bf16) (w : FVec Ideal S1x8x1024x704 .bf16) (x u : FVec Ideal S512x1024 .f32) (g o : FVec Ideal S1x1024 .f32)
  (D : Fin 512 → Fin 5632 → ℝ) (X : Fin 512 → Fin 1024 → ℝ) (W : Fin 1024 → Fin 5632 → ℝ) (G O : Fin 1024 → ℝ)
  (hd : ∀ j r p, d (ix3 j r p) = ((D r (col j p) : ℝ) : EReal)) (hw : ∀ j k p, w (ix4 0 j k p) = ((W k (col j p) : ℝ) : EReal))
  (hx : ∀ r k, x (ix2 r k) = ((X r k : ℝ) : EReal)) (hg : ∀ k, g (ix2 0 k) = ((G k : ℝ) : EReal)) (ho : ∀ k, o (ix2 0 k) = ((O k : ℝ) : EReal))

include hx in
theorem scale_real (r : Fin 512) (z : Fin 1) : k0_pay1 (F := Ideal) x (ix2 r z) = ((scale 1024 (X r) : ℝ) : EReal) := by
  pointwise [k0_pay1]
  simp only [hx, mul_real, sum_real, word_1024, div_1024, word_eps, add_real]
  exact rsqrt_real (meanSq_pos (c := 1024) (by norm_num) (X r))

/-- A sum over the columns, block by block of 704. -/
theorem sum_cols (f : Fin 5632 → ℝ) : ∑ p, f p = ∑ j : Fin 8, ∑ p : Fin 704, f (col j p) := by
  rw [← Equiv.sum_comp (finProdFinEquiv (m := 8) (n := 704)) f, Fintype.sum_prod_type]
  exact Finset.sum_congr rfl fun j _ => Finset.sum_congr rfl fun p _ => congrArg f (Fin.ext (Nat.add_comm _ _))

include hd hw in
theorem arrive_real (r : Fin 512) (k : Fin 1024) : prod (F := Ideal) d w (ix2 r k) = ((arrive (D r) W k : ℝ) : EReal) := by
  unfold prod
  simp only [View.ld_unit]
  pointwise [k0_pay9, k0_pay6, k0_pay7, k0_pay8]
  simp only [hd, hw, mul_real, sum_real, add_real]
  rw [arrive, sum_cols, Fin.sum_univ_eight]

include hd hw hx hg in
/-- The gradient block: the earlier gradient and the row's own. -/
theorem step_dx (r : Fin 512) (k : Fin 1024) :
    (step (F := Ideal) d w x g u o).1 (ix2 r k) = plus (u (ix2 r k)) (rowDx (X r) (arrive (D r) W) G k) := by
  unfold step
  pointwise [k0_pay4, k0_pay2]
  simp only [scale_real x X hx, arrive_real d w D W hd hw, hx, hg, mul_real, sum_real, word_1024, div_1024, sub_real]
  rfl

include hd hw hx ho in
/-- The block's share of the weight's gradient is added to what the accumulator held. -/
theorem step_dg (k : Fin 1024) :
    (step (F := Ideal) d w x g u o).2 (ix2 0 k) = ((O k + ∑ r, rowDg (X r) (arrive (D r) W) k : ℝ) : EReal) := by
  unfold step
  pointwise [k0_pay3, k0_pay2]
  simp only [scale_real x X hx, arrive_real d w D W hd hw, hx, ho, mul_real, sum_real, add_real]
  rfl

end Step

variable (m : (ℓ : Loc nD τ sig) → Buf (Elt Ideal) ℓ) (c : Dev nD)
  (D : Fin 4096 → Fin 5632 → ℝ) (W : Fin 1024 → Fin 5632 → ℝ) (X : Fin 4096 → Fin 1024 → ℝ) (G : Fin 1024 → ℝ)
  (hd : ∀ r p, m ((c.tc : Thread nD τ).loc main_arg0) (ix2 r p) = ((D r p : ℝ) : EReal))
  (hw : ∀ k p, m ((c.tc : Thread nD τ).loc main_arg1) (ix2 k p) = ((W k p : ℝ) : EReal))
  (hx : ∀ r k, m ((c.tc : Thread nD τ).loc main_arg2) (ix2 r k) = ((X r k : ℝ) : EReal))
  (hg : ∀ k, m ((c.tc : Thread nD τ).loc main_arg3) (ix1 k) = ((G k : ℝ) : EReal))

include hd hw hx

theorem held_real : ∀ (n : ℕ) (h : n ≤ cfg0.N) (k : Fin 1024), held m c n h (ix2 0 k)
    = ((∑ t ∈ Finset.range n, ∑ r : Fin 512, onRows (fun r => rowDg (X r) (arrive (D r) W) k) (512 * t + r.val) : ℝ) : EReal)
  | 0, _, k => by
    show k0_pay5 (F := Ideal) (ix2 0 k) = _
    pointwise [k0_pay5]
    simp
  | n + 1, h, k => by
    refine (step_dg _ _ _ _ _ _ (fun r => D (row ⟨n, h⟩ r)) (fun r => X (row ⟨n, h⟩ r)) W _ (fun j r p => (block_d m c ⟨n, h⟩ j r p).trans (hd _ _))
      (fun j k p => (block_w m c ⟨n, h⟩ j k p).trans (hw k _)) (fun r k => (block_x m c ⟨n, h⟩ r k).trans (hx _ k))
      (held_real n (Nat.le_of_lt h)) k).trans (congrArg _ ?_)
    rw [Finset.sum_range_succ]
    refine congrArg _ (Finset.sum_congr rfl fun r _ => ?_)
    exact (onRows_eq (fun r => rowDg (X r) (arrive (D r) W) k) (row ⟨n, h⟩ r)).symm

theorem kernel_dg (k : Fin 1024) :
    (dats m 0 c).arrAt 6 cfg0.N (ix2 0 k) = ((∑ r, rowDg (X r) (arrive (D r) W) k : ℝ) : EReal) := by
  rw [dg_array, ← sum_all 512 8 rfl]
  exact held_real m c D W X hd hw hx 8 _ k

include hg

theorem kernel_dx (r : Fin 4096) (k : Fin 1024) : (dats m 0 c).arrAt 5 cfg0.N (ix2 r k)
    = plus (m ((c.tc : Thread nD τ).loc main_arg4) (ix2 r k)) (rowDx (X r) (arrive (D r) W) G k) := by
  have hN : cfg0.N = 8 := N_0
  have hr := r.isLt
  obtain ⟨t, q, rfl⟩ : ∃ (t : Fin cfg0.N) (q : Fin 512), r = row t q :=
    ⟨⟨r.val / 512, by omega⟩, ⟨r.val % 512, Nat.mod_lt _ (by decide)⟩, Fin.ext (by show r.val = 512 * (r.val / 512) + r.val % 512; omega)⟩
  rw [dx_array, ← block_u m c t q k]
  exact step_dx _ _ _ _ _ _ (fun q => D (row t q)) (fun q => X (row t q)) W G (fun j r p => (block_d m c t j r p).trans (hd _ _))
    (fun j k p => (block_w m c t j k p).trans (hw k _)) (fun r k => (block_x m c t r k).trans (hx _ k)) (fun k => (block_g m c t k).trans (hg k)) q k

omit hd hw hx hg

theorem claim : Cert.algebraic_GuKernelIdeal_GuReferenceIdeal_pre_finite_gu := by
  intro m ρ m' ρ' hpre hag
  refine ⟨_, _, (θ_run defs _ _).mono (fun r h c => h c) (Cert.GuKernelIdeal.Value.run_blocks m ρ),
    (θ_run Cert.GuReferenceIdeal.defs _ _).mono (fun r h c => ?_) (Cert.GuReferenceIdeal.Value.run m' ρ')⟩
  obtain ⟨h0, h1, k0⟩ := h c
  obtain ⟨p0, p1, p2, p3⟩ := hpre c
  obtain ⟨a0, a1, a2, a3, a4⟩ := hag c
  obtain ⟨D, hD⟩ := array_of_test _ _ _ p0
  obtain ⟨W, hW⟩ := array_of_test _ _ _ p1
  obtain ⟨X, hX⟩ := array_of_test _ _ _ p2
  obtain ⟨G, hG⟩ := array_of_test _ _ _ p3
  have hd : ∀ r p, _ := fun r p => hD (ix2 r p)
  have hw : ∀ (k : Fin 1024) (p : Fin 5632), m ((c.tc : Thread nD τ).loc main_arg1) (ix2 k p) = _ := fun k p => hW (ix2 k p)
  have hx := fun r k => hX (ix2 r k)
  have hg := fun k => hG (ix1 k)
  have hd' := fun r k => (congrFun a0 (ix2 r k)).trans (hd r k)
  have hw' := fun r k => (congrFun a1 (ix2 r k)).trans (hw r k)
  have hx' := fun r k => (congrFun a2 (ix2 r k)).trans (hx r k)
  have hg' := fun k => (congrFun a3 (ix1 k)).trans (hg k)
  refine ⟨h0.trans ?_, h1.trans ?_, k0⟩
  · rw [Cert.GuReferenceIdeal.Read.val_main_v38_eq]
    funext i
    rw [eq_ix2 i]
    refine (Cert.GuReference.dx_real _ _ _ _ _ _ _ _ _ hd' hw' hx' hg' _ _).trans (Eq.trans ?_ (kernel_dx m c _ _ _ _ hd hw hx hg _ _).symm)
    exact congrArg (fun a : EReal => plus a _) (congrFun a4 _)
  · rw [Cert.GuReferenceIdeal.Read.val_main_v39_eq]
    funext i
    have hi : i = ix2 0 (i 1) := (eq_ix2 i).trans (congrArg (fun a => ix2 a (i 1)) (Subsingleton.elim (α := Fin 1) _ _))
    rw [hi]
    exact (Cert.GuReference.dg_real _ _ _ _ _ _ hd' hw' hx' _).trans (kernel_dg m c _ _ _ hd hw hx _).symm

end Cert.GuClaim

end
-- ==== Proof.FfnRun.lean ====
/-
  The run of the gated layer's two calls, with the two result arrays named by the contents at the end of the program.
-/
module

public import proofs.«01_k».proof.Proof.Gen.FfnKernelIdeal.Frame

@[expose] public section

set_option maxRecDepth 16384

noncomputable section

namespace Cert.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnKernelIdeal Cert.FfnKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with every buffer that outlives the program's regions at its contents after the last segment. -/
theorem run : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]
        · iexact Hh
        · iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _; iexact Hp
      · iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The two results after the run, and the arguments unchanged. -/
theorem results : θ_run defs (onTc (τ := τ) (main (F := F))) ⟨m, fun _ => 0, ρ⟩ (fun r => ∀ c : Dev nD,
    r.2.mem ((c.tc : Thread nD τ).loc main_v10) = W4 m ρ c (Proc.devRef .tc main_v10)
    ∧ r.2.mem ((c.tc : Thread nD τ).loc main_v13) = W4 m ρ c (Proc.devRef .tc main_v13)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨h c _ (mem_uc main_v10 (by decide)), h c _ (mem_uc main_v13 (by decide)),
    (h c _ (mem_uc main_arg0 (by decide))).trans (W4_main_arg0 m ρ c), (h c _ (mem_uc main_arg1 (by decide))).trans (W4_main_arg1 m ρ c),
    (h c _ (mem_uc main_arg2 (by decide))).trans (W4_main_arg2 m ρ c), (h c _ (mem_uc main_arg3 (by decide))).trans (W4_main_arg3 m ρ c)⟩)
    (run m ρ)

end Cert.FfnRun

end
-- ==== Proof.FfnArray.lean ====
/-
  The arrays of the gated layer's two calls. Each call runs over four blocks of 1024 rows and four blocks of 704 columns; a
  point of either writes one block of each of its results.
-/
module

public import proofs.«01_k».proof.Proof.Gen.FfnKernelIdeal.Frame
public import Idealize.ShloMosaic.Lib.Pipeline.Value
public import Idealize.ShloMosaic.Lib.Tactic
public import Idealize.ShloMosaic.Lib.Pointwise

@[expose] public section

set_option maxRecDepth 16384

noncomputable section

namespace Cert.FfnArray

open Idealize.ShloMosaic Idealize.ShloMosaic.TcCoe Idealize.SL.Sem
open Idealize.ShloMosaic.Pipeline (Dat)
open Cert.FfnKernelIdeal Cert.FfnKernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The point of row block `i` and column block `j`, in the first call and in the second. -/
def at0 (i j : Fin 4) : Fin cfg0.N := ⟨4 * i.val + j.val, by have := i.isLt; have := j.isLt; have h : cfg0.N = 16 := N_0; omega⟩
def at1 (i j : Fin 4) : Fin cfg1.N := ⟨4 * i.val + j.val, by have := i.isLt; have := j.isLt; have h : cfg1.N = 16 := N_1; omega⟩

/-- Row `r` of row block `i`. -/
def row (i : Fin 4) (r : Fin 1024) : Fin 4096 := ⟨1024 * i.val + r.val, by have := i.isLt; have := r.isLt; omega⟩

/-- The column blocks of the gate and of the other half among the eight. -/
def lo (j : Fin 4) : Fin 8 := ⟨j.val, by have := j.isLt; omega⟩
def hi (j : Fin 4) : Fin 8 := ⟨4 + j.val, by have := j.isLt; omega⟩

theorem idx0 : ∀ i j : Fin 4, (win0_0.index (at0 i j) 0 = i.val ∧ win0_0.index (at0 i j) 1 = 0)
    ∧ (win0_1.index (at0 i j) 0 = 0 ∧ win0_1.index (at0 i j) 1 = j.val ∧ win0_1.index (at0 i j) 2 = 0 ∧ win0_1.index (at0 i j) 3 = 0)
    ∧ (win0_2.index (at0 i j) 0 = 0 ∧ win0_2.index (at0 i j) 1 = 4 + j.val ∧ win0_2.index (at0 i j) 2 = 0 ∧ win0_2.index (at0 i j) 3 = 0)
    ∧ (win0_3.index (at0 i j) 0 = 0 ∧ win0_3.index (at0 i j) 1 = j.val ∧ win0_3.index (at0 i j) 2 = i.val ∧ win0_3.index (at0 i j) 3 = 0)
    ∧ (win0_4.index (at0 i j) 0 = j.val ∧ win0_4.index (at0 i j) 1 = i.val ∧ win0_4.index (at0 i j) 2 = 0) := by
  decide +kernel

theorem idx1 : ∀ i j : Fin 4, (win1_0.index (at1 i j) 0 = i.val ∧ win1_0.index (at1 i j) 1 = 0)
    ∧ (win1_1.index (at1 i j) 0 = 0 ∧ win1_1.index (at1 i j) 1 = j.val ∧ win1_1.index (at1 i j) 2 = 0 ∧ win1_1.index (at1 i j) 3 = 0)
    ∧ (win1_2.index (at1 i j) 0 = 0 ∧ win1_2.index (at1 i j) 1 = j.val ∧ win1_2.index (at1 i j) 2 = i.val ∧ win1_2.index (at1 i j) 3 = 0)
    ∧ (win1_3.index (at1 i j) 0 = 0 ∧ win1_3.index (at1 i j) 1 = j.val ∧ win1_3.index (at1 i j) 2 = i.val ∧ win1_3.index (at1 i j) 3 = 0) := by
  decide +kernel

theorem inj0_3 : ∀ t t' : Fin cfg0.N, win0_3.index t = win0_3.index t' → t = t' :=
  (by decide +kernel : ∀ t t' : Fin grid0.N, win0_3.index t = win0_3.index t' → t = t')
theorem inj0_4 : ∀ t t' : Fin cfg0.N, win0_4.index t = win0_4.index t' → t = t' :=
  (by decide +kernel : ∀ t t' : Fin grid0.N, win0_4.index t = win0_4.index t' → t = t')
theorem inj1_3 : ∀ t t' : Fin cfg1.N, win1_3.index t = win1_3.index t' → t = t' :=
  (by decide +kernel : ∀ t t' : Fin grid1.N, win1_3.index t = win1_3.index t' → t = t')

/-! ### Where a block's entry lies in its array -/

theorem emb_h (i j : Fin 4) (r k : Fin 1024) : ((cfg0.win 0).blk (at0 i j)).view.emb (ix2 r k) = ix2 (row i r) k := funext fun a => Fin.ext (by
  match a with
  | ⟨0, _⟩ => show win0_0.index (at0 i j) 0 * 1024 + 1 * r.val = 1024 * i.val + r.val; rw [(idx0 i j).1.1]; omega
  | ⟨1, _⟩ => show win0_0.index (at0 i j) 1 * 1024 + 1 * k.val = k.val; rw [(idx0 i j).1.2]; omega)

theorem emb_lo (i j : Fin 4) (k : Fin 1024) (p : Fin 704) : ((cfg0.win 1).blk (at0 i j)).view.emb (ix4 0 0 k p) = ix4 0 (lo j) k p := funext fun a => Fin.ext (by
  match a with
  | ⟨0, _⟩ => show win0_1.index (at0 i j) 0 * 1 + 1 * 0 = 0; rw [(idx0 i j).2.1.1]
  | ⟨1, _⟩ => show win0_1.index (at0 i j) 1 * 1 + 1 * 0 = j.val; rw [(idx0 i j).2.1.2.1]; omega
  | ⟨2, _⟩ => show win0_1.index (at0 i j) 2 * 1024 + 1 * k.val = k.val; rw [(idx0 i j).2.1.2.2.1]; omega
  | ⟨3, _⟩ => show win0_1.index (at0 i j) 3 * 704 + 1 * p.val = p.val; rw [(idx0 i j).2.1.2.2.2]; omega)

theorem emb_hi (i j : Fin 4) (k : Fin 1024) (p : Fin 704) : ((cfg0.win 2).blk (at0 i j)).view.emb (ix4 0 0 k p) = ix4 0 (hi j) k p := funext fun a => Fin.ext (by
  match a with
  | ⟨0, _⟩ => show win0_2.index (at0 i j) 0 * 1 + 1 * 0 = 0; rw [(idx0 i j).2.2.1.1]
  | ⟨1, _⟩ => show win0_2.index (at0 i j) 1 * 1 + 1 * 0 = 4 + j.val; rw [(idx0 i j).2.2.1.2.1]; omega
  | ⟨2, _⟩ => show win0_2.index (at0 i j) 2 * 1024 + 1 * k.val = k.val; rw [(idx0 i j).2.2.1.2.2.1]; omega
  | ⟨3, _⟩ => show win0_2.index (at0 i j) 3 * 704 + 1 * p.val = p.val; rw [(idx0 i j).2.2.1.2.2.2]; omega)

theorem emb_factors (i j : Fin 4) (s : Fin 2) (r : Fin 1024) (p : Fin 704) :
    ((cfg0.win 3).blk (at0 i j)).view.emb (ix4 s 0 r p) = ix4 s j (row i r) p := funext fun a => Fin.ext (by
  match a with
  | ⟨0, _⟩ => show win0_3.index (at0 i j) 0 * 2 + 1 * s.val = s.val; rw [(idx0 i j).2.2.2.1.1]; omega
  | ⟨1, _⟩ => show win0_3.index (at0 i j) 1 * 1 + 1 * 0 = j.val; rw [(idx0 i j).2.2.2.1.2.1]; omega
  | ⟨2, _⟩ => show win0_3.index (at0 i j) 2 * 1024 + 1 * r.val = 1024 * i.val + r.val; rw [(idx0 i j).2.2.2.1.2.2.1]; omega
  | ⟨3, _⟩ => show win0_3.index (at0 i j) 3 * 704 + 1 * p.val = p.val; rw [(idx0 i j).2.2.2.1.2.2.2]; omega)

theorem emb_act (i j : Fin 4) (r : Fin 1024) (p : Fin 704) : ((cfg0.win 4).blk (at0 i j)).view.emb (ix3 0 r p) = ix3 j (row i r) p := funext fun a => Fin.ext (by
  match a with
  | ⟨0, _⟩ => show win0_4.index (at0 i j) 0 * 1 + 1 * 0 = j.val; rw [(idx0 i j).2.2.2.2.1]; omega
  | ⟨1, _⟩ => show win0_4.index (at0 i j) 1 * 1024 + 1 * r.val = 1024 * i.val + r.val; rw [(idx0 i j).2.2.2.2.2.1]; omega
  | ⟨2, _⟩ => show win0_4.index (at0 i j) 2 * 704 + 1 * p.val = p.val; rw [(idx0 i j).2.2.2.2.2.2]; omega)

theorem emb_dy (i j : Fin 4) (r k : Fin 1024) : ((cfg1.win 0).blk (at1 i j)).view.emb (ix2 r k) = ix2 (row i r) k := funext fun a => Fin.ext (by
  match a with
  | ⟨0, _⟩ => show win1_0.index (at1 i j) 0 * 1024 + 1 * r.val = 1024 * i.val + r.val; rw [(idx1 i j).1.1]; omega
  | ⟨1, _⟩ => show win1_0.index (at1 i j) 1 * 1024 + 1 * k.val = k.val; rw [(idx1 i j).1.2]; omega)

theorem emb_down (i j : Fin 4) (p : Fin 704) (k : Fin 1024) : ((cfg1.win 1).blk (at1 i j)).view.emb (ix4 0 0 p k) = ix4 0 j p k := funext fun a => Fin.ext (by
  match a with
  | ⟨0, _⟩ => show win1_1.index (at1 i j) 0 * 1 + 1 * 0 = 0; rw [(idx1 i j).2.1.1]
  | ⟨1, _⟩ => show win1_1.index (at1 i j) 1 * 1 + 1 * 0 = j.val; rw [(idx1 i j).2.1.2.1]; omega
  | ⟨2, _⟩ => show win1_1.index (at1 i j) 2 * 704 + 1 * p.val = p.val; rw [(idx1 i j).2.1.2.2.1]; omega
  | ⟨3, _⟩ => show win1_1.index (at1 i j) 3 * 1024 + 1 * k.val = k.val; rw [(idx1 i j).2.1.2.2.2]; omega)

theorem emb_read (i j : Fin 4) (s : Fin 2) (r : Fin 1024) (p : Fin 704) :
    ((cfg1.win 2).blk (at1 i j)).view.emb (ix4 s 0 r p) = ix4 s j (row i r) p := funext fun a => Fin.ext (by
  match a with
  | ⟨0, _⟩ => show win1_2.index (at1 i j) 0 * 2 + 1 * s.val = s.val; rw [(idx1 i j).2.2.1.1]; omega
  | ⟨1, _⟩ => show win1_2.index (at1 i j) 1 * 1 + 1 * 0 = j.val; rw [(idx1 i j).2.2.1.2.1]; omega
  | ⟨2, _⟩ => show win1_2.index (at1 i j) 2 * 1024 + 1 * r.val = 1024 * i.val + r.val; rw [(idx1 i j).2.2.1.2.2.1]; omega
  | ⟨3, _⟩ => show win1_2.index (at1 i j) 3 * 704 + 1 * p.val = p.val; rw [(idx1 i j).2.2.1.2.2.2]; omega)

theorem emb_grad (i j : Fin 4) (s : Fin 2) (r : Fin 1024) (p : Fin 704) :
    ((cfg1.win 3).blk (at1 i j)).view.emb (ix4 s 0 r p) = ix4 s j (row i r) p := funext fun a => Fin.ext (by
  match a with
  | ⟨0, _⟩ => show win1_3.index (at1 i j) 0 * 2 + 1 * s.val = s.val; rw [(idx1 i j).2.2.2.1]; omega
  | ⟨1, _⟩ => show win1_3.index (at1 i j) 1 * 1 + 1 * 0 = j.val; rw [(idx1 i j).2.2.2.2.1]; omega
  | ⟨2, _⟩ => show win1_3.index (at1 i j) 2 * 1024 + 1 * r.val = 1024 * i.val + r.val; rw [(idx1 i j).2.2.2.2.2.1]; omega
  | ⟨3, _⟩ => show win1_3.index (at1 i j) 3 * 704 + 1 * p.val = p.val; rw [(idx1 i j).2.2.2.2.2.2]; omega)

/-! ### What a point leaves in each half of a block of two -/

theorem emb_first (r : Fin 1024) (p : Fin 704) : r0_2.emb (ix4 0 0 r p) = ix4 0 0 r p := funext fun a => Fin.ext (by
  match a with
  | ⟨0, _⟩ => rfl
  | ⟨1, _⟩ => rfl
  | ⟨2, _⟩ => show 0 + 1 * r.val = r.val; omega
  | ⟨3, _⟩ => show 0 + 1 * p.val = p.val; omega)

theorem emb_second (r : Fin 1024) (p : Fin 704) : r0_3.emb (ix4 0 0 r p) = ix4 1 0 r p := funext fun a => Fin.ext (by
  match a with
  | ⟨0, _⟩ => rfl
  | ⟨1, _⟩ => rfl
  | ⟨2, _⟩ => show 0 + 1 * r.val = r.val; omega
  | ⟨3, _⟩ => show 0 + 1 * p.val = p.val; omega)

theorem not_second (r : Fin 1024) (p : Fin 704) : (ix4 0 0 r p : S2x1x1024x704.Idx) ∉ r0_3.set := fun h => by
  have h0 := (Rect.mem_set_unit.mp h 0).1
  exact absurd h0 (by decide : ¬ (1 ≤ (0 : ℕ)))

variable (a b : Vec F S1x1x1024x704 .bf16) (r : Fin 1024) (p : Fin 704)

theorem halves_first : View.canon (Val := Elt F) (s := S2x1x1024x704) (e := .bf16) [⟨r0_3, a⟩, ⟨r0_2, b⟩] (ix4 0 0 r p) = b (ix4 0 0 r p) := by
  have hn : (ix4 0 0 r p : S2x1x1024x704.Idx) ∉ (⟨r0_3, a⟩ : View.Piece (Elt F) S2x1x1024x704 .bf16).1.set := by
    dsimp only
    exact not_second r p
  refine (View.canon_cons_of_not_mem (⟨r0_3, a⟩ : View.Piece (Elt F) S2x1x1024x704 .bf16) [⟨r0_2, b⟩] hn).trans ?_
  exact (congrArg (View.canon (Val := Elt F) [⟨r0_2, b⟩]) (emb_first r p).symm).trans (View.canon_cons_emb r0_2 b [] (ix4 0 0 r p))

theorem halves_second : View.canon (Val := Elt F) (s := S2x1x1024x704) (e := .bf16) [⟨r0_3, a⟩, ⟨r0_2, b⟩] (ix4 1 0 r p) = a (ix4 0 0 r p) := by
  exact (congrArg (View.canon (Val := Elt F) [⟨r0_3, a⟩, ⟨r0_2, b⟩]) (emb_second r p).symm).trans (View.canon_cons_emb r0_3 a _ (ix4 0 0 r p))

/-! ### The arrays after each call, by blocks -/

variable (V : (c : Dev nD) → (b : Ref sig .tc) → Buf (Elt F) ((c : Thread nD τ).loc b)) (c : Dev nD) (i j : Fin 4)

theorem factors_array (s : Fin 2) : (dat0 V c).arrAt 3 cfg0.N (ix4 s j (row i r) p)
    = out0_3 (iblk0 V c 0 (at0 i j)) (iblk0 V c 1 (at0 i j)) (iblk0 V c 2 (at0 i j)) (ix4 s 0 r p) := by
  have hb := congrFun ((dat0 V c).read_blk_arrAt_eq_flushed 3
    (fun t t' _ _ hne => (cfg0.win 3).disjoint_blk fun h => hne (inj0_3 t t' h)) cfg0.N (at0 i j) (at0 i j).isLt (flush0_3 _)) (ix4 s 0 r p)
  rw [View.read_apply, emb_factors] at hb
  refine hb.trans ?_
  show (cfg0.win 3).cut (grid0.coords (at0 i j)) ((dat0 V c).after 3 (at0 i j)) (ix4 s 0 r p) = _
  rw [after0_3]
  rfl

theorem act_array : (dat0 V c).arrAt 4 cfg0.N (ix3 j (row i r) p)
    = out0_4 (iblk0 V c 0 (at0 i j)) (iblk0 V c 1 (at0 i j)) (iblk0 V c 2 (at0 i j)) (ix3 0 r p) := by
  have hb := congrFun ((dat0 V c).read_blk_arrAt_eq_flushed 4
    (fun t t' _ _ hne => (cfg0.win 4).disjoint_blk fun h => hne (inj0_4 t t' h)) cfg0.N (at0 i j) (at0 i j).isLt (flush0_4 _)) (ix3 0 r p)
  rw [View.read_apply, emb_act] at hb
  refine hb.trans ?_
  show (cfg0.win 4).cut (grid0.coords (at0 i j)) ((dat0 V c).after 4 (at0 i j)) (ix3 0 r p) = _
  rw [after0_4]
  rfl

theorem grad_array (s : Fin 2) : (dat1 V c).arrAt 3 cfg1.N (ix4 s j (row i r) p)
    = out1_3 (iblk1 V c 0 (at1 i j)) (iblk1 V c 1 (at1 i j)) (iblk1 V c 2 (at1 i j)) (ix4 s 0 r p) := by
  have hb := congrFun ((dat1 V c).read_blk_arrAt_eq_flushed 3
    (fun t t' _ _ hne => (cfg1.win 3).disjoint_blk fun h => hne (inj1_3 t t' h)) cfg1.N (at1 i j) (at1 i j).isLt (flush1_3 _)) (ix4 s 0 r p)
  rw [View.read_apply, emb_grad] at hb
  refine hb.trans ?_
  show (cfg1.win 3).cut (grid1.coords (at1 i j)) ((dat1 V c).after 3 (at1 i j)) (ix4 s 0 r p) = _
  rw [after1_3]
  rfl

end Cert.FfnArray

end
-- ==== Proof.FfnSpec.lean ====
/-
  The gated activation of one entry and its gradient over the real numbers.
-/
module

public import proofs.«01_k».proof.Proof.Finite

@[expose] public section

noncomputable section

namespace Cert.FfnSpec

open Idealize.ShloMosaic Cert.Finite

variable {c : ℕ}

/-- The product of a row and a column. -/
def dot (a b : Fin c → ℝ) : ℝ := ∑ k, a k * b k

/-- The logistic function. -/
def sig (z : ℝ) : ℝ := 1 / (1 + Real.exp (-z))

/-- The gate times its logistic, times the other half. -/
def act (g u : ℝ) : ℝ := g * sig g * u

/-- The gradient of `g * sig g`. -/
def gateSlope (g : ℝ) : ℝ := sig g * (1 + g * (1 - sig g))

theorem total_pos (z : ℝ) : (0 : ℝ) < 1 + Real.exp (-z) := by positivity

theorem word_one : Ideal.ofBits .f32 0x3F800000#32 = ((1 : ℝ) : EReal) := by
  simp [Ideal.ofBits, Ideal.ieee, -EReal.coe_mul]; norm_num

theorem one_real : (1 : EReal) = ((1 : ℝ) : EReal) := rfl

theorem zero_real : (0 : EReal) = ((0 : ℝ) : EReal) := rfl

end Cert.FfnSpec

end
-- ==== Proof.FfnReference.lean ====
/-
  The reference of the gated layer read over the real numbers: its activation, and the gradients of the gate and of the
  other half.
-/
module

public import proofs.«01_k».proof.Proof.FfnSpec
public import proofs.«01_k».proof.Proof.Gen.FfnReferenceIdeal.Read
public import Idealize.ShloMosaic.Lib.Pointwise

@[expose] public section

set_option maxRecDepth 16384

noncomputable section

namespace Cert.FfnReference

open Idealize.ShloMosaic Cert.FfnReferenceIdeal Cert.FfnReferenceIdeal.Read Cert.Finite Cert.FfnSpec

variable (h : FVec Ideal S4096x1024 .f32) (w : FVec Ideal S1024x5632 .f32) (v : FVec Ideal S2816x1024 .f32) (y : FVec Ideal S4096x1024 .f32)
  (H : Fin 4096 → Fin 1024 → ℝ) (W : Fin 1024 → Fin 5632 → ℝ) (D : Fin 2816 → Fin 1024 → ℝ) (Y : Fin 4096 → Fin 1024 → ℝ)
  (hh : ∀ r k, h (ix2 r k) = ((H r k : ℝ) : EReal)) (hw : ∀ k p, w (ix2 k p) = ((W k p : ℝ) : EReal))
  (hv : ∀ p k, v (ix2 p k) = ((D p k : ℝ) : EReal)) (hy : ∀ r k, y (ix2 r k) = ((Y r k : ℝ) : EReal))

/-- The gate's column and the other half's column. -/
def left (p : Fin 2816) : Fin 5632 := ⟨p.val, by have := p.isLt; omega⟩
def right (p : Fin 2816) : Fin 5632 := ⟨2816 + p.val, by have := p.isLt; omega⟩

/-- One entry of the product of the layer's input with its first weight, and of the arriving gradient with the second. -/
def entry (H : Fin 4096 → Fin 1024 → ℝ) (W : Fin 1024 → Fin 5632 → ℝ) (r : Fin 4096) (q : Fin 5632) : ℝ := dot (H r) (W · q)
def back (Y : Fin 4096 → Fin 1024 → ℝ) (D : Fin 2816 → Fin 1024 → ℝ) (r : Fin 4096) (p : Fin 2816) : ℝ := dot (Y r) (D p)

include hh hw in
theorem entry_real (r : Fin 4096) (q : Fin 5632) : val_main_v0 (F := Ideal) h w (ix2 r q) = ((entry H W r q : ℝ) : EReal) := by
  pointwise [val_main_v0]
  simp only [hh, hw, mul_real, sum_real]
  rfl

theorem left_entry (r : Fin 4096) (p : Fin 2816) : val_main_v1 (F := Ideal) h w (ix2 r p) = val_main_v0 (F := Ideal) h w (ix2 r (left p)) := by
  pointwise [val_main_v1]
  rfl

theorem right_entry (r : Fin 4096) (p : Fin 2816) : val_main_v2 (F := Ideal) h w (ix2 r p) = val_main_v0 (F := Ideal) h w (ix2 r (right p)) := by
  pointwise [val_main_v2]
  rfl

/-- The quotient the programs write for the logistic function. -/
theorem logistic (z : ℝ) : Ideal.div 1 (1 + Ideal.exp (-((z : ℝ) : EReal))) = ((sig z : ℝ) : EReal) := by
  rw [← EReal.coe_neg, Ideal.exp_coe, one_real, add_real, div_real _ (total_pos z).ne']
  rfl

include hh hw

theorem sig0_real (r : Fin 4096) (p : Fin 2816) :
    val_main_call0_v5 (F := Ideal) h w (ix2 r p) = ((sig (entry H W r (left p)) : ℝ) : EReal) := by
  pointwise [val_main_call0_v5, val_main_call0_v4, val_main_call0_v3, val_main_call0_v2, val_main_call0_v1, val_main_call0_v0, val_main_call0_cst, val_main_call0_cst_0]
  rw [show val_main_v1 (F := Ideal) h w (ix2 r p) = _ from left_entry h w r p, entry_real h w H W hh hw]
  exact logistic _

theorem sig1_real (r : Fin 4096) (p : Fin 2816) :
    val_main_v7_2 (F := Ideal) h w (ix2 r p) = ((sig (entry H W r (left p)) : ℝ) : EReal) := by
  pointwise [val_main_v7_2, val_main_call1_v4, val_main_call1_v3, val_main_call1_v2, val_main_call1_v1, val_main_call1_v0, val_main_call1_cst, val_main_call1_cst_0]
  rw [show val_main_v5 (F := Ideal) h w (ix2 r p) = _ from left_entry h w r p, entry_real h w H W hh hw]
  exact logistic _

/-- The activation. -/
theorem act_real (r : Fin 4096) (p : Fin 2816) :
    val_main_v15 (F := Ideal) h w (ix2 r p) = ((act (entry H W r (left p)) (entry H W r (right p)) : ℝ) : EReal) := by
  pointwise [val_main_v15, val_main_v4, val_main_v3]
  rw [sig0_real h w H W hh hw, show val_main_v1 (F := Ideal) h w (ix2 r p) = _ from left_entry h w r p,
    show val_main_v2 (F := Ideal) h w (ix2 r p) = _ from right_entry h w r p, entry_real h w H W hh hw, entry_real h w H W hh hw, mul_real, mul_real]
  rfl

include hv hy

omit hh hw in
theorem back_real (r : Fin 4096) (p : Fin 2816) : val_main_v10 (F := Ideal) v y (ix2 r p) = ((back Y D r p : ℝ) : EReal) := by
  pointwise [val_main_v10]
  simp only [hv, hy, mul_real, sum_real]
  rfl

/-- The gradient of the gate. -/
theorem gate_real (r : Fin 4096) (p : Fin 2816) : val_main_v13 (F := Ideal) h w v y (ix2 r p)
    = ((back Y D r p * (entry H W r (right p) * gateSlope (entry H W r (left p))) : ℝ) : EReal) := by
  pointwise [val_main_v13, val_main_call2_v0, val_main_call2_v1, val_main_call2_v2, val_main_v12, val_main_v7_1, val_main_call1_v7, val_main_call1_v6, val_main_call1_cst_1]
  rw [sig1_real h w H W hh hw, back_real v y D Y hv hy, show val_main_v5 (F := Ideal) h w (ix2 r p) = _ from left_entry h w r p,
    show val_main_v6 (F := Ideal) h w (ix2 r p) = _ from right_entry h w r p, entry_real h w H W hh hw, entry_real h w H W hh hw, one_real]
  simp only [mul_real, sub_real, add_real]
  refine congrArg _ ?_
  unfold gateSlope
  ring

/-- The gradient of the other half. -/
theorem other_real (r : Fin 4096) (p : Fin 2816) : val_main_v11 (F := Ideal) h w v y (ix2 r p)
    = ((back Y D r p * (entry H W r (left p) * sig (entry H W r (left p))) : ℝ) : EReal) := by
  pointwise [val_main_v11, val_main_v7_0]
  rw [sig1_real h w H W hh hw, back_real v y D Y hv hy, show val_main_v5 (F := Ideal) h w (ix2 r p) = _ from left_entry h w r p, entry_real h w H W hh hw]
  simp only [mul_real]
  exact congrArg _ (mul_comm _ _)

theorem grad_left (r : Fin 4096) (p : Fin 2816) : val_main_v16 (F := Ideal) h w v y (ix2 r (left p))
    = ((back Y D r p * (entry H W r (right p) * gateSlope (entry H W r (left p))) : ℝ) : EReal) := by
  have hp := p.isLt
  pointwise [val_main_v16, val_main_v14]
  rw [dif_pos (show (left p).val < 2816 from hp)]
  exact gate_real h w v y H W D Y hh hw hv hy r p

theorem grad_right (r : Fin 4096) (p : Fin 2816) : val_main_v16 (F := Ideal) h w v y (ix2 r (right p))
    = ((back Y D r p * (entry H W r (left p) * sig (entry H W r (left p))) : ℝ) : EReal) := by
  have hp := p.isLt
  pointwise [val_main_v16, val_main_v14]
  rw [dif_neg (show ¬ (right p).val < 2816 from by show ¬ 2816 + p.val < 2816; omega)]
  exact (congrArg (fun q => val_main_v11 (F := Ideal) h w v y (ix2 r q)) (Fin.ext (by show 2816 + p.val - 2816 = p.val; omega))).trans
    (other_real h w v y H W D Y hh hw hv hy r p)

end Cert.FfnReference

end
-- ==== Proof.FfnClaim.lean ====
/-
  The gated layer's claim: from finite arguments the two calls' arrays and the reference's two results are the same.
-/
module

public import proofs.«01_k».proof.Defs
public import proofs.«01_k».proof.Proof.FfnRun
public import proofs.«01_k».proof.Proof.FfnArray
public import proofs.«01_k».proof.Proof.FfnReference
public import proofs.«01_k».proof.Proof.GuArray
public import proofs.«01_k».proof.Proof.Gen.FfnReferenceIdeal.Run
public import proofs.«01_k».proof.Proof.Gen.Pre_finite_ffn

@[expose] public section

set_option maxRecDepth 16384

noncomputable section

namespace Cert.FfnClaim

open Idealize.ShloMosaic Idealize.ShloMosaic.TcCoe Idealize.SL.Sem
open Cert.FfnKernelIdeal Cert.FfnKernelIdeal.Gen Cert.Finite Cert.FfnSpec Cert.FfnArray
open Cert.FfnReference (left right entry back)

/-! ### One point of either call over the real numbers -/

section Point

variable (x0 : FVec Ideal S1024x1024 .bf16) (x1 x2 : FVec Ideal S1x1x1024x704 .bf16)
  (H : Fin 1024 → Fin 1024 → ℝ) (A B : Fin 1024 → Fin 704 → ℝ)
  (h0 : ∀ r k, x0 (ix2 r k) = ((H r k : ℝ) : EReal)) (h1 : ∀ k p, x1 (ix4 0 0 k p) = ((A k p : ℝ) : EReal))
  (h2 : ∀ k p, x2 (ix4 0 0 k p) = ((B k p : ℝ) : EReal)) (r : Fin 1024) (p : Fin 704)

include h0 h1 in
theorem gate_real : k0_pay3 (F := Ideal) x0 x1 (ix2 r p) = ((dot (H r) (A · p) : ℝ) : EReal) := by
  pointwise [k0_pay3, k0_pay2]
  simp only [h0, h1, mul_real, sum_real]
  rfl

include h0 h2 in
theorem other_real : k0_pay4 (F := Ideal) x0 x2 (ix2 r p) = ((dot (H r) (B · p) : ℝ) : EReal) := by
  pointwise [k0_pay4, k0_pay2]
  simp only [h0, h2, mul_real, sum_real]
  rfl

include h0 h1 in
theorem sig_real : k0_pay5 (F := Ideal) x0 x1 (ix2 r p) = ((sig (dot (H r) (A · p)) : ℝ) : EReal) := by
  pointwise [k0_pay5]
  rw [gate_real x0 x1 H A h0 h1, zero_sub]
  exact Cert.FfnReference.logistic _

include h0 h1 in
theorem second_real : k0_pay8 (F := Ideal) x0 x1 (ix4 0 0 r p)
    = ((dot (H r) (A · p) * sig (dot (H r) (A · p)) : ℝ) : EReal) := by
  pointwise [k0_pay8, k0_pay6]
  rw [gate_real x0 x1 H A h0 h1, sig_real x0 x1 H A h0 h1, mul_real]

include h0 h1 h2

theorem first_real : k0_pay7 (F := Ideal) x0 x1 x2 (ix4 0 0 r p)
    = ((dot (H r) (B · p) * gateSlope (dot (H r) (A · p)) : ℝ) : EReal) := by
  pointwise [k0_pay7]
  rw [gate_real x0 x1 H A h0 h1, sig_real x0 x1 H A h0 h1, other_real x0 x2 H B h0 h2, one_real]
  simp only [mul_real, sub_real, add_real]
  rfl

theorem act_real : k0_pay1 (F := Ideal) (k0_pay4 x0 x2) (k0_pay6 x0 x1) (ix3 0 r p)
    = ((act (dot (H r) (A · p)) (dot (H r) (B · p)) : ℝ) : EReal) := by
  pointwise [k0_pay1, k0_pay6]
  rw [gate_real x0 x1 H A h0 h1, sig_real x0 x1 H A h0 h1, other_real x0 x2 H B h0 h2, mul_real, mul_real]
  rfl

/-- The two factors a point of the first call leaves, and the activation. -/
theorem out_first : out0_3 (F := Ideal) x0 x1 x2 (ix4 0 0 r p) = ((dot (H r) (B · p) * gateSlope (dot (H r) (A · p)) : ℝ) : EReal) := by
  unfold out0_3
  refine (halves_first _ _ r p).trans ?_
  rw [View.ld_unit_zero (S := S1024x1024) zeros2, View.ld_unit_zero (S := S1x1x1024x704) zeros4, View.ld_unit_zero (S := S1x1x1024x704) zeros4]
  exact first_real x0 x1 x2 H A B h0 h1 h2 r p

theorem out_second : out0_3 (F := Ideal) x0 x1 x2 (ix4 1 0 r p) = ((dot (H r) (A · p) * sig (dot (H r) (A · p)) : ℝ) : EReal) := by
  unfold out0_3
  refine (halves_second _ _ r p).trans ?_
  rw [View.ld_unit_zero (S := S1024x1024) zeros2, View.ld_unit_zero (S := S1x1x1024x704) zeros4]
  exact second_real x0 x1 H A h0 h1 r p

theorem out_act : out0_4 (F := Ideal) x0 x1 x2 (ix3 0 r p) = ((act (dot (H r) (A · p)) (dot (H r) (B · p)) : ℝ) : EReal) := by
  unfold out0_4
  rw [View.canon_unit_zero zeros3, View.ld_unit_zero (S := S1024x1024) zeros2, View.ld_unit_zero (S := S1x1x1024x704) zeros4, View.ld_unit_zero (S := S1x1x1024x704) zeros4]
  exact act_real x0 x1 x2 H A B h0 h1 h2 r p

end Point

section Second

variable (y : FVec Ideal S1024x1024 .f32) (v : FVec Ideal S1x1x704x1024 .bf16) (f : FVec Ideal S2x1x1024x704 .bf16)
  (Y : Fin 1024 → Fin 1024 → ℝ) (D : Fin 704 → Fin 1024 → ℝ) (E : Fin 2 → Fin 1024 → Fin 704 → ℝ)
  (hy : ∀ r k, y (ix2 r k) = ((Y r k : ℝ) : EReal)) (hv : ∀ p k, v (ix4 0 0 p k) = ((D p k : ℝ) : EReal))
  (hf : ∀ s r p, f (ix4 s 0 r p) = ((E s r p : ℝ) : EReal)) (r : Fin 1024) (p : Fin 704)

include hy hv in
theorem back_real : k1_pay1 (F := Ideal) y v (ix2 r p) = ((dot (Y r) (D p) : ℝ) : EReal) := by
  pointwise [k1_pay1]
  simp only [hy, hv, mul_real, sum_real]
  rfl

include hy hv hf

theorem grad_first : out1_3 (F := Ideal) y v f (ix4 0 0 r p) = ((dot (Y r) (D p) * E 0 r p : ℝ) : EReal) := by
  unfold out1_3
  refine (halves_first _ _ r p).trans ?_
  rw [View.ld_unit_zero (S := S1024x1024) zeros2, View.ld_unit_zero (S := S1x1x704x1024) zeros4]
  simp only [View.ld_unit]
  pointwise [k1_pay2]
  rw [back_real y v Y D hy hv]
  exact (congrArg (fun a : EReal => ((dot (Y r) (D p) : ℝ) : EReal) * a) (hf 0 r p)).trans (mul_real _ _)

theorem grad_second : out1_3 (F := Ideal) y v f (ix4 1 0 r p) = ((dot (Y r) (D p) * E 1 r p : ℝ) : EReal) := by
  unfold out1_3
  refine (halves_second _ _ r p).trans ?_
  rw [View.ld_unit_zero (S := S1024x1024) zeros2, View.ld_unit_zero (S := S1x1x704x1024) zeros4]
  simp only [View.ld_unit]
  pointwise [k1_pay3]
  rw [back_real y v Y D hy hv]
  exact (congrArg (fun a : EReal => ((dot (Y r) (D p) : ℝ) : EReal) * a) (hf 1 r p)).trans (mul_real _ _)

end Second

/-! ### The arrays of the program -/

variable (m : (ℓ : Loc nD τ sig) → Buf (Elt Ideal) ℓ) (ρ : Dev nD → PrngReg) (c : Dev nD)

theorem start_h (r : Fin 4096) (k : Fin 1024) : V1 m ρ c main_v6 (ix2 r k) = m ((c.tc : Thread nD τ).loc main_arg0) (ix2 r k) := by
  show StableHlo.after hostOps0 (fun b => m (c, b)) main_v6 (ix2 r k) = _
  rw [show StableHlo.after hostOps0 (fun b => m (c, b)) main_v6
      = truncf (F := Ideal) (φ := .f32) .bf16 (m ((c.tc : Thread nD τ).loc main_arg0)) bitsLt_bf16_f32 from by after_results_simp <;> rfl]
  rfl

theorem start_w (j : Fin 8) (k : Fin 1024) (p : Fin 704) :
    V1 m ρ c main_v3 (ix4 0 j k p) = m ((c.tc : Thread nD τ).loc main_arg1) (ix2 k (GuArray.col j p)) := by
  show StableHlo.after hostOps0 (fun b => m (c, b)) main_v3 (ix4 0 j k p) = _
  rw [show StableHlo.after hostOps0 (fun b => m (c, b)) main_v3
      = broadcastInDim S1x8x1024x704 ![1, 2, 3] bcast_S8x1024x704_S1x8x1024x704_1_2_3
          (transpose S8x1024x704 [1, 0, 2] (shapeCast S1024x8x704 (truncf (F := Ideal) (φ := .f32) .bf16 (m ((c.tc : Thread nD τ).loc main_arg1)) bitsLt_bf16_f32)
            shapeCasts_S1024x5632_S1024x8x704) transposes_S1024x8x704_S8x1024x704_1_0_2) from by after_results_simp <;> rfl]
  exact (GuArray.lead_apply _ j k p).trans (GuArray.split_apply _ _ _ j k p)

/-- Row `p` of the `j`-th block of 704 rows of the second weight. -/
def line (j : Fin 4) (p : Fin 704) : Fin 2816 := ⟨704 * j.val + p.val, by have := j.isLt; have := p.isLt; omega⟩

theorem start_v (j : Fin 4) (p : Fin 704) (k : Fin 1024) :
    V1 m ρ c main_v5 (ix4 0 j p k) = m ((c.tc : Thread nD τ).loc main_arg2) (ix2 (line j p) k) := by
  show StableHlo.after hostOps0 (fun b => m (c, b)) main_v5 (ix4 0 j p k) = _
  rw [show StableHlo.after hostOps0 (fun b => m (c, b)) main_v5
      = shapeCast S1x4x704x1024 (truncf (F := Ideal) (φ := .f32) .bf16 (m ((c.tc : Thread nD τ).loc main_arg2)) bitsLt_bf16_f32) shapeCasts_S2816x1024_S1x4x704x1024
      from by after_results_simp <;> rfl]
  refine shapeCast_apply _ _ (ix4 0 j p k) (ix2 (line j p) k) ?_
  rw [Shape.rowMajor_val_two, Shape.rowMajor_val_four]
  show (704 * j.val + p.val) * 1024 + k.val = ((0 * 4 + j.val) * 704 + p.val) * 1024 + k.val
  omega

/-- Entry `(r, 704 j + p)` of the array with its `n` column blocks put side by side is entry `(j, r, p)` of the blocks. -/
theorem join_apply {n M : ℕ} (hM : M = n * 704) {α : Type} (x : (⟨3, ![n, 4096, 704]⟩ : Shape).Idx → α)
    (ht : (⟨3, ![n, 4096, 704]⟩ : Shape).Transposes [1, 0, 2] ⟨3, ![4096, n, 704]⟩)
    (hc : (⟨3, ![4096, n, 704]⟩ : Shape).ShapeCasts ⟨2, ![4096, M]⟩) (j : Fin n) (r : Fin 4096) (p : Fin 704) (q : Fin M) (hq : q.val = 704 * j.val + p.val) :
    shapeCast ⟨2, ![4096, M]⟩ (transpose ⟨3, ![4096, n, 704]⟩ [1, 0, 2] x ht) hc (ix2 r q) = x (ix3 j r p) := by
  refine (shapeCast_apply _ hc (ix2 r q) (ix3 r j p) ?_).trans ?_
  · rw [Shape.rowMajor_val_two, Shape.rowMajor_val_three]
    show (r.val * n + j.val) * 704 + p.val = r.val * M + q.val
    rw [hq, hM]
    ring
  · refine congrArg x (funext fun a => Fin.ext ?_)
    match a with
    | ⟨0, _⟩ => rfl
    | ⟨1, _⟩ => rfl
    | ⟨2, _⟩ => rfl

theorem end_act (j : Fin 4) (r : Fin 4096) (p : Fin 704) :
    W4 m ρ c (Proc.devRef .tc main_v10) (ix2 r (line j p)) = (dat0 (V1 m ρ) c).arrAt 4 cfg0.N (ix3 j r p) := by
  show StableHlo.after hostOps2 (W3 m ρ c) main_v10 (ix2 r (line j p)) = _
  rw [show StableHlo.after hostOps2 (W3 m ρ c) main_v10
      = shapeCast S4096x2816 (transpose S4096x4x704 [1, 0, 2] (W3 m ρ c (Proc.devRef .tc main_v7_1)) transposes_S4x4096x704_S4096x4x704_1_0_2)
          shapeCasts_S4096x4x704_S4096x2816 from by after_results_simp <;> rfl]
  refine (join_apply (by norm_num) _ _ _ j r p (line j p) rfl).trans ?_
  rw [W3_of m ρ c main_v7_1 (by decide)]
  exact congrFun (W2_arr m ρ c 4) _

theorem end_grad (s : Fin 2) (j : Fin 4) (r : Fin 4096) (p : Fin 704) (q : Fin 5632) (hq : q.val = 2816 * s.val + (704 * j.val + p.val)) :
    W4 m ρ c (Proc.devRef .tc main_v13) (ix2 r q) = (dat1 (V2 m ρ) c).arrAt 3 cfg1.N (ix4 s j r p) := by
  have hs := s.isLt
  have hj := j.isLt
  show StableHlo.after hostOps2 (W3 m ρ c) main_v13 (ix2 r q) = _
  rw [show StableHlo.after hostOps2 (W3 m ρ c) main_v13
      = shapeCast S4096x5632 (transpose S4096x8x704 [1, 0, 2] (shapeCast S8x4096x704 (W3 m ρ c (Proc.devRef .tc main_v8)) shapeCasts_S2x4x4096x704_S8x4096x704)
          transposes_S8x4096x704_S4096x8x704_1_0_2) shapeCasts_S4096x8x704_S4096x5632 from by after_results_simp <;> rfl]
  refine (join_apply (by norm_num) _ _ _ (⟨4 * s.val + j.val, by omega⟩ : Fin 8) r p q (by show q.val = 704 * (4 * s.val + j.val) + p.val; omega)).trans ?_
  refine (shapeCast_apply _ _ _ (ix4 s j r p) ?_).trans (congrFun (W3_arr m ρ c 3) _)
  rw [Shape.rowMajor_val_three, Shape.rowMajor_val_four]
  show ((s.val * 4 + j.val) * 4096 + r.val) * 704 + p.val = ((4 * s.val + j.val) * 4096 + r.val) * 704 + p.val
  omega

/-! ### The results over the real numbers -/

variable (H : Fin 4096 → Fin 1024 → ℝ) (W : Fin 1024 → Fin 5632 → ℝ) (D : Fin 2816 → Fin 1024 → ℝ) (Y : Fin 4096 → Fin 1024 → ℝ)
  (hh : ∀ r k, m ((c.tc : Thread nD τ).loc main_arg0) (ix2 r k) = ((H r k : ℝ) : EReal))
  (hw : ∀ k p, m ((c.tc : Thread nD τ).loc main_arg1) (ix2 k p) = ((W k p : ℝ) : EReal))
  (hv : ∀ p k, m ((c.tc : Thread nD τ).loc main_arg2) (ix2 p k) = ((D p k : ℝ) : EReal))
  (hy : ∀ r k, m ((c.tc : Thread nD τ).loc main_arg3) (ix2 r k) = ((Y r k : ℝ) : EReal))

theorem col_lo (j : Fin 4) (p : Fin 704) : GuArray.col (lo j) p = left (line j p) := Fin.ext rfl
theorem col_hi (j : Fin 4) (p : Fin 704) : GuArray.col (hi j) p = right (line j p) :=
  Fin.ext (by show 704 * (4 + j.val) + p.val = 2816 + (704 * j.val + p.val); omega)

include hh in
theorem block_h (i j : Fin 4) (r k : Fin 1024) : iblk0 (V1 m ρ) c 0 (at0 i j) (ix2 r k) = ((H (row i r) k : ℝ) : EReal) := by
  unfold iblk0
  rw [View.read_apply, emb_h]
  exact (start_h m ρ c _ k).trans (hh _ k)

include hw in
theorem block_lo (i j : Fin 4) (k : Fin 1024) (p : Fin 704) :
    iblk0 (V1 m ρ) c 1 (at0 i j) (ix4 0 0 k p) = ((W k (left (line j p)) : ℝ) : EReal) := by
  unfold iblk0
  rw [View.read_apply, emb_lo]
  exact (start_w m ρ c _ k p).trans ((hw k _).trans (by rw [col_lo]))

include hw in
theorem block_hi (i j : Fin 4) (k : Fin 1024) (p : Fin 704) :
    iblk0 (V1 m ρ) c 2 (at0 i j) (ix4 0 0 k p) = ((W k (right (line j p)) : ℝ) : EReal) := by
  unfold iblk0
  rw [View.read_apply, emb_hi]
  exact (start_w m ρ c _ k p).trans ((hw k _).trans (by rw [col_hi]))

include hh hw in
theorem kernel_act (i j : Fin 4) (r : Fin 1024) (p : Fin 704) : W4 m ρ c (Proc.devRef .tc main_v10) (ix2 (row i r) (line j p))
    = ((act (entry H W (row i r) (left (line j p))) (entry H W (row i r) (right (line j p))) : ℝ) : EReal) :=
  (end_act m ρ c j (row i r) p).trans ((act_array r p (V1 m ρ) c i j).trans
    (out_act _ _ _ (fun r => H (row i r)) (fun k p => W k (left (line j p))) (fun k p => W k (right (line j p)))
      (block_h m ρ c H hh i j) (block_lo m ρ c W hw i j) (block_hi m ρ c W hw i j) r p))

include hy in
theorem block_y (i j : Fin 4) (r k : Fin 1024) : iblk1 (V2 m ρ) c 0 (at1 i j) (ix2 r k) = ((Y (row i r) k : ℝ) : EReal) := by
  unfold iblk1
  rw [View.read_apply, emb_dy]
  exact (congrFun (W2_args m ρ c main_arg3 (by decide)) _).trans (hy _ k)

include hv in
theorem block_v (i j : Fin 4) (p : Fin 704) (k : Fin 1024) : iblk1 (V2 m ρ) c 1 (at1 i j) (ix4 0 0 p k) = ((D (line j p) k : ℝ) : EReal) := by
  unfold iblk1
  rw [View.read_apply, emb_down]
  exact (congrFun (W2_of m ρ c main_v5 (by decide)) _).trans ((start_v m ρ c j p k).trans (hv _ k))

/-- The two factors of the gradient that the first call leaves. -/
def factor (H : Fin 4096 → Fin 1024 → ℝ) (W : Fin 1024 → Fin 5632 → ℝ) (r : Fin 4096) (q : Fin 2816) (s : Fin 2) : ℝ :=
  if s = 0 then entry H W r (right q) * gateSlope (entry H W r (left q)) else entry H W r (left q) * sig (entry H W r (left q))

include hh hw in
theorem block_factors (i j : Fin 4) : ∀ (s : Fin 2) (r : Fin 1024) (p : Fin 704),
    iblk1 (V2 m ρ) c 2 (at1 i j) (ix4 s 0 r p) = ((factor H W (row i r) (line j p) s : ℝ) : EReal) := by
  intro s r p
  unfold iblk1
  rw [View.read_apply, emb_read]
  refine (congrFun (W2_arr m ρ c 3) (ix4 s j (row i r) p)).trans ((factors_array r p (V1 m ρ) c i j s).trans ?_)
  have e : s = 0 ∨ s = 1 := by have := s.isLt; omega
  rcases e with rfl | rfl
  · exact out_first _ _ _ (fun r => H (row i r)) (fun k p => W k (left (line j p))) (fun k p => W k (right (line j p)))
      (block_h m ρ c H hh i j) (block_lo m ρ c W hw i j) (block_hi m ρ c W hw i j) r p
  · exact out_second _ _ _ (fun r => H (row i r)) (fun k p => W k (left (line j p))) (fun k p => W k (right (line j p)))
      (block_h m ρ c H hh i j) (block_lo m ρ c W hw i j) (block_hi m ρ c W hw i j) r p

include hh hw hv hy

theorem kernel_left (i j : Fin 4) (r : Fin 1024) (p : Fin 704) : W4 m ρ c (Proc.devRef .tc main_v13) (ix2 (row i r) (left (line j p)))
    = ((back Y D (row i r) (line j p) * factor H W (row i r) (line j p) 0 : ℝ) : EReal) :=
  (end_grad m ρ c 0 j (row i r) p _ (by show 704 * j.val + p.val = 2816 * 0 + (704 * j.val + p.val); omega)).trans
    ((grad_array r p (V2 m ρ) c i j 0).trans (grad_first _ _ _ (fun r => Y (row i r)) (fun p => D (line j p)) (fun s r p => factor H W (row i r) (line j p) s)
      (block_y m ρ c Y hy i j) (block_v m ρ c D hv i j) (block_factors m ρ c H W hh hw i j) r p))

theorem kernel_right (i j : Fin 4) (r : Fin 1024) (p : Fin 704) : W4 m ρ c (Proc.devRef .tc main_v13) (ix2 (row i r) (right (line j p)))
    = ((back Y D (row i r) (line j p) * factor H W (row i r) (line j p) 1 : ℝ) : EReal) :=
  (end_grad m ρ c 1 j (row i r) p _ (by show 2816 + (704 * j.val + p.val) = 2816 * 1 + (704 * j.val + p.val); omega)).trans
    ((grad_array r p (V2 m ρ) c i j 1).trans (grad_second _ _ _ (fun r => Y (row i r)) (fun p => D (line j p)) (fun s r p => factor H W (row i r) (line j p) s)
      (block_y m ρ c Y hy i j) (block_v m ρ c D hv i j) (block_factors m ρ c H W hh hw i j) r p))

omit hh hw hv hy

/-- Every row lies in a row block, every column of a half in a column block. -/
theorem row_onto (r : Fin 4096) : ∃ i q, r = row i q :=
  ⟨⟨r.val / 1024, by have := r.isLt; omega⟩, ⟨r.val % 1024, Nat.mod_lt _ (by decide)⟩,
    Fin.ext (by show r.val = 1024 * (r.val / 1024) + r.val % 1024; omega)⟩
theorem line_onto (r : Fin 2816) : ∃ j p, r = line j p :=
  ⟨⟨r.val / 704, by have := r.isLt; omega⟩, ⟨r.val % 704, Nat.mod_lt _ (by decide)⟩,
    Fin.ext (by show r.val = 704 * (r.val / 704) + r.val % 704; omega)⟩
theorem half_onto (q : Fin 5632) : (∃ p, q = left p) ∨ ∃ p, q = right p := by
  by_cases h : q.val < 2816
  · exact .inl ⟨⟨q.val, h⟩, rfl⟩
  · have := q.isLt
    exact .inr ⟨⟨q.val - 2816, by omega⟩, Fin.ext (by show q.val = 2816 + (q.val - 2816); omega)⟩

theorem claim : Cert.algebraic_FfnKernelIdeal_FfnReferenceIdeal_pre_finite_ffn := by
  intro m ρ m' ρ' hpre hag
  refine ⟨_, _, (θ_run defs _ _).mono (fun r h c => h c) (Cert.FfnRun.results m ρ),
    (θ_run Cert.FfnReferenceIdeal.defs _ _).mono (fun r h c => ?_) (Cert.FfnReferenceIdeal.Value.run m' ρ')⟩
  obtain ⟨e0, e1, k0⟩ := h c
  obtain ⟨p0, p1, p2, p3⟩ := hpre c
  obtain ⟨a0, a1, a2, a3⟩ := hag c
  obtain ⟨H, hH⟩ := array_of_test _ _ _ p0
  obtain ⟨W, hW⟩ := array_of_test _ _ _ p1
  obtain ⟨D, hD⟩ := array_of_test _ _ _ p2
  obtain ⟨Y, hY⟩ := array_of_test _ _ _ p3
  have hh := fun r k => hH (ix2 r k)
  have hw := fun r k => hW (ix2 r k)
  have hv := fun r k => hD (ix2 r k)
  have hy := fun r k => hY (ix2 r k)
  have hh' := fun r k => (congrFun a0 (ix2 r k)).trans (hh r k)
  have hw' := fun r k => (congrFun a1 (ix2 r k)).trans (hw r k)
  have hv' := fun r k => (congrFun a2 (ix2 r k)).trans (hv r k)
  have hy' := fun r k => (congrFun a3 (ix2 r k)).trans (hy r k)
  refine ⟨e0.trans ?_, e1.trans ?_, k0⟩
  · rw [Cert.FfnReferenceIdeal.Read.val_main_v15_eq]
    funext i
    rw [eq_ix2 i]
    obtain ⟨b, q, hr⟩ := row_onto (i 0)
    obtain ⟨j, p, hp⟩ := line_onto (i 1)
    rw [hr, hp]
    exact (Cert.FfnReference.act_real _ _ _ _ hh' hw' _ _).trans (kernel_act m ρ c _ _ hh hw b j q p).symm
  · rw [Cert.FfnReferenceIdeal.Read.val_main_v16_eq]
    funext i
    rw [eq_ix2 i]
    obtain ⟨b, q, hr⟩ := row_onto (i 0)
    rw [hr]
    rcases half_onto (i 1) with ⟨l, hl⟩ | ⟨l, hl⟩ <;> obtain ⟨j, p, hp⟩ := line_onto l <;> rw [hl, hp]
    · exact (Cert.FfnReference.grad_left _ _ _ _ _ _ _ _ hh' hw' hv' hy' _ _).trans (kernel_left m ρ c _ _ _ _ hh hw hv hy b j q p).symm
    · exact (Cert.FfnReference.grad_right _ _ _ _ _ _ _ _ hh' hw' hv' hy' _ _).trans (kernel_right m ρ c _ _ _ _ hh hw hv hy b j q p).symm

end Cert.FfnClaim

end
-- ==== Proof.FwdRun.lean ====
/-
  The attention's forward kernel on one head pair: its body leaves the pair's output of `AttnState`.
-/
module

public import proofs.«01_k».proof.Proof.AttnLoop
public import proofs.«01_k».proof.Proof.Gen.FwdKernelIdeal.Frame

@[expose] public section

set_option maxRecDepth 16384

noncomputable section

namespace Cert.FwdRun

open Idealize.ShloMosaic Idealize.ShloMosaic.TcCoe Idealize.SL.Sem
open Cert.FwdKernelIdeal Cert.FwdKernelIdeal.Gen Cert.AttnBlock Cert.Rows
open Cert.AttnState (h0 h1 masked bias outBlock out byBlock)
open Cert.AttnTrip (rowsAt)
open Cert.AttnLoop (query_rows key_rows bias_tile one_more)

variable {F : FTy → Type} [FloatOps F] [Named F]

/-- A block's output from the tiles it reads. -/
def outOf (h0 h1 : IVec S256x128 1) (m : FVec F S256x768 .f32 → FVec F S256x768 .f32) (q : Vec F S256x128 .bf16)
    (k v : Vec F S768x128 .bf16) (b0 b1 : Vec F S1x256x768 .f32) : FVec F S256x128 .bf16 :=
  outTile h0 v (m (score h0 q k b0)) (m (score h1 q k b1))

variable (c : Dev nD) (i : grid0.Coords)
  {arg1 : Memref sig .tc .vmem S4096x128 .bf16} (harg1 : arg1.IsWhole)
  {arg2 : Memref sig .tc .vmem S4608x128 .bf16} (harg2 : arg2.IsWhole)
  {arg3 : Memref sig .tc .vmem S4608x128 .bf16} (harg3 : arg3.IsWhole)
  {arg4 : Memref sig .tc .vmem S2x256x768 .f32} (harg4 : arg4.IsWhole)
  {arg5 : Memref sig .tc .vmem S4096x128 .bf16} (harg5 : arg5.IsWhole)

/-- What one trip of the loop stores. -/
theorem trip (a b : IVec S256x128 1) (X1 : BufTy.Contents (Elt F) arg1.view.ty) (X2 : BufTy.Contents (Elt F) arg2.view.ty)
    (X3 : BufTy.Contents (Elt F) arg3.view.ty) (X4 : BufTy.Contents (Elt F) arg4.view.ty) (t : Fin k0_t1_loop.trips) :
    tripL_k0_t1 (F := F) Variants.none c none i arg1 harg1 arg2 harg2 arg3 harg3 arg4 harg4 arg5 harg5 a b X1 X2 X3 X4 t
      = [⟨Rect.unit (s := S4096x128) (k0_off3 t) S256x128.size (k0_off3_inb t),
          outOf a b (fun s => s) (rowsAt arg1 (k0_off3 t) S256x128.size (k0_off3_inb t) X1)
            (rowsAt arg2 (k0_off4 t) S768x128.size (k0_off4_inb t) X2)
            (rowsAt arg3 (k0_off4 t) S768x128.size (k0_off4_inb t) X3)
            (rowsAt arg4 ![0, 0, 0] S1x256x768.size inb_S2x256x768_S1x256x768_0_0_0 X4)
            (rowsAt arg4 ![1, 0, 0] S1x256x768.size inb_S2x256x768_S1x256x768_1_0_0 X4)⟩] := by
  unfold tripL_k0_t1 trip_k0_t1
  rfl

variable (x0 : Vec F S4096x128 .bf16) (x1 x2 : Vec F S4608x128 .bf16) (x3 : Vec F S2x256x768 .f32)

/-- Rows of the output after one more block. -/
theorem block (n : Fin 16) {offq offk : Fin 2 → ℕ} (hq : offq = ![256 * n.val, 0]) (hk : offk = ![256 * n.val, 0])
    (inbq : ∀ z, offq z + S256x128.size z ≤ S4096x128.size z) (inbk : ∀ z, offk z + S768x128.size z ≤ S4608x128.size z)
    {a : Memref sig .tc .vmem S4096x128 .bf16} (f : BufTy.Contents (Elt F) a.view.ty)
    (L : List (View.Piece (Elt F) S4096x128 .bf16))
    (hL : ∀ y : S4096x128.Idx, (y 0).val < 256 * n.val → a.view.read (Elt F) (a.view.writes (Elt F) f L) y
      = out x0 x1 x2 x3 y) (y : S4096x128.Idx) (hy : (y 0).val < 256 * (n.val + 1)) :
    a.view.read (Elt F) (a.view.writes (Elt F) f (⟨Rect.unit (s := S4096x128) offq S256x128.size inbq,
      outOf h0 h1 (masked n) (rowsAt arg1 offq S256x128.size inbq (harg1.unread x0))
        (rowsAt arg2 offk S768x128.size inbk (harg2.unread x1)) (rowsAt arg3 offk S768x128.size inbk (harg3.unread x2))
        (rowsAt arg4 ![0, 0, 0] S1x256x768.size inb_S2x256x768_S1x256x768_0_0_0 (harg4.unread x3))
        (rowsAt arg4 ![1, 0, 0] S1x256x768.size inb_S2x256x768_S1x256x768_1_0_0 (harg4.unread x3))⟩ :: L)) y
      = out x0 x1 x2 x3 y := by
  have e0 := bias_tile harg4 x3 0 (off := ![0, 0, 0]) rfl inb_S2x256x768_S1x256x768_0_0_0
  have e1 := bias_tile harg4 x3 1 (off := ![1, 0, 0]) rfl inb_S2x256x768_S1x256x768_1_0_0
  rw [query_rows harg1 x0 n hq, key_rows harg2 x1 n hk, key_rows harg3 x2 n hk]
  refine Eq.trans ?_ (one_more (outBlock x0 x1 x2 x3) n hq inbq f L hL y hy)
  rw [← show outOf h0 h1 (masked n) (AttnState.qrows n x0) (AttnState.krows n x1) (AttnState.krows n x2) (bias 0 x3)
    (bias 1 x3) = outBlock x0 x1 x2 x3 n from rfl, ← e0, ← e1]

theorem trips_eq : k0_t1_loop.trips = 14 := by decide +kernel

/-- The block a trip works on. -/
def blockOf (t : Fin k0_t1_loop.trips) : Fin 16 := ⟨t.val + 2, by have := trips_eq; have := t.isLt; omega⟩

theorem off3 (t : Fin k0_t1_loop.trips) : k0_off3 t = ![256 * (blockOf t).val, 0] := by
  rw [k0_off3_eq]; exact congrArg (fun z => ![z, 0]) (by show 256 * t.val + 512 = 256 * (t.val + 2); omega)

theorem off4 (t : Fin k0_t1_loop.trips) : k0_off4 t = ![256 * (blockOf t).val, 0] := by
  rw [k0_off4_eq]; exact congrArg (fun z => ![z, 0]) (by show 256 * t.val + 512 = 256 * (t.val + 2); omega)

theorem masked_blockOf (t : Fin k0_t1_loop.trips) : (masked (blockOf t) : FVec F S256x768 .f32 → _) = fun s => s := by
  funext s
  unfold masked
  rw [if_neg (by show ¬ t.val + 2 = 0; omega), if_neg (by show ¬ t.val + 2 = 1; omega)]

theorem loop {a : Memref sig .tc .vmem S4096x128 .bf16} (G : BufTy.Contents (Elt F) a.view.ty) (L : List (View.Piece (Elt F) S4096x128 .bf16))
    (h : ∀ y : S4096x128.Idx, (y 0).val < 256 * 2 → a.view.read (Elt F) (a.view.writes (Elt F) G L) y = out x0 x1 x2 x3 y) :
    ∀ t : ℕ, t ≤ k0_t1_loop.trips → ∀ y : S4096x128.Idx, (y 0).val < 256 * (t + 2) →
      a.view.read (Elt F) (a.view.writes (Elt F) G (pb_k0_t1 (F := F) Variants.none c none i arg1 harg1 arg2 harg2 arg3
        harg3 arg4 harg4 arg5 harg5 h0 h1 (harg1.unread x0) (harg2.unread x1) (harg3.unread x2) (harg4.unread x3) t ++ L)) y
        = out x0 x1 x2 x3 y
  | 0, _, y, hy => h y hy
  | t + 1, ht, y, hy => by
    rw [pb_k0_t1_succ _ _ _ _ _ _ _ _ _ _ _ _ _ _ _ _ _ _ _ _ ⟨t, ht⟩]
    dsimp only
    rw [trip]
    have e := block harg1 harg2 harg3 harg4 x0 x1 x2 x3 (blockOf ⟨t, ht⟩) (off3 _) (off4 _)
      (k0_off3_inb _) (k0_off4_inb _) G _ (loop G L h t (Nat.le_of_succ_le ht)) y hy
    rw [masked_blockOf] at e
    exact e

/-- The body leaves the pair's output. -/
theorem out_eq : out0_A_4 c i arg1 harg1 arg2 harg2 arg3 harg3 arg4 harg4 arg5 harg5 x0 x1 x2 x3 = out x0 x1 x2 x3 := by
  funext y
  unfold out0_A_4
  refine loop c i harg1 harg2 harg3 harg4 harg5 x0 x1 x2 x3 _ _ (fun y hy => ?_) k0_t1_loop.trips le_rfl y
    (by rw [trips_eq]; exact (y 0).isLt)
  exact block harg1 harg2 harg3 harg4 x0 x1 x2 x3 1 rfl rfl (k0_off1_inb 1) (k0_off2_inb 1) _ _
    (block harg1 harg2 harg3 harg4 x0 x1 x2 x3 0 rfl rfl (k0_off1_inb 0) (k0_off2_inb 0) _ _
      (fun y hy => absurd hy (Nat.not_lt_zero _))) y hy

end Cert.FwdRun
-- ==== Proof.FwdArray.lean ====
/-
  The attention's forward kernel's output array after the run, from finite queries, keys and table: head by head the output of
  `AttnSpec`. What the region finds in the arrays it reads is what the backward kernel finds in its own.
-/
module

public import proofs.«01_k».proof.Proof.FwdRun
public import proofs.«01_k».proof.Proof.AttnInputs
public import proofs.«01_k».proof.Proof.Gen.FwdKernelIdeal.Value

@[expose] public section

set_option maxRecDepth 65536

noncomputable section

namespace Cert.FwdArray

open Idealize.ShloMosaic Idealize.ShloMosaic.TcCoe
open Cert.FwdKernelIdeal Cert.FwdKernelIdeal.Gen Cert.AttnSpec Cert.Finite Cert.AttnPair
open Cert.AttnHost (tile)
open Cert.AttnInputs (pcol hd pcol_lane biasTiles_apply)
open Cert.AttnMask (hlane)

section Host

variable {F : FTy → Type} [FloatOps F] [Named F] (m : (ℓ : Loc nD τ sig) → Buf (Elt F) ℓ) (c : Dev nD)

/-- The program's arguments. -/
abbrev q : (⟨S4096x1024, .f32⟩ : BufTy).Contents (Elt F) := m ((c : Thread nD τ).loc main_arg0)
abbrev k : (⟨S4608x1024, .f32⟩ : BufTy).Contents (Elt F) := m ((c : Thread nD τ).loc main_arg1)
abbrev v : (⟨S4608x1024, .f32⟩ : BufTy).Contents (Elt F) := m ((c : Thread nD τ).loc main_arg2)
abbrev rel : (⟨S16x513, .f32⟩ : BufTy).Contents (Elt F) := m ((c : Thread nD τ).loc main_arg3)

/-- The host lines before the region. -/
abbrev lines : List (HloOp τ sig (Elt F)) := [hostOps0, hostOps0_1, hostOps0_2, hostOps0_3, hostOps0_4, hostOps0_5,
  hostOps0_6, hostOps0_7, hostOps0_8, hostOps0_9, hostOps0_10].flatten

theorem queries : V m c main_v4 = (truncf .bf16 (mulf (q m c) (broadcastInDim S4096x1024 ![] bcast_S_S4096x1024
    (constant S_ .f32 0x3E000000#32))) bitsLt_bf16_f32 : (⟨S4096x1024, .bf16⟩ : BufTy).Contents (Elt F)) := by
  unfold V
  after_reads_simp

theorem keysValues : V m c main_v1 = (truncf .bf16 (concatenate S4608x2048 1 [⟨S4608x1024, k m c⟩, ⟨S4608x1024, v m c⟩]
    concatenates_S4608x1024_S4608x1024_S4608x2048_d1) bitsLt_bf16_f32 : (⟨S4608x2048, .bf16⟩ : BufTy).Contents (Elt F)) := by
  unfold V
  after_reads_simp
  rfl

theorem tile0 : StableHlo.upto lines (fun b => m (c, b)) 48 (Proc.tc.devRef main_v24) =
    tile 0 192 pads_S16x64x576_S16x64x768_000_000_01920 (rel m c) := by
  after_reads_simp
  rfl

theorem tile1 : StableHlo.upto lines (fun b => m (c, b)) 48 (Proc.tc.devRef main_v25) =
    tile 64 128 pads_S16x64x576_S16x64x768_000_000_641280 (rel m c) := by
  after_reads_simp
  rfl

theorem tile2 : StableHlo.upto lines (fun b => m (c, b)) 48 (Proc.tc.devRef main_v26) =
    tile 128 64 pads_S16x64x576_S16x64x768_000_000_128640 (rel m c) := by
  after_reads_simp
  rfl

theorem tile3 : StableHlo.upto lines (fun b => m (c, b)) 48 (Proc.tc.devRef main_v27) =
    tile 192 0 pads_S16x64x576_S16x64x768_000_000_19200 (rel m c) := by
  after_reads_simp
  rfl

/-- The bias tiles of all heads: the same host lines of the same table. -/
theorem biasTiles : V m c main_v28 = (concatenate S16x256x768 1
    [⟨S16x64x768, tile 0 192 pads_S16x64x576_S16x64x768_000_000_01920 (rel m c)⟩,
     ⟨S16x64x768, tile 64 128 pads_S16x64x576_S16x64x768_000_000_641280 (rel m c)⟩,
     ⟨S16x64x768, tile 128 64 pads_S16x64x576_S16x64x768_000_000_128640 (rel m c)⟩,
     ⟨S16x64x768, tile 192 0 pads_S16x64x576_S16x64x768_000_000_19200 (rel m c)⟩]
    concatenates_S16x64x768_S16x64x768_S16x64x768_S16x64x768_S16x256x768_d1 : (⟨S16x256x768, .f32⟩ : BufTy).Contents (Elt F)) := by
  unfold V
  after_reads_simp
  rw [← tile0, ← tile1, ← tile2, ← tile3]
  rfl

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = 8 + t.val :=
  (by decide +kernel : ∀ t : Fin grid0.N, win0_2.index t 0 = 0 ∧ win0_2.index t 1 = 8 + t.val)
theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem idx4 : ∀ t : Fin cfg0.N, win0_4.index t 0 = 0 ∧ win0_4.index t 1 = t.val :=
  (by decide +kernel : ∀ t : Fin grid0.N, win0_4.index t 0 = 0 ∧ win0_4.index t 1 = t.val)

/-- A head pair's columns of the output are what the body leaves. -/
theorem out_array (t : Fin cfg0.N) (i : Fin 4096) (l : Fin 128) :
    (dats m 0 c).arrAt 4 cfg0.N (ix2 i (pcol t l))
      = AttnState.out (iblk m c 0 t) (iblk m c 1 t) (iblk m c 2 t) (iblk m c 3 t) (ix2 i l) := by
  have hb := congrFun ((Value.blocks4 m c t (flush0_4 t)).trans (Value.flushed4_A m c t)) (ix2 i l)
  rw [View.read_apply, show ((cfg0.win 4).blk t).view.emb (ix2 i l) = ix2 i (pcol t l) from funext fun a => Fin.ext (by
    match a with
    | ⟨0, _⟩ => show win0_4.index t 0 * 4096 + 1 * i.val = i.val; rw [(idx4 t).1]; omega
    | ⟨1, _⟩ => show win0_4.index t 1 * 128 + 1 * l.val = 128 * t.val + l.val; rw [(idx4 t).2]; omega),
    FwdRun.out_eq] at hb
  exact hb

end Host

variable (m : (ℓ : Loc nD τ sig) → Buf (Elt Ideal) ℓ) (c : Dev nD)
  (Q : Fin 16 → Fin 4096 → Fin 64 → ℝ) (K : Fin 16 → Fin 4608 → Fin 64 → ℝ) (B : Fin 16 → Fin 513 → ℝ)
  (hq : ∀ h i e, q m c (ix2 i (hlane h e)) = ((Q h i e : ℝ) : EReal))
  (hk : ∀ h j e, k m c (ix2 j (hlane h e)) = ((K h j e : ℝ) : EReal))
  (hb : ∀ h z, rel m c (ix2 h z) = ((B h z : ℝ) : EReal))

include hq in
theorem queries_real (t : Fin cfg0.N) (a : Fin 2) (i : Fin 4096) (e : Fin 64) :
    iblk m c 0 t (ix2 i (lane a e)) = ((Q (hd t a) i e * (1 / 8) : ℝ) : EReal) := by
  have h : iblk m c 0 t (ix2 i (lane a e)) = V m c main_v4 (ix2 i (pcol t (lane a e))) := by
    unfold iblk
    rw [View.read_apply]
    refine congrArg (V m c main_v4) (funext fun b => Fin.ext ?_)
    match b with
    | ⟨0, _⟩ => show win0_0.index t 0 * 4096 + 1 * i.val = i.val; rw [(idx0 t).1]; omega
    | ⟨1, _⟩ => show win0_0.index t 1 * 128 + 1 * (lane a e).val = 128 * t.val + (lane a e).val; rw [(idx0 t).2]; omega
  rw [h, queries, pcol_lane]
  pointwise
  rw [hq, word_eighth, mul_real]

include hk in
theorem keys_real (t : Fin cfg0.N) (a : Fin 2) (i : Fin 4608) (e : Fin 64) :
    iblk m c 1 t (ix2 i (lane a e)) = ((K (hd t a) i e : ℝ) : EReal) := by
  have h : iblk m c 1 t (ix2 i (lane a e)) = V m c main_v1 (ix2 i ⟨(pcol t (lane a e)).val, Nat.lt_trans (pcol t (lane a e)).isLt (by decide)⟩) := by
    unfold iblk
    rw [View.read_apply]
    refine congrArg (V m c main_v1) (funext fun b => Fin.ext ?_)
    match b with
    | ⟨0, _⟩ => show win0_1.index t 0 * 4608 + 1 * i.val = i.val; rw [(idx1 t).1]; omega
    | ⟨1, _⟩ => show win0_1.index t 1 * 128 + 1 * (lane a e).val = 128 * t.val + (lane a e).val; rw [(idx1 t).2]; omega
  rw [h, keysValues, pcol_lane]
  have hl := (hlane (hd t a) e).isLt
  pointwise
  exact hk _ _ _

theorem values_apply (t : Fin cfg0.N) (a : Fin 2) (i : Fin 4608) (e : Fin 64) :
    iblk m c 2 t (ix2 i (lane a e)) = v m c (ix2 i (hlane (hd t a) e)) := by
  have h : iblk m c 2 t (ix2 i (lane a e)) = V m c main_v1 (ix2 i ⟨1024 + (pcol t (lane a e)).val, Nat.add_lt_add_left (pcol t (lane a e)).isLt 1024⟩) := by
    unfold iblk
    rw [View.read_apply]
    refine congrArg (V m c main_v1) (funext fun b => Fin.ext ?_)
    match b with
    | ⟨0, _⟩ => show win0_2.index t 0 * 4608 + 1 * i.val = i.val; rw [(idx2 t).1]; omega
    | ⟨1, _⟩ => show win0_2.index t 1 * 128 + 1 * (lane a e).val = 1024 + (128 * t.val + (lane a e).val); rw [(idx2 t).2]; omega
  rw [h, keysValues, pcol_lane]
  have hl := (hlane (hd t a) e).isLt
  pointwise

include hb in
theorem bias_real (t : Fin cfg0.N) (a : Fin 2) (r : Fin 256) (j : Fin 768) : iblk m c 3 t (ix3 a r j)
    = if inBand r j then ((B (hd t a) (col ((r.val : ℤ) + 512 - j.val)) : ℝ) : EReal) else ⊥ := by
  have h : iblk m c 3 t (ix3 a r j) = V m c main_v28 (ix3 (hd t a) r j) := by
    unfold iblk
    rw [View.read_apply]
    refine congrArg (V m c main_v28) (funext fun b => Fin.ext ?_)
    match b with
    | ⟨0, _⟩ => show win0_3.index t 0 * 2 + 1 * a.val = 2 * t.val + a.val; rw [(idx3 t).1]; omega
    | ⟨1, _⟩ => show win0_3.index t 1 * 256 + 1 * r.val = r.val; rw [(idx3 t).2.1]; omega
    | ⟨2, _⟩ => show win0_3.index t 2 * 768 + 1 * j.val = j.val; rw [(idx3 t).2.2]; omega
  rw [h, biasTiles, biasTiles_apply, hb]

include hq hk hb

theorem out_real (t : Fin cfg0.N) (a : Fin 2) (i : Fin 4096) (e : Fin 64) :
    (dats m 0 c).arrAt 4 cfg0.N (ix2 i (hlane (hd t a) e))
      = mix (Q (hd t a)) (K (hd t a)) (B (hd t a)) (fun j e => v m c (ix2 j (hlane (hd t a) e))) i e := by
  rw [← pcol_lane, out_array]
  refine (AttnPair.out_real (queries_real m c Q hq t) (keys_real m c K hk t) (bias_real m c B hb t) a i e).trans ?_
  exact congrArg (fun z => mix _ _ _ z i e) (funext fun j => funext fun e => values_apply m c t a j e)

end Cert.FwdArray

end
-- ==== Proof.FwdClaim.lean ====
/-
  The claim about the attention's forward kernel: from finite queries, keys and table its output array and the reference's result are
  the same real numbers.
-/
module

public import proofs.«01_k».proof.Defs
public import proofs.«01_k».proof.Proof.FwdArray
public import proofs.«01_k».proof.Proof.AttnClaim
public import proofs.«01_k».proof.Proof.Gen.FwdReferenceIdeal.Run
public import proofs.«01_k».proof.Proof.Gen.FwdReferenceIdeal.Read
public import proofs.«01_k».proof.Proof.Gen.Pre_finite_fwd

@[expose] public section

set_option maxRecDepth 16384

noncomputable section

namespace Cert.FwdClaim

open Idealize.ShloMosaic Idealize.ShloMosaic.TcCoe Idealize.SL.Sem
open Cert.FwdKernelIdeal Cert.FwdKernelIdeal.Gen Cert.Finite Cert.AttnSpec Cert.AttnInputs
open Cert.AttnMask (hlane)

/-- The reference's result is the cast of the forward output the backward reference is stated over: the same lines. -/
theorem same_lines {F : FTy → Type} [FloatOps F] (x0 : (⟨Cert.FwdReferenceIdeal.S4096x1024, .f32⟩ : BufTy).Contents (Elt F))
    (x1 x2 : (⟨Cert.FwdReferenceIdeal.S4608x1024, .f32⟩ : BufTy).Contents (Elt F))
    (x3 : (⟨Cert.FwdReferenceIdeal.S16x513, .f32⟩ : BufTy).Contents (Elt F)) :
    Cert.FwdReferenceIdeal.Read.val_main_v55 (F := F) x0 x1 x2 x3 = Cert.AttnReferenceIdeal.Read.val_main_v72 (F := F) x0 x1 x2 x3 := by
  sl_kernel_rfl

/-- The output of the attention block. -/
theorem claim : Cert.algebraic_FwdKernelIdeal_FwdReferenceIdeal_pre_finite_fwd := by
  intro m ρ m' ρ' hpre hag
  refine ⟨_, Value.run_blocks m ρ,
    (θ_run Cert.FwdReferenceIdeal.defs _ _).mono (fun r h c => ?_) (Cert.FwdReferenceIdeal.Value.run m' ρ')⟩
  obtain ⟨h0, rest⟩ := h c
  obtain ⟨p0, p1, p3⟩ := hpre c
  obtain ⟨a0, a1, a2, a3⟩ := hag c
  obtain ⟨X0, e0⟩ := array_of_test _ _ _ p0
  obtain ⟨X1, e1⟩ := array_of_test _ _ _ p1
  obtain ⟨X3, e3⟩ := array_of_test _ _ _ p3
  have f0 := fun (h : Fin 16) (i : Fin 4096) (e : Fin 64) => e0 (ix2 i (hlane h e))
  have f1 := fun (h : Fin 16) (j : Fin 4608) (e : Fin 64) => e1 (ix2 j (hlane h e))
  have f3 := fun (h : Fin 16) (z : Fin 513) => e3 (ix2 h z)
  refine ⟨h0.trans ?_, rest⟩
  rw [Cert.FwdReferenceIdeal.Read.val_main_v56_eq, a0, a1, a2, a3]
  refine AttnClaim.ext_heads fun t a i e => Eq.trans ?_ (FwdArray.out_real m c _ _ _ f0 f1 f3 t a i e).symm
  refine Eq.trans ?_ (Cert.AttnForward.out_mix _ _ _ _ _ _ _ f0 f1 f3 i (hd t a) e)
  rw [← same_lines]
  rfl

end Cert.FwdClaim

end
-- ==== Proof.SguBlock.lean ====
/-
  The body of the spatial gate's backward call: the values of one chunk of 128 rows and one group of 256 columns, and
  the stores of a grid point as lists over the chunks and groups.
-/
module

public import proofs.«01_k».proof.Proof.Gen.SguKernelIdeal.Frame
public import Idealize.ShloMosaic.Lib.Pointwise
public import Idealize.ShloMosaic.Lib.Tactic

@[expose] public section

set_option maxRecDepth 65536

noncomputable section

namespace Cert.SguBlock

open Idealize.ShloMosaic Idealize.ShloMosaic.TcCoe Cert.SguKernelIdeal Cert.SguKernelIdeal.Gen

variable {F : FTy → Type} [FloatOps F]

/-! ### The rectangles -/

/-- The weight's gradient of group `n % 8`. -/
abbrev rW (n : ℕ) : Rect S8x128x128 := Rect.unit (s := S8x128x128) ![n % 8, 0, 0] S1x128x128.size fun a => match a with
  | ⟨0, _⟩ => by show n % 8 + 1 ≤ 8; omega
  | ⟨1, _⟩ => by show 0 + 128 ≤ 128; omega
  | ⟨2, _⟩ => by show 0 + 128 ≤ 128; omega

/-- The columns of group `n % 8`. -/
abbrev rC (n : ℕ) : Rect S128x2048 := Rect.unit (s := S128x2048) ![0, 256 * (n % 8)] S128x256.size fun a => match a with
  | ⟨0, _⟩ => by show 0 + 128 ≤ 128; omega
  | ⟨1, _⟩ => by show 256 * (n % 8) + 256 ≤ 2048; omega

/-- The rows of chunk `c % 4`, all 4096 columns. -/
abbrev rZ (c : ℕ) : Rect S512x4096 := Rect.unit (s := S512x4096) ![128 * (c % 4), 0] S128x4096.size fun a => match a with
  | ⟨0, _⟩ => by show 128 * (c % 4) + 128 ≤ 512; omega
  | ⟨1, _⟩ => by show 0 + 4096 ≤ 4096; omega

/-- The rows of chunk `c % 4`, all 2048 columns. -/
abbrev rP (c : ℕ) : Rect S512x2048 := Rect.unit (s := S512x2048) ![128 * (c % 4), 0] S128x2048.size fun a => match a with
  | ⟨0, _⟩ => by show 128 * (c % 4) + 128 ≤ 512; omega
  | ⟨1, _⟩ => by show 0 + 2048 ≤ 2048; omega

/-- The rows of chunk `c % 4`, the columns of group `n % 8`. -/
abbrev rU (c n : ℕ) : Rect S512x4096 := Rect.unit (s := S512x4096) ![128 * (c % 4), 256 * (n % 8)] S128x256.size fun a => match a with
  | ⟨0, _⟩ => by show 128 * (c % 4) + 128 ≤ 512; omega
  | ⟨1, _⟩ => by show 256 * (n % 8) + 256 ≤ 4096; omega

/-- The rows of chunk `c % 4`, the columns of the gate's half. -/
abbrev rV (c : ℕ) : Rect S512x4096 := Rect.unit (s := S512x4096) ![128 * (c % 4), 2048] S128x2048.size fun a => match a with
  | ⟨0, _⟩ => by show 128 * (c % 4) + 128 ≤ 512; omega
  | ⟨1, _⟩ => by show 2048 + 2048 ≤ 4096; omega

theorem slicesC (n : ℕ) : S128x2048.Slices ![0, 256 * (n % 8)] S128x256 := ⟨rfl, fun a => match a with
  | ⟨0, _⟩ => by show 0 + 128 ≤ 128; omega
  | ⟨1, _⟩ => by show 256 * (n % 8) + 256 ≤ 2048; omega⟩

theorem slicesU (n : ℕ) : S128x4096.Slices ![0, 256 * (n % 8)] S128x256 := ⟨rfl, fun a => match a with
  | ⟨0, _⟩ => by show 0 + 128 ≤ 128; omega
  | ⟨1, _⟩ => by show 256 * (n % 8) + 256 ≤ 4096; omega⟩

/-! ### One chunk -/

/-- Which half of the chunk a position lies in. -/
def half (v : IVec S128x128 32) : IVec S128x128 32 :=
  select (andi
      (cmpi .ne (subi (extui 32 (cmpi .sgt v (broadcast S128x128 0#32)) natLt_1_32) (extui 32 (cmpi .slt v (broadcast S128x128 0#32)) natLt_1_32))
        (broadcast S128x128 (Scalar.subi (Scalar.extui (Scalar.cmpi .sgt 64#32 0#32)) (Scalar.extui (Scalar.cmpi .slt 64#32 0#32)))))
      (cmpi .ne (remsi v (broadcast S128x128 64#32)) (broadcast S128x128 0#32)))
    (subi (divsi v (broadcast S128x128 64#32)) (broadcast S128x128 1#32)) (divsi v (broadcast S128x128 64#32))

/-- The rows' halves, the columns' halves. -/
def rowHalf : IVec S128x128 32 := half (iota .tc S128x128 32 [0] iota_S128x128_d0_w32)
def colHalf : IVec S128x128 32 := half (iota .tc S128x128 32 [1] iota_S128x128_d1_w32)

/-- The mask, and its transpose. -/
def mask : IVec S128x128 1 := cmpi .sge rowHalf colHalf
def maskT : IVec S128x128 1 := cmpi .sge colHalf rowHalf

/-- A masked weight, rounded. -/
def masked (k : IVec S128x128 1) (w : Vec F S1x128x128 .f32) : FVec F S128x128 .bf16 :=
  truncf .bf16 (select k (shapeCast S128x128 w shapeCasts_S1x128x128_S128x128) (broadcast S128x128 (Scalar.ofBits .f32 0x00000000#32))) bitsLt_bf16_f32

def wide (z : Vec F S128x4096 .bf16) : FVec F S128x4096 .f32 :=
  extf .f32 (shapeCast S128x4096 z shapeCasts_S128x4096_S128x4096) bitsLt_bf16_f32

def wideP (p : Vec F S128x2048 .bf16) : FVec F S128x2048 .f32 :=
  extf .f32 (shapeCast S128x2048 p shapeCasts_S128x2048_S128x2048) bitsLt_bf16_f32

def gainOf (g : Vec F S1x2048 .f32) : FVec F S128x2048 .f32 :=
  broadcastTo S128x2048 (shapeCast S1x2048 g shapeCasts_S1x2048_S1x2048) broadcasts_S1x2048_S128x2048

/-- The two halves of a chunk's rows. -/
def uHalf (z : Vec F S128x4096 .bf16) : FVec F S128x2048 .f32 :=
  extractStridedSlice S128x2048 ![0, 0] (wide z) slices_S128x4096_o0_0_S128x2048
def vHalf (z : Vec F S128x4096 .bf16) : FVec F S128x2048 .f32 :=
  extractStridedSlice S128x2048 ![0, 2048] (wide z) slices_S128x4096_o0_2048_S128x2048

/-- The inverse root mean square of each row's gate. -/
def factor (z : Vec F S128x4096 .bf16) : FVec F S128x1 .f32 :=
  rsqrt (addf (divf (shapeCast S128x1 (multiReduction .add [1] S128 (mulf (vHalf z) (vHalf z)) 0x00000000#32 reduces_S128x2048_S128 (.inl rfl) rfl)
    shapeCasts_S128_S128x1) (broadcast S128x1 (Scalar.ofBits .f32 0x45000000#32))) (broadcast S128x1 (Scalar.ofBits .f32 0x358637BD#32)))

/-- The normalised gate. -/
def xhat (z : Vec F S128x4096 .bf16) : FVec F S128x2048 .f32 :=
  mulf (vHalf z) (broadcastTo S128x2048 (factor z) broadcasts_S128x1_S128x2048)

/-- The gate before the spatial product. -/
def v1 (z : Vec F S128x4096 .bf16) (g : Vec F S1x2048 .f32) : FVec F S128x2048 .bf16 :=
  truncf .bf16 (mulf (xhat z) (gainOf g)) bitsLt_bf16_f32

def v1g (z : Vec F S128x4096 .bf16) (g : Vec F S1x2048 .f32) (n : ℕ) : FVec F S128x256 .bf16 :=
  extractStridedSlice S128x256 ![0, 256 * (n % 8)] (v1 z g) (slicesC n)

def dpg (p : Vec F S128x2048 .bf16) (n : ℕ) : FVec F S128x256 .f32 :=
  extractStridedSlice S128x256 ![0, 256 * (n % 8)] (wideP p) (slicesC n)

/-- The gradient of the first half's columns. -/
def dzu (z d : Vec F S128x4096 .bf16) (p : Vec F S128x2048 .bf16) (g : Vec F S1x2048 .f32) (w : Vec F S1x128x128 .f32) (b : Vec F S128x256 .f32)
    (n : ℕ) : FVec F S128x256 .bf16 :=
  truncf .bf16 (mulf (mulf (dpg p n) (addf (matmul dot_S128x128_S128x256_S128x256_1_0_0_1_n_n none (masked mask w) (v1g z g n)
      (constant S128x256 .f32 0x00000000#32)) (shapeCast S128x256 b shapeCasts_S128x256_S128x256)))
    (extractStridedSlice S128x256 ![0, 256 * (n % 8)] (wide d) (slicesU n))) bitsLt_bf16_f32

/-- The gradient of the spatial product. -/
def dv2 (z : Vec F S128x4096 .bf16) (p : Vec F S128x2048 .bf16) (n : ℕ) : FVec F S128x256 .f32 :=
  mulf (dpg p n) (extractStridedSlice S128x256 ![0, 256 * (n % 8)] (uHalf z) (slicesC n))

/-- The bias's gradient, column by column, with a chunk's share added. -/
def dbStep (z : Vec F S128x4096 .bf16) (p : Vec F S128x2048 .bf16) (n : ℕ) (o : Vec F S128x256 .f32) : FVec F S128x256 .f32 :=
  shapeCast S128x256 (addf o (dv2 z p n)) shapeCasts_S128x256_S128x256

/-- The weight's gradient with a chunk's share added. -/
def dwStep (z : Vec F S128x4096 .bf16) (p : Vec F S128x2048 .bf16) (g : Vec F S1x2048 .f32) (n : ℕ) (o : Vec F S1x128x128 .f32) : FVec F S1x128x128 .f32 :=
  shapeCast S1x128x128 (addf (shapeCast S128x128 o shapeCasts_S1x128x128_S128x128)
    (select mask (matmul dot_S128x256_S128x256_S128x128_1_1_0_0_n_n none (truncf .bf16 (dv2 z p n) bitsLt_bf16_f32) (v1g z g n)
      (constant S128x128 .f32 0x00000000#32)) (broadcast S128x128 (Scalar.ofBits .f32 0x00000000#32)))) shapeCasts_S128x128_S1x128x128

/-- The gradient of the gate before the spatial product. -/
def dv1 (z : Vec F S128x4096 .bf16) (p : Vec F S128x2048 .bf16) (w : Vec F S1x128x128 .f32) (n : ℕ) : FVec F S128x256 .f32 :=
  shapeCast S128x256 (matmul dot_S128x128_S128x256_S128x256_1_0_0_1_n_n none (masked maskT w) (truncf .bf16 (dv2 z p n) bitsLt_bf16_f32)
    (constant S128x256 .f32 0x00000000#32)) shapeCasts_S128x256_S128x256

/-- The norm weight's gradient with a chunk's share added. -/
def dgStep (z : Vec F S128x4096 .bf16) (d1 : Vec F S128x2048 .f32) (o : Vec F S1x2048 .f32) : FVec F S1x2048 .f32 :=
  addf (shapeCast S1x2048 o shapeCasts_S1x2048_S1x2048) (shapeCast S1x2048
    (multiReduction .add [0] S2048 (mulf d1 (xhat z)) 0x00000000#32 reduces_S128x2048_S2048 (.inl rfl) rfl) shapeCasts_S2048_S1x2048)

/-- The gradient of the second half's columns. -/
def dzv (z d : Vec F S128x4096 .bf16) (g : Vec F S1x2048 .f32) (d1 : Vec F S128x2048 .f32) : FVec F S128x2048 .bf16 :=
  truncf .bf16 (mulf (mulf (broadcastTo S128x2048 (factor z) broadcasts_S128x1_S128x2048) (subf (mulf d1 (gainOf g)) (mulf (xhat z)
    (broadcastTo S128x2048 (divf (shapeCast S128x1 (multiReduction .add [1] S128 (mulf (mulf d1 (gainOf g)) (xhat z)) 0x00000000#32 reduces_S128x2048_S128 (.inl rfl) rfl)
      shapeCasts_S128_S128x1) (broadcast S128x1 (Scalar.ofBits .f32 0x45000000#32))) broadcasts_S128x1_S128x2048))))
    (extractStridedSlice S128x2048 ![0, 2048] (wide d) slices_S128x4096_o0_2048_S128x2048)) bitsLt_bf16_f32

/-- The bias's gradient of a group from its columns. -/
def dbOf (o : Vec F S128x256 .f32) : FVec F S1x128x1 .f32 :=
  shapeCast S1x128x1 (shapeCast S128x1 (multiReduction .add [1] S128 o 0x00000000#32 reduces_S128x256_S128 (.inl rfl) rfl) shapeCasts_S128_S128x1)
    shapeCasts_S128x1_S1x128x1

/-! ### The stores of a point, last first -/

/-- What a point reads: chunks of the saved activations, of the slopes, of the cotangent; the norm's weight; the spatial
weights, their transposes; the bias by groups. -/
structure Reads (F : FTy → Type) [FloatOps F] where
  z : ℕ → Vec F S128x4096 .bf16
  d : ℕ → Vec F S128x4096 .bf16
  p : ℕ → Vec F S128x2048 .bf16
  g : Vec F S1x2048 .f32
  w : ℕ → Vec F S1x128x128 .f32
  wt : ℕ → Vec F S1x128x128 .f32
  b : ℕ → Vec F S128x256 .f32

variable (R : Reads F)

def dwL (L : List (View.Piece (Elt F) S8x128x128 .f32)) (load : ℕ → List (View.Piece (Elt F) S8x128x128 .f32) → Vec F S1x128x128 .f32) (n : ℕ) :
    List (View.Piece (Elt F) S8x128x128 .f32) :=
  Nat.rec (motive := fun _ => List (View.Piece (Elt F) S8x128x128 .f32)) L
    (fun n acc => ⟨rW n, dwStep (R.z (n / 8)) (R.p (n / 8)) R.g n (load n acc)⟩ :: acc) n

def dbL (L : List (View.Piece (Elt F) S128x2048 .f32)) (load : ℕ → List (View.Piece (Elt F) S128x2048 .f32) → Vec F S128x256 .f32) (n : ℕ) :
    List (View.Piece (Elt F) S128x2048 .f32) :=
  Nat.rec (motive := fun _ => List (View.Piece (Elt F) S128x2048 .f32)) L
    (fun n acc => ⟨rC n, dbStep (R.z (n / 8)) (R.p (n / 8)) n (load n acc)⟩ :: acc) n

def d1L (n : ℕ) : List (View.Piece (Elt F) S128x2048 .f32) :=
  Nat.rec (motive := fun _ => List (View.Piece (Elt F) S128x2048 .f32)) []
    (fun n acc => ⟨rC n, dv1 (R.z (n / 8)) (R.p (n / 8)) (R.wt n) n⟩ :: acc) n

/-- The gate's gradient of a chunk as the scratch holds it after the chunk's eight stores. -/
def d1At (v : View sig .tc .vmem S128x2048 .f32) (c : ℕ) : Vec F S128x2048 .f32 :=
  v.readCov (d1L R (8 * (c + 1))) (Rect.unit (s := S128x2048) ![0, 0] S128x2048.size inb_S128x2048_S128x2048_0_0).toLoadRect

abbrev rG : Rect S1x2048 := Rect.unit (s := S1x2048) ![0, 0] S1x2048.size inb_S1x2048_S1x2048_0_0

def dgL (v : View sig .tc .vmem S128x2048 .f32) (L : List (View.Piece (Elt F) S1x2048 .f32)) (load : ℕ → List (View.Piece (Elt F) S1x2048 .f32) → Vec F S1x2048 .f32)
    (n : ℕ) : List (View.Piece (Elt F) S1x2048 .f32) :=
  Nat.rec (motive := fun _ => List (View.Piece (Elt F) S1x2048 .f32)) L
    (fun n acc => ⟨rG, dgStep (R.z n) (d1At R v n) (load n acc)⟩ :: acc) n

def dzGroups (c : ℕ) (L : List (View.Piece (Elt F) S512x4096 .bf16)) (n : ℕ) : List (View.Piece (Elt F) S512x4096 .bf16) :=
  Nat.rec (motive := fun _ => List (View.Piece (Elt F) S512x4096 .bf16)) L
    (fun n acc => ⟨rU c n, dzu (R.z c) (R.d c) (R.p c) R.g (R.w n) (R.b n) n⟩ :: acc) n

def dzL (v : View sig .tc .vmem S128x2048 .f32) (n : ℕ) : List (View.Piece (Elt F) S512x4096 .bf16) :=
  Nat.rec (motive := fun _ => List (View.Piece (Elt F) S512x4096 .bf16)) []
    (fun c acc => ⟨rV c, dzv (R.z c) (R.d c) R.g (d1At R v c)⟩ :: dzGroups R c acc 8) n

def dbF (load : ℕ → Vec F S128x256 .f32) (n : ℕ) : List (View.Piece (Elt F) S8x128x1 .f32) :=
  Nat.rec (motive := fun _ => List (View.Piece (Elt F) S8x128x1 .f32)) []
    (fun n acc => ⟨Rect.unit (s := S8x128x1) ![n % 8, 0, 0] S1x128x1.size (fun a => match a with
      | ⟨0, _⟩ => by show n % 8 + 1 ≤ 8; omega
      | ⟨1, _⟩ => by show 0 + 128 ≤ 128; omega
      | ⟨2, _⟩ => by show 0 + 1 ≤ 1; omega), dbOf (load n)⟩ :: acc) n

section Cases

variable (c : Dev nD) (i : grid0.Coords)
  (a1 : Memref sig .tc .vmem S512x4096 .bf16) (h1 : a1.IsWhole) (a2 : Memref sig .tc .vmem S512x4096 .bf16) (h2 : a2.IsWhole)
  (a3 : Memref sig .tc .vmem S512x2048 .bf16) (h3 : a3.IsWhole) (a4 : Memref sig .tc .vmem S1x2048 .f32) (h4 : a4.IsWhole)
  (a5 : Memref sig .tc .vmem S8x128x128 .f32) (h5 : a5.IsWhole) (a6 : Memref sig .tc .vmem S8x128x128 .f32) (h6 : a6.IsWhole)
  (a7 : Memref sig .tc .vmem S128x2048 .f32) (h7 : a7.IsWhole) (a8 : Memref sig .tc .vmem S512x4096 .bf16) (h8 : a8.IsWhole)
  (a9 : Memref sig .tc .vmem S8x128x128 .f32) (h9 : a9.IsWhole) (a10 : Memref sig .tc .vmem S8x128x1 .f32) (h10 : a10.IsWhole)
  (a11 : Memref sig .tc .vmem S1x2048 .f32) (h11 : a11.IsWhole) (a12 : Memref sig .tc .vmem S128x2048 .f32) (h12 : a12.IsWhole)
  (a13 : Memref sig .tc .vmem S128x2048 .f32) (h13 : a13.IsWhole)
  (x0 : Vec F S512x4096 .bf16) (x1 : Vec F S512x4096 .bf16) (x2 : Vec F S512x2048 .bf16) (x3 : Vec F S1x2048 .f32)
  (x4 : Vec F S8x128x128 .f32) (x5 : Vec F S8x128x128 .f32) (x6 : Vec F S128x2048 .f32)
  (o8 : Vec F S8x128x128 .f32) (o10 : Vec F S1x2048 .f32) (s1 : Vec F S128x2048 .f32)

/-- The reads of a point's memrefs. -/
def reads : Reads F where
  z c := a1.view.readAt (Elt F) (rZ c).toLoadRect (h1.unread x0)
  d c := a2.view.readAt (Elt F) (rZ c).toLoadRect (h2.unread x1)
  p c := a3.view.readAt (Elt F) (rP c).toLoadRect (h3.unread x2)
  g := a4.view.readAt (Elt F) rG.toLoadRect (h4.unread x3)
  w n := a5.view.readAt (Elt F) (rW n).toLoadRect (h5.unread x4)
  wt n := a6.view.readAt (Elt F) (rW n).toLoadRect (h6.unread x5)
  b n := a7.view.readAt (Elt F) (rC n).toLoadRect (h7.unread x6)

/-! A later point: what it reads first is what the point before left. -/

abbrev dwRead (n : ℕ) (L : List (View.Piece (Elt F) S8x128x128 .f32)) : Vec F S1x128x128 .f32 :=
  if n < 8 then a9.view.readAt (Elt F) (rW n).toLoadRect (h9.unread o8) else a9.view.readCov L (rW n).toLoadRect

abbrev dbRead (n : ℕ) (L : List (View.Piece (Elt F) S128x2048 .f32)) : Vec F S128x256 .f32 :=
  if n < 8 then a13.view.readAt (Elt F) (rC n).toLoadRect (h13.unread s1) else a13.view.readCov L (rC n).toLoadRect

abbrev dgRead (n : ℕ) (L : List (View.Piece (Elt F) S1x2048 .f32)) : Vec F S1x2048 .f32 :=
  if n < 1 then a11.view.readAt (Elt F) rG.toLoadRect (h11.unread o10) else a11.view.readCov L rG.toLoadRect

theorem dz_B (hc0 : ¬cond0_0 i) (hc1 : ¬cond0_1 i) :
    (kernelRun0_B c i a1 h1 a2 h2 a3 h3 a4 h4 a5 h5 a6 h6 a7 h7 a8 h8 a9 h9 a10 h10 a11 h11 a12 h12 a13 h13 hc0 hc1 x0 x1 x2 x3 x4 x5 x6 o8 o10 s1).1
      = dzL (reads a1 h1 a2 h2 a3 h3 a4 h4 a5 h5 a6 h6 a7 h7 x0 x1 x2 x3 x4 x5 x6) a12.view 4 := by
  sl_kernel_rfl

theorem dw_B (hc0 : ¬cond0_0 i) (hc1 : ¬cond0_1 i) :
    (kernelRun0_B c i a1 h1 a2 h2 a3 h3 a4 h4 a5 h5 a6 h6 a7 h7 a8 h8 a9 h9 a10 h10 a11 h11 a12 h12 a13 h13 hc0 hc1 x0 x1 x2 x3 x4 x5 x6 o8 o10 s1).2.1
      = dwL (reads a1 h1 a2 h2 a3 h3 a4 h4 a5 h5 a6 h6 a7 h7 x0 x1 x2 x3 x4 x5 x6) [] (dwRead a9 h9 o8) 32 := by
  sl_kernel_rfl

theorem dg_B (hc0 : ¬cond0_0 i) (hc1 : ¬cond0_1 i) :
    (kernelRun0_B c i a1 h1 a2 h2 a3 h3 a4 h4 a5 h5 a6 h6 a7 h7 a8 h8 a9 h9 a10 h10 a11 h11 a12 h12 a13 h13 hc0 hc1 x0 x1 x2 x3 x4 x5 x6 o8 o10 s1).2.2.2.1
      = dgL (reads a1 h1 a2 h2 a3 h3 a4 h4 a5 h5 a6 h6 a7 h7 x0 x1 x2 x3 x4 x5 x6) a12.view [] (dgRead a11 h11 o10) 4 := by
  sl_kernel_rfl

theorem db_B (hc0 : ¬cond0_0 i) (hc1 : ¬cond0_1 i) :
    (kernelRun0_B c i a1 h1 a2 h2 a3 h3 a4 h4 a5 h5 a6 h6 a7 h7 a8 h8 a9 h9 a10 h10 a11 h11 a12 h12 a13 h13 hc0 hc1 x0 x1 x2 x3 x4 x5 x6 o8 o10 s1).2.2.2.2.1
      = dbL (reads a1 h1 a2 h2 a3 h3 a4 h4 a5 h5 a6 h6 a7 h7 x0 x1 x2 x3 x4 x5 x6) [] (dbRead a13 h13 s1) 32 := by
  sl_kernel_rfl

theorem dz_C (hc0 : ¬cond0_0 i) (hc1 : cond0_1 i) :
    (kernelRun0_C c i a1 h1 a2 h2 a3 h3 a4 h4 a5 h5 a6 h6 a7 h7 a8 h8 a9 h9 a10 h10 a11 h11 a12 h12 a13 h13 hc0 hc1 x0 x1 x2 x3 x4 x5 x6 o8 o10 s1).1
      = dzL (reads a1 h1 a2 h2 a3 h3 a4 h4 a5 h5 a6 h6 a7 h7 x0 x1 x2 x3 x4 x5 x6) a12.view 4 := by
  sl_kernel_rfl

theorem dw_C (hc0 : ¬cond0_0 i) (hc1 : cond0_1 i) :
    (kernelRun0_C c i a1 h1 a2 h2 a3 h3 a4 h4 a5 h5 a6 h6 a7 h7 a8 h8 a9 h9 a10 h10 a11 h11 a12 h12 a13 h13 hc0 hc1 x0 x1 x2 x3 x4 x5 x6 o8 o10 s1).2.1
      = dwL (reads a1 h1 a2 h2 a3 h3 a4 h4 a5 h5 a6 h6 a7 h7 x0 x1 x2 x3 x4 x5 x6) [] (dwRead a9 h9 o8) 32 := by
  sl_kernel_rfl

theorem dg_C (hc0 : ¬cond0_0 i) (hc1 : cond0_1 i) :
    (kernelRun0_C c i a1 h1 a2 h2 a3 h3 a4 h4 a5 h5 a6 h6 a7 h7 a8 h8 a9 h9 a10 h10 a11 h11 a12 h12 a13 h13 hc0 hc1 x0 x1 x2 x3 x4 x5 x6 o8 o10 s1).2.2.2.1
      = dgL (reads a1 h1 a2 h2 a3 h3 a4 h4 a5 h5 a6 h6 a7 h7 x0 x1 x2 x3 x4 x5 x6) a12.view [] (dgRead a11 h11 o10) 4 := by
  sl_kernel_rfl

theorem db_C (hc0 : ¬cond0_0 i) (hc1 : cond0_1 i) :
    (kernelRun0_C c i a1 h1 a2 h2 a3 h3 a4 h4 a5 h5 a6 h6 a7 h7 a8 h8 a9 h9 a10 h10 a11 h11 a12 h12 a13 h13 hc0 hc1 x0 x1 x2 x3 x4 x5 x6 o8 o10 s1).2.2.2.2.1
      = dbL (reads a1 h1 a2 h2 a3 h3 a4 h4 a5 h5 a6 h6 a7 h7 x0 x1 x2 x3 x4 x5 x6) [] (dbRead a13 h13 s1) 32 := by
  sl_kernel_rfl

theorem last_C (hc0 : ¬cond0_0 i) (hc1 : cond0_1 i) :
    (kernelRun0_C c i a1 h1 a2 h2 a3 h3 a4 h4 a5 h5 a6 h6 a7 h7 a8 h8 a9 h9 a10 h10 a11 h11 a12 h12 a13 h13 hc0 hc1 x0 x1 x2 x3 x4 x5 x6 o8 o10 s1).2.2.1
      = dbF (fun n => a13.view.readCov (dbL (reads a1 h1 a2 h2 a3 h3 a4 h4 a5 h5 a6 h6 a7 h7 x0 x1 x2 x3 x4 x5 x6) [] (dbRead a13 h13 s1) 32) (rC n).toLoadRect) 8 := by
  sl_kernel_rfl

theorem dz_A (hc0 : cond0_0 i) (hc1 : ¬cond0_1 i) :
    (kernelRun0_A c i a1 h1 a2 h2 a3 h3 a4 h4 a5 h5 a6 h6 a7 h7 a8 h8 a9 h9 a10 h10 a11 h11 a12 h12 a13 h13 hc0 hc1 x0 x1 x2 x3 x4 x5 x6).1
      = dzL (reads a1 h1 a2 h2 a3 h3 a4 h4 a5 h5 a6 h6 a7 h7 x0 x1 x2 x3 x4 x5 x6) a12.view 4 := by
  sl_kernel_rfl

theorem dw_A (hc0 : cond0_0 i) (hc1 : ¬cond0_1 i) :
    (kernelRun0_A c i a1 h1 a2 h2 a3 h3 a4 h4 a5 h5 a6 h6 a7 h7 a8 h8 a9 h9 a10 h10 a11 h11 a12 h12 a13 h13 hc0 hc1 x0 x1 x2 x3 x4 x5 x6).2.1
      = dwL (reads a1 h1 a2 h2 a3 h3 a4 h4 a5 h5 a6 h6 a7 h7 x0 x1 x2 x3 x4 x5 x6) [⟨Rect.unit (s := S8x128x128) ![0, 0, 0] S8x128x128.size inb_S8x128x128_S8x128x128_0_0_0, k0_pay10⟩]
        (fun n L => a9.view.readCov L (rW n).toLoadRect) 32 := by
  sl_kernel_rfl

theorem dg_A (hc0 : cond0_0 i) (hc1 : ¬cond0_1 i) :
    (kernelRun0_A c i a1 h1 a2 h2 a3 h3 a4 h4 a5 h5 a6 h6 a7 h7 a8 h8 a9 h9 a10 h10 a11 h11 a12 h12 a13 h13 hc0 hc1 x0 x1 x2 x3 x4 x5 x6).2.2.2.1
      = dgL (reads a1 h1 a2 h2 a3 h3 a4 h4 a5 h5 a6 h6 a7 h7 x0 x1 x2 x3 x4 x5 x6) a12.view [⟨rG, k0_pay11⟩] (fun _ L => a11.view.readCov L rG.toLoadRect) 4 := by
  sl_kernel_rfl

theorem db_A (hc0 : cond0_0 i) (hc1 : ¬cond0_1 i) :
    (kernelRun0_A c i a1 h1 a2 h2 a3 h3 a4 h4 a5 h5 a6 h6 a7 h7 a8 h8 a9 h9 a10 h10 a11 h11 a12 h12 a13 h13 hc0 hc1 x0 x1 x2 x3 x4 x5 x6).2.2.2.2.1
      = dbL (reads a1 h1 a2 h2 a3 h3 a4 h4 a5 h5 a6 h6 a7 h7 x0 x1 x2 x3 x4 x5 x6) [⟨Rect.unit (s := S128x2048) ![0, 0] S128x2048.size inb_S128x2048_S128x2048_0_0, k0_pay12⟩]
        (fun n L => a13.view.readCov L (rC n).toLoadRect) 32 := by
  sl_kernel_rfl

end Cases

end Cert.SguBlock
-- ==== Proof.SguChunk.lean ====
/-
  One chunk of 128 rows of the spatial gate's backward call, over the real numbers, and the kernel's values of it.
-/
module

public import proofs.«01_k».proof.Proof.SguBlock
public import proofs.«01_k».proof.Proof.Norm

@[expose] public section

set_option maxRecDepth 65536

noncomputable section

namespace Cert.SguChunk

open Idealize.ShloMosaic Idealize.ShloMosaic.TcCoe Cert.SguKernelIdeal Cert.SguKernelIdeal.Gen Cert.SguBlock Cert.Finite Cert.Norm

/-! ### The mask -/

/-- The half a position's word names. -/
def halfWord (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem half_apply (v : IVec S128x128 32) (i j : Fin 128) : half v (ix2 i j) = halfWord (v (ix2 i j)) := by
  pointwise [half]
  rfl

theorem halfWord_eq : ∀ i : Fin 128, halfWord (BitVec.ofNat 32 i.val) = BitVec.ofNat 32 (i.val / 64) := by
  decide +kernel

theorem rowHalf_apply (i j : Fin 128) : rowHalf (ix2 i j) = BitVec.ofNat 32 (i.val / 64) := by
  unfold rowHalf
  rw [half_apply, ← halfWord_eq]
  exact congrArg (fun n => halfWord (BitVec.ofNat 32 n)) (show 0 * 128 + i.val = i.val by omega)

theorem colHalf_apply (i j : Fin 128) : colHalf (ix2 i j) = BitVec.ofNat 32 (j.val / 64) := by
  unfold colHalf
  rw [half_apply, ← halfWord_eq]
  exact congrArg (fun n => halfWord (BitVec.ofNat 32 n)) (show 0 * 128 + j.val = j.val by omega)

/-- Row `i` takes from position `j`. -/
abbrev keep (i j : Fin 128) : Prop := j.val / 64 ≤ i.val / 64

theorem sge_halves : ∀ i j : Fin 128, IntOp.cmpi .sge (BitVec.ofNat 32 (i.val / 64)) (BitVec.ofNat 32 (j.val / 64)) = if keep i j then 1#1 else 0#1 := by
  have h : ∀ a b : Fin 2, IntOp.cmpi .sge (BitVec.ofNat 32 a.val) (BitVec.ofNat 32 b.val) = if b.val ≤ a.val then 1#1 else 0#1 := by decide
  intro i j
  exact h ⟨i.val / 64, by omega⟩ ⟨j.val / 64, by omega⟩

theorem mask_apply (i j : Fin 128) : mask (ix2 i j) = if keep i j then 1#1 else 0#1 := by
  rw [← sge_halves, ← rowHalf_apply i j, ← colHalf_apply i j]
  rfl

theorem maskT_apply (i j : Fin 128) : maskT (ix2 i j) = if keep j i then 1#1 else 0#1 := by
  rw [← sge_halves, ← rowHalf_apply j i, ← colHalf_apply j i, rowHalf_apply, colHalf_apply, ← rowHalf_apply i j, ← colHalf_apply i j]
  rfl

/-! ### The chunk over the real numbers -/

/-- Column `k` of the first half, of the second. -/
abbrev lo (k : Fin 2048) : Fin 4096 := ⟨k.val, by omega⟩
abbrev hi (k : Fin 2048) : Fin 4096 := ⟨2048 + k.val, by omega⟩

/-- Column `e` of group `n % 8`. -/
abbrev col (n : ℕ) (e : Fin 256) : Fin 2048 := ⟨256 * (n % 8) + e.val, by omega⟩

section Real

variable (Z D : Fin 128 → Fin 4096 → ℝ) (Q : Fin 128 → Fin 2048 → ℝ) (G : Fin 2048 → ℝ) (W : Fin 128 → Fin 128 → ℝ) (B : Fin 128 → ℝ)

def gate (i : Fin 128) (k : Fin 2048) : ℝ := Z i (hi k)

def normed (i : Fin 128) (k : Fin 2048) : ℝ := gate Z i k * scale 2048 (gate Z i)

/-- The masked spatial weight. -/
def kept (i j : Fin 128) : ℝ := if keep i j then W i j else 0

/-- The gate after the spatial product. -/
def mixed (i : Fin 128) (k : Fin 2048) : ℝ := ∑ j, kept W i j * (normed Z j k * G k) + B i

/-- What arrives at the spatial product. -/
def dMixed (i : Fin 128) (k : Fin 2048) : ℝ := Q i k * Z i (lo k)

/-- A chunk's share of the spatial weight's gradient. -/
def dW (n : ℕ) (i j : Fin 128) : ℝ := if keep i j then ∑ e : Fin 256, dMixed Z Q i (col n e) * (normed Z j (col n e) * G (col n e)) else 0

/-- What arrives at the weighted norm. -/
def dWeighted (i : Fin 128) (k : Fin 2048) : ℝ := ∑ j, kept W j i * dMixed Z Q j k

def dLo (i : Fin 128) (k : Fin 2048) : ℝ := Q i k * mixed Z G W B i k * D i (lo k)

/-- The gradient of the second half, from what arrives at the weighted norm. -/
def dHi (E : Fin 128 → Fin 2048 → ℝ) (i : Fin 128) (k : Fin 2048) : ℝ := back 2048 (gate Z i) (fun j => E i j * G j) k * D i (hi k)

end Real

/-! ### The kernel's values -/

theorem word_2048 : Ideal.ofBits .f32 0x45000000#32 = ((2048 : ℝ) : EReal) := by
  simp [Ideal.ofBits, Ideal.ieee, -EReal.coe_mul]; norm_num

theorem div_2048 (a : ℝ) : Ideal.div (a : EReal) ((2048 : ℝ) : EReal) = ((a / 2048 : ℝ) : EReal) := div_real a (by norm_num)

variable (z d : Vec Ideal S128x4096 .bf16) (p : Vec Ideal S128x2048 .bf16) (g : Vec Ideal S1x2048 .f32) (w wt : Vec Ideal S1x128x128 .f32)
  (b : Vec Ideal S128x256 .f32)
  (Z D : Fin 128 → Fin 4096 → ℝ) (Q : Fin 128 → Fin 2048 → ℝ) (G : Fin 2048 → ℝ) (W : Fin 128 → Fin 128 → ℝ) (B : Fin 128 → ℝ)
  (hz : ∀ i k, z (ix2 i k) = ((Z i k : ℝ) : EReal)) (hd : ∀ i k, d (ix2 i k) = ((D i k : ℝ) : EReal))
  (hp : ∀ i k, p (ix2 i k) = ((Q i k : ℝ) : EReal)) (hg : ∀ k, g (ix2 0 k) = ((G k : ℝ) : EReal))
  (hw : ∀ i j, w (ix3 0 i j) = ((W i j : ℝ) : EReal)) (hwt : ∀ i j, wt (ix3 0 i j) = ((W j i : ℝ) : EReal))
  (hb : ∀ i e, b (ix2 i e) = ((B i : ℝ) : EReal))

include hz in
theorem uHalf_real (i : Fin 128) (k : Fin 2048) : uHalf (F := Ideal) z (ix2 i k) = ((Z i (lo k) : ℝ) : EReal) := by
  unfold uHalf wide
  rw [extractStridedSlice_apply _ _ _ (ix2 i k) (ix2 i (lo k)) (fun a => match a with
    | ⟨0, _⟩ => by show i.val = 0 + i.val; omega
    | ⟨1, _⟩ => by show k.val = 0 + k.val; omega)]
  pointwise []
  exact hz i (lo k)

include hz in
theorem vHalf_real (i : Fin 128) (k : Fin 2048) : vHalf (F := Ideal) z (ix2 i k) = ((gate Z i k : ℝ) : EReal) := by
  unfold vHalf wide
  rw [extractStridedSlice_apply _ _ _ (ix2 i k) (ix2 i (hi k)) (fun a => match a with
    | ⟨0, _⟩ => by show i.val = 0 + i.val; omega
    | ⟨1, _⟩ => rfl)]
  pointwise []
  exact hz i (hi k)

include hz in
theorem inv_real (i : Fin 128) (t : Fin 1) : factor (F := Ideal) z (ix2 i t) = ((scale 2048 (gate Z i) : ℝ) : EReal) := by
  pointwise [factor]
  simp only [vHalf_real z Z hz, mul_real, sum_real, word_2048, div_2048, word_eps, add_real]
  exact rsqrt_real (meanSq_pos (c := 2048) (by norm_num) (gate Z i))

include hz in
theorem xhat_real (i : Fin 128) (k : Fin 2048) : xhat (F := Ideal) z (ix2 i k) = ((normed Z i k : ℝ) : EReal) := by
  pointwise [xhat]
  rw [vHalf_real z Z hz, inv_real z Z hz, mul_real]
  rfl

include hg in
theorem gainOf_real (i : Fin 128) (k : Fin 2048) : gainOf (F := Ideal) g (ix2 i k) = ((G k : ℝ) : EReal) := by
  pointwise [gainOf]
  exact hg k

include hz hg in
theorem v1g_real (n : ℕ) (i : Fin 128) (e : Fin 256) :
    v1g (F := Ideal) z g n (ix2 i e) = ((normed Z i (col n e) * G (col n e) : ℝ) : EReal) := by
  unfold v1g
  rw [extractStridedSlice_apply _ _ _ (ix2 i e) (ix2 i (col n e)) (fun a => match a with
    | ⟨0, _⟩ => by show i.val = 0 + i.val; omega
    | ⟨1, _⟩ => rfl)]
  pointwise [v1]
  rw [xhat_real z Z hz, gainOf_real g G hg, mul_real]

include hp in
theorem dpg_real (n : ℕ) (i : Fin 128) (e : Fin 256) : dpg (F := Ideal) p n (ix2 i e) = ((Q i (col n e) : ℝ) : EReal) := by
  unfold dpg wideP
  rw [extractStridedSlice_apply _ _ _ (ix2 i e) (ix2 i (col n e)) (fun a => match a with
    | ⟨0, _⟩ => by show i.val = 0 + i.val; omega
    | ⟨1, _⟩ => rfl)]
  pointwise []
  exact hp i _

include hz hp in
theorem dv2_real (n : ℕ) (i : Fin 128) (e : Fin 256) : dv2 (F := Ideal) z p n (ix2 i e) = ((dMixed Z Q i (col n e) : ℝ) : EReal) := by
  unfold dv2
  have h : extractStridedSlice S128x256 ![0, 256 * (n % 8)] (uHalf (F := Ideal) z) (slicesC n) (ix2 i e) = ((Z i (lo (col n e)) : ℝ) : EReal) := by
    rw [extractStridedSlice_apply _ _ _ (ix2 i e) (ix2 i (col n e)) (fun a => match a with
      | ⟨0, _⟩ => by show i.val = 0 + i.val; omega
      | ⟨1, _⟩ => rfl)]
    exact uHalf_real z Z hz i _
  generalize extractStridedSlice S128x256 ![0, 256 * (n % 8)] (uHalf (F := Ideal) z) (slicesC n) = u at h ⊢
  pointwise []
  rw [dpg_real p Q hp, h, mul_real]
  rfl

theorem pick (P : Prop) [Decidable P] (x y : EReal) : (if (if P then 1#1 else 0#1) = 1#1 then x else y) = if P then x else y := by
  by_cases h : P <;> simp [h]

theorem pick_real (P : Prop) [Decidable P] (x : ℝ) : (if P then (x : EReal) else 0) = ((if P then x else 0 : ℝ) : EReal) := by
  by_cases h : P <;> simp [h]

include hw in
theorem masked_real (i j : Fin 128) : masked (F := Ideal) mask w (ix2 i j) = ((kept W i j : ℝ) : EReal) := by
  have hm := mask_apply i j
  generalize mask = k at hm ⊢
  pointwise [masked]
  rw [hm, hw]
  exact (pick _ _ _).trans (pick_real _ _)

include hwt in
theorem maskedT_real (i j : Fin 128) : masked (F := Ideal) maskT wt (ix2 i j) = ((kept W j i : ℝ) : EReal) := by
  have hm := maskT_apply i j
  generalize maskT = k at hm ⊢
  pointwise [masked]
  rw [hm, hwt]
  exact (pick _ _ _).trans (pick_real _ _)

include hz hd hp hg hw hb in
theorem dzu_real (n : ℕ) (i : Fin 128) (e : Fin 256) :
    dzu (F := Ideal) z d p g w b n (ix2 i e) = ((dLo Z D Q G W B i (col n e) : ℝ) : EReal) := by
  unfold dzu
  have h : extractStridedSlice S128x256 ![0, 256 * (n % 8)] (wide (F := Ideal) d) (slicesU n) (ix2 i e) = ((D i (lo (col n e)) : ℝ) : EReal) := by
    rw [extractStridedSlice_apply _ _ _ (ix2 i e) (ix2 i (lo (col n e))) (fun a => match a with
      | ⟨0, _⟩ => by show i.val = 0 + i.val; omega
      | ⟨1, _⟩ => rfl)]
    pointwise [wide]
    exact hd i _
  generalize extractStridedSlice S128x256 ![0, 256 * (n % 8)] (wide (F := Ideal) d) (slicesU n) = u at h ⊢
  pointwise []
  simp only [dpg_real p Q hp, masked_real w W hw, v1g_real z g Z G hz hg, hb, h, mul_real, sum_real, add_real]
  rfl

include hz hp hwt in
theorem dv1_real (n : ℕ) (i : Fin 128) (e : Fin 256) :
    dv1 (F := Ideal) z p wt n (ix2 i e) = ((dWeighted Z Q W i (col n e) : ℝ) : EReal) := by
  pointwise [dv1]
  simp only [maskedT_real wt W hwt, dv2_real z p Z Q hz hp, mul_real, sum_real]
  rfl

include hz hp in
theorem dbStep_real (n : ℕ) (o : Vec Ideal S128x256 .f32) (i : Fin 128) (e : Fin 256) :
    dbStep (F := Ideal) z p n o (ix2 i e) = o (ix2 i e) + ((dMixed Z Q i (col n e) : ℝ) : EReal) := by
  pointwise [dbStep]
  rw [dv2_real z p Z Q hz hp]

include hz hp hg in
theorem dwStep_real (n : ℕ) (o : Vec Ideal S1x128x128 .f32) (i j : Fin 128) :
    dwStep (F := Ideal) z p g n o (ix3 0 i j) = o (ix3 0 i j) + ((dW Z Q G n i j : ℝ) : EReal) := by
  have hm := mask_apply i j
  unfold dwStep
  generalize mask = k at hm ⊢
  pointwise []
  simp only [dv2_real z p Z Q hz hp, v1g_real z g Z G hz hg, mul_real, sum_real]
  rw [hm]
  exact congrArg (o (ix3 0 i j) + ·) ((pick _ _ _).trans (pick_real _ _))

variable (E : Fin 128 → Fin 2048 → ℝ) (d1 : Vec Ideal S128x2048 .f32) (hE : ∀ i k, d1 (ix2 i k) = ((E i k : ℝ) : EReal))

include hz hE in
theorem dgStep_real (o : Vec Ideal S1x2048 .f32) (k : Fin 2048) :
    dgStep (F := Ideal) z d1 o (ix2 0 k) = o (ix2 0 k) + ((∑ i, E i k * normed Z i k : ℝ) : EReal) := by
  pointwise [dgStep]
  simp only [hE, xhat_real z Z hz, mul_real, sum_real]

include hz hd hg hE in
theorem dzv_real (i : Fin 128) (k : Fin 2048) :
    dzv (F := Ideal) z d g d1 (ix2 i k) = ((dHi Z D G E i k : ℝ) : EReal) := by
  unfold dzv
  have h : extractStridedSlice S128x2048 ![0, 2048] (wide (F := Ideal) d) slices_S128x4096_o0_2048_S128x2048 (ix2 i k) = ((D i (hi k) : ℝ) : EReal) := by
    rw [extractStridedSlice_apply _ _ _ (ix2 i k) (ix2 i (hi k)) (fun a => match a with
      | ⟨0, _⟩ => by show i.val = 0 + i.val; omega
      | ⟨1, _⟩ => rfl)]
    pointwise [wide]
    exact hd i _
  generalize extractStridedSlice S128x2048 ![0, 2048] (wide (F := Ideal) d) slices_S128x4096_o0_2048_S128x2048 = u at h ⊢
  pointwise []
  simp only [hE, inv_real z Z hz, gainOf_real g G hg, xhat_real z Z hz, h, mul_real, sum_real, word_2048, div_2048, sub_real]
  rfl

/-- The bias's gradient of a group from its columns. -/
theorem dbOf_apply (o : Vec Ideal S128x256 .f32) (i : Fin 128) : dbOf (F := Ideal) o (ix3 0 i 0) = ∑ e, o (ix2 i e) := by
  pointwise [dbOf]

end Cert.SguChunk

end
-- ==== Proof.SguStores.lean ====
/-
  What the stores of one grid point of the spatial gate's backward call leave at an index, over the real numbers.
-/
module

public import proofs.«01_k».proof.Proof.SguChunk
public import Idealize.ShloMosaic.Lib.WritesUnit

@[expose] public section

set_option maxRecDepth 65536

noncomputable section

namespace Cert.SguStores

open Idealize.ShloMosaic Idealize.ShloMosaic.TcCoe Cert.SguKernelIdeal Cert.SguKernelIdeal.Gen Cert.SguBlock Cert.SguChunk Cert.Finite Cert.Norm

/-- The reads of a point are real numbers: chunks of rows, and the weights and biases of the groups. -/
structure IsReal (R : Reads Ideal) (Z D : ℕ → Fin 128 → Fin 4096 → ℝ) (Q : ℕ → Fin 128 → Fin 2048 → ℝ) (G : Fin 2048 → ℝ)
    (W : ℕ → Fin 128 → Fin 128 → ℝ) (B : ℕ → Fin 128 → ℝ) : Prop where
  z : ∀ c i k, R.z c (ix2 i k) = ((Z c i k : ℝ) : EReal)
  d : ∀ c i k, R.d c (ix2 i k) = ((D c i k : ℝ) : EReal)
  p : ∀ c i k, R.p c (ix2 i k) = ((Q c i k : ℝ) : EReal)
  g : ∀ k, R.g (ix2 0 k) = ((G k : ℝ) : EReal)
  w : ∀ n i j, R.w n (ix3 0 i j) = ((W (n % 8) i j : ℝ) : EReal)
  wt : ∀ n i j, R.wt n (ix3 0 i j) = ((W (n % 8) j i : ℝ) : EReal)
  b : ∀ n i e, R.b n (ix2 i e) = ((B (n % 8) i : ℝ) : EReal)

/-- A running sum written in turn at eight places, one round of eight after another: every place's value after `n`
writes, read through any of the views `ι`; a write reads through the view `u`, on the first round maybe the old value. -/
theorem rounds {ι : Type*} (f : ι → ℕ → EReal) (u : ι) (g : ℕ) (hg : g < 8) (init : EReal) (D : ℕ → ℝ) (z : Prop) [Decidable z]
    (h0 : z → ∀ v, f v 0 = init)
    (hs : ∀ v n, f v (n + 1) = if n % 8 = g then (if n < 8 ∧ ¬z then init else f u n) + ((D (n / 8) : ℝ) : EReal) else f v n) :
    ∀ n v, z ∨ g < n → f v n = init + ((∑ k ∈ Finset.range ((n + 7 - g) / 8), D k : ℝ) : EReal) := by
  intro n
  induction n with
  | zero =>
    intro v h
    have hz : z := h.resolve_right (by omega)
    rw [h0 hz, show (0 + 7 - g) / 8 = 0 by omega, Finset.sum_range_zero, EReal.coe_zero, add_zero]
  | succ n ih =>
    intro v h
    rw [hs]
    by_cases hn : n % 8 = g
    · rw [if_pos hn, show (n + 1 + 7 - g) / 8 = n / 8 + 1 by omega, Finset.sum_range_succ, EReal.coe_add, ← add_assoc]
      congr 1
      by_cases hc : n < 8 ∧ ¬z
      · rw [if_pos hc, show n / 8 = 0 by omega, Finset.sum_range_zero, EReal.coe_zero, add_zero]
      · rw [if_neg hc, ih u (by
          by_cases hz : z
          · exact .inl hz
          · exact .inr (by have : ¬n < 8 := fun h => hc ⟨h, hz⟩; omega)), show (n + 7 - g) / 8 = n / 8 by omega]
    · rw [if_neg hn, ih v (h.imp id (by omega)), show (n + 1 + 7 - g) / 8 = (n + 7 - g) / 8 by omega]

/-- The same at one place. -/
theorem turns {ι : Type*} (f : ι → ℕ → EReal) (u : ι) (init : EReal) (D : ℕ → ℝ) (z : Prop) [Decidable z]
    (h0 : z → ∀ v, f v 0 = init)
    (hs : ∀ v n, f v (n + 1) = (if n < 1 ∧ ¬z then init else f u n) + ((D n : ℝ) : EReal)) :
    ∀ n v, z ∨ 0 < n → f v n = init + ((∑ k ∈ Finset.range n, D k : ℝ) : EReal) := by
  intro n
  induction n with
  | zero =>
    intro v h
    rw [h0 (h.resolve_right (by omega)), Finset.sum_range_zero, EReal.coe_zero, add_zero]
  | succ n ih =>
    intro v h
    rw [hs, Finset.sum_range_succ, EReal.coe_add, ← add_assoc]
    congr 1
    by_cases hc : n < 1 ∧ ¬z
    · rw [if_pos hc, show n = 0 by omega, Finset.sum_range_zero, EReal.coe_zero, add_zero]
    · rw [if_neg hc, ih u (by
        by_cases hz : z
        · exact .inl hz
        · exact .inr (by have : ¬n < 1 := fun h => hc ⟨h, hz⟩; omega))]

variable (R : Reads Ideal) (Z D : ℕ → Fin 128 → Fin 4096 → ℝ) (Q : ℕ → Fin 128 → Fin 2048 → ℝ) (G : Fin 2048 → ℝ)
  (W : ℕ → Fin 128 → Fin 128 → ℝ) (B : ℕ → Fin 128 → ℝ) (hR : IsReal R Z D Q G W B)

/-- What a view of a buffer reads after a list of stores over unknown contents. -/
abbrev after {s : Shape} (v : View sig .tc .vmem s .f32) (L : List (View.Piece (Elt Ideal) s .f32)) : s.Idx → EReal :=
  v.read (Elt Ideal) (v.writes (Elt Ideal) v.junk L)

include hR

/-- The spatial weight's gradient. -/
theorem dw_after (u : View sig .tc .vmem S8x128x128 .f32) (z : Prop) [Decidable z] (L : List (View.Piece (Elt Ideal) S8x128x128 .f32))
    (load : ℕ → List (View.Piece (Elt Ideal) S8x128x128 .f32) → Vec Ideal S1x128x128 .f32) (old : Fin 8 → Fin 128 → Fin 128 → EReal)
    (hload : ∀ n l i j, load n l (ix3 0 i j) = if n < 8 ∧ ¬z then old ⟨n % 8, by omega⟩ i j else after u l (ix3 ⟨n % 8, by omega⟩ i j))
    (hL : z → ∀ v g i j, after v L (ix3 g i j) = old g i j) (v : View sig .tc .vmem S8x128x128 .f32) (g : Fin 8) (i j : Fin 128) :
    after v (dwL R L load 32) (ix3 g i j)
      = old g i j + ((∑ c ∈ Finset.range 4, dW (Z c) (Q c) G g.val i j : ℝ) : EReal) := by
  have h := rounds (fun v n => after v (dwL R L load n) (ix3 g i j)) u g.val g.isLt (old g i j)
    (fun c => dW (Z c) (Q c) G g.val i j) z (fun hz v => hL hz v g i j) (fun v n => ?_) 32 v (.inr (by omega))
  · rw [show (32 + 7 - g.val) / 8 = 4 by omega] at h
    exact h
  · by_cases hn : n % 8 = g.val
    · rw [if_pos hn]
      have hg : (⟨n % 8, by omega⟩ : Fin 8) = g := Fin.ext hn
      have hst := dwStep_real (R.z (n / 8)) (R.p (n / 8)) R.g (Z (n / 8)) (Q (n / 8)) G (hR.z _) (hR.p _) hR.g n (load n (dwL R L load n)) i j
      rw [hload, hg] at hst
      refine (View.read_writes_cons_unit_of_mem v _ _ _ (dwL R L load n) (ix3 g i j) (ix3 0 i j) rfl (fun a => ?_)).trans
        (hst.trans (congrArg (fun x : ℝ => (if n < 8 ∧ ¬z then old g i j else after u (dwL R L load n) (ix3 g i j)) + (x : EReal)) ?_))
      · match a with
        | ⟨0, _⟩ => show g.val = n % 8 + 0; omega
        | ⟨1, _⟩ => show i.val = 0 + i.val; omega
        | ⟨2, _⟩ => show j.val = 0 + j.val; omega
      · unfold dW
        have hc : ∀ e, col n e = col g.val e := fun e => Fin.ext (by show 256 * (n % 8) + _ = 256 * (g.val % 8) + _; omega)
        simp only [hc]
    · rw [if_neg hn]
      refine View.read_writes_cons_unit_of_not_mem v _ _ _ (dwL R L load n) (ix3 g i j) rfl ⟨0, by decide⟩ ?_
      show g.val < n % 8 ∨ n % 8 + 1 ≤ g.val
      omega

/-- The bias's gradient, column by column. -/
theorem db_after (u : View sig .tc .vmem S128x2048 .f32) (z : Prop) [Decidable z] (L : List (View.Piece (Elt Ideal) S128x2048 .f32))
    (load : ℕ → List (View.Piece (Elt Ideal) S128x2048 .f32) → Vec Ideal S128x256 .f32) (old : Fin 128 → Fin 2048 → EReal)
    (hload : ∀ n l i e, load n l (ix2 i e) = if n < 8 ∧ ¬z then old i (col n e) else after u l (ix2 i (col n e)))
    (hL : z → ∀ v i k, after v L (ix2 i k) = old i k) (v : View sig .tc .vmem S128x2048 .f32) (i : Fin 128) (k : Fin 2048) :
    after v (dbL R L load 32) (ix2 i k) = old i k + ((∑ c ∈ Finset.range 4, dMixed (Z c) (Q c) i k : ℝ) : EReal) := by
  have h := rounds (fun v n => after v (dbL R L load n) (ix2 i k)) u (k.val / 256) (by omega) (old i k)
    (fun c => dMixed (Z c) (Q c) i k) z (fun hz v => hL hz v i k) (fun v n => ?_) 32 v (.inr (by omega))
  · rw [show (32 + 7 - k.val / 256) / 8 = 4 by omega] at h
    exact h
  · by_cases hn : n % 8 = k.val / 256
    · rw [if_pos hn]
      have hk : col n ⟨k.val % 256, by omega⟩ = k := Fin.ext (by show 256 * (n % 8) + k.val % 256 = k.val; omega)
      have hst := dbStep_real (R.z (n / 8)) (R.p (n / 8)) (Z (n / 8)) (Q (n / 8)) (hR.z _) (hR.p _) n (load n (dbL R L load n)) i ⟨k.val % 256, by omega⟩
      rw [hload, hk] at hst
      refine (View.read_writes_cons_unit_of_mem v _ _ _ (dbL R L load n) (ix2 i k) (ix2 i ⟨k.val % 256, by omega⟩) rfl (fun a => ?_)).trans hst
      match a with
      | ⟨0, _⟩ => show i.val = 0 + i.val; omega
      | ⟨1, _⟩ => show k.val = 256 * (n % 8) + k.val % 256; omega
    · rw [if_neg hn]
      refine View.read_writes_cons_unit_of_not_mem v _ _ _ (dbL R L load n) (ix2 i k) rfl ⟨1, by decide⟩ ?_
      show k.val < 256 * (n % 8) ∨ 256 * (n % 8) + 256 ≤ k.val
      omega

/-- What arrives at the weighted norm in chunk `c`. -/
def dGate (c : ℕ) (i : Fin 128) (k : Fin 2048) : ℝ := dWeighted (Z c) (Q c) (W (k.val / 256)) i k

theorem d1_after (v : View sig .tc .vmem S128x2048 .f32) (c : ℕ) (i : Fin 128) (k : Fin 2048) :
    ∀ m, m ≤ 8 → k.val / 256 < m → after v (d1L R (8 * c + m)) (ix2 i k) = ((dGate Z Q W c i k : ℝ) : EReal) := by
  intro m
  induction m with
  | zero => intro _ h; omega
  | succ m ih =>
    intro hm h
    by_cases hn : k.val / 256 = m
    · have hk : col (8 * c + m) ⟨k.val % 256, by omega⟩ = k := Fin.ext (by show 256 * ((8 * c + m) % 8) + k.val % 256 = k.val; omega)
      have hst := dv1_real (R.z ((8 * c + m) / 8)) (R.p ((8 * c + m) / 8)) (R.wt (8 * c + m)) (Z ((8 * c + m) / 8)) (Q ((8 * c + m) / 8)) (W ((8 * c + m) % 8))
        (hR.z _) (hR.p _) (hR.wt _) (8 * c + m) i ⟨k.val % 256, by omega⟩
      rw [hk] at hst
      refine (View.read_writes_cons_unit_of_mem v _ _ _ (d1L R (8 * c + m)) (ix2 i k) (ix2 i ⟨k.val % 256, by omega⟩) rfl (fun a => ?_)).trans (hst.trans ?_)
      · match a with
        | ⟨0, _⟩ => show i.val = 0 + i.val; omega
        | ⟨1, _⟩ => show k.val = 256 * ((8 * c + m) % 8) + k.val % 256; omega
      · unfold dGate
        rw [show (8 * c + m) / 8 = c by omega, show (8 * c + m) % 8 = k.val / 256 by omega]
    · refine (View.read_writes_cons_unit_of_not_mem v _ _ _ (d1L R (8 * c + m)) (ix2 i k) rfl ⟨1, by decide⟩ ?_).trans (ih (by omega) (by omega))
      show k.val < 256 * ((8 * c + m) % 8) ∨ 256 * ((8 * c + m) % 8) + 256 ≤ k.val
      omega

theorem d1At_real (v : View sig .tc .vmem S128x2048 .f32) (c : ℕ) (i : Fin 128) (k : Fin 2048) :
    d1At R v c (ix2 i k) = ((dGate Z Q W c i k : ℝ) : EReal) := by
  refine Eq.trans ?_ (d1_after R Z D Q G W B hR v c i k 8 le_rfl (by omega))
  refine congrArg (after v (d1L R (8 * (c + 1)))) (funext fun a => ?_)
  match a with
  | ⟨0, _⟩ => exact Fin.ext (by show 0 + 1 * i.val = i.val; omega)
  | ⟨1, _⟩ => exact Fin.ext (by show 0 + 1 * k.val = k.val; omega)

/-- The norm weight's gradient. -/
theorem dg_after (s : View sig .tc .vmem S128x2048 .f32) (u : View sig .tc .vmem S1x2048 .f32) (z : Prop) [Decidable z]
    (L : List (View.Piece (Elt Ideal) S1x2048 .f32)) (load : ℕ → List (View.Piece (Elt Ideal) S1x2048 .f32) → Vec Ideal S1x2048 .f32)
    (old : Fin 2048 → EReal)
    (hload : ∀ n l k, load n l (ix2 0 k) = if n < 1 ∧ ¬z then old k else after u l (ix2 0 k))
    (hL : z → ∀ v k, after v L (ix2 0 k) = old k) (v : View sig .tc .vmem S1x2048 .f32) (k : Fin 2048) :
    after v (dgL R s L load 4) (ix2 0 k)
      = old k + ((∑ c ∈ Finset.range 4, ∑ i, dGate Z Q W c i k * normed (Z c) i k : ℝ) : EReal) := by
  refine turns (fun v n => after v (dgL R s L load n) (ix2 0 k)) u (old k) (fun c => ∑ i, dGate Z Q W c i k * normed (Z c) i k) z
    (fun hz v => hL hz v k) (fun v n => ?_) 4 v (.inr (by omega))
  have hst := dgStep_real (R.z n) (Z n) (hR.z n) (dGate Z Q W n) (d1At R s n) (d1At_real R Z D Q G W B hR s n) (load n (dgL R s L load n)) k
  rw [hload] at hst
  refine (View.read_writes_cons_unit_of_mem v _ _ _ (dgL R s L load n) (ix2 0 k) (ix2 0 k) rfl (fun a => ?_)).trans hst
  match a with
  | ⟨0, _⟩ => rfl
  | ⟨1, _⟩ => show k.val = 0 + k.val; omega

/-- The gradient of the activations in chunk `c`. -/
def dZ (c : ℕ) (i : Fin 128) (k : Fin 4096) : ℝ :=
  if h : k.val < 2048 then dLo (Z c) (D c) (Q c) G (W (k.val / 256)) (B (k.val / 256)) i ⟨k.val, h⟩
  else dHi (Z c) (D c) G (dGate Z Q W c) i ⟨k.val - 2048, by omega⟩

/-- What a view reads after stores of rounded numbers over unknown contents. -/
abbrev after' {s : Shape} (v : View sig .tc .vmem s .bf16) (L : List (View.Piece (Elt Ideal) s .bf16)) : s.Idx → EReal :=
  v.read (Elt Ideal) (v.writes (Elt Ideal) v.junk L)

theorem groups_hit (v : View sig .tc .vmem S512x4096 .bf16) (c : ℕ) (hc : c < 4) (L : List (View.Piece (Elt Ideal) S512x4096 .bf16))
    (i : Fin 128) (k : Fin 4096) (hk : k.val < 2048) :
    ∀ m, m ≤ 8 → k.val / 256 < m → after' v (dzGroups R c L m) (ix2 ⟨128 * c + i.val, by omega⟩ k) = ((dZ Z D Q G W B c i k : ℝ) : EReal) := by
  intro m
  induction m with
  | zero => intro _ h; omega
  | succ m ih =>
    intro hm h
    by_cases hn : k.val / 256 = m
    · have hcol : col m ⟨k.val % 256, by omega⟩ = (⟨k.val, hk⟩ : Fin 2048) := Fin.ext (by show 256 * (m % 8) + k.val % 256 = k.val; omega)
      have hst := dzu_real (R.z c) (R.d c) (R.p c) R.g (R.w m) (R.b m) (Z c) (D c) (Q c) G (W (m % 8)) (B (m % 8))
        (hR.z _) (hR.d _) (hR.p _) hR.g (hR.w _) (hR.b _) m i ⟨k.val % 256, by omega⟩
      rw [hcol] at hst
      refine (View.read_writes_cons_unit_of_mem v _ _ _ (dzGroups R c L m) (ix2 ⟨128 * c + i.val, by omega⟩ k) (ix2 i ⟨k.val % 256, by omega⟩) rfl (fun a => ?_)).trans
        (hst.trans ?_)
      · match a with
        | ⟨0, _⟩ => show 128 * c + i.val = 128 * (c % 4) + i.val; omega
        | ⟨1, _⟩ => show k.val = 256 * (m % 8) + k.val % 256; omega
      · unfold dZ
        rw [dif_pos hk, show m % 8 = k.val / 256 by omega]
    · refine (View.read_writes_cons_unit_of_not_mem v _ _ _ (dzGroups R c L m) (ix2 ⟨128 * c + i.val, by omega⟩ k) rfl ⟨1, by decide⟩ ?_).trans (ih (by omega) (by omega))
      show k.val < 256 * (m % 8) ∨ 256 * (m % 8) + 256 ≤ k.val
      omega

omit hR in
theorem groups_miss (v : View sig .tc .vmem S512x4096 .bf16) (c c' : ℕ) (hc : c < 4) (hc' : c' < 4) (hne : c ≠ c')
    (L : List (View.Piece (Elt Ideal) S512x4096 .bf16)) (i : Fin 128) (k : Fin 4096) :
    ∀ m, after' v (dzGroups R c' L m) (ix2 ⟨128 * c + i.val, by omega⟩ k) = after' v L (ix2 ⟨128 * c + i.val, by omega⟩ k) := by
  intro m
  induction m with
  | zero => rfl
  | succ m ih =>
    refine (View.read_writes_cons_unit_of_not_mem v _ _ _ (dzGroups R c' L m) (ix2 ⟨128 * c + i.val, by omega⟩ k) rfl ⟨0, by decide⟩ ?_).trans ih
    show 128 * c + i.val < 128 * (c' % 4) ∨ 128 * (c' % 4) + 128 ≤ 128 * c + i.val
    omega

/-- The activations' gradient. -/
theorem dz_after (s : View sig .tc .vmem S128x2048 .f32) (v : View sig .tc .vmem S512x4096 .bf16) (c : ℕ) (hc : c < 4) (i : Fin 128) (k : Fin 4096) :
    ∀ n, n ≤ 4 → c < n → after' v (dzL R s n) (ix2 ⟨128 * c + i.val, by omega⟩ k) = ((dZ Z D Q G W B c i k : ℝ) : EReal) := by
  intro n
  induction n with
  | zero => intro _ h; omega
  | succ n ih =>
    intro hn h
    by_cases hcn : c = n
    · subst hcn
      by_cases hk : k.val < 2048
      · refine (View.read_writes_cons_unit_of_not_mem v _ _ _ (dzGroups R c (dzL R s c) 8) (ix2 ⟨128 * c + i.val, by omega⟩ k) rfl ⟨1, by decide⟩ ?_).trans
          (groups_hit R Z D Q G W B hR v c hc _ i k hk 8 le_rfl (by omega))
        show k.val < 2048 ∨ 2048 + 2048 ≤ k.val
        omega
      · have hst := dzv_real (R.z c) (R.d c) R.g (Z c) (D c) G (hR.z _) (hR.d _) hR.g (dGate Z Q W c) (d1At R s c)
          (d1At_real R Z D Q G W B hR s c) i ⟨k.val - 2048, by omega⟩
        refine (View.read_writes_cons_unit_of_mem v _ _ _ (dzGroups R c (dzL R s c) 8) (ix2 ⟨128 * c + i.val, by omega⟩ k) (ix2 i ⟨k.val - 2048, by omega⟩) rfl (fun a => ?_)).trans
          (hst.trans ?_)
        · match a with
          | ⟨0, _⟩ => show 128 * c + i.val = 128 * (c % 4) + i.val; omega
          | ⟨1, _⟩ => show k.val = 2048 + (k.val - 2048); omega
        · unfold dZ
          rw [dif_neg hk]
    · refine ((View.read_writes_cons_unit_of_not_mem v _ _ _ (dzGroups R n (dzL R s n) 8) (ix2 ⟨128 * c + i.val, by omega⟩ k) rfl ⟨0, by decide⟩ ?_).trans
        (groups_miss R v c n hc (by omega) hcn _ i k 8)).trans (ih (by omega) (by omega))
      show 128 * c + i.val < 128 * (n % 4) ∨ 128 * (n % 4) + 128 ≤ 128 * c + i.val
      omega

omit hR in
/-- The bias's gradient at the last point: each group's columns summed. -/
theorem last_after (load : ℕ → Vec Ideal S128x256 .f32) (v : View sig .tc .vmem S8x128x1 .f32) (g : Fin 8) (i : Fin 128) :
    ∀ m, m ≤ 8 → g.val < m → after v (dbF load m) (ix3 g i 0) = ∑ e, load g.val (ix2 i e) := by
  intro m
  induction m with
  | zero => intro _ h; omega
  | succ m ih =>
    intro hm h
    by_cases hn : g.val = m
    · subst hn
      refine (View.read_writes_cons_unit_of_mem v _ _ _ (dbF load g.val) (ix3 g i 0) (ix3 0 i 0) rfl (fun a => ?_)).trans (dbOf_apply (load g.val) i)
      match a with
      | ⟨0, _⟩ => show g.val = g.val % 8 + 0; omega
      | ⟨1, _⟩ => show i.val = 0 + i.val; omega
      | ⟨2, _⟩ => rfl
    · refine (View.read_writes_cons_unit_of_not_mem v _ _ _ (dbF load m) (ix3 g i 0) rfl ⟨0, by decide⟩ ?_).trans (ih (by omega) (by omega))
      show g.val < m % 8 ∨ m % 8 + 1 ≤ g.val
      omega

end Cert.SguStores

end
-- ==== Proof.SguPoint.lean ====
/-
  What one grid point of the spatial gate's backward call leaves in its result blocks and in its running sums, over the
  real numbers.
-/
module

public import proofs.«01_k».proof.Proof.SguStores

@[expose] public section

set_option maxRecDepth 65536

noncomputable section

namespace Cert.SguPoint

open Idealize.ShloMosaic Idealize.ShloMosaic.TcCoe Cert.SguKernelIdeal Cert.SguKernelIdeal.Gen Cert.SguBlock Cert.SguChunk Cert.SguStores Cert.Finite Cert.Norm

/-! ### Reading a rectangle of a buffer -/

section Read

variable {Val : EltTy → Type} {e : EltTy}

theorem at_W (v : View sig .tc .vmem S8x128x128 e) (f : v.ty.Contents Val) (n : ℕ) (i j : Fin 128) :
    v.readAt Val (rW n).toLoadRect f (ix3 0 i j) = v.read Val f (ix3 ⟨n % 8, by omega⟩ i j) := by
  rw [View.readAt_apply]
  refine congrArg (v.read Val f) (funext fun a => ?_)
  match a with
  | ⟨0, _⟩ => exact Fin.ext (by show n % 8 + 1 * 0 = n % 8; omega)
  | ⟨1, _⟩ => exact Fin.ext (by show 0 + 1 * i.val = i.val; omega)
  | ⟨2, _⟩ => exact Fin.ext (by show 0 + 1 * j.val = j.val; omega)

theorem at_C (v : View sig .tc .vmem S128x2048 e) (f : v.ty.Contents Val) (n : ℕ) (i : Fin 128) (k : Fin 256) :
    v.readAt Val (rC n).toLoadRect f (ix2 i k) = v.read Val f (ix2 i (col n k)) := by
  rw [View.readAt_apply]
  refine congrArg (v.read Val f) (funext fun a => ?_)
  match a with
  | ⟨0, _⟩ => exact Fin.ext (by show 0 + 1 * i.val = i.val; omega)
  | ⟨1, _⟩ => exact Fin.ext (by show 256 * (n % 8) + 1 * k.val = 256 * (n % 8) + k.val; omega)

theorem at_Z (v : View sig .tc .vmem S512x4096 e) (f : v.ty.Contents Val) (c : ℕ) (i : Fin 128) (k : Fin 4096) :
    v.readAt Val (rZ c).toLoadRect f (ix2 i k) = v.read Val f (ix2 ⟨128 * (c % 4) + i.val, by omega⟩ k) := by
  rw [View.readAt_apply]
  refine congrArg (v.read Val f) (funext fun a => ?_)
  match a with
  | ⟨0, _⟩ => exact Fin.ext (by show 128 * (c % 4) + 1 * i.val = 128 * (c % 4) + i.val; omega)
  | ⟨1, _⟩ => exact Fin.ext (by show 0 + 1 * k.val = k.val; omega)

theorem at_P (v : View sig .tc .vmem S512x2048 e) (f : v.ty.Contents Val) (c : ℕ) (i : Fin 128) (k : Fin 2048) :
    v.readAt Val (rP c).toLoadRect f (ix2 i k) = v.read Val f (ix2 ⟨128 * (c % 4) + i.val, by omega⟩ k) := by
  rw [View.readAt_apply]
  refine congrArg (v.read Val f) (funext fun a => ?_)
  match a with
  | ⟨0, _⟩ => exact Fin.ext (by show 128 * (c % 4) + 1 * i.val = 128 * (c % 4) + i.val; omega)
  | ⟨1, _⟩ => exact Fin.ext (by show 0 + 1 * k.val = k.val; omega)

theorem at_G (v : View sig .tc .vmem S1x2048 e) (f : v.ty.Contents Val) (k : Fin 2048) :
    v.readAt Val rG.toLoadRect f (ix2 0 k) = v.read Val f (ix2 0 k) := by
  rw [View.readAt_apply]
  refine congrArg (v.read Val f) (funext fun a => ?_)
  match a with
  | ⟨0, _⟩ => rfl
  | ⟨1, _⟩ => exact Fin.ext (by show 0 + 1 * k.val = k.val; omega)

end Read

/-! ### The first point's zeros -/

theorem zero_W (i : Fin 8) (j k : Fin 128) : k0_pay10 (F := Ideal) (ix3 i j k) = (0 : EReal) := by
  pointwise [k0_pay10]

theorem zero_G (k : Fin 2048) : k0_pay11 (F := Ideal) (ix2 0 k) = (0 : EReal) := by
  pointwise [k0_pay11]

theorem zero_C (i : Fin 128) (k : Fin 2048) : k0_pay12 (F := Ideal) (ix2 i k) = (0 : EReal) := by
  pointwise [k0_pay12]

section Cases

variable (c : Dev nD) (i : grid0.Coords)
  (a1 : Memref sig .tc .vmem S512x4096 .bf16) (h1 : a1.IsWhole) (a2 : Memref sig .tc .vmem S512x4096 .bf16) (h2 : a2.IsWhole)
  (a3 : Memref sig .tc .vmem S512x2048 .bf16) (h3 : a3.IsWhole) (a4 : Memref sig .tc .vmem S1x2048 .f32) (h4 : a4.IsWhole)
  (a5 : Memref sig .tc .vmem S8x128x128 .f32) (h5 : a5.IsWhole) (a6 : Memref sig .tc .vmem S8x128x128 .f32) (h6 : a6.IsWhole)
  (a7 : Memref sig .tc .vmem S128x2048 .f32) (h7 : a7.IsWhole) (a8 : Memref sig .tc .vmem S512x4096 .bf16) (h8 : a8.IsWhole)
  (a9 : Memref sig .tc .vmem S8x128x128 .f32) (h9 : a9.IsWhole) (a10 : Memref sig .tc .vmem S8x128x1 .f32) (h10 : a10.IsWhole)
  (a11 : Memref sig .tc .vmem S1x2048 .f32) (h11 : a11.IsWhole) (a12 : Memref sig .tc .vmem S128x2048 .f32) (h12 : a12.IsWhole)
  (a13 : Memref sig .tc .vmem S128x2048 .f32) (h13 : a13.IsWhole)
  (x0 : Vec Ideal S512x4096 .bf16) (x1 : Vec Ideal S512x4096 .bf16) (x2 : Vec Ideal S512x2048 .bf16) (x3 : Vec Ideal S1x2048 .f32)
  (x4 : Vec Ideal S8x128x128 .f32) (x5 : Vec Ideal S8x128x128 .f32) (x6 : Vec Ideal S128x2048 .f32)
  (o8 : Vec Ideal S8x128x128 .f32) (o10 : Vec Ideal S1x2048 .f32) (s1 : Vec Ideal S128x2048 .f32)

/-- The blocks a point reads are real numbers. -/
structure Blocks (Z D : ℕ → Fin 128 → Fin 4096 → ℝ) (Q : ℕ → Fin 128 → Fin 2048 → ℝ) (G : Fin 2048 → ℝ)
    (W : ℕ → Fin 128 → Fin 128 → ℝ) (B : ℕ → Fin 128 → ℝ) : Prop where
  z : ∀ (q : ℕ) (r : Fin 128) (k : Fin 4096), x0 (ix2 ⟨128 * (q % 4) + r.val, by omega⟩ k) = ((Z q r k : ℝ) : EReal)
  d : ∀ (q : ℕ) (r : Fin 128) (k : Fin 4096), x1 (ix2 ⟨128 * (q % 4) + r.val, by omega⟩ k) = ((D q r k : ℝ) : EReal)
  p : ∀ (q : ℕ) (r : Fin 128) (k : Fin 2048), x2 (ix2 ⟨128 * (q % 4) + r.val, by omega⟩ k) = ((Q q r k : ℝ) : EReal)
  g : ∀ k, x3 (ix2 0 k) = ((G k : ℝ) : EReal)
  w : ∀ (g : Fin 8) r j, x4 (ix3 g r j) = ((W g.val r j : ℝ) : EReal)
  wt : ∀ (g : Fin 8) r j, x5 (ix3 g r j) = ((W g.val j r : ℝ) : EReal)
  b : ∀ r (k : Fin 2048), x6 (ix2 r k) = ((B (k.val / 256) r : ℝ) : EReal)

variable (Z D : ℕ → Fin 128 → Fin 4096 → ℝ) (Q : ℕ → Fin 128 → Fin 2048 → ℝ) (G : Fin 2048 → ℝ)
  (W : ℕ → Fin 128 → Fin 128 → ℝ) (B : ℕ → Fin 128 → ℝ) (hX : Blocks x0 x1 x2 x3 x4 x5 x6 Z D Q G W B)

include hX in
theorem reads_real : IsReal (reads a1 h1 a2 h2 a3 h3 a4 h4 a5 h5 a6 h6 a7 h7 x0 x1 x2 x3 x4 x5 x6) Z D Q G W B where
  z q r k := by
    refine (at_Z a1.view _ q r k).trans ?_
    rw [h1.read_unread, hX.z]
  d q r k := by
    refine (at_Z a2.view _ q r k).trans ?_
    rw [h2.read_unread, hX.d]
  p q r k := by
    refine (at_P a3.view _ q r k).trans ?_
    rw [h3.read_unread, hX.p]
  g k := by
    refine (at_G a4.view _ k).trans ?_
    rw [h4.read_unread, hX.g]
  w n r j := by
    refine (at_W a5.view _ n r j).trans ?_
    rw [h5.read_unread, hX.w]
  wt n r j := by
    refine (at_W a6.view _ n r j).trans ?_
    rw [h6.read_unread, hX.wt]
  b n r e := by
    refine (at_C a7.view _ n r e).trans ?_
    rw [h7.read_unread, hX.b, show (256 * (n % 8) + e.val) / 256 = n % 8 by omega]

/-! ### A later point -/

theorem load_W (n : ℕ) (l : List (View.Piece (Elt Ideal) S8x128x128 .f32)) (r j : Fin 128) :
    dwRead a9 h9 o8 n l (ix3 0 r j) = if n < 8 ∧ ¬False then o8 (ix3 ⟨n % 8, by omega⟩ r j) else after a9.view l (ix3 ⟨n % 8, by omega⟩ r j) := by
  by_cases h : n < 8
  · rw [if_pos ⟨h, id⟩, show dwRead a9 h9 o8 n l = a9.view.readAt (Elt Ideal) (rW n).toLoadRect (h9.unread o8) from if_pos h]
    refine (at_W a9.view _ n r j).trans ?_
    rw [h9.read_unread]
  · rw [if_neg (fun hh => h hh.1), show dwRead a9 h9 o8 n l = a9.view.readCov l (rW n).toLoadRect from if_neg h]
    exact at_W a9.view _ n r j

theorem load_C (n : ℕ) (l : List (View.Piece (Elt Ideal) S128x2048 .f32)) (r : Fin 128) (e : Fin 256) :
    dbRead a13 h13 s1 n l (ix2 r e) = if n < 8 ∧ ¬False then s1 (ix2 r (col n e)) else after a13.view l (ix2 r (col n e)) := by
  by_cases h : n < 8
  · rw [if_pos ⟨h, id⟩, show dbRead a13 h13 s1 n l = a13.view.readAt (Elt Ideal) (rC n).toLoadRect (h13.unread s1) from if_pos h]
    refine (at_C a13.view _ n r e).trans ?_
    rw [h13.read_unread]
  · rw [if_neg (fun hh => h hh.1), show dbRead a13 h13 s1 n l = a13.view.readCov l (rC n).toLoadRect from if_neg h]
    exact at_C a13.view _ n r e

theorem load_G (n : ℕ) (l : List (View.Piece (Elt Ideal) S1x2048 .f32)) (k : Fin 2048) :
    dgRead a11 h11 o10 n l (ix2 0 k) = if n < 1 ∧ ¬False then o10 (ix2 0 k) else after a11.view l (ix2 0 k) := by
  by_cases h : n < 1
  · rw [if_pos ⟨h, id⟩, show dgRead a11 h11 o10 n l = a11.view.readAt (Elt Ideal) rG.toLoadRect (h11.unread o10) from if_pos h]
    refine (at_G a11.view _ k).trans ?_
    rw [h11.read_unread]
  · rw [if_neg (fun hh => h hh.1), show dgRead a11 h11 o10 n l = a11.view.readCov l rG.toLoadRect from if_neg h]
    exact at_G a11.view _ k

include hX

theorem dz_B' (hc0 : ¬cond0_0 i) (hc1 : ¬cond0_1 i) (q : ℕ) (hq : q < 4) (r : Fin 128) (k : Fin 4096) :
    out0_B_7 c i a1 h1 a2 h2 a3 h3 a4 h4 a5 h5 a6 h6 a7 h7 a8 h8 a9 h9 a10 h10 a11 h11 a12 h12 a13 h13 hc0 hc1 x0 x1 x2 x3 x4 x5 x6 o8 o10 s1
      (ix2 ⟨128 * q + r.val, by omega⟩ k) = ((dZ Z D Q G W B q r k : ℝ) : EReal) := by
  unfold out0_B_7
  rw [dz_B]
  exact dz_after _ Z D Q G W B (reads_real a1 h1 a2 h2 a3 h3 a4 h4 a5 h5 a6 h6 a7 h7 x0 x1 x2 x3 x4 x5 x6 Z D Q G W B hX) a12.view VO0_7 q hq r k 4 le_rfl hq

theorem dw_B' (hc0 : ¬cond0_0 i) (hc1 : ¬cond0_1 i) (g : Fin 8) (r j : Fin 128) :
    out0_B_8 c i a1 h1 a2 h2 a3 h3 a4 h4 a5 h5 a6 h6 a7 h7 a8 h8 a9 h9 a10 h10 a11 h11 a12 h12 a13 h13 hc0 hc1 x0 x1 x2 x3 x4 x5 x6 o8 o10 s1 (ix3 g r j)
      = o8 (ix3 g r j) + ((∑ q ∈ Finset.range 4, dW (Z q) (Q q) G g.val r j : ℝ) : EReal) := by
  unfold out0_B_8
  rw [dw_B]
  exact dw_after _ Z D Q G W B (reads_real a1 h1 a2 h2 a3 h3 a4 h4 a5 h5 a6 h6 a7 h7 x0 x1 x2 x3 x4 x5 x6 Z D Q G W B hX) a9.view False []
    (dwRead a9 h9 o8) (fun g r j => o8 (ix3 g r j)) (load_W a9 h9 o8) False.elim VO0_8 g r j

theorem dg_B' (hc0 : ¬cond0_0 i) (hc1 : ¬cond0_1 i) (k : Fin 2048) :
    out0_B_10 c i a1 h1 a2 h2 a3 h3 a4 h4 a5 h5 a6 h6 a7 h7 a8 h8 a9 h9 a10 h10 a11 h11 a12 h12 a13 h13 hc0 hc1 x0 x1 x2 x3 x4 x5 x6 o8 o10 s1 (ix2 0 k)
      = o10 (ix2 0 k) + ((∑ q ∈ Finset.range 4, ∑ r, dGate Z Q W q r k * normed (Z q) r k : ℝ) : EReal) := by
  unfold out0_B_10
  rw [dg_B]
  exact dg_after _ Z D Q G W B (reads_real a1 h1 a2 h2 a3 h3 a4 h4 a5 h5 a6 h6 a7 h7 x0 x1 x2 x3 x4 x5 x6 Z D Q G W B hX) a12.view a11.view False []
    (dgRead a11 h11 o10) (fun k => o10 (ix2 0 k)) (load_G a11 h11 o10) False.elim VO0_10 k

theorem db_B' (hc0 : ¬cond0_0 i) (hc1 : ¬cond0_1 i) (r : Fin 128) (k : Fin 2048) :
    sout0_B_1 c i a1 h1 a2 h2 a3 h3 a4 h4 a5 h5 a6 h6 a7 h7 a8 h8 a9 h9 a10 h10 a11 h11 a12 h12 a13 h13 hc0 hc1 x0 x1 x2 x3 x4 x5 x6 o8 o10 s1 (ix2 r k)
      = s1 (ix2 r k) + ((∑ q ∈ Finset.range 4, dMixed (Z q) (Q q) r k : ℝ) : EReal) := by
  unfold sout0_B_1
  rw [db_B]
  exact db_after _ Z D Q G W B (reads_real a1 h1 a2 h2 a3 h3 a4 h4 a5 h5 a6 h6 a7 h7 x0 x1 x2 x3 x4 x5 x6 Z D Q G W B hX) a13.view False []
    (dbRead a13 h13 s1) (fun r k => s1 (ix2 r k)) (load_C a13 h13 s1) False.elim _ r k

theorem dz_C' (hc0 : ¬cond0_0 i) (hc1 : cond0_1 i) (q : ℕ) (hq : q < 4) (r : Fin 128) (k : Fin 4096) :
    out0_C_7 c i a1 h1 a2 h2 a3 h3 a4 h4 a5 h5 a6 h6 a7 h7 a8 h8 a9 h9 a10 h10 a11 h11 a12 h12 a13 h13 hc0 hc1 x0 x1 x2 x3 x4 x5 x6 o8 o10 s1
      (ix2 ⟨128 * q + r.val, by omega⟩ k) = ((dZ Z D Q G W B q r k : ℝ) : EReal) := by
  unfold out0_C_7
  rw [dz_C]
  exact dz_after _ Z D Q G W B (reads_real a1 h1 a2 h2 a3 h3 a4 h4 a5 h5 a6 h6 a7 h7 x0 x1 x2 x3 x4 x5 x6 Z D Q G W B hX) a12.view VO0_7 q hq r k 4 le_rfl hq

theorem dw_C' (hc0 : ¬cond0_0 i) (hc1 : cond0_1 i) (g : Fin 8) (r j : Fin 128) :
    out0_C_8 c i a1 h1 a2 h2 a3 h3 a4 h4 a5 h5 a6 h6 a7 h7 a8 h8 a9 h9 a10 h10 a11 h11 a12 h12 a13 h13 hc0 hc1 x0 x1 x2 x3 x4 x5 x6 o8 o10 s1 (ix3 g r j)
      = o8 (ix3 g r j) + ((∑ q ∈ Finset.range 4, dW (Z q) (Q q) G g.val r j : ℝ) : EReal) := by
  unfold out0_C_8
  rw [dw_C]
  exact dw_after _ Z D Q G W B (reads_real a1 h1 a2 h2 a3 h3 a4 h4 a5 h5 a6 h6 a7 h7 x0 x1 x2 x3 x4 x5 x6 Z D Q G W B hX) a9.view False []
    (dwRead a9 h9 o8) (fun g r j => o8 (ix3 g r j)) (load_W a9 h9 o8) False.elim VO0_8 g r j

theorem dg_C' (hc0 : ¬cond0_0 i) (hc1 : cond0_1 i) (k : Fin 2048) :
    out0_C_10 c i a1 h1 a2 h2 a3 h3 a4 h4 a5 h5 a6 h6 a7 h7 a8 h8 a9 h9 a10 h10 a11 h11 a12 h12 a13 h13 hc0 hc1 x0 x1 x2 x3 x4 x5 x6 o8 o10 s1 (ix2 0 k)
      = o10 (ix2 0 k) + ((∑ q ∈ Finset.range 4, ∑ r, dGate Z Q W q r k * normed (Z q) r k : ℝ) : EReal) := by
  unfold out0_C_10
  rw [dg_C]
  exact dg_after _ Z D Q G W B (reads_real a1 h1 a2 h2 a3 h3 a4 h4 a5 h5 a6 h6 a7 h7 x0 x1 x2 x3 x4 x5 x6 Z D Q G W B hX) a12.view a11.view False []
    (dgRead a11 h11 o10) (fun k => o10 (ix2 0 k)) (load_G a11 h11 o10) False.elim VO0_10 k

theorem db_C' (hc0 : ¬cond0_0 i) (hc1 : cond0_1 i) (r : Fin 128) (k : Fin 2048) :
    sout0_C_1 c i a1 h1 a2 h2 a3 h3 a4 h4 a5 h5 a6 h6 a7 h7 a8 h8 a9 h9 a10 h10 a11 h11 a12 h12 a13 h13 hc0 hc1 x0 x1 x2 x3 x4 x5 x6 o8 o10 s1 (ix2 r k)
      = s1 (ix2 r k) + ((∑ q ∈ Finset.range 4, dMixed (Z q) (Q q) r k : ℝ) : EReal) := by
  unfold sout0_C_1
  rw [db_C]
  exact db_after _ Z D Q G W B (reads_real a1 h1 a2 h2 a3 h3 a4 h4 a5 h5 a6 h6 a7 h7 x0 x1 x2 x3 x4 x5 x6 Z D Q G W B hX) a13.view False []
    (dbRead a13 h13 s1) (fun r k => s1 (ix2 r k)) (load_C a13 h13 s1) False.elim _ r k

/-- At the last point the bias's gradient leaves, each group's columns summed. -/
theorem last_C' (hc0 : ¬cond0_0 i) (hc1 : cond0_1 i) (g : Fin 8) (r : Fin 128) :
    out0_C_9 c i a1 h1 a2 h2 a3 h3 a4 h4 a5 h5 a6 h6 a7 h7 a8 h8 a9 h9 a10 h10 a11 h11 a12 h12 a13 h13 hc0 hc1 x0 x1 x2 x3 x4 x5 x6 o8 o10 s1 (ix3 g r 0)
      = ∑ e : Fin 256, (s1 (ix2 r (col g.val e)) + ((∑ q ∈ Finset.range 4, dMixed (Z q) (Q q) r (col g.val e) : ℝ) : EReal)) := by
  unfold out0_C_9
  rw [last_C]
  refine (last_after _ VO0_9 g r 8 le_rfl g.isLt).trans (Finset.sum_congr rfl fun e _ => ?_)
  refine (at_C a13.view _ g.val r e).trans ?_
  exact db_after _ Z D Q G W B (reads_real a1 h1 a2 h2 a3 h3 a4 h4 a5 h5 a6 h6 a7 h7 x0 x1 x2 x3 x4 x5 x6 Z D Q G W B hX) a13.view False []
    (dbRead a13 h13 s1) (fun r k => s1 (ix2 r k)) (load_C a13 h13 s1) False.elim a13.view r (col g.val e)

/-! ### The first point -/

omit hX in
theorem start_W (v : View sig .tc .vmem S8x128x128 .f32) (g : Fin 8) (r j : Fin 128) :
    after v [⟨Rect.unit (s := S8x128x128) ![0, 0, 0] S8x128x128.size inb_S8x128x128_S8x128x128_0_0_0, k0_pay10 (F := Ideal)⟩] (ix3 g r j) = 0 := by
  refine (View.read_writes_cons_unit_of_mem v _ _ _ [] (ix3 g r j) (ix3 g r j) rfl (fun a => ?_)).trans (zero_W g r j)
  match a with
  | ⟨0, _⟩ => show g.val = 0 + g.val; omega
  | ⟨1, _⟩ => show r.val = 0 + r.val; omega
  | ⟨2, _⟩ => show j.val = 0 + j.val; omega

omit hX in
theorem start_C (v : View sig .tc .vmem S128x2048 .f32) (r : Fin 128) (k : Fin 2048) :
    after v [⟨Rect.unit (s := S128x2048) ![0, 0] S128x2048.size inb_S128x2048_S128x2048_0_0, k0_pay12 (F := Ideal)⟩] (ix2 r k) = 0 := by
  refine (View.read_writes_cons_unit_of_mem v _ _ _ [] (ix2 r k) (ix2 r k) rfl (fun a => ?_)).trans (zero_C r k)
  match a with
  | ⟨0, _⟩ => show r.val = 0 + r.val; omega
  | ⟨1, _⟩ => show k.val = 0 + k.val; omega

omit hX in
theorem start_G (v : View sig .tc .vmem S1x2048 .f32) (k : Fin 2048) :
    after v [⟨rG, k0_pay11 (F := Ideal)⟩] (ix2 0 k) = 0 := by
  refine (View.read_writes_cons_unit_of_mem v _ _ _ [] (ix2 0 k) (ix2 0 k) rfl (fun a => ?_)).trans (zero_G k)
  match a with
  | ⟨0, _⟩ => rfl
  | ⟨1, _⟩ => show k.val = 0 + k.val; omega

theorem dz_A' (hc0 : cond0_0 i) (hc1 : ¬cond0_1 i) (q : ℕ) (hq : q < 4) (r : Fin 128) (k : Fin 4096) :
    out0_A_7 c i a1 h1 a2 h2 a3 h3 a4 h4 a5 h5 a6 h6 a7 h7 a8 h8 a9 h9 a10 h10 a11 h11 a12 h12 a13 h13 hc0 hc1 x0 x1 x2 x3 x4 x5 x6
      (ix2 ⟨128 * q + r.val, by omega⟩ k) = ((dZ Z D Q G W B q r k : ℝ) : EReal) := by
  unfold out0_A_7
  rw [dz_A]
  exact dz_after _ Z D Q G W B (reads_real a1 h1 a2 h2 a3 h3 a4 h4 a5 h5 a6 h6 a7 h7 x0 x1 x2 x3 x4 x5 x6 Z D Q G W B hX) a12.view VO0_7 q hq r k 4 le_rfl hq

theorem dw_A' (hc0 : cond0_0 i) (hc1 : ¬cond0_1 i) (g : Fin 8) (r j : Fin 128) :
    out0_A_8 c i a1 h1 a2 h2 a3 h3 a4 h4 a5 h5 a6 h6 a7 h7 a8 h8 a9 h9 a10 h10 a11 h11 a12 h12 a13 h13 hc0 hc1 x0 x1 x2 x3 x4 x5 x6 (ix3 g r j)
      = 0 + ((∑ q ∈ Finset.range 4, dW (Z q) (Q q) G g.val r j : ℝ) : EReal) := by
  unfold out0_A_8
  rw [dw_A]
  exact dw_after _ Z D Q G W B (reads_real a1 h1 a2 h2 a3 h3 a4 h4 a5 h5 a6 h6 a7 h7 x0 x1 x2 x3 x4 x5 x6 Z D Q G W B hX) a9.view True _
    (fun n L => a9.view.readCov L (rW n).toLoadRect) (fun _ _ _ => 0) (fun n l r j => by
      rw [if_neg fun hh => hh.2 trivial]; exact at_W a9.view _ n r j) (fun _ v g r j => start_W v g r j) VO0_8 g r j

theorem dg_A' (hc0 : cond0_0 i) (hc1 : ¬cond0_1 i) (k : Fin 2048) :
    out0_A_10 c i a1 h1 a2 h2 a3 h3 a4 h4 a5 h5 a6 h6 a7 h7 a8 h8 a9 h9 a10 h10 a11 h11 a12 h12 a13 h13 hc0 hc1 x0 x1 x2 x3 x4 x5 x6 (ix2 0 k)
      = 0 + ((∑ q ∈ Finset.range 4, ∑ r, dGate Z Q W q r k * normed (Z q) r k : ℝ) : EReal) := by
  unfold out0_A_10
  rw [dg_A]
  exact dg_after _ Z D Q G W B (reads_real a1 h1 a2 h2 a3 h3 a4 h4 a5 h5 a6 h6 a7 h7 x0 x1 x2 x3 x4 x5 x6 Z D Q G W B hX) a12.view a11.view True _
    (fun _ L => a11.view.readCov L rG.toLoadRect) (fun _ => 0) (fun n l k => by
      rw [if_neg fun hh => hh.2 trivial]; exact at_G a11.view _ k) (fun _ v k => start_G v k) VO0_10 k

theorem db_A' (hc0 : cond0_0 i) (hc1 : ¬cond0_1 i) (r : Fin 128) (k : Fin 2048) :
    sout0_A_1 c i a1 h1 a2 h2 a3 h3 a4 h4 a5 h5 a6 h6 a7 h7 a8 h8 a9 h9 a10 h10 a11 h11 a12 h12 a13 h13 hc0 hc1 x0 x1 x2 x3 x4 x5 x6 (ix2 r k)
      = 0 + ((∑ q ∈ Finset.range 4, dMixed (Z q) (Q q) r k : ℝ) : EReal) := by
  unfold sout0_A_1
  rw [db_A]
  exact db_after _ Z D Q G W B (reads_real a1 h1 a2 h2 a3 h3 a4 h4 a5 h5 a6 h6 a7 h7 x0 x1 x2 x3 x4 x5 x6 Z D Q G W B hX) a13.view True _
    (fun n L => a13.view.readCov L (rC n).toLoadRect) (fun _ _ => 0) (fun n l r e => by
      rw [if_neg fun hh => hh.2 trivial]; exact at_C a13.view _ n r e) (fun _ v r k => start_C v r k) _ r k

end Cases

end Cert.SguPoint

end
-- ==== Proof.SguArray.lean ====
/-
  The result arrays of the spatial gate's backward call: eight points of four chunks of 128 rows each; the activations'
  gradient by chunks, the other three summed over the chunks.
-/
module

public import proofs.«01_k».proof.Proof.SguPoint
public import Idealize.ShloMosaic.Lib.Pipeline.Value

@[expose] public section

set_option maxRecDepth 65536

noncomputable section

namespace Cert.SguArray

open Idealize.ShloMosaic Idealize.ShloMosaic.TcCoe Idealize.SL.Sem
open Idealize.ShloMosaic.Pipeline (Dat)
open Cert.SguKernelIdeal Cert.SguKernelIdeal.Gen Cert.SguBlock Cert.SguChunk Cert.SguStores Cert.SguPoint Cert.Finite Cert.Norm

/-- Row `r` of chunk `q`. -/
abbrev rowOf (q : ℕ) (r : Fin 128) : Fin 4096 := ⟨(128 * q + r.val) % 4096, Nat.mod_lt _ (by decide)⟩

/-- The rows of chunk `q`. -/
def chunk {K : ℕ} (X : Fin 4096 → Fin K → ℝ) (q : ℕ) (r : Fin 128) (k : Fin K) : ℝ := X (rowOf q r) k

variable (m : (ℓ : Loc nD τ sig) → Buf (Elt Ideal) ℓ) (c : Dev nD)

/-! ### The blocks a point reads -/

theorem points : cfg0.N = 8 := N_0

theorem idx_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_7.index t 0 = t.val ∧ win0_7.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_7.index t 0 = t.val ∧ win0_7.index t 1 = 0))

theorem inj_rows : ∀ t t' : Fin cfg0.N, win0_7.index t = win0_7.index t' → t = t' :=
  (by decide +kernel : ∀ t t' : Fin grid0.N, win0_7.index t = win0_7.index t' → t = t')

/-- The arrays the launch reads are real numbers. -/
structure Args (X Y : Fin 4096 → Fin 4096 → ℝ) (P : Fin 4096 → Fin 2048 → ℝ) (G : Fin 2048 → ℝ)
    (W : ℕ → Fin 128 → Fin 128 → ℝ) (B : ℕ → Fin 128 → ℝ) : Prop where
  z : ∀ r k, V m c main_v27 (ix2 r k) = ((X r k : ℝ) : EReal)
  d : ∀ r k, V m c main_v28 (ix2 r k) = ((Y r k : ℝ) : EReal)
  p : ∀ r k, V m c main_v29 (ix2 r k) = ((P r k : ℝ) : EReal)
  g : ∀ k, V m c main_v30 (ix2 0 k) = ((G k : ℝ) : EReal)
  w : ∀ (g : Fin 8) r j, V m c main_arg2 (ix3 g r j) = ((W g.val r j : ℝ) : EReal)
  wt : ∀ (g : Fin 8) r j, V m c main_v22 (ix3 g r j) = ((W g.val j r : ℝ) : EReal)
  b : ∀ r (k : Fin 2048), V m c main_v26 (ix2 r k) = ((B (k.val / 256) r : ℝ) : EReal)

variable (X Y : Fin 4096 → Fin 4096 → ℝ) (P : Fin 4096 → Fin 2048 → ℝ) (G : Fin 2048 → ℝ)
  (W : ℕ → Fin 128 → Fin 128 → ℝ) (B : ℕ → Fin 128 → ℝ) (hA : Args m c X Y P G W B)

theorem emb_rows {K : ℕ} (r : Fin 128) (t q : ℕ) (ht : t < 8) (k : Fin K) (i : (⟨2, ![4096, K]⟩ : Shape).Idx)
    (h0 : (i 0).val = t * 512 + 1 * (128 * (q % 4) + r.val)) (h1 : (i 1).val = 0 * K + 1 * k.val) : i = ix2 (rowOf (4 * t + q % 4) r) k :=
  funext fun a => match a with
    | ⟨0, _⟩ => Fin.ext (by show (i 0).val = (128 * (4 * t + q % 4) + r.val) % 4096; omega)
    | ⟨1, _⟩ => Fin.ext (by show (i 1).val = k.val; omega)

theorem idx_whole : ∀ t : Fin cfg0.N, (win0_3.index t 0 = 0 ∧ win0_3.index t 1 = 0) ∧ (win0_6.index t 0 = 0 ∧ win0_6.index t 1 = 0)
    ∧ (win0_10.index t 0 = 0 ∧ win0_10.index t 1 = 0) :=
  (by decide +kernel : ∀ t : Fin grid0.N, (win0_3.index t 0 = 0 ∧ win0_3.index t 1 = 0) ∧ (win0_6.index t 0 = 0 ∧ win0_6.index t 1 = 0)
    ∧ (win0_10.index t 0 = 0 ∧ win0_10.index t 1 = 0))

theorem idx_groups : ∀ t : Fin cfg0.N, (win0_4.index t 0 = 0 ∧ win0_4.index t 1 = 0 ∧ win0_4.index t 2 = 0)
    ∧ (win0_5.index t 0 = 0 ∧ win0_5.index t 1 = 0 ∧ win0_5.index t 2 = 0) ∧ (win0_8.index t 0 = 0 ∧ win0_8.index t 1 = 0 ∧ win0_8.index t 2 = 0)
    ∧ (win0_9.index t 0 = 0 ∧ win0_9.index t 1 = 0 ∧ win0_9.index t 2 = 0) :=
  (by decide +kernel : ∀ t : Fin grid0.N, (win0_4.index t 0 = 0 ∧ win0_4.index t 1 = 0 ∧ win0_4.index t 2 = 0)
    ∧ (win0_5.index t 0 = 0 ∧ win0_5.index t 1 = 0 ∧ win0_5.index t 2 = 0) ∧ (win0_8.index t 0 = 0 ∧ win0_8.index t 1 = 0 ∧ win0_8.index t 2 = 0)
    ∧ (win0_9.index t 0 = 0 ∧ win0_9.index t 1 = 0 ∧ win0_9.index t 2 = 0))

theorem block_z (t : Fin cfg0.N) (q : ℕ) (r : Fin 128) (k : Fin 4096) :
    iblk m c 0 t (ix2 ⟨128 * (q % 4) + r.val, by omega⟩ k) = V m c main_v27 (ix2 (rowOf (4 * t.val + q % 4) r) k) := by
  unfold iblk
  rw [View.read_apply]
  refine congrArg (V m c main_v27) (emb_rows r t.val q (by have := t.isLt; have := points; omega) k _ ?_ ?_)
  · show win0_0.index t 0 * 512 + 1 * (128 * (q % 4) + r.val) = _; rw [(idx_rows t).1.1]
  · show win0_0.index t 1 * 4096 + 1 * k.val = _; rw [(idx_rows t).1.2]

theorem block_d (t : Fin cfg0.N) (q : ℕ) (r : Fin 128) (k : Fin 4096) :
    iblk m c 1 t (ix2 ⟨128 * (q % 4) + r.val, by omega⟩ k) = V m c main_v28 (ix2 (rowOf (4 * t.val + q % 4) r) k) := by
  unfold iblk
  rw [View.read_apply]
  refine congrArg (V m c main_v28) (emb_rows r t.val q (by have := t.isLt; have := points; omega) k _ ?_ ?_)
  · show win0_1.index t 0 * 512 + 1 * (128 * (q % 4) + r.val) = _; rw [(idx_rows t).2.1.1]
  · show win0_1.index t 1 * 4096 + 1 * k.val = _; rw [(idx_rows t).2.1.2]

theorem block_p (t : Fin cfg0.N) (q : ℕ) (r : Fin 128) (k : Fin 2048) :
    iblk m c 2 t (ix2 ⟨128 * (q % 4) + r.val, by omega⟩ k) = V m c main_v29 (ix2 (rowOf (4 * t.val + q % 4) r) k) := by
  unfold iblk
  rw [View.read_apply]
  refine congrArg (V m c main_v29) (emb_rows r t.val q (by have := t.isLt; have := points; omega) k _ ?_ ?_)
  · show win0_2.index t 0 * 512 + 1 * (128 * (q % 4) + r.val) = _; rw [(idx_rows t).2.2.1.1]
  · show win0_2.index t 1 * 2048 + 1 * k.val = _; rw [(idx_rows t).2.2.1.2]

theorem block_g (t : Fin cfg0.N) (k : Fin 2048) : iblk m c 3 t (ix2 0 k) = V m c main_v30 (ix2 0 k) := by
  unfold iblk
  rw [View.read_apply]
  refine congrArg (V m c main_v30) (funext fun a => Fin.ext ?_)
  match a with
  | ⟨0, _⟩ => show win0_3.index t 0 * 1 + 1 * 0 = 0; rw [(idx_whole t).1.1]
  | ⟨1, _⟩ => show win0_3.index t 1 * 2048 + 1 * k.val = k.val; rw [(idx_whole t).1.2]; omega

theorem block_b (t : Fin cfg0.N) (r : Fin 128) (k : Fin 2048) : iblk m c 6 t (ix2 r k) = V m c main_v26 (ix2 r k) := by
  unfold iblk
  rw [View.read_apply]
  refine congrArg (V m c main_v26) (funext fun a => Fin.ext ?_)
  match a with
  | ⟨0, _⟩ => show win0_6.index t 0 * 128 + 1 * r.val = r.val; rw [(idx_whole t).2.1.1]; omega
  | ⟨1, _⟩ => show win0_6.index t 1 * 2048 + 1 * k.val = k.val; rw [(idx_whole t).2.1.2]; omega

theorem block_w (t : Fin cfg0.N) (g : Fin 8) (r j : Fin 128) : iblk m c 4 t (ix3 g r j) = V m c main_arg2 (ix3 g r j) := by
  unfold iblk
  rw [View.read_apply]
  refine congrArg (V m c main_arg2) (funext fun a => Fin.ext ?_)
  match a with
  | ⟨0, _⟩ => show win0_4.index t 0 * 8 + 1 * g.val = g.val; rw [(idx_groups t).1.1]; omega
  | ⟨1, _⟩ => show win0_4.index t 1 * 128 + 1 * r.val = r.val; rw [(idx_groups t).1.2.1]; omega
  | ⟨2, _⟩ => show win0_4.index t 2 * 128 + 1 * j.val = j.val; rw [(idx_groups t).1.2.2]; omega

theorem block_wt (t : Fin cfg0.N) (g : Fin 8) (r j : Fin 128) : iblk m c 5 t (ix3 g r j) = V m c main_v22 (ix3 g r j) := by
  unfold iblk
  rw [View.read_apply]
  refine congrArg (V m c main_v22) (funext fun a => Fin.ext ?_)
  match a with
  | ⟨0, _⟩ => show win0_5.index t 0 * 8 + 1 * g.val = g.val; rw [(idx_groups t).2.1.1]; omega
  | ⟨1, _⟩ => show win0_5.index t 1 * 128 + 1 * r.val = r.val; rw [(idx_groups t).2.1.2.1]; omega
  | ⟨2, _⟩ => show win0_5.index t 2 * 128 + 1 * j.val = j.val; rw [(idx_groups t).2.1.2.2]; omega

include hA in
theorem blocks_real (t : Fin cfg0.N) : Blocks (iblk m c 0 t) (iblk m c 1 t) (iblk m c 2 t) (iblk m c 3 t) (iblk m c 4 t) (iblk m c 5 t) (iblk m c 6 t)
    (fun q => chunk X (4 * t.val + q % 4)) (fun q => chunk Y (4 * t.val + q % 4)) (fun q => chunk P (4 * t.val + q % 4)) G W B where
  z q r k := (block_z m c t q r k).trans (hA.z _ k)
  d q r k := (block_d m c t q r k).trans (hA.d _ k)
  p q r k := (block_p m c t q r k).trans (hA.p _ k)
  g k := (block_g m c t k).trans (hA.g k)
  w g r j := (block_w m c t g r j).trans (hA.w g r j)
  wt g r j := (block_wt m c t g r j).trans (hA.wt g r j)
  b r k := (block_b m c t r k).trans (hA.b r k)

/-! ### The sums after each point -/

/-- Sums over the chunks of the points before `n`, and one point's four more. -/
theorem more (f : ℕ → ℝ) (n : ℕ) : ((∑ q ∈ Finset.range (4 * n), f q : ℝ) : EReal) + ((∑ q ∈ Finset.range 4, f (4 * n + q % 4) : ℝ) : EReal)
    = ((∑ q ∈ Finset.range (4 * (n + 1)), f q : ℝ) : EReal) := by
  rw [add_real, Nat.mul_succ, Finset.sum_range_add]
  exact congrArg (fun a : ℝ => ((∑ q ∈ Finset.range (4 * n), f q + a : ℝ) : EReal))
    (Finset.sum_congr rfl fun q hq => by rw [Nat.mod_eq_of_lt (Finset.mem_range.mp hq)])

/-- Chunk `q`'s shares. -/
def shareW (g : ℕ) (r j : Fin 128) (q : ℕ) : ℝ := dW (chunk X q) (chunk P q) G g r j
def shareG (k : Fin 2048) (q : ℕ) : ℝ := ∑ r, dWeighted (chunk X q) (chunk P q) (W (k.val / 256)) r k * normed (chunk X q) r k
def shareB (r : Fin 128) (k : Fin 2048) (q : ℕ) : ℝ := dMixed (chunk X q) (chunk P q) r k

section Points

variable (t : Fin cfg0.N)

/-- What the point before left. -/
abbrev before (h0 : ¬t.val % 8 = 0) := outsAt0 m c (t.val - 1) (Nat.lt_of_le_of_lt (Nat.sub_le t.val 1) t.isLt)

include hA

theorem first_W (h0 : t.val % 8 = 0) (h1 : ¬t.val % 8 = 7) (g : Fin 8) (r j : Fin 128) : (outsAt0 m c t.val t.isLt).2.1 (ix3 g r j)
    = 0 + ((∑ q ∈ Finset.range 4, shareW X P G g.val r j (4 * t.val + q % 4) : ℝ) : EReal) := by
  rw [outsAt0_A m c t h0 h1]
  dsimp only
  exact dw_A' _ _ _ _ _ _ _ _ _ _ _ _ _ _ _ _ _ _ _ _ _ _ _ _ _ _ _ _ _ _ _ _ _ _ _ _ _ _ _ _ _ (blocks_real m c X Y P G W B hA t) _ _ g r j

theorem first_G (h0 : t.val % 8 = 0) (h1 : ¬t.val % 8 = 7) (k : Fin 2048) : (outsAt0 m c t.val t.isLt).2.2.2.1 (ix2 0 k)
    = 0 + ((∑ q ∈ Finset.range 4, shareG X P W k (4 * t.val + q % 4) : ℝ) : EReal) := by
  rw [outsAt0_A m c t h0 h1]
  dsimp only
  exact dg_A' _ _ _ _ _ _ _ _ _ _ _ _ _ _ _ _ _ _ _ _ _ _ _ _ _ _ _ _ _ _ _ _ _ _ _ _ _ _ _ _ _ (blocks_real m c X Y P G W B hA t) _ _ k

theorem first_B (h0 : t.val % 8 = 0) (h1 : ¬t.val % 8 = 7) (r : Fin 128) (k : Fin 2048) : (outsAt0 m c t.val t.isLt).2.2.2.2 (ix2 r k)
    = 0 + ((∑ q ∈ Finset.range 4, shareB X P r k (4 * t.val + q % 4) : ℝ) : EReal) := by
  rw [outsAt0_A m c t h0 h1]
  dsimp only
  exact db_A' _ _ _ _ _ _ _ _ _ _ _ _ _ _ _ _ _ _ _ _ _ _ _ _ _ _ _ _ _ _ _ _ _ _ _ _ _ _ _ _ _ (blocks_real m c X Y P G W B hA t) _ _ r k

theorem first_Z (h0 : t.val % 8 = 0) (h1 : ¬t.val % 8 = 7) (q : ℕ) (hq : q < 4) (r : Fin 128) (k : Fin 4096) :
    (outsAt0 m c t.val t.isLt).1 (ix2 ⟨128 * q + r.val, by omega⟩ k) = ((dZ (fun q => chunk X (4 * t.val + q % 4)) (fun q => chunk Y (4 * t.val + q % 4)) (fun q => chunk P (4 * t.val + q % 4)) G W B q r k : ℝ) : EReal) := by
  rw [outsAt0_A m c t h0 h1]
  dsimp only
  exact dz_A' _ _ _ _ _ _ _ _ _ _ _ _ _ _ _ _ _ _ _ _ _ _ _ _ _ _ _ _ _ _ _ _ _ _ _ _ _ _ _ _ _ (blocks_real m c X Y P G W B hA t) _ _ q hq r k

theorem later_W (h0 : ¬t.val % 8 = 0) (h1 : ¬t.val % 8 = 7) (g : Fin 8) (r j : Fin 128) : (outsAt0 m c t.val t.isLt).2.1 (ix3 g r j)
    = (before m c t h0).2.1 (ix3 g r j) + ((∑ q ∈ Finset.range 4, shareW X P G g.val r j (4 * t.val + q % 4) : ℝ) : EReal) := by
  rw [outsAt0_B m c t h0 h1]
  dsimp only
  exact dw_B' _ _ _ _ _ _ _ _ _ _ _ _ _ _ _ _ _ _ _ _ _ _ _ _ _ _ _ _ _ _ _ _ _ _ _ _ _ _ _ _ _ _ _ _ (blocks_real m c X Y P G W B hA t) _ _ g r j

theorem later_G (h0 : ¬t.val % 8 = 0) (h1 : ¬t.val % 8 = 7) (k : Fin 2048) : (outsAt0 m c t.val t.isLt).2.2.2.1 (ix2 0 k)
    = (before m c t h0).2.2.2.1 (ix2 0 k) + ((∑ q ∈ Finset.range 4, shareG X P W k (4 * t.val + q % 4) : ℝ) : EReal) := by
  rw [outsAt0_B m c t h0 h1]
  dsimp only
  exact dg_B' _ _ _ _ _ _ _ _ _ _ _ _ _ _ _ _ _ _ _ _ _ _ _ _ _ _ _ _ _ _ _ _ _ _ _ _ _ _ _ _ _ _ _ _ (blocks_real m c X Y P G W B hA t) _ _ k

theorem later_B (h0 : ¬t.val % 8 = 0) (h1 : ¬t.val % 8 = 7) (r : Fin 128) (k : Fin 2048) : (outsAt0 m c t.val t.isLt).2.2.2.2 (ix2 r k)
    = (before m c t h0).2.2.2.2 (ix2 r k) + ((∑ q ∈ Finset.range 4, shareB X P r k (4 * t.val + q % 4) : ℝ) : EReal) := by
  rw [outsAt0_B m c t h0 h1]
  dsimp only
  exact db_B' _ _ _ _ _ _ _ _ _ _ _ _ _ _ _ _ _ _ _ _ _ _ _ _ _ _ _ _ _ _ _ _ _ _ _ _ _ _ _ _ _ _ _ _ (blocks_real m c X Y P G W B hA t) _ _ r k

theorem later_Z (h0 : ¬t.val % 8 = 0) (h1 : ¬t.val % 8 = 7) (q : ℕ) (hq : q < 4) (r : Fin 128) (k : Fin 4096) :
    (outsAt0 m c t.val t.isLt).1 (ix2 ⟨128 * q + r.val, by omega⟩ k) = ((dZ (fun q => chunk X (4 * t.val + q % 4)) (fun q => chunk Y (4 * t.val + q % 4)) (fun q => chunk P (4 * t.val + q % 4)) G W B q r k : ℝ) : EReal) := by
  rw [outsAt0_B m c t h0 h1]
  dsimp only
  exact dz_B' _ _ _ _ _ _ _ _ _ _ _ _ _ _ _ _ _ _ _ _ _ _ _ _ _ _ _ _ _ _ _ _ _ _ _ _ _ _ _ _ _ _ _ _ (blocks_real m c X Y P G W B hA t) _ _ q hq r k

theorem last_W (h0 : ¬t.val % 8 = 0) (h1 : t.val % 8 = 7) (g : Fin 8) (r j : Fin 128) : (outsAt0 m c t.val t.isLt).2.1 (ix3 g r j)
    = (before m c t h0).2.1 (ix3 g r j) + ((∑ q ∈ Finset.range 4, shareW X P G g.val r j (4 * t.val + q % 4) : ℝ) : EReal) := by
  rw [outsAt0_C m c t h0 h1]
  dsimp only
  exact dw_C' _ _ _ _ _ _ _ _ _ _ _ _ _ _ _ _ _ _ _ _ _ _ _ _ _ _ _ _ _ _ _ _ _ _ _ _ _ _ _ _ _ _ _ _ (blocks_real m c X Y P G W B hA t) _ _ g r j

theorem last_G (h0 : ¬t.val % 8 = 0) (h1 : t.val % 8 = 7) (k : Fin 2048) : (outsAt0 m c t.val t.isLt).2.2.2.1 (ix2 0 k)
    = (before m c t h0).2.2.2.1 (ix2 0 k) + ((∑ q ∈ Finset.range 4, shareG X P W k (4 * t.val + q % 4) : ℝ) : EReal) := by
  rw [outsAt0_C m c t h0 h1]
  dsimp only
  exact dg_C' _ _ _ _ _ _ _ _ _ _ _ _ _ _ _ _ _ _ _ _ _ _ _ _ _ _ _ _ _ _ _ _ _ _ _ _ _ _ _ _ _ _ _ _ (blocks_real m c X Y P G W B hA t) _ _ k

theorem last_B (h0 : ¬t.val % 8 = 0) (h1 : t.val % 8 = 7) (r : Fin 128) (k : Fin 2048) : (outsAt0 m c t.val t.isLt).2.2.2.2 (ix2 r k)
    = (before m c t h0).2.2.2.2 (ix2 r k) + ((∑ q ∈ Finset.range 4, shareB X P r k (4 * t.val + q % 4) : ℝ) : EReal) := by
  rw [outsAt0_C m c t h0 h1]
  dsimp only
  exact db_C' _ _ _ _ _ _ _ _ _ _ _ _ _ _ _ _ _ _ _ _ _ _ _ _ _ _ _ _ _ _ _ _ _ _ _ _ _ _ _ _ _ _ _ _ (blocks_real m c X Y P G W B hA t) _ _ r k

theorem last_Z (h0 : ¬t.val % 8 = 0) (h1 : t.val % 8 = 7) (q : ℕ) (hq : q < 4) (r : Fin 128) (k : Fin 4096) :
    (outsAt0 m c t.val t.isLt).1 (ix2 ⟨128 * q + r.val, by omega⟩ k) = ((dZ (fun q => chunk X (4 * t.val + q % 4)) (fun q => chunk Y (4 * t.val + q % 4)) (fun q => chunk P (4 * t.val + q % 4)) G W B q r k : ℝ) : EReal) := by
  rw [outsAt0_C m c t h0 h1]
  dsimp only
  exact dz_C' _ _ _ _ _ _ _ _ _ _ _ _ _ _ _ _ _ _ _ _ _ _ _ _ _ _ _ _ _ _ _ _ _ _ _ _ _ _ _ _ _ _ _ _ (blocks_real m c X Y P G W B hA t) _ _ q hq r k

theorem last_Bias (h0 : ¬t.val % 8 = 0) (h1 : t.val % 8 = 7) (g : Fin 8) (r : Fin 128) : (outsAt0 m c t.val t.isLt).2.2.1 (ix3 g r 0)
    = ∑ e : Fin 256, ((before m c t h0).2.2.2.2 (ix2 r (col g.val e))
        + ((∑ q ∈ Finset.range 4, shareB X P r (col g.val e) (4 * t.val + q % 4) : ℝ) : EReal)) := by
  rw [outsAt0_C m c t h0 h1]
  dsimp only
  exact last_C' _ _ _ _ _ _ _ _ _ _ _ _ _ _ _ _ _ _ _ _ _ _ _ _ _ _ _ _ _ _ _ _ _ _ _ _ _ _ _ _ _ _ _ _ (blocks_real m c X Y P G W B hA t) _ _ g r

end Points

include hA

theorem sums : ∀ (n : ℕ) (h : n < cfg0.N),
    (∀ (g : Fin 8) r j, (outsAt0 m c n h).2.1 (ix3 g r j) = ((∑ q ∈ Finset.range (4 * (n + 1)), shareW X P G g.val r j q : ℝ) : EReal))
    ∧ (∀ k, (outsAt0 m c n h).2.2.2.1 (ix2 0 k) = ((∑ q ∈ Finset.range (4 * (n + 1)), shareG X P W k q : ℝ) : EReal))
    ∧ (∀ r k, (outsAt0 m c n h).2.2.2.2 (ix2 r k) = ((∑ q ∈ Finset.range (4 * (n + 1)), shareB X P r k q : ℝ) : EReal))
  | 0, h => by
    have h1 : ¬(⟨0, h⟩ : Fin cfg0.N).val % 8 = 7 := by dsimp only; omega
    refine ⟨fun g r j => ?_, fun k => ?_, fun r k => ?_⟩
    · refine (first_W m c X Y P G W B hA ⟨0, h⟩ rfl h1 g r j).trans ?_
      rw [zero_add]
      exact congrArg _ (Finset.sum_congr rfl fun q hq => congrArg (shareW X P G g.val r j) (by have := Finset.mem_range.mp hq; show 4 * 0 + q % 4 = q; omega))
    · refine (first_G m c X Y P G W B hA ⟨0, h⟩ rfl h1 k).trans ?_
      rw [zero_add]
      exact congrArg _ (Finset.sum_congr rfl fun q hq => congrArg (shareG X P W k) (by have := Finset.mem_range.mp hq; show 4 * 0 + q % 4 = q; omega))
    · refine (first_B m c X Y P G W B hA ⟨0, h⟩ rfl h1 r k).trans ?_
      rw [zero_add]
      exact congrArg _ (Finset.sum_congr rfl fun q hq => congrArg (shareB X P r k) (by have := Finset.mem_range.mp hq; show 4 * 0 + q % 4 = q; omega))
  | n + 1, h => by
    obtain ⟨iw, ig, ib⟩ := sums n (Nat.lt_of_succ_lt h)
    have hN := points
    have h0 : ¬(⟨n + 1, h⟩ : Fin cfg0.N).val % 8 = 0 := by dsimp only; omega
    by_cases h1 : (⟨n + 1, h⟩ : Fin cfg0.N).val % 8 = 7
    · refine ⟨fun g r j => ?_, fun k => ?_, fun r k => ?_⟩
      · exact ((last_W m c X Y P G W B hA ⟨n + 1, h⟩ h0 h1 g r j).trans (congrArg (· + _) (iw g r j))).trans (more (shareW X P G g.val r j) (n + 1))
      · exact ((last_G m c X Y P G W B hA ⟨n + 1, h⟩ h0 h1 k).trans (congrArg (· + _) (ig k))).trans (more (shareG X P W k) (n + 1))
      · exact ((last_B m c X Y P G W B hA ⟨n + 1, h⟩ h0 h1 r k).trans (congrArg (· + _) (ib r k))).trans (more (shareB X P r k) (n + 1))
    · refine ⟨fun g r j => ?_, fun k => ?_, fun r k => ?_⟩
      · exact ((later_W m c X Y P G W B hA ⟨n + 1, h⟩ h0 h1 g r j).trans (congrArg (· + _) (iw g r j))).trans (more (shareW X P G g.val r j) (n + 1))
      · exact ((later_G m c X Y P G W B hA ⟨n + 1, h⟩ h0 h1 k).trans (congrArg (· + _) (ig k))).trans (more (shareG X P W k) (n + 1))
      · exact ((later_B m c X Y P G W B hA ⟨n + 1, h⟩ h0 h1 r k).trans (congrArg (· + _) (ib r k))).trans (more (shareB X P r k) (n + 1))

/-- The activations' gradient of chunk `q`. -/
def chunkZ (q : ℕ) (r : Fin 128) (k : Fin 4096) : ℝ :=
  dZ (fun _ => chunk X q) (fun _ => chunk Y q) (fun _ => chunk P q) G W B 0 r k

theorem rows_left (t : Fin cfg0.N) (q : ℕ) (hq : q < 4) (r : Fin 128) (k : Fin 4096) :
    (outsAt0 m c t.val t.isLt).1 (ix2 ⟨128 * q + r.val, by omega⟩ k) = ((chunkZ X Y P G W B (4 * t.val + q) r k : ℝ) : EReal) := by
  have e : dZ (fun q => chunk X (4 * t.val + q % 4)) (fun q => chunk Y (4 * t.val + q % 4)) (fun q => chunk P (4 * t.val + q % 4)) G W B q r k
      = chunkZ X Y P G W B (4 * t.val + q) r k := by
    unfold chunkZ dZ dGate
    dsimp only
    rw [Nat.mod_eq_of_lt hq]
  rw [← e]
  by_cases h0 : t.val % 8 = 0
  · exact first_Z m c X Y P G W B hA t h0 (by omega) q hq r k
  · by_cases h1 : t.val % 8 = 7
    · exact last_Z m c X Y P G W B hA t h0 h1 q hq r k
    · exact later_Z m c X Y P G W B hA t h0 h1 q hq r k

theorem bias_left (t : Fin cfg0.N) (h1 : t.val = 7) (g : Fin 8) (r : Fin 128) :
    (outsAt0 m c t.val t.isLt).2.2.1 (ix3 g r 0)
      = ((∑ e : Fin 256, ∑ q ∈ Finset.range 32, shareB X P r (col g.val e) q : ℝ) : EReal) := by
  have h0 : ¬t.val % 8 = 0 := by omega
  refine (last_Bias m c X Y P G W B hA t h0 (by omega) g r).trans ?_
  rw [← sum_real]
  refine Finset.sum_congr rfl fun e _ => ?_
  have hb := (sums m c X Y P G W B hA (t.val - 1) (Nat.lt_of_le_of_lt (Nat.sub_le t.val 1) t.isLt)).2.2 r (col g.val e)
  rw [show 4 * (t.val - 1 + 1) = 4 * t.val by omega] at hb
  refine (congrArg (· + _) hb).trans ((more (shareB X P r (col g.val e)) t.val).trans ?_)
  rw [show 4 * (t.val + 1) = 32 by omega]

/-! ### The arrays after the run -/

theorem rows_array (t : Fin cfg0.N) (q : ℕ) (hq : q < 4) (r : Fin 128) (k : Fin 4096) :
    (dats m 0 c).arrAt 7 cfg0.N (ix2 (rowOf (4 * t.val + q % 4) r) k) = ((chunkZ X Y P G W B (4 * t.val + q) r k : ℝ) : EReal) := by
  have hb := congrFun ((dats m 0 c).read_blk_arrAt_eq_flushed 7 (fun t t' _ _ hne => (cfg0.win 7).disjoint_blk fun h => hne (inj_rows t t' h))
    cfg0.N t t.isLt (flush0_7 t)) (ix2 ⟨128 * q + r.val, by omega⟩ k)
  rw [View.read_apply] at hb
  refine ((congrArg ((dats m 0 c).arrAt 7 cfg0.N) (emb_rows r t.val q (by have := t.isLt; have := points; omega) k _ ?_ ?_).symm).trans hb).trans ?_
  · show win0_7.index t 0 * 512 + 1 * (128 * q + r.val) = _
    rw [(idx_rows t).2.2.2.1, Nat.mod_eq_of_lt hq]
  · show win0_7.index t 1 * 4096 + 1 * k.val = _
    rw [(idx_rows t).2.2.2.2]
  · show (cfg0.win 7).cut (grid0.coords t) ((dats m 0 c).after 7 t) _ = _
    rw [after0_7]
    exact rows_left m c X Y P G W B hA t q hq r k

/-- The last point. -/
abbrev end7 : Fin cfg0.N := ⟨7, by rw [points]; omega⟩

theorem dw_array (g : Fin 8) (r j : Fin 128) :
    (dats m 0 c).arrAt 8 cfg0.N (ix3 g r j) = ((∑ q ∈ Finset.range 32, shareW X P G g.val r j q : ℝ) : EReal) := by
  have hb := congrFun ((dats m 0 c).read_blk_arrAt_eq_flushed 8 (fun t t' h h' hne => absurd (Fin.ext (by
    have := (flush0_8 t).mp h; have := (flush0_8 t').mp h'; have := t.isLt; have := t'.isLt; have := points; omega)) hne)
    cfg0.N end7 end7.isLt ((flush0_8 end7).mpr rfl)) (ix3 g r j)
  rw [View.read_apply, show ((cfg0.win 8).blk end7).view.emb (ix3 g r j) = ix3 g r j from funext fun a => Fin.ext (by
    match a with
    | ⟨0, _⟩ => show win0_8.index end7 0 * 8 + 1 * g.val = g.val; rw [(idx_groups end7).2.2.1.1]; omega
    | ⟨1, _⟩ => show win0_8.index end7 1 * 128 + 1 * r.val = r.val; rw [(idx_groups end7).2.2.1.2.1]; omega
    | ⟨2, _⟩ => show win0_8.index end7 2 * 128 + 1 * j.val = j.val; rw [(idx_groups end7).2.2.1.2.2]; omega)] at hb
  refine hb.trans ?_
  show (cfg0.win 8).cut (grid0.coords end7) ((dats m 0 c).after 8 end7) _ = _
  rw [after0_8]
  exact (sums m c X Y P G W B hA 7 end7.isLt).1 g r j

theorem db_array (g : Fin 8) (r : Fin 128) :
    (dats m 0 c).arrAt 9 cfg0.N (ix3 g r 0) = ((∑ e : Fin 256, ∑ q ∈ Finset.range 32, shareB X P r (col g.val e) q : ℝ) : EReal) := by
  have hb := congrFun ((dats m 0 c).read_blk_arrAt_eq_flushed 9 (fun t t' h h' hne => absurd (Fin.ext (by
    have := (flush0_9 t).mp h; have := (flush0_9 t').mp h'; have := t.isLt; have := t'.isLt; have := points; omega)) hne)
    cfg0.N end7 end7.isLt ((flush0_9 end7).mpr rfl)) (ix3 g r 0)
  rw [View.read_apply, show ((cfg0.win 9).blk end7).view.emb (ix3 g r 0) = ix3 g r (0 : Fin 1) from funext fun a => Fin.ext (by
    match a with
    | ⟨0, _⟩ => show win0_9.index end7 0 * 8 + 1 * g.val = g.val; rw [(idx_groups end7).2.2.2.1]; omega
    | ⟨1, _⟩ => show win0_9.index end7 1 * 128 + 1 * r.val = r.val; rw [(idx_groups end7).2.2.2.2.1]; omega
    | ⟨2, _⟩ => show win0_9.index end7 2 * 1 + 1 * 0 = 0; rw [(idx_groups end7).2.2.2.2.2])] at hb
  refine hb.trans ?_
  show (cfg0.win 9).cut (grid0.coords end7) ((dats m 0 c).after 9 end7) _ = _
  rw [after0_9]
  exact bias_left m c X Y P G W B hA end7 rfl g r

theorem dg_array (k : Fin 2048) :
    (dats m 0 c).arrAt 10 cfg0.N (ix2 0 k) = ((∑ q ∈ Finset.range 32, shareG X P W k q : ℝ) : EReal) := by
  have hb := congrFun ((dats m 0 c).read_blk_arrAt_eq_flushed 10 (fun t t' h h' hne => absurd (Fin.ext (by
    have := (flush0_10 t).mp h; have := (flush0_10 t').mp h'; have := t.isLt; have := t'.isLt; have := points; omega)) hne)
    cfg0.N end7 end7.isLt ((flush0_10 end7).mpr rfl)) (ix2 0 k)
  rw [View.read_apply, show ((cfg0.win 10).blk end7).view.emb (ix2 0 k) = ix2 (0 : Fin 1) k from funext fun a => Fin.ext (by
    match a with
    | ⟨0, _⟩ => show win0_10.index end7 0 * 1 + 1 * 0 = 0; rw [(idx_whole end7).2.2.1]
    | ⟨1, _⟩ => show win0_10.index end7 1 * 2048 + 1 * k.val = k.val; rw [(idx_whole end7).2.2.2]; omega)] at hb
  refine hb.trans ?_
  show (cfg0.win 10).cut (grid0.coords end7) ((dats m 0 c).after 10 end7) _ = _
  rw [after0_10]
  exact (sums m c X Y P G W B hA 7 end7.isLt).2.1 k

end Cert.SguArray

end
-- ==== Proof.SguHost.lean ====
/-
  The arrays the spatial gate's backward call is given: the host code computes them from the program's arguments, the
  activations and their slope among them.
-/
module

public import proofs.«01_k».proof.Proof.SguArray
public import Idealize.ShloMosaic.Lib.StableHlo.RunRead
public import Idealize.ShloMosaic.Lib.Tactic

@[expose] public section

set_option maxRecDepth 65536

noncomputable section

namespace Cert.SguHost

open Idealize.ShloMosaic Idealize.ShloMosaic.TcCoe
open Cert.SguKernelIdeal Cert.SguKernelIdeal.Gen Cert.SguArray Cert.Finite

/-! ### The activation over the real numbers -/

/-- The numbers the float words of one over the root of two and of minus two over the root of pi denote. -/
abbrev root : ℝ := 11863283 / 2 ^ 24
abbrev bell : ℝ := -(9465531 / 2 ^ 23)

theorem word_root : Ideal.ofBits .f32 0x3F3504F3#32 = ((root : ℝ) : EReal) := by
  simp [Ideal.ofBits, Ideal.ieee, -EReal.coe_mul]; norm_num
theorem word_bell : Ideal.ofBits .f32 0xBF906EBB#32 = ((bell : ℝ) : EReal) := by
  simp [Ideal.ofBits, Ideal.ieee, -EReal.coe_mul]; norm_num

/-- One minus the error function. -/
def tail (y : ℝ) : ℝ := 1 - 2 / Real.sqrt Real.pi * ∫ t in (0 : ℝ)..y, Real.exp (-(t ^ 2))

theorem tail_real (y : ℝ) : Ideal.erfc (y : EReal) = ((tail y : ℝ) : EReal) := by
  unfold Ideal.erfc tail
  rw [Ideal.erf_coe, EReal.coe_sub]
  rfl

theorem neg_real (a : ℝ) : -(a : EReal) = ((-a : ℝ) : EReal) := (EReal.coe_neg a).symm

theorem exp_real (a : ℝ) : Ideal.exp (a : EReal) = ((Real.exp a : ℝ) : EReal) := Ideal.exp_coe a

def gelu (x : ℝ) : ℝ := 1 / 2 * x * tail (-x * root)

def geluSlope (x : ℝ) : ℝ := -(bell * (1 / 2 * x) * Real.exp (-(-x * root * (-x * root))) * root) + 1 / 2 * tail (-x * root)

/-! ### The host code's arrays -/

def geluArr (x : FVec Ideal S4096x4096 .f32) : FVec Ideal S4096x4096 .f32 :=
  mulf (mulf (broadcastInDim S4096x4096 ![] bcast_S_S4096x4096 (constant S_ .f32 0x3F000000#32)) x)
    (Host.erfc (mulf (Host.negf x) (broadcastInDim S4096x4096 ![] bcast_S_S4096x4096 (constant S_ .f32 0x3F3504F3#32))))

/-- The activation's slope, from the argument `x`, its half `h`, its scaled negation `s` and an array of ones. -/
def slopeOf (h s one : FVec Ideal S4096x4096 .f32) : FVec Ideal S4096x4096 .f32 :=
  addf (Host.negf (mulf (mulf (mulf (broadcastInDim S4096x4096 ![] bcast_S_S4096x4096 (constant S_ .f32 0xBF906EBB#32)) (mulf h one))
      (Host.exp (Host.negf (mulf s s)))) (broadcastInDim S4096x4096 ![] bcast_S_S4096x4096 (constant S_ .f32 0x3F3504F3#32))))
    (mulf (broadcastInDim S4096x4096 ![] bcast_S_S4096x4096 (constant S_ .f32 0x3F000000#32)) (mulf one (Host.erfc s)))

def slopeArr (x : FVec Ideal S4096x4096 .f32) : FVec Ideal S4096x4096 .f32 :=
  slopeOf (mulf (broadcastInDim S4096x4096 ![] bcast_S_S4096x4096 (constant S_ .f32 0x3F000000#32)) x)
    (mulf (Host.negf x) (broadcastInDim S4096x4096 ![] bcast_S_S4096x4096 (constant S_ .f32 0x3F3504F3#32)))
    (broadcastInDim S4096x4096 ![] bcast_S_S4096x4096 (constant S_ .f32 0x3F800000#32))

theorem gelu_apply (x : FVec Ideal S4096x4096 .f32) (r k : Fin 4096) (a : ℝ) (h : x (ix2 r k) = ((a : ℝ) : EReal)) :
    geluArr x (ix2 r k) = ((gelu a : ℝ) : EReal) := by
  pointwise [geluArr]
  simp only [h, neg_real, word_root, word_half, mul_real, tail_real]
  rfl

theorem slope_apply (x : FVec Ideal S4096x4096 .f32) (r k : Fin 4096) (a : ℝ) (h : x (ix2 r k) = ((a : ℝ) : EReal)) :
    slopeArr x (ix2 r k) = ((geluSlope a : ℝ) : EReal) := by
  pointwise [slopeArr, slopeOf]
  simp only [h, neg_real, word_root, word_half, word_bell, mul_one, one_mul, mul_real, tail_real, exp_real, add_real]
  rfl

variable (m : (ℓ : Loc nD τ sig) → Buf (Elt Ideal) ℓ) (c : Dev nD)

abbrev a0 : FVec Ideal S4096x4096 .f32 := m ((c : Thread nD τ).loc main_arg0)
abbrev a1 : FVec Ideal S2048 .f32 := m ((c : Thread nD τ).loc main_arg1)
abbrev a2 : FVec Ideal S8x128x128 .f32 := m ((c : Thread nD τ).loc main_arg2)
abbrev a3 : FVec Ideal S8x128 .f32 := m ((c : Thread nD τ).loc main_arg3)
abbrev a4 : FVec Ideal S4096x2048 .f32 := m ((c : Thread nD τ).loc main_arg4)

theorem read_z : V m c main_v27 = (truncf .bf16 (geluArr (a0 m c)) bitsLt_bf16_f32 : FVec Ideal S4096x4096 .bf16) := by
  unfold V
  after_reads_simp
  rfl

theorem read_d : V m c main_v28 = (truncf .bf16 (slopeArr (a0 m c)) bitsLt_bf16_f32 : FVec Ideal S4096x4096 .bf16) := by
  unfold V
  after_reads_simp
  rfl

theorem read_p : V m c main_v29 = (truncf .bf16 (a4 m c) bitsLt_bf16_f32 : FVec Ideal S4096x2048 .bf16) := by
  unfold V
  after_reads_simp

theorem read_g : V m c main_v30 = (shapeCast S1x2048 (a1 m c) shapeCasts_S2048_S1x2048 : FVec Ideal S1x2048 .f32) := by
  unfold V
  after_reads_simp
  rfl

theorem read_w : V m c main_arg2 = a2 m c := by
  unfold V
  after_reads_simp

theorem read_wt : V m c main_v22 = (transpose S8x128x128 [0, 2, 1] (a2 m c) transposes_S8x128x128_S8x128x128_0_2_1 : FVec Ideal S8x128x128 .f32) := by
  unfold V
  after_reads_simp

def biasArr (b : FVec Ideal S8x128 .f32) : FVec Ideal S128x8x256 .f32 :=
  broadcastInDim S128x8x256 ![0, 1, 2] bcast_S128x8x1_S128x8x256_0_1_2
    (broadcastInDim S128x8x1 ![0, 1] bcast_S128x8_S128x8x1_0_1 (transpose S128x8 [1, 0] b transposes_S8x128_S128x8_1_0))

theorem read_b : V m c main_v26 = (shapeCast S128x2048 (biasArr (a3 m c)) shapeCasts_S128x8x256_S128x2048 : FVec Ideal S128x2048 .f32) := by
  unfold V
  after_reads_simp
  rfl

theorem biasFlat_apply (b : FVec Ideal S8x128 .f32) (r : Fin 128) (k : Fin 2048) :
    shapeCast S128x2048 (biasArr b) shapeCasts_S128x8x256_S128x2048 (ix2 r k) = b (ix2 ⟨k.val / 256, by omega⟩ r) := by
  rw [shapeCast_apply (biasArr b) shapeCasts_S128x8x256_S128x2048 (ix2 r k) (ix3 r ⟨k.val / 256, by omega⟩ ⟨k.val % 256, by omega⟩)
    (by rewrite [Shape.rowMajor_val_three, Shape.rowMajor_val_two]; show (r.val * 8 + k.val / 256) * 256 + k.val % 256 = r.val * 2048 + k.val; omega)]
  pointwise [biasArr]

variable (Z : Fin 4096 → Fin 4096 → ℝ) (G : Fin 2048 → ℝ) (W : Fin 8 → Fin 128 → Fin 128 → ℝ) (B : Fin 8 → Fin 128 → ℝ) (P : Fin 4096 → Fin 2048 → ℝ)

/-- The groups' weights and biases, named by the group's number. -/
abbrev byNumber {α : Type} (w : Fin 8 → α) (g : ℕ) : α := w ⟨g % 8, Nat.mod_lt _ (by decide)⟩

theorem args (hz : ∀ r k, a0 m c (ix2 r k) = ((Z r k : ℝ) : EReal)) (hg : ∀ k, a1 m c (ix1 k) = ((G k : ℝ) : EReal))
    (hw : ∀ g r j, a2 m c (ix3 g r j) = ((W g r j : ℝ) : EReal)) (hb : ∀ g r, a3 m c (ix2 g r) = ((B g r : ℝ) : EReal))
    (hp : ∀ r k, a4 m c (ix2 r k) = ((P r k : ℝ) : EReal)) :
    Args m c (fun r k => gelu (Z r k)) (fun r k => geluSlope (Z r k)) P G (byNumber W) (byNumber B) where
  z r k := by rw [read_z]; exact gelu_apply _ r k _ (hz r k)
  d r k := by rw [read_d]; exact slope_apply _ r k _ (hz r k)
  p r k := by rw [read_p]; exact hp r k
  g k := by
    rw [read_g]
    generalize a1 m c = x at *
    pointwise
    exact hg k
  w g r j := by
    rw [read_w, hw]
    exact congrArg (fun n : Fin 8 => ((W n r j : ℝ) : EReal)) (Fin.ext (Nat.mod_eq_of_lt g.isLt).symm)
  wt g r j := by
    rw [read_wt]
    generalize a2 m c = x at *
    pointwise
    rw [hw]
    exact congrArg (fun n : Fin 8 => ((W n j r : ℝ) : EReal)) (Fin.ext (Nat.mod_eq_of_lt g.isLt).symm)
  b r k := by
    rw [read_b, biasFlat_apply, hb]
    exact congrArg (fun n : Fin 8 => ((B n r : ℝ) : EReal)) (Fin.ext (Nat.mod_eq_of_lt (show k.val / 256 < 8 by omega)).symm)

end Cert.SguHost

end
-- ==== Proof.SguReference.lean ====
/-
  The reference of the spatial gate's gradients read over the real numbers, by chunks of 128 rows.
-/
module

public import proofs.«01_k».proof.Proof.SguHost
public import proofs.«01_k».proof.Proof.Gen.SguReferenceIdeal.Read
public import Idealize.ShloMosaic.Lib.Pointwise
public import Idealize.ShloMosaic.Lib.TwoAxisContraction

@[expose] public section

set_option maxRecDepth 65536

noncomputable section

namespace Cert.SguReference

open Idealize.ShloMosaic Cert.SguReferenceIdeal Cert.SguReferenceIdeal.Read Cert.Finite Cert.Norm
open Cert.SguChunk (keep lo hi col gate normed kept mixed dMixed dWeighted word_2048 div_2048 sge_halves)
open Cert.SguArray (rowOf chunk)
open Cert.SguHost (gelu geluSlope byNumber)

/-! ### The mask -/

theorem half_word (i : Fin 128) : val_main_v30 (F := Ideal) (ix1 i) = BitVec.ofNat 32 (i.val / 64) := by
  pointwise [val_main_v30, val_main_v29, val_main_c, val_main_call0_v0, val_main_call0_v1, val_main_call0_v2, val_main_call0_v3,
    val_main_call0_v4, val_main_call0_v5, val_main_call0_v6, val_main_call0_v7, val_main_call0_v8, val_main_call0_c, val_main_call0_v9,
    val_main_call0_v10, val_main_call0_v11, val_main_call0_c_0, val_main_call0_v12, val_main_call0_v13]
  revert i
  decide +kernel

theorem mask_real (i j : Fin 128) : val_main_v36 (F := Ideal) (ix2 i j) = ((if keep i j then 1 else 0 : ℝ) : EReal) := by
  pointwise [val_main_v36, val_main_v35, val_main_v34, val_main_v33, val_main_v32, val_main_v31]
  rw [half_word, half_word, sge_halves]
  by_cases h : keep i j
  · rw [if_pos h, if_pos h]
    show (((1#1).toNat : ℝ) : EReal) = ((1 : ℝ) : EReal)
    simp
  · rw [if_neg h, if_neg h]
    show (((0#1).toNat : ℝ) : EReal) = ((0 : ℝ) : EReal)
    simp

variable (x0 : FVec Ideal S4096x4096 .f32) (x1 : FVec Ideal S2048 .f32) (x2 : FVec Ideal S8x128x128 .f32) (x3 : FVec Ideal S8x128 .f32)
  (x4 : FVec Ideal S4096x2048 .f32)
  (Z : Fin 4096 → Fin 4096 → ℝ) (G : Fin 2048 → ℝ) (W : Fin 8 → Fin 128 → Fin 128 → ℝ) (B : Fin 8 → Fin 128 → ℝ) (P : Fin 4096 → Fin 2048 → ℝ)
  (hz : ∀ r k, x0 (ix2 r k) = ((Z r k : ℝ) : EReal)) (hg : ∀ k, x1 (ix1 k) = ((G k : ℝ) : EReal))
  (hw : ∀ g r j, x2 (ix3 g r j) = ((W g r j : ℝ) : EReal)) (hb : ∀ g r, x3 (ix2 g r) = ((B g r : ℝ) : EReal))
  (hp : ∀ r k, x4 (ix2 r k) = ((P r k : ℝ) : EReal))

/-- Chunk `n` of the activations. -/
abbrev act (n : ℕ) : Fin 128 → Fin 4096 → ℝ := chunk (fun r k => gelu (Z r k)) n

/-- The group of column `k`. -/
abbrev grp (k : Fin 2048) : Fin 8 := ⟨k.val / 256, by omega⟩

/-- A flat index of a chunk as the four-axis index. -/
theorem flat46 (r : Fin 4096) (n : ℕ) (hn : n < 32) (i : Fin 128) (hr : r.val = 128 * n + i.val) (k : Fin 2048) :
    idx_main_v46 (ix2 r k) = ix4 ⟨n, hn⟩ i (grp k) ⟨k.val % 256, by omega⟩ := by
  refine funext fun a => Fin.ext ?_
  match a with
  | ⟨0, _⟩ => show (r.val * 2048 + k.val) / 262144 = n; omega
  | ⟨1, _⟩ => show (r.val * 2048 + k.val) / 2048 % 128 = i.val; omega
  | ⟨2, _⟩ => show (r.val * 2048 + k.val) / 256 % 8 = k.val / 256; omega
  | ⟨3, _⟩ => show (r.val * 2048 + k.val) % 256 = k.val % 256; omega

theorem flat61 (r : Fin 4096) (k : Fin 2048) : idx_main_v61 (ix2 r k) = idx_main_v46 (ix2 r k) :=
  funext fun a => Fin.ext (by
    match a with
    | ⟨0, _⟩ => rfl
    | ⟨1, _⟩ => rfl
    | ⟨2, _⟩ => rfl
    | ⟨3, _⟩ => rfl)

theorem row_val (n : ℕ) (hn : n < 32) (i : Fin 128) : (rowOf n i).val = 128 * n + i.val := Nat.mod_eq_of_lt (by omega)

/-- A sum over the outer and the inner axis of four. -/
theorem sum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (i : Fin n1) (g : Fin n2) :
    Ideal.hostReduceAdd h v init (ix2 i g) = init + ∑ n : Fin n0, ∑ e : Fin n3, v (ix4 n i g e) := by
  unfold Ideal.hostReduceAdd
  refine congrArg (init + ·) ?_
  rw [← Fintype.sum_prod_type']
  refine Finset.sum_nbij' (fun y => (y 0, y 3)) (fun p => ix4 p.1 i g p.2) (fun _ _ => Finset.mem_univ _) (fun p _ => ?_) (fun y hy => ?_)
    (fun _ _ => rfl) (fun y hy => ?_)
  · refine Finset.mem_filter.mpr ⟨Finset.mem_univ _, funext fun b => Fin.ext ?_⟩
    match b with
    | ⟨0, _⟩ => rfl
    | ⟨1, _⟩ => rfl
  all_goals
    have hd := (Finset.mem_filter.mp hy).2
    have h1 : (y 1).val = i.val := congrArg (fun z : (⟨2, ![n1, n2]⟩ : Shape).Idx => (z 0).val) hd
    have h2 : (y 2).val = g.val := congrArg (fun z : (⟨2, ![n1, n2]⟩ : Shape).Idx => (z 1).val) hd
    have he : ix4 (y 0) i g (y 3) = y := funext fun b => Fin.ext (by
      match b with
      | ⟨0, _⟩ => rfl
      | ⟨1, _⟩ => exact h1.symm
      | ⟨2, _⟩ => exact h2.symm
      | ⟨3, _⟩ => rfl)
  · exact he
  · exact congrArg v he.symm

include hw in
theorem kept_real (g : Fin 8) (i j : Fin 128) : val_main_v39 (F := Ideal) x2 (ix3 g i j) = ((kept (W g) i j : ℝ) : EReal) := by
  pointwise [val_main_v39, val_main_v38, val_main_v37]
  rw [mask_real, hw, mul_real]
  unfold kept
  split <;> simp

/-! ### The forward lines -/

include hz

theorem act_real (r k : Fin 4096) : val_main_v9 (F := Ideal) x0 (ix2 r k) = ((gelu (Z r k) : ℝ) : EReal) := by
  exact Cert.SguHost.gelu_apply x0 r k _ (hz r k)

theorem lo_real (n : ℕ) (i : Fin 128) (k : Fin 2048) : val_main_v10 (F := Ideal) x0 (ix2 (rowOf n i) k) = ((act Z n i (lo k) : ℝ) : EReal) := by
  refine (val_main_v10_apply (F := Ideal) x0 _).trans ?_
  rw [eq_ix2 (idx_main_v10 _)]
  exact act_real x0 Z hz _ _

theorem gate_real (r : Fin 4096) (k : Fin 2048) : val_main_v11 (F := Ideal) x0 (ix2 r k) = ((gelu (Z r (hi k)) : ℝ) : EReal) := by
  refine (val_main_v11_apply (F := Ideal) x0 _).trans ?_
  rw [eq_ix2 (idx_main_v11 _)]
  refine (act_real x0 Z hz _ _).trans ?_
  exact congrArg (fun a : Fin 4096 => ((gelu (Z r a) : ℝ) : EReal)) (Fin.ext rfl)

theorem meanSq_real (n : ℕ) (i : Fin 128) (z : Fin 1) : val_main_v18 (F := Ideal) x0 (ix2 (rowOf n i) z) = ((meanSq 2048 (gate (act Z n) i) : ℝ) : EReal) := by
  pointwise [val_main_v18, val_main_v17, val_main_v16, val_main_v15, val_main_v14, val_main_v13, val_main_v12, val_main_cst_1, val_main_cst_2, val_main_cst_3]
  simp only [gate_real x0 Z hz, mul_real, sum_real, word_2048, div_2048, word_eps, add_real]
  rfl

theorem scale_real (n : ℕ) (i : Fin 128) (z : Fin 1) : val_main_v19 (F := Ideal) x0 (ix2 (rowOf n i) z) = ((scale 2048 (gate (act Z n) i) : ℝ) : EReal) := by
  pointwise [val_main_v19]
  rw [meanSq_real x0 Z hz]
  exact rsqrt_real (meanSq_pos (c := 2048) (by norm_num) _)

theorem slope_real (n : ℕ) (i : Fin 128) (z : Fin 1) : val_main_v22 (F := Ideal) x0 (ix2 (rowOf n i) z)
    = ((-(1 / 2) * (scale 2048 (gate (act Z n) i) / meanSq 2048 (gate (act Z n) i)) : ℝ) : EReal) := by
  pointwise [val_main_v22, val_main_v21, val_main_v20, val_main_cst_4]
  rw [meanSq_real x0 Z hz, scale_real x0 Z hz, div_real _ (meanSq_pos (c := 2048) (by norm_num) _).ne', word_neg_half, mul_real]

theorem normed_real (n : ℕ) (i : Fin 128) (k : Fin 2048) : val_main_v24 (F := Ideal) x0 (ix2 (rowOf n i) k) = ((normed (act Z n) i k : ℝ) : EReal) := by
  pointwise [val_main_v24, val_main_v23]
  rw [scale_real x0 Z hz, gate_real x0 Z hz, mul_real]
  rfl

include hg in
theorem weighted_real (n : ℕ) (i : Fin 128) (k : Fin 2048) :
    val_main_v27 (F := Ideal) x0 x1 (ix2 (rowOf n i) k) = ((normed (act Z n) i k * G k : ℝ) : EReal) := by
  pointwise [val_main_v27, val_main_v26, val_main_v25]
  rw [normed_real x0 Z hz, hg, mul_real]

include hg in
theorem weighted4_real (n : Fin 32) (i : Fin 128) (g : Fin 8) (e : Fin 256) :
    val_main_v28 (F := Ideal) x0 x1 (ix4 n i g e) = ((normed (act Z n.val) i (col g.val e) * G (col g.val e) : ℝ) : EReal) := by
  rw [← weighted_real x0 x1 Z G hz hg, val_main_v28_apply]
  refine congrArg _ (funext fun a => Fin.ext ?_)
  match a with
  | ⟨0, _⟩ =>
    show ((((n.val * 128 + i.val) * 8 + g.val) * 256 + e.val) / 2048) = (128 * n.val + i.val) % 4096
    omega
  | ⟨1, _⟩ =>
    show ((((n.val * 128 + i.val) * 8 + g.val) * 256 + e.val) % 2048) = 256 * (g.val % 8) + e.val
    omega

include hg hw in
theorem product_real (g : Fin 8) (n : Fin 32) (e : Fin 256) (i : Fin 128) : val_main_v40 (F := Ideal) x0 x1 x2 (ix4 g n e i)
    = ((∑ j, kept (W g) i j * (normed (act Z n.val) j (col g.val e) * G (col g.val e)) : ℝ) : EReal) := by
  rw [val_main_v40_apply, ← sum_real]
  refine Finset.sum_congr rfl fun j _ => ?_
  rw [eq_ix4 (lidx_main_v40 _ _), eq_ix3 (ridx_main_v40 _ _)]
  refine (congrArg₂ (· * ·) (weighted4_real x0 x1 Z G hz hg n j g e) (kept_real x2 W hw g i j)).trans ?_
  rw [mul_real, mul_comm]

include hg hw hb in
theorem mixed_real (n : ℕ) (hn : n < 32) (i : Fin 128) (k : Fin 2048) : val_main_v46 (F := Ideal) x0 x1 x2 x3 (ix2 (rowOf n i) k)
    = ((mixed (act Z n) G (W (grp k)) (B (grp k)) i k : ℝ) : EReal) := by
  rw [val_main_v46_apply, flat46 _ n hn i (row_val n hn i) k, val_main_v45_apply, val_main_v41_apply, val_main_v44_apply,
    val_main_v43_apply, val_main_v42_apply, eq_ix4 (idx_main_v41 _), eq_ix2 (idx_main_v42 _)]
  refine (congrArg₂ (· + ·) (product_real x0 x1 x2 Z G W hz hg hw (grp k) ⟨n, hn⟩ ⟨k.val % 256, by omega⟩ i) (hb (grp k) i)).trans ?_
  rw [add_real]
  have hc : col (grp k).val ⟨k.val % 256, by omega⟩ = k := Fin.ext (by show 256 * (k.val / 256 % 8) + k.val % 256 = k.val; omega)
  rw [hc]
  rfl

/-! ### The backward lines -/

include hp

theorem arrive_real (n : ℕ) (i : Fin 128) (k : Fin 2048) : val_main_v48 (F := Ideal) x0 x4 (ix2 (rowOf n i) k)
    = ((dMixed (act Z n) (chunk P n) i k : ℝ) : EReal) := by
  rw [val_main_v48_apply]
  refine (congrArg₂ (· * ·) (lo_real x0 Z hz n i k) (hp (rowOf n i) k)).trans ?_
  rw [mul_real, mul_comm]
  rfl

theorem arrive4_real (n : Fin 32) (i : Fin 128) (g : Fin 8) (e : Fin 256) : val_main_v50 (F := Ideal) x0 x4 (ix4 n i g e)
    = ((dMixed (act Z n.val) (chunk P n.val) i (col g.val e) : ℝ) : EReal) := by
  rw [← arrive_real x0 x4 Z P hz hp, val_main_v50_apply]
  refine congrArg _ (funext fun a => Fin.ext ?_)
  match a with
  | ⟨0, _⟩ =>
    show ((((n.val * 128 + i.val) * 8 + g.val) * 256 + e.val) / 2048) = (128 * n.val + i.val) % 4096
    omega
  | ⟨1, _⟩ =>
    show ((((n.val * 128 + i.val) * 8 + g.val) * 256 + e.val) % 2048) = 256 * (g.val % 8) + e.val
    omega

theorem moved_real (g : Fin 8) (n : Fin 32) (e : Fin 256) (i : Fin 128) : val_main_v55 (F := Ideal) x0 x4 (ix4 g n e i)
    = ((dMixed (act Z n.val) (chunk P n.val) i (col g.val e) : ℝ) : EReal) := by
  rw [val_main_v55_apply, eq_ix4 (idx_main_v55 _)]
  exact arrive4_real x0 x4 Z P hz hp n i g e

include hw in
theorem back4_real (g : Fin 8) (n : Fin 32) (e : Fin 256) (j : Fin 128) : val_main_v57 (F := Ideal) x0 x2 x4 (ix4 g n e j)
    = ((∑ i, kept (W g) i j * dMixed (act Z n.val) (chunk P n.val) i (col g.val e) : ℝ) : EReal) := by
  rw [val_main_v57_apply, ← sum_real]
  refine Finset.sum_congr rfl fun i _ => ?_
  rw [eq_ix4 (lidx_main_v57 _ _), eq_ix3 (ridx_main_v57 _ _)]
  refine (congrArg₂ (· * ·) (moved_real x0 x4 Z P hz hp g n e i) (kept_real x2 W hw g i j)).trans ?_
  rw [mul_real, mul_comm]

include hw in
theorem weightedBack_real (n : ℕ) (hn : n < 32) (i : Fin 128) (k : Fin 2048) : val_main_v61 (F := Ideal) x0 x2 x4 (ix2 (rowOf n i) k)
    = ((dWeighted (act Z n) (chunk P n) (W (grp k)) i k : ℝ) : EReal) := by
  rw [val_main_v61_apply, flat61, flat46 _ n hn i (row_val n hn i) k, val_main_v58_apply, eq_ix4 (idx_main_v58 _)]
  refine (back4_real x0 x2 x4 Z W P hz hw hp (grp k) ⟨n, hn⟩ ⟨k.val % 256, by omega⟩ i).trans ?_
  have hc : col (grp k).val ⟨k.val % 256, by omega⟩ = k := Fin.ext (by show 256 * (k.val / 256 % 8) + k.val % 256 = k.val; omega)
  rw [hc]
  rfl

include hw hg hb in
theorem dlo_real (n : ℕ) (hn : n < 32) (i : Fin 128) (k : Fin 2048) : val_main_v49 (F := Ideal) x0 x1 x2 x3 x4 (ix2 (rowOf n i) k)
    = ((chunk P n i k * mixed (act Z n) G (W (grp k)) (B (grp k)) i k : ℝ) : EReal) := by
  rw [val_main_v49_apply]
  refine (congrArg₂ (· * ·) (hp (rowOf n i) k) (mixed_real x0 x1 x2 x3 Z G W B hz hg hw hb n hn i k)).trans ?_
  rw [mul_real]
  rfl

include hw hg in
theorem dhi_real (n : ℕ) (hn : n < 32) (i : Fin 128) (k : Fin 2048) : val_main_v81 (F := Ideal) x0 x1 x2 x4 (ix2 (rowOf n i) k)
    = ((back 2048 (gate (act Z n) i) (fun j => dWeighted (act Z n) (chunk P n) (W (grp j)) i j * G j) k : ℝ) : EReal) := by
  pointwise [val_main_v81, val_main_v80, val_main_v79, val_main_v78, val_main_v77, val_main_v76, val_main_v75, val_main_v74, val_main_v73, val_main_v72,
    val_main_v71, val_main_v70, val_main_v69, val_main_v68, val_main_v66, val_main_v65, val_main_v25, val_main_cst_9, val_main_cst_10, val_main_cst_11]
  simp only [weightedBack_real x0 x2 x4 Z W P hz hw hp n hn, gate_real x0 Z hz, scale_real x0 Z hz, slope_real x0 Z hz, hg, mul_real, sum_real, word_2048,
    div_2048, add_real, Finset.univ_unique, Finset.sum_singleton, Fin.default_eq_zero]
  exact congrArg (fun a : ℝ => (a : EReal)) (back_eq (c := 2048) (by norm_num) (gate (act Z n) i) (fun j => dWeighted (act Z n) (chunk P n) (W (grp j)) i j * G j) k)

end Cert.SguReference

end
-- ==== Proof.SguResults.lean ====
/-
  The four gradients of the reference as the kernel's sums over the chunks.
-/
module

public import proofs.«01_k».proof.Proof.SguReference
public import proofs.«01_k».proof.Proof.NormBack

@[expose] public section

set_option maxRecDepth 65536

noncomputable section

namespace Cert.SguResults

open Idealize.ShloMosaic Cert.SguReferenceIdeal Cert.SguReferenceIdeal.Read Cert.Finite Cert.Norm Cert.SguReference
open Cert.SguChunk (keep lo hi col gate normed kept mixed dMixed dWeighted dW dLo dHi)
open Cert.SguReferenceIdeal.Facts₀ (h_S_ reducesTo_S32x128x8x256_S128x8_d0_3 reducesTo_S1x128x8x1_S128x8_d0_3)
open Cert.SguStores (dZ dGate)
open Cert.SguArray (rowOf chunk chunkZ shareW shareB shareG)
open Cert.SguHost (gelu geluSlope byNumber neg_real word_root word_bell tail_real exp_real)

variable (x0 : FVec Ideal S4096x4096 .f32) (x1 : FVec Ideal S2048 .f32) (x2 : FVec Ideal S8x128x128 .f32) (x3 : FVec Ideal S8x128 .f32)
  (x4 : FVec Ideal S4096x2048 .f32)
  (Z : Fin 4096 → Fin 4096 → ℝ) (G : Fin 2048 → ℝ) (W : Fin 8 → Fin 128 → Fin 128 → ℝ) (B : Fin 8 → Fin 128 → ℝ) (P : Fin 4096 → Fin 2048 → ℝ)
  (hz : ∀ r k, x0 (ix2 r k) = ((Z r k : ℝ) : EReal)) (hg : ∀ k, x1 (ix1 k) = ((G k : ℝ) : EReal))
  (hw : ∀ g r j, x2 (ix3 g r j) = ((W g r j : ℝ) : EReal)) (hb : ∀ g r, x3 (ix2 g r) = ((B g r : ℝ) : EReal))
  (hp : ∀ r k, x4 (ix2 r k) = ((P r k : ℝ) : EReal))

abbrev acts (r k : Fin 4096) : ℝ := gelu (Z r k)
abbrev slopes (r k : Fin 4096) : ℝ := geluSlope (Z r k)

theorem number_grp {α : Type} (w : Fin 8 → α) (k : Fin 2048) : byNumber w (k.val / 256) = w (grp k) :=
  congrArg w (Fin.ext (Nat.mod_eq_of_lt (show k.val / 256 < 8 by omega)))

theorem number_self {α : Type} (w : Fin 8 → α) (g : Fin 8) : byNumber w g.val = w g := congrArg w (Fin.ext (Nat.mod_eq_of_lt g.isLt))

/-! ### The activations' gradient -/

include hz in
/-- What arrives at an activation, times the activation's slope. -/
theorem through_real (r k : Fin 4096) (a : ℝ) (ha : val_main_v82 (F := Ideal) x0 x1 x2 x3 x4 (ix2 r k) = ((a : ℝ) : EReal)) :
    val_main_v94 (F := Ideal) x0 x1 x2 x3 x4 (ix2 r k) = ((a * geluSlope (Z r k) : ℝ) : EReal) := by
  pointwise [val_main_v94, val_main_v93, val_main_v92, val_main_v91, val_main_v90, val_main_v89, val_main_v88, val_main_v87, val_main_v86, val_main_v85,
    val_main_v84, val_main_v83, val_main_v8, val_main_v7, val_main_v6, val_main_v5, val_main_v4, val_main_v3, val_main_v2, val_main_v1, val_main_v0,
    val_main_cst, val_main_cst_0, val_main_cst_12, val_main_cst_13, val_main_cst_14]
  simp only [ha, hz, neg_real, word_root, word_half, word_bell, mul_real, tail_real, exp_real, add_real]
  refine congrArg (fun a : ℝ => (a : EReal)) ?_
  unfold geluSlope
  ring

include hz hg hw hb hp in
theorem dz_real (n : ℕ) (hn : n < 32) (i : Fin 128) (k : Fin 4096) : val_main_v94 (F := Ideal) x0 x1 x2 x3 x4 (ix2 (rowOf n i) k)
    = ((chunkZ (acts Z) (slopes Z) P G (byNumber W) (byNumber B) n i k : ℝ) : EReal) := by
  unfold chunkZ dZ
  by_cases hk : k.val < 2048
  · rw [dif_pos hk]
    refine (through_real x0 x1 x2 x3 x4 Z hz (rowOf n i) k (chunk P n i ⟨k.val, hk⟩ * mixed (act Z n) G (W (grp ⟨k.val, hk⟩)) (B (grp ⟨k.val, hk⟩)) i ⟨k.val, hk⟩) ?_).trans ?_
    · rw [← dlo_real x0 x1 x2 x3 x4 Z G W B P hz hg hw hb hp n hn i ⟨k.val, hk⟩]
      pointwise [val_main_v82]
      rw [dif_pos hk]
    · unfold dLo
      rw [number_grp W ⟨k.val, hk⟩, number_grp B ⟨k.val, hk⟩]
      rfl
  · rw [dif_neg hk]
    refine (through_real x0 x1 x2 x3 x4 Z hz (rowOf n i) k (back 2048 (gate (act Z n) i) (fun j => dWeighted (act Z n) (chunk P n) (W (grp j)) i j * G j) ⟨k.val - 2048, by omega⟩) ?_).trans ?_
    · rw [← dhi_real x0 x1 x2 x4 Z G W P hz hg hw hp n hn i ⟨k.val - 2048, by omega⟩]
      pointwise [val_main_v82]
      rw [dif_neg hk]
    · unfold dHi dGate
      refine congrArg (fun a : ℝ => (a : EReal)) (congrArg₂ (· * ·)
        (congrArg (fun f => back 2048 (gate (act Z n) i) f ⟨k.val - 2048, by omega⟩) (funext fun j => ?_))
        (congrArg (fun a : Fin 4096 => geluSlope (Z (rowOf n i) a)) (Fin.ext ?_)))
      · exact congrArg (fun w => dWeighted (act Z n) (chunk P n) w i j * G j) (number_grp W j).symm
      · show k.val = 2048 + (k.val - 2048)
        omega

/-! ### The weights' gradient -/

include hz hg hp in
theorem dw_real (g : Fin 8) (i j : Fin 128) : val_main_v60 (F := Ideal) x0 x1 x4 (ix3 g i j)
    = ((∑ q ∈ Finset.range 32, shareW (acts Z) P G g.val i j q : ℝ) : EReal) := by
  have h56 : val_main_v56 (F := Ideal) x0 x1 x4 (ix3 g i j)
      = ((∑ n : Fin 32, ∑ e : Fin 256, dMixed (act Z n.val) (chunk P n.val) i (col g.val e)
          * (normed (act Z n.val) j (col g.val e) * G (col g.val e)) : ℝ) : EReal) := by
    unfold val_main_v56
    simp only [Host.dotGeneral]
    rw [Ideal.dotGeneral_apply, ValueIdx.sum_contr2 _ 32 256 rfl rfl rfl, ← sum_real]
    refine Finset.sum_congr rfl fun n _ => ?_
    rw [← sum_real]
    refine Finset.sum_congr rfl fun e _ => ?_
    rw [← mul_real]
    refine congrArg₂ (· * ·) ?_ ?_
    · rw [← moved_real x0 x4 Z P hz hp g n e i]
      refine congrArg _ (funext fun a => Fin.ext ?_)
      match a with
      | ⟨0, _⟩ => rfl
      | ⟨1, _⟩ => rfl
      | ⟨2, _⟩ => rfl
      | ⟨3, _⟩ => rfl
    · rw [← weighted4_real x0 x1 Z G hz hg n j g e]
      refine congrArg _ (funext fun a => Fin.ext ?_)
      match a with
      | ⟨0, _⟩ => rfl
      | ⟨1, _⟩ => rfl
      | ⟨2, _⟩ => rfl
      | ⟨3, _⟩ => rfl
  pointwise [val_main_v60, val_main_v59, val_main_v37]
  rw [h56, mask_real, mul_real, ← Fin.sum_univ_eq_sum_range (fun q => shareW (acts Z) P G g.val i j q)]
  refine congrArg (fun a : ℝ => (a : EReal)) ?_
  unfold shareW dW
  by_cases h : keep i j
  · simp only [if_pos h, mul_one]
  · simp only [if_neg h, mul_zero, Finset.sum_const_zero]

/-! ### The biases' and the norm weights' gradients -/

include hz hp in
theorem db_real (g : Fin 8) (i : Fin 128) : val_main_v54 (F := Ideal) x0 x4 (ix2 g i)
    = ((∑ e : Fin 256, ∑ q ∈ Finset.range 32, shareB (acts Z) P i (col g.val e) q : ℝ) : EReal) := by
  have h51 : val_main_v51 (F := Ideal) x0 x4 (ix2 i g)
      = ((∑ n : Fin 32, ∑ e : Fin 256, dMixed (act Z n.val) (chunk P n.val) i (col g.val e) : ℝ) : EReal) := by
    have hi : val_main_cst_5 (F := Ideal) (Shape.Idx.first h_S_) = 0 := by pointwise [val_main_cst_5]
    refine (sum_outer reducesTo_S32x128x8x256_S128x8_d0_3 (val_main_v50 (F := Ideal) x0 x4) _ i g).trans ?_
    rw [hi, zero_add, ← sum_real]
    refine Finset.sum_congr rfl fun n _ => ?_
    rw [← sum_real]
    exact Finset.sum_congr rfl fun e _ => arrive4_real x0 x4 Z P hz hp n i g e
  have h53 : val_main_v53 (F := Ideal) x0 x4 (ix2 i g) = val_main_v51 (F := Ideal) x0 x4 (ix2 i g) := by
    have hi : val_main_cst_6 (F := Ideal) (Shape.Idx.first h_S_) = 0 := by pointwise [val_main_cst_6]
    refine (sum_outer reducesTo_S1x128x8x1_S128x8_d0_3 (val_main_v52 (F := Ideal) x0 x4) _ i g).trans ?_
    rw [hi, zero_add, Fin.sum_univ_one, Fin.sum_univ_one, val_main_v52_apply]
    refine congrArg _ (funext fun a => Fin.ext ?_)
    match a with
    | ⟨0, _⟩ => show (((0 * 128 + i.val) * 8 + g.val) * 1 + 0) / 8 = i.val; omega
    | ⟨1, _⟩ => show (((0 * 128 + i.val) * 8 + g.val) * 1 + 0) % 8 = g.val; omega
  pointwise [val_main_v54]
  rw [h53, h51, Finset.sum_comm]
  refine congrArg (fun a : ℝ => (a : EReal)) (Finset.sum_congr rfl fun e _ => ?_)
  exact Fin.sum_univ_eq_sum_range (fun q => shareB (acts Z) P i (col g.val e) q) 32

include hz hw hp in
theorem dg_real (k : Fin 2048) : val_main_v67 (F := Ideal) x0 x2 x4 (ix1 k)
    = ((∑ q ∈ Finset.range 32, shareG (acts Z) P (byNumber W) k q : ℝ) : EReal) := by
  have hrow : ∀ r : Fin 4096, ∃ n : ℕ, n < 32 ∧ ∃ i : Fin 128, r = rowOf n i ∧ r.val = 128 * n + i.val := fun r =>
    ⟨r.val / 128, by omega, ⟨r.val % 128, by omega⟩, Fin.ext (by show r.val = (128 * (r.val / 128) + r.val % 128) % 4096; omega),
      by show r.val = 128 * (r.val / 128) + r.val % 128; omega⟩
  let f : Fin 4096 → ℝ := fun r => dWeighted (act Z (r.val / 128)) (chunk P (r.val / 128)) (W (grp k)) ⟨r.val % 128, by omega⟩ k
    * normed (act Z (r.val / 128)) ⟨r.val % 128, by omega⟩ k
  have hf : ∀ r, val_main_v62 (F := Ideal) x0 x2 x4 (ix2 r k) = ((f r : ℝ) : EReal) := fun r => by
    obtain ⟨n, hn, i, he, hv⟩ := hrow r
    have e1 : r.val / 128 = n := by omega
    have e2 : (⟨r.val % 128, by omega⟩ : Fin 128) = i := Fin.ext (by show r.val % 128 = i.val; omega)
    show _ = ((dWeighted (act Z (r.val / 128)) (chunk P (r.val / 128)) (W (grp k)) ⟨r.val % 128, _⟩ k
      * normed (act Z (r.val / 128)) ⟨r.val % 128, _⟩ k : ℝ) : EReal)
    rw [e2, e1, he, val_main_v62_apply]
    refine (congrArg₂ (· * ·) (normed_real x0 Z hz n i k) (weightedBack_real x0 x2 x4 Z W P hz hw hp n hn i k)).trans ?_
    rw [mul_real, mul_comm]
  pointwise [val_main_v67, val_main_v64, val_main_v63, val_main_cst_7, val_main_cst_8]
  simp only [hf, sum_real, Finset.univ_unique, Finset.sum_singleton]
  refine congrArg (fun a : ℝ => (a : EReal)) ?_
  rw [← Cert.NormBack.sum_all 128 32 rfl f]
  refine Finset.sum_congr rfl fun q hq => ?_
  have hq' := Finset.mem_range.mp hq
  unfold shareG
  refine Finset.sum_congr rfl fun i _ => ?_
  have hv : 128 * q + i.val < 4096 := by omega
  rw [show Cert.NormBack.onRows f (128 * q + i.val) = f ⟨128 * q + i.val, hv⟩ from Cert.NormBack.onRows_eq f ⟨128 * q + i.val, hv⟩, number_grp]
  have e1 : (128 * q + i.val) / 128 = q := by omega
  have e2 : (⟨(128 * q + i.val) % 128, by omega⟩ : Fin 128) = i := Fin.ext (by show (128 * q + i.val) % 128 = i.val; omega)
  show dWeighted (act Z ((128 * q + i.val) / 128)) (chunk P ((128 * q + i.val) / 128)) (W (grp k)) ⟨(128 * q + i.val) % 128, _⟩ k
      * normed (act Z ((128 * q + i.val) / 128)) ⟨(128 * q + i.val) % 128, _⟩ k = _
  rw [e2, e1]

end Cert.SguResults

end
-- ==== Proof.SguClaim.lean ====
/-
  The spatial gate's value claim: from finite arguments both programs end with the same four gradients.
-/
module

public import proofs.«01_k».proof.Proof.SguResults
public import proofs.«01_k».proof.Proof.Gen.Pre_finite_sgu
public import proofs.«01_k».proof.Defs

@[expose] public section

set_option maxRecDepth 65536

noncomputable section

namespace Cert.SguClaim

open Idealize.ShloMosaic Idealize.ShloMosaic.TcCoe
open Cert.SguKernelIdeal Cert.SguKernelIdeal.Gen Cert.SguArray Cert.SguHost Cert.SguResults Cert.Finite
open Cert.SguChunk (col)

theorem flat_apply (y : FVec Ideal S1x2048 .f32) (k : Fin 2048) : shapeCast S2048 y shapeCasts_S1x2048_S2048 (ix1 k) = y (ix2 0 k) :=
  shapeCast_apply y shapeCasts_S1x2048_S2048 (ix1 k) (ix2 0 k)
    (by rewrite [Shape.rowMajor_val_two, Shape.rowMajor_val_one]; show 0 * 2048 + k.val = k.val; omega)

section Kernel

variable (m : (ℓ : Loc nD τ sig) → Buf (Elt Ideal) ℓ) (c : Dev nD)

/-- What the program leaves in a buffer the host code after the launch writes. -/
abbrev left (b : Ref sig .tc) := Pipeline.afterTail₀ cfgs (dats m) 0 (V0 m) [hostOps1] c b

theorem left_b : left m c main_v32
    = (shapeCast S8x128 ((dats m 0 c).arrAt 9 cfg0.N : FVec Ideal S8x128x1 .f32) shapeCasts_S8x128x1_S8x128 : FVec Ideal S8x128 .f32) := by
  show StableHlo.after hostOps1 _ _ = _
  after_results_simp
  exact congrArg (fun a : FVec Ideal S8x128x1 .f32 => (shapeCast S8x128 a shapeCasts_S8x128x1_S8x128 : FVec Ideal S8x128 .f32))
    (Pipeline.withArrays_arr spec0 (by decide) c (V0 m c) (fun w => (dats m 0 c).arrAt w cfg0.N) 9)

theorem left_g : left m c main_v33
    = (shapeCast S2048 ((dats m 0 c).arrAt 10 cfg0.N : FVec Ideal S1x2048 .f32) shapeCasts_S1x2048_S2048 : FVec Ideal S2048 .f32) := by
  show StableHlo.after hostOps1 _ _ = _
  after_results_simp
  exact congrArg (fun a : FVec Ideal S1x2048 .f32 => (shapeCast S2048 a shapeCasts_S1x2048_S2048 : FVec Ideal S2048 .f32))
    (Pipeline.withArrays_arr spec0 (by decide) c (V0 m c) (fun w => (dats m 0 c).arrAt w cfg0.N) 10)

variable (X Y : Fin 4096 → Fin 4096 → ℝ) (P : Fin 4096 → Fin 2048 → ℝ) (G : Fin 2048 → ℝ)
  (W : ℕ → Fin 128 → Fin 128 → ℝ) (B : ℕ → Fin 128 → ℝ) (hA : Args m c X Y P G W B)

include hA

theorem kernel_z (n : ℕ) (hn : n < 32) (i : Fin 128) (k : Fin 4096) :
    (dats m 0 c).arrAt 7 cfg0.N (ix2 (rowOf n i) k) = ((chunkZ X Y P G W B n i k : ℝ) : EReal) := by
  have h := rows_array m c X Y P G W B hA ⟨n / 4, by rw [points]; omega⟩ (n % 4) (Nat.mod_lt _ (by decide)) i k
  have e1 : 4 * (n / 4) + n % 4 % 4 = n := by omega
  have e2 : 4 * (n / 4) + n % 4 = n := by omega
  simp only [e1, e2] at h
  exact h

theorem kernel_b (g : Fin 8) (i : Fin 128) :
    left m c main_v32 (ix2 g i) = ((∑ e : Fin 256, ∑ q ∈ Finset.range 32, shareB X P i (col g.val e) q : ℝ) : EReal) := by
  rw [left_b, ← db_array m c X Y P G W B hA g i]
  generalize ((dats m 0 c).arrAt 9 cfg0.N : FVec Ideal S8x128x1 .f32) = y
  pointwise

theorem kernel_g (k : Fin 2048) : left m c main_v33 (ix1 k) = ((∑ q ∈ Finset.range 32, shareG X P W k q : ℝ) : EReal) := by
  rw [left_g, ← dg_array m c X Y P G W B hA k]
  exact flat_apply _ k

end Kernel

theorem row_onto (r : Fin 4096) : ∃ n : ℕ, n < 32 ∧ ∃ i : Fin 128, r = rowOf n i :=
  ⟨r.val / 128, by omega, ⟨r.val % 128, by omega⟩, Fin.ext (by show r.val = (128 * (r.val / 128) + r.val % 128) % 4096; omega)⟩

theorem claim : Cert.algebraic_SguKernelIdeal_SguReferenceIdeal_pre_finite_sgu := by
  intro m ρ m' ρ' hpre hag
  refine ⟨_, _, _, _, (θ_run defs _ _).mono (fun r h c => ⟨(h.2 c).1 7, (h.2 c).1 8,
      (h.2 c).2 main_v32 (Pipeline.mem_restRefs_of main_v32 (by decide) (by decide)),
      (h.2 c).2 main_v33 (Pipeline.mem_restRefs_of main_v33 (by decide) (by decide)), h.1.1 c⟩) (θ_run_and (frame m ρ) (run_main m ρ)),
    (θ_run Cert.SguReferenceIdeal.defs _ _).mono (fun r h c => ?_) (Cert.SguReferenceIdeal.Value.run m' ρ')⟩
  obtain ⟨e0, e1, e2, e3, k0⟩ := h c
  obtain ⟨p0, p1, p2, p3, p4⟩ := hpre c
  obtain ⟨b0, b1, b2, b3, b4⟩ := hag c
  obtain ⟨Z, hZ⟩ := array_of_test _ _ _ p0
  obtain ⟨G, hG⟩ := array_of_test _ _ _ p1
  obtain ⟨W, hW⟩ := array_of_test _ _ _ p2
  obtain ⟨B, hB⟩ := array_of_test _ _ _ p3
  obtain ⟨P, hP⟩ := array_of_test _ _ _ p4
  have hz := fun r k => hZ (ix2 r k)
  have hg := fun k => hG (ix1 k)
  have hw := fun g r j => hW (ix3 g r j)
  have hb := fun g r => hB (ix2 g r)
  have hp := fun r k => hP (ix2 r k)
  have hz' := fun r k => (congrFun b0 (ix2 r k)).trans (hz r k)
  have hg' := fun k => (congrFun b1 (ix1 k)).trans (hg k)
  have hw' := fun g r j => (congrFun b2 (ix3 g r j)).trans (hw g r j)
  have hb' := fun g r => (congrFun b3 (ix2 g r)).trans (hb g r)
  have hp' := fun r k => (congrFun b4 (ix2 r k)).trans (hp r k)
  have hA := args m c _ _ _ _ _ hz hg hw hb hp
  refine ⟨e0.trans ?_, e1.trans ?_, e2.trans ?_, e3.trans ?_, k0⟩
  · rw [Cert.SguReferenceIdeal.Read.val_main_v94_eq]
    funext i
    rw [eq_ix2 i]
    obtain ⟨n, hn, p, hr⟩ := row_onto (i 0)
    rw [hr]
    exact (dz_real _ _ _ _ _ _ _ _ _ _ hz' hg' hw' hb' hp' n hn p (i 1)).trans (kernel_z m c _ _ _ _ _ _ hA n hn p (i 1)).symm
  · rw [Cert.SguReferenceIdeal.Read.val_main_v60_eq]
    funext i
    rw [eq_ix3 i]
    exact (dw_real _ _ _ _ _ _ hz' hg' hp' _ _ _).trans (dw_array m c _ _ _ _ _ _ hA _ _ _).symm
  · rw [Cert.SguReferenceIdeal.Read.val_main_v54_eq]
    funext i
    rw [eq_ix2 i]
    exact (db_real _ _ _ _ hz' hp' _ _).trans (kernel_b m c _ _ _ _ _ _ hA _ _).symm
  · rw [Cert.SguReferenceIdeal.Read.val_main_v67_eq]
    funext i
    rw [eq_ix1 i]
    exact (dg_real _ _ _ _ _ _ hz' hw' hp' _).trans (kernel_g m c _ _ _ _ _ _ hA _).symm

end Cert.SguClaim

end
-- ==== Proof.RmsClaim.lean ====
/-
  The forward norm's value claim: for every input, finite or not, both programs end with the same normed rows.
-/
module

public import proofs.«01_k».proof.Defs
public import proofs.«01_k».proof.Proof.Finite
public import proofs.«01_k».proof.Proof.Gen.RmsKernelIdeal.Value
public import proofs.«01_k».proof.Proof.Gen.RmsReferenceIdeal.Read
public import Idealize.ShloMosaic.Lib.Pointwise
public import Idealize.ShloMosaic.Lib.StableHlo.RunRead
public import Idealize.ShloMosaic.Lib.Tactic

@[expose] public section

set_option maxRecDepth 16384

noncomputable section

namespace Cert.RmsClaim

open Idealize.ShloMosaic Idealize.ShloMosaic.TcCoe
open Cert.RmsKernelIdeal Cert.RmsKernelIdeal.Gen Cert.Finite

/-- An entry of a normed row, from the row and the entry of the weight. -/
def normed (x : Fin 1024 → EReal) (g : EReal) (k : Fin 1024) : EReal :=
  x k * Ideal.rsqrt (Ideal.div (∑ j, x j * x j) (Ideal.ofBits .f32 0x44800000#32) + Ideal.ofBits .f32 0x358637BD#32) * g

theorem body_apply (x : Vec Ideal S512x1024 .f32) (g : Vec Ideal S1x1024 .f32) (r : Fin 512) (k : Fin 1024) :
    k0_pay1 (F := Ideal) x g (ix2 r k) = normed (fun j => x (ix2 r j)) (g (ix2 0 k)) k := by
  pointwise [k0_pay1]
  rfl

theorem reference_apply (x : (⟨S4096x1024, .f32⟩ : BufTy).Contents (Elt Ideal)) (g : (⟨S1024, .f32⟩ : BufTy).Contents (Elt Ideal))
    (i : Fin 4096) (k : Fin 1024) :
    Cert.RmsReferenceIdeal.Read.val_main_v13 (F := Ideal) x g (ix2 i k) = normed (fun j => x (ix2 i j)) (g (ix1 k)) k := by
  open Cert.RmsReferenceIdeal.Read in
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-! ### The kernel's array -/

section Kernel

variable (m : (ℓ : Loc nD τ sig) → Buf (Elt Ideal) ℓ) (c : Dev nD)

abbrev x : (⟨S4096x1024, .f32⟩ : BufTy).Contents (Elt Ideal) := m ((c : Thread nD τ).loc main_arg0)

abbrev g : (⟨S1024, .f32⟩ : BufTy).Contents (Elt Ideal) := m ((c : Thread nD τ).loc main_arg1)

theorem zeros2 : (![0, 0] : Fin 2 → Nat) = fun _ => 0 := funext fun a => by fin_cases a <;> rfl

theorem places : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0))

/-- A row of a block, in the whole array. -/
def row (t : Fin cfg0.N) (r : Fin 512) : Fin 4096 := ⟨512 * t.val + r.val, by have := t.isLt; have h : cfg0.N = 8 := N_0; omega⟩

theorem rows_apply (t : Fin cfg0.N) (r : Fin 512) (k : Fin 1024) : iblk m c 0 t (ix2 r k) = x m c (ix2 (row t r) k) := by
  show V m c main_arg0 (((cfg0.win 0).blk t).view.emb (ix2 r k)) = _
  rw [V_main_arg0]
  exact congrArg (x m c) (funext fun a => Fin.ext (by
    match a with
    | ⟨0, _⟩ => show win0_0.index t 0 * 512 + 1 * r.val = 512 * t.val + r.val; rw [(places t).1.1]; omega
    | ⟨1, _⟩ => show win0_0.index t 1 * 1024 + 1 * k.val = k.val; rw [(places t).1.2]; omega))

theorem weight_apply (t : Fin cfg0.N) (k : Fin 1024) : iblk m c 1 t (ix2 0 k) = g m c (ix1 k) := by
  show V m c main_v0 (((cfg0.win 1).blk t).view.emb (ix2 0 k)) = _
  rw [show ((cfg0.win 1).blk t).view.emb (ix2 0 k) = ix2 (0 : Fin 1) k from funext fun a => Fin.ext (by
    match a with
    | ⟨0, _⟩ => show win0_1.index t 0 * 1 + 1 * 0 = 0; rw [(places t).2.1.1]
    | ⟨1, _⟩ => show win0_1.index t 1 * 1024 + 1 * k.val = k.val; rw [(places t).2.1.2]; omega)]
  rw [show V m c main_v0 = shapeCast S1x1024 (g m c) shapeCasts_S1024_S1x1024 from by unfold V; after_reads_simp; rfl]
  generalize g m c = y
  pointwise

theorem array_apply (t : Fin cfg0.N) (r : Fin 512) (k : Fin 1024) :
    (dats m 0 c).arrAt 2 cfg0.N (ix2 (row t r) k) = normed (fun j => x m c (ix2 (row t r) j)) (g m c (ix1 k)) k := by
  have hb := congrFun ((Value.blocks2 m c t (flush0_2 t)).trans (Value.flushed2 m c t)) (ix2 r k)
  rw [View.read_apply] at hb
  rw [show ((cfg0.win 2).blk t).view.emb (ix2 r k) = ix2 (row t r) k from funext fun a => Fin.ext (by
    match a with
    | ⟨0, _⟩ => show win0_2.index t 0 * 512 + 1 * r.val = 512 * t.val + r.val; rw [(places t).2.2.1]; omega
    | ⟨1, _⟩ => show win0_2.index t 1 * 1024 + 1 * k.val = k.val; rw [(places t).2.2.2]; omega)] at hb
  refine hb.trans ?_
  show out0_2 (iblk m c 0 t) (iblk m c 1 t) (ix2 r k) = _
  unfold out0_2
  rw [View.canon_unit_zero zeros2, View.ld_unit_zero zeros2, View.ld_unit_zero zeros2, body_apply, weight_apply]
  exact congrArg (fun u => normed u (g m c (ix1 k)) k) (funext fun j => rows_apply m c t r j)

end Kernel

theorem claim : Cert.algebraic_RmsKernelIdeal_RmsReferenceIdeal := by
  intro m ρ m' ρ' _ hag
  refine ⟨_, Value.run_blocks m ρ,
    (θ_run Cert.RmsReferenceIdeal.defs _ _).mono (fun r h c => ?_) (Cert.RmsReferenceIdeal.Value.run m' ρ')⟩
  obtain ⟨h0, rest⟩ := h c
  obtain ⟨a0, a1⟩ := hag c
  refine ⟨h0.trans ?_, rest⟩
  rw [Cert.RmsReferenceIdeal.Read.val_main_v13_eq, a0, a1]
  funext i
  rw [eq_ix2 i]
  have hN : cfg0.N = 8 := N_0
  have hi : (i 0).val < 4096 := (i 0).isLt
  have e : (i 0 : Fin 4096) = row ⟨(i 0).val / 512, by omega⟩ ⟨(i 0).val % 512, Nat.mod_lt _ (by omega)⟩ :=
    Fin.ext (show (i 0).val = 512 * ((i 0).val / 512) + (i 0).val % 512 by omega)
  refine (reference_apply _ _ (i 0) (i 1)).trans ?_
  rw [e]
  exact (array_apply m c _ _ (i 1)).symm

end Cert.RmsClaim

end
-- ==== Proof.BuildBlock.lean ====
/-
  The body of the call that builds a bias tile: the table's columns are spread over the diagonals by a product with zeros
  and ones, and row by row the spread is turned to its place and masked.
-/
module

public import proofs.«01_k».proof.Proof.Gen.BuildKernelIdeal.Frame
public import proofs.«01_k».proof.Proof.BiasBlock
public import Idealize.ShloMosaic.Lib.Pointwise

@[expose] public section

set_option maxRecDepth 65536

noncomputable section

namespace Cert.BuildBlock

open Idealize.ShloMosaic Cert.BuildKernelIdeal Cert.BuildKernelIdeal.Gen Cert.Finite Cert.AttnSpec

section Any

variable {F : FTy → Type} [FloatOps F]

/-- The signs of the columns. -/
def signs : IVec S16x640 32 :=
  subi (extui 32 (cmpi .sgt (iota .tc S16x640 32 [1] iota_S16x640_d1_w32) (broadcast S16x640 0#32)) natLt_1_32)
    (extui 32 (cmpi .slt (iota .tc S16x640 32 [1] iota_S16x640_d1_w32) (broadcast S16x640 0#32)) natLt_1_32)

/-- The columns divided by 64, towards zero. -/
def towards : IVec S16x640 32 := divsi (iota .tc S16x640 32 [1] iota_S16x640_d1_w32) (broadcast S16x640 64#32)

/-- The chunk of each column. -/
def chunk : IVec S16x640 32 :=
  select (andi (cmpi .ne signs (broadcast S16x640 (Scalar.subi (Scalar.extui (Scalar.cmpi .sgt 64#32 0#32)) (Scalar.extui (Scalar.cmpi .slt 64#32 0#32)))))
      (cmpi .ne (remsi (iota .tc S16x640 32 [1] iota_S16x640_d1_w32) (broadcast S16x640 64#32)) (broadcast S16x640 0#32)))
    (subi towards (broadcast S16x640 1#32)) towards

/-- The columns a row of a chunk attends to. -/
def valid (a : ℕ) : IVec S16x640 1 :=
  andi (cmpi .sge chunk (broadcast S16x640 (BitVec.ofNat 32 a))) (cmpi .sle chunk (broadcast S16x640 (BitVec.ofNat 32 (a + 8))))

/-- The row of the tile of every head, from the spread diagonals. -/
def row (v : FVec F S16x768 .f32) (n : ℕ) : FVec F S1x16x640 .f32 :=
  shapeCast S1x16x640 (select (valid (n / 64))
    (extractStridedSlice S16x640 ![0, 0] (dynamicRotate 1 (BitVec.ofNat 32 ((n + 641) % 768)) none v rotates_S16x768_d1) slices_S16x768_o0_0_S16x640)
    (broadcast S16x640 (Scalar.ofBits .f32 0xF149F2CA#32))) shapeCasts_S16x640_S1x16x640

/-- The place of a row. -/
abbrev place (n : ℕ) : Rect S128x16x640 := Rect.unit (s := S128x16x640) ![n % 128, 0, 0] S1x16x640.size
  (fun a => match a with
    | ⟨0, _⟩ => by show n % 128 + 1 ≤ 128; omega
    | ⟨1, _⟩ => by show 0 + 16 ≤ 16; omega
    | ⟨2, _⟩ => by show 0 + 640 ≤ 640; omega)

/-- The first rows, last first. -/
def rows (v : FVec F S16x768 .f32) (n : ℕ) : List (View.Piece (Elt F) S128x16x640 .f32) :=
  Nat.rec (motive := fun _ => List (View.Piece (Elt F) S128x16x640 .f32)) [] (fun i acc => ⟨place i, row v i⟩ :: acc) n

theorem out_rows (x : Vec F S16x640 .f32) : out0_1 x = View.canon (rows (k0_pay2 (View.ld x r0_0)) 128) := by sl_kernel_rfl

end Any

/-! ### Over the extended reals -/

theorem chunk_apply (h : Fin 16) (c : Fin 640) : chunk (ix2 h c) = BitVec.ofNat 32 (c.val / 64) := by
  pointwise [chunk, towards, signs]
  revert c
  decide +kernel

theorem chunk_word (a b : ℕ) (ha : a < 64) (hb : b < 64) :
    IntOp.andi (IntOp.cmpi .sge (BitVec.ofNat 32 b) (BitVec.ofNat 32 a)) (IntOp.cmpi .sle (BitVec.ofNat 32 b) (BitVec.ofNat 32 (a + 8)))
      = if a ≤ b ∧ b ≤ a + 8 then 1#1 else 0#1 := by
  have e1 : IntOp.cmpi .sge (BitVec.ofNat 32 b) (BitVec.ofNat 32 a) = if a ≤ b then 1#1 else 0#1 := by
    split_ifs <;> word_omega
  have e2 : IntOp.cmpi .sle (BitVec.ofNat 32 b) (BitVec.ofNat 32 (a + 8)) = if b ≤ a + 8 then 1#1 else 0#1 := by
    split_ifs <;> word_omega
  rw [e1, e2]
  by_cases h1 : a ≤ b <;> by_cases h2 : b ≤ a + 8 <;> simp [h1, h2, IntOp.andi]

theorem valid_apply (a : ℕ) (ha : a < 64) (h : Fin 16) (c : Fin 640) :
    valid a (ix2 h c) = if a ≤ c.val / 64 ∧ c.val / 64 ≤ a + 8 then 1#1 else 0#1 := by
  pointwise [valid]
  rw [chunk_apply]
  exact chunk_word a _ ha (by omega)

/-- What stands at a masked place. -/
abbrev masked : EReal := Ideal.ofBits .f32 0xF149F2CA#32

theorem row_apply (v : Vec Ideal S16x768 .f32) (n : ℕ) (hn : n < 128) (h : Fin 16) (c : Fin 640) :
    row (F := Ideal) v n (ix3 0 h c)
      = if n / 64 ≤ c.val / 64 ∧ c.val / 64 ≤ n / 64 + 8 then v (ix2 h ⟨c.val + 127 - n, by omega⟩) else masked := by
  have hv := valid_apply (n / 64) (by omega) h c
  unfold row
  generalize valid (n / 64) = y at *
  pointwise
  rw [hv]
  by_cases hc : n / 64 ≤ c.val / 64 ∧ c.val / 64 ≤ n / 64 + 8
  · rw [if_pos hc, if_pos hc]
    refine (if_pos rfl).trans (congrArg v ?_)
    congr 1
    apply Fin.ext
    have hw : (BitVec.ofNat 32 ((n + 641) % 768)).toNat = (n + 641) % 768 := by
      rw [BitVec.toNat_ofNat]
      exact Nat.mod_eq_of_lt (by omega)
    simp [hw]
    omega
  · rw [if_neg hc, if_neg hc]
    exact if_neg (by decide)

/-- The spread diagonals: each takes the table's column of its distance. -/
theorem spread_apply (x : Vec Ideal S16x640 .f32) (w : Fin 16 → Fin 640 → ℝ) (hx : ∀ h z, x (ix2 h z) = ((w h z : ℝ) : EReal))
    (h : Fin 16) (e : Fin 768) : k0_pay2 (F := Ideal) x (ix2 h e) = ((w h ⟨(col (639 - (e.val : ℤ))).val, by omega⟩ : ℝ) : EReal) := by
  pointwise [k0_pay2]
  simp only [Scalar.select, hx, sub_real, sub_self, EReal.coe_zero, zero_mul, Finset.sum_const_zero, add_zero, mul_ite, mul_one, mul_zero, ite_self, zero_add, sub_zero]
  rw [Finset.sum_eq_single (⟨(col (639 - (e.val : ℤ))).val, by omega⟩ : Fin 640)]
  · exact if_pos ((Cert.BiasBlock.column_eq _ e).mpr rfl)
  · intro z _ hz
    exact if_neg fun hc => hz (Fin.ext ((Cert.BiasBlock.column_eq z e).mp hc).symm)
  · intro hz
    exact absurd (Finset.mem_univ _) hz

theorem mem_rows (v : Vec Ideal S16x768 .f32) (n : ℕ) (p : View.Piece (Elt Ideal) S128x16x640 .f32) :
    p ∈ rows (F := Ideal) v n ↔ ∃ i < n, p = ⟨place i, row (F := Ideal) v i⟩ := by
  induction n with
  | zero => exact ⟨fun hp => absurd hp List.not_mem_nil, fun ⟨_, hi, _⟩ => absurd hi (Nat.not_lt_zero _)⟩
  | succ n ih =>
    refine List.mem_cons.trans ⟨?_, ?_⟩
    · rintro (rfl | hp)
      · exact ⟨n, Nat.lt_succ_self n, rfl⟩
      · obtain ⟨i, hi, e⟩ := ih.mp hp
        exact ⟨i, Nat.lt_succ_of_lt hi, e⟩
    · rintro ⟨i, hi, e⟩
      rcases Nat.lt_succ_iff_lt_or_eq.mp hi with hi | rfl
      · exact Or.inr (ih.mpr ⟨i, hi, e⟩)
      · exact Or.inl e

theorem place_emb (n : Fin 128) (h : Fin 16) (c : Fin 640) : (place n.val).emb (ix3 0 h c) = ix3 n h c := funext fun a => Fin.ext (by
  match a with
  | ⟨0, _⟩ => show n.val % 128 + 1 * 0 = n.val; omega
  | ⟨1, _⟩ => show 0 + 1 * h.val = h.val; omega
  | ⟨2, _⟩ => show 0 + 1 * c.val = c.val; omega)

/-- An entry of the tile the call leaves. -/
def entry (w : Fin 640 → ℝ) (i : Fin 128) (c : Fin 640) : EReal :=
  if i.val / 64 ≤ c.val / 64 ∧ c.val / 64 ≤ i.val / 64 + 8 then ((w ⟨(col ((i.val : ℤ) + 512 - c.val)).val, by omega⟩ : ℝ) : EReal) else masked

theorem row_at (x : Vec Ideal S16x640 .f32) (w : Fin 16 → Fin 640 → ℝ) (hx : ∀ h z, x (ix2 h z) = ((w h z : ℝ) : EReal))
    (n : Fin 128) (h : Fin 16) (c : Fin 640) : row (F := Ideal) (k0_pay2 x) n.val (ix3 0 h c) = entry (w h) n c := by
  rw [row_apply _ n.val n.isLt]
  unfold entry
  refine if_congr Iff.rfl ?_ rfl
  rw [spread_apply x w hx]
  congr 3
  have hc := c.isLt
  have hn := n.isLt
  refine congrArg (fun u => (col u).val) ?_
  show (639 : ℤ) - ((c.val + 127 - n.val : ℕ) : ℤ) = (n.val : ℤ) + 512 - c.val
  omega

/-- The tile the call leaves. -/
def tile (w : Fin 16 → Fin 640 → ℝ) (y : S128x16x640.Idx) : EReal := entry (w (y 1)) (y 0) (y 2)

theorem piece_at (x : Vec Ideal S16x640 .f32) (w : Fin 16 → Fin 640 → ℝ) (hx : ∀ h z, x (ix2 h z) = ((w h z : ℝ) : EReal))
    (n : Fin 128) (y : S1x16x640.Idx) : row (F := Ideal) (k0_pay2 x) n.val y = tile w ((place n.val).emb y) := by
  have e : y = ix3 (0 : Fin 1) (y 1 : Fin 16) (y 2 : Fin 640) := by
    funext a
    match a with
    | ⟨0, _⟩ => exact Subsingleton.elim (α := Fin 1) _ _
    | ⟨1, _⟩ => rfl
    | ⟨2, _⟩ => rfl
  rw [e]
  exact (row_at x w hx n (y 1) (y 2)).trans (congrArg (tile w) (place_emb n (y 1) (y 2))).symm

theorem out_apply (x : Vec Ideal S16x640 .f32) (w : Fin 16 → Fin 640 → ℝ) (hx : ∀ h z, x (ix2 h z) = ((w h z : ℝ) : EReal))
    (i : Fin 128) (h : Fin 16) (c : Fin 640) : out0_1 (F := Ideal) x (ix3 i h c) = entry (w h) i c := by
  rw [out_rows, View.ld_unit_zero Cert.BiasBlock.zeros2]
  refine View.canon_apply_of_pieces (Val := Elt Ideal) (e := .f32) (tile w) _ ?_ (ix3 i h c) ?_
  · intro p hp y
    obtain ⟨n, hn, rfl⟩ := (mem_rows _ _ _).mp hp
    exact piece_at x w hx ⟨n, hn⟩ y
  · exact ⟨_, (mem_rows _ _ _).mpr ⟨i.val, i.isLt, rfl⟩, by
      show ix3 i h c ∈ (place i.val).set
      rw [← place_emb i h c]
      rw [← Rect.map_emb_univ]
      exact Finset.mem_map_of_mem _ (Finset.mem_univ (ix3 0 h c : S1x16x640.Idx))⟩

end Cert.BuildBlock

end
-- ==== Proof.BuildClaim.lean ====
/-
  The bias tile's value claim: from a finite table both programs end with the same tile.
-/
module

public import proofs.«01_k».proof.Proof.BuildBlock
public import proofs.«01_k».proof.Proof.TableRead
public import proofs.«01_k».proof.Proof.Gen.BuildReferenceIdeal.Read
public import proofs.«01_k».proof.Proof.Gen.Pre_finite_build
public import proofs.«01_k».proof.Defs
public import Idealize.ShloMosaic.Lib.StableHlo.RunRead
public import Idealize.ShloMosaic.Lib.Tactic
public import Idealize.ShloMosaic.Lib.Tactic.WordOmega

@[expose] public section

set_option maxRecDepth 65536

noncomputable section

namespace Cert.BuildClaim

open Idealize.ShloMosaic Idealize.ShloMosaic.TcCoe
open Cert.BuildKernelIdeal Cert.BuildKernelIdeal.Gen Cert.BuildBlock Cert.Finite Cert.AttnSpec

/-! ### The kernel's program -/

section Kernel

variable (m : (ℓ : Loc nD τ sig) → Buf (Elt Ideal) ℓ) (c : Dev nD)

abbrev table : (⟨S16x513, .f32⟩ : BufTy).Contents (Elt Ideal) := m ((c : Thread nD τ).loc main_arg0)

theorem padded : V m c main_v0 = (pad S16x640 ![0, 0] ![0, 127] ![0, 0] (table m c) (sitofp (F := Ideal) .f32 (constantI S_ 32 0#32))
    pads_S16x513_S16x640_000_01270 h_S_ : (⟨S16x640, .f32⟩ : BufTy).Contents (Elt Ideal)) := by
  unfold V
  after_reads_simp
  rfl

/-- A row of the table, followed by zeros. -/
def wide (w : Fin 16 → Fin 513 → ℝ) (h : Fin 16) (z : Fin 640) : ℝ := if hz : z.val < 513 then w h ⟨z.val, hz⟩ else 0

theorem padded_apply (w : Fin 16 → Fin 513 → ℝ) (hw : ∀ h z, table m c (ix2 h z) = ((w h z : ℝ) : EReal)) (h : Fin 16) (z : Fin 640) :
    V m c main_v0 (ix2 h z) = ((wide w h z : ℝ) : EReal) := by
  rw [padded]
  generalize table m c = x at *
  unfold wide
  pointwise
  split
  · exact hw _ _
  · show ((((0#32).toInt : ℤ) : ℝ) : EReal) = ((0 : ℝ) : EReal)
    simp

theorem grid_one : cfg0.N = 1 := N_0

theorem emb_out (t : Fin cfg0.N) (i : Fin 128) (h : Fin 16) (e : Fin 640) : ((cfg0.win 1).blk t).view.emb (ix3 i h e) = ix3 i h e :=
  funext fun a => Fin.ext (by
    match a with
    | ⟨0, _⟩ => show 0 * 128 + 1 * i.val = i.val; omega
    | ⟨1, _⟩ => show 0 * 16 + 1 * h.val = h.val; omega
    | ⟨2, _⟩ => show 0 * 640 + 1 * e.val = e.val; omega)

theorem emb_in (t : Fin cfg0.N) (h : Fin 16) (z : Fin 640) : ((cfg0.win 0).blk t).view.emb (ix2 h z) = ix2 h z := funext fun a => Fin.ext (by
  match a with
  | ⟨0, _⟩ => show 0 * 16 + 1 * h.val = h.val; omega
  | ⟨1, _⟩ => show 0 * 640 + 1 * z.val = z.val; omega)

theorem out_array (i : Fin 128) (h : Fin 16) (e : Fin 640) :
    (dats m 0 c).arrAt 1 cfg0.N (ix3 i h e) = out0_1 (iblk m c 0 ⟨0, by rw [grid_one]; omega⟩) (ix3 i h e) := by
  have hb := congrFun ((dats m 0 c).read_blk_arrAt_eq_flushed 1
    (fun t t' _ _ hne => absurd (Fin.ext (by have := t.isLt; have := t'.isLt; have := grid_one; omega)) hne) cfg0.N ⟨0, by rw [grid_one]; omega⟩
    (show 0 < cfg0.N by rw [grid_one]; omega) (flush0_1 _)) (ix3 i h e)
  rw [View.read_apply, emb_out] at hb
  refine hb.trans ?_
  show (cfg0.win 1).cut (grid0.coords _) ((dats m 0 c).after 1 _) (ix3 i h e) = _
  rw [after0_1]
  rfl

theorem result (h : Fin 16) (i : Fin 128) (e : Fin 640) : Pipeline.afterTail₀ cfgs (dats m) 0 (V0 m) [hostOps1] c main_v2 (ix3 h i e)
    = (dats m 0 c).arrAt 1 cfg0.N (ix3 i h e) := by
  have hr : Pipeline.afterTail₀ cfgs (dats m) 0 (V0 m) [hostOps1] c main_v2
      = (transpose S16x128x640 [1, 0, 2] ((dats m 0 c).arrAt 1 cfg0.N : (⟨S128x16x640, .f32⟩ : BufTy).Contents (Elt Ideal))
        transposes_S128x16x640_S16x128x640_1_0_2 : (⟨S16x128x640, .f32⟩ : BufTy).Contents (Elt Ideal)) := by
    show StableHlo.after hostOps1 _ _ = _
    after_results_simp
    exact congrArg (fun a : (⟨S128x16x640, .f32⟩ : BufTy).Contents (Elt Ideal) => transpose S16x128x640 [1, 0, 2] a transposes_S128x16x640_S16x128x640_1_0_2)
      (Pipeline.withArrays_arr spec0 (by decide) c (V0 m c) (fun w => (dats m 0 c).arrAt w cfg0.N) 1)
  rw [hr]
  generalize ((dats m 0 c).arrAt 1 cfg0.N : (⟨S128x16x640, .f32⟩ : BufTy).Contents (Elt Ideal)) = y
  pointwise

theorem kernel_tile (w : Fin 16 → Fin 513 → ℝ) (hw : ∀ h z, table m c (ix2 h z) = ((w h z : ℝ) : EReal)) (h : Fin 16) (i : Fin 128) (e : Fin 640) :
    Pipeline.afterTail₀ cfgs (dats m) 0 (V0 m) [hostOps1] c main_v2 (ix3 h i e) = entry (wide w h) i e := by
  rw [result, out_array]
  refine out_apply _ (wide w) (fun h z => ?_) i h e
  unfold iblk
  rw [View.read_apply, emb_in]
  exact padded_apply m c w hw h z

end Kernel

/-! ### The reference's program -/

open Cert.BuildReferenceIdeal.Read in
theorem chunk_row (i : Fin 128) : val_main_v2 (F := Ideal) (ix2 i 0) = BitVec.ofNat 32 (i.val / 64) := by
  pointwise [val_main_v2, val_main_call0_v13, val_main_call0_v12, val_main_call0_c_0, val_main_call0_v11, val_main_call0_v10,
    val_main_call0_v9, val_main_call0_c, val_main_call0_v8, val_main_call0_v7, val_main_call0_v6, val_main_call0_v5, val_main_call0_v4,
    val_main_call0_v3, val_main_call0_v2, val_main_call0_v1, val_main_call0_v0, val_main_c, val_main_v1, val_main_v0]
  revert i
  decide +kernel

open Cert.BuildReferenceIdeal.Read in
theorem chunk_column (e : Fin 640) : val_main_v5 (F := Ideal) (ix2 0 e) = BitVec.ofNat 32 (e.val / 64) := by
  pointwise [val_main_v5, val_main_call1_v13, val_main_call1_v12, val_main_call1_c_0, val_main_call1_v11, val_main_call1_v10,
    val_main_call1_v9, val_main_call1_c, val_main_call1_v8, val_main_call1_v7, val_main_call1_v6, val_main_call1_v5, val_main_call1_v4,
    val_main_call1_v3, val_main_call1_v2, val_main_call1_v1, val_main_call1_v0, val_main_c_0, val_main_v4, val_main_v3]
  revert e
  decide +kernel

open Cert.BuildReferenceIdeal.Read in
theorem mask_apply (i : Fin 128) (e : Fin 640) :
    val_main_v14 (F := Ideal) (ix2 i e) = if i.val / 64 ≤ e.val / 64 ∧ e.val / 64 ≤ i.val / 64 + 8 then 1#1 else 0#1 := by
  pointwise [val_main_v14, val_main_v13, val_main_v12, val_main_v11, val_main_v10, val_main_v9, val_main_c_1, val_main_v8, val_main_v7, val_main_v6]
  rw [chunk_row, chunk_column, show IntOp.addi (BitVec.ofNat 32 (i.val / 64)) 8#32 = BitVec.ofNat 32 (i.val / 64 + 8) from by word_omega]
  exact chunk_word _ _ (by omega) (by omega)

open Cert.BuildReferenceIdeal.Read in
theorem column_at (r : Fin 128) (j : Fin 640) :
    (val_main_v32 (F := Ideal) (ix3 r j 0)).toInt = ((col ((r.val : ℤ) + 512 - j.val)).val : ℤ) := by
  have hr := r.isLt
  have hj := j.isLt
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_c_2, val_main_c_3,
    val_main_c_4, val_main_c_5, val_main_c_6, val_main_c_7, val_main_call2_v0, val_main_call2_v1, val_main_call2_v2, val_main_call2_v3,
    val_main_call2_v4]
  have hz : (IntOp.subi (IntOp.addi (BitVec.ofNat 32 r.val) 512#32) (BitVec.ofNat 32 j.val)).toInt = (r.val : ℤ) + 512 - j.val := by
    unfold IntOp.subi
    word_omega
  rw [← hz]
  exact column_int _ (by rw [hz]; omega) (by rw [hz]; omega)

open Cert.BuildReferenceIdeal.Read in
theorem reference_tile (x : (⟨S16x513, .f32⟩ : BufTy).Contents (Elt Ideal)) (w : Fin 16 → Fin 513 → ℝ)
    (hw : ∀ h z, x (ix2 h z) = ((w h z : ℝ) : EReal)) (h : Fin 16) (i : Fin 128) (e : Fin 640) :
    val_main_v34 (F := Ideal) x (ix3 h i e) = entry (wide w h) i e := by
  have hg : val_main_v33 (F := Ideal) x (ix3 h i e) = ((w h (col ((i.val : ℤ) + 512 - e.val)) : ℝ) : EReal) := by
    refine (Cert.TableRead.gather_cols (N := 16) (M := 513) (R := 128) (C := 640) (by decide) _ x _ h i e).trans ?_
    rw [← hw]
    refine congrArg x (congrArg (ix2 h) (Fin.ext ?_))
    have hc := (col ((i.val : ℤ) + 512 - e.val)).isLt
    have ht : (val_main_v32 (F := Ideal) (ix3 i e 0)).toInt.toNat = (col ((i.val : ℤ) + 512 - e.val)).val := by
      rw [column_at, Int.toNat_natCast]
    show min (val_main_v32 (F := Ideal) (ix3 i e 0)).toInt.toNat (513 - 1) = _
    rw [ht]
    omega
  have hm := mask_apply i e
  unfold val_main_v34 val_main_call3_v1
  generalize val_main_v33 (F := Ideal) x = y at *
  generalize val_main_v14 (F := Ideal) = k at *
  pointwise [val_main_call3_v2, val_main_call3_v0, val_main_cst]
  rw [hm, hg]
  unfold entry
  have hv : wide w h ⟨(col ((i.val : ℤ) + 512 - e.val)).val, by omega⟩ = w h (col ((i.val : ℤ) + 512 - e.val)) := dif_pos (col _).isLt
  rw [hv]
  by_cases hc : i.val / 64 ≤ e.val / 64 ∧ e.val / 64 ≤ i.val / 64 + 8
  · rw [if_pos hc, if_pos hc]
    exact if_pos rfl
  · rw [if_neg hc, if_neg hc]
    exact if_neg (by decide)

theorem claim : Cert.algebraic_BuildKernelIdeal_BuildReferenceIdeal_pre_finite_build := by
  intro m ρ m' ρ' hpre hag
  refine ⟨_, (θ_run defs _ _).mono (fun r h c => ⟨(h c).2 main_v2 (Pipeline.mem_restRefs_of main_v2 (by decide) (by decide)),
      ((h c).2 main_arg0 (Pipeline.mem_restRefs_of main_arg0 (by decide) (by decide))).trans (W_main_arg0 m (dats m) c)⟩) (run_main m ρ),
    (θ_run Cert.BuildReferenceIdeal.defs _ _).mono (fun r h c => ?_) (Cert.BuildReferenceIdeal.Value.run m' ρ')⟩
  obtain ⟨h0, k0⟩ := h c
  obtain ⟨w, hw⟩ := array_of_test _ _ _ (hpre c)
  have ht : ∀ h z, table m c (ix2 h z) = _ := fun h z => hw (ix2 h z)
  have ht' := fun h z => (congrFun (hag c) (ix2 h z)).trans (ht h z)
  refine ⟨h0.trans ?_, k0⟩
  rw [Cert.BuildReferenceIdeal.Read.val_main_v34_eq]
  funext i
  rw [eq_ix3 i]
  exact (reference_tile _ (fun h z => w (ix2 h z)) ht' _ _ _).trans (kernel_tile m c (fun h z => w (ix2 h z)) ht _ _ _).symm

end Cert.BuildClaim

end
-- ==== Proof.OutClaim.lean ====
/-
  The output projection's claim: the product of 2048 columns with the weight, added to the residual rows, for every input.
-/
module

public import proofs.«01_k».proof.Defs
public import proofs.«01_k».proof.Proof.Finite
public import proofs.«01_k».proof.Proof.Gen.OutKernelIdeal.Value
public import proofs.«01_k».proof.Proof.Gen.OutReferenceIdeal.Read
public import Idealize.ShloMosaic.Lib.Pointwise
public import Idealize.ShloMosaic.Lib.StableHlo.RunRead
public import Idealize.ShloMosaic.Lib.Tactic

@[expose] public section

set_option maxRecDepth 16384

noncomputable section

namespace Cert.OutClaim

open Idealize.ShloMosaic Idealize.ShloMosaic.TcCoe
open Cert.OutKernelIdeal Cert.OutKernelIdeal.Gen Cert.Finite

theorem body_apply (p : Vec Ideal S1024x2048 .bf16) (w : Vec Ideal S1x2048x512 .bf16) (x : Vec Ideal S1024x512 .f32) (r : Fin 1024) (k : Fin 512) :
    k0_pay1 (F := Ideal) p w x (ix2 r k) = (∑ j, p (ix2 r j) * w (ix3 0 j k)) + x (ix2 r k) := by
  pointwise [k0_pay1]

theorem reference_apply (p : (⟨S4096x2048, .f32⟩ : BufTy).Contents (Elt Ideal)) (w : (⟨S2048x1024, .f32⟩ : BufTy).Contents (Elt Ideal))
    (x : (⟨S4096x1024, .f32⟩ : BufTy).Contents (Elt Ideal)) (i : Fin 4096) (k : Fin 1024) :
    Cert.OutReferenceIdeal.Read.val_main_v1 (F := Ideal) p w x (ix2 i k) = x (ix2 i k) + ∑ j, p (ix2 i j) * w (ix2 j k) := by
  open Cert.OutReferenceIdeal.Read in
  pointwise [val_main_v1, val_main_v0]

section Kernel

variable (m : (ℓ : Loc nD τ sig) → Buf (Elt Ideal) ℓ) (c : Dev nD)

abbrev p : (⟨S4096x2048, .f32⟩ : BufTy).Contents (Elt Ideal) := m ((c : Thread nD τ).loc main_arg0)

abbrev w : (⟨S2048x1024, .f32⟩ : BufTy).Contents (Elt Ideal) := m ((c : Thread nD τ).loc main_arg1)

abbrev x : (⟨S4096x1024, .f32⟩ : BufTy).Contents (Elt Ideal) := m ((c : Thread nD τ).loc main_arg2)

theorem zeros2 : (![0, 0] : Fin 2 → Nat) = fun _ => 0 := funext fun a => by fin_cases a <;> rfl

theorem zeros3 : (![0, 0, 0] : Fin 3 → Nat) = fun _ => 0 := funext fun a => by fin_cases a <;> rfl

/-- At point `t` the call works on the rows `t / 2` and the columns `t % 2`. -/
theorem places : ∀ t : Fin cfg0.N, (win0_0.index t 0 = t.val / 2 ∧ win0_0.index t 1 = 0)
    ∧ (win0_1.index t 0 = 0 ∧ win0_1.index t 1 = 0 ∧ win0_1.index t 2 = t.val % 2)
    ∧ (win0_2.index t 0 = t.val / 2 ∧ win0_2.index t 1 = t.val % 2) ∧ (win0_3.index t 0 = t.val / 2 ∧ win0_3.index t 1 = t.val % 2) :=
  (by decide +kernel : ∀ t : Fin grid0.N, (win0_0.index t 0 = t.val / 2 ∧ win0_0.index t 1 = 0)
    ∧ (win0_1.index t 0 = 0 ∧ win0_1.index t 1 = 0 ∧ win0_1.index t 2 = t.val % 2)
    ∧ (win0_2.index t 0 = t.val / 2 ∧ win0_2.index t 1 = t.val % 2) ∧ (win0_3.index t 0 = t.val / 2 ∧ win0_3.index t 1 = t.val % 2))

def row (t : Fin cfg0.N) (r : Fin 1024) : Fin 4096 := ⟨1024 * (t.val / 2) + r.val, by have := t.isLt; have h : cfg0.N = 8 := N_0; omega⟩

def col (t : Fin cfg0.N) (k : Fin 512) : Fin 1024 := ⟨512 * (t.val % 2) + k.val, by omega⟩

theorem rows_apply (t : Fin cfg0.N) (r : Fin 1024) (j : Fin 2048) : iblk m c 0 t (ix2 r j) = p m c (ix2 (row t r) j) := by
  show V m c main_v0 (((cfg0.win 0).blk t).view.emb (ix2 r j)) = _
  rw [show ((cfg0.win 0).blk t).view.emb (ix2 r j) = ix2 (row t r) j from funext fun a => Fin.ext (by
    match a with
    | ⟨0, _⟩ => show win0_0.index t 0 * 1024 + 1 * r.val = 1024 * (t.val / 2) + r.val; rw [(places t).1.1]; omega
    | ⟨1, _⟩ => show win0_0.index t 1 * 2048 + 1 * j.val = j.val; rw [(places t).1.2]; omega)]
  unfold V
  after_reads_simp
  rfl

theorem weight_apply (t : Fin cfg0.N) (j : Fin 2048) (k : Fin 512) : iblk m c 1 t (ix3 0 j k) = w m c (ix2 j (col t k)) := by
  show V m c main_v2 (((cfg0.win 1).blk t).view.emb (ix3 0 j k)) = _
  rw [show ((cfg0.win 1).blk t).view.emb (ix3 0 j k) = ix3 (0 : Fin 1) j (col t k) from funext fun a => Fin.ext (by
    match a with
    | ⟨0, _⟩ => show win0_1.index t 0 * 1 + 1 * 0 = 0; rw [(places t).2.1.1]
    | ⟨1, _⟩ => show win0_1.index t 1 * 2048 + 1 * j.val = j.val; rw [(places t).2.1.2.1]; omega
    | ⟨2, _⟩ => show win0_1.index t 2 * 512 + 1 * k.val = 512 * (t.val % 2) + k.val; rw [(places t).2.1.2.2]; omega)]
  unfold V
  after_reads_simp
  pointwise

theorem residual_apply (t : Fin cfg0.N) (r : Fin 1024) (k : Fin 512) : iblk m c 2 t (ix2 r k) = x m c (ix2 (row t r) (col t k)) := by
  show V m c main_arg2 (((cfg0.win 2).blk t).view.emb (ix2 r k)) = _
  rw [V_main_arg2]
  exact congrArg (x m c) (funext fun a => Fin.ext (by
    match a with
    | ⟨0, _⟩ => show win0_2.index t 0 * 1024 + 1 * r.val = 1024 * (t.val / 2) + r.val; rw [(places t).2.2.1.1]; omega
    | ⟨1, _⟩ => show win0_2.index t 1 * 512 + 1 * k.val = 512 * (t.val % 2) + k.val; rw [(places t).2.2.1.2]; omega))

theorem array_apply (t : Fin cfg0.N) (r : Fin 1024) (k : Fin 512) : (dats m 0 c).arrAt 3 cfg0.N (ix2 (row t r) (col t k))
    = x m c (ix2 (row t r) (col t k)) + ∑ j, p m c (ix2 (row t r) j) * w m c (ix2 j (col t k)) := by
  have hb := congrFun ((Value.blocks3 m c t (flush0_3 t)).trans (Value.flushed3 m c t)) (ix2 r k)
  rw [View.read_apply] at hb
  rw [show ((cfg0.win 3).blk t).view.emb (ix2 r k) = ix2 (row t r) (col t k) from funext fun a => Fin.ext (by
    match a with
    | ⟨0, _⟩ => show win0_3.index t 0 * 1024 + 1 * r.val = 1024 * (t.val / 2) + r.val; rw [(places t).2.2.2.1]; omega
    | ⟨1, _⟩ => show win0_3.index t 1 * 512 + 1 * k.val = 512 * (t.val % 2) + k.val; rw [(places t).2.2.2.2]; omega)] at hb
  refine hb.trans ?_
  show out0_3 (iblk m c 0 t) (iblk m c 1 t) (iblk m c 2 t) (ix2 r k) = _
  unfold out0_3
  rw [View.canon_unit_zero zeros2, View.ld_unit_zero zeros2, View.ld_unit_zero zeros3, View.ld_unit_zero zeros2, body_apply, residual_apply, add_comm]
  exact congrArg (_ + ·) (Finset.sum_congr rfl fun j _ => congrArg₂ (· * ·) (rows_apply m c t r j) (weight_apply m c t j k))

theorem exists_place (i : Fin 4096) (k : Fin 1024) : ∃ t r q, i = row t r ∧ k = col t q := by
  have hN : cfg0.N = 8 := N_0
  exact ⟨⟨2 * (i.val / 1024) + k.val / 512, by omega⟩, ⟨i.val % 1024, Nat.mod_lt _ (by decide)⟩, ⟨k.val % 512, Nat.mod_lt _ (by decide)⟩,
    Fin.ext (by show i.val = 1024 * ((2 * (i.val / 1024) + k.val / 512) / 2) + i.val % 1024; omega),
    Fin.ext (by show k.val = 512 * ((2 * (i.val / 1024) + k.val / 512) % 2) + k.val % 512; omega)⟩

end Kernel

theorem claim : Cert.algebraic_OutKernelIdeal_OutReferenceIdeal := by
  intro m ρ m' ρ' _ hag
  refine ⟨_, Value.run_blocks m ρ,
    (θ_run Cert.OutReferenceIdeal.defs _ _).mono (fun r h c => ?_) (Cert.OutReferenceIdeal.Value.run m' ρ')⟩
  obtain ⟨h0, rest⟩ := h c
  obtain ⟨a0, a1, a2⟩ := hag c
  refine ⟨h0.trans ?_, rest⟩
  rw [Cert.OutReferenceIdeal.Read.val_main_v1_eq, a0, a1, a2]
  funext i
  rw [eq_ix2 i]
  obtain ⟨t, r, q, hi, hk⟩ := exists_place (i 0) (i 1)
  refine (reference_apply _ _ _ (i 0) (i 1)).trans ?_
  rw [hi, hk]
  exact (array_apply m c t r q).symm

end Cert.OutClaim

end
-- ==== Proof.DownClaim.lean ====
/-
  The second feed-forward product: four blocks of 704 columns added to the residual rows one after the other, for every input.
-/
module

public import proofs.«01_k».proof.Defs
public import proofs.«01_k».proof.Proof.Finite
public import proofs.«01_k».proof.Proof.Gen.DownKernelIdeal.Value
public import proofs.«01_k».proof.Proof.Gen.DownReferenceIdeal.Read
public import Idealize.ShloMosaic.Lib.Pointwise
public import Idealize.ShloMosaic.Lib.StableHlo.RunRead
public import Idealize.ShloMosaic.Lib.Tactic

@[expose] public section

set_option maxRecDepth 16384

noncomputable section

namespace Cert.DownClaim

open Idealize.ShloMosaic Idealize.ShloMosaic.TcCoe
open Cert.DownKernelIdeal Cert.DownKernelIdeal.Gen Cert.Finite

/-- Rows and columns of one block, as a load gives them. -/
def left (a : Vec Ideal S4x1024x704 .bf16) (n : Fin 4) : Vec Ideal S1x1024x704 .bf16 := fun i => a (ix3 n (i 1) (i 2))

def right (w : Vec Ideal S1x4x704x1024 .bf16) (n : Fin 4) : Vec Ideal S1x1x704x1024 .bf16 := fun i => w (ix4 0 n (i 2) (i 3))

theorem load_left (y : Vec Ideal S4x1024x704 .bf16) (n : Fin 4) (h : ∀ a, (![n.val, 0, 0] : Fin 3 → Nat) a + S1x1024x704.size a ≤ S4x1024x704.size a) :
    View.ld y (Rect.unit (s := S4x1024x704) ![n.val, 0, 0] S1x1024x704.size h) = left y n := by
  funext i
  refine congrArg y (funext fun a => Fin.ext ?_)
  have h0 : (i 0).val = 0 := Nat.lt_one_iff.mp (i 0).isLt
  match a with
  | ⟨0, _⟩ => show n.val + 1 * (i 0).val = n.val; omega
  | ⟨1, _⟩ => show 0 + 1 * (i 1).val = (i 1).val; omega
  | ⟨2, _⟩ => show 0 + 1 * (i 2).val = (i 2).val; omega

theorem load_right (y : Vec Ideal S1x4x704x1024 .bf16) (n : Fin 4) (h : ∀ a, (![0, n.val, 0, 0] : Fin 4 → Nat) a + S1x1x704x1024.size a ≤ S1x4x704x1024.size a) :
    View.ld y (Rect.unit (s := S1x4x704x1024) ![0, n.val, 0, 0] S1x1x704x1024.size h) = right y n := by
  funext i
  refine congrArg y (funext fun a => Fin.ext ?_)
  have h0 : (i 0).val = 0 := Nat.lt_one_iff.mp (i 0).isLt
  have h1 : (i 1).val = 0 := Nat.lt_one_iff.mp (i 1).isLt
  match a with
  | ⟨0, _⟩ => show 0 + 1 * (i 0).val = 0; omega
  | ⟨1, _⟩ => show n.val + 1 * (i 1).val = n.val; omega
  | ⟨2, _⟩ => show 0 + 1 * (i 2).val = (i 2).val; omega
  | ⟨3, _⟩ => show 0 + 1 * (i 3).val = (i 3).val; omega

theorem body_apply (x : Vec Ideal S1024x1024 .f32) (a : Fin 4 → Vec Ideal S1x1024x704 .bf16) (w : Fin 4 → Vec Ideal S1x1x704x1024 .bf16)
    (r k : Fin 1024) : k0_pay1 (F := Ideal) x (a 0) (w 0) (a 1) (w 1) (a 2) (w 2) (a 3) (w 3) (ix2 r k)
    = x (ix2 r k) + ∑ n, ∑ j, a n (ix3 0 r j) * w n (ix4 0 0 j k) := by
  rw [Fin.sum_univ_four]
  generalize a 0 = a0, a 1 = a1, a 2 = a2, a 3 = a3, w 0 = w0, w 1 = w1, w 2 = w2, w 3 = w3
  pointwise [k0_pay1]
  simp only [add_assoc]

theorem zeros2 : (![0, 0] : Fin 2 → Nat) = fun _ => 0 := funext fun a => by fin_cases a <;> rfl

theorem out_apply (a : Vec Ideal S4x1024x704 .bf16) (w : Vec Ideal S1x4x704x1024 .bf16) (x : Vec Ideal S1024x1024 .f32) (r k : Fin 1024) :
    out0_3 (F := Ideal) a w x (ix2 r k) = x (ix2 r k) + ∑ n, ∑ j, a (ix3 n r j) * w (ix4 0 n j k) := by
  unfold out0_3
  rw [View.canon_unit_zero zeros2, View.ld_unit_zero zeros2, show View.ld a r0_1 = left a 0 from load_left a 0 _,
    show View.ld a r0_3 = left a 1 from load_left a 1 _, show View.ld a r0_5 = left a 2 from load_left a 2 _,
    show View.ld a r0_7 = left a 3 from load_left a 3 _, show View.ld w r0_2 = right w 0 from load_right w 0 _,
    show View.ld w r0_4 = right w 1 from load_right w 1 _, show View.ld w r0_6 = right w 2 from load_right w 2 _,
    show View.ld w r0_8 = right w 3 from load_right w 3 _]
  exact body_apply x (left a) (right w) r k

/-- Place `j` of block `n`, among all 2816. -/
def place (n : Fin 4) (j : Fin 704) : Fin 2816 := ⟨n.val * 704 + j.val, by omega⟩

theorem sum_blocks (f : Fin 2816 → EReal) : ∑ p, f p = ∑ n : Fin 4, ∑ j : Fin 704, f (place n j) := by
  rw [← Equiv.sum_comp (finProdFinEquiv (m := 4) (n := 704)) f, Fintype.sum_prod_type]
  exact Finset.sum_congr rfl fun n _ => Finset.sum_congr rfl fun j _ => congrArg f (Fin.ext (by show j.val + 704 * n.val = n.val * 704 + j.val; omega))

theorem reference_apply (a : (⟨S4096x2816, .f32⟩ : BufTy).Contents (Elt Ideal)) (w : (⟨S2816x1024, .f32⟩ : BufTy).Contents (Elt Ideal))
    (x : (⟨S4096x1024, .f32⟩ : BufTy).Contents (Elt Ideal)) (i : Fin 4096) (k : Fin 1024) :
    Cert.DownReferenceIdeal.Read.val_main_v1 (F := Ideal) a w x (ix2 i k)
    = x (ix2 i k) + ∑ n, ∑ j, a (ix2 i (place n j)) * w (ix2 (place n j) k) := by
  rw [← sum_blocks fun p => a (ix2 i p) * w (ix2 p k)]
  open Cert.DownReferenceIdeal.Read in
  pointwise [val_main_v1, val_main_v0]

variable (m : (ℓ : Loc nD τ sig) → Buf (Elt Ideal) ℓ) (c : Dev nD)

abbrev a : (⟨S4096x2816, .f32⟩ : BufTy).Contents (Elt Ideal) := m ((c : Thread nD τ).loc main_arg0)

abbrev w : (⟨S2816x1024, .f32⟩ : BufTy).Contents (Elt Ideal) := m ((c : Thread nD τ).loc main_arg1)

abbrev x : (⟨S4096x1024, .f32⟩ : BufTy).Contents (Elt Ideal) := m ((c : Thread nD τ).loc main_arg2)

theorem places : ∀ t : Fin cfg0.N, (win0_0.index t 0 = 0 ∧ win0_0.index t 1 = t.val ∧ win0_0.index t 2 = 0)
    ∧ (win0_1.index t 0 = 0 ∧ win0_1.index t 1 = 0 ∧ win0_1.index t 2 = 0 ∧ win0_1.index t 3 = 0)
    ∧ (win0_2.index t 0 = t.val ∧ win0_2.index t 1 = 0) ∧ (win0_3.index t 0 = t.val ∧ win0_3.index t 1 = 0) :=
  (by decide +kernel : ∀ t : Fin grid0.N, (win0_0.index t 0 = 0 ∧ win0_0.index t 1 = t.val ∧ win0_0.index t 2 = 0)
    ∧ (win0_1.index t 0 = 0 ∧ win0_1.index t 1 = 0 ∧ win0_1.index t 2 = 0 ∧ win0_1.index t 3 = 0)
    ∧ (win0_2.index t 0 = t.val ∧ win0_2.index t 1 = 0) ∧ (win0_3.index t 0 = t.val ∧ win0_3.index t 1 = 0))

def row (t : Fin cfg0.N) (r : Fin 1024) : Fin 4096 := ⟨1024 * t.val + r.val, by have := t.isLt; have h : cfg0.N = 4 := N_0; omega⟩

theorem left_apply (t : Fin cfg0.N) (n : Fin 4) (r : Fin 1024) (j : Fin 704) : iblk m c 0 t (ix3 n r j) = a m c (ix2 (row t r) (place n j)) := by
  show V m c main_v2 (((cfg0.win 0).blk t).view.emb (ix3 n r j)) = _
  rw [show ((cfg0.win 0).blk t).view.emb (ix3 n r j) = ix3 n (row t r) j from funext fun a => Fin.ext (by
    match a with
    | ⟨0, _⟩ => show win0_0.index t 0 * 4 + 1 * n.val = n.val; rw [(places t).1.1]; omega
    | ⟨1, _⟩ => show win0_0.index t 1 * 1024 + 1 * r.val = 1024 * t.val + r.val; rw [(places t).1.2.1]; omega
    | ⟨2, _⟩ => show win0_0.index t 2 * 704 + 1 * j.val = j.val; rw [(places t).1.2.2]; omega)]
  unfold V
  after_reads_simp
  pointwise
  rfl

theorem right_apply (t : Fin cfg0.N) (n : Fin 4) (j : Fin 704) (k : Fin 1024) : iblk m c 1 t (ix4 0 n j k) = w m c (ix2 (place n j) k) := by
  show V m c main_v4 (((cfg0.win 1).blk t).view.emb (ix4 0 n j k)) = _
  rw [show ((cfg0.win 1).blk t).view.emb (ix4 0 n j k) = ix4 (0 : Fin 1) n j k from funext fun a => Fin.ext (by
    match a with
    | ⟨0, _⟩ => show win0_1.index t 0 * 1 + 1 * 0 = 0; rw [(places t).2.1.1]
    | ⟨1, _⟩ => show win0_1.index t 1 * 4 + 1 * n.val = n.val; rw [(places t).2.1.2.1]; omega
    | ⟨2, _⟩ => show win0_1.index t 2 * 704 + 1 * j.val = j.val; rw [(places t).2.1.2.2.1]; omega
    | ⟨3, _⟩ => show win0_1.index t 3 * 1024 + 1 * k.val = k.val; rw [(places t).2.1.2.2.2]; omega)]
  unfold V
  after_reads_simp
  pointwise
  rfl

theorem residual_apply (t : Fin cfg0.N) (r k : Fin 1024) : iblk m c 2 t (ix2 r k) = x m c (ix2 (row t r) k) := by
  show V m c main_arg2 (((cfg0.win 2).blk t).view.emb (ix2 r k)) = _
  rw [V_main_arg2]
  exact congrArg (x m c) (funext fun a => Fin.ext (by
    match a with
    | ⟨0, _⟩ => show win0_2.index t 0 * 1024 + 1 * r.val = 1024 * t.val + r.val; rw [(places t).2.2.1.1]; omega
    | ⟨1, _⟩ => show win0_2.index t 1 * 1024 + 1 * k.val = k.val; rw [(places t).2.2.1.2]; omega))

theorem array_apply (t : Fin cfg0.N) (r k : Fin 1024) : (dats m 0 c).arrAt 3 cfg0.N (ix2 (row t r) k)
    = x m c (ix2 (row t r) k) + ∑ n, ∑ j, a m c (ix2 (row t r) (place n j)) * w m c (ix2 (place n j) k) := by
  have hb := congrFun ((Value.blocks3 m c t (flush0_3 t)).trans (Value.flushed3 m c t)) (ix2 r k)
  rw [View.read_apply] at hb
  rw [show ((cfg0.win 3).blk t).view.emb (ix2 r k) = ix2 (row t r) k from funext fun a => Fin.ext (by
    match a with
    | ⟨0, _⟩ => show win0_3.index t 0 * 1024 + 1 * r.val = 1024 * t.val + r.val; rw [(places t).2.2.2.1]; omega
    | ⟨1, _⟩ => show win0_3.index t 1 * 1024 + 1 * k.val = k.val; rw [(places t).2.2.2.2]; omega)] at hb
  refine hb.trans ((out_apply (iblk m c 0 t) (iblk m c 1 t) (iblk m c 2 t) r k).trans ?_)
  exact congrArg₂ (· + ·) (residual_apply m c t r k) (Finset.sum_congr rfl fun n _ => Finset.sum_congr rfl fun j _ =>
    congrArg₂ (· * ·) (left_apply m c t n r j) (right_apply m c t n j k))

theorem exists_row (i : Fin 4096) : ∃ t r, i = row t r := by
  have hN : cfg0.N = 4 := N_0
  exact ⟨⟨i.val / 1024, by omega⟩, ⟨i.val % 1024, Nat.mod_lt _ (by decide)⟩, Fin.ext (by show i.val = 1024 * (i.val / 1024) + i.val % 1024; omega)⟩

theorem claim : Cert.algebraic_DownKernelIdeal_DownReferenceIdeal := by
  intro m ρ m' ρ' _ hag
  refine ⟨_, Value.run_blocks m ρ,
    (θ_run Cert.DownReferenceIdeal.defs _ _).mono (fun r h c => ?_) (Cert.DownReferenceIdeal.Value.run m' ρ')⟩
  obtain ⟨h0, rest⟩ := h c
  obtain ⟨a0, a1, a2⟩ := hag c
  refine ⟨h0.trans ?_, rest⟩
  rw [Cert.DownReferenceIdeal.Read.val_main_v1_eq, a0, a1, a2]
  funext i
  rw [eq_ix2 i]
  obtain ⟨t, r, hi⟩ := exists_row (i 0)
  refine (reference_apply _ _ _ (i 0) (i 1)).trans ?_
  rw [hi]
  exact (array_apply m c t r (i 1)).symm

end Cert.DownClaim

end
-- ==== Proof.ColClaim.lean ====
/-
  The product with a weight that is stored in column blocks: equal to the product with the whole weight, for every input.
-/
module

public import proofs.«01_k».proof.Defs
public import proofs.«01_k».proof.Proof.Finite
public import proofs.«01_k».proof.Proof.Gen.ColKernelIdeal.Value
public import proofs.«01_k».proof.Proof.Gen.ColReferenceIdeal.Read
public import Idealize.ShloMosaic.Lib.Pointwise
public import Idealize.ShloMosaic.Lib.StableHlo.RunRead
public import Idealize.ShloMosaic.Lib.Tactic

@[expose] public section

set_option maxRecDepth 16384

noncomputable section

namespace Cert.ColClaim

open Idealize.ShloMosaic Idealize.ShloMosaic.TcCoe
open Cert.ColKernelIdeal Cert.ColKernelIdeal.Gen Cert.Finite

theorem body_apply (h : Vec Ideal S2048x1024 .bf16) (w : Vec Ideal S1x1x1024x512 .bf16) (r : Fin 2048) (k : Fin 512) :
    k0_pay1 (F := Ideal) h w (ix2 r k) = ∑ j, h (ix2 r j) * w (ix4 0 0 j k) := by
  pointwise [k0_pay1]

theorem reference_apply (h : (⟨S4096x1024, .f32⟩ : BufTy).Contents (Elt Ideal)) (w : (⟨S1024x4096, .f32⟩ : BufTy).Contents (Elt Ideal))
    (i k : Fin 4096) : Cert.ColReferenceIdeal.Read.val_main_v1 (F := Ideal) h w (ix2 i k) = ∑ j, h (ix2 i j) * w (ix2 j k) := by
  open Cert.ColReferenceIdeal.Read in
  pointwise [val_main_v1, val_main_v0]

variable (m : (ℓ : Loc nD τ sig) → Buf (Elt Ideal) ℓ) (c : Dev nD)

abbrev h : (⟨S4096x1024, .f32⟩ : BufTy).Contents (Elt Ideal) := m ((c : Thread nD τ).loc main_arg0)

abbrev w : (⟨S1024x4096, .f32⟩ : BufTy).Contents (Elt Ideal) := m ((c : Thread nD τ).loc main_arg1)

theorem zeros2 : (![0, 0] : Fin 2 → Nat) = fun _ => 0 := funext fun a => by fin_cases a <;> rfl

theorem zeros4 : (![0, 0, 0, 0] : Fin 4 → Nat) = fun _ => 0 := funext fun a => by fin_cases a <;> rfl

/-- Eight points share a block of rows; each of them has a column block of its own. -/
theorem places : ∀ t : Fin cfg0.N, (win0_0.index t 0 = t.val / 8 ∧ win0_0.index t 1 = 0)
    ∧ (win0_1.index t 0 = 0 ∧ win0_1.index t 1 = t.val % 8 ∧ win0_1.index t 2 = 0 ∧ win0_1.index t 3 = 0)
    ∧ (win0_2.index t 0 = t.val / 8 ∧ win0_2.index t 1 = t.val % 8) :=
  (by decide +kernel : ∀ t : Fin grid0.N, (win0_0.index t 0 = t.val / 8 ∧ win0_0.index t 1 = 0)
    ∧ (win0_1.index t 0 = 0 ∧ win0_1.index t 1 = t.val % 8 ∧ win0_1.index t 2 = 0 ∧ win0_1.index t 3 = 0)
    ∧ (win0_2.index t 0 = t.val / 8 ∧ win0_2.index t 1 = t.val % 8))

def row (t : Fin cfg0.N) (r : Fin 2048) : Fin 4096 := ⟨2048 * (t.val / 8) + r.val, by have := t.isLt; have h : cfg0.N = 16 := N_0; omega⟩

def col (t : Fin cfg0.N) (k : Fin 512) : Fin 4096 := ⟨512 * (t.val % 8) + k.val, by omega⟩

theorem rows_apply (t : Fin cfg0.N) (r : Fin 2048) (j : Fin 1024) : iblk m c 0 t (ix2 r j) = h m c (ix2 (row t r) j) := by
  show V m c main_v3 (((cfg0.win 0).blk t).view.emb (ix2 r j)) = _
  rw [show ((cfg0.win 0).blk t).view.emb (ix2 r j) = ix2 (row t r) j from funext fun a => Fin.ext (by
    match a with
    | ⟨0, _⟩ => show win0_0.index t 0 * 2048 + 1 * r.val = 2048 * (t.val / 8) + r.val; rw [(places t).1.1]; omega
    | ⟨1, _⟩ => show win0_0.index t 1 * 1024 + 1 * j.val = j.val; rw [(places t).1.2]; omega)]
  unfold V
  after_reads_simp
  rfl

theorem weight_apply (t : Fin cfg0.N) (j : Fin 1024) (k : Fin 512) : iblk m c 1 t (ix4 0 0 j k) = w m c (ix2 j (col t k)) := by
  show V m c main_v4 (((cfg0.win 1).blk t).view.emb (ix4 0 0 j k)) = _
  rw [show ((cfg0.win 1).blk t).view.emb (ix4 0 0 j k) = ix4 (0 : Fin 1) (⟨t.val % 8, by omega⟩ : Fin 8) j k from funext fun a => Fin.ext (by
    match a with
    | ⟨0, _⟩ => show win0_1.index t 0 * 1 + 1 * 0 = 0; rw [(places t).2.1.1]
    | ⟨1, _⟩ => show win0_1.index t 1 * 1 + 1 * 0 = t.val % 8; rw [(places t).2.1.2.1]; omega
    | ⟨2, _⟩ => show win0_1.index t 2 * 1024 + 1 * j.val = j.val; rw [(places t).2.1.2.2.1]; omega
    | ⟨3, _⟩ => show win0_1.index t 3 * 512 + 1 * k.val = k.val; rw [(places t).2.1.2.2.2]; omega)]
  unfold V
  after_reads_simp
  pointwise
  exact congrArg (w m c) (congrArg (ix2 j) (Fin.ext (by show t.val % 8 * 512 + k.val = 512 * (t.val % 8) + k.val; omega)))

theorem array_apply (t : Fin cfg0.N) (r : Fin 2048) (k : Fin 512) : (dats m 0 c).arrAt 2 cfg0.N (ix2 (row t r) (col t k))
    = ∑ j, h m c (ix2 (row t r) j) * w m c (ix2 j (col t k)) := by
  have hb := congrFun ((Value.blocks2 m c t (flush0_2 t)).trans (Value.flushed2 m c t)) (ix2 r k)
  rw [View.read_apply] at hb
  rw [show ((cfg0.win 2).blk t).view.emb (ix2 r k) = ix2 (row t r) (col t k) from funext fun a => Fin.ext (by
    match a with
    | ⟨0, _⟩ => show win0_2.index t 0 * 2048 + 1 * r.val = 2048 * (t.val / 8) + r.val; rw [(places t).2.2.1]; omega
    | ⟨1, _⟩ => show win0_2.index t 1 * 512 + 1 * k.val = 512 * (t.val % 8) + k.val; rw [(places t).2.2.2]; omega)] at hb
  refine hb.trans ?_
  show out0_2 (iblk m c 0 t) (iblk m c 1 t) (ix2 r k) = _
  unfold out0_2
  rw [View.canon_unit_zero zeros2, View.ld_unit_zero zeros2, View.ld_unit_zero zeros4, body_apply]
  exact Finset.sum_congr rfl fun j _ => congrArg₂ (· * ·) (rows_apply m c t r j) (weight_apply m c t j k)

theorem exists_place (i k : Fin 4096) : ∃ t r q, i = row t r ∧ k = col t q := by
  have hN : cfg0.N = 16 := N_0
  exact ⟨⟨8 * (i.val / 2048) + k.val / 512, by omega⟩, ⟨i.val % 2048, Nat.mod_lt _ (by decide)⟩, ⟨k.val % 512, Nat.mod_lt _ (by decide)⟩,
    Fin.ext (by show i.val = 2048 * ((8 * (i.val / 2048) + k.val / 512) / 8) + i.val % 2048; omega),
    Fin.ext (by show k.val = 512 * ((8 * (i.val / 2048) + k.val / 512) % 8) + k.val % 512; omega)⟩

theorem claim : Cert.algebraic_ColKernelIdeal_ColReferenceIdeal := by
  intro m ρ m' ρ' _ hag
  refine ⟨_, Value.run_blocks m ρ,
    (θ_run Cert.ColReferenceIdeal.defs _ _).mono (fun r h c => ?_) (Cert.ColReferenceIdeal.Value.run m' ρ')⟩
  obtain ⟨h0, rest⟩ := h c
  obtain ⟨a0, a1⟩ := hag c
  refine ⟨h0.trans ?_, rest⟩
  rw [Cert.ColReferenceIdeal.Read.val_main_v1_eq, a0, a1]
  funext i
  rw [eq_ix2 i]
  obtain ⟨t, r, q, hi, hk⟩ := exists_place (i 0) (i 1)
  refine (reference_apply _ _ (i 0) (i 1)).trans ?_
  rw [hi, hk]
  exact (array_apply m c t r q).symm

end Cert.ColClaim

end
-- ==== Proof.TnatClaim.lean ====
/-
  The product with a transposed weight, for every input.
-/
module

public import proofs.«01_k».proof.Defs
public import proofs.«01_k».proof.Proof.Finite
public import proofs.«01_k».proof.Proof.Gen.TnatKernelIdeal.Value
public import proofs.«01_k».proof.Proof.Gen.TnatReferenceIdeal.Read
public import Idealize.ShloMosaic.Lib.Pointwise
public import Idealize.ShloMosaic.Lib.StableHlo.RunRead
public import Idealize.ShloMosaic.Lib.Tactic

@[expose] public section

set_option maxRecDepth 16384

noncomputable section

namespace Cert.TnatClaim

open Idealize.ShloMosaic Idealize.ShloMosaic.TcCoe
open Cert.TnatKernelIdeal Cert.TnatKernelIdeal.Gen Cert.Finite

theorem body_apply (d : Vec Ideal S1024x1024 .f32) (w : Vec Ideal S1x1024x1024 .bf16) (r k : Fin 1024) :
    k0_pay1 (F := Ideal) d w (ix2 r k) = ∑ j, d (ix2 r j) * w (ix3 0 k j) := by
  pointwise [k0_pay1]

theorem reference_apply (d : (⟨S4096x1024, .f32⟩ : BufTy).Contents (Elt Ideal)) (w : (⟨S2048x1024, .f32⟩ : BufTy).Contents (Elt Ideal))
    (i : Fin 4096) (k : Fin 2048) : Cert.TnatReferenceIdeal.Read.val_main_v2 (F := Ideal) d w (ix2 i k) = ∑ j, d (ix2 i j) * w (ix2 k j) := by
  open Cert.TnatReferenceIdeal.Read in
  pointwise [val_main_v2, val_main_v1, val_main_v0]

variable (m : (ℓ : Loc nD τ sig) → Buf (Elt Ideal) ℓ) (c : Dev nD)

abbrev d : (⟨S4096x1024, .f32⟩ : BufTy).Contents (Elt Ideal) := m ((c : Thread nD τ).loc main_arg0)

abbrev w : (⟨S2048x1024, .f32⟩ : BufTy).Contents (Elt Ideal) := m ((c : Thread nD τ).loc main_arg1)

theorem zeros2 : (![0, 0] : Fin 2 → Nat) = fun _ => 0 := funext fun a => by fin_cases a <;> rfl

theorem zeros3 : (![0, 0, 0] : Fin 3 → Nat) = fun _ => 0 := funext fun a => by fin_cases a <;> rfl

/-- A point has 1024 rows of the gradient and 1024 rows of the weight. -/
theorem places : ∀ t : Fin cfg0.N, (win0_0.index t 0 = t.val / 2 ∧ win0_0.index t 1 = 0)
    ∧ (win0_1.index t 0 = 0 ∧ win0_1.index t 1 = t.val % 2 ∧ win0_1.index t 2 = 0)
    ∧ (win0_2.index t 0 = t.val / 2 ∧ win0_2.index t 1 = t.val % 2) :=
  (by decide +kernel : ∀ t : Fin grid0.N, (win0_0.index t 0 = t.val / 2 ∧ win0_0.index t 1 = 0)
    ∧ (win0_1.index t 0 = 0 ∧ win0_1.index t 1 = t.val % 2 ∧ win0_1.index t 2 = 0)
    ∧ (win0_2.index t 0 = t.val / 2 ∧ win0_2.index t 1 = t.val % 2))

def row (t : Fin cfg0.N) (r : Fin 1024) : Fin 4096 := ⟨1024 * (t.val / 2) + r.val, by have := t.isLt; have h : cfg0.N = 8 := N_0; omega⟩

def col (t : Fin cfg0.N) (k : Fin 1024) : Fin 2048 := ⟨1024 * (t.val % 2) + k.val, by omega⟩

theorem rows_apply (t : Fin cfg0.N) (r j : Fin 1024) : iblk m c 0 t (ix2 r j) = d m c (ix2 (row t r) j) := by
  show V m c main_arg0 (((cfg0.win 0).blk t).view.emb (ix2 r j)) = _
  rw [V_main_arg0]
  exact congrArg (d m c) (funext fun a => Fin.ext (by
    match a with
    | ⟨0, _⟩ => show win0_0.index t 0 * 1024 + 1 * r.val = 1024 * (t.val / 2) + r.val; rw [(places t).1.1]; omega
    | ⟨1, _⟩ => show win0_0.index t 1 * 1024 + 1 * j.val = j.val; rw [(places t).1.2]; omega))

theorem weight_apply (t : Fin cfg0.N) (k j : Fin 1024) : iblk m c 1 t (ix3 0 k j) = w m c (ix2 (col t k) j) := by
  show V m c main_v1 (((cfg0.win 1).blk t).view.emb (ix3 0 k j)) = _
  rw [show ((cfg0.win 1).blk t).view.emb (ix3 0 k j) = ix3 (0 : Fin 1) (col t k) j from funext fun a => Fin.ext (by
    match a with
    | ⟨0, _⟩ => show win0_1.index t 0 * 1 + 1 * 0 = 0; rw [(places t).2.1.1]
    | ⟨1, _⟩ => show win0_1.index t 1 * 1024 + 1 * k.val = 1024 * (t.val % 2) + k.val; rw [(places t).2.1.2.1]; omega
    | ⟨2, _⟩ => show win0_1.index t 2 * 1024 + 1 * j.val = j.val; rw [(places t).2.1.2.2]; omega)]
  unfold V
  after_reads_simp
  pointwise

theorem array_apply (t : Fin cfg0.N) (r k : Fin 1024) : (dats m 0 c).arrAt 2 cfg0.N (ix2 (row t r) (col t k))
    = ∑ j, d m c (ix2 (row t r) j) * w m c (ix2 (col t k) j) := by
  have hb := congrFun ((Value.blocks2 m c t (flush0_2 t)).trans (Value.flushed2 m c t)) (ix2 r k)
  rw [View.read_apply] at hb
  rw [show ((cfg0.win 2).blk t).view.emb (ix2 r k) = ix2 (row t r) (col t k) from funext fun a => Fin.ext (by
    match a with
    | ⟨0, _⟩ => show win0_2.index t 0 * 1024 + 1 * r.val = 1024 * (t.val / 2) + r.val; rw [(places t).2.2.1]; omega
    | ⟨1, _⟩ => show win0_2.index t 1 * 1024 + 1 * k.val = 1024 * (t.val % 2) + k.val; rw [(places t).2.2.2]; omega)] at hb
  refine hb.trans ?_
  show out0_2 (iblk m c 0 t) (iblk m c 1 t) (ix2 r k) = _
  unfold out0_2
  rw [View.canon_unit_zero zeros2, View.ld_unit_zero zeros2, View.ld_unit_zero zeros3, body_apply]
  exact Finset.sum_congr rfl fun j _ => congrArg₂ (· * ·) (rows_apply m c t r j) (weight_apply m c t k j)

theorem exists_place (i : Fin 4096) (k : Fin 2048) : ∃ t r q, i = row t r ∧ k = col t q := by
  have hN : cfg0.N = 8 := N_0
  exact ⟨⟨2 * (i.val / 1024) + k.val / 1024, by omega⟩, ⟨i.val % 1024, Nat.mod_lt _ (by decide)⟩, ⟨k.val % 1024, Nat.mod_lt _ (by decide)⟩,
    Fin.ext (by show i.val = 1024 * ((2 * (i.val / 1024) + k.val / 1024) / 2) + i.val % 1024; omega),
    Fin.ext (by show k.val = 1024 * ((2 * (i.val / 1024) + k.val / 1024) % 2) + k.val % 1024; omega)⟩

theorem claim : Cert.algebraic_TnatKernelIdeal_TnatReferenceIdeal := by
  intro m ρ m' ρ' _ hag
  refine ⟨_, Value.run_blocks m ρ,
    (θ_run Cert.TnatReferenceIdeal.defs _ _).mono (fun r h c => ?_) (Cert.TnatReferenceIdeal.Value.run m' ρ')⟩
  obtain ⟨h0, rest⟩ := h c
  obtain ⟨a0, a1⟩ := hag c
  refine ⟨h0.trans ?_, rest⟩
  rw [Cert.TnatReferenceIdeal.Read.val_main_v2_eq, a0, a1]
  funext i
  rw [eq_ix2 i]
  obtain ⟨t, r, q, hi, hk⟩ := exists_place (i 0) (i 1)
  refine (reference_apply _ _ (i 0) (i 1)).trans ?_
  rw [hi, hk]
  exact (array_apply m c t r q).symm

end Cert.TnatClaim

end
-- ==== Proof.DwcolClaim.lean ====
/-
  The gradient of a weight in row blocks of its transpose: block by block the product of the transposed gradient with the rows.
-/
module

public import proofs.«01_k».proof.Defs
public import proofs.«01_k».proof.Proof.Finite
public import proofs.«01_k».proof.Proof.Gen.DwcolKernelIdeal.Value
public import proofs.«01_k».proof.Proof.Gen.DwcolReferenceIdeal.Read
public import Idealize.ShloMosaic.Lib.Pointwise
public import Idealize.ShloMosaic.Lib.StableHlo.RunRead
public import Idealize.ShloMosaic.Lib.Tactic

@[expose] public section

set_option maxRecDepth 16384

noncomputable section

namespace Cert.DwcolClaim

open Idealize.ShloMosaic Idealize.ShloMosaic.TcCoe
open Cert.DwcolKernelIdeal Cert.DwcolKernelIdeal.Gen Cert.Finite

theorem body_apply (z : Vec Ideal S1x4096x704 .bf16) (h : Vec Ideal S4096x1024 .bf16) (b : Fin 1) (r : Fin 704) (k : Fin 1024) :
    k0_pay1 (F := Ideal) z h (ix3 b r k) = ∑ j, z (ix3 0 j r) * h (ix2 j k) := by
  pointwise [k0_pay1]

/-- A column block's column, in the whole gradient. -/
def col (n : Fin 8) (r : Fin 704) : Fin 5632 := ⟨704 * n.val + r.val, by omega⟩

theorem reference_apply (h : (⟨S4096x1024, .f32⟩ : BufTy).Contents (Elt Ideal)) (z : (⟨S4096x5632, .f32⟩ : BufTy).Contents (Elt Ideal))
    (n : Fin 8) (r : Fin 704) (k : Fin 1024) :
    Cert.DwcolReferenceIdeal.Read.val_main_v3 (F := Ideal) h z (ix3 n r k) = ∑ j, z (ix2 j (col n r)) * h (ix2 j k) := by
  open Cert.DwcolReferenceIdeal.Read in
  pointwise [val_main_v3, val_main_v2, val_main_v1, val_main_v0]
  exact Finset.sum_congr rfl fun j _ => congrArg (fun q => z (ix2 j q) * h (ix2 j k)) (Fin.ext (by show n.val * 704 + r.val = 704 * n.val + r.val; omega))

variable (m : (ℓ : Loc nD τ sig) → Buf (Elt Ideal) ℓ) (c : Dev nD)

abbrev h : (⟨S4096x1024, .f32⟩ : BufTy).Contents (Elt Ideal) := m ((c : Thread nD τ).loc main_arg0)

abbrev z : (⟨S4096x5632, .f32⟩ : BufTy).Contents (Elt Ideal) := m ((c : Thread nD τ).loc main_arg1)

theorem zeros2 : (![0, 0] : Fin 2 → Nat) = fun _ => 0 := funext fun a => by fin_cases a <;> rfl

theorem zeros3 : (![0, 0, 0] : Fin 3 → Nat) = fun _ => 0 := funext fun a => by fin_cases a <;> rfl

theorem places : ∀ t : Fin cfg0.N, (win0_0.index t 0 = t.val ∧ win0_0.index t 1 = 0 ∧ win0_0.index t 2 = 0)
    ∧ (win0_1.index t 0 = 0 ∧ win0_1.index t 1 = 0) ∧ (win0_2.index t 0 = t.val ∧ win0_2.index t 1 = 0 ∧ win0_2.index t 2 = 0) :=
  (by decide +kernel : ∀ t : Fin grid0.N, (win0_0.index t 0 = t.val ∧ win0_0.index t 1 = 0 ∧ win0_0.index t 2 = 0)
    ∧ (win0_1.index t 0 = 0 ∧ win0_1.index t 1 = 0) ∧ (win0_2.index t 0 = t.val ∧ win0_2.index t 1 = 0 ∧ win0_2.index t 2 = 0))

/-- Point `n` has column block `n`. -/
def point (n : Fin 8) : Fin cfg0.N := ⟨n.val, by have h : cfg0.N = 8 := N_0; omega⟩

theorem gradient_apply (n : Fin 8) (j : Fin 4096) (r : Fin 704) : iblk m c 0 (point n) (ix3 0 j r) = z m c (ix2 j (col n r)) := by
  show V m c main_v2 (((cfg0.win 0).blk (point n)).view.emb (ix3 0 j r)) = _
  rw [show ((cfg0.win 0).blk (point n)).view.emb (ix3 0 j r) = ix3 n j r from funext fun a => Fin.ext (by
    match a with
    | ⟨0, _⟩ => show win0_0.index (point n) 0 * 1 + 1 * 0 = n.val; rw [(places (point n)).1.1]; exact Nat.mul_one _
    | ⟨1, _⟩ => show win0_0.index (point n) 1 * 4096 + 1 * j.val = j.val; rw [(places (point n)).1.2.1]; omega
    | ⟨2, _⟩ => show win0_0.index (point n) 2 * 704 + 1 * r.val = r.val; rw [(places (point n)).1.2.2]; omega)]
  unfold V
  after_reads_simp
  pointwise
  exact congrArg (z m c) (congrArg (ix2 j) (Fin.ext (by show n.val * 704 + r.val = 704 * n.val + r.val; omega)))

theorem rows_apply (t : Fin cfg0.N) (j : Fin 4096) (k : Fin 1024) : iblk m c 1 t (ix2 j k) = h m c (ix2 j k) := by
  show V m c main_v3 (((cfg0.win 1).blk t).view.emb (ix2 j k)) = _
  rw [show ((cfg0.win 1).blk t).view.emb (ix2 j k) = ix2 j k from funext fun a => Fin.ext (by
    match a with
    | ⟨0, _⟩ => show win0_1.index t 0 * 4096 + 1 * j.val = j.val; rw [(places t).2.1.1]; omega
    | ⟨1, _⟩ => show win0_1.index t 1 * 1024 + 1 * k.val = k.val; rw [(places t).2.1.2]; omega)]
  unfold V
  after_reads_simp
  rfl

theorem array_apply (n : Fin 8) (r : Fin 704) (k : Fin 1024) : (dats m 0 c).arrAt 2 cfg0.N (ix3 n r k)
    = ∑ j, z m c (ix2 j (col n r)) * h m c (ix2 j k) := by
  have hb := congrFun ((Value.blocks2 m c (point n) (flush0_2 _)).trans (Value.flushed2 m c (point n))) (ix3 0 r k)
  rw [View.read_apply] at hb
  rw [show ((cfg0.win 2).blk (point n)).view.emb (ix3 0 r k) = ix3 n r k from funext fun a => Fin.ext (by
    match a with
    | ⟨0, _⟩ => show win0_2.index (point n) 0 * 1 + 1 * 0 = n.val; rw [(places (point n)).2.2.1]; exact Nat.mul_one _
    | ⟨1, _⟩ => show win0_2.index (point n) 1 * 704 + 1 * r.val = r.val; rw [(places (point n)).2.2.2.1]; omega
    | ⟨2, _⟩ => show win0_2.index (point n) 2 * 1024 + 1 * k.val = k.val; rw [(places (point n)).2.2.2.2]; omega)] at hb
  refine hb.trans ?_
  show out0_2 (iblk m c 0 (point n)) (iblk m c 1 (point n)) (ix3 0 r k) = _
  unfold out0_2
  rw [View.canon_unit_zero zeros3, View.ld_unit_zero zeros3, View.ld_unit_zero zeros2, body_apply]
  exact Finset.sum_congr rfl fun j _ => congrArg₂ (· * ·) (gradient_apply m c n j r) (rows_apply m c _ j k)

theorem claim : Cert.algebraic_DwcolKernelIdeal_DwcolReferenceIdeal := by
  intro m ρ m' ρ' _ hag
  refine ⟨_, Value.run_blocks m ρ,
    (θ_run Cert.DwcolReferenceIdeal.defs _ _).mono (fun r h c => ?_) (Cert.DwcolReferenceIdeal.Value.run m' ρ')⟩
  obtain ⟨h0, rest⟩ := h c
  obtain ⟨a0, a1⟩ := hag c
  refine ⟨h0.trans ?_, rest⟩
  rw [Cert.DwcolReferenceIdeal.Read.val_main_v3_eq, a0, a1]
  funext i
  rw [eq_ix3 i]
  exact (reference_apply _ _ (i 0) (i 1) (i 2)).trans (array_apply m c (i 0) (i 1) (i 2)).symm

end Cert.DwcolClaim

end
-- ==== Proof.OsumClaim.lean ====
/-
  The slabs of all devices added up in order: equal to their sum over the first axis, for every input.
-/
module

public import proofs.«01_k».proof.Defs
public import proofs.«01_k».proof.Proof.Finite
public import proofs.«01_k».proof.Proof.Gen.OsumKernelIdeal.Value
public import proofs.«01_k».proof.Proof.Gen.OsumReferenceIdeal.Read
public import Idealize.ShloMosaic.Lib.Pointwise
public import Idealize.ShloMosaic.Lib.StableHlo.RunRead
public import Idealize.ShloMosaic.Lib.Tactic

@[expose] public section

set_option maxRecDepth 16384

noncomputable section

namespace Cert.OsumClaim

open Idealize.ShloMosaic Idealize.ShloMosaic.TcCoe
open Cert.OsumKernelIdeal Cert.OsumKernelIdeal.Gen Cert.Finite

theorem body_apply (v : Fin 8 → Vec Ideal S1x40x1024 .f32) (r : Fin 40) (k : Fin 1024) :
    k0_pay1 (F := Ideal) (v 0) (v 1) (v 2) (v 3) (v 4) (v 5) (v 6) (v 7) (ix2 r k) = ∑ n, v n (ix3 0 r k) := by
  rw [Fin.sum_univ_eight]
  generalize v 0 = v0, v 1 = v1, v 2 = v2, v 3 = v3, v 4 = v4, v 5 = v5, v 6 = v6, v 7 = v7
  pointwise [k0_pay1]

theorem reference_apply (p : (⟨S8x40x1024, .f32⟩ : BufTy).Contents (Elt Ideal)) (r : Fin 40) (k : Fin 1024) :
    Cert.OsumReferenceIdeal.Read.val_main_v0 (F := Ideal) p (ix2 r k) = ∑ n, p (ix3 n r k) := by
  open Cert.OsumReferenceIdeal.Read in
  pointwise [val_main_v0, val_main_cst]

variable (m : (ℓ : Loc nD τ sig) → Buf (Elt Ideal) ℓ) (c : Dev nD)

abbrev p : (⟨S8x40x1024, .f32⟩ : BufTy).Contents (Elt Ideal) := m ((c : Thread nD τ).loc main_arg0)

theorem zeros2 : (![0, 0] : Fin 2 → Nat) = fun _ => 0 := funext fun a => by fin_cases a <;> rfl

theorem places : ∀ t : Fin cfg0.N, (win0_0.index t 0 = 0 ∧ win0_0.index t 1 = 0 ∧ win0_0.index t 2 = 0)
    ∧ (win0_1.index t 0 = 0 ∧ win0_1.index t 1 = 0) :=
  (by decide +kernel : ∀ t : Fin grid0.N, (win0_0.index t 0 = 0 ∧ win0_0.index t 1 = 0 ∧ win0_0.index t 2 = 0)
    ∧ (win0_1.index t 0 = 0 ∧ win0_1.index t 1 = 0))

theorem slabs_apply (t : Fin cfg0.N) (n : Fin 8) (r : Fin 40) (k : Fin 1024) : iblk m c 0 t (ix3 n r k) = p m c (ix3 n r k) := by
  show V m c main_arg0 (((cfg0.win 0).blk t).view.emb (ix3 n r k)) = _
  rw [V_main_arg0]
  exact congrArg (p m c) (funext fun a => Fin.ext (by
    match a with
    | ⟨0, _⟩ => show win0_0.index t 0 * 8 + 1 * n.val = n.val; rw [(places t).1.1]; omega
    | ⟨1, _⟩ => show win0_0.index t 1 * 40 + 1 * r.val = r.val; rw [(places t).1.2.1]; omega
    | ⟨2, _⟩ => show win0_0.index t 2 * 1024 + 1 * k.val = k.val; rw [(places t).1.2.2]; omega))

/-- Slab `n` of a block of eight. -/
def slab (y : Vec Ideal S8x40x1024 .f32) (n : Fin 8) : Vec Ideal S1x40x1024 .f32 := fun i => y (ix3 n (i 1) (i 2))

theorem load_slab (y : Vec Ideal S8x40x1024 .f32) (n : Fin 8) (h : ∀ a, (![n.val, 0, 0] : Fin 3 → Nat) a + S1x40x1024.size a ≤ S8x40x1024.size a) :
    View.ld y (Rect.unit (s := S8x40x1024) ![n.val, 0, 0] S1x40x1024.size h) = slab y n := by
  funext i
  refine congrArg y (funext fun a => Fin.ext ?_)
  have h0 : (i 0).val = 0 := Nat.lt_one_iff.mp (i 0).isLt
  match a with
  | ⟨0, _⟩ => show n.val + 1 * (i 0).val = n.val; omega
  | ⟨1, _⟩ => show 0 + 1 * (i 1).val = (i 1).val; omega
  | ⟨2, _⟩ => show 0 + 1 * (i 2).val = (i 2).val; omega

theorem out_apply (y : Vec Ideal S8x40x1024 .f32) (r : Fin 40) (k : Fin 1024) : out0_1 (F := Ideal) y (ix2 r k) = ∑ n, y (ix3 n r k) := by
  unfold out0_1
  rw [View.canon_unit_zero zeros2, show View.ld y r0_0 = slab y 0 from load_slab y 0 _, show View.ld y r0_1 = slab y 1 from load_slab y 1 _,
    show View.ld y r0_2 = slab y 2 from load_slab y 2 _, show View.ld y r0_3 = slab y 3 from load_slab y 3 _,
    show View.ld y r0_4 = slab y 4 from load_slab y 4 _, show View.ld y r0_5 = slab y 5 from load_slab y 5 _,
    show View.ld y r0_6 = slab y 6 from load_slab y 6 _, show View.ld y r0_7 = slab y 7 from load_slab y 7 _]
  exact body_apply (slab y) r k

theorem array_apply (r : Fin 40) (k : Fin 1024) : (dats m 0 c).arrAt 1 cfg0.N (ix2 r k) = ∑ n, p m c (ix3 n r k) := by
  have hN : cfg0.N = 1 := N_0
  obtain ⟨t⟩ : Nonempty (Fin cfg0.N) := ⟨⟨0, by omega⟩⟩
  have hb := congrFun ((Value.blocks1 m c t (flush0_1 t)).trans (Value.flushed1 m c t)) (ix2 r k)
  rw [View.read_apply] at hb
  rw [show ((cfg0.win 1).blk t).view.emb (ix2 r k) = ix2 r k from funext fun a => Fin.ext (by
    match a with
    | ⟨0, _⟩ => show win0_1.index t 0 * 40 + 1 * r.val = r.val; rw [(places t).2.1]; omega
    | ⟨1, _⟩ => show win0_1.index t 1 * 1024 + 1 * k.val = k.val; rw [(places t).2.2]; omega)] at hb
  refine hb.trans ?_
  show out0_1 (iblk m c 0 t) (ix2 r k) = _
  exact (out_apply (iblk m c 0 t) r k).trans (Finset.sum_congr rfl fun n _ => slabs_apply m c t n r k)

theorem claim : Cert.algebraic_OsumKernelIdeal_OsumReferenceIdeal := by
  intro m ρ m' ρ' _ hag
  refine ⟨_, Value.run_blocks m ρ,
    (θ_run Cert.OsumReferenceIdeal.defs _ _).mono (fun r h c => ?_) (Cert.OsumReferenceIdeal.Value.run m' ρ')⟩
  obtain ⟨h0, rest⟩ := h c
  have a0 := hag c
  refine ⟨h0.trans ?_, rest⟩
  rw [Cert.OsumReferenceIdeal.Read.val_main_v0_eq, a0]
  funext i
  rw [eq_ix2 i]
  exact (reference_apply _ (i 0) (i 1)).trans (array_apply m c (i 0) (i 1)).symm

end Cert.OsumClaim

end
-- ==== Proof.DwnatClaim.lean ====
/-
  The gradient of a weight summed over two halves of the rows: equal to the product with the transposed rows, for every input.
-/
module

public import proofs.«01_k».proof.Defs
public import proofs.«01_k».proof.Proof.Finite
public import proofs.«01_k».proof.Proof.Gen.DwnatKernelIdeal.Value
public import proofs.«01_k».proof.Proof.Gen.DwnatReferenceIdeal.Read
public import Idealize.ShloMosaic.Lib.Pointwise
public import Idealize.ShloMosaic.Lib.StableHlo.RunRead
public import Idealize.ShloMosaic.Lib.Tactic

@[expose] public section

set_option maxRecDepth 16384

noncomputable section

namespace Cert.DwnatClaim

open Idealize.ShloMosaic Idealize.ShloMosaic.TcCoe
open Cert.DwnatKernelIdeal Cert.DwnatKernelIdeal.Gen Cert.Finite

theorem zeros2 : (![0, 0] : Fin 2 → Nat) = fun _ => 0 := funext fun a => by fin_cases a <;> rfl

section Cases

variable (c : Dev nD) (i : grid0.Coords)
  (a3 : Memref sig .tc .vmem S2048x1024 .bf16) (h3 : a3.IsWhole) (a4 : Memref sig .tc .vmem S2048x1024 .f32) (h4 : a4.IsWhole)
  (a5 : Memref sig .tc .vmem S1024x1024 .bf16) (h5 : a5.IsWhole) (a6 : Memref sig .tc .vmem S1024x1024 .f32) (h6 : a6.IsWhole)
  (x : Vec Ideal S2048x1024 .bf16) (y : Vec Ideal S2048x1024 .f32) (s : Vec Ideal S1024x1024 .f32)

/-- The first half of the rows leaves its product in the scratch. -/
theorem first_half (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zeros2]
  simp only [View.readAt_eq_ld, h3.read_unread, h4.read_unread, View.ld_unit_zero (S := S2048x1024) zeros2]

/-- The second half adds its product and writes the sum. -/
theorem second_half (hc0 : ¬cond0_0 i) (hc1 : cond0_1 i) (hc2 : cond0_2 i) :
    out0_B_2 c i a3 h3 a4 h4 a5 h5 a6 h6 hc0 hc1 hc2 x y s = k0_pay4 (k0_pay3 x y s) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero zeros2, View.readCov_unit_zero (S := S1024x1024) _ zeros2]
  simp only [View.readAt_eq_ld, h3.read_unread, h4.read_unread, h6.read_unread, View.ld_unit_zero (S := S2048x1024) zeros2,
    View.ld_unit_zero (S := S1024x1024) zeros2]

end Cases

theorem pay2_apply (x : Vec Ideal S2048x1024 .bf16) (y : Vec Ideal S2048x1024 .f32) (r k : Fin 1024) :
    k0_pay2 (F := Ideal) x y (ix2 r k) = ∑ j, x (ix2 j r) * y (ix2 j k) := by
  pointwise [k0_pay2, k0_pay1]

theorem pay4_apply (x : Vec Ideal S2048x1024 .bf16) (y : Vec Ideal S2048x1024 .f32) (s : Vec Ideal S1024x1024 .f32) (r k : Fin 1024) :
    k0_pay4 (F := Ideal) (k0_pay3 x y s) (ix2 r k) = s (ix2 r k) + ∑ j, x (ix2 j r) * y (ix2 j k) := by
  pointwise [k0_pay4, k0_pay3, k0_pay1]

/-- Row `j` of half `n`. -/
def row (n : Fin 2) (j : Fin 2048) : Fin 4096 := ⟨2048 * n.val + j.val, by omega⟩

theorem sum_halves (f : Fin 4096 → EReal) : ∑ p, f p = ∑ j, f (row 0 j) + ∑ j, f (row 1 j) := by
  rw [← Equiv.sum_comp (finProdFinEquiv (m := 2) (n := 2048)) f, Fintype.sum_prod_type, Fin.sum_univ_two]
  exact congrArg₂ (· + ·) (Finset.sum_congr rfl fun j _ => congrArg f (Fin.ext (by show j.val + 2048 * 0 = 2048 * 0 + j.val; omega)))
    (Finset.sum_congr rfl fun j _ => congrArg f (Fin.ext (by show j.val + 2048 * 1 = 2048 * 1 + j.val; omega)))

theorem reference_apply (p : (⟨S4096x2048, .f32⟩ : BufTy).Contents (Elt Ideal)) (d : (⟨S4096x1024, .f32⟩ : BufTy).Contents (Elt Ideal))
    (i : Fin 2048) (k : Fin 1024) :
    Cert.DwnatReferenceIdeal.Read.val_main_v2 (F := Ideal) p d (ix2 i k)
    = ∑ j, p (ix2 (row 0 j) i) * d (ix2 (row 0 j) k) + ∑ j, p (ix2 (row 1 j) i) * d (ix2 (row 1 j) k) := by
  rw [← sum_halves fun q => p (ix2 q i) * d (ix2 q k)]
  open Cert.DwnatReferenceIdeal.Read in
  pointwise [val_main_v2, val_main_v1, val_main_v0]

variable (m : (ℓ : Loc nD τ sig) → Buf (Elt Ideal) ℓ) (c : Dev nD)

abbrev p : (⟨S4096x2048, .f32⟩ : BufTy).Contents (Elt Ideal) := m ((c : Thread nD τ).loc main_arg0)

abbrev d : (⟨S4096x1024, .f32⟩ : BufTy).Contents (Elt Ideal) := m ((c : Thread nD τ).loc main_arg1)

theorem places : ∀ t : Fin cfg0.N, (win0_0.index t 0 = t.val % 2 ∧ win0_0.index t 1 = t.val / 2)
    ∧ (win0_1.index t 0 = t.val % 2 ∧ win0_1.index t 1 = 0) ∧ (win0_2.index t 0 = t.val / 2 ∧ win0_2.index t 1 = 0) :=
  (by decide +kernel : ∀ t : Fin grid0.N, (win0_0.index t 0 = t.val % 2 ∧ win0_0.index t 1 = t.val / 2)
    ∧ (win0_1.index t 0 = t.val % 2 ∧ win0_1.index t 1 = 0) ∧ (win0_2.index t 0 = t.val / 2 ∧ win0_2.index t 1 = 0))

/-- Point of column block `b` and half `n`. -/
def point (b n : Fin 2) : Fin cfg0.N := ⟨2 * b.val + n.val, by have h : cfg0.N = 4 := N_0; omega⟩

def col (b : Fin 2) (r : Fin 1024) : Fin 2048 := ⟨1024 * b.val + r.val, by omega⟩

theorem half (b n : Fin 2) : (point b n).val % 2 = n.val := by show (2 * b.val + n.val) % 2 = n.val; omega

theorem block (b n : Fin 2) : (point b n).val / 2 = b.val := by show (2 * b.val + n.val) / 2 = b.val; omega

theorem rows_apply (b n : Fin 2) (j : Fin 2048) (r : Fin 1024) : iblk m c 0 (point b n) (ix2 j r) = p m c (ix2 (row n j) (col b r)) := by
  show V m c main_v0 (((cfg0.win 0).blk (point b n)).view.emb (ix2 j r)) = _
  rw [show ((cfg0.win 0).blk (point b n)).view.emb (ix2 j r) = ix2 (row n j) (col b r) from funext fun a => Fin.ext (by
    match a with
    | ⟨0, _⟩ => show win0_0.index (point b n) 0 * 2048 + 1 * j.val = 2048 * n.val + j.val; rw [(places (point b n)).1.1, half]; omega
    | ⟨1, _⟩ => show win0_0.index (point b n) 1 * 1024 + 1 * r.val = 1024 * b.val + r.val; rw [(places (point b n)).1.2, block]; omega)]
  unfold V
  after_reads_simp
  rfl

theorem gradient_apply (b n : Fin 2) (j : Fin 2048) (k : Fin 1024) : iblk m c 1 (point b n) (ix2 j k) = d m c (ix2 (row n j) k) := by
  show V m c main_arg1 (((cfg0.win 1).blk (point b n)).view.emb (ix2 j k)) = _
  rw [V_main_arg1]
  exact congrArg (d m c) (funext fun a => Fin.ext (by
    match a with
    | ⟨0, _⟩ => show win0_1.index (point b n) 0 * 2048 + 1 * j.val = 2048 * n.val + j.val; rw [(places (point b n)).2.1.1, half]; omega
    | ⟨1, _⟩ => show win0_1.index (point b n) 1 * 1024 + 1 * k.val = k.val; rw [(places (point b n)).2.1.2]; omega))

/-- What one half adds to the gradient. -/
theorem half_sum (b n : Fin 2) (r k : Fin 1024) (x : Vec Ideal S2048x1024 .bf16) (y : Vec Ideal S2048x1024 .f32)
    (hx : ∀ j, x (ix2 j r) = p m c (ix2 (row n j) (col b r))) (hy : ∀ j, y (ix2 j k) = d m c (ix2 (row n j) k)) :
    ∑ j, x (ix2 j r) * y (ix2 j k) = ∑ j, p m c (ix2 (row n j) (col b r)) * d m c (ix2 (row n j) k) :=
  Finset.sum_congr rfl fun j _ => congrArg₂ (· * ·) (hx j) (hy j)

theorem scratch_apply (b : Fin 2) (h : (point b 0).val < cfg0.N) (r k : Fin 1024) :
    (outsAt0 m c (point b 0).val h).2 (ix2 r k) = ∑ j, p m c (ix2 (row 0 j) (col b r)) * d m c (ix2 (row 0 j) k) := by
  have h0 : (point b 0).val % 2 = 0 := half b 0
  rw [outsAt0_A m c (point b 0) h0 (by omega) (by omega), first_half]
  exact (pay2_apply (iblk m c 0 (point b 0)) (iblk m c 1 (point b 0)) r k).trans (half_sum m c b 0 r k _ _ (rows_apply m c b 0 · r) (gradient_apply m c b 0 · k))

theorem flushed_apply (b : Fin 2) (r k : Fin 1024) : (dats m 0 c).flushed 2 (point b 1) (ix2 r k)
    = ∑ j, p m c (ix2 (row 0 j) (col b r)) * d m c (ix2 (row 0 j) k) + ∑ j, p m c (ix2 (row 1 j) (col b r)) * d m c (ix2 (row 1 j) k) := by
  have h1 : (point b 1).val % 2 = 1 := half b 1
  rw [Value.flushed2_B m c (point b 1) (by omega) h1 h1, second_half]
  exact (pay4_apply (iblk m c 0 (point b 1)) (iblk m c 1 (point b 1)) _ r k).trans
    (congrArg₂ (· + ·) (scratch_apply m c b _ r k) (half_sum m c b 1 r k _ _ (rows_apply m c b 1 · r) (gradient_apply m c b 1 · k)))

theorem flush : ∀ b : Fin 2, (cfg0.win 2).flush (point b 1) = true := by decide +kernel

theorem exists_col (i : Fin 2048) : ∃ b r, i = col b r :=
  ⟨⟨i.val / 1024, by omega⟩, ⟨i.val % 1024, Nat.mod_lt _ (by decide)⟩, Fin.ext (by show i.val = 1024 * (i.val / 1024) + i.val % 1024; omega)⟩

theorem array_apply (b : Fin 2) (r k : Fin 1024) : (dats m 0 c).arrAt 2 cfg0.N (ix2 (col b r) k)
    = ∑ j, p m c (ix2 (row 0 j) (col b r)) * d m c (ix2 (row 0 j) k) + ∑ j, p m c (ix2 (row 1 j) (col b r)) * d m c (ix2 (row 1 j) k) := by
  have hb := congrFun ((congrArg (((cfg0.win 2).blk (point b 1)).view.read (Elt Ideal)) (Value.final2 m c)).trans
    (Value.flushed2_eq m c (point b 1) (flush b)).symm) (ix2 r k)
  rw [View.read_apply] at hb
  rw [show ((cfg0.win 2).blk (point b 1)).view.emb (ix2 r k) = ix2 (col b r) k from funext fun a => Fin.ext (by
    match a with
    | ⟨0, _⟩ => show win0_2.index (point b 1) 0 * 1024 + 1 * r.val = 1024 * b.val + r.val; rw [(places (point b 1)).2.2.1, block]; omega
    | ⟨1, _⟩ => show win0_2.index (point b 1) 1 * 1024 + 1 * k.val = k.val; rw [(places (point b 1)).2.2.2]; omega)] at hb
  exact hb.trans (flushed_apply m c b r k)

theorem claim : Cert.algebraic_DwnatKernelIdeal_DwnatReferenceIdeal := by
  intro m ρ m' ρ' _ hag
  refine ⟨_, Value.run_blocks m ρ,
    (θ_run Cert.DwnatReferenceIdeal.defs _ _).mono (fun r h c => ?_) (Cert.DwnatReferenceIdeal.Value.run m' ρ')⟩
  obtain ⟨h0, rest⟩ := h c
  obtain ⟨a0, a1⟩ := hag c
  refine ⟨h0.trans ?_, rest⟩
  rw [Cert.DwnatReferenceIdeal.Read.val_main_v2_eq, a0, a1]
  funext i
  rw [eq_ix2 i]
  obtain ⟨b, r, hi⟩ := exists_col (i 0)
  refine (reference_apply _ _ (i 0) (i 1)).trans ?_
  rw [hi]
  exact (array_apply m c b r (i 1)).symm

end Cert.DwnatClaim

end
-- ==== Proof.DwdownClaim.lean ====
/-
  The second feed-forward weight's gradient in four row blocks, each summed over two halves of the rows: equal to the product with
  the transposed activation, for every input.
-/
module

public import proofs.«01_k».proof.Defs
public import proofs.«01_k».proof.Proof.Finite
public import proofs.«01_k».proof.Proof.DwnatClaim
public import proofs.«01_k».proof.Proof.Gen.DwdownKernelIdeal.Value
public import proofs.«01_k».proof.Proof.Gen.DwdownReferenceIdeal.Read
public import Idealize.ShloMosaic.Lib.Pointwise
public import Idealize.ShloMosaic.Lib.StableHlo.RunRead
public import Idealize.ShloMosaic.Lib.Tactic

@[expose] public section

set_option maxRecDepth 16384

noncomputable section

namespace Cert.DwdownClaim

open Idealize.ShloMosaic Idealize.ShloMosaic.TcCoe
open Cert.DwdownKernelIdeal Cert.DwdownKernelIdeal.Gen Cert.Finite
open Cert.DwnatClaim (row sum_halves zeros2)

theorem zeros3 : (![0, 0, 0] : Fin 3 → Nat) = fun _ => 0 := funext fun a => by fin_cases a <;> rfl

section Cases

variable (c : Dev nD) (i : grid0.Coords)
  (a3 : Memref sig .tc .vmem S1x2048x704 .bf16) (h3 : a3.IsWhole) (a4 : Memref sig .tc .vmem S2048x1024 .f32) (h4 : a4.IsWhole)
  (a5 : Memref sig .tc .vmem S1x704x1024 .bf16) (h5 : a5.IsWhole) (a6 : Memref sig .tc .vmem S704x1024 .f32) (h6 : a6.IsWhole)
  (x : Vec Ideal S1x2048x704 .bf16) (y : Vec Ideal S2048x1024 .f32) (s : Vec Ideal S704x1024 .f32)

theorem stored (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zeros2]
  simp only [View.readAt_eq_ld, h3.read_unread, h4.read_unread, View.ld_unit_zero (S := S1x2048x704) zeros3,
    View.ld_unit_zero (S := S2048x1024) zeros2]

theorem written (hc0 : ¬cond0_0 i) (hc1 : cond0_1 i) (hc2 : cond0_2 i) :
    out0_B_2 c i a3 h3 a4 h4 a5 h5 a6 h6 hc0 hc1 hc2 x y s = k0_pay4 (k0_pay3 x y s) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero zeros3, View.readCov_unit_zero (S := S704x1024) _ zeros2]
  simp only [View.readAt_eq_ld, h3.read_unread, h4.read_unread, h6.read_unread, View.ld_unit_zero (S := S1x2048x704) zeros3,
    View.ld_unit_zero (S := S2048x1024) zeros2, View.ld_unit_zero (S := S704x1024) zeros2]

end Cases

theorem pay2_apply (x : Vec Ideal S1x2048x704 .bf16) (y : Vec Ideal S2048x1024 .f32) (r : Fin 704) (k : Fin 1024) :
    k0_pay2 (F := Ideal) x y (ix2 r k) = ∑ j, x (ix3 0 j r) * y (ix2 j k) := by
  pointwise [k0_pay2, k0_pay1]

theorem pay4_apply (x : Vec Ideal S1x2048x704 .bf16) (y : Vec Ideal S2048x1024 .f32) (s : Vec Ideal S704x1024 .f32) (r : Fin 704) (k : Fin 1024) :
    k0_pay4 (F := Ideal) (k0_pay3 x y s) (ix3 0 r k) = s (ix2 r k) + ∑ j, x (ix3 0 j r) * y (ix2 j k) := by
  pointwise [k0_pay4, k0_pay3, k0_pay1]

/-- Column `r` of block `b` of the activation. -/
def col (b : Fin 4) (r : Fin 704) : Fin 2816 := ⟨b.val * 704 + r.val, by omega⟩

theorem reference_apply (p : (⟨S4096x2816, .f32⟩ : BufTy).Contents (Elt Ideal)) (d : (⟨S4096x1024, .f32⟩ : BufTy).Contents (Elt Ideal))
    (b : Fin 4) (r : Fin 704) (k : Fin 1024) : Cert.DwdownReferenceIdeal.Read.val_main_v3 (F := Ideal) p d (ix3 b r k)
    = ∑ j, p (ix2 (row 0 j) (col b r)) * d (ix2 (row 0 j) k) + ∑ j, p (ix2 (row 1 j) (col b r)) * d (ix2 (row 1 j) k) := by
  rw [← sum_halves fun q => p (ix2 q (col b r)) * d (ix2 q k)]
  open Cert.DwdownReferenceIdeal.Read in
  pointwise [val_main_v3, val_main_v2, val_main_v1, val_main_v0]
  rfl

variable (m : (ℓ : Loc nD τ sig) → Buf (Elt Ideal) ℓ) (c : Dev nD)

abbrev p : (⟨S4096x2816, .f32⟩ : BufTy).Contents (Elt Ideal) := m ((c : Thread nD τ).loc main_arg0)

abbrev d : (⟨S4096x1024, .f32⟩ : BufTy).Contents (Elt Ideal) := m ((c : Thread nD τ).loc main_arg1)

/-- Point of block `b` and half `n`. -/
def point (b : Fin 4) (n : Fin 2) : Fin cfg0.N := ⟨2 * b.val + n.val, by have h : cfg0.N = 8 := N_0; omega⟩

theorem half (b : Fin 4) (n : Fin 2) : (point b n).val % 2 = n.val := by show (2 * b.val + n.val) % 2 = n.val; omega

theorem places : ∀ b : Fin 4, ∀ n : Fin 2, (win0_0.index (point b n) 0 = b.val ∧ win0_0.index (point b n) 1 = n.val ∧ win0_0.index (point b n) 2 = 0)
    ∧ (win0_1.index (point b n) 0 = n.val ∧ win0_1.index (point b n) 1 = 0)
    ∧ (win0_2.index (point b n) 0 = b.val ∧ win0_2.index (point b n) 1 = 0 ∧ win0_2.index (point b n) 2 = 0) := by decide +kernel

theorem rows_apply (b : Fin 4) (n : Fin 2) (j : Fin 2048) (r : Fin 704) : iblk m c 0 (point b n) (ix3 0 j r) = p m c (ix2 (row n j) (col b r)) := by
  show V m c main_v2 (((cfg0.win 0).blk (point b n)).view.emb (ix3 0 j r)) = _
  rw [show ((cfg0.win 0).blk (point b n)).view.emb (ix3 0 j r) = ix3 b (row n j) r from funext fun a => Fin.ext (by
    match a with
    | ⟨0, _⟩ => show win0_0.index (point b n) 0 * 1 + 1 * 0 = b.val; rw [(places b n).1.1]; omega
    | ⟨1, _⟩ => show win0_0.index (point b n) 1 * 2048 + 1 * j.val = 2048 * n.val + j.val; rw [(places b n).1.2.1]; omega
    | ⟨2, _⟩ => show win0_0.index (point b n) 2 * 704 + 1 * r.val = r.val; rw [(places b n).1.2.2]; omega)]
  unfold V
  after_reads_simp
  pointwise
  rfl

theorem gradient_apply (b : Fin 4) (n : Fin 2) (j : Fin 2048) (k : Fin 1024) : iblk m c 1 (point b n) (ix2 j k) = d m c (ix2 (row n j) k) := by
  show V m c main_arg1 (((cfg0.win 1).blk (point b n)).view.emb (ix2 j k)) = _
  rw [V_main_arg1]
  exact congrArg (d m c) (funext fun a => Fin.ext (by
    match a with
    | ⟨0, _⟩ => show win0_1.index (point b n) 0 * 2048 + 1 * j.val = 2048 * n.val + j.val; rw [(places b n).2.1.1]; omega
    | ⟨1, _⟩ => show win0_1.index (point b n) 1 * 1024 + 1 * k.val = k.val; rw [(places b n).2.1.2]; omega))

/-- What one half adds to the gradient. -/
theorem half_sum (b : Fin 4) (n : Fin 2) (r : Fin 704) (k : Fin 1024) (x : Vec Ideal S1x2048x704 .bf16) (y : Vec Ideal S2048x1024 .f32)
    (hx : ∀ j, x (ix3 0 j r) = p m c (ix2 (row n j) (col b r))) (hy : ∀ j, y (ix2 j k) = d m c (ix2 (row n j) k)) :
    ∑ j, x (ix3 0 j r) * y (ix2 j k) = ∑ j, p m c (ix2 (row n j) (col b r)) * d m c (ix2 (row n j) k) := by
  simp only [hx, hy]

theorem scratch_apply (b : Fin 4) (h : (point b 0).val < cfg0.N) (r : Fin 704) (k : Fin 1024) :
    (outsAt0 m c (point b 0).val h).2 (ix2 r k) = ∑ j, p m c (ix2 (row 0 j) (col b r)) * d m c (ix2 (row 0 j) k) := by
  have h0 : (point b 0).val % 2 = 0 := half b 0
  rw [outsAt0_A m c (point b 0) h0 (by omega) (by omega), stored]
  exact (pay2_apply (iblk m c 0 (point b 0)) (iblk m c 1 (point b 0)) r k).trans
    (half_sum m c b 0 r k _ _ (rows_apply m c b 0 · r) (gradient_apply m c b 0 · k))

theorem flushed_apply (b : Fin 4) (r : Fin 704) (k : Fin 1024) : (dats m 0 c).flushed 2 (point b 1) (ix3 0 r k)
    = ∑ j, p m c (ix2 (row 0 j) (col b r)) * d m c (ix2 (row 0 j) k) + ∑ j, p m c (ix2 (row 1 j) (col b r)) * d m c (ix2 (row 1 j) k) := by
  have h1 : (point b 1).val % 2 = 1 := half b 1
  rw [Value.flushed2_B m c (point b 1) (by omega) h1 h1, written]
  refine (pay4_apply (iblk m c 0 (point b 1)) (iblk m c 1 (point b 1)) _ r k).trans (congrArg₂ (· + ·) ?_ ?_)
  · exact scratch_apply m c b _ r k
  · exact half_sum m c b 1 r k _ _ (rows_apply m c b 1 · r) (gradient_apply m c b 1 · k)

theorem flush : ∀ b : Fin 4, (cfg0.win 2).flush (point b 1) = true := by decide +kernel

theorem array_apply (b : Fin 4) (r : Fin 704) (k : Fin 1024) : (dats m 0 c).arrAt 2 cfg0.N (ix3 b r k)
    = ∑ j, p m c (ix2 (row 0 j) (col b r)) * d m c (ix2 (row 0 j) k) + ∑ j, p m c (ix2 (row 1 j) (col b r)) * d m c (ix2 (row 1 j) k) := by
  have hb := congrFun ((congrArg (((cfg0.win 2).blk (point b 1)).view.read (Elt Ideal)) (Value.final2 m c)).trans
    (Value.flushed2_eq m c (point b 1) (flush b)).symm) (ix3 0 r k)
  rw [View.read_apply] at hb
  rw [show ((cfg0.win 2).blk (point b 1)).view.emb (ix3 0 r k) = ix3 b r k from funext fun a => Fin.ext (by
    match a with
    | ⟨0, _⟩ => show win0_2.index (point b 1) 0 * 1 + 1 * 0 = b.val; rw [(places b 1).2.2.1]; omega
    | ⟨1, _⟩ => show win0_2.index (point b 1) 1 * 704 + 1 * r.val = r.val; rw [(places b 1).2.2.2.1]; omega
    | ⟨2, _⟩ => show win0_2.index (point b 1) 2 * 1024 + 1 * k.val = k.val; rw [(places b 1).2.2.2.2]; omega)] at hb
  exact hb.trans (flushed_apply m c b r k)

theorem claim : Cert.algebraic_DwdownKernelIdeal_DwdownReferenceIdeal := by
  intro m ρ m' ρ' _ hag
  refine ⟨_, Value.run_blocks m ρ,
    (θ_run Cert.DwdownReferenceIdeal.defs _ _).mono (fun r h c => ?_) (Cert.DwdownReferenceIdeal.Value.run m' ρ')⟩
  obtain ⟨h0, rest⟩ := h c
  obtain ⟨a0, a1⟩ := hag c
  refine ⟨h0.trans ?_, rest⟩
  rw [Cert.DwdownReferenceIdeal.Read.val_main_v3_eq, a0, a1]
  funext i
  rw [eq_ix3 i]
  exact (reference_apply _ _ (i 0) (i 1) (i 2)).trans (array_apply m c (i 0) (i 1) (i 2)).symm

end Cert.DwdownClaim

end
-- ==== Proof.AdamClaim.lean ====
/-
  The optimiser step of the packed small weights: the new moments, the change of the weight and the gradient handed back, for every input.
-/
module

public import proofs.«01_k».proof.Defs
public import proofs.«01_k».proof.Proof.Finite
public import proofs.«01_k».proof.Proof.Gen.AdamKernelIdeal.Value
public import proofs.«01_k».proof.Proof.Gen.AdamReferenceIdeal.Read
public import Idealize.ShloMosaic.Lib.Pointwise
public import Idealize.ShloMosaic.Lib.StableHlo.RunRead
public import Idealize.ShloMosaic.Lib.Tactic

@[expose] public section

set_option maxRecDepth 16384

noncomputable section

namespace Cert.AdamClaim

open Idealize.ShloMosaic Idealize.ShloMosaic.TcCoe
open Cert.AdamKernelIdeal Cert.AdamKernelIdeal.Gen Cert.Finite

/-! ### One entry of the step -/

/-- The new first moment, from the gradient and the old one. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of the weight. -/
def change (g w m v : EReal) : EReal :=
  Ideal.ofBits .f32 0xBA83126F#32 * (Ideal.div (first g m * ((8388608 / 5463681 : ℝ) : EReal))
    (Ideal.sqrt (second g v * ((268435456 / 2672307 : ℝ) : EReal)) + Ideal.ofBits .f32 0x322BCC77#32) + Ideal.ofBits .f32 0x3C23D70A#32 * w)

/-- Dividing by the first correction is multiplying by its inverse. -/
theorem div_c1 (x : EReal) : Ideal.div x (Ideal.ofBits .f32 0x3F26BD02#32) = x * ((8388608 / 5463681 : ℝ) : EReal) := by
  rw [show Ideal.ofBits .f32 0x3F26BD02#32 = ((5463681 / 8388608 : ℝ) : EReal) from by
    simp [Ideal.ofBits, Ideal.ieee, -EReal.coe_mul]; norm_num, Ideal.div_coe (by norm_num)]
  congr 2; norm_num

theorem div_c2 (x : EReal) : Ideal.div x (Ideal.ofBits .f32 0x3C231ACC#32) = x * ((268435456 / 2672307 : ℝ) : EReal) := by
  rw [show Ideal.ofBits .f32 0x3C231ACC#32 = ((2672307 / 268435456 : ℝ) : EReal) from by
    simp [Ideal.ofBits, Ideal.ieee, -EReal.coe_mul]; norm_num, Ideal.div_coe (by norm_num)]
  congr 2; norm_num

theorem named_c1 : (Named.named (F := Ideal) (φ := .f32) κ "c1" 0x3FC48605#32 : EReal) = ((8388608 / 5463681 : ℝ) : EReal) := by
  simp [Named.named, κ]

theorem named_c2 : (Named.named (F := Ideal) (φ := .f32) κ "c2" 0x42C8E6D3#32 : EReal) = ((268435456 / 2672307 : ℝ) : EReal) := by
  simp [Named.named, κ]

section Body

variable (g : Vec Ideal S1x1x144x1024 .f32) (w m v : Vec Ideal S1x144x1024 .f32) (r : Fin 144) (k : Fin 1024)

theorem grad_body : k0_pay5 (F := Ideal) g (ix3 0 r k) = g (ix4 0 0 r k) := by
  pointwise [k0_pay5, k0_pay2]

theorem first_body : k0_pay6 (F := Ideal) g m (ix3 0 r k) = first (g (ix4 0 0 r k)) (m (ix3 0 r k)) := by
  pointwise [k0_pay6, k0_pay3, k0_pay2]
  rfl

theorem second_body : k0_pay7 (F := Ideal) g v (ix3 0 r k) = second (g (ix4 0 0 r k)) (v (ix3 0 r k)) := by
  pointwise [k0_pay7, k0_pay4, k0_pay2]
  rfl

theorem change_body : k0_pay1 (F := Ideal) (k0_pay8 g m) (k0_pay9 g v) w (ix3 0 r k)
    = change (g (ix4 0 0 r k)) (w (ix3 0 r k)) (m (ix3 0 r k)) (v (ix3 0 r k)) := by
  unfold change
  rw [← named_c1, ← named_c2]
  pointwise [k0_pay1, k0_pay8, k0_pay9, k0_pay3, k0_pay4, k0_pay2]
  rfl

end Body

section Reference

open Cert.AdamReferenceIdeal.Read

variable (w g m v : (⟨S1x288x1024, .f32⟩ : BufTy).Contents (Elt Ideal)) (i : Fin 288) (k : Fin 1024)

theorem first_reference : val_main_v4 (F := Ideal) g m (ix3 0 i k) = first (g (ix3 0 i k)) (m (ix3 0 i k)) := by
  pointwise [val_main_v4, val_main_v3, val_main_v2, val_main_v1, val_main_v0, val_main_cst, val_main_cst_0]
  rfl

theorem second_reference : val_main_v10 (F := Ideal) g v (ix3 0 i k) = second (g (ix3 0 i k)) (v (ix3 0 i k)) := by
  pointwise [val_main_v10, val_main_v9, val_main_v8, val_main_v7, val_main_v6, val_main_v5, val_main_cst_1, val_main_cst_2]
  rfl

theorem change_reference : val_main_v23 (F := Ideal) w g m v (ix3 0 i k)
    = change (g (ix3 0 i k)) (w (ix3 0 i k)) (m (ix3 0 i k)) (v (ix3 0 i k)) := by
  unfold change
  rw [← div_c1, ← div_c2]
  rw [← first_reference, ← second_reference]
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]

end Reference

/-! ### The kernel's arrays -/

section Kernel

variable (m : (ℓ : Loc nD τ sig) → Buf (Elt Ideal) ℓ) (c : Dev nD)

abbrev wt : (⟨S1x288x1024, .f32⟩ : BufTy).Contents (Elt Ideal) := m ((c : Thread nD τ).loc main_arg0)

abbrev gr : (⟨S1x288x1024, .f32⟩ : BufTy).Contents (Elt Ideal) := m ((c : Thread nD τ).loc main_arg1)

abbrev fm : (⟨S1x288x1024, .f32⟩ : BufTy).Contents (Elt Ideal) := m ((c : Thread nD τ).loc main_arg2)

abbrev sm : (⟨S1x288x1024, .f32⟩ : BufTy).Contents (Elt Ideal) := m ((c : Thread nD τ).loc main_arg3)

theorem zeros3 : (![0, 0, 0] : Fin 3 → Nat) = fun _ => 0 := funext fun a => by fin_cases a <;> rfl

theorem zeros4 : (![0, 0, 0, 0] : Fin 4 → Nat) = fun _ => 0 := funext fun a => by fin_cases a <;> rfl

theorem place_grad : ∀ t : Fin cfg0.N, win0_0.index t 0 = 0 ∧ win0_0.index t 1 = 0 ∧ win0_0.index t 2 = t.val ∧ win0_0.index t 3 = 0 :=
  (by decide +kernel : ∀ t : Fin grid0.N, win0_0.index t 0 = 0 ∧ win0_0.index t 1 = 0 ∧ win0_0.index t 2 = t.val ∧ win0_0.index t 3 = 0)

/-- The seven other windows move together. -/
theorem place : ∀ t : Fin cfg0.N, (win0_1.index t 0 = 0 ∧ win0_1.index t 1 = t.val ∧ win0_1.index t 2 = 0)
    ∧ win0_2.index t = win0_1.index t ∧ win0_3.index t = win0_1.index t ∧ win0_4.index t = win0_1.index t ∧ win0_5.index t = win0_1.index t
    ∧ win0_6.index t = win0_1.index t ∧ win0_7.index t = win0_1.index t :=
  (by decide +kernel : ∀ t : Fin grid0.N, (win0_1.index t 0 = 0 ∧ win0_1.index t 1 = t.val ∧ win0_1.index t 2 = 0)
    ∧ win0_2.index t = win0_1.index t ∧ win0_3.index t = win0_1.index t ∧ win0_4.index t = win0_1.index t ∧ win0_5.index t = win0_1.index t
    ∧ win0_6.index t = win0_1.index t ∧ win0_7.index t = win0_1.index t)

/-- A row of a block, in the whole array. -/
def row (t : Fin cfg0.N) (r : Fin 144) : Fin 288 := ⟨144 * t.val + r.val, by have := t.isLt; have h : cfg0.N = 2 := N_0; omega⟩

/-- The place in the whole array of an entry of a block, given the block's index. -/
theorem spot {f : S1x288x1024.Idx} (n : Fin 3 → ℕ) (t : Fin cfg0.N) (r : Fin 144) (k : Fin 1024) (hn : n = win0_1.index t)
    (h0 : (f 0).val = n 0 * 1 + 1 * 0) (h1 : (f 1).val = n 1 * 144 + 1 * r.val) (h2 : (f 2).val = n 2 * 1024 + 1 * k.val) :
    f = ix3 (0 : Fin 1) (row t r) k := by
  subst hn
  obtain ⟨p0, p1, p2⟩ := (place t).1
  refine funext fun a => Fin.ext ?_
  match a with
  | ⟨0, _⟩ => exact h0.trans (show win0_1.index t 0 * 1 + 1 * 0 = 0 by rw [p0])
  | ⟨1, _⟩ => exact h1.trans (show win0_1.index t 1 * 144 + 1 * r.val = 144 * t.val + r.val by rw [p1]; omega)
  | ⟨2, _⟩ => exact h2.trans (show win0_1.index t 2 * 1024 + 1 * k.val = k.val by rw [p2]; omega)

theorem grad_apply (t : Fin cfg0.N) (r : Fin 144) (k : Fin 1024) : iblk m c 0 t (ix4 0 0 r k) = gr m c (ix3 0 (row t r) k) := by
  show V m c main_v0 (((cfg0.win 0).blk t).view.emb (ix4 0 0 r k)) = _
  obtain ⟨p0, p1, p2, p3⟩ := place_grad t
  rw [show ((cfg0.win 0).blk t).view.emb (ix4 0 0 r k) = ix4 (0 : Fin 1) (0 : Fin 1) (row t r) k from funext fun a => Fin.ext (by
    match a with
    | ⟨0, _⟩ => show win0_0.index t 0 * 1 + 1 * 0 = 0; rw [p0]
    | ⟨1, _⟩ => show win0_0.index t 1 * 1 + 1 * 0 = 0; rw [p1]
    | ⟨2, _⟩ => show win0_0.index t 2 * 144 + 1 * r.val = 144 * t.val + r.val; rw [p2]; omega
    | ⟨3, _⟩ => show win0_0.index t 3 * 1024 + 1 * k.val = k.val; rw [p3]; omega)]
  rw [show V m c main_v0 = broadcastInDim S1x1x288x1024 ![0, 2, 3] bcast_S1x288x1024_S1x1x288x1024_0_2_3 (gr m c) from by
    unfold V; after_reads_simp]
  generalize gr m c = y
  pointwise

theorem weight_apply (t : Fin cfg0.N) (r : Fin 144) (k : Fin 1024) : iblk m c 1 t (ix3 0 r k) = wt m c (ix3 0 (row t r) k) := by
  show V m c main_arg0 (((cfg0.win 1).blk t).view.emb (ix3 0 r k)) = _
  rw [V_main_arg0]
  exact congrArg (wt m c) (spot _ t r k rfl rfl rfl rfl)

theorem first_apply (t : Fin cfg0.N) (r : Fin 144) (k : Fin 1024) : iblk m c 2 t (ix3 0 r k) = fm m c (ix3 0 (row t r) k) := by
  show V m c main_arg2 (((cfg0.win 2).blk t).view.emb (ix3 0 r k)) = _
  rw [V_main_arg2]
  exact congrArg (fm m c) (spot _ t r k (place t).2.1 rfl rfl rfl)

theorem second_apply (t : Fin cfg0.N) (r : Fin 144) (k : Fin 1024) : iblk m c 3 t (ix3 0 r k) = sm m c (ix3 0 (row t r) k) := by
  show V m c main_arg3 (((cfg0.win 3).blk t).view.emb (ix3 0 r k)) = _
  rw [V_main_arg3]
  exact congrArg (sm m c) (spot _ t r k (place t).2.2.1 rfl rfl rfl)

variable (t : Fin cfg0.N) (r : Fin 144) (k : Fin 1024)

theorem grad_array : (dats m 0 c).arrAt 4 cfg0.N (ix3 0 (row t r) k) = gr m c (ix3 0 (row t r) k) := by
  have hb := congrFun ((Value.blocks4 m c t (flush0_4 t)).trans (Value.flushed4 m c t)) (ix3 0 r k)
  rw [View.read_apply] at hb
  rw [show ((cfg0.win 4).blk t).view.emb (ix3 0 r k) = ix3 0 (row t r) k from spot _ t r k (place t).2.2.2.1 rfl rfl rfl] at hb
  refine hb.trans ?_
  show out0_4 (iblk m c 0 t) (iblk m c 1 t) (iblk m c 2 t) (iblk m c 3 t) (ix3 0 r k) = _
  unfold out0_4
  rw [View.canon_unit_zero zeros3, View.ld_unit_zero zeros4, grad_body, grad_apply]

theorem change_array : (dats m 0 c).arrAt 5 cfg0.N (ix3 0 (row t r) k)
    = change (gr m c (ix3 0 (row t r) k)) (wt m c (ix3 0 (row t r) k)) (fm m c (ix3 0 (row t r) k)) (sm m c (ix3 0 (row t r) k)) := by
  have hb := congrFun ((Value.blocks5 m c t (flush0_5 t)).trans (Value.flushed5 m c t)) (ix3 0 r k)
  rw [View.read_apply] at hb
  rw [show ((cfg0.win 5).blk t).view.emb (ix3 0 r k) = ix3 0 (row t r) k from spot _ t r k (place t).2.2.2.2.1 rfl rfl rfl] at hb
  refine hb.trans ?_
  show out0_5 (iblk m c 0 t) (iblk m c 1 t) (iblk m c 2 t) (iblk m c 3 t) (ix3 0 r k) = _
  unfold out0_5
  rw [View.canon_unit_zero zeros3]
  simp only [View.ld_unit_zero (S := S1x1x144x1024) zeros4, View.ld_unit_zero (S := S1x144x1024) zeros3]
  rw [change_body, grad_apply, weight_apply, first_apply, second_apply]

theorem first_array : (dats m 0 c).arrAt 6 cfg0.N (ix3 0 (row t r) k) = first (gr m c (ix3 0 (row t r) k)) (fm m c (ix3 0 (row t r) k)) := by
  have hb := congrFun ((Value.blocks6 m c t (flush0_6 t)).trans (Value.flushed6 m c t)) (ix3 0 r k)
  rw [View.read_apply] at hb
  rw [show ((cfg0.win 6).blk t).view.emb (ix3 0 r k) = ix3 0 (row t r) k from spot _ t r k (place t).2.2.2.2.2.1 rfl rfl rfl] at hb
  refine hb.trans ?_
  show out0_6 (iblk m c 0 t) (iblk m c 1 t) (iblk m c 2 t) (iblk m c 3 t) (ix3 0 r k) = _
  unfold out0_6
  rw [View.canon_unit_zero zeros3]
  simp only [View.ld_unit_zero (S := S1x1x144x1024) zeros4, View.ld_unit_zero (S := S1x144x1024) zeros3]
  rw [first_body, grad_apply, first_apply]

theorem second_array : (dats m 0 c).arrAt 7 cfg0.N (ix3 0 (row t r) k) = second (gr m c (ix3 0 (row t r) k)) (sm m c (ix3 0 (row t r) k)) := by
  have hb := congrFun ((Value.blocks7 m c t (flush0_7 t)).trans (Value.flushed7 m c t)) (ix3 0 r k)
  rw [View.read_apply] at hb
  rw [show ((cfg0.win 7).blk t).view.emb (ix3 0 r k) = ix3 0 (row t r) k from spot _ t r k (place t).2.2.2.2.2.2 rfl rfl rfl] at hb
  refine hb.trans ?_
  show out0_7 (iblk m c 0 t) (iblk m c 1 t) (iblk m c 2 t) (iblk m c 3 t) (ix3 0 r k) = _
  unfold out0_7
  rw [View.canon_unit_zero zeros3]
  simp only [View.ld_unit_zero (S := S1x1x144x1024) zeros4, View.ld_unit_zero (S := S1x144x1024) zeros3]
  rw [second_body, grad_apply, second_apply]

end Kernel

/-- Two arrays of this shape agree if they do at every row of every block. -/
theorem whole {a b : (⟨S1x288x1024, .f32⟩ : BufTy).Contents (Elt Ideal)}
    (h : ∀ (t : Fin cfg0.N) (r : Fin 144) (k : Fin 1024), a (ix3 0 (row t r) k) = b (ix3 0 (row t r) k)) : a = b := by
  funext i
  have hN : cfg0.N = 2 := N_0
  have hi : (i 1).val < 288 := (i 1).isLt
  have e : (i 1 : Fin 288) = row ⟨(i 1).val / 144, by omega⟩ ⟨(i 1).val % 144, Nat.mod_lt _ (by omega)⟩ :=
    Fin.ext (show (i 1).val = 144 * ((i 1).val / 144) + (i 1).val % 144 by omega)
  have e0 : (i 0 : Fin 1) = (0 : Fin 1) := Subsingleton.elim (α := Fin 1) _ _
  rw [show i = ix3 (0 : Fin 1) (row _ _) (i 2) from (eq_ix3 i).trans (by rw [e0]; exact congrArg (fun u => ix3 (0 : Fin 1) u (i 2)) e)]
  exact h _ _ (i 2)

theorem claim : Cert.algebraic_AdamKernelIdeal_AdamReferenceIdeal := by
  intro m ρ m' ρ' _ hag
  refine ⟨_, _, _, _, Value.run_blocks m ρ,
    (θ_run Cert.AdamReferenceIdeal.defs _ _).mono (fun r h c => ?_) (Cert.AdamReferenceIdeal.Value.run m' ρ')⟩
  obtain ⟨h0, h1, h2, h3, rest⟩ := h c
  obtain ⟨a0, a1, a2, a3⟩ := hag c
  refine ⟨h0.trans ?_, h1.trans ?_, h2.trans ?_, h3.trans ?_, rest⟩
  · rw [a1]
    exact whole fun t r k => (grad_array m c t r k).symm
  · rw [Cert.AdamReferenceIdeal.Read.val_main_v23_eq, a0, a1, a2, a3]
    exact whole fun t r k => (change_reference _ _ _ _ _ k).trans (change_array m c t r k).symm
  · rw [Cert.AdamReferenceIdeal.Read.val_main_v4_eq, a1, a2]
    exact whole fun t r k => (first_reference _ _ _ k).trans (first_array m c t r k).symm
  · rw [Cert.AdamReferenceIdeal.Read.val_main_v10_eq, a1, a3]
    exact whole fun t r k => (second_reference _ _ _ k).trans (second_array m c t r k).symm

end Cert.AdamClaim

end
-- ==== Proof.lean ====
/-
  The claims about the calls of the backward pass and of the forward pass: frames of the programs, the idealizations, and the equations over the
  extended reals from finite arguments.
-/
module

public import proofs.«01_k».proof.Defs
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.Pre_finite_loss
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Gen.AttnKernel
public import proofs.«01_k».proof.Proof.Gen.AttnKernel.Skeleton
public import proofs.«01_k».proof.Proof.Gen.AttnKernel.Loops
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Loops
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnReferenceIdeal
public import proofs.«01_k».proof.Proof.Gen.Pre_finite_attn
public import proofs.«01_k».proof.Proof.Gen.AttnReferenceIdeal.Run
public import proofs.«01_k».proof.Proof.Gen.AttnReferenceIdeal.Read
public import proofs.«01_k».proof.Proof.Gen.BqKernel
public import proofs.«01_k».proof.Proof.Gen.BqKernel.Skeleton
public import proofs.«01_k».proof.Proof.Gen.BqKernel.Launch
public import proofs.«01_k».proof.Proof.Gen.BqKernel.Points
public import proofs.«01_k».proof.Proof.Gen.BqKernel.Frame
public import proofs.«01_k».proof.Proof.Gen.BqKernelIdeal
public import proofs.«01_k».proof.Proof.Gen.BqKernelIdeal.Skeleton
public import proofs.«01_k».proof.Proof.Gen.BqKernelIdeal.Launch
public import proofs.«01_k».proof.Proof.Gen.BqKernelIdeal.Points
public import proofs.«01_k».proof.Proof.Gen.BqKernelIdeal.Frame
public import proofs.«01_k».proof.Proof.Gen.BqKernelIdeal.Value
public import proofs.«01_k».proof.Proof.Gen.BqReferenceIdeal
public import proofs.«01_k».proof.Proof.Gen.BqReferenceIdeal.Run
public import proofs.«01_k».proof.Proof.Gen.BqReferenceIdeal.Read
public import proofs.«01_k».proof.Proof.Gen.Pre_finite_bq
public import proofs.«01_k».proof.Proof.Gen.GuKernel
public import proofs.«01_k».proof.Proof.Gen.GuKernel.Skeleton
public import proofs.«01_k».proof.Proof.Gen.GuKernel.Launch
public import proofs.«01_k».proof.Proof.Gen.GuKernel.Points
public import proofs.«01_k».proof.Proof.Gen.GuKernel.Frame
public import proofs.«01_k».proof.Proof.Gen.GuKernelIdeal
public import proofs.«01_k».proof.Proof.Gen.GuKernelIdeal.Skeleton
public import proofs.«01_k».proof.Proof.Gen.GuKernelIdeal.Launch
public import proofs.«01_k».proof.Proof.Gen.GuKernelIdeal.Points
public import proofs.«01_k».proof.Proof.Gen.GuKernelIdeal.Frame
public import proofs.«01_k».proof.Proof.Gen.GuKernelIdeal.Value
public import proofs.«01_k».proof.Proof.Gen.GuReferenceIdeal
public import proofs.«01_k».proof.Proof.Gen.GuReferenceIdeal.Run
public import proofs.«01_k».proof.Proof.Gen.GuReferenceIdeal.Read
public import proofs.«01_k».proof.Proof.Gen.Pre_finite_gu
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_finite_ffn
public import proofs.«01_k».proof.Proof.Gen.FwdKernel
public import proofs.«01_k».proof.Proof.Gen.FwdKernel.Skeleton
public import proofs.«01_k».proof.Proof.Gen.FwdKernel.Loops
public import proofs.«01_k».proof.Proof.Gen.FwdKernel.Launch
public import proofs.«01_k».proof.Proof.Gen.FwdKernel.Points
public import proofs.«01_k».proof.Proof.Gen.FwdKernel.Frame
public import proofs.«01_k».proof.Proof.Gen.FwdKernelIdeal
public import proofs.«01_k».proof.Proof.Gen.FwdKernelIdeal.Skeleton
public import proofs.«01_k».proof.Proof.Gen.FwdKernelIdeal.Loops
public import proofs.«01_k».proof.Proof.Gen.FwdKernelIdeal.Launch
public import proofs.«01_k».proof.Proof.Gen.FwdKernelIdeal.Points
public import proofs.«01_k».proof.Proof.Gen.FwdKernelIdeal.Frame
public import proofs.«01_k».proof.Proof.Gen.FwdKernelIdeal.Value
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.Pre_finite_fwd
public import proofs.«01_k».proof.Proof.Gen.BiasKernel
public import proofs.«01_k».proof.Proof.Gen.BiasKernel.Skeleton
public import proofs.«01_k».proof.Proof.Gen.BiasKernel.Launch
public import proofs.«01_k».proof.Proof.Gen.BiasKernel.Points
public import proofs.«01_k».proof.Proof.Gen.BiasKernel.Frame
public import proofs.«01_k».proof.Proof.Gen.BiasKernelIdeal
public import proofs.«01_k».proof.Proof.Gen.BiasKernelIdeal.Skeleton
public import proofs.«01_k».proof.Proof.Gen.BiasKernelIdeal.Launch
public import proofs.«01_k».proof.Proof.Gen.BiasKernelIdeal.Points
public import proofs.«01_k».proof.Proof.Gen.BiasKernelIdeal.Frame
public import proofs.«01_k».proof.Proof.Gen.BiasReferenceIdeal
public import proofs.«01_k».proof.Proof.Gen.BiasReferenceIdeal.Run
public import proofs.«01_k».proof.Proof.Gen.BiasReferenceIdeal.Read
public import proofs.«01_k».proof.Proof.Gen.Pre_finite_bias
public import proofs.«01_k».proof.Proof.Gen.SguKernel
public import proofs.«01_k».proof.Proof.Gen.SguKernel.Skeleton
public import proofs.«01_k».proof.Proof.Gen.SguKernel.Launch
public import proofs.«01_k».proof.Proof.Gen.SguKernel.Points
public import proofs.«01_k».proof.Proof.Gen.SguKernel.Frame
public import proofs.«01_k».proof.Proof.Gen.SguKernelIdeal
public import proofs.«01_k».proof.Proof.Gen.SguKernelIdeal.Skeleton
public import proofs.«01_k».proof.Proof.Gen.SguKernelIdeal.Launch
public import proofs.«01_k».proof.Proof.Gen.SguKernelIdeal.Points
public import proofs.«01_k».proof.Proof.Gen.SguKernelIdeal.Frame
public import proofs.«01_k».proof.Proof.Gen.SguReferenceIdeal
public import proofs.«01_k».proof.Proof.Gen.SguReferenceIdeal.Run
public import proofs.«01_k».proof.Proof.Gen.SguReferenceIdeal.Read
public import proofs.«01_k».proof.Proof.Gen.Pre_finite_sgu
public import proofs.«01_k».proof.Proof.LossClaim
public import proofs.«01_k».proof.Proof.AttnClaim
public import proofs.«01_k».proof.Proof.AttnWords
public import proofs.«01_k».proof.Proof.BqClaim
public import proofs.«01_k».proof.Proof.GuClaim
public import proofs.«01_k».proof.Proof.FfnClaim
public import proofs.«01_k».proof.Proof.FwdClaim
public import proofs.«01_k».proof.Proof.BiasClaim
public import proofs.«01_k».proof.Proof.SguClaim
public import Idealize.ShloMosaic.Adequacy
public import Idealize.ShloMosaic.Init
public import proofs.«01_k».proof.Proof.Gen.RmsKernel
public import proofs.«01_k».proof.Proof.Gen.RmsKernel.Skeleton
public import proofs.«01_k».proof.Proof.Gen.RmsKernel.Launch
public import proofs.«01_k».proof.Proof.Gen.RmsKernel.Points
public import proofs.«01_k».proof.Proof.Gen.RmsKernel.Frame
public import proofs.«01_k».proof.Proof.Gen.RmsKernelIdeal
public import proofs.«01_k».proof.Proof.Gen.RmsKernelIdeal.Skeleton
public import proofs.«01_k».proof.Proof.Gen.RmsKernelIdeal.Launch
public import proofs.«01_k».proof.Proof.Gen.RmsKernelIdeal.Points
public import proofs.«01_k».proof.Proof.Gen.RmsKernelIdeal.Frame
public import proofs.«01_k».proof.Proof.Gen.RmsKernelIdeal.Value
public import proofs.«01_k».proof.Proof.Gen.RmsReferenceIdeal
public import proofs.«01_k».proof.Proof.Gen.RmsReferenceIdeal.Run
public import proofs.«01_k».proof.Proof.Gen.RmsReferenceIdeal.Read
public import proofs.«01_k».proof.Proof.RmsClaim
public import proofs.«01_k».proof.Proof.Gen.BuildKernel
public import proofs.«01_k».proof.Proof.Gen.BuildKernel.Skeleton
public import proofs.«01_k».proof.Proof.Gen.BuildKernel.Launch
public import proofs.«01_k».proof.Proof.Gen.BuildKernel.Points
public import proofs.«01_k».proof.Proof.Gen.BuildKernel.Frame
public import proofs.«01_k».proof.Proof.Gen.BuildKernelIdeal
public import proofs.«01_k».proof.Proof.Gen.BuildKernelIdeal.Skeleton
public import proofs.«01_k».proof.Proof.Gen.BuildKernelIdeal.Launch
public import proofs.«01_k».proof.Proof.Gen.BuildKernelIdeal.Points
public import proofs.«01_k».proof.Proof.Gen.BuildKernelIdeal.Frame
public import proofs.«01_k».proof.Proof.Gen.BuildReferenceIdeal
public import proofs.«01_k».proof.Proof.Gen.BuildReferenceIdeal.Run
public import proofs.«01_k».proof.Proof.Gen.BuildReferenceIdeal.Read
public import proofs.«01_k».proof.Proof.Gen.Pre_finite_build
public import proofs.«01_k».proof.Proof.BuildClaim
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.OutClaim
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.DownClaim
public import proofs.«01_k».proof.Proof.Gen.ColKernel
public import proofs.«01_k».proof.Proof.Gen.ColKernel.Skeleton
public import proofs.«01_k».proof.Proof.Gen.ColKernel.Launch
public import proofs.«01_k».proof.Proof.Gen.ColKernel.Points
public import proofs.«01_k».proof.Proof.Gen.ColKernel.Frame
public import proofs.«01_k».proof.Proof.Gen.ColKernelIdeal
public import proofs.«01_k».proof.Proof.Gen.ColKernelIdeal.Skeleton
public import proofs.«01_k».proof.Proof.Gen.ColKernelIdeal.Launch
public import proofs.«01_k».proof.Proof.Gen.ColKernelIdeal.Points
public import proofs.«01_k».proof.Proof.Gen.ColKernelIdeal.Frame
public import proofs.«01_k».proof.Proof.Gen.ColKernelIdeal.Value
public import proofs.«01_k».proof.Proof.Gen.ColReferenceIdeal
public import proofs.«01_k».proof.Proof.Gen.ColReferenceIdeal.Run
public import proofs.«01_k».proof.Proof.Gen.ColReferenceIdeal.Read
public import proofs.«01_k».proof.Proof.ColClaim
public import proofs.«01_k».proof.Proof.Gen.TnatKernel
public import proofs.«01_k».proof.Proof.Gen.TnatKernel.Skeleton
public import proofs.«01_k».proof.Proof.Gen.TnatKernel.Launch
public import proofs.«01_k».proof.Proof.Gen.TnatKernel.Points
public import proofs.«01_k».proof.Proof.Gen.TnatKernel.Frame
public import proofs.«01_k».proof.Proof.Gen.TnatKernelIdeal
public import proofs.«01_k».proof.Proof.Gen.TnatKernelIdeal.Skeleton
public import proofs.«01_k».proof.Proof.Gen.TnatKernelIdeal.Launch
public import proofs.«01_k».proof.Proof.Gen.TnatKernelIdeal.Points
public import proofs.«01_k».proof.Proof.Gen.TnatKernelIdeal.Frame
public import proofs.«01_k».proof.Proof.Gen.TnatKernelIdeal.Value
public import proofs.«01_k».proof.Proof.Gen.TnatReferenceIdeal
public import proofs.«01_k».proof.Proof.Gen.TnatReferenceIdeal.Run
public import proofs.«01_k».proof.Proof.Gen.TnatReferenceIdeal.Read
public import proofs.«01_k».proof.Proof.TnatClaim
public import proofs.«01_k».proof.Proof.Gen.DwcolKernel
public import proofs.«01_k».proof.Proof.Gen.DwcolKernel.Skeleton
public import proofs.«01_k».proof.Proof.Gen.DwcolKernel.Launch
public import proofs.«01_k».proof.Proof.Gen.DwcolKernel.Points
public import proofs.«01_k».proof.Proof.Gen.DwcolKernel.Frame
public import proofs.«01_k».proof.Proof.Gen.DwcolKernelIdeal
public import proofs.«01_k».proof.Proof.Gen.DwcolKernelIdeal.Skeleton
public import proofs.«01_k».proof.Proof.Gen.DwcolKernelIdeal.Launch
public import proofs.«01_k».proof.Proof.Gen.DwcolKernelIdeal.Points
public import proofs.«01_k».proof.Proof.Gen.DwcolKernelIdeal.Frame
public import proofs.«01_k».proof.Proof.Gen.DwcolKernelIdeal.Value
public import proofs.«01_k».proof.Proof.Gen.DwcolReferenceIdeal
public import proofs.«01_k».proof.Proof.Gen.DwcolReferenceIdeal.Run
public import proofs.«01_k».proof.Proof.Gen.DwcolReferenceIdeal.Read
public import proofs.«01_k».proof.Proof.DwcolClaim
public import proofs.«01_k».proof.Proof.Gen.OsumKernel
public import proofs.«01_k».proof.Proof.Gen.OsumKernel.Skeleton
public import proofs.«01_k».proof.Proof.Gen.OsumKernel.Launch
public import proofs.«01_k».proof.Proof.Gen.OsumKernel.Points
public import proofs.«01_k».proof.Proof.Gen.OsumKernel.Frame
public import proofs.«01_k».proof.Proof.Gen.OsumKernelIdeal
public import proofs.«01_k».proof.Proof.Gen.OsumKernelIdeal.Skeleton
public import proofs.«01_k».proof.Proof.Gen.OsumKernelIdeal.Launch
public import proofs.«01_k».proof.Proof.Gen.OsumKernelIdeal.Points
public import proofs.«01_k».proof.Proof.Gen.OsumKernelIdeal.Frame
public import proofs.«01_k».proof.Proof.Gen.OsumKernelIdeal.Value
public import proofs.«01_k».proof.Proof.Gen.OsumReferenceIdeal
public import proofs.«01_k».proof.Proof.Gen.OsumReferenceIdeal.Run
public import proofs.«01_k».proof.Proof.Gen.OsumReferenceIdeal.Read
public import proofs.«01_k».proof.Proof.OsumClaim
public import proofs.«01_k».proof.Proof.Gen.DwnatKernel
public import proofs.«01_k».proof.Proof.Gen.DwnatKernel.Skeleton
public import proofs.«01_k».proof.Proof.Gen.DwnatKernel.Launch
public import proofs.«01_k».proof.Proof.Gen.DwnatKernel.Points
public import proofs.«01_k».proof.Proof.Gen.DwnatKernel.Frame
public import proofs.«01_k».proof.Proof.Gen.DwnatKernelIdeal
public import proofs.«01_k».proof.Proof.Gen.DwnatKernelIdeal.Skeleton
public import proofs.«01_k».proof.Proof.Gen.DwnatKernelIdeal.Launch
public import proofs.«01_k».proof.Proof.Gen.DwnatKernelIdeal.Points
public import proofs.«01_k».proof.Proof.Gen.DwnatKernelIdeal.Frame
public import proofs.«01_k».proof.Proof.Gen.DwnatKernelIdeal.Value
public import proofs.«01_k».proof.Proof.Gen.DwnatReferenceIdeal
public import proofs.«01_k».proof.Proof.Gen.DwnatReferenceIdeal.Run
public import proofs.«01_k».proof.Proof.Gen.DwnatReferenceIdeal.Read
public import proofs.«01_k».proof.Proof.DwnatClaim
public import proofs.«01_k».proof.Proof.Gen.DwdownKernel
public import proofs.«01_k».proof.Proof.Gen.DwdownKernel.Skeleton
public import proofs.«01_k».proof.Proof.Gen.DwdownKernel.Launch
public import proofs.«01_k».proof.Proof.Gen.DwdownKernel.Points
public import proofs.«01_k».proof.Proof.Gen.DwdownKernel.Frame
public import proofs.«01_k».proof.Proof.Gen.DwdownKernelIdeal
public import proofs.«01_k».proof.Proof.Gen.DwdownKernelIdeal.Skeleton
public import proofs.«01_k».proof.Proof.Gen.DwdownKernelIdeal.Launch
public import proofs.«01_k».proof.Proof.Gen.DwdownKernelIdeal.Points
public import proofs.«01_k».proof.Proof.Gen.DwdownKernelIdeal.Frame
public import proofs.«01_k».proof.Proof.Gen.DwdownKernelIdeal.Value
public import proofs.«01_k».proof.Proof.Gen.DwdownReferenceIdeal
public import proofs.«01_k».proof.Proof.Gen.DwdownReferenceIdeal.Run
public import proofs.«01_k».proof.Proof.Gen.DwdownReferenceIdeal.Read
public import proofs.«01_k».proof.Proof.DwdownClaim
public import proofs.«01_k».proof.Proof.Gen.AdamKernel
public import proofs.«01_k».proof.Proof.Gen.AdamKernel.Skeleton
public import proofs.«01_k».proof.Proof.Gen.AdamKernel.Launch
public import proofs.«01_k».proof.Proof.Gen.AdamKernel.Points
public import proofs.«01_k».proof.Proof.Gen.AdamKernel.Frame
public import proofs.«01_k».proof.Proof.Gen.AdamKernelIdeal
public import proofs.«01_k».proof.Proof.Gen.AdamKernelIdeal.Skeleton
public import proofs.«01_k».proof.Proof.Gen.AdamKernelIdeal.Launch
public import proofs.«01_k».proof.Proof.Gen.AdamKernelIdeal.Points
public import proofs.«01_k».proof.Proof.Gen.AdamKernelIdeal.Frame
public import proofs.«01_k».proof.Proof.Gen.AdamKernelIdeal.Value
public import proofs.«01_k».proof.Proof.Gen.AdamReferenceIdeal
public import proofs.«01_k».proof.Proof.Gen.AdamReferenceIdeal.Run
public import proofs.«01_k».proof.Proof.Gen.AdamReferenceIdeal.Read
public import proofs.«01_k».proof.Proof.AdamClaim

@[expose] public section

noncomputable section

namespace Cert.Proof

open Idealize.ShloMosaic Idealize.SL.Sem Cert.LossKernel

/-- The reference of the loss head ends, with its arguments unchanged; it declares no semaphore. -/
theorem loss_reference_frame : Cert.quiescent_LossReferenceIdeal := fun m ρ _ =>
  (θ_run Cert.LossReferenceIdeal.defs _ _).mono (fun r h => ⟨fun c => (h c).2.2.2, sem_eq_zero_of_no_sems (by decide) r.2⟩)
    (Cert.LossReferenceIdeal.Value.run m ρ)

/-- The reference of the attention's backward pass ends, with its arguments unchanged; it declares no semaphore. -/
theorem attn_reference_frame : Cert.quiescent_AttnReferenceIdeal := fun m ρ _ =>
  (θ_run Cert.AttnReferenceIdeal.defs _ _).mono (fun r h => ⟨fun c => (h c).2.2.2.2, sem_eq_zero_of_no_sems (by decide) r.2⟩)
    (Cert.AttnReferenceIdeal.Value.run m ρ)

/-- The reference of the query projection's backward pass ends, with its arguments unchanged; it declares no semaphore. -/
theorem bq_reference_frame : Cert.quiescent_BqReferenceIdeal := fun m ρ _ =>
  (θ_run Cert.BqReferenceIdeal.defs _ _).mono (fun r h => ⟨fun c => (h c).2.2, sem_eq_zero_of_no_sems (by decide) r.2⟩)
    (Cert.BqReferenceIdeal.Value.run m ρ)

/-- The reference of the gate projection's backward pass ends, with its arguments unchanged; it declares no semaphore. -/
theorem gu_reference_frame : Cert.quiescent_GuReferenceIdeal := fun m ρ _ =>
  (θ_run Cert.GuReferenceIdeal.defs _ _).mono (fun r h => ⟨fun c => (h c).2.2, sem_eq_zero_of_no_sems (by decide) r.2⟩)
    (Cert.GuReferenceIdeal.Value.run m ρ)

/-- The reference of the gated layer ends, with its arguments unchanged; it declares no semaphore. -/
theorem ffn_reference_frame : Cert.quiescent_FfnReferenceIdeal := fun m ρ _ =>
  (θ_run Cert.FfnReferenceIdeal.defs _ _).mono (fun r h => ⟨fun c => (h c).2.2, sem_eq_zero_of_no_sems (by decide) r.2⟩)
    (Cert.FfnReferenceIdeal.Value.run m ρ)

/-- The reference of the attention's forward pass ends, with its arguments unchanged; it declares no semaphore. -/
theorem fwd_reference_frame : Cert.quiescent_FwdReferenceIdeal := fun m ρ _ =>
  (θ_run Cert.FwdReferenceIdeal.defs _ _).mono (fun r h => ⟨fun c => (h c).2, sem_eq_zero_of_no_sems (by decide) r.2⟩)
    (Cert.FwdReferenceIdeal.Value.run m ρ)

/-- The reference of the bias table's gradient ends, with its arguments unchanged; it declares no semaphore. -/
theorem bias_reference_frame : Cert.quiescent_BiasReferenceIdeal := fun m ρ _ =>
  (θ_run Cert.BiasReferenceIdeal.defs _ _).mono (fun r h => ⟨fun c => (h c).2, sem_eq_zero_of_no_sems (by decide) r.2⟩)
    (Cert.BiasReferenceIdeal.Value.run m ρ)

/-- The reference of the spatial gate ends, with its arguments unchanged; it declares no semaphore. -/
theorem sgu_reference_frame : Cert.quiescent_SguReferenceIdeal := fun m ρ _ =>
  (θ_run Cert.SguReferenceIdeal.defs _ _).mono (fun r h => ⟨fun c => (h c).2.2.2.2, sem_eq_zero_of_no_sems (by decide) r.2⟩)
    (Cert.SguReferenceIdeal.Value.run m ρ)

/-- The reference of the norm ends, with its arguments unchanged; it declares no semaphore. -/
theorem rms_reference_frame : Cert.quiescent_RmsReferenceIdeal := fun m ρ _ =>
  (θ_run Cert.RmsReferenceIdeal.defs _ _).mono (fun r h => ⟨fun c => (h c).2, sem_eq_zero_of_no_sems (by decide) r.2⟩)
    (Cert.RmsReferenceIdeal.Value.run m ρ)

/-- The reference of the bias tile ends, with its arguments unchanged; it declares no semaphore. -/
theorem build_reference_frame : Cert.quiescent_BuildReferenceIdeal := fun m ρ _ =>
  (θ_run Cert.BuildReferenceIdeal.defs _ _).mono (fun r h => ⟨fun c => (h c).2, sem_eq_zero_of_no_sems (by decide) r.2⟩)
    (Cert.BuildReferenceIdeal.Value.run m ρ)

/-- The reference of the product with the output weight ends, with its arguments unchanged; it declares no semaphore. -/
theorem out_reference_frame : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run m ρ)

/-- The reference of the product with the second feed-forward weight ends, with its arguments unchanged; it declares no semaphore. -/
theorem down_reference_frame : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run m ρ)

/-- The reference of the product with a weight in column blocks ends, with its arguments unchanged; it declares no semaphore. -/
theorem col_reference_frame : Cert.quiescent_ColReferenceIdeal := fun m ρ _ =>
  (θ_run Cert.ColReferenceIdeal.defs _ _).mono (fun r h => ⟨fun c => (h c).2, sem_eq_zero_of_no_sems (by decide) r.2⟩)
    (Cert.ColReferenceIdeal.Value.run m ρ)

/-- The reference of the product with a transposed weight ends, with its arguments unchanged; it declares no semaphore. -/
theorem tnat_reference_frame : Cert.quiescent_TnatReferenceIdeal := fun m ρ _ =>
  (θ_run Cert.TnatReferenceIdeal.defs _ _).mono (fun r h => ⟨fun c => (h c).2, sem_eq_zero_of_no_sems (by decide) r.2⟩)
    (Cert.TnatReferenceIdeal.Value.run m ρ)

/-- The reference of the weight gradient in column blocks ends, with its arguments unchanged; it declares no semaphore. -/
theorem dwcol_reference_frame : Cert.quiescent_DwcolReferenceIdeal := fun m ρ _ =>
  (θ_run Cert.DwcolReferenceIdeal.defs _ _).mono (fun r h => ⟨fun c => (h c).2, sem_eq_zero_of_no_sems (by decide) r.2⟩)
    (Cert.DwcolReferenceIdeal.Value.run m ρ)

/-- The reference of the sum of the slabs ends, with its arguments unchanged; it declares no semaphore. -/
theorem osum_reference_frame : Cert.quiescent_OsumReferenceIdeal := fun m ρ _ =>
  (θ_run Cert.OsumReferenceIdeal.defs _ _).mono (fun r h => ⟨fun c => (h c).2, sem_eq_zero_of_no_sems (by decide) r.2⟩)
    (Cert.OsumReferenceIdeal.Value.run m ρ)

/-- The reference of the weight gradient ends, with its arguments unchanged; it declares no semaphore. -/
theorem dwnat_reference_frame : Cert.quiescent_DwnatReferenceIdeal := fun m ρ _ =>
  (θ_run Cert.DwnatReferenceIdeal.defs _ _).mono (fun r h => ⟨fun c => (h c).2, sem_eq_zero_of_no_sems (by decide) r.2⟩)
    (Cert.DwnatReferenceIdeal.Value.run m ρ)

/-- The reference of the weight gradient in row blocks ends, with its arguments unchanged; it declares no semaphore. -/
theorem dwdown_reference_frame : Cert.quiescent_DwdownReferenceIdeal := fun m ρ _ =>
  (θ_run Cert.DwdownReferenceIdeal.defs _ _).mono (fun r h => ⟨fun c => (h c).2, sem_eq_zero_of_no_sems (by decide) r.2⟩)
    (Cert.DwdownReferenceIdeal.Value.run m ρ)

/-- The reference of the optimiser step ends, with its arguments unchanged; it declares no semaphore. -/
theorem adam_reference_frame : Cert.quiescent_AdamReferenceIdeal := fun m ρ _ =>
  (θ_run Cert.AdamReferenceIdeal.defs _ _).mono (fun r h => ⟨fun c => (h c).2.2.2.2, sem_eq_zero_of_no_sems (by decide) r.2⟩)
    (Cert.AdamReferenceIdeal.Value.run m ρ)

theorem claim : Cert.Claim :=
  ⟨Cert.LossKernel.Gen.facts, Cert.LossKernelIdeal.Gen.facts, Cert.LossReferenceIdeal.Gen.facts,
    Cert.AttnKernel.Gen.facts, Cert.AttnKernelIdeal.Gen.facts, Cert.AttnReferenceIdeal.Gen.facts,
    Cert.BqKernel.Gen.facts, Cert.BqKernelIdeal.Gen.facts, Cert.BqReferenceIdeal.Gen.facts,
    Cert.GuKernel.Gen.facts, Cert.GuKernelIdeal.Gen.facts, Cert.GuReferenceIdeal.Gen.facts,
    Cert.FfnKernel.Gen.facts, Cert.FfnKernelIdeal.Gen.facts, Cert.FfnReferenceIdeal.Gen.facts,
    Cert.FwdKernel.Gen.facts, Cert.FwdKernelIdeal.Gen.facts, Cert.FwdReferenceIdeal.Gen.facts,
    Cert.BiasKernel.Gen.facts, Cert.BiasKernelIdeal.Gen.facts, Cert.BiasReferenceIdeal.Gen.facts,
    Cert.SguKernel.Gen.facts, Cert.SguKernelIdeal.Gen.facts, Cert.SguReferenceIdeal.Gen.facts,
    Cert.RmsKernel.Gen.facts, Cert.RmsKernelIdeal.Gen.facts, Cert.RmsReferenceIdeal.Gen.facts,
    Cert.BuildKernel.Gen.facts, Cert.BuildKernelIdeal.Gen.facts, Cert.BuildReferenceIdeal.Gen.facts,
    Cert.OutKernel.Gen.facts, Cert.OutKernelIdeal.Gen.facts, Cert.OutReferenceIdeal.Gen.facts,
    Cert.DownKernel.Gen.facts, Cert.DownKernelIdeal.Gen.facts, Cert.DownReferenceIdeal.Gen.facts,
    Cert.ColKernel.Gen.facts, Cert.ColKernelIdeal.Gen.facts, Cert.ColReferenceIdeal.Gen.facts,
    Cert.TnatKernel.Gen.facts, Cert.TnatKernelIdeal.Gen.facts, Cert.TnatReferenceIdeal.Gen.facts,
    Cert.DwcolKernel.Gen.facts, Cert.DwcolKernelIdeal.Gen.facts, Cert.DwcolReferenceIdeal.Gen.facts,
    Cert.OsumKernel.Gen.facts, Cert.OsumKernelIdeal.Gen.facts, Cert.OsumReferenceIdeal.Gen.facts,
    Cert.DwnatKernel.Gen.facts, Cert.DwnatKernelIdeal.Gen.facts, Cert.DwnatReferenceIdeal.Gen.facts,
    Cert.DwdownKernel.Gen.facts, Cert.DwdownKernelIdeal.Gen.facts, Cert.DwdownReferenceIdeal.Gen.facts,
    Cert.AdamKernel.Gen.facts, Cert.AdamKernelIdeal.Gen.facts, Cert.AdamReferenceIdeal.Gen.facts,
    Cert.Pre_finite_loss.Gen.facts, Cert.Pre_finite_attn.Gen.facts, Cert.Pre_finite_bq.Gen.facts, Cert.Pre_finite_gu.Gen.facts,
    Cert.Pre_finite_ffn.Gen.facts, Cert.Pre_finite_fwd.Gen.facts, Cert.Pre_finite_bias.Gen.facts, Cert.Pre_finite_sgu.Gen.facts, Cert.Pre_finite_build.Gen.facts,
    fun m ρ _ => Cert.LossKernel.Gen.frame m ρ, fun m ρ _ => Cert.LossKernelIdeal.Gen.frame m ρ,
    fun m ρ _ => Cert.LossKernelIdeal.Gen.frame m ρ, loss_reference_frame, fun m ρ _ => loss_reference_frame m ρ trivial,
    Cert.AttnWords.frame, fun m ρ _ => Cert.AttnFrame.frame m ρ,
    fun m ρ _ => Cert.AttnFrame.frame m ρ, attn_reference_frame, fun m ρ _ => attn_reference_frame m ρ trivial,
    fun m ρ _ => Cert.BqKernel.Gen.frame m ρ, fun m ρ _ => Cert.BqKernelIdeal.Gen.frame m ρ,
    fun m ρ _ => Cert.BqKernelIdeal.Gen.frame m ρ, bq_reference_frame, fun m ρ _ => bq_reference_frame m ρ trivial,
    fun m ρ _ => Cert.GuKernel.Gen.frame m ρ, fun m ρ _ => Cert.GuKernelIdeal.Gen.frame m ρ,
    fun m ρ _ => Cert.GuKernelIdeal.Gen.frame m ρ, gu_reference_frame, fun m ρ _ => gu_reference_frame m ρ trivial,
    fun m ρ _ => Cert.FfnKernel.Gen.frame m ρ, fun m ρ _ => Cert.FfnKernelIdeal.Gen.frame m ρ,
    fun m ρ _ => Cert.FfnKernelIdeal.Gen.frame m ρ, ffn_reference_frame, fun m ρ _ => ffn_reference_frame m ρ trivial,
    fun m ρ _ => Cert.FwdKernel.Gen.frame m ρ, fun m ρ _ => Cert.FwdKernelIdeal.Gen.frame m ρ,
    fun m ρ _ => Cert.FwdKernelIdeal.Gen.frame m ρ, fwd_reference_frame, fun m ρ _ => fwd_reference_frame m ρ trivial,
    fun m ρ _ => Cert.BiasKernel.Gen.frame m ρ, fun m ρ _ => Cert.BiasKernelIdeal.Gen.frame m ρ,
    fun m ρ _ => Cert.BiasKernelIdeal.Gen.frame m ρ, bias_reference_frame, fun m ρ _ => bias_reference_frame m ρ trivial,
    fun m ρ _ => Cert.SguKernel.Gen.frame m ρ, fun m ρ _ => Cert.SguKernelIdeal.Gen.frame m ρ,
    fun m ρ _ => Cert.SguKernelIdeal.Gen.frame m ρ, sgu_reference_frame, fun m ρ _ => sgu_reference_frame m ρ trivial,
    fun m ρ _ => Cert.RmsKernel.Gen.frame m ρ, fun m ρ _ => Cert.RmsKernelIdeal.Gen.frame m ρ,
    rms_reference_frame,
    fun m ρ _ => Cert.BuildKernel.Gen.frame m ρ, fun m ρ _ => Cert.BuildKernelIdeal.Gen.frame m ρ,
    fun m ρ _ => Cert.BuildKernelIdeal.Gen.frame m ρ, build_reference_frame, fun m ρ _ => build_reference_frame m ρ trivial,
    fun m ρ _ => Cert.OutKernel.Gen.frame m ρ, fun m ρ _ => Cert.OutKernelIdeal.Gen.frame m ρ,
    out_reference_frame,
    fun m ρ _ => Cert.DownKernel.Gen.frame m ρ, fun m ρ _ => Cert.DownKernelIdeal.Gen.frame m ρ,
    down_reference_frame,
    fun m ρ _ => Cert.ColKernel.Gen.frame m ρ, fun m ρ _ => Cert.ColKernelIdeal.Gen.frame m ρ,
    col_reference_frame,
    fun m ρ _ => Cert.TnatKernel.Gen.frame m ρ, fun m ρ _ => Cert.TnatKernelIdeal.Gen.frame m ρ,
    tnat_reference_frame,
    fun m ρ _ => Cert.DwcolKernel.Gen.frame m ρ, fun m ρ _ => Cert.DwcolKernelIdeal.Gen.frame m ρ,
    dwcol_reference_frame,
    fun m ρ _ => Cert.OsumKernel.Gen.frame m ρ, fun m ρ _ => Cert.OsumKernelIdeal.Gen.frame m ρ,
    osum_reference_frame,
    fun m ρ _ => Cert.DwnatKernel.Gen.frame m ρ, fun m ρ _ => Cert.DwnatKernelIdeal.Gen.frame m ρ,
    dwnat_reference_frame,
    fun m ρ _ => Cert.DwdownKernel.Gen.frame m ρ, fun m ρ _ => Cert.DwdownKernelIdeal.Gen.frame m ρ,
    dwdown_reference_frame,
    fun m ρ _ => Cert.AdamKernel.Gen.frame m ρ, fun m ρ _ => Cert.AdamKernelIdeal.Gen.frame m ρ,
    adam_reference_frame,
    trivial, Cert.LossClaim.claim,
    IdealRules.named_const.statement Cert.AttnKernelIdeal.κ "mask" .f32 0xF149F2CA#32 ⊥ rfl, Cert.AttnClaim.claim,
    trivial, Cert.BqClaim.claim, trivial, Cert.GuClaim.claim,
    trivial, Cert.FfnClaim.claim,
    IdealRules.named_const.statement Cert.FwdKernelIdeal.κ "mask" .f32 0xF149F2CA#32 ⊥ rfl, Cert.FwdClaim.claim,
    trivial, Cert.BiasClaim.claim,
    trivial, Cert.SguClaim.claim,
    trivial, Cert.RmsClaim.claim,
    trivial, Cert.BuildClaim.claim,
    trivial, Cert.OutClaim.claim,
    trivial, Cert.DownClaim.claim,
    trivial, Cert.ColClaim.claim,
    trivial, Cert.TnatClaim.claim,
    trivial, Cert.DwcolClaim.claim,
    trivial, Cert.OsumClaim.claim,
    trivial, Cert.DwnatClaim.claim,
    trivial, Cert.DwdownClaim.claim,
    ⟨IdealRules.named_const.statement Cert.AdamKernelIdeal.κ "c1" .f32 0x3FC48605#32 ((8388608 / 5463681 : ℝ) : EReal) rfl, IdealRules.named_const.statement Cert.AdamKernelIdeal.κ "c2" .f32 0x42C8E6D3#32 ((268435456 / 2672307 : ℝ) : EReal) rfl⟩, Cert.AdamClaim.claim⟩

end Cert.Proof

end
